-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_GradsKernel (m : (ℓ : Loc Cert.GradsKernel.nD Cert.GradsKernel.τ Cert.GradsKernel.sig) → Buf (Elt Bits) ℓ) : Prop :=
  True

def Pre_GradsKernelIdeal (m : (ℓ : Loc Cert.GradsKernelIdeal.nD Cert.GradsKernelIdeal.τ Cert.GradsKernelIdeal.sig) → Buf (Elt Ideal) ℓ) : Prop :=
  True

def Pre_GradsReferenceIdeal (m : (ℓ : Loc Cert.GradsReferenceIdeal.nD Cert.GradsReferenceIdeal.τ Cert.GradsReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpKernelIdeal_mlp_finite [hPre_mlp_finite : Cert.Pre_mlp_finite.Facts] (m : (ℓ : Loc Cert.MlpKernelIdeal.nD Cert.MlpKernelIdeal.τ Cert.MlpKernelIdeal.sig) → Buf (Elt Ideal) ℓ) : Prop :=
  ∀ c : Dev Cert.MlpKernelIdeal.nD,
    (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.2.1 = (fun _ => 1#1)
    ∧ (Cert.Pre_mlp_finite.fn (F := Ideal) (m ((c.tc : Thread Cert.MlpKernelIdeal.nD Cert.MlpKernelIdeal.τ).loc Cert.MlpKernelIdeal.main_arg0)) (m ((c.tc : Thread Cert.MlpKernelIdeal.nD Cert.MlpKernelIdeal.τ).loc Cert.MlpKernelIdeal.main_arg1)) (m ((c.tc : Thread Cert.MlpKernelIdeal.nD Cert.MlpKernelIdeal.τ).loc Cert.MlpKernelIdeal.main_arg2)) (m ((c.tc : Thread Cert.MlpKernelIdeal.nD Cert.MlpKernelIdeal.τ).loc Cert.MlpKernelIdeal.main_arg3)) (m ((c.tc : Thread Cert.MlpKernelIdeal.nD Cert.MlpKernelIdeal.τ).loc Cert.MlpKernelIdeal.main_arg4)) (m ((c.tc : Thread Cert.MlpKernelIdeal.nD Cert.MlpKernelIdeal.τ).loc Cert.MlpKernelIdeal.main_arg5))).2.2.2.2.2 = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.2.1 = (fun _ => 1#1)
    ∧ (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5))).2.2.2.2.2 = (fun _ => 1#1)

def Pre_PremixKernel (m : (ℓ : Loc Cert.PremixKernel.nD Cert.PremixKernel.τ Cert.PremixKernel.sig) → Buf (Elt Bits) ℓ) : Prop :=
  True

def Pre_PremixKernelIdeal (m : (ℓ : Loc Cert.PremixKernelIdeal.nD Cert.PremixKernelIdeal.τ Cert.PremixKernelIdeal.sig) → Buf (Elt Ideal) ℓ) : Prop :=
  True

def Pre_PremixKernelIdeal_premix_finite [hPre_premix_finite : Cert.Pre_premix_finite.Facts] (m : (ℓ : Loc Cert.PremixKernelIdeal.nD Cert.PremixKernelIdeal.τ Cert.PremixKernelIdeal.sig) → Buf (Elt Ideal) ℓ) : Prop :=
  ∀ c : Dev Cert.PremixKernelIdeal.nD,
    (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.2.2.2.2.1 = (fun _ => 1#1)
    ∧ (Cert.Pre_premix_finite.fn (F := Ideal) (m ((c.tc : Thread Cert.PremixKernelIdeal.nD Cert.PremixKernelIdeal.τ).loc Cert.PremixKernelIdeal.main_arg0)) (m ((c.tc : Thread Cert.PremixKernelIdeal.nD Cert.PremixKernelIdeal.τ).loc Cert.PremixKernelIdeal.main_arg1)) (m ((c.tc : Thread Cert.PremixKernelIdeal.nD Cert.PremixKernelIdeal.τ).loc Cert.PremixKernelIdeal.main_arg2)) (m ((c.tc : Thread Cert.PremixKernelIdeal.nD Cert.PremixKernelIdeal.τ).loc Cert.PremixKernelIdeal.main_arg3)) (m ((c.tc : Thread Cert.PremixKernelIdeal.nD Cert.PremixKernelIdeal.τ).loc Cert.PremixKernelIdeal.main_arg4)) (m ((c.tc : Thread Cert.PremixKernelIdeal.nD Cert.PremixKernelIdeal.τ).loc Cert.PremixKernelIdeal.main_arg5)) (m ((c.tc : Thread Cert.PremixKernelIdeal.nD Cert.PremixKernelIdeal.τ).loc Cert.PremixKernelIdeal.main_arg6)) (m ((c.tc : Thread Cert.PremixKernelIdeal.nD Cert.PremixKernelIdeal.τ).loc Cert.PremixKernelIdeal.main_arg7)) (m ((c.tc : Thread Cert.PremixKernelIdeal.nD Cert.PremixKernelIdeal.τ).loc Cert.PremixKernelIdeal.main_arg8)) (m ((c.tc : Thread Cert.PremixKernelIdeal.nD Cert.PremixKernelIdeal.τ).loc Cert.PremixKernelIdeal.main_arg9)) (m ((c.tc : Thread Cert.PremixKernelIdeal.nD Cert.PremixKernelIdeal.τ).loc Cert.PremixKernelIdeal.main_arg10))).2.2.2.2.2.2.2.2.2 = (fun _ => 1#1)

def Pre_PremixReferenceIdeal (m : (ℓ : Loc Cert.PremixReferenceIdeal.nD Cert.PremixReferenceIdeal.τ Cert.PremixReferenceIdeal.sig) → Buf (Elt Ideal) ℓ) : Prop :=
  True

def Pre_PremixReferenceIdeal_premix_finite [hPre_premix_finite : Cert.Pre_premix_finite.Facts] (m : (ℓ : Loc Cert.PremixReferenceIdeal.nD Cert.PremixReferenceIdeal.τ Cert.PremixReferenceIdeal.sig) → Buf (Elt Ideal) ℓ) : Prop :=
  ∀ c : Dev Cert.PremixReferenceIdeal.nD,
    (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.2.2.2.2.1 = (fun _ => 1#1)
    ∧ (Cert.Pre_premix_finite.fn (F := Ideal) (m ((c.tc : Thread Cert.PremixReferenceIdeal.nD Cert.PremixReferenceIdeal.τ).loc Cert.PremixReferenceIdeal.main_arg0)) (m ((c.tc : Thread Cert.PremixReferenceIdeal.nD Cert.PremixReferenceIdeal.τ).loc Cert.PremixReferenceIdeal.main_arg1)) (m ((c.tc : Thread Cert.PremixReferenceIdeal.nD Cert.PremixReferenceIdeal.τ).loc Cert.PremixReferenceIdeal.main_arg2)) (m ((c.tc : Thread Cert.PremixReferenceIdeal.nD Cert.PremixReferenceIdeal.τ).loc Cert.PremixReferenceIdeal.main_arg3)) (m ((c.tc : Thread Cert.PremixReferenceIdeal.nD Cert.PremixReferenceIdeal.τ).loc Cert.PremixReferenceIdeal.main_arg4)) (m ((c.tc : Thread Cert.PremixReferenceIdeal.nD Cert.PremixReferenceIdeal.τ).loc Cert.PremixReferenceIdeal.main_arg5)) (m ((c.tc : Thread Cert.PremixReferenceIdeal.nD Cert.PremixReferenceIdeal.τ).loc Cert.PremixReferenceIdeal.main_arg6)) (m ((c.tc : Thread Cert.PremixReferenceIdeal.nD Cert.PremixReferenceIdeal.τ).loc Cert.PremixReferenceIdeal.main_arg7)) (m ((c.tc : Thread Cert.PremixReferenceIdeal.nD Cert.PremixReferenceIdeal.τ).loc Cert.PremixReferenceIdeal.main_arg8)) (m ((c.tc : Thread Cert.PremixReferenceIdeal.nD Cert.PremixReferenceIdeal.τ).loc Cert.PremixReferenceIdeal.main_arg9)) (m ((c.tc : Thread Cert.PremixReferenceIdeal.nD Cert.PremixReferenceIdeal.τ).loc Cert.PremixReferenceIdeal.main_arg10))).2.2.2.2.2.2.2.2.2 = (fun _ => 1#1)

def Pre_SmallKernel (m : (ℓ : Loc Cert.SmallKernel.nD Cert.SmallKernel.τ Cert.SmallKernel.sig) → Buf (Elt Bits) ℓ) : Prop :=
  True

def Pre_SmallKernelIdeal (m : (ℓ : Loc Cert.SmallKernelIdeal.nD Cert.SmallKernelIdeal.τ Cert.SmallKernelIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_RowsKernel (m : (ℓ : Loc Cert.RowsKernel.nD Cert.RowsKernel.τ Cert.RowsKernel.sig) → Buf (Elt Bits) ℓ) : Prop :=
  True

def Pre_RowsKernelIdeal (m : (ℓ : Loc Cert.RowsKernelIdeal.nD Cert.RowsKernelIdeal.τ Cert.RowsKernelIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_FfKernel (m : (ℓ : Loc Cert.FfKernel.nD Cert.FfKernel.τ Cert.FfKernel.sig) → Buf (Elt Bits) ℓ) : Prop :=
  True

def Pre_FfKernelIdeal (m : (ℓ : Loc Cert.FfKernelIdeal.nD Cert.FfKernelIdeal.τ Cert.FfKernelIdeal.sig) → Buf (Elt Ideal) ℓ) : Prop :=
  True

def Pre_FfReferenceIdeal (m : (ℓ : Loc Cert.FfReferenceIdeal.nD Cert.FfReferenceIdeal.τ Cert.FfReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GradsKernel [hGradsKernel : Cert.GradsKernel.Facts] : Prop :=
  ∀ (m : (ℓ : Loc Cert.GradsKernel.nD Cert.GradsKernel.τ Cert.GradsKernel.sig) → Buf (Elt Bits) ℓ) (g : Dev Cert.GradsKernel.nD → PrngReg), Pre_GradsKernel m →
    θ_run (Cert.GradsKernel.defs (F := Bits)) (onTc (τ := Cert.GradsKernel.τ) (Cert.GradsKernel.main (F := Bits))) ⟨m, fun _ => 0, g⟩ (fun r => (∀ c : Dev Cert.GradsKernel.nD,
      r.2.mem ((c.tc : Thread Cert.GradsKernel.nD Cert.GradsKernel.τ).loc Cert.GradsKernel.main_arg0) = m ((c.tc : Thread Cert.GradsKernel.nD Cert.GradsKernel.τ).loc Cert.GradsKernel.main_arg0)
      ∧ r.2.mem ((c.tc : Thread Cert.GradsKernel.nD Cert.GradsKernel.τ).loc Cert.GradsKernel.main_arg1) = m ((c.tc : Thread Cert.GradsKernel.nD Cert.GradsKernel.τ).loc Cert.GradsKernel.main_arg1)
      ∧ r.2.mem ((c.tc : Thread Cert.GradsKernel.nD Cert.GradsKernel.τ).loc Cert.GradsKernel.main_arg2) = m ((c.tc : Thread Cert.GradsKernel.nD Cert.GradsKernel.τ).loc Cert.GradsKernel.main_arg2)
      ∧ r.2.mem ((c.tc : Thread Cert.GradsKernel.nD Cert.GradsKernel.τ).loc Cert.GradsKernel.main_arg3) = m ((c.tc : Thread Cert.GradsKernel.nD Cert.GradsKernel.τ).loc Cert.GradsKernel.main_arg3))
      ∧ r.2.sem = fun _ => 0)

def quiescent_GradsKernelIdeal [hGradsKernelIdeal : Cert.GradsKernelIdeal.Facts] : Prop :=
  ∀ (m : (ℓ : Loc Cert.GradsKernelIdeal.nD Cert.GradsKernelIdeal.τ Cert.GradsKernelIdeal.sig) → Buf (Elt Ideal) ℓ) (g : Dev Cert.GradsKernelIdeal.nD → PrngReg), Pre_GradsKernelIdeal m →
    θ_run (Cert.GradsKernelIdeal.defs (F := Ideal)) (onTc (τ := Cert.GradsKernelIdeal.τ) (Cert.GradsKernelIdeal.main (F := Ideal))) ⟨m, fun _ => 0, g⟩ (fun r => (∀ c : Dev Cert.GradsKernelIdeal.nD,
      r.2.mem ((c.tc : Thread Cert.GradsKernelIdeal.nD Cert.GradsKernelIdeal.τ).loc Cert.GradsKernelIdeal.main_arg0) = m ((c.tc : Thread Cert.GradsKernelIdeal.nD Cert.GradsKernelIdeal.τ).loc Cert.GradsKernelIdeal.main_arg0)
      ∧ r.2.mem ((c.tc : Thread Cert.GradsKernelIdeal.nD Cert.GradsKernelIdeal.τ).loc Cert.GradsKernelIdeal.main_arg1) = m ((c.tc : Thread Cert.GradsKernelIdeal.nD Cert.GradsKernelIdeal.τ).loc Cert.GradsKernelIdeal.main_arg1)
      ∧ r.2.mem ((c.tc : Thread Cert.GradsKernelIdeal.nD Cert.GradsKernelIdeal.τ).loc Cert.GradsKernelIdeal.main_arg2) = m ((c.tc : Thread Cert.GradsKernelIdeal.nD Cert.GradsKernelIdeal.τ).loc Cert.GradsKernelIdeal.main_arg2)
      ∧ r.2.mem ((c.tc : Thread Cert.GradsKernelIdeal.nD Cert.GradsKernelIdeal.τ).loc Cert.GradsKernelIdeal.main_arg3) = m ((c.tc : Thread Cert.GradsKernelIdeal.nD Cert.GradsKernelIdeal.τ).loc Cert.GradsKernelIdeal.main_arg3))
      ∧ r.2.sem = fun _ => 0)

def quiescent_GradsReferenceIdeal [hGradsReferenceIdeal : Cert.GradsReferenceIdeal.Facts] : Prop :=
  ∀ (m : (ℓ : Loc Cert.GradsReferenceIdeal.nD Cert.GradsReferenceIdeal.τ Cert.GradsReferenceIdeal.sig) → Buf (Elt Ideal) ℓ) (g : Dev Cert.GradsReferenceIdeal.nD → PrngReg), Pre_GradsReferenceIdeal m →
    θ_run (Cert.GradsReferenceIdeal.defs (F := Ideal)) (onTc (τ := Cert.GradsReferenceIdeal.τ) (Cert.GradsReferenceIdeal.main (F := Ideal))) ⟨m, fun _ => 0, g⟩ (fun r => (∀ c : Dev Cert.GradsReferenceIdeal.nD,
      r.2.mem ((c.tc : Thread Cert.GradsReferenceIdeal.nD Cert.GradsReferenceIdeal.τ).loc Cert.GradsReferenceIdeal.main_arg0) = m ((c.tc : Thread Cert.GradsReferenceIdeal.nD Cert.GradsReferenceIdeal.τ).loc Cert.GradsReferenceIdeal.main_arg0)
      ∧ r.2.mem ((c.tc : Thread Cert.GradsReferenceIdeal.nD Cert.GradsReferenceIdeal.τ).loc Cert.GradsReferenceIdeal.main_arg1) = m ((c.tc : Thread Cert.GradsReferenceIdeal.nD Cert.GradsReferenceIdeal.τ).loc Cert.GradsReferenceIdeal.main_arg1)
      ∧ r.2.mem ((c.tc : Thread Cert.GradsReferenceIdeal.nD Cert.GradsReferenceIdeal.τ).loc Cert.GradsReferenceIdeal.main_arg2) = m ((c.tc : Thread Cert.GradsReferenceIdeal.nD Cert.GradsReferenceIdeal.τ).loc Cert.GradsReferenceIdeal.main_arg2)
      ∧ r.2.mem ((c.tc : Thread Cert.GradsReferenceIdeal.nD Cert.GradsReferenceIdeal.τ).loc Cert.GradsReferenceIdeal.main_arg3) = m ((c.tc : Thread Cert.GradsReferenceIdeal.nD Cert.GradsReferenceIdeal.τ).loc Cert.GradsReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4)
      ∧ r.2.mem ((c.tc : Thread Cert.MlpKernel.nD Cert.MlpKernel.τ).loc Cert.MlpKernel.main_arg5) = m ((c.tc : Thread Cert.MlpKernel.nD Cert.MlpKernel.τ).loc Cert.MlpKernel.main_arg5))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ r.2.sem = fun _ => 0)

def quiescent_MlpKernelIdeal_pre_mlp_finite [hMlpKernelIdeal : Cert.MlpKernelIdeal.Facts] [hPre_mlp_finite : Cert.Pre_mlp_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal_mlp_finite m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
      ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_PremixKernel [hPremixKernel : Cert.PremixKernel.Facts] : Prop :=
  ∀ (m : (ℓ : Loc Cert.PremixKernel.nD Cert.PremixKernel.τ Cert.PremixKernel.sig) → Buf (Elt Bits) ℓ) (g : Dev Cert.PremixKernel.nD → PrngReg), Pre_PremixKernel m →
    θ_run (Cert.PremixKernel.defs (F := Bits)) (onTc (τ := Cert.PremixKernel.τ) (Cert.PremixKernel.main (F := Bits))) ⟨m, fun _ => 0, g⟩ (fun r => (∀ c : Dev Cert.PremixKernel.nD,
      r.2.mem ((c.tc : Thread Cert.PremixKernel.nD Cert.PremixKernel.τ).loc Cert.PremixKernel.main_arg0) = m ((c.tc : Thread Cert.PremixKernel.nD Cert.PremixKernel.τ).loc Cert.PremixKernel.main_arg0)
      ∧ r.2.mem ((c.tc : Thread Cert.PremixKernel.nD Cert.PremixKernel.τ).loc Cert.PremixKernel.main_arg1) = m ((c.tc : Thread Cert.PremixKernel.nD Cert.PremixKernel.τ).loc Cert.PremixKernel.main_arg1)
      ∧ r.2.mem ((c.tc : Thread Cert.PremixKernel.nD Cert.PremixKernel.τ).loc Cert.PremixKernel.main_arg2) = m ((c.tc : Thread Cert.PremixKernel.nD Cert.PremixKernel.τ).loc Cert.PremixKernel.main_arg2)
      ∧ r.2.mem ((c.tc : Thread Cert.PremixKernel.nD Cert.PremixKernel.τ).loc Cert.PremixKernel.main_arg3) = m ((c.tc : Thread Cert.PremixKernel.nD Cert.PremixKernel.τ).loc Cert.PremixKernel.main_arg3)
      ∧ r.2.mem ((c.tc : Thread Cert.PremixKernel.nD Cert.PremixKernel.τ).loc Cert.PremixKernel.main_arg4) = m ((c.tc : Thread Cert.PremixKernel.nD Cert.PremixKernel.τ).loc Cert.PremixKernel.main_arg4)
      ∧ r.2.mem ((c.tc : Thread Cert.PremixKernel.nD Cert.PremixKernel.τ).loc Cert.PremixKernel.main_arg5) = m ((c.tc : Thread Cert.PremixKernel.nD Cert.PremixKernel.τ).loc Cert.PremixKernel.main_arg5)
      ∧ r.2.mem ((c.tc : Thread Cert.PremixKernel.nD Cert.PremixKernel.τ).loc Cert.PremixKernel.main_arg6) = m ((c.tc : Thread Cert.PremixKernel.nD Cert.PremixKernel.τ).loc Cert.PremixKernel.main_arg6)
      ∧ r.2.mem ((c.tc : Thread Cert.PremixKernel.nD Cert.PremixKernel.τ).loc Cert.PremixKernel.main_arg7) = m ((c.tc : Thread Cert.PremixKernel.nD Cert.PremixKernel.τ).loc Cert.PremixKernel.main_arg7)
      ∧ r.2.mem ((c.tc : Thread Cert.PremixKernel.nD Cert.PremixKernel.τ).loc Cert.PremixKernel.main_arg8) = m ((c.tc : Thread Cert.PremixKernel.nD Cert.PremixKernel.τ).loc Cert.PremixKernel.main_arg8)
      ∧ r.2.mem ((c.tc : Thread Cert.PremixKernel.nD Cert.PremixKernel.τ).loc Cert.PremixKernel.main_arg9) = m ((c.tc : Thread Cert.PremixKernel.nD Cert.PremixKernel.τ).loc Cert.PremixKernel.main_arg9)
      ∧ r.2.mem ((c.tc : Thread Cert.PremixKernel.nD Cert.PremixKernel.τ).loc Cert.PremixKernel.main_arg10) = m ((c.tc : Thread Cert.PremixKernel.nD Cert.PremixKernel.τ).loc Cert.PremixKernel.main_arg10))
      ∧ r.2.sem = fun _ => 0)

def quiescent_PremixKernelIdeal [hPremixKernelIdeal : Cert.PremixKernelIdeal.Facts] : Prop :=
  ∀ (m : (ℓ : Loc Cert.PremixKernelIdeal.nD Cert.PremixKernelIdeal.τ Cert.PremixKernelIdeal.sig) → Buf (Elt Ideal) ℓ) (g : Dev Cert.PremixKernelIdeal.nD → PrngReg), Pre_PremixKernelIdeal m →
    θ_run (Cert.PremixKernelIdeal.defs (F := Ideal)) (onTc (τ := Cert.PremixKernelIdeal.τ) (Cert.PremixKernelIdeal.main (F := Ideal))) ⟨m, fun _ => 0, g⟩ (fun r => (∀ c : Dev Cert.PremixKernelIdeal.nD,
      r.2.mem ((c.tc : Thread Cert.PremixKernelIdeal.nD Cert.PremixKernelIdeal.τ).loc Cert.PremixKernelIdeal.main_arg0) = m ((c.tc : Thread Cert.PremixKernelIdeal.nD Cert.PremixKernelIdeal.τ).loc Cert.PremixKernelIdeal.main_arg0)
      ∧ r.2.mem ((c.tc : Thread Cert.PremixKernelIdeal.nD Cert.PremixKernelIdeal.τ).loc Cert.PremixKernelIdeal.main_arg1) = m ((c.tc : Thread Cert.PremixKernelIdeal.nD Cert.PremixKernelIdeal.τ).loc Cert.PremixKernelIdeal.main_arg1)
      ∧ r.2.mem ((c.tc : Thread Cert.PremixKernelIdeal.nD Cert.PremixKernelIdeal.τ).loc Cert.PremixKernelIdeal.main_arg2) = m ((c.tc : Thread Cert.PremixKernelIdeal.nD Cert.PremixKernelIdeal.τ).loc Cert.PremixKernelIdeal.main_arg2)
      ∧ r.2.mem ((c.tc : Thread Cert.PremixKernelIdeal.nD Cert.PremixKernelIdeal.τ).loc Cert.PremixKernelIdeal.main_arg3) = m ((c.tc : Thread Cert.PremixKernelIdeal.nD Cert.PremixKernelIdeal.τ).loc Cert.PremixKernelIdeal.main_arg3)
      ∧ r.2.mem ((c.tc : Thread Cert.PremixKernelIdeal.nD Cert.PremixKernelIdeal.τ).loc Cert.PremixKernelIdeal.main_arg4) = m ((c.tc : Thread Cert.PremixKernelIdeal.nD Cert.PremixKernelIdeal.τ).loc Cert.PremixKernelIdeal.main_arg4)
      ∧ r.2.mem ((c.tc : Thread Cert.PremixKernelIdeal.nD Cert.PremixKernelIdeal.τ).loc Cert.PremixKernelIdeal.main_arg5) = m ((c.tc : Thread Cert.PremixKernelIdeal.nD Cert.PremixKernelIdeal.τ).loc Cert.PremixKernelIdeal.main_arg5)
      ∧ r.2.mem ((c.tc : Thread Cert.PremixKernelIdeal.nD Cert.PremixKernelIdeal.τ).loc Cert.PremixKernelIdeal.main_arg6) = m ((c.tc : Thread Cert.PremixKernelIdeal.nD Cert.PremixKernelIdeal.τ).loc Cert.PremixKernelIdeal.main_arg6)
      ∧ r.2.mem ((c.tc : Thread Cert.PremixKernelIdeal.nD Cert.PremixKernelIdeal.τ).loc Cert.PremixKernelIdeal.main_arg7) = m ((c.tc : Thread Cert.PremixKernelIdeal.nD Cert.PremixKernelIdeal.τ).loc Cert.PremixKernelIdeal.main_arg7)
      ∧ r.2.mem ((c.tc : Thread Cert.PremixKernelIdeal.nD Cert.PremixKernelIdeal.τ).loc Cert.PremixKernelIdeal.main_arg8) = m ((c.tc : Thread Cert.PremixKernelIdeal.nD Cert.PremixKernelIdeal.τ).loc Cert.PremixKernelIdeal.main_arg8)
      ∧ r.2.mem ((c.tc : Thread Cert.PremixKernelIdeal.nD Cert.PremixKernelIdeal.τ).loc Cert.PremixKernelIdeal.main_arg9) = m ((c.tc : Thread Cert.PremixKernelIdeal.nD Cert.PremixKernelIdeal.τ).loc Cert.PremixKernelIdeal.main_arg9)
      ∧ r.2.mem ((c.tc : Thread Cert.PremixKernelIdeal.nD Cert.PremixKernelIdeal.τ).loc Cert.PremixKernelIdeal.main_arg10) = m ((c.tc : Thread Cert.PremixKernelIdeal.nD Cert.PremixKernelIdeal.τ).loc Cert.PremixKernelIdeal.main_arg10))
      ∧ r.2.sem = fun _ => 0)

def quiescent_PremixKernelIdeal_pre_premix_finite [hPremixKernelIdeal : Cert.PremixKernelIdeal.Facts] [hPre_premix_finite : Cert.Pre_premix_finite.Facts] : Prop :=
  ∀ (m : (ℓ : Loc Cert.PremixKernelIdeal.nD Cert.PremixKernelIdeal.τ Cert.PremixKernelIdeal.sig) → Buf (Elt Ideal) ℓ) (g : Dev Cert.PremixKernelIdeal.nD → PrngReg), Pre_PremixKernelIdeal_premix_finite m →
    θ_run (Cert.PremixKernelIdeal.defs (F := Ideal)) (onTc (τ := Cert.PremixKernelIdeal.τ) (Cert.PremixKernelIdeal.main (F := Ideal))) ⟨m, fun _ => 0, g⟩ (fun r => (∀ c : Dev Cert.PremixKernelIdeal.nD,
      r.2.mem ((c.tc : Thread Cert.PremixKernelIdeal.nD Cert.PremixKernelIdeal.τ).loc Cert.PremixKernelIdeal.main_arg0) = m ((c.tc : Thread Cert.PremixKernelIdeal.nD Cert.PremixKernelIdeal.τ).loc Cert.PremixKernelIdeal.main_arg0)
      ∧ r.2.mem ((c.tc : Thread Cert.PremixKernelIdeal.nD Cert.PremixKernelIdeal.τ).loc Cert.PremixKernelIdeal.main_arg1) = m ((c.tc : Thread Cert.PremixKernelIdeal.nD Cert.PremixKernelIdeal.τ).loc Cert.PremixKernelIdeal.main_arg1)
      ∧ r.2.mem ((c.tc : Thread Cert.PremixKernelIdeal.nD Cert.PremixKernelIdeal.τ).loc Cert.PremixKernelIdeal.main_arg2) = m ((c.tc : Thread Cert.PremixKernelIdeal.nD Cert.PremixKernelIdeal.τ).loc Cert.PremixKernelIdeal.main_arg2)
      ∧ r.2.mem ((c.tc : Thread Cert.PremixKernelIdeal.nD Cert.PremixKernelIdeal.τ).loc Cert.PremixKernelIdeal.main_arg3) = m ((c.tc : Thread Cert.PremixKernelIdeal.nD Cert.PremixKernelIdeal.τ).loc Cert.PremixKernelIdeal.main_arg3)
      ∧ r.2.mem ((c.tc : Thread Cert.PremixKernelIdeal.nD Cert.PremixKernelIdeal.τ).loc Cert.PremixKernelIdeal.main_arg4) = m ((c.tc : Thread Cert.PremixKernelIdeal.nD Cert.PremixKernelIdeal.τ).loc Cert.PremixKernelIdeal.main_arg4)
      ∧ r.2.mem ((c.tc : Thread Cert.PremixKernelIdeal.nD Cert.PremixKernelIdeal.τ).loc Cert.PremixKernelIdeal.main_arg5) = m ((c.tc : Thread Cert.PremixKernelIdeal.nD Cert.PremixKernelIdeal.τ).loc Cert.PremixKernelIdeal.main_arg5)
      ∧ r.2.mem ((c.tc : Thread Cert.PremixKernelIdeal.nD Cert.PremixKernelIdeal.τ).loc Cert.PremixKernelIdeal.main_arg6) = m ((c.tc : Thread Cert.PremixKernelIdeal.nD Cert.PremixKernelIdeal.τ).loc Cert.PremixKernelIdeal.main_arg6)
      ∧ r.2.mem ((c.tc : Thread Cert.PremixKernelIdeal.nD Cert.PremixKernelIdeal.τ).loc Cert.PremixKernelIdeal.main_arg7) = m ((c.tc : Thread Cert.PremixKernelIdeal.nD Cert.PremixKernelIdeal.τ).loc Cert.PremixKernelIdeal.main_arg7)
      ∧ r.2.mem ((c.tc : Thread Cert.PremixKernelIdeal.nD Cert.PremixKernelIdeal.τ).loc Cert.PremixKernelIdeal.main_arg8) = m ((c.tc : Thread Cert.PremixKernelIdeal.nD Cert.PremixKernelIdeal.τ).loc Cert.PremixKernelIdeal.main_arg8)
      ∧ r.2.mem ((c.tc : Thread Cert.PremixKernelIdeal.nD Cert.PremixKernelIdeal.τ).loc Cert.PremixKernelIdeal.main_arg9) = m ((c.tc : Thread Cert.PremixKernelIdeal.nD Cert.PremixKernelIdeal.τ).loc Cert.PremixKernelIdeal.main_arg9)
      ∧ r.2.mem ((c.tc : Thread Cert.PremixKernelIdeal.nD Cert.PremixKernelIdeal.τ).loc Cert.PremixKernelIdeal.main_arg10) = m ((c.tc : Thread Cert.PremixKernelIdeal.nD Cert.PremixKernelIdeal.τ).loc Cert.PremixKernelIdeal.main_arg10))
      ∧ r.2.sem = fun _ => 0)

def quiescent_PremixReferenceIdeal [hPremixReferenceIdeal : Cert.PremixReferenceIdeal.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3)
      ∧ r.2.mem ((c.tc : Thread Cert.PremixReferenceIdeal.nD Cert.PremixReferenceIdeal.τ).loc Cert.PremixReferenceIdeal.main_arg4) = m ((c.tc : Thread Cert.PremixReferenceIdeal.nD Cert.PremixReferenceIdeal.τ).loc Cert.PremixReferenceIdeal.main_arg4)
      ∧ r.2.mem ((c.tc : Thread Cert.PremixReferenceIdeal.nD Cert.PremixReferenceIdeal.τ).loc Cert.PremixReferenceIdeal.main_arg5) = m ((c.tc : Thread Cert.PremixReferenceIdeal.nD Cert.PremixReferenceIdeal.τ).loc Cert.PremixReferenceIdeal.main_arg5)
      ∧ r.2.mem ((c.tc : Thread Cert.PremixReferenceIdeal.nD Cert.PremixReferenceIdeal.τ).loc Cert.PremixReferenceIdeal.main_arg6) = m ((c.tc : Thread Cert.PremixReferenceIdeal.nD Cert.PremixReferenceIdeal.τ).loc Cert.PremixReferenceIdeal.main_arg6)
      ∧ r.2.mem ((c.tc : Thread Cert.PremixReferenceIdeal.nD Cert.PremixReferenceIdeal.τ).loc Cert.PremixReferenceIdeal.main_arg7) = m ((c.tc : Thread Cert.PremixReferenceIdeal.nD Cert.PremixReferenceIdeal.τ).loc Cert.PremixReferenceIdeal.main_arg7)
      ∧ r.2.mem ((c.tc : Thread Cert.PremixReferenceIdeal.nD Cert.PremixReferenceIdeal.τ).loc Cert.PremixReferenceIdeal.main_arg8) = m ((c.tc : Thread Cert.PremixReferenceIdeal.nD Cert.PremixReferenceIdeal.τ).loc Cert.PremixReferenceIdeal.main_arg8)
      ∧ r.2.mem ((c.tc : Thread Cert.PremixReferenceIdeal.nD Cert.PremixReferenceIdeal.τ).loc Cert.PremixReferenceIdeal.main_arg9) = m ((c.tc : Thread Cert.PremixReferenceIdeal.nD Cert.PremixReferenceIdeal.τ).loc Cert.PremixReferenceIdeal.main_arg9)
      ∧ r.2.mem ((c.tc : Thread Cert.PremixReferenceIdeal.nD Cert.PremixReferenceIdeal.τ).loc Cert.PremixReferenceIdeal.main_arg10) = m ((c.tc : Thread Cert.PremixReferenceIdeal.nD Cert.PremixReferenceIdeal.τ).loc Cert.PremixReferenceIdeal.main_arg10))
      ∧ r.2.sem = fun _ => 0)

def quiescent_PremixReferenceIdeal_pre_premix_finite [hPremixReferenceIdeal : Cert.PremixReferenceIdeal.Facts] [hPre_premix_finite : Cert.Pre_premix_finite.Facts] : Prop :=
  ∀ (m : (ℓ : Loc Cert.PremixReferenceIdeal.nD Cert.PremixReferenceIdeal.τ Cert.PremixReferenceIdeal.sig) → Buf (Elt Ideal) ℓ) (g : Dev Cert.PremixReferenceIdeal.nD → PrngReg), Pre_PremixReferenceIdeal_premix_finite m →
    θ_run (Cert.PremixReferenceIdeal.defs (F := Ideal)) (onTc (τ := Cert.PremixReferenceIdeal.τ) (Cert.PremixReferenceIdeal.main (F := Ideal))) ⟨m, fun _ => 0, g⟩ (fun r => (∀ c : Dev Cert.PremixReferenceIdeal.nD,
      r.2.mem ((c.tc : Thread Cert.PremixReferenceIdeal.nD Cert.PremixReferenceIdeal.τ).loc Cert.PremixReferenceIdeal.main_arg0) = m ((c.tc : Thread Cert.PremixReferenceIdeal.nD Cert.PremixReferenceIdeal.τ).loc Cert.PremixReferenceIdeal.main_arg0)
      ∧ r.2.mem ((c.tc : Thread Cert.PremixReferenceIdeal.nD Cert.PremixReferenceIdeal.τ).loc Cert.PremixReferenceIdeal.main_arg1) = m ((c.tc : Thread Cert.PremixReferenceIdeal.nD Cert.PremixReferenceIdeal.τ).loc Cert.PremixReferenceIdeal.main_arg1)
      ∧ r.2.mem ((c.tc : Thread Cert.PremixReferenceIdeal.nD Cert.PremixReferenceIdeal.τ).loc Cert.PremixReferenceIdeal.main_arg2) = m ((c.tc : Thread Cert.PremixReferenceIdeal.nD Cert.PremixReferenceIdeal.τ).loc Cert.PremixReferenceIdeal.main_arg2)
      ∧ r.2.mem ((c.tc : Thread Cert.PremixReferenceIdeal.nD Cert.PremixReferenceIdeal.τ).loc Cert.PremixReferenceIdeal.main_arg3) = m ((c.tc : Thread Cert.PremixReferenceIdeal.nD Cert.PremixReferenceIdeal.τ).loc Cert.PremixReferenceIdeal.main_arg3)
      ∧ r.2.mem ((c.tc : Thread Cert.PremixReferenceIdeal.nD Cert.PremixReferenceIdeal.τ).loc Cert.PremixReferenceIdeal.main_arg4) = m ((c.tc : Thread Cert.PremixReferenceIdeal.nD Cert.PremixReferenceIdeal.τ).loc Cert.PremixReferenceIdeal.main_arg4)
      ∧ r.2.mem ((c.tc : Thread Cert.PremixReferenceIdeal.nD Cert.PremixReferenceIdeal.τ).loc Cert.PremixReferenceIdeal.main_arg5) = m ((c.tc : Thread Cert.PremixReferenceIdeal.nD Cert.PremixReferenceIdeal.τ).loc Cert.PremixReferenceIdeal.main_arg5)
      ∧ r.2.mem ((c.tc : Thread Cert.PremixReferenceIdeal.nD Cert.PremixReferenceIdeal.τ).loc Cert.PremixReferenceIdeal.main_arg6) = m ((c.tc : Thread Cert.PremixReferenceIdeal.nD Cert.PremixReferenceIdeal.τ).loc Cert.PremixReferenceIdeal.main_arg6)
      ∧ r.2.mem ((c.tc : Thread Cert.PremixReferenceIdeal.nD Cert.PremixReferenceIdeal.τ).loc Cert.PremixReferenceIdeal.main_arg7) = m ((c.tc : Thread Cert.PremixReferenceIdeal.nD Cert.PremixReferenceIdeal.τ).loc Cert.PremixReferenceIdeal.main_arg7)
      ∧ r.2.mem ((c.tc : Thread Cert.PremixReferenceIdeal.nD Cert.PremixReferenceIdeal.τ).loc Cert.PremixReferenceIdeal.main_arg8) = m ((c.tc : Thread Cert.PremixReferenceIdeal.nD Cert.PremixReferenceIdeal.τ).loc Cert.PremixReferenceIdeal.main_arg8)
      ∧ r.2.mem ((c.tc : Thread Cert.PremixReferenceIdeal.nD Cert.PremixReferenceIdeal.τ).loc Cert.PremixReferenceIdeal.main_arg9) = m ((c.tc : Thread Cert.PremixReferenceIdeal.nD Cert.PremixReferenceIdeal.τ).loc Cert.PremixReferenceIdeal.main_arg9)
      ∧ r.2.mem ((c.tc : Thread Cert.PremixReferenceIdeal.nD Cert.PremixReferenceIdeal.τ).loc Cert.PremixReferenceIdeal.main_arg10) = m ((c.tc : Thread Cert.PremixReferenceIdeal.nD Cert.PremixReferenceIdeal.τ).loc Cert.PremixReferenceIdeal.main_arg10))
      ∧ r.2.sem = fun _ => 0)

def quiescent_SmallKernel [hSmallKernel : Cert.SmallKernel.Facts] : Prop :=
  ∀ (m : (ℓ : Loc Cert.SmallKernel.nD Cert.SmallKernel.τ Cert.SmallKernel.sig) → Buf (Elt Bits) ℓ) (g : Dev Cert.SmallKernel.nD → PrngReg), Pre_SmallKernel m →
    θ_run (Cert.SmallKernel.defs (F := Bits)) (onTc (τ := Cert.SmallKernel.τ) (Cert.SmallKernel.main (F := Bits))) ⟨m, fun _ => 0, g⟩ (fun r => (∀ c : Dev Cert.SmallKernel.nD,
      r.2.mem ((c.tc : Thread Cert.SmallKernel.nD Cert.SmallKernel.τ).loc Cert.SmallKernel.main_arg0) = m ((c.tc : Thread Cert.SmallKernel.nD Cert.SmallKernel.τ).loc Cert.SmallKernel.main_arg0)
      ∧ r.2.mem ((c.tc : Thread Cert.SmallKernel.nD Cert.SmallKernel.τ).loc Cert.SmallKernel.main_arg1) = m ((c.tc : Thread Cert.SmallKernel.nD Cert.SmallKernel.τ).loc Cert.SmallKernel.main_arg1)
      ∧ r.2.mem ((c.tc : Thread Cert.SmallKernel.nD Cert.SmallKernel.τ).loc Cert.SmallKernel.main_arg2) = m ((c.tc : Thread Cert.SmallKernel.nD Cert.SmallKernel.τ).loc Cert.SmallKernel.main_arg2)
      ∧ r.2.mem ((c.tc : Thread Cert.SmallKernel.nD Cert.SmallKernel.τ).loc Cert.SmallKernel.main_arg3) = m ((c.tc : Thread Cert.SmallKernel.nD Cert.SmallKernel.τ).loc Cert.SmallKernel.main_arg3)
      ∧ r.2.mem ((c.tc : Thread Cert.SmallKernel.nD Cert.SmallKernel.τ).loc Cert.SmallKernel.main_arg4) = m ((c.tc : Thread Cert.SmallKernel.nD Cert.SmallKernel.τ).loc Cert.SmallKernel.main_arg4)
      ∧ r.2.mem ((c.tc : Thread Cert.SmallKernel.nD Cert.SmallKernel.τ).loc Cert.SmallKernel.main_arg5) = m ((c.tc : Thread Cert.SmallKernel.nD Cert.SmallKernel.τ).loc Cert.SmallKernel.main_arg5)
      ∧ r.2.mem ((c.tc : Thread Cert.SmallKernel.nD Cert.SmallKernel.τ).loc Cert.SmallKernel.main_arg6) = m ((c.tc : Thread Cert.SmallKernel.nD Cert.SmallKernel.τ).loc Cert.SmallKernel.main_arg6)
      ∧ r.2.mem ((c.tc : Thread Cert.SmallKernel.nD Cert.SmallKernel.τ).loc Cert.SmallKernel.main_arg7) = m ((c.tc : Thread Cert.SmallKernel.nD Cert.SmallKernel.τ).loc Cert.SmallKernel.main_arg7)
      ∧ r.2.mem ((c.tc : Thread Cert.SmallKernel.nD Cert.SmallKernel.τ).loc Cert.SmallKernel.main_arg8) = m ((c.tc : Thread Cert.SmallKernel.nD Cert.SmallKernel.τ).loc Cert.SmallKernel.main_arg8)
      ∧ r.2.mem ((c.tc : Thread Cert.SmallKernel.nD Cert.SmallKernel.τ).loc Cert.SmallKernel.main_arg9) = m ((c.tc : Thread Cert.SmallKernel.nD Cert.SmallKernel.τ).loc Cert.SmallKernel.main_arg9)
      ∧ r.2.mem ((c.tc : Thread Cert.SmallKernel.nD Cert.SmallKernel.τ).loc Cert.SmallKernel.main_arg10) = m ((c.tc : Thread Cert.SmallKernel.nD Cert.SmallKernel.τ).loc Cert.SmallKernel.main_arg10)
      ∧ r.2.mem ((c.tc : Thread Cert.SmallKernel.nD Cert.SmallKernel.τ).loc Cert.SmallKernel.main_arg11) = m ((c.tc : Thread Cert.SmallKernel.nD Cert.SmallKernel.τ).loc Cert.SmallKernel.main_arg11)
      ∧ r.2.mem ((c.tc : Thread Cert.SmallKernel.nD Cert.SmallKernel.τ).loc Cert.SmallKernel.main_arg12) = m ((c.tc : Thread Cert.SmallKernel.nD Cert.SmallKernel.τ).loc Cert.SmallKernel.main_arg12)
      ∧ r.2.mem ((c.tc : Thread Cert.SmallKernel.nD Cert.SmallKernel.τ).loc Cert.SmallKernel.main_arg13) = m ((c.tc : Thread Cert.SmallKernel.nD Cert.SmallKernel.τ).loc Cert.SmallKernel.main_arg13))
      ∧ r.2.sem = fun _ => 0)

def quiescent_SmallKernelIdeal [hSmallKernelIdeal : Cert.SmallKernelIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg), Pre_SmallKernelIdeal m →
    θ_run (Cert.SmallKernelIdeal.defs (F := Ideal)) (onTc (τ := Cert.SmallKernelIdeal.τ) (Cert.SmallKernelIdeal.main (F := Ideal))) ⟨m, fun _ => 0, g⟩ (fun r => (∀ c : Dev Cert.SmallKernelIdeal.nD,
      r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
      ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
      ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
      ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
      ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
      ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
      ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
      ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
      ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
      ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
      ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
      ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
      ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
      ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13))
      ∧ r.2.sem = fun _ => 0)

def quiescent_RowsKernel [hRowsKernel : Cert.RowsKernel.Facts] : Prop :=
  ∀ (m : (ℓ : Loc Cert.RowsKernel.nD Cert.RowsKernel.τ Cert.RowsKernel.sig) → Buf (Elt Bits) ℓ) (g : Dev Cert.RowsKernel.nD → PrngReg), Pre_RowsKernel m →
    θ_run (Cert.RowsKernel.defs (F := Bits)) (onTc (τ := Cert.RowsKernel.τ) (Cert.RowsKernel.main (F := Bits))) ⟨m, fun _ => 0, g⟩ (fun r => (∀ c : Dev Cert.RowsKernel.nD,
      r.2.mem ((c.tc : Thread Cert.RowsKernel.nD Cert.RowsKernel.τ).loc Cert.RowsKernel.main_arg0) = m ((c.tc : Thread Cert.RowsKernel.nD Cert.RowsKernel.τ).loc Cert.RowsKernel.main_arg0)
      ∧ r.2.mem ((c.tc : Thread Cert.RowsKernel.nD Cert.RowsKernel.τ).loc Cert.RowsKernel.main_arg1) = m ((c.tc : Thread Cert.RowsKernel.nD Cert.RowsKernel.τ).loc Cert.RowsKernel.main_arg1)
      ∧ r.2.mem ((c.tc : Thread Cert.RowsKernel.nD Cert.RowsKernel.τ).loc Cert.RowsKernel.main_arg2) = m ((c.tc : Thread Cert.RowsKernel.nD Cert.RowsKernel.τ).loc Cert.RowsKernel.main_arg2)
      ∧ r.2.mem ((c.tc : Thread Cert.RowsKernel.nD Cert.RowsKernel.τ).loc Cert.RowsKernel.main_arg3) = m ((c.tc : Thread Cert.RowsKernel.nD Cert.RowsKernel.τ).loc Cert.RowsKernel.main_arg3)
      ∧ r.2.mem ((c.tc : Thread Cert.RowsKernel.nD Cert.RowsKernel.τ).loc Cert.RowsKernel.main_arg4) = m ((c.tc : Thread Cert.RowsKernel.nD Cert.RowsKernel.τ).loc Cert.RowsKernel.main_arg4)
      ∧ r.2.mem ((c.tc : Thread Cert.RowsKernel.nD Cert.RowsKernel.τ).loc Cert.RowsKernel.main_arg5) = m ((c.tc : Thread Cert.RowsKernel.nD Cert.RowsKernel.τ).loc Cert.RowsKernel.main_arg5)
      ∧ r.2.mem ((c.tc : Thread Cert.RowsKernel.nD Cert.RowsKernel.τ).loc Cert.RowsKernel.main_arg6) = m ((c.tc : Thread Cert.RowsKernel.nD Cert.RowsKernel.τ).loc Cert.RowsKernel.main_arg6)
      ∧ r.2.mem ((c.tc : Thread Cert.RowsKernel.nD Cert.RowsKernel.τ).loc Cert.RowsKernel.main_arg7) = m ((c.tc : Thread Cert.RowsKernel.nD Cert.RowsKernel.τ).loc Cert.RowsKernel.main_arg7)
      ∧ r.2.mem ((c.tc : Thread Cert.RowsKernel.nD Cert.RowsKernel.τ).loc Cert.RowsKernel.main_arg8) = m ((c.tc : Thread Cert.RowsKernel.nD Cert.RowsKernel.τ).loc Cert.RowsKernel.main_arg8)
      ∧ r.2.mem ((c.tc : Thread Cert.RowsKernel.nD Cert.RowsKernel.τ).loc Cert.RowsKernel.main_arg9) = m ((c.tc : Thread Cert.RowsKernel.nD Cert.RowsKernel.τ).loc Cert.RowsKernel.main_arg9)
      ∧ r.2.mem ((c.tc : Thread Cert.RowsKernel.nD Cert.RowsKernel.τ).loc Cert.RowsKernel.main_arg10) = m ((c.tc : Thread Cert.RowsKernel.nD Cert.RowsKernel.τ).loc Cert.RowsKernel.main_arg10)
      ∧ r.2.mem ((c.tc : Thread Cert.RowsKernel.nD Cert.RowsKernel.τ).loc Cert.RowsKernel.main_arg11) = m ((c.tc : Thread Cert.RowsKernel.nD Cert.RowsKernel.τ).loc Cert.RowsKernel.main_arg11)
      ∧ r.2.mem ((c.tc : Thread Cert.RowsKernel.nD Cert.RowsKernel.τ).loc Cert.RowsKernel.main_arg12) = m ((c.tc : Thread Cert.RowsKernel.nD Cert.RowsKernel.τ).loc Cert.RowsKernel.main_arg12)
      ∧ r.2.mem ((c.tc : Thread Cert.RowsKernel.nD Cert.RowsKernel.τ).loc Cert.RowsKernel.main_arg13) = m ((c.tc : Thread Cert.RowsKernel.nD Cert.RowsKernel.τ).loc Cert.RowsKernel.main_arg13))
      ∧ r.2.sem = fun _ => 0)

def quiescent_RowsKernelIdeal [hRowsKernelIdeal : Cert.RowsKernelIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg), Pre_RowsKernelIdeal m →
    θ_run (Cert.RowsKernelIdeal.defs (F := Ideal)) (onTc (τ := Cert.RowsKernelIdeal.τ) (Cert.RowsKernelIdeal.main (F := Ideal))) ⟨m, fun _ => 0, g⟩ (fun r => (∀ c : Dev Cert.RowsKernelIdeal.nD,
      r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
      ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
      ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
      ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3)
      ∧ r.2.mem ((c.tc : Thread Cert.RowsKernelIdeal.nD Cert.RowsKernelIdeal.τ).loc Cert.RowsKernelIdeal.main_arg4) = m ((c.tc : Thread Cert.RowsKernelIdeal.nD Cert.RowsKernelIdeal.τ).loc Cert.RowsKernelIdeal.main_arg4)
      ∧ r.2.mem ((c.tc : Thread Cert.RowsKernelIdeal.nD Cert.RowsKernelIdeal.τ).loc Cert.RowsKernelIdeal.main_arg5) = m ((c.tc : Thread Cert.RowsKernelIdeal.nD Cert.RowsKernelIdeal.τ).loc Cert.RowsKernelIdeal.main_arg5)
      ∧ r.2.mem ((c.tc : Thread Cert.RowsKernelIdeal.nD Cert.RowsKernelIdeal.τ).loc Cert.RowsKernelIdeal.main_arg6) = m ((c.tc : Thread Cert.RowsKernelIdeal.nD Cert.RowsKernelIdeal.τ).loc Cert.RowsKernelIdeal.main_arg6)
      ∧ r.2.mem ((c.tc : Thread Cert.RowsKernelIdeal.nD Cert.RowsKernelIdeal.τ).loc Cert.RowsKernelIdeal.main_arg7) = m ((c.tc : Thread Cert.RowsKernelIdeal.nD Cert.RowsKernelIdeal.τ).loc Cert.RowsKernelIdeal.main_arg7)
      ∧ r.2.mem ((c.tc : Thread Cert.RowsKernelIdeal.nD Cert.RowsKernelIdeal.τ).loc Cert.RowsKernelIdeal.main_arg8) = m ((c.tc : Thread Cert.RowsKernelIdeal.nD Cert.RowsKernelIdeal.τ).loc Cert.RowsKernelIdeal.main_arg8)
      ∧ r.2.mem ((c.tc : Thread Cert.RowsKernelIdeal.nD Cert.RowsKernelIdeal.τ).loc Cert.RowsKernelIdeal.main_arg9) = m ((c.tc : Thread Cert.RowsKernelIdeal.nD Cert.RowsKernelIdeal.τ).loc Cert.RowsKernelIdeal.main_arg9)
      ∧ r.2.mem ((c.tc : Thread Cert.RowsKernelIdeal.nD Cert.RowsKernelIdeal.τ).loc Cert.RowsKernelIdeal.main_arg10) = m ((c.tc : Thread Cert.RowsKernelIdeal.nD Cert.RowsKernelIdeal.τ).loc Cert.RowsKernelIdeal.main_arg10)
      ∧ r.2.mem ((c.tc : Thread Cert.RowsKernelIdeal.nD Cert.RowsKernelIdeal.τ).loc Cert.RowsKernelIdeal.main_arg11) = m ((c.tc : Thread Cert.RowsKernelIdeal.nD Cert.RowsKernelIdeal.τ).loc Cert.RowsKernelIdeal.main_arg11)
      ∧ r.2.mem ((c.tc : Thread Cert.RowsKernelIdeal.nD Cert.RowsKernelIdeal.τ).loc Cert.RowsKernelIdeal.main_arg12) = m ((c.tc : Thread Cert.RowsKernelIdeal.nD Cert.RowsKernelIdeal.τ).loc Cert.RowsKernelIdeal.main_arg12)
      ∧ r.2.mem ((c.tc : Thread Cert.RowsKernelIdeal.nD Cert.RowsKernelIdeal.τ).loc Cert.RowsKernelIdeal.main_arg13) = m ((c.tc : Thread Cert.RowsKernelIdeal.nD Cert.RowsKernelIdeal.τ).loc Cert.RowsKernelIdeal.main_arg13))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3)
      ∧ r.2.mem ((c.tc : Thread Cert.RowsReferenceIdeal.nD Cert.RowsReferenceIdeal.τ).loc Cert.RowsReferenceIdeal.main_arg4) = m ((c.tc : Thread Cert.RowsReferenceIdeal.nD Cert.RowsReferenceIdeal.τ).loc Cert.RowsReferenceIdeal.main_arg4)
      ∧ r.2.mem ((c.tc : Thread Cert.RowsReferenceIdeal.nD Cert.RowsReferenceIdeal.τ).loc Cert.RowsReferenceIdeal.main_arg5) = m ((c.tc : Thread Cert.RowsReferenceIdeal.nD Cert.RowsReferenceIdeal.τ).loc Cert.RowsReferenceIdeal.main_arg5)
      ∧ r.2.mem ((c.tc : Thread Cert.RowsReferenceIdeal.nD Cert.RowsReferenceIdeal.τ).loc Cert.RowsReferenceIdeal.main_arg6) = m ((c.tc : Thread Cert.RowsReferenceIdeal.nD Cert.RowsReferenceIdeal.τ).loc Cert.RowsReferenceIdeal.main_arg6)
      ∧ r.2.mem ((c.tc : Thread Cert.RowsReferenceIdeal.nD Cert.RowsReferenceIdeal.τ).loc Cert.RowsReferenceIdeal.main_arg7) = m ((c.tc : Thread Cert.RowsReferenceIdeal.nD Cert.RowsReferenceIdeal.τ).loc Cert.RowsReferenceIdeal.main_arg7)
      ∧ r.2.mem ((c.tc : Thread Cert.RowsReferenceIdeal.nD Cert.RowsReferenceIdeal.τ).loc Cert.RowsReferenceIdeal.main_arg8) = m ((c.tc : Thread Cert.RowsReferenceIdeal.nD Cert.RowsReferenceIdeal.τ).loc Cert.RowsReferenceIdeal.main_arg8)
      ∧ r.2.mem ((c.tc : Thread Cert.RowsReferenceIdeal.nD Cert.RowsReferenceIdeal.τ).loc Cert.RowsReferenceIdeal.main_arg9) = m ((c.tc : Thread Cert.RowsReferenceIdeal.nD Cert.RowsReferenceIdeal.τ).loc Cert.RowsReferenceIdeal.main_arg9)
      ∧ r.2.mem ((c.tc : Thread Cert.RowsReferenceIdeal.nD Cert.RowsReferenceIdeal.τ).loc Cert.RowsReferenceIdeal.main_arg10) = m ((c.tc : Thread Cert.RowsReferenceIdeal.nD Cert.RowsReferenceIdeal.τ).loc Cert.RowsReferenceIdeal.main_arg10)
      ∧ r.2.mem ((c.tc : Thread Cert.RowsReferenceIdeal.nD Cert.RowsReferenceIdeal.τ).loc Cert.RowsReferenceIdeal.main_arg11) = m ((c.tc : Thread Cert.RowsReferenceIdeal.nD Cert.RowsReferenceIdeal.τ).loc Cert.RowsReferenceIdeal.main_arg11)
      ∧ r.2.mem ((c.tc : Thread Cert.RowsReferenceIdeal.nD Cert.RowsReferenceIdeal.τ).loc Cert.RowsReferenceIdeal.main_arg12) = m ((c.tc : Thread Cert.RowsReferenceIdeal.nD Cert.RowsReferenceIdeal.τ).loc Cert.RowsReferenceIdeal.main_arg12)
      ∧ r.2.mem ((c.tc : Thread Cert.RowsReferenceIdeal.nD Cert.RowsReferenceIdeal.τ).loc Cert.RowsReferenceIdeal.main_arg13) = m ((c.tc : Thread Cert.RowsReferenceIdeal.nD Cert.RowsReferenceIdeal.τ).loc Cert.RowsReferenceIdeal.main_arg13))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4)
      ∧ r.2.mem ((c.tc : Thread Cert.MemKernel.nD Cert.MemKernel.τ).loc Cert.MemKernel.main_arg5) = m ((c.tc : Thread Cert.MemKernel.nD Cert.MemKernel.τ).loc Cert.MemKernel.main_arg5)
      ∧ r.2.mem ((c.tc : Thread Cert.MemKernel.nD Cert.MemKernel.τ).loc Cert.MemKernel.main_arg6) = m ((c.tc : Thread Cert.MemKernel.nD Cert.MemKernel.τ).loc Cert.MemKernel.main_arg6)
      ∧ r.2.mem ((c.tc : Thread Cert.MemKernel.nD Cert.MemKernel.τ).loc Cert.MemKernel.main_arg7) = m ((c.tc : Thread Cert.MemKernel.nD Cert.MemKernel.τ).loc Cert.MemKernel.main_arg7)
      ∧ r.2.mem ((c.tc : Thread Cert.MemKernel.nD Cert.MemKernel.τ).loc Cert.MemKernel.main_arg8) = m ((c.tc : Thread Cert.MemKernel.nD Cert.MemKernel.τ).loc Cert.MemKernel.main_arg8)
      ∧ r.2.mem ((c.tc : Thread Cert.MemKernel.nD Cert.MemKernel.τ).loc Cert.MemKernel.main_arg9) = m ((c.tc : Thread Cert.MemKernel.nD Cert.MemKernel.τ).loc Cert.MemKernel.main_arg9)
      ∧ r.2.mem ((c.tc : Thread Cert.MemKernel.nD Cert.MemKernel.τ).loc Cert.MemKernel.main_arg10) = m ((c.tc : Thread Cert.MemKernel.nD Cert.MemKernel.τ).loc Cert.MemKernel.main_arg10)
      ∧ r.2.mem ((c.tc : Thread Cert.MemKernel.nD Cert.MemKernel.τ).loc Cert.MemKernel.main_arg11) = m ((c.tc : Thread Cert.MemKernel.nD Cert.MemKernel.τ).loc Cert.MemKernel.main_arg11)
      ∧ r.2.mem ((c.tc : Thread Cert.MemKernel.nD Cert.MemKernel.τ).loc Cert.MemKernel.main_arg12) = m ((c.tc : Thread Cert.MemKernel.nD Cert.MemKernel.τ).loc Cert.MemKernel.main_arg12)
      ∧ r.2.mem ((c.tc : Thread Cert.MemKernel.nD Cert.MemKernel.τ).loc Cert.MemKernel.main_arg13) = m ((c.tc : Thread Cert.MemKernel.nD Cert.MemKernel.τ).loc Cert.MemKernel.main_arg13))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
      ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9)
      ∧ r.2.mem ((c.tc : Thread Cert.MemKernelIdeal.nD Cert.MemKernelIdeal.τ).loc Cert.MemKernelIdeal.main_arg10) = m ((c.tc : Thread Cert.MemKernelIdeal.nD Cert.MemKernelIdeal.τ).loc Cert.MemKernelIdeal.main_arg10)
      ∧ r.2.mem ((c.tc : Thread Cert.MemKernelIdeal.nD Cert.MemKernelIdeal.τ).loc Cert.MemKernelIdeal.main_arg11) = m ((c.tc : Thread Cert.MemKernelIdeal.nD Cert.MemKernelIdeal.τ).loc Cert.MemKernelIdeal.main_arg11)
      ∧ r.2.mem ((c.tc : Thread Cert.MemKernelIdeal.nD Cert.MemKernelIdeal.τ).loc Cert.MemKernelIdeal.main_arg12) = m ((c.tc : Thread Cert.MemKernelIdeal.nD Cert.MemKernelIdeal.τ).loc Cert.MemKernelIdeal.main_arg12)
      ∧ r.2.mem ((c.tc : Thread Cert.MemKernelIdeal.nD Cert.MemKernelIdeal.τ).loc Cert.MemKernelIdeal.main_arg13) = m ((c.tc : Thread Cert.MemKernelIdeal.nD Cert.MemKernelIdeal.τ).loc Cert.MemKernelIdeal.main_arg13))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8)
      ∧ r.2.mem ((c.tc : Thread Cert.MemReferenceIdeal.nD Cert.MemReferenceIdeal.τ).loc Cert.MemReferenceIdeal.main_arg9) = m ((c.tc : Thread Cert.MemReferenceIdeal.nD Cert.MemReferenceIdeal.τ).loc Cert.MemReferenceIdeal.main_arg9)
      ∧ r.2.mem ((c.tc : Thread Cert.MemReferenceIdeal.nD Cert.MemReferenceIdeal.τ).loc Cert.MemReferenceIdeal.main_arg10) = m ((c.tc : Thread Cert.MemReferenceIdeal.nD Cert.MemReferenceIdeal.τ).loc Cert.MemReferenceIdeal.main_arg10)
      ∧ r.2.mem ((c.tc : Thread Cert.MemReferenceIdeal.nD Cert.MemReferenceIdeal.τ).loc Cert.MemReferenceIdeal.main_arg11) = m ((c.tc : Thread Cert.MemReferenceIdeal.nD Cert.MemReferenceIdeal.τ).loc Cert.MemReferenceIdeal.main_arg11)
      ∧ r.2.mem ((c.tc : Thread Cert.MemReferenceIdeal.nD Cert.MemReferenceIdeal.τ).loc Cert.MemReferenceIdeal.main_arg12) = m ((c.tc : Thread Cert.MemReferenceIdeal.nD Cert.MemReferenceIdeal.τ).loc Cert.MemReferenceIdeal.main_arg12)
      ∧ r.2.mem ((c.tc : Thread Cert.MemReferenceIdeal.nD Cert.MemReferenceIdeal.τ).loc Cert.MemReferenceIdeal.main_arg13) = m ((c.tc : Thread Cert.MemReferenceIdeal.nD Cert.MemReferenceIdeal.τ).loc Cert.MemReferenceIdeal.main_arg13))
      ∧ r.2.sem = fun _ => 0)

def quiescent_FfKernel [hFfKernel : Cert.FfKernel.Facts] : Prop :=
  ∀ (m : (ℓ : Loc Cert.FfKernel.nD Cert.FfKernel.τ Cert.FfKernel.sig) → Buf (Elt Bits) ℓ) (g : Dev Cert.FfKernel.nD → PrngReg), Pre_FfKernel m →
    θ_run (Cert.FfKernel.defs (F := Bits)) (onTc (τ := Cert.FfKernel.τ) (Cert.FfKernel.main (F := Bits))) ⟨m, fun _ => 0, g⟩ (fun r => (∀ c : Dev Cert.FfKernel.nD,
      r.2.mem ((c.tc : Thread Cert.FfKernel.nD Cert.FfKernel.τ).loc Cert.FfKernel.main_arg0) = m ((c.tc : Thread Cert.FfKernel.nD Cert.FfKernel.τ).loc Cert.FfKernel.main_arg0)
      ∧ r.2.mem ((c.tc : Thread Cert.FfKernel.nD Cert.FfKernel.τ).loc Cert.FfKernel.main_arg1) = m ((c.tc : Thread Cert.FfKernel.nD Cert.FfKernel.τ).loc Cert.FfKernel.main_arg1)
      ∧ r.2.mem ((c.tc : Thread Cert.FfKernel.nD Cert.FfKernel.τ).loc Cert.FfKernel.main_arg2) = m ((c.tc : Thread Cert.FfKernel.nD Cert.FfKernel.τ).loc Cert.FfKernel.main_arg2)
      ∧ r.2.mem ((c.tc : Thread Cert.FfKernel.nD Cert.FfKernel.τ).loc Cert.FfKernel.main_arg3) = m ((c.tc : Thread Cert.FfKernel.nD Cert.FfKernel.τ).loc Cert.FfKernel.main_arg3)
      ∧ r.2.mem ((c.tc : Thread Cert.FfKernel.nD Cert.FfKernel.τ).loc Cert.FfKernel.main_arg4) = m ((c.tc : Thread Cert.FfKernel.nD Cert.FfKernel.τ).loc Cert.FfKernel.main_arg4)
      ∧ r.2.mem ((c.tc : Thread Cert.FfKernel.nD Cert.FfKernel.τ).loc Cert.FfKernel.main_arg5) = m ((c.tc : Thread Cert.FfKernel.nD Cert.FfKernel.τ).loc Cert.FfKernel.main_arg5)
      ∧ r.2.mem ((c.tc : Thread Cert.FfKernel.nD Cert.FfKernel.τ).loc Cert.FfKernel.main_arg6) = m ((c.tc : Thread Cert.FfKernel.nD Cert.FfKernel.τ).loc Cert.FfKernel.main_arg6)
      ∧ r.2.mem ((c.tc : Thread Cert.FfKernel.nD Cert.FfKernel.τ).loc Cert.FfKernel.main_arg7) = m ((c.tc : Thread Cert.FfKernel.nD Cert.FfKernel.τ).loc Cert.FfKernel.main_arg7)
      ∧ r.2.mem ((c.tc : Thread Cert.FfKernel.nD Cert.FfKernel.τ).loc Cert.FfKernel.main_arg8) = m ((c.tc : Thread Cert.FfKernel.nD Cert.FfKernel.τ).loc Cert.FfKernel.main_arg8)
      ∧ r.2.mem ((c.tc : Thread Cert.FfKernel.nD Cert.FfKernel.τ).loc Cert.FfKernel.main_arg9) = m ((c.tc : Thread Cert.FfKernel.nD Cert.FfKernel.τ).loc Cert.FfKernel.main_arg9)
      ∧ r.2.mem ((c.tc : Thread Cert.FfKernel.nD Cert.FfKernel.τ).loc Cert.FfKernel.main_arg10) = m ((c.tc : Thread Cert.FfKernel.nD Cert.FfKernel.τ).loc Cert.FfKernel.main_arg10))
      ∧ r.2.sem = fun _ => 0)

def quiescent_FfKernelIdeal [hFfKernelIdeal : Cert.FfKernelIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg), Pre_FfKernelIdeal m →
    θ_run (Cert.FfKernelIdeal.defs (F := Ideal)) (onTc (τ := Cert.FfKernelIdeal.τ) (Cert.FfKernelIdeal.main (F := Ideal))) ⟨m, fun _ => 0, g⟩ (fun r => (∀ c : Dev Cert.FfKernelIdeal.nD,
      r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
      ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
      ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
      ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
      ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4)
      ∧ r.2.mem ((c.tc : Thread Cert.FfKernelIdeal.nD Cert.FfKernelIdeal.τ).loc Cert.FfKernelIdeal.main_arg5) = m ((c.tc : Thread Cert.FfKernelIdeal.nD Cert.FfKernelIdeal.τ).loc Cert.FfKernelIdeal.main_arg5)
      ∧ r.2.mem ((c.tc : Thread Cert.FfKernelIdeal.nD Cert.FfKernelIdeal.τ).loc Cert.FfKernelIdeal.main_arg6) = m ((c.tc : Thread Cert.FfKernelIdeal.nD Cert.FfKernelIdeal.τ).loc Cert.FfKernelIdeal.main_arg6)
      ∧ r.2.mem ((c.tc : Thread Cert.FfKernelIdeal.nD Cert.FfKernelIdeal.τ).loc Cert.FfKernelIdeal.main_arg7) = m ((c.tc : Thread Cert.FfKernelIdeal.nD Cert.FfKernelIdeal.τ).loc Cert.FfKernelIdeal.main_arg7)
      ∧ r.2.mem ((c.tc : Thread Cert.FfKernelIdeal.nD Cert.FfKernelIdeal.τ).loc Cert.FfKernelIdeal.main_arg8) = m ((c.tc : Thread Cert.FfKernelIdeal.nD Cert.FfKernelIdeal.τ).loc Cert.FfKernelIdeal.main_arg8)
      ∧ r.2.mem ((c.tc : Thread Cert.FfKernelIdeal.nD Cert.FfKernelIdeal.τ).loc Cert.FfKernelIdeal.main_arg9) = m ((c.tc : Thread Cert.FfKernelIdeal.nD Cert.FfKernelIdeal.τ).loc Cert.FfKernelIdeal.main_arg9)
      ∧ r.2.mem ((c.tc : Thread Cert.FfKernelIdeal.nD Cert.FfKernelIdeal.τ).loc Cert.FfKernelIdeal.main_arg10) = m ((c.tc : Thread Cert.FfKernelIdeal.nD Cert.FfKernelIdeal.τ).loc Cert.FfKernelIdeal.main_arg10))
      ∧ r.2.sem = fun _ => 0)

def quiescent_FfReferenceIdeal [hFfReferenceIdeal : Cert.FfReferenceIdeal.Facts] : Prop :=
  ∀ (m : (ℓ : Loc Cert.FfReferenceIdeal.nD Cert.FfReferenceIdeal.τ Cert.FfReferenceIdeal.sig) → Buf (Elt Ideal) ℓ) (g : Dev Cert.FfReferenceIdeal.nD → PrngReg), Pre_FfReferenceIdeal m →
    θ_run (Cert.FfReferenceIdeal.defs (F := Ideal)) (onTc (τ := Cert.FfReferenceIdeal.τ) (Cert.FfReferenceIdeal.main (F := Ideal))) ⟨m, fun _ => 0, g⟩ (fun r => (∀ c : Dev Cert.FfReferenceIdeal.nD,
      r.2.mem ((c.tc : Thread Cert.FfReferenceIdeal.nD Cert.FfReferenceIdeal.τ).loc Cert.FfReferenceIdeal.main_arg0) = m ((c.tc : Thread Cert.FfReferenceIdeal.nD Cert.FfReferenceIdeal.τ).loc Cert.FfReferenceIdeal.main_arg0)
      ∧ r.2.mem ((c.tc : Thread Cert.FfReferenceIdeal.nD Cert.FfReferenceIdeal.τ).loc Cert.FfReferenceIdeal.main_arg1) = m ((c.tc : Thread Cert.FfReferenceIdeal.nD Cert.FfReferenceIdeal.τ).loc Cert.FfReferenceIdeal.main_arg1)
      ∧ r.2.mem ((c.tc : Thread Cert.FfReferenceIdeal.nD Cert.FfReferenceIdeal.τ).loc Cert.FfReferenceIdeal.main_arg2) = m ((c.tc : Thread Cert.FfReferenceIdeal.nD Cert.FfReferenceIdeal.τ).loc Cert.FfReferenceIdeal.main_arg2)
      ∧ r.2.mem ((c.tc : Thread Cert.FfReferenceIdeal.nD Cert.FfReferenceIdeal.τ).loc Cert.FfReferenceIdeal.main_arg3) = m ((c.tc : Thread Cert.FfReferenceIdeal.nD Cert.FfReferenceIdeal.τ).loc Cert.FfReferenceIdeal.main_arg3)
      ∧ r.2.mem ((c.tc : Thread Cert.FfReferenceIdeal.nD Cert.FfReferenceIdeal.τ).loc Cert.FfReferenceIdeal.main_arg4) = m ((c.tc : Thread Cert.FfReferenceIdeal.nD Cert.FfReferenceIdeal.τ).loc Cert.FfReferenceIdeal.main_arg4)
      ∧ r.2.mem ((c.tc : Thread Cert.FfReferenceIdeal.nD Cert.FfReferenceIdeal.τ).loc Cert.FfReferenceIdeal.main_arg5) = m ((c.tc : Thread Cert.FfReferenceIdeal.nD Cert.FfReferenceIdeal.τ).loc Cert.FfReferenceIdeal.main_arg5)
      ∧ r.2.mem ((c.tc : Thread Cert.FfReferenceIdeal.nD Cert.FfReferenceIdeal.τ).loc Cert.FfReferenceIdeal.main_arg6) = m ((c.tc : Thread Cert.FfReferenceIdeal.nD Cert.FfReferenceIdeal.τ).loc Cert.FfReferenceIdeal.main_arg6)
      ∧ r.2.mem ((c.tc : Thread Cert.FfReferenceIdeal.nD Cert.FfReferenceIdeal.τ).loc Cert.FfReferenceIdeal.main_arg7) = m ((c.tc : Thread Cert.FfReferenceIdeal.nD Cert.FfReferenceIdeal.τ).loc Cert.FfReferenceIdeal.main_arg7)
      ∧ r.2.mem ((c.tc : Thread Cert.FfReferenceIdeal.nD Cert.FfReferenceIdeal.τ).loc Cert.FfReferenceIdeal.main_arg8) = m ((c.tc : Thread Cert.FfReferenceIdeal.nD Cert.FfReferenceIdeal.τ).loc Cert.FfReferenceIdeal.main_arg8)
      ∧ r.2.mem ((c.tc : Thread Cert.FfReferenceIdeal.nD Cert.FfReferenceIdeal.τ).loc Cert.FfReferenceIdeal.main_arg9) = m ((c.tc : Thread Cert.FfReferenceIdeal.nD Cert.FfReferenceIdeal.τ).loc Cert.FfReferenceIdeal.main_arg9)
      ∧ r.2.mem ((c.tc : Thread Cert.FfReferenceIdeal.nD Cert.FfReferenceIdeal.τ).loc Cert.FfReferenceIdeal.main_arg10) = m ((c.tc : Thread Cert.FfReferenceIdeal.nD Cert.FfReferenceIdeal.τ).loc Cert.FfReferenceIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v58_0)) (v1 : (c : Dev Cert.KernelIdeal.nD) → Buf (Elt Ideal) ((c.tc : Thread Cert.KernelIdeal.nD Cert.KernelIdeal.τ).loc Cert.KernelIdeal.main_v58_1)) (v2 : (c : Dev Cert.KernelIdeal.nD) → Buf (Elt Ideal) ((c.tc : Thread Cert.KernelIdeal.nD Cert.KernelIdeal.τ).loc Cert.KernelIdeal.main_v58_2)) (v3 : (c : Dev Cert.KernelIdeal.nD) → Buf (Elt Ideal) ((c.tc : Thread Cert.KernelIdeal.nD Cert.KernelIdeal.τ).loc Cert.KernelIdeal.main_v58_3)) (v4 : (c : Dev Cert.KernelIdeal.nD) → Buf (Elt Ideal) ((c.tc : Thread Cert.KernelIdeal.nD Cert.KernelIdeal.τ).loc Cert.KernelIdeal.main_v58_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58_0) = v0 c
          ∧ r.2.mem ((c.tc : Thread Cert.KernelIdeal.nD Cert.KernelIdeal.τ).loc Cert.KernelIdeal.main_v58_1) = v1 c
          ∧ r.2.mem ((c.tc : Thread Cert.KernelIdeal.nD Cert.KernelIdeal.τ).loc Cert.KernelIdeal.main_v58_2) = v2 c
          ∧ r.2.mem ((c.tc : Thread Cert.KernelIdeal.nD Cert.KernelIdeal.τ).loc Cert.KernelIdeal.main_v58_3) = v3 c
          ∧ r.2.mem ((c.tc : Thread Cert.KernelIdeal.nD Cert.KernelIdeal.τ).loc Cert.KernelIdeal.main_v58_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_v100) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_GradsKernel_GradsKernelIdeal : Prop :=
  True

def algebraic_GradsKernelIdeal_GradsReferenceIdeal [hGradsKernelIdeal : Cert.GradsKernelIdeal.Facts] [hGradsReferenceIdeal : Cert.GradsReferenceIdeal.Facts] : Prop :=
  ∀ (m : (ℓ : Loc Cert.GradsKernelIdeal.nD Cert.GradsKernelIdeal.τ Cert.GradsKernelIdeal.sig) → Buf (Elt Ideal) ℓ) (g : Dev Cert.GradsKernelIdeal.nD → PrngReg)
    (m' : (ℓ : Loc Cert.GradsReferenceIdeal.nD Cert.GradsReferenceIdeal.τ Cert.GradsReferenceIdeal.sig) → Buf (Elt Ideal) ℓ) (g' : Dev Cert.GradsReferenceIdeal.nD → PrngReg), Pre_GradsKernelIdeal m →
    (∀ c : Dev Cert.GradsKernelIdeal.nD,
      m' ((c.tc : Thread Cert.GradsReferenceIdeal.nD Cert.GradsReferenceIdeal.τ).loc Cert.GradsReferenceIdeal.main_arg0) = m ((c.tc : Thread Cert.GradsKernelIdeal.nD Cert.GradsKernelIdeal.τ).loc Cert.GradsKernelIdeal.main_arg0)
      ∧ m' ((c.tc : Thread Cert.GradsReferenceIdeal.nD Cert.GradsReferenceIdeal.τ).loc Cert.GradsReferenceIdeal.main_arg1) = m ((c.tc : Thread Cert.GradsKernelIdeal.nD Cert.GradsKernelIdeal.τ).loc Cert.GradsKernelIdeal.main_arg1)
      ∧ m' ((c.tc : Thread Cert.GradsReferenceIdeal.nD Cert.GradsReferenceIdeal.τ).loc Cert.GradsReferenceIdeal.main_arg2) = m ((c.tc : Thread Cert.GradsKernelIdeal.nD Cert.GradsKernelIdeal.τ).loc Cert.GradsKernelIdeal.main_arg2)
      ∧ m' ((c.tc : Thread Cert.GradsReferenceIdeal.nD Cert.GradsReferenceIdeal.τ).loc Cert.GradsReferenceIdeal.main_arg3) = m ((c.tc : Thread Cert.GradsKernelIdeal.nD Cert.GradsKernelIdeal.τ).loc Cert.GradsKernelIdeal.main_arg3)) →
    ∃ (v0 : (c : Dev Cert.GradsKernelIdeal.nD) → Buf (Elt Ideal) ((c.tc : Thread Cert.GradsKernelIdeal.nD Cert.GradsKernelIdeal.τ).loc Cert.GradsKernelIdeal.main_v0)),
      θ_run (Cert.GradsKernelIdeal.defs (F := Ideal)) (onTc (τ := Cert.GradsKernelIdeal.τ) (Cert.GradsKernelIdeal.main (F := Ideal))) ⟨m, fun _ => 0, g⟩ (fun r => ∀ c : Dev Cert.GradsKernelIdeal.nD,
          r.2.mem ((c.tc : Thread Cert.GradsKernelIdeal.nD Cert.GradsKernelIdeal.τ).loc Cert.GradsKernelIdeal.main_v0) = v0 c
          ∧ r.2.mem ((c.tc : Thread Cert.GradsKernelIdeal.nD Cert.GradsKernelIdeal.τ).loc Cert.GradsKernelIdeal.main_arg0) = m ((c.tc : Thread Cert.GradsKernelIdeal.nD Cert.GradsKernelIdeal.τ).loc Cert.GradsKernelIdeal.main_arg0)
          ∧ r.2.mem ((c.tc : Thread Cert.GradsKernelIdeal.nD Cert.GradsKernelIdeal.τ).loc Cert.GradsKernelIdeal.main_arg1) = m ((c.tc : Thread Cert.GradsKernelIdeal.nD Cert.GradsKernelIdeal.τ).loc Cert.GradsKernelIdeal.main_arg1)
          ∧ r.2.mem ((c.tc : Thread Cert.GradsKernelIdeal.nD Cert.GradsKernelIdeal.τ).loc Cert.GradsKernelIdeal.main_arg2) = m ((c.tc : Thread Cert.GradsKernelIdeal.nD Cert.GradsKernelIdeal.τ).loc Cert.GradsKernelIdeal.main_arg2)
          ∧ r.2.mem ((c.tc : Thread Cert.GradsKernelIdeal.nD Cert.GradsKernelIdeal.τ).loc Cert.GradsKernelIdeal.main_arg3) = m ((c.tc : Thread Cert.GradsKernelIdeal.nD Cert.GradsKernelIdeal.τ).loc Cert.GradsKernelIdeal.main_arg3))
      ∧ θ_run (Cert.GradsReferenceIdeal.defs (F := Ideal)) (onTc (τ := Cert.GradsReferenceIdeal.τ) (Cert.GradsReferenceIdeal.main (F := Ideal))) ⟨m', fun _ => 0, g'⟩ (fun r => ∀ c : Dev Cert.GradsReferenceIdeal.nD,
          r.2.mem ((c.tc : Thread Cert.GradsReferenceIdeal.nD Cert.GradsReferenceIdeal.τ).loc Cert.GradsReferenceIdeal.main_v16) = v0 c
          ∧ r.2.mem ((c.tc : Thread Cert.GradsReferenceIdeal.nD Cert.GradsReferenceIdeal.τ).loc Cert.GradsReferenceIdeal.main_arg0) = m' ((c.tc : Thread Cert.GradsReferenceIdeal.nD Cert.GradsReferenceIdeal.τ).loc Cert.GradsReferenceIdeal.main_arg0)
          ∧ r.2.mem ((c.tc : Thread Cert.GradsReferenceIdeal.nD Cert.GradsReferenceIdeal.τ).loc Cert.GradsReferenceIdeal.main_arg1) = m' ((c.tc : Thread Cert.GradsReferenceIdeal.nD Cert.GradsReferenceIdeal.τ).loc Cert.GradsReferenceIdeal.main_arg1)
          ∧ r.2.mem ((c.tc : Thread Cert.GradsReferenceIdeal.nD Cert.GradsReferenceIdeal.τ).loc Cert.GradsReferenceIdeal.main_arg2) = m' ((c.tc : Thread Cert.GradsReferenceIdeal.nD Cert.GradsReferenceIdeal.τ).loc Cert.GradsReferenceIdeal.main_arg2)
          ∧ r.2.mem ((c.tc : Thread Cert.GradsReferenceIdeal.nD Cert.GradsReferenceIdeal.τ).loc Cert.GradsReferenceIdeal.main_arg3) = m' ((c.tc : Thread Cert.GradsReferenceIdeal.nD Cert.GradsReferenceIdeal.τ).loc Cert.GradsReferenceIdeal.main_arg3))

def preserves_MlpKernel_MlpKernelIdeal : Prop :=
  True

def algebraic_MlpKernelIdeal_MlpReferenceIdeal_pre_mlp_finite [hMlpKernelIdeal : Cert.MlpKernelIdeal.Facts] [hMlpReferenceIdeal : Cert.MlpReferenceIdeal.Facts] [hPre_mlp_finite : Cert.Pre_mlp_finite.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal_mlp_finite m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)
      ∧ m' ((c.tc : Thread Cert.MlpReferenceIdeal.nD Cert.MlpReferenceIdeal.τ).loc Cert.MlpReferenceIdeal.main_arg5) = m ((c.tc : Thread Cert.MlpKernelIdeal.nD Cert.MlpKernelIdeal.τ).loc Cert.MlpKernelIdeal.main_arg5)) →
    ∃ (v0 : (c : Dev Cert.MlpKernelIdeal.nD) → Buf (Elt Ideal) ((c.tc : Thread Cert.MlpKernelIdeal.nD Cert.MlpKernelIdeal.τ).loc Cert.MlpKernelIdeal.main_v19_0)) (v1 : (c : Dev Cert.MlpKernelIdeal.nD) → Buf (Elt Ideal) ((c.tc : Thread Cert.MlpKernelIdeal.nD Cert.MlpKernelIdeal.τ).loc Cert.MlpKernelIdeal.main_v19_1)) (v2 : (c : Dev Cert.MlpKernelIdeal.nD) → Buf (Elt Ideal) ((c.tc : Thread Cert.MlpKernelIdeal.nD Cert.MlpKernelIdeal.τ).loc Cert.MlpKernelIdeal.main_v19_2)) (v3 : (c : Dev Cert.MlpKernelIdeal.nD) → Buf (Elt Ideal) ((c.tc : Thread Cert.MlpKernelIdeal.nD Cert.MlpKernelIdeal.τ).loc Cert.MlpKernelIdeal.main_v19_3)) (v4 : (c : Dev Cert.MlpKernelIdeal.nD) → Buf (Elt Ideal) ((c.tc : Thread Cert.MlpKernelIdeal.nD Cert.MlpKernelIdeal.τ).loc Cert.MlpKernelIdeal.main_v19_4)) (v5 : (c : Dev Cert.MlpKernelIdeal.nD) → Buf (Elt Ideal) ((c.tc : Thread Cert.MlpKernelIdeal.nD Cert.MlpKernelIdeal.τ).loc Cert.MlpKernelIdeal.main_v19_5)) (v6 : (c : Dev Cert.MlpKernelIdeal.nD) → Buf (Elt Ideal) ((c.tc : Thread Cert.MlpKernelIdeal.nD Cert.MlpKernelIdeal.τ).loc Cert.MlpKernelIdeal.main_v19_6)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v19_0) = v0 c
          ∧ r.2.mem ((c.tc : Thread Cert.MlpKernelIdeal.nD Cert.MlpKernelIdeal.τ).loc Cert.MlpKernelIdeal.main_v19_1) = v1 c
          ∧ r.2.mem ((c.tc : Thread Cert.MlpKernelIdeal.nD Cert.MlpKernelIdeal.τ).loc Cert.MlpKernelIdeal.main_v19_2) = v2 c
          ∧ r.2.mem ((c.tc : Thread Cert.MlpKernelIdeal.nD Cert.MlpKernelIdeal.τ).loc Cert.MlpKernelIdeal.main_v19_3) = v3 c
          ∧ r.2.mem ((c.tc : Thread Cert.MlpKernelIdeal.nD Cert.MlpKernelIdeal.τ).loc Cert.MlpKernelIdeal.main_v19_4) = v4 c
          ∧ r.2.mem ((c.tc : Thread Cert.MlpKernelIdeal.nD Cert.MlpKernelIdeal.τ).loc Cert.MlpKernelIdeal.main_v19_5) = v5 c
          ∧ r.2.mem ((c.tc : Thread Cert.MlpKernelIdeal.nD Cert.MlpKernelIdeal.τ).loc Cert.MlpKernelIdeal.main_v19_6) = v6 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4)
          ∧ r.2.mem ((c.tc : Thread Cert.MlpKernelIdeal.nD Cert.MlpKernelIdeal.τ).loc Cert.MlpKernelIdeal.main_arg5) = m ((c.tc : Thread Cert.MlpKernelIdeal.nD Cert.MlpKernelIdeal.τ).loc Cert.MlpKernelIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v98) = v0 c
          ∧ r.2.mem ((c.tc : Thread Cert.MlpReferenceIdeal.nD Cert.MlpReferenceIdeal.τ).loc Cert.MlpReferenceIdeal.main_v99) = v1 c
          ∧ r.2.mem ((c.tc : Thread Cert.MlpReferenceIdeal.nD Cert.MlpReferenceIdeal.τ).loc Cert.MlpReferenceIdeal.main_v100) = v2 c
          ∧ r.2.mem ((c.tc : Thread Cert.MlpReferenceIdeal.nD Cert.MlpReferenceIdeal.τ).loc Cert.MlpReferenceIdeal.main_v101) = v3 c
          ∧ r.2.mem ((c.tc : Thread Cert.MlpReferenceIdeal.nD Cert.MlpReferenceIdeal.τ).loc Cert.MlpReferenceIdeal.main_v102) = v4 c
          ∧ r.2.mem ((c.tc : Thread Cert.MlpReferenceIdeal.nD Cert.MlpReferenceIdeal.τ).loc Cert.MlpReferenceIdeal.main_v57) = v5 c
          ∧ r.2.mem ((c.tc : Thread Cert.MlpReferenceIdeal.nD Cert.MlpReferenceIdeal.τ).loc Cert.MlpReferenceIdeal.main_v81) = v6 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_PremixKernel_PremixKernelIdeal : Prop :=
  True

def algebraic_PremixKernelIdeal_PremixReferenceIdeal_pre_premix_finite [hPremixKernelIdeal : Cert.PremixKernelIdeal.Facts] [hPremixReferenceIdeal : Cert.PremixReferenceIdeal.Facts] [hPre_premix_finite : Cert.Pre_premix_finite.Facts] : Prop :=
  ∀ (m : (ℓ : Loc Cert.PremixKernelIdeal.nD Cert.PremixKernelIdeal.τ Cert.PremixKernelIdeal.sig) → Buf (Elt Ideal) ℓ) (g : Dev Cert.PremixKernelIdeal.nD → PrngReg)
    (m' : (ℓ : Loc Cert.PremixReferenceIdeal.nD Cert.PremixReferenceIdeal.τ Cert.PremixReferenceIdeal.sig) → Buf (Elt Ideal) ℓ) (g' : Dev Cert.PremixReferenceIdeal.nD → PrngReg), Pre_PremixKernelIdeal_premix_finite m →
    (∀ c : Dev Cert.PremixKernelIdeal.nD,
      m' ((c.tc : Thread Cert.PremixReferenceIdeal.nD Cert.PremixReferenceIdeal.τ).loc Cert.PremixReferenceIdeal.main_arg0) = m ((c.tc : Thread Cert.PremixKernelIdeal.nD Cert.PremixKernelIdeal.τ).loc Cert.PremixKernelIdeal.main_arg0)
      ∧ m' ((c.tc : Thread Cert.PremixReferenceIdeal.nD Cert.PremixReferenceIdeal.τ).loc Cert.PremixReferenceIdeal.main_arg1) = m ((c.tc : Thread Cert.PremixKernelIdeal.nD Cert.PremixKernelIdeal.τ).loc Cert.PremixKernelIdeal.main_arg1)
      ∧ m' ((c.tc : Thread Cert.PremixReferenceIdeal.nD Cert.PremixReferenceIdeal.τ).loc Cert.PremixReferenceIdeal.main_arg2) = m ((c.tc : Thread Cert.PremixKernelIdeal.nD Cert.PremixKernelIdeal.τ).loc Cert.PremixKernelIdeal.main_arg2)
      ∧ m' ((c.tc : Thread Cert.PremixReferenceIdeal.nD Cert.PremixReferenceIdeal.τ).loc Cert.PremixReferenceIdeal.main_arg3) = m ((c.tc : Thread Cert.PremixKernelIdeal.nD Cert.PremixKernelIdeal.τ).loc Cert.PremixKernelIdeal.main_arg3)
      ∧ m' ((c.tc : Thread Cert.PremixReferenceIdeal.nD Cert.PremixReferenceIdeal.τ).loc Cert.PremixReferenceIdeal.main_arg4) = m ((c.tc : Thread Cert.PremixKernelIdeal.nD Cert.PremixKernelIdeal.τ).loc Cert.PremixKernelIdeal.main_arg4)
      ∧ m' ((c.tc : Thread Cert.PremixReferenceIdeal.nD Cert.PremixReferenceIdeal.τ).loc Cert.PremixReferenceIdeal.main_arg5) = m ((c.tc : Thread Cert.PremixKernelIdeal.nD Cert.PremixKernelIdeal.τ).loc Cert.PremixKernelIdeal.main_arg5)
      ∧ m' ((c.tc : Thread Cert.PremixReferenceIdeal.nD Cert.PremixReferenceIdeal.τ).loc Cert.PremixReferenceIdeal.main_arg6) = m ((c.tc : Thread Cert.PremixKernelIdeal.nD Cert.PremixKernelIdeal.τ).loc Cert.PremixKernelIdeal.main_arg6)
      ∧ m' ((c.tc : Thread Cert.PremixReferenceIdeal.nD Cert.PremixReferenceIdeal.τ).loc Cert.PremixReferenceIdeal.main_arg7) = m ((c.tc : Thread Cert.PremixKernelIdeal.nD Cert.PremixKernelIdeal.τ).loc Cert.PremixKernelIdeal.main_arg7)
      ∧ m' ((c.tc : Thread Cert.PremixReferenceIdeal.nD Cert.PremixReferenceIdeal.τ).loc Cert.PremixReferenceIdeal.main_arg8) = m ((c.tc : Thread Cert.PremixKernelIdeal.nD Cert.PremixKernelIdeal.τ).loc Cert.PremixKernelIdeal.main_arg8)
      ∧ m' ((c.tc : Thread Cert.PremixReferenceIdeal.nD Cert.PremixReferenceIdeal.τ).loc Cert.PremixReferenceIdeal.main_arg9) = m ((c.tc : Thread Cert.PremixKernelIdeal.nD Cert.PremixKernelIdeal.τ).loc Cert.PremixKernelIdeal.main_arg9)
      ∧ m' ((c.tc : Thread Cert.PremixReferenceIdeal.nD Cert.PremixReferenceIdeal.τ).loc Cert.PremixReferenceIdeal.main_arg10) = m ((c.tc : Thread Cert.PremixKernelIdeal.nD Cert.PremixKernelIdeal.τ).loc Cert.PremixKernelIdeal.main_arg10)) →
    ∃ (v0 : (c : Dev Cert.PremixKernelIdeal.nD) → Buf (Elt Ideal) ((c.tc : Thread Cert.PremixKernelIdeal.nD Cert.PremixKernelIdeal.τ).loc Cert.PremixKernelIdeal.main_v0_0)) (v1 : (c : Dev Cert.PremixKernelIdeal.nD) → Buf (Elt Ideal) ((c.tc : Thread Cert.PremixKernelIdeal.nD Cert.PremixKernelIdeal.τ).loc Cert.PremixKernelIdeal.main_v0_1)),
      θ_run (Cert.PremixKernelIdeal.defs (F := Ideal)) (onTc (τ := Cert.PremixKernelIdeal.τ) (Cert.PremixKernelIdeal.main (F := Ideal))) ⟨m, fun _ => 0, g⟩ (fun r => ∀ c : Dev Cert.PremixKernelIdeal.nD,
          r.2.mem ((c.tc : Thread Cert.PremixKernelIdeal.nD Cert.PremixKernelIdeal.τ).loc Cert.PremixKernelIdeal.main_v0_0) = v0 c
          ∧ r.2.mem ((c.tc : Thread Cert.PremixKernelIdeal.nD Cert.PremixKernelIdeal.τ).loc Cert.PremixKernelIdeal.main_v0_1) = v1 c
          ∧ r.2.mem ((c.tc : Thread Cert.PremixKernelIdeal.nD Cert.PremixKernelIdeal.τ).loc Cert.PremixKernelIdeal.main_arg0) = m ((c.tc : Thread Cert.PremixKernelIdeal.nD Cert.PremixKernelIdeal.τ).loc Cert.PremixKernelIdeal.main_arg0)
          ∧ r.2.mem ((c.tc : Thread Cert.PremixKernelIdeal.nD Cert.PremixKernelIdeal.τ).loc Cert.PremixKernelIdeal.main_arg1) = m ((c.tc : Thread Cert.PremixKernelIdeal.nD Cert.PremixKernelIdeal.τ).loc Cert.PremixKernelIdeal.main_arg1)
          ∧ r.2.mem ((c.tc : Thread Cert.PremixKernelIdeal.nD Cert.PremixKernelIdeal.τ).loc Cert.PremixKernelIdeal.main_arg2) = m ((c.tc : Thread Cert.PremixKernelIdeal.nD Cert.PremixKernelIdeal.τ).loc Cert.PremixKernelIdeal.main_arg2)
          ∧ r.2.mem ((c.tc : Thread Cert.PremixKernelIdeal.nD Cert.PremixKernelIdeal.τ).loc Cert.PremixKernelIdeal.main_arg3) = m ((c.tc : Thread Cert.PremixKernelIdeal.nD Cert.PremixKernelIdeal.τ).loc Cert.PremixKernelIdeal.main_arg3)
          ∧ r.2.mem ((c.tc : Thread Cert.PremixKernelIdeal.nD Cert.PremixKernelIdeal.τ).loc Cert.PremixKernelIdeal.main_arg4) = m ((c.tc : Thread Cert.PremixKernelIdeal.nD Cert.PremixKernelIdeal.τ).loc Cert.PremixKernelIdeal.main_arg4)
          ∧ r.2.mem ((c.tc : Thread Cert.PremixKernelIdeal.nD Cert.PremixKernelIdeal.τ).loc Cert.PremixKernelIdeal.main_arg5) = m ((c.tc : Thread Cert.PremixKernelIdeal.nD Cert.PremixKernelIdeal.τ).loc Cert.PremixKernelIdeal.main_arg5)
          ∧ r.2.mem ((c.tc : Thread Cert.PremixKernelIdeal.nD Cert.PremixKernelIdeal.τ).loc Cert.PremixKernelIdeal.main_arg6) = m ((c.tc : Thread Cert.PremixKernelIdeal.nD Cert.PremixKernelIdeal.τ).loc Cert.PremixKernelIdeal.main_arg6)
          ∧ r.2.mem ((c.tc : Thread Cert.PremixKernelIdeal.nD Cert.PremixKernelIdeal.τ).loc Cert.PremixKernelIdeal.main_arg7) = m ((c.tc : Thread Cert.PremixKernelIdeal.nD Cert.PremixKernelIdeal.τ).loc Cert.PremixKernelIdeal.main_arg7)
          ∧ r.2.mem ((c.tc : Thread Cert.PremixKernelIdeal.nD Cert.PremixKernelIdeal.τ).loc Cert.PremixKernelIdeal.main_arg8) = m ((c.tc : Thread Cert.PremixKernelIdeal.nD Cert.PremixKernelIdeal.τ).loc Cert.PremixKernelIdeal.main_arg8)
          ∧ r.2.mem ((c.tc : Thread Cert.PremixKernelIdeal.nD Cert.PremixKernelIdeal.τ).loc Cert.PremixKernelIdeal.main_arg9) = m ((c.tc : Thread Cert.PremixKernelIdeal.nD Cert.PremixKernelIdeal.τ).loc Cert.PremixKernelIdeal.main_arg9)
          ∧ r.2.mem ((c.tc : Thread Cert.PremixKernelIdeal.nD Cert.PremixKernelIdeal.τ).loc Cert.PremixKernelIdeal.main_arg10) = m ((c.tc : Thread Cert.PremixKernelIdeal.nD Cert.PremixKernelIdeal.τ).loc Cert.PremixKernelIdeal.main_arg10))
      ∧ θ_run (Cert.PremixReferenceIdeal.defs (F := Ideal)) (onTc (τ := Cert.PremixReferenceIdeal.τ) (Cert.PremixReferenceIdeal.main (F := Ideal))) ⟨m', fun _ => 0, g'⟩ (fun r => ∀ c : Dev Cert.PremixReferenceIdeal.nD,
          r.2.mem ((c.tc : Thread Cert.PremixReferenceIdeal.nD Cert.PremixReferenceIdeal.τ).loc Cert.PremixReferenceIdeal.main_v40) = v0 c
          ∧ r.2.mem ((c.tc : Thread Cert.PremixReferenceIdeal.nD Cert.PremixReferenceIdeal.τ).loc Cert.PremixReferenceIdeal.main_v23) = v1 c
          ∧ r.2.mem ((c.tc : Thread Cert.PremixReferenceIdeal.nD Cert.PremixReferenceIdeal.τ).loc Cert.PremixReferenceIdeal.main_arg0) = m' ((c.tc : Thread Cert.PremixReferenceIdeal.nD Cert.PremixReferenceIdeal.τ).loc Cert.PremixReferenceIdeal.main_arg0)
          ∧ r.2.mem ((c.tc : Thread Cert.PremixReferenceIdeal.nD Cert.PremixReferenceIdeal.τ).loc Cert.PremixReferenceIdeal.main_arg1) = m' ((c.tc : Thread Cert.PremixReferenceIdeal.nD Cert.PremixReferenceIdeal.τ).loc Cert.PremixReferenceIdeal.main_arg1)
          ∧ r.2.mem ((c.tc : Thread Cert.PremixReferenceIdeal.nD Cert.PremixReferenceIdeal.τ).loc Cert.PremixReferenceIdeal.main_arg2) = m' ((c.tc : Thread Cert.PremixReferenceIdeal.nD Cert.PremixReferenceIdeal.τ).loc Cert.PremixReferenceIdeal.main_arg2)
          ∧ r.2.mem ((c.tc : Thread Cert.PremixReferenceIdeal.nD Cert.PremixReferenceIdeal.τ).loc Cert.PremixReferenceIdeal.main_arg3) = m' ((c.tc : Thread Cert.PremixReferenceIdeal.nD Cert.PremixReferenceIdeal.τ).loc Cert.PremixReferenceIdeal.main_arg3)
          ∧ r.2.mem ((c.tc : Thread Cert.PremixReferenceIdeal.nD Cert.PremixReferenceIdeal.τ).loc Cert.PremixReferenceIdeal.main_arg4) = m' ((c.tc : Thread Cert.PremixReferenceIdeal.nD Cert.PremixReferenceIdeal.τ).loc Cert.PremixReferenceIdeal.main_arg4)
          ∧ r.2.mem ((c.tc : Thread Cert.PremixReferenceIdeal.nD Cert.PremixReferenceIdeal.τ).loc Cert.PremixReferenceIdeal.main_arg5) = m' ((c.tc : Thread Cert.PremixReferenceIdeal.nD Cert.PremixReferenceIdeal.τ).loc Cert.PremixReferenceIdeal.main_arg5)
          ∧ r.2.mem ((c.tc : Thread Cert.PremixReferenceIdeal.nD Cert.PremixReferenceIdeal.τ).loc Cert.PremixReferenceIdeal.main_arg6) = m' ((c.tc : Thread Cert.PremixReferenceIdeal.nD Cert.PremixReferenceIdeal.τ).loc Cert.PremixReferenceIdeal.main_arg6)
          ∧ r.2.mem ((c.tc : Thread Cert.PremixReferenceIdeal.nD Cert.PremixReferenceIdeal.τ).loc Cert.PremixReferenceIdeal.main_arg7) = m' ((c.tc : Thread Cert.PremixReferenceIdeal.nD Cert.PremixReferenceIdeal.τ).loc Cert.PremixReferenceIdeal.main_arg7)
          ∧ r.2.mem ((c.tc : Thread Cert.PremixReferenceIdeal.nD Cert.PremixReferenceIdeal.τ).loc Cert.PremixReferenceIdeal.main_arg8) = m' ((c.tc : Thread Cert.PremixReferenceIdeal.nD Cert.PremixReferenceIdeal.τ).loc Cert.PremixReferenceIdeal.main_arg8)
          ∧ r.2.mem ((c.tc : Thread Cert.PremixReferenceIdeal.nD Cert.PremixReferenceIdeal.τ).loc Cert.PremixReferenceIdeal.main_arg9) = m' ((c.tc : Thread Cert.PremixReferenceIdeal.nD Cert.PremixReferenceIdeal.τ).loc Cert.PremixReferenceIdeal.main_arg9)
          ∧ r.2.mem ((c.tc : Thread Cert.PremixReferenceIdeal.nD Cert.PremixReferenceIdeal.τ).loc Cert.PremixReferenceIdeal.main_arg10) = m' ((c.tc : Thread Cert.PremixReferenceIdeal.nD Cert.PremixReferenceIdeal.τ).loc Cert.PremixReferenceIdeal.main_arg10))

def preserves_SmallKernel_SmallKernelIdeal : Prop :=
  True

def algebraic_SmallKernelIdeal_SmallReferenceIdeal [hSmallKernelIdeal : Cert.SmallKernelIdeal.Facts] [hSmallReferenceIdeal : Cert.SmallReferenceIdeal.Facts] : Prop :=
  ∀ (m : (ℓ : Loc Cert.SmallKernelIdeal.nD Cert.SmallKernelIdeal.τ Cert.SmallKernelIdeal.sig) → Buf (Elt Ideal) ℓ) (g : Dev Cert.SmallKernelIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallKernelIdeal m →
    (∀ c : Dev Cert.SmallKernelIdeal.nD,
      m' ((c.tc : Thread Cert.SmallReferenceIdeal.nD Cert.SmallReferenceIdeal.τ).loc Cert.SmallReferenceIdeal.main_arg0) = m ((c.tc : Thread Cert.SmallKernelIdeal.nD Cert.SmallKernelIdeal.τ).loc Cert.SmallKernelIdeal.main_arg0)
      ∧ m' ((c.tc : Thread Cert.SmallReferenceIdeal.nD Cert.SmallReferenceIdeal.τ).loc Cert.SmallReferenceIdeal.main_arg1) = m ((c.tc : Thread Cert.SmallKernelIdeal.nD Cert.SmallKernelIdeal.τ).loc Cert.SmallKernelIdeal.main_arg1)
      ∧ m' ((c.tc : Thread Cert.SmallReferenceIdeal.nD Cert.SmallReferenceIdeal.τ).loc Cert.SmallReferenceIdeal.main_arg2) = m ((c.tc : Thread Cert.SmallKernelIdeal.nD Cert.SmallKernelIdeal.τ).loc Cert.SmallKernelIdeal.main_arg2)
      ∧ m' ((c.tc : Thread Cert.SmallReferenceIdeal.nD Cert.SmallReferenceIdeal.τ).loc Cert.SmallReferenceIdeal.main_arg3) = m ((c.tc : Thread Cert.SmallKernelIdeal.nD Cert.SmallKernelIdeal.τ).loc Cert.SmallKernelIdeal.main_arg3)
      ∧ m' ((c.tc : Thread Cert.SmallReferenceIdeal.nD Cert.SmallReferenceIdeal.τ).loc Cert.SmallReferenceIdeal.main_arg4) = m ((c.tc : Thread Cert.SmallKernelIdeal.nD Cert.SmallKernelIdeal.τ).loc Cert.SmallKernelIdeal.main_arg4)
      ∧ m' ((c.tc : Thread Cert.SmallReferenceIdeal.nD Cert.SmallReferenceIdeal.τ).loc Cert.SmallReferenceIdeal.main_arg5) = m ((c.tc : Thread Cert.SmallKernelIdeal.nD Cert.SmallKernelIdeal.τ).loc Cert.SmallKernelIdeal.main_arg5)
      ∧ m' ((c.tc : Thread Cert.SmallReferenceIdeal.nD Cert.SmallReferenceIdeal.τ).loc Cert.SmallReferenceIdeal.main_arg6) = m ((c.tc : Thread Cert.SmallKernelIdeal.nD Cert.SmallKernelIdeal.τ).loc Cert.SmallKernelIdeal.main_arg6)
      ∧ m' ((c.tc : Thread Cert.SmallReferenceIdeal.nD Cert.SmallReferenceIdeal.τ).loc Cert.SmallReferenceIdeal.main_arg7) = m ((c.tc : Thread Cert.SmallKernelIdeal.nD Cert.SmallKernelIdeal.τ).loc Cert.SmallKernelIdeal.main_arg7)
      ∧ m' ((c.tc : Thread Cert.SmallReferenceIdeal.nD Cert.SmallReferenceIdeal.τ).loc Cert.SmallReferenceIdeal.main_arg8) = m ((c.tc : Thread Cert.SmallKernelIdeal.nD Cert.SmallKernelIdeal.τ).loc Cert.SmallKernelIdeal.main_arg8)
      ∧ m' ((c.tc : Thread Cert.SmallReferenceIdeal.nD Cert.SmallReferenceIdeal.τ).loc Cert.SmallReferenceIdeal.main_arg9) = m ((c.tc : Thread Cert.SmallKernelIdeal.nD Cert.SmallKernelIdeal.τ).loc Cert.SmallKernelIdeal.main_arg9)
      ∧ m' ((c.tc : Thread Cert.SmallReferenceIdeal.nD Cert.SmallReferenceIdeal.τ).loc Cert.SmallReferenceIdeal.main_arg10) = m ((c.tc : Thread Cert.SmallKernelIdeal.nD Cert.SmallKernelIdeal.τ).loc Cert.SmallKernelIdeal.main_arg10)
      ∧ m' ((c.tc : Thread Cert.SmallReferenceIdeal.nD Cert.SmallReferenceIdeal.τ).loc Cert.SmallReferenceIdeal.main_arg11) = m ((c.tc : Thread Cert.SmallKernelIdeal.nD Cert.SmallKernelIdeal.τ).loc Cert.SmallKernelIdeal.main_arg11)
      ∧ m' ((c.tc : Thread Cert.SmallReferenceIdeal.nD Cert.SmallReferenceIdeal.τ).loc Cert.SmallReferenceIdeal.main_arg12) = m ((c.tc : Thread Cert.SmallKernelIdeal.nD Cert.SmallKernelIdeal.τ).loc Cert.SmallKernelIdeal.main_arg12)
      ∧ m' ((c.tc : Thread Cert.SmallReferenceIdeal.nD Cert.SmallReferenceIdeal.τ).loc Cert.SmallReferenceIdeal.main_arg13) = m ((c.tc : Thread Cert.SmallKernelIdeal.nD Cert.SmallKernelIdeal.τ).loc Cert.SmallKernelIdeal.main_arg13)) →
    ∃ (v0 : (c : Dev Cert.SmallKernelIdeal.nD) → Buf (Elt Ideal) ((c.tc : Thread Cert.SmallKernelIdeal.nD Cert.SmallKernelIdeal.τ).loc Cert.SmallKernelIdeal.main_v9_0)) (v1 : (c : Dev Cert.SmallKernelIdeal.nD) → Buf (Elt Ideal) ((c.tc : Thread Cert.SmallKernelIdeal.nD Cert.SmallKernelIdeal.τ).loc Cert.SmallKernelIdeal.main_v9_1)) (v2 : (c : Dev Cert.SmallKernelIdeal.nD) → Buf (Elt Ideal) ((c.tc : Thread Cert.SmallKernelIdeal.nD Cert.SmallKernelIdeal.τ).loc Cert.SmallKernelIdeal.main_v9_2)) (v3 : (c : Dev Cert.SmallKernelIdeal.nD) → Buf (Elt Ideal) ((c.tc : Thread Cert.SmallKernelIdeal.nD Cert.SmallKernelIdeal.τ).loc Cert.SmallKernelIdeal.main_v9_3)) (v4 : (c : Dev Cert.SmallKernelIdeal.nD) → Buf (Elt Ideal) ((c.tc : Thread Cert.SmallKernelIdeal.nD Cert.SmallKernelIdeal.τ).loc Cert.SmallKernelIdeal.main_v9_4)) (v5 : (c : Dev Cert.SmallKernelIdeal.nD) → Buf (Elt Ideal) ((c.tc : Thread Cert.SmallKernelIdeal.nD Cert.SmallKernelIdeal.τ).loc Cert.SmallKernelIdeal.main_v9_5)) (v6 : (c : Dev Cert.SmallKernelIdeal.nD) → Buf (Elt Ideal) ((c.tc : Thread Cert.SmallKernelIdeal.nD Cert.SmallKernelIdeal.τ).loc Cert.SmallKernelIdeal.main_v9_6)) (v7 : (c : Dev Cert.SmallKernelIdeal.nD) → Buf (Elt Ideal) ((c.tc : Thread Cert.SmallKernelIdeal.nD Cert.SmallKernelIdeal.τ).loc Cert.SmallKernelIdeal.main_v9_7)) (v8 : (c : Dev Cert.SmallKernelIdeal.nD) → Buf (Elt Ideal) ((c.tc : Thread Cert.SmallKernelIdeal.nD Cert.SmallKernelIdeal.τ).loc Cert.SmallKernelIdeal.main_v9_8)) (v9 : (c : Dev Cert.SmallKernelIdeal.nD) → Buf (Elt Ideal) ((c.tc : Thread Cert.SmallKernelIdeal.nD Cert.SmallKernelIdeal.τ).loc Cert.SmallKernelIdeal.main_v9_9)) (v10 : (c : Dev Cert.SmallKernelIdeal.nD) → Buf (Elt Ideal) ((c.tc : Thread Cert.SmallKernelIdeal.nD Cert.SmallKernelIdeal.τ).loc Cert.SmallKernelIdeal.main_v9_10)) (v11 : (c : Dev Cert.SmallKernelIdeal.nD) → Buf (Elt Ideal) ((c.tc : Thread Cert.SmallKernelIdeal.nD Cert.SmallKernelIdeal.τ).loc Cert.SmallKernelIdeal.main_v9_11)) (v12 : (c : Dev Cert.SmallKernelIdeal.nD) → Buf (Elt Ideal) ((c.tc : Thread Cert.SmallKernelIdeal.nD Cert.SmallKernelIdeal.τ).loc Cert.SmallKernelIdeal.main_v9_12)),
      θ_run (Cert.SmallKernelIdeal.defs (F := Ideal)) (onTc (τ := Cert.SmallKernelIdeal.τ) (Cert.SmallKernelIdeal.main (F := Ideal))) ⟨m, fun _ => 0, g⟩ (fun r => ∀ c : Dev Cert.SmallKernelIdeal.nD,
          r.2.mem ((c.tc : Thread Cert.SmallKernelIdeal.nD Cert.SmallKernelIdeal.τ).loc Cert.SmallKernelIdeal.main_v9_0) = v0 c
          ∧ r.2.mem ((c.tc : Thread Cert.SmallKernelIdeal.nD Cert.SmallKernelIdeal.τ).loc Cert.SmallKernelIdeal.main_v9_1) = v1 c
          ∧ r.2.mem ((c.tc : Thread Cert.SmallKernelIdeal.nD Cert.SmallKernelIdeal.τ).loc Cert.SmallKernelIdeal.main_v9_2) = v2 c
          ∧ r.2.mem ((c.tc : Thread Cert.SmallKernelIdeal.nD Cert.SmallKernelIdeal.τ).loc Cert.SmallKernelIdeal.main_v9_3) = v3 c
          ∧ r.2.mem ((c.tc : Thread Cert.SmallKernelIdeal.nD Cert.SmallKernelIdeal.τ).loc Cert.SmallKernelIdeal.main_v9_4) = v4 c
          ∧ r.2.mem ((c.tc : Thread Cert.SmallKernelIdeal.nD Cert.SmallKernelIdeal.τ).loc Cert.SmallKernelIdeal.main_v9_5) = v5 c
          ∧ r.2.mem ((c.tc : Thread Cert.SmallKernelIdeal.nD Cert.SmallKernelIdeal.τ).loc Cert.SmallKernelIdeal.main_v9_6) = v6 c
          ∧ r.2.mem ((c.tc : Thread Cert.SmallKernelIdeal.nD Cert.SmallKernelIdeal.τ).loc Cert.SmallKernelIdeal.main_v9_7) = v7 c
          ∧ r.2.mem ((c.tc : Thread Cert.SmallKernelIdeal.nD Cert.SmallKernelIdeal.τ).loc Cert.SmallKernelIdeal.main_v9_8) = v8 c
          ∧ r.2.mem ((c.tc : Thread Cert.SmallKernelIdeal.nD Cert.SmallKernelIdeal.τ).loc Cert.SmallKernelIdeal.main_v9_9) = v9 c
          ∧ r.2.mem ((c.tc : Thread Cert.SmallKernelIdeal.nD Cert.SmallKernelIdeal.τ).loc Cert.SmallKernelIdeal.main_v9_10) = v10 c
          ∧ r.2.mem ((c.tc : Thread Cert.SmallKernelIdeal.nD Cert.SmallKernelIdeal.τ).loc Cert.SmallKernelIdeal.main_v9_11) = v11 c
          ∧ r.2.mem ((c.tc : Thread Cert.SmallKernelIdeal.nD Cert.SmallKernelIdeal.τ).loc Cert.SmallKernelIdeal.main_v9_12) = v12 c
          ∧ r.2.mem ((c.tc : Thread Cert.SmallKernelIdeal.nD Cert.SmallKernelIdeal.τ).loc Cert.SmallKernelIdeal.main_arg0) = m ((c.tc : Thread Cert.SmallKernelIdeal.nD Cert.SmallKernelIdeal.τ).loc Cert.SmallKernelIdeal.main_arg0)
          ∧ r.2.mem ((c.tc : Thread Cert.SmallKernelIdeal.nD Cert.SmallKernelIdeal.τ).loc Cert.SmallKernelIdeal.main_arg1) = m ((c.tc : Thread Cert.SmallKernelIdeal.nD Cert.SmallKernelIdeal.τ).loc Cert.SmallKernelIdeal.main_arg1)
          ∧ r.2.mem ((c.tc : Thread Cert.SmallKernelIdeal.nD Cert.SmallKernelIdeal.τ).loc Cert.SmallKernelIdeal.main_arg2) = m ((c.tc : Thread Cert.SmallKernelIdeal.nD Cert.SmallKernelIdeal.τ).loc Cert.SmallKernelIdeal.main_arg2)
          ∧ r.2.mem ((c.tc : Thread Cert.SmallKernelIdeal.nD Cert.SmallKernelIdeal.τ).loc Cert.SmallKernelIdeal.main_arg3) = m ((c.tc : Thread Cert.SmallKernelIdeal.nD Cert.SmallKernelIdeal.τ).loc Cert.SmallKernelIdeal.main_arg3)
          ∧ r.2.mem ((c.tc : Thread Cert.SmallKernelIdeal.nD Cert.SmallKernelIdeal.τ).loc Cert.SmallKernelIdeal.main_arg4) = m ((c.tc : Thread Cert.SmallKernelIdeal.nD Cert.SmallKernelIdeal.τ).loc Cert.SmallKernelIdeal.main_arg4)
          ∧ r.2.mem ((c.tc : Thread Cert.SmallKernelIdeal.nD Cert.SmallKernelIdeal.τ).loc Cert.SmallKernelIdeal.main_arg5) = m ((c.tc : Thread Cert.SmallKernelIdeal.nD Cert.SmallKernelIdeal.τ).loc Cert.SmallKernelIdeal.main_arg5)
          ∧ r.2.mem ((c.tc : Thread Cert.SmallKernelIdeal.nD Cert.SmallKernelIdeal.τ).loc Cert.SmallKernelIdeal.main_arg6) = m ((c.tc : Thread Cert.SmallKernelIdeal.nD Cert.SmallKernelIdeal.τ).loc Cert.SmallKernelIdeal.main_arg6)
          ∧ r.2.mem ((c.tc : Thread Cert.SmallKernelIdeal.nD Cert.SmallKernelIdeal.τ).loc Cert.SmallKernelIdeal.main_arg7) = m ((c.tc : Thread Cert.SmallKernelIdeal.nD Cert.SmallKernelIdeal.τ).loc Cert.SmallKernelIdeal.main_arg7)
          ∧ r.2.mem ((c.tc : Thread Cert.SmallKernelIdeal.nD Cert.SmallKernelIdeal.τ).loc Cert.SmallKernelIdeal.main_arg8) = m ((c.tc : Thread Cert.SmallKernelIdeal.nD Cert.SmallKernelIdeal.τ).loc Cert.SmallKernelIdeal.main_arg8)
          ∧ r.2.mem ((c.tc : Thread Cert.SmallKernelIdeal.nD Cert.SmallKernelIdeal.τ).loc Cert.SmallKernelIdeal.main_arg9) = m ((c.tc : Thread Cert.SmallKernelIdeal.nD Cert.SmallKernelIdeal.τ).loc Cert.SmallKernelIdeal.main_arg9)
          ∧ r.2.mem ((c.tc : Thread Cert.SmallKernelIdeal.nD Cert.SmallKernelIdeal.τ).loc Cert.SmallKernelIdeal.main_arg10) = m ((c.tc : Thread Cert.SmallKernelIdeal.nD Cert.SmallKernelIdeal.τ).loc Cert.SmallKernelIdeal.main_arg10)
          ∧ r.2.mem ((c.tc : Thread Cert.SmallKernelIdeal.nD Cert.SmallKernelIdeal.τ).loc Cert.SmallKernelIdeal.main_arg11) = m ((c.tc : Thread Cert.SmallKernelIdeal.nD Cert.SmallKernelIdeal.τ).loc Cert.SmallKernelIdeal.main_arg11)
          ∧ r.2.mem ((c.tc : Thread Cert.SmallKernelIdeal.nD Cert.SmallKernelIdeal.τ).loc Cert.SmallKernelIdeal.main_arg12) = m ((c.tc : Thread Cert.SmallKernelIdeal.nD Cert.SmallKernelIdeal.τ).loc Cert.SmallKernelIdeal.main_arg12)
          ∧ r.2.mem ((c.tc : Thread Cert.SmallKernelIdeal.nD Cert.SmallKernelIdeal.τ).loc Cert.SmallKernelIdeal.main_arg13) = m ((c.tc : Thread Cert.SmallKernelIdeal.nD Cert.SmallKernelIdeal.τ).loc Cert.SmallKernelIdeal.main_arg13))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v9) = v0 c
          ∧ r.2.mem ((c.tc : Thread Cert.SmallReferenceIdeal.nD Cert.SmallReferenceIdeal.τ).loc Cert.SmallReferenceIdeal.main_v10) = v1 c
          ∧ r.2.mem ((c.tc : Thread Cert.SmallReferenceIdeal.nD Cert.SmallReferenceIdeal.τ).loc Cert.SmallReferenceIdeal.main_v34) = v2 c
          ∧ r.2.mem ((c.tc : Thread Cert.SmallReferenceIdeal.nD Cert.SmallReferenceIdeal.τ).loc Cert.SmallReferenceIdeal.main_v15) = v3 c
          ∧ r.2.mem ((c.tc : Thread Cert.SmallReferenceIdeal.nD Cert.SmallReferenceIdeal.τ).loc Cert.SmallReferenceIdeal.main_v21) = v4 c
          ∧ r.2.mem ((c.tc : Thread Cert.SmallReferenceIdeal.nD Cert.SmallReferenceIdeal.τ).loc Cert.SmallReferenceIdeal.main_v35) = v5 c
          ∧ r.2.mem ((c.tc : Thread Cert.SmallReferenceIdeal.nD Cert.SmallReferenceIdeal.τ).loc Cert.SmallReferenceIdeal.main_v59) = v6 c
          ∧ r.2.mem ((c.tc : Thread Cert.SmallReferenceIdeal.nD Cert.SmallReferenceIdeal.τ).loc Cert.SmallReferenceIdeal.main_v40) = v7 c
          ∧ r.2.mem ((c.tc : Thread Cert.SmallReferenceIdeal.nD Cert.SmallReferenceIdeal.τ).loc Cert.SmallReferenceIdeal.main_v46) = v8 c
          ∧ r.2.mem ((c.tc : Thread Cert.SmallReferenceIdeal.nD Cert.SmallReferenceIdeal.τ).loc Cert.SmallReferenceIdeal.main_v60) = v9 c
          ∧ r.2.mem ((c.tc : Thread Cert.SmallReferenceIdeal.nD Cert.SmallReferenceIdeal.τ).loc Cert.SmallReferenceIdeal.main_v84) = v10 c
          ∧ r.2.mem ((c.tc : Thread Cert.SmallReferenceIdeal.nD Cert.SmallReferenceIdeal.τ).loc Cert.SmallReferenceIdeal.main_v65) = v11 c
          ∧ r.2.mem ((c.tc : Thread Cert.SmallReferenceIdeal.nD Cert.SmallReferenceIdeal.τ).loc Cert.SmallReferenceIdeal.main_v71) = v12 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13))

def preserves_RowsKernel_RowsKernelIdeal : Prop :=
  True

def algebraic_RowsKernelIdeal_RowsReferenceIdeal [hRowsKernelIdeal : Cert.RowsKernelIdeal.Facts] [hRowsReferenceIdeal : Cert.RowsReferenceIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsKernelIdeal m →
    (∀ c : Dev Cert.RowsKernelIdeal.nD,
      m' ((c.tc : Thread Cert.RowsReferenceIdeal.nD Cert.RowsReferenceIdeal.τ).loc Cert.RowsReferenceIdeal.main_arg0) = m ((c.tc : Thread Cert.RowsKernelIdeal.nD Cert.RowsKernelIdeal.τ).loc Cert.RowsKernelIdeal.main_arg0)
      ∧ m' ((c.tc : Thread Cert.RowsReferenceIdeal.nD Cert.RowsReferenceIdeal.τ).loc Cert.RowsReferenceIdeal.main_arg1) = m ((c.tc : Thread Cert.RowsKernelIdeal.nD Cert.RowsKernelIdeal.τ).loc Cert.RowsKernelIdeal.main_arg1)
      ∧ m' ((c.tc : Thread Cert.RowsReferenceIdeal.nD Cert.RowsReferenceIdeal.τ).loc Cert.RowsReferenceIdeal.main_arg2) = m ((c.tc : Thread Cert.RowsKernelIdeal.nD Cert.RowsKernelIdeal.τ).loc Cert.RowsKernelIdeal.main_arg2)
      ∧ m' ((c.tc : Thread Cert.RowsReferenceIdeal.nD Cert.RowsReferenceIdeal.τ).loc Cert.RowsReferenceIdeal.main_arg3) = m ((c.tc : Thread Cert.RowsKernelIdeal.nD Cert.RowsKernelIdeal.τ).loc Cert.RowsKernelIdeal.main_arg3)
      ∧ m' ((c.tc : Thread Cert.RowsReferenceIdeal.nD Cert.RowsReferenceIdeal.τ).loc Cert.RowsReferenceIdeal.main_arg4) = m ((c.tc : Thread Cert.RowsKernelIdeal.nD Cert.RowsKernelIdeal.τ).loc Cert.RowsKernelIdeal.main_arg4)
      ∧ m' ((c.tc : Thread Cert.RowsReferenceIdeal.nD Cert.RowsReferenceIdeal.τ).loc Cert.RowsReferenceIdeal.main_arg5) = m ((c.tc : Thread Cert.RowsKernelIdeal.nD Cert.RowsKernelIdeal.τ).loc Cert.RowsKernelIdeal.main_arg5)
      ∧ m' ((c.tc : Thread Cert.RowsReferenceIdeal.nD Cert.RowsReferenceIdeal.τ).loc Cert.RowsReferenceIdeal.main_arg6) = m ((c.tc : Thread Cert.RowsKernelIdeal.nD Cert.RowsKernelIdeal.τ).loc Cert.RowsKernelIdeal.main_arg6)
      ∧ m' ((c.tc : Thread Cert.RowsReferenceIdeal.nD Cert.RowsReferenceIdeal.τ).loc Cert.RowsReferenceIdeal.main_arg7) = m ((c.tc : Thread Cert.RowsKernelIdeal.nD Cert.RowsKernelIdeal.τ).loc Cert.RowsKernelIdeal.main_arg7)
      ∧ m' ((c.tc : Thread Cert.RowsReferenceIdeal.nD Cert.RowsReferenceIdeal.τ).loc Cert.RowsReferenceIdeal.main_arg8) = m ((c.tc : Thread Cert.RowsKernelIdeal.nD Cert.RowsKernelIdeal.τ).loc Cert.RowsKernelIdeal.main_arg8)
      ∧ m' ((c.tc : Thread Cert.RowsReferenceIdeal.nD Cert.RowsReferenceIdeal.τ).loc Cert.RowsReferenceIdeal.main_arg9) = m ((c.tc : Thread Cert.RowsKernelIdeal.nD Cert.RowsKernelIdeal.τ).loc Cert.RowsKernelIdeal.main_arg9)
      ∧ m' ((c.tc : Thread Cert.RowsReferenceIdeal.nD Cert.RowsReferenceIdeal.τ).loc Cert.RowsReferenceIdeal.main_arg10) = m ((c.tc : Thread Cert.RowsKernelIdeal.nD Cert.RowsKernelIdeal.τ).loc Cert.RowsKernelIdeal.main_arg10)
      ∧ m' ((c.tc : Thread Cert.RowsReferenceIdeal.nD Cert.RowsReferenceIdeal.τ).loc Cert.RowsReferenceIdeal.main_arg11) = m ((c.tc : Thread Cert.RowsKernelIdeal.nD Cert.RowsKernelIdeal.τ).loc Cert.RowsKernelIdeal.main_arg11)
      ∧ m' ((c.tc : Thread Cert.RowsReferenceIdeal.nD Cert.RowsReferenceIdeal.τ).loc Cert.RowsReferenceIdeal.main_arg12) = m ((c.tc : Thread Cert.RowsKernelIdeal.nD Cert.RowsKernelIdeal.τ).loc Cert.RowsKernelIdeal.main_arg12)
      ∧ m' ((c.tc : Thread Cert.RowsReferenceIdeal.nD Cert.RowsReferenceIdeal.τ).loc Cert.RowsReferenceIdeal.main_arg13) = m ((c.tc : Thread Cert.RowsKernelIdeal.nD Cert.RowsKernelIdeal.τ).loc Cert.RowsKernelIdeal.main_arg13)) →
    ∃ (v0 : (c : Dev Cert.RowsKernelIdeal.nD) → Buf (Elt Ideal) ((c.tc : Thread Cert.RowsKernelIdeal.nD Cert.RowsKernelIdeal.τ).loc Cert.RowsKernelIdeal.main_v9_0)) (v1 : (c : Dev Cert.RowsKernelIdeal.nD) → Buf (Elt Ideal) ((c.tc : Thread Cert.RowsKernelIdeal.nD Cert.RowsKernelIdeal.τ).loc Cert.RowsKernelIdeal.main_v9_1)) (v2 : (c : Dev Cert.RowsKernelIdeal.nD) → Buf (Elt Ideal) ((c.tc : Thread Cert.RowsKernelIdeal.nD Cert.RowsKernelIdeal.τ).loc Cert.RowsKernelIdeal.main_v9_2)) (v3 : (c : Dev Cert.RowsKernelIdeal.nD) → Buf (Elt Ideal) ((c.tc : Thread Cert.RowsKernelIdeal.nD Cert.RowsKernelIdeal.τ).loc Cert.RowsKernelIdeal.main_v9_3)) (v4 : (c : Dev Cert.RowsKernelIdeal.nD) → Buf (Elt Ideal) ((c.tc : Thread Cert.RowsKernelIdeal.nD Cert.RowsKernelIdeal.τ).loc Cert.RowsKernelIdeal.main_v9_4)) (v5 : (c : Dev Cert.RowsKernelIdeal.nD) → Buf (Elt Ideal) ((c.tc : Thread Cert.RowsKernelIdeal.nD Cert.RowsKernelIdeal.τ).loc Cert.RowsKernelIdeal.main_v9_5)) (v6 : (c : Dev Cert.RowsKernelIdeal.nD) → Buf (Elt Ideal) ((c.tc : Thread Cert.RowsKernelIdeal.nD Cert.RowsKernelIdeal.τ).loc Cert.RowsKernelIdeal.main_v9_6)) (v7 : (c : Dev Cert.RowsKernelIdeal.nD) → Buf (Elt Ideal) ((c.tc : Thread Cert.RowsKernelIdeal.nD Cert.RowsKernelIdeal.τ).loc Cert.RowsKernelIdeal.main_v9_7)) (v8 : (c : Dev Cert.RowsKernelIdeal.nD) → Buf (Elt Ideal) ((c.tc : Thread Cert.RowsKernelIdeal.nD Cert.RowsKernelIdeal.τ).loc Cert.RowsKernelIdeal.main_v9_8)) (v9 : (c : Dev Cert.RowsKernelIdeal.nD) → Buf (Elt Ideal) ((c.tc : Thread Cert.RowsKernelIdeal.nD Cert.RowsKernelIdeal.τ).loc Cert.RowsKernelIdeal.main_v9_9)) (v10 : (c : Dev Cert.RowsKernelIdeal.nD) → Buf (Elt Ideal) ((c.tc : Thread Cert.RowsKernelIdeal.nD Cert.RowsKernelIdeal.τ).loc Cert.RowsKernelIdeal.main_v9_10)) (v11 : (c : Dev Cert.RowsKernelIdeal.nD) → Buf (Elt Ideal) ((c.tc : Thread Cert.RowsKernelIdeal.nD Cert.RowsKernelIdeal.τ).loc Cert.RowsKernelIdeal.main_v9_11)) (v12 : (c : Dev Cert.RowsKernelIdeal.nD) → Buf (Elt Ideal) ((c.tc : Thread Cert.RowsKernelIdeal.nD Cert.RowsKernelIdeal.τ).loc Cert.RowsKernelIdeal.main_v9_12)),
      θ_run (Cert.RowsKernelIdeal.defs (F := Ideal)) (onTc (τ := Cert.RowsKernelIdeal.τ) (Cert.RowsKernelIdeal.main (F := Ideal))) ⟨m, fun _ => 0, g⟩ (fun r => ∀ c : Dev Cert.RowsKernelIdeal.nD,
          r.2.mem ((c.tc : Thread Cert.RowsKernelIdeal.nD Cert.RowsKernelIdeal.τ).loc Cert.RowsKernelIdeal.main_v9_0) = v0 c
          ∧ r.2.mem ((c.tc : Thread Cert.RowsKernelIdeal.nD Cert.RowsKernelIdeal.τ).loc Cert.RowsKernelIdeal.main_v9_1) = v1 c
          ∧ r.2.mem ((c.tc : Thread Cert.RowsKernelIdeal.nD Cert.RowsKernelIdeal.τ).loc Cert.RowsKernelIdeal.main_v9_2) = v2 c
          ∧ r.2.mem ((c.tc : Thread Cert.RowsKernelIdeal.nD Cert.RowsKernelIdeal.τ).loc Cert.RowsKernelIdeal.main_v9_3) = v3 c
          ∧ r.2.mem ((c.tc : Thread Cert.RowsKernelIdeal.nD Cert.RowsKernelIdeal.τ).loc Cert.RowsKernelIdeal.main_v9_4) = v4 c
          ∧ r.2.mem ((c.tc : Thread Cert.RowsKernelIdeal.nD Cert.RowsKernelIdeal.τ).loc Cert.RowsKernelIdeal.main_v9_5) = v5 c
          ∧ r.2.mem ((c.tc : Thread Cert.RowsKernelIdeal.nD Cert.RowsKernelIdeal.τ).loc Cert.RowsKernelIdeal.main_v9_6) = v6 c
          ∧ r.2.mem ((c.tc : Thread Cert.RowsKernelIdeal.nD Cert.RowsKernelIdeal.τ).loc Cert.RowsKernelIdeal.main_v9_7) = v7 c
          ∧ r.2.mem ((c.tc : Thread Cert.RowsKernelIdeal.nD Cert.RowsKernelIdeal.τ).loc Cert.RowsKernelIdeal.main_v9_8) = v8 c
          ∧ r.2.mem ((c.tc : Thread Cert.RowsKernelIdeal.nD Cert.RowsKernelIdeal.τ).loc Cert.RowsKernelIdeal.main_v9_9) = v9 c
          ∧ r.2.mem ((c.tc : Thread Cert.RowsKernelIdeal.nD Cert.RowsKernelIdeal.τ).loc Cert.RowsKernelIdeal.main_v9_10) = v10 c
          ∧ r.2.mem ((c.tc : Thread Cert.RowsKernelIdeal.nD Cert.RowsKernelIdeal.τ).loc Cert.RowsKernelIdeal.main_v9_11) = v11 c
          ∧ r.2.mem ((c.tc : Thread Cert.RowsKernelIdeal.nD Cert.RowsKernelIdeal.τ).loc Cert.RowsKernelIdeal.main_v9_12) = v12 c
          ∧ r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
          ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
          ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
          ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3)
          ∧ r.2.mem ((c.tc : Thread Cert.RowsKernelIdeal.nD Cert.RowsKernelIdeal.τ).loc Cert.RowsKernelIdeal.main_arg4) = m ((c.tc : Thread Cert.RowsKernelIdeal.nD Cert.RowsKernelIdeal.τ).loc Cert.RowsKernelIdeal.main_arg4)
          ∧ r.2.mem ((c.tc : Thread Cert.RowsKernelIdeal.nD Cert.RowsKernelIdeal.τ).loc Cert.RowsKernelIdeal.main_arg5) = m ((c.tc : Thread Cert.RowsKernelIdeal.nD Cert.RowsKernelIdeal.τ).loc Cert.RowsKernelIdeal.main_arg5)
          ∧ r.2.mem ((c.tc : Thread Cert.RowsKernelIdeal.nD Cert.RowsKernelIdeal.τ).loc Cert.RowsKernelIdeal.main_arg6) = m ((c.tc : Thread Cert.RowsKernelIdeal.nD Cert.RowsKernelIdeal.τ).loc Cert.RowsKernelIdeal.main_arg6)
          ∧ r.2.mem ((c.tc : Thread Cert.RowsKernelIdeal.nD Cert.RowsKernelIdeal.τ).loc Cert.RowsKernelIdeal.main_arg7) = m ((c.tc : Thread Cert.RowsKernelIdeal.nD Cert.RowsKernelIdeal.τ).loc Cert.RowsKernelIdeal.main_arg7)
          ∧ r.2.mem ((c.tc : Thread Cert.RowsKernelIdeal.nD Cert.RowsKernelIdeal.τ).loc Cert.RowsKernelIdeal.main_arg8) = m ((c.tc : Thread Cert.RowsKernelIdeal.nD Cert.RowsKernelIdeal.τ).loc Cert.RowsKernelIdeal.main_arg8)
          ∧ r.2.mem ((c.tc : Thread Cert.RowsKernelIdeal.nD Cert.RowsKernelIdeal.τ).loc Cert.RowsKernelIdeal.main_arg9) = m ((c.tc : Thread Cert.RowsKernelIdeal.nD Cert.RowsKernelIdeal.τ).loc Cert.RowsKernelIdeal.main_arg9)
          ∧ r.2.mem ((c.tc : Thread Cert.RowsKernelIdeal.nD Cert.RowsKernelIdeal.τ).loc Cert.RowsKernelIdeal.main_arg10) = m ((c.tc : Thread Cert.RowsKernelIdeal.nD Cert.RowsKernelIdeal.τ).loc Cert.RowsKernelIdeal.main_arg10)
          ∧ r.2.mem ((c.tc : Thread Cert.RowsKernelIdeal.nD Cert.RowsKernelIdeal.τ).loc Cert.RowsKernelIdeal.main_arg11) = m ((c.tc : Thread Cert.RowsKernelIdeal.nD Cert.RowsKernelIdeal.τ).loc Cert.RowsKernelIdeal.main_arg11)
          ∧ r.2.mem ((c.tc : Thread Cert.RowsKernelIdeal.nD Cert.RowsKernelIdeal.τ).loc Cert.RowsKernelIdeal.main_arg12) = m ((c.tc : Thread Cert.RowsKernelIdeal.nD Cert.RowsKernelIdeal.τ).loc Cert.RowsKernelIdeal.main_arg12)
          ∧ r.2.mem ((c.tc : Thread Cert.RowsKernelIdeal.nD Cert.RowsKernelIdeal.τ).loc Cert.RowsKernelIdeal.main_arg13) = m ((c.tc : Thread Cert.RowsKernelIdeal.nD Cert.RowsKernelIdeal.τ).loc Cert.RowsKernelIdeal.main_arg13))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v9) = v0 c
          ∧ r.2.mem ((c.tc : Thread Cert.RowsReferenceIdeal.nD Cert.RowsReferenceIdeal.τ).loc Cert.RowsReferenceIdeal.main_v10) = v1 c
          ∧ r.2.mem ((c.tc : Thread Cert.RowsReferenceIdeal.nD Cert.RowsReferenceIdeal.τ).loc Cert.RowsReferenceIdeal.main_v34) = v2 c
          ∧ r.2.mem ((c.tc : Thread Cert.RowsReferenceIdeal.nD Cert.RowsReferenceIdeal.τ).loc Cert.RowsReferenceIdeal.main_v15) = v3 c
          ∧ r.2.mem ((c.tc : Thread Cert.RowsReferenceIdeal.nD Cert.RowsReferenceIdeal.τ).loc Cert.RowsReferenceIdeal.main_v21) = v4 c
          ∧ r.2.mem ((c.tc : Thread Cert.RowsReferenceIdeal.nD Cert.RowsReferenceIdeal.τ).loc Cert.RowsReferenceIdeal.main_v35) = v5 c
          ∧ r.2.mem ((c.tc : Thread Cert.RowsReferenceIdeal.nD Cert.RowsReferenceIdeal.τ).loc Cert.RowsReferenceIdeal.main_v59) = v6 c
          ∧ r.2.mem ((c.tc : Thread Cert.RowsReferenceIdeal.nD Cert.RowsReferenceIdeal.τ).loc Cert.RowsReferenceIdeal.main_v40) = v7 c
          ∧ r.2.mem ((c.tc : Thread Cert.RowsReferenceIdeal.nD Cert.RowsReferenceIdeal.τ).loc Cert.RowsReferenceIdeal.main_v46) = v8 c
          ∧ r.2.mem ((c.tc : Thread Cert.RowsReferenceIdeal.nD Cert.RowsReferenceIdeal.τ).loc Cert.RowsReferenceIdeal.main_v60) = v9 c
          ∧ r.2.mem ((c.tc : Thread Cert.RowsReferenceIdeal.nD Cert.RowsReferenceIdeal.τ).loc Cert.RowsReferenceIdeal.main_v84) = v10 c
          ∧ r.2.mem ((c.tc : Thread Cert.RowsReferenceIdeal.nD Cert.RowsReferenceIdeal.τ).loc Cert.RowsReferenceIdeal.main_v65) = v11 c
          ∧ r.2.mem ((c.tc : Thread Cert.RowsReferenceIdeal.nD Cert.RowsReferenceIdeal.τ).loc Cert.RowsReferenceIdeal.main_v71) = v12 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3)
          ∧ r.2.mem ((c.tc : Thread Cert.RowsReferenceIdeal.nD Cert.RowsReferenceIdeal.τ).loc Cert.RowsReferenceIdeal.main_arg4) = m' ((c.tc : Thread Cert.RowsReferenceIdeal.nD Cert.RowsReferenceIdeal.τ).loc Cert.RowsReferenceIdeal.main_arg4)
          ∧ r.2.mem ((c.tc : Thread Cert.RowsReferenceIdeal.nD Cert.RowsReferenceIdeal.τ).loc Cert.RowsReferenceIdeal.main_arg5) = m' ((c.tc : Thread Cert.RowsReferenceIdeal.nD Cert.RowsReferenceIdeal.τ).loc Cert.RowsReferenceIdeal.main_arg5)
          ∧ r.2.mem ((c.tc : Thread Cert.RowsReferenceIdeal.nD Cert.RowsReferenceIdeal.τ).loc Cert.RowsReferenceIdeal.main_arg6) = m' ((c.tc : Thread Cert.RowsReferenceIdeal.nD Cert.RowsReferenceIdeal.τ).loc Cert.RowsReferenceIdeal.main_arg6)
          ∧ r.2.mem ((c.tc : Thread Cert.RowsReferenceIdeal.nD Cert.RowsReferenceIdeal.τ).loc Cert.RowsReferenceIdeal.main_arg7) = m' ((c.tc : Thread Cert.RowsReferenceIdeal.nD Cert.RowsReferenceIdeal.τ).loc Cert.RowsReferenceIdeal.main_arg7)
          ∧ r.2.mem ((c.tc : Thread Cert.RowsReferenceIdeal.nD Cert.RowsReferenceIdeal.τ).loc Cert.RowsReferenceIdeal.main_arg8) = m' ((c.tc : Thread Cert.RowsReferenceIdeal.nD Cert.RowsReferenceIdeal.τ).loc Cert.RowsReferenceIdeal.main_arg8)
          ∧ r.2.mem ((c.tc : Thread Cert.RowsReferenceIdeal.nD Cert.RowsReferenceIdeal.τ).loc Cert.RowsReferenceIdeal.main_arg9) = m' ((c.tc : Thread Cert.RowsReferenceIdeal.nD Cert.RowsReferenceIdeal.τ).loc Cert.RowsReferenceIdeal.main_arg9)
          ∧ r.2.mem ((c.tc : Thread Cert.RowsReferenceIdeal.nD Cert.RowsReferenceIdeal.τ).loc Cert.RowsReferenceIdeal.main_arg10) = m' ((c.tc : Thread Cert.RowsReferenceIdeal.nD Cert.RowsReferenceIdeal.τ).loc Cert.RowsReferenceIdeal.main_arg10)
          ∧ r.2.mem ((c.tc : Thread Cert.RowsReferenceIdeal.nD Cert.RowsReferenceIdeal.τ).loc Cert.RowsReferenceIdeal.main_arg11) = m' ((c.tc : Thread Cert.RowsReferenceIdeal.nD Cert.RowsReferenceIdeal.τ).loc Cert.RowsReferenceIdeal.main_arg11)
          ∧ r.2.mem ((c.tc : Thread Cert.RowsReferenceIdeal.nD Cert.RowsReferenceIdeal.τ).loc Cert.RowsReferenceIdeal.main_arg12) = m' ((c.tc : Thread Cert.RowsReferenceIdeal.nD Cert.RowsReferenceIdeal.τ).loc Cert.RowsReferenceIdeal.main_arg12)
          ∧ r.2.mem ((c.tc : Thread Cert.RowsReferenceIdeal.nD Cert.RowsReferenceIdeal.τ).loc Cert.RowsReferenceIdeal.main_arg13) = m' ((c.tc : Thread Cert.RowsReferenceIdeal.nD Cert.RowsReferenceIdeal.τ).loc Cert.RowsReferenceIdeal.main_arg13))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)
      ∧ m' ((c.tc : Thread Cert.MemReferenceIdeal.nD Cert.MemReferenceIdeal.τ).loc Cert.MemReferenceIdeal.main_arg5) = m ((c.tc : Thread Cert.MemKernelIdeal.nD Cert.MemKernelIdeal.τ).loc Cert.MemKernelIdeal.main_arg5)
      ∧ m' ((c.tc : Thread Cert.MemReferenceIdeal.nD Cert.MemReferenceIdeal.τ).loc Cert.MemReferenceIdeal.main_arg6) = m ((c.tc : Thread Cert.MemKernelIdeal.nD Cert.MemKernelIdeal.τ).loc Cert.MemKernelIdeal.main_arg6)
      ∧ m' ((c.tc : Thread Cert.MemReferenceIdeal.nD Cert.MemReferenceIdeal.τ).loc Cert.MemReferenceIdeal.main_arg7) = m ((c.tc : Thread Cert.MemKernelIdeal.nD Cert.MemKernelIdeal.τ).loc Cert.MemKernelIdeal.main_arg7)
      ∧ m' ((c.tc : Thread Cert.MemReferenceIdeal.nD Cert.MemReferenceIdeal.τ).loc Cert.MemReferenceIdeal.main_arg8) = m ((c.tc : Thread Cert.MemKernelIdeal.nD Cert.MemKernelIdeal.τ).loc Cert.MemKernelIdeal.main_arg8)
      ∧ m' ((c.tc : Thread Cert.MemReferenceIdeal.nD Cert.MemReferenceIdeal.τ).loc Cert.MemReferenceIdeal.main_arg9) = m ((c.tc : Thread Cert.MemKernelIdeal.nD Cert.MemKernelIdeal.τ).loc Cert.MemKernelIdeal.main_arg9)
      ∧ m' ((c.tc : Thread Cert.MemReferenceIdeal.nD Cert.MemReferenceIdeal.τ).loc Cert.MemReferenceIdeal.main_arg10) = m ((c.tc : Thread Cert.MemKernelIdeal.nD Cert.MemKernelIdeal.τ).loc Cert.MemKernelIdeal.main_arg10)
      ∧ m' ((c.tc : Thread Cert.MemReferenceIdeal.nD Cert.MemReferenceIdeal.τ).loc Cert.MemReferenceIdeal.main_arg11) = m ((c.tc : Thread Cert.MemKernelIdeal.nD Cert.MemKernelIdeal.τ).loc Cert.MemKernelIdeal.main_arg11)
      ∧ m' ((c.tc : Thread Cert.MemReferenceIdeal.nD Cert.MemReferenceIdeal.τ).loc Cert.MemReferenceIdeal.main_arg12) = m ((c.tc : Thread Cert.MemKernelIdeal.nD Cert.MemKernelIdeal.τ).loc Cert.MemKernelIdeal.main_arg12)
      ∧ m' ((c.tc : Thread Cert.MemReferenceIdeal.nD Cert.MemReferenceIdeal.τ).loc Cert.MemReferenceIdeal.main_arg13) = m ((c.tc : Thread Cert.MemKernelIdeal.nD Cert.MemKernelIdeal.τ).loc Cert.MemKernelIdeal.main_arg13)) →
    ∃ (v0 : (c : Dev Cert.MemKernelIdeal.nD) → Buf (Elt Ideal) ((c.tc : Thread Cert.MemKernelIdeal.nD Cert.MemKernelIdeal.τ).loc Cert.MemKernelIdeal.main_v9_0)) (v1 : (c : Dev Cert.MemKernelIdeal.nD) → Buf (Elt Ideal) ((c.tc : Thread Cert.MemKernelIdeal.nD Cert.MemKernelIdeal.τ).loc Cert.MemKernelIdeal.main_v9_1)) (v2 : (c : Dev Cert.MemKernelIdeal.nD) → Buf (Elt Ideal) ((c.tc : Thread Cert.MemKernelIdeal.nD Cert.MemKernelIdeal.τ).loc Cert.MemKernelIdeal.main_v9_2)) (v3 : (c : Dev Cert.MemKernelIdeal.nD) → Buf (Elt Ideal) ((c.tc : Thread Cert.MemKernelIdeal.nD Cert.MemKernelIdeal.τ).loc Cert.MemKernelIdeal.main_v9_3)) (v4 : (c : Dev Cert.MemKernelIdeal.nD) → Buf (Elt Ideal) ((c.tc : Thread Cert.MemKernelIdeal.nD Cert.MemKernelIdeal.τ).loc Cert.MemKernelIdeal.main_v9_4)) (v5 : (c : Dev Cert.MemKernelIdeal.nD) → Buf (Elt Ideal) ((c.tc : Thread Cert.MemKernelIdeal.nD Cert.MemKernelIdeal.τ).loc Cert.MemKernelIdeal.main_v9_5)) (v6 : (c : Dev Cert.MemKernelIdeal.nD) → Buf (Elt Ideal) ((c.tc : Thread Cert.MemKernelIdeal.nD Cert.MemKernelIdeal.τ).loc Cert.MemKernelIdeal.main_v9_6)) (v7 : (c : Dev Cert.MemKernelIdeal.nD) → Buf (Elt Ideal) ((c.tc : Thread Cert.MemKernelIdeal.nD Cert.MemKernelIdeal.τ).loc Cert.MemKernelIdeal.main_v9_7)) (v8 : (c : Dev Cert.MemKernelIdeal.nD) → Buf (Elt Ideal) ((c.tc : Thread Cert.MemKernelIdeal.nD Cert.MemKernelIdeal.τ).loc Cert.MemKernelIdeal.main_v9_8)) (v9 : (c : Dev Cert.MemKernelIdeal.nD) → Buf (Elt Ideal) ((c.tc : Thread Cert.MemKernelIdeal.nD Cert.MemKernelIdeal.τ).loc Cert.MemKernelIdeal.main_v9_9)) (v10 : (c : Dev Cert.MemKernelIdeal.nD) → Buf (Elt Ideal) ((c.tc : Thread Cert.MemKernelIdeal.nD Cert.MemKernelIdeal.τ).loc Cert.MemKernelIdeal.main_v9_10)) (v11 : (c : Dev Cert.MemKernelIdeal.nD) → Buf (Elt Ideal) ((c.tc : Thread Cert.MemKernelIdeal.nD Cert.MemKernelIdeal.τ).loc Cert.MemKernelIdeal.main_v9_11)) (v12 : (c : Dev Cert.MemKernelIdeal.nD) → Buf (Elt Ideal) ((c.tc : Thread Cert.MemKernelIdeal.nD Cert.MemKernelIdeal.τ).loc Cert.MemKernelIdeal.main_v9_12)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v9_0) = v0 c
          ∧ r.2.mem ((c.tc : Thread Cert.MemKernelIdeal.nD Cert.MemKernelIdeal.τ).loc Cert.MemKernelIdeal.main_v9_1) = v1 c
          ∧ r.2.mem ((c.tc : Thread Cert.MemKernelIdeal.nD Cert.MemKernelIdeal.τ).loc Cert.MemKernelIdeal.main_v9_2) = v2 c
          ∧ r.2.mem ((c.tc : Thread Cert.MemKernelIdeal.nD Cert.MemKernelIdeal.τ).loc Cert.MemKernelIdeal.main_v9_3) = v3 c
          ∧ r.2.mem ((c.tc : Thread Cert.MemKernelIdeal.nD Cert.MemKernelIdeal.τ).loc Cert.MemKernelIdeal.main_v9_4) = v4 c
          ∧ r.2.mem ((c.tc : Thread Cert.MemKernelIdeal.nD Cert.MemKernelIdeal.τ).loc Cert.MemKernelIdeal.main_v9_5) = v5 c
          ∧ r.2.mem ((c.tc : Thread Cert.MemKernelIdeal.nD Cert.MemKernelIdeal.τ).loc Cert.MemKernelIdeal.main_v9_6) = v6 c
          ∧ r.2.mem ((c.tc : Thread Cert.MemKernelIdeal.nD Cert.MemKernelIdeal.τ).loc Cert.MemKernelIdeal.main_v9_7) = v7 c
          ∧ r.2.mem ((c.tc : Thread Cert.MemKernelIdeal.nD Cert.MemKernelIdeal.τ).loc Cert.MemKernelIdeal.main_v9_8) = v8 c
          ∧ r.2.mem ((c.tc : Thread Cert.MemKernelIdeal.nD Cert.MemKernelIdeal.τ).loc Cert.MemKernelIdeal.main_v9_9) = v9 c
          ∧ r.2.mem ((c.tc : Thread Cert.MemKernelIdeal.nD Cert.MemKernelIdeal.τ).loc Cert.MemKernelIdeal.main_v9_10) = v10 c
          ∧ r.2.mem ((c.tc : Thread Cert.MemKernelIdeal.nD Cert.MemKernelIdeal.τ).loc Cert.MemKernelIdeal.main_v9_11) = v11 c
          ∧ r.2.mem ((c.tc : Thread Cert.MemKernelIdeal.nD Cert.MemKernelIdeal.τ).loc Cert.MemKernelIdeal.main_v9_12) = v12 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
          ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
          ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
          ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
          ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
          ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9)
          ∧ r.2.mem ((c.tc : Thread Cert.MemKernelIdeal.nD Cert.MemKernelIdeal.τ).loc Cert.MemKernelIdeal.main_arg10) = m ((c.tc : Thread Cert.MemKernelIdeal.nD Cert.MemKernelIdeal.τ).loc Cert.MemKernelIdeal.main_arg10)
          ∧ r.2.mem ((c.tc : Thread Cert.MemKernelIdeal.nD Cert.MemKernelIdeal.τ).loc Cert.MemKernelIdeal.main_arg11) = m ((c.tc : Thread Cert.MemKernelIdeal.nD Cert.MemKernelIdeal.τ).loc Cert.MemKernelIdeal.main_arg11)
          ∧ r.2.mem ((c.tc : Thread Cert.MemKernelIdeal.nD Cert.MemKernelIdeal.τ).loc Cert.MemKernelIdeal.main_arg12) = m ((c.tc : Thread Cert.MemKernelIdeal.nD Cert.MemKernelIdeal.τ).loc Cert.MemKernelIdeal.main_arg12)
          ∧ r.2.mem ((c.tc : Thread Cert.MemKernelIdeal.nD Cert.MemKernelIdeal.τ).loc Cert.MemKernelIdeal.main_arg13) = m ((c.tc : Thread Cert.MemKernelIdeal.nD Cert.MemKernelIdeal.τ).loc Cert.MemKernelIdeal.main_arg13))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v9) = v0 c
          ∧ r.2.mem ((c.tc : Thread Cert.MemReferenceIdeal.nD Cert.MemReferenceIdeal.τ).loc Cert.MemReferenceIdeal.main_v10) = v1 c
          ∧ r.2.mem ((c.tc : Thread Cert.MemReferenceIdeal.nD Cert.MemReferenceIdeal.τ).loc Cert.MemReferenceIdeal.main_v34) = v2 c
          ∧ r.2.mem ((c.tc : Thread Cert.MemReferenceIdeal.nD Cert.MemReferenceIdeal.τ).loc Cert.MemReferenceIdeal.main_v15) = v3 c
          ∧ r.2.mem ((c.tc : Thread Cert.MemReferenceIdeal.nD Cert.MemReferenceIdeal.τ).loc Cert.MemReferenceIdeal.main_v21) = v4 c
          ∧ r.2.mem ((c.tc : Thread Cert.MemReferenceIdeal.nD Cert.MemReferenceIdeal.τ).loc Cert.MemReferenceIdeal.main_v35) = v5 c
          ∧ r.2.mem ((c.tc : Thread Cert.MemReferenceIdeal.nD Cert.MemReferenceIdeal.τ).loc Cert.MemReferenceIdeal.main_v59) = v6 c
          ∧ r.2.mem ((c.tc : Thread Cert.MemReferenceIdeal.nD Cert.MemReferenceIdeal.τ).loc Cert.MemReferenceIdeal.main_v40) = v7 c
          ∧ r.2.mem ((c.tc : Thread Cert.MemReferenceIdeal.nD Cert.MemReferenceIdeal.τ).loc Cert.MemReferenceIdeal.main_v46) = v8 c
          ∧ r.2.mem ((c.tc : Thread Cert.MemReferenceIdeal.nD Cert.MemReferenceIdeal.τ).loc Cert.MemReferenceIdeal.main_v60) = v9 c
          ∧ r.2.mem ((c.tc : Thread Cert.MemReferenceIdeal.nD Cert.MemReferenceIdeal.τ).loc Cert.MemReferenceIdeal.main_v84) = v10 c
          ∧ r.2.mem ((c.tc : Thread Cert.MemReferenceIdeal.nD Cert.MemReferenceIdeal.τ).loc Cert.MemReferenceIdeal.main_v65) = v11 c
          ∧ r.2.mem ((c.tc : Thread Cert.MemReferenceIdeal.nD Cert.MemReferenceIdeal.τ).loc Cert.MemReferenceIdeal.main_v71) = v12 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6)
          ∧ r.2.mem ((c.tc : Thread Cert.MemReferenceIdeal.nD Cert.MemReferenceIdeal.τ).loc Cert.MemReferenceIdeal.main_arg7) = m' ((c.tc : Thread Cert.MemReferenceIdeal.nD Cert.MemReferenceIdeal.τ).loc Cert.MemReferenceIdeal.main_arg7)
          ∧ r.2.mem ((c.tc : Thread Cert.MemReferenceIdeal.nD Cert.MemReferenceIdeal.τ).loc Cert.MemReferenceIdeal.main_arg8) = m' ((c.tc : Thread Cert.MemReferenceIdeal.nD Cert.MemReferenceIdeal.τ).loc Cert.MemReferenceIdeal.main_arg8)
          ∧ r.2.mem ((c.tc : Thread Cert.MemReferenceIdeal.nD Cert.MemReferenceIdeal.τ).loc Cert.MemReferenceIdeal.main_arg9) = m' ((c.tc : Thread Cert.MemReferenceIdeal.nD Cert.MemReferenceIdeal.τ).loc Cert.MemReferenceIdeal.main_arg9)
          ∧ r.2.mem ((c.tc : Thread Cert.MemReferenceIdeal.nD Cert.MemReferenceIdeal.τ).loc Cert.MemReferenceIdeal.main_arg10) = m' ((c.tc : Thread Cert.MemReferenceIdeal.nD Cert.MemReferenceIdeal.τ).loc Cert.MemReferenceIdeal.main_arg10)
          ∧ r.2.mem ((c.tc : Thread Cert.MemReferenceIdeal.nD Cert.MemReferenceIdeal.τ).loc Cert.MemReferenceIdeal.main_arg11) = m' ((c.tc : Thread Cert.MemReferenceIdeal.nD Cert.MemReferenceIdeal.τ).loc Cert.MemReferenceIdeal.main_arg11)
          ∧ r.2.mem ((c.tc : Thread Cert.MemReferenceIdeal.nD Cert.MemReferenceIdeal.τ).loc Cert.MemReferenceIdeal.main_arg12) = m' ((c.tc : Thread Cert.MemReferenceIdeal.nD Cert.MemReferenceIdeal.τ).loc Cert.MemReferenceIdeal.main_arg12)
          ∧ r.2.mem ((c.tc : Thread Cert.MemReferenceIdeal.nD Cert.MemReferenceIdeal.τ).loc Cert.MemReferenceIdeal.main_arg13) = m' ((c.tc : Thread Cert.MemReferenceIdeal.nD Cert.MemReferenceIdeal.τ).loc Cert.MemReferenceIdeal.main_arg13))

def preserves_FfKernel_FfKernelIdeal : Prop :=
  True

def algebraic_FfKernelIdeal_FfReferenceIdeal [hFfKernelIdeal : Cert.FfKernelIdeal.Facts] [hFfReferenceIdeal : Cert.FfReferenceIdeal.Facts] : Prop :=
  ∀ (m : (ℓ : Loc Cert.FfKernelIdeal.nD Cert.FfKernelIdeal.τ Cert.FfKernelIdeal.sig) → Buf (Elt Ideal) ℓ) (g : Dev Cert.FfKernelIdeal.nD → PrngReg)
    (m' : (ℓ : Loc Cert.FfReferenceIdeal.nD Cert.FfReferenceIdeal.τ Cert.FfReferenceIdeal.sig) → Buf (Elt Ideal) ℓ) (g' : Dev Cert.FfReferenceIdeal.nD → PrngReg), Pre_FfKernelIdeal m →
    (∀ c : Dev Cert.FfKernelIdeal.nD,
      m' ((c.tc : Thread Cert.FfReferenceIdeal.nD Cert.FfReferenceIdeal.τ).loc Cert.FfReferenceIdeal.main_arg0) = m ((c.tc : Thread Cert.FfKernelIdeal.nD Cert.FfKernelIdeal.τ).loc Cert.FfKernelIdeal.main_arg0)
      ∧ m' ((c.tc : Thread Cert.FfReferenceIdeal.nD Cert.FfReferenceIdeal.τ).loc Cert.FfReferenceIdeal.main_arg1) = m ((c.tc : Thread Cert.FfKernelIdeal.nD Cert.FfKernelIdeal.τ).loc Cert.FfKernelIdeal.main_arg1)
      ∧ m' ((c.tc : Thread Cert.FfReferenceIdeal.nD Cert.FfReferenceIdeal.τ).loc Cert.FfReferenceIdeal.main_arg2) = m ((c.tc : Thread Cert.FfKernelIdeal.nD Cert.FfKernelIdeal.τ).loc Cert.FfKernelIdeal.main_arg2)
      ∧ m' ((c.tc : Thread Cert.FfReferenceIdeal.nD Cert.FfReferenceIdeal.τ).loc Cert.FfReferenceIdeal.main_arg3) = m ((c.tc : Thread Cert.FfKernelIdeal.nD Cert.FfKernelIdeal.τ).loc Cert.FfKernelIdeal.main_arg3)
      ∧ m' ((c.tc : Thread Cert.FfReferenceIdeal.nD Cert.FfReferenceIdeal.τ).loc Cert.FfReferenceIdeal.main_arg4) = m ((c.tc : Thread Cert.FfKernelIdeal.nD Cert.FfKernelIdeal.τ).loc Cert.FfKernelIdeal.main_arg4)
      ∧ m' ((c.tc : Thread Cert.FfReferenceIdeal.nD Cert.FfReferenceIdeal.τ).loc Cert.FfReferenceIdeal.main_arg5) = m ((c.tc : Thread Cert.FfKernelIdeal.nD Cert.FfKernelIdeal.τ).loc Cert.FfKernelIdeal.main_arg5)
      ∧ m' ((c.tc : Thread Cert.FfReferenceIdeal.nD Cert.FfReferenceIdeal.τ).loc Cert.FfReferenceIdeal.main_arg6) = m ((c.tc : Thread Cert.FfKernelIdeal.nD Cert.FfKernelIdeal.τ).loc Cert.FfKernelIdeal.main_arg6)
      ∧ m' ((c.tc : Thread Cert.FfReferenceIdeal.nD Cert.FfReferenceIdeal.τ).loc Cert.FfReferenceIdeal.main_arg7) = m ((c.tc : Thread Cert.FfKernelIdeal.nD Cert.FfKernelIdeal.τ).loc Cert.FfKernelIdeal.main_arg7)
      ∧ m' ((c.tc : Thread Cert.FfReferenceIdeal.nD Cert.FfReferenceIdeal.τ).loc Cert.FfReferenceIdeal.main_arg8) = m ((c.tc : Thread Cert.FfKernelIdeal.nD Cert.FfKernelIdeal.τ).loc Cert.FfKernelIdeal.main_arg8)
      ∧ m' ((c.tc : Thread Cert.FfReferenceIdeal.nD Cert.FfReferenceIdeal.τ).loc Cert.FfReferenceIdeal.main_arg9) = m ((c.tc : Thread Cert.FfKernelIdeal.nD Cert.FfKernelIdeal.τ).loc Cert.FfKernelIdeal.main_arg9)
      ∧ m' ((c.tc : Thread Cert.FfReferenceIdeal.nD Cert.FfReferenceIdeal.τ).loc Cert.FfReferenceIdeal.main_arg10) = m ((c.tc : Thread Cert.FfKernelIdeal.nD Cert.FfKernelIdeal.τ).loc Cert.FfKernelIdeal.main_arg10)) →
    ∃ (v0 : (c : Dev Cert.FfKernelIdeal.nD) → Buf (Elt Ideal) ((c.tc : Thread Cert.FfKernelIdeal.nD Cert.FfKernelIdeal.τ).loc Cert.FfKernelIdeal.main_v9_0)) (v1 : (c : Dev Cert.FfKernelIdeal.nD) → Buf (Elt Ideal) ((c.tc : Thread Cert.FfKernelIdeal.nD Cert.FfKernelIdeal.τ).loc Cert.FfKernelIdeal.main_v9_1)) (v2 : (c : Dev Cert.FfKernelIdeal.nD) → Buf (Elt Ideal) ((c.tc : Thread Cert.FfKernelIdeal.nD Cert.FfKernelIdeal.τ).loc Cert.FfKernelIdeal.main_v9_2)) (v3 : (c : Dev Cert.FfKernelIdeal.nD) → Buf (Elt Ideal) ((c.tc : Thread Cert.FfKernelIdeal.nD Cert.FfKernelIdeal.τ).loc Cert.FfKernelIdeal.main_v9_3)) (v4 : (c : Dev Cert.FfKernelIdeal.nD) → Buf (Elt Ideal) ((c.tc : Thread Cert.FfKernelIdeal.nD Cert.FfKernelIdeal.τ).loc Cert.FfKernelIdeal.main_v9_4)) (v5 : (c : Dev Cert.FfKernelIdeal.nD) → Buf (Elt Ideal) ((c.tc : Thread Cert.FfKernelIdeal.nD Cert.FfKernelIdeal.τ).loc Cert.FfKernelIdeal.main_v9_5)) (v6 : (c : Dev Cert.FfKernelIdeal.nD) → Buf (Elt Ideal) ((c.tc : Thread Cert.FfKernelIdeal.nD Cert.FfKernelIdeal.τ).loc Cert.FfKernelIdeal.main_v9_6)) (v7 : (c : Dev Cert.FfKernelIdeal.nD) → Buf (Elt Ideal) ((c.tc : Thread Cert.FfKernelIdeal.nD Cert.FfKernelIdeal.τ).loc Cert.FfKernelIdeal.main_v9_7)) (v8 : (c : Dev Cert.FfKernelIdeal.nD) → Buf (Elt Ideal) ((c.tc : Thread Cert.FfKernelIdeal.nD Cert.FfKernelIdeal.τ).loc Cert.FfKernelIdeal.main_v9_8)),
      θ_run (Cert.FfKernelIdeal.defs (F := Ideal)) (onTc (τ := Cert.FfKernelIdeal.τ) (Cert.FfKernelIdeal.main (F := Ideal))) ⟨m, fun _ => 0, g⟩ (fun r => ∀ c : Dev Cert.FfKernelIdeal.nD,
          r.2.mem ((c.tc : Thread Cert.FfKernelIdeal.nD Cert.FfKernelIdeal.τ).loc Cert.FfKernelIdeal.main_v9_0) = v0 c
          ∧ r.2.mem ((c.tc : Thread Cert.FfKernelIdeal.nD Cert.FfKernelIdeal.τ).loc Cert.FfKernelIdeal.main_v9_1) = v1 c
          ∧ r.2.mem ((c.tc : Thread Cert.FfKernelIdeal.nD Cert.FfKernelIdeal.τ).loc Cert.FfKernelIdeal.main_v9_2) = v2 c
          ∧ r.2.mem ((c.tc : Thread Cert.FfKernelIdeal.nD Cert.FfKernelIdeal.τ).loc Cert.FfKernelIdeal.main_v9_3) = v3 c
          ∧ r.2.mem ((c.tc : Thread Cert.FfKernelIdeal.nD Cert.FfKernelIdeal.τ).loc Cert.FfKernelIdeal.main_v9_4) = v4 c
          ∧ r.2.mem ((c.tc : Thread Cert.FfKernelIdeal.nD Cert.FfKernelIdeal.τ).loc Cert.FfKernelIdeal.main_v9_5) = v5 c
          ∧ r.2.mem ((c.tc : Thread Cert.FfKernelIdeal.nD Cert.FfKernelIdeal.τ).loc Cert.FfKernelIdeal.main_v9_6) = v6 c
          ∧ r.2.mem ((c.tc : Thread Cert.FfKernelIdeal.nD Cert.FfKernelIdeal.τ).loc Cert.FfKernelIdeal.main_v9_7) = v7 c
          ∧ r.2.mem ((c.tc : Thread Cert.FfKernelIdeal.nD Cert.FfKernelIdeal.τ).loc Cert.FfKernelIdeal.main_v9_8) = v8 c
          ∧ r.2.mem ((c.tc : Thread Cert.FfKernelIdeal.nD Cert.FfKernelIdeal.τ).loc Cert.FfKernelIdeal.main_arg0) = m ((c.tc : Thread Cert.FfKernelIdeal.nD Cert.FfKernelIdeal.τ).loc Cert.FfKernelIdeal.main_arg0)
          ∧ r.2.mem ((c.tc : Thread Cert.FfKernelIdeal.nD Cert.FfKernelIdeal.τ).loc Cert.FfKernelIdeal.main_arg1) = m ((c.tc : Thread Cert.FfKernelIdeal.nD Cert.FfKernelIdeal.τ).loc Cert.FfKernelIdeal.main_arg1)
          ∧ r.2.mem ((c.tc : Thread Cert.FfKernelIdeal.nD Cert.FfKernelIdeal.τ).loc Cert.FfKernelIdeal.main_arg2) = m ((c.tc : Thread Cert.FfKernelIdeal.nD Cert.FfKernelIdeal.τ).loc Cert.FfKernelIdeal.main_arg2)
          ∧ r.2.mem ((c.tc : Thread Cert.FfKernelIdeal.nD Cert.FfKernelIdeal.τ).loc Cert.FfKernelIdeal.main_arg3) = m ((c.tc : Thread Cert.FfKernelIdeal.nD Cert.FfKernelIdeal.τ).loc Cert.FfKernelIdeal.main_arg3)
          ∧ r.2.mem ((c.tc : Thread Cert.FfKernelIdeal.nD Cert.FfKernelIdeal.τ).loc Cert.FfKernelIdeal.main_arg4) = m ((c.tc : Thread Cert.FfKernelIdeal.nD Cert.FfKernelIdeal.τ).loc Cert.FfKernelIdeal.main_arg4)
          ∧ r.2.mem ((c.tc : Thread Cert.FfKernelIdeal.nD Cert.FfKernelIdeal.τ).loc Cert.FfKernelIdeal.main_arg5) = m ((c.tc : Thread Cert.FfKernelIdeal.nD Cert.FfKernelIdeal.τ).loc Cert.FfKernelIdeal.main_arg5)
          ∧ r.2.mem ((c.tc : Thread Cert.FfKernelIdeal.nD Cert.FfKernelIdeal.τ).loc Cert.FfKernelIdeal.main_arg6) = m ((c.tc : Thread Cert.FfKernelIdeal.nD Cert.FfKernelIdeal.τ).loc Cert.FfKernelIdeal.main_arg6)
          ∧ r.2.mem ((c.tc : Thread Cert.FfKernelIdeal.nD Cert.FfKernelIdeal.τ).loc Cert.FfKernelIdeal.main_arg7) = m ((c.tc : Thread Cert.FfKernelIdeal.nD Cert.FfKernelIdeal.τ).loc Cert.FfKernelIdeal.main_arg7)
          ∧ r.2.mem ((c.tc : Thread Cert.FfKernelIdeal.nD Cert.FfKernelIdeal.τ).loc Cert.FfKernelIdeal.main_arg8) = m ((c.tc : Thread Cert.FfKernelIdeal.nD Cert.FfKernelIdeal.τ).loc Cert.FfKernelIdeal.main_arg8)
          ∧ r.2.mem ((c.tc : Thread Cert.FfKernelIdeal.nD Cert.FfKernelIdeal.τ).loc Cert.FfKernelIdeal.main_arg9) = m ((c.tc : Thread Cert.FfKernelIdeal.nD Cert.FfKernelIdeal.τ).loc Cert.FfKernelIdeal.main_arg9)
          ∧ r.2.mem ((c.tc : Thread Cert.FfKernelIdeal.nD Cert.FfKernelIdeal.τ).loc Cert.FfKernelIdeal.main_arg10) = m ((c.tc : Thread Cert.FfKernelIdeal.nD Cert.FfKernelIdeal.τ).loc Cert.FfKernelIdeal.main_arg10))
      ∧ θ_run (Cert.FfReferenceIdeal.defs (F := Ideal)) (onTc (τ := Cert.FfReferenceIdeal.τ) (Cert.FfReferenceIdeal.main (F := Ideal))) ⟨m', fun _ => 0, g'⟩ (fun r => ∀ c : Dev Cert.FfReferenceIdeal.nD,
          r.2.mem ((c.tc : Thread Cert.FfReferenceIdeal.nD Cert.FfReferenceIdeal.τ).loc Cert.FfReferenceIdeal.main_v9) = v0 c
          ∧ r.2.mem ((c.tc : Thread Cert.FfReferenceIdeal.nD Cert.FfReferenceIdeal.τ).loc Cert.FfReferenceIdeal.main_v10) = v1 c
          ∧ r.2.mem ((c.tc : Thread Cert.FfReferenceIdeal.nD Cert.FfReferenceIdeal.τ).loc Cert.FfReferenceIdeal.main_v34) = v2 c
          ∧ r.2.mem ((c.tc : Thread Cert.FfReferenceIdeal.nD Cert.FfReferenceIdeal.τ).loc Cert.FfReferenceIdeal.main_v15) = v3 c
          ∧ r.2.mem ((c.tc : Thread Cert.FfReferenceIdeal.nD Cert.FfReferenceIdeal.τ).loc Cert.FfReferenceIdeal.main_v21) = v4 c
          ∧ r.2.mem ((c.tc : Thread Cert.FfReferenceIdeal.nD Cert.FfReferenceIdeal.τ).loc Cert.FfReferenceIdeal.main_v35) = v5 c
          ∧ r.2.mem ((c.tc : Thread Cert.FfReferenceIdeal.nD Cert.FfReferenceIdeal.τ).loc Cert.FfReferenceIdeal.main_v59) = v6 c
          ∧ r.2.mem ((c.tc : Thread Cert.FfReferenceIdeal.nD Cert.FfReferenceIdeal.τ).loc Cert.FfReferenceIdeal.main_v40) = v7 c
          ∧ r.2.mem ((c.tc : Thread Cert.FfReferenceIdeal.nD Cert.FfReferenceIdeal.τ).loc Cert.FfReferenceIdeal.main_v46) = v8 c
          ∧ r.2.mem ((c.tc : Thread Cert.FfReferenceIdeal.nD Cert.FfReferenceIdeal.τ).loc Cert.FfReferenceIdeal.main_arg0) = m' ((c.tc : Thread Cert.FfReferenceIdeal.nD Cert.FfReferenceIdeal.τ).loc Cert.FfReferenceIdeal.main_arg0)
          ∧ r.2.mem ((c.tc : Thread Cert.FfReferenceIdeal.nD Cert.FfReferenceIdeal.τ).loc Cert.FfReferenceIdeal.main_arg1) = m' ((c.tc : Thread Cert.FfReferenceIdeal.nD Cert.FfReferenceIdeal.τ).loc Cert.FfReferenceIdeal.main_arg1)
          ∧ r.2.mem ((c.tc : Thread Cert.FfReferenceIdeal.nD Cert.FfReferenceIdeal.τ).loc Cert.FfReferenceIdeal.main_arg2) = m' ((c.tc : Thread Cert.FfReferenceIdeal.nD Cert.FfReferenceIdeal.τ).loc Cert.FfReferenceIdeal.main_arg2)
          ∧ r.2.mem ((c.tc : Thread Cert.FfReferenceIdeal.nD Cert.FfReferenceIdeal.τ).loc Cert.FfReferenceIdeal.main_arg3) = m' ((c.tc : Thread Cert.FfReferenceIdeal.nD Cert.FfReferenceIdeal.τ).loc Cert.FfReferenceIdeal.main_arg3)
          ∧ r.2.mem ((c.tc : Thread Cert.FfReferenceIdeal.nD Cert.FfReferenceIdeal.τ).loc Cert.FfReferenceIdeal.main_arg4) = m' ((c.tc : Thread Cert.FfReferenceIdeal.nD Cert.FfReferenceIdeal.τ).loc Cert.FfReferenceIdeal.main_arg4)
          ∧ r.2.mem ((c.tc : Thread Cert.FfReferenceIdeal.nD Cert.FfReferenceIdeal.τ).loc Cert.FfReferenceIdeal.main_arg5) = m' ((c.tc : Thread Cert.FfReferenceIdeal.nD Cert.FfReferenceIdeal.τ).loc Cert.FfReferenceIdeal.main_arg5)
          ∧ r.2.mem ((c.tc : Thread Cert.FfReferenceIdeal.nD Cert.FfReferenceIdeal.τ).loc Cert.FfReferenceIdeal.main_arg6) = m' ((c.tc : Thread Cert.FfReferenceIdeal.nD Cert.FfReferenceIdeal.τ).loc Cert.FfReferenceIdeal.main_arg6)
          ∧ r.2.mem ((c.tc : Thread Cert.FfReferenceIdeal.nD Cert.FfReferenceIdeal.τ).loc Cert.FfReferenceIdeal.main_arg7) = m' ((c.tc : Thread Cert.FfReferenceIdeal.nD Cert.FfReferenceIdeal.τ).loc Cert.FfReferenceIdeal.main_arg7)
          ∧ r.2.mem ((c.tc : Thread Cert.FfReferenceIdeal.nD Cert.FfReferenceIdeal.τ).loc Cert.FfReferenceIdeal.main_arg8) = m' ((c.tc : Thread Cert.FfReferenceIdeal.nD Cert.FfReferenceIdeal.τ).loc Cert.FfReferenceIdeal.main_arg8)
          ∧ r.2.mem ((c.tc : Thread Cert.FfReferenceIdeal.nD Cert.FfReferenceIdeal.τ).loc Cert.FfReferenceIdeal.main_arg9) = m' ((c.tc : Thread Cert.FfReferenceIdeal.nD Cert.FfReferenceIdeal.τ).loc Cert.FfReferenceIdeal.main_arg9)
          ∧ r.2.mem ((c.tc : Thread Cert.FfReferenceIdeal.nD Cert.FfReferenceIdeal.τ).loc Cert.FfReferenceIdeal.main_arg10) = m' ((c.tc : Thread Cert.FfReferenceIdeal.nD Cert.FfReferenceIdeal.τ).loc Cert.FfReferenceIdeal.main_arg10))

def Claim : Prop :=
  ∃ (hKernel : Cert.Kernel.Facts) (hKernelIdeal : Cert.KernelIdeal.Facts) (hReferenceIdeal : Cert.ReferenceIdeal.Facts) (hGradsKernel : Cert.GradsKernel.Facts) (hGradsKernelIdeal : Cert.GradsKernelIdeal.Facts) (hGradsReferenceIdeal : Cert.GradsReferenceIdeal.Facts) (hMlpKernel : Cert.MlpKernel.Facts) (hMlpKernelIdeal : Cert.MlpKernelIdeal.Facts) (hMlpReferenceIdeal : Cert.MlpReferenceIdeal.Facts) (hPremixKernel : Cert.PremixKernel.Facts) (hPremixKernelIdeal : Cert.PremixKernelIdeal.Facts) (hPremixReferenceIdeal : Cert.PremixReferenceIdeal.Facts) (hSmallKernel : Cert.SmallKernel.Facts) (hSmallKernelIdeal : Cert.SmallKernelIdeal.Facts) (hSmallReferenceIdeal : Cert.SmallReferenceIdeal.Facts) (hRowsKernel : Cert.RowsKernel.Facts) (hRowsKernelIdeal : Cert.RowsKernelIdeal.Facts) (hRowsReferenceIdeal : Cert.RowsReferenceIdeal.Facts) (hMemKernel : Cert.MemKernel.Facts) (hMemKernelIdeal : Cert.MemKernelIdeal.Facts) (hMemReferenceIdeal : Cert.MemReferenceIdeal.Facts) (hFfKernel : Cert.FfKernel.Facts) (hFfKernelIdeal : Cert.FfKernelIdeal.Facts) (hFfReferenceIdeal : Cert.FfReferenceIdeal.Facts) (hPre_finite : Cert.Pre_finite.Facts) (hPre_mlp_finite : Cert.Pre_mlp_finite.Facts) (hPre_premix_finite : Cert.Pre_premix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GradsKernel (hGradsKernel := hGradsKernel)
    ∧ quiescent_GradsKernelIdeal (hGradsKernelIdeal := hGradsKernelIdeal)
    ∧ quiescent_GradsReferenceIdeal (hGradsReferenceIdeal := hGradsReferenceIdeal)
    ∧ quiescent_MlpKernel (hMlpKernel := hMlpKernel)
    ∧ quiescent_MlpKernelIdeal (hMlpKernelIdeal := hMlpKernelIdeal)
    ∧ quiescent_MlpKernelIdeal_pre_mlp_finite (hMlpKernelIdeal := hMlpKernelIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_PremixKernel (hPremixKernel := hPremixKernel)
    ∧ quiescent_PremixKernelIdeal (hPremixKernelIdeal := hPremixKernelIdeal)
    ∧ quiescent_PremixKernelIdeal_pre_premix_finite (hPremixKernelIdeal := hPremixKernelIdeal) (hPre_premix_finite := hPre_premix_finite)
    ∧ quiescent_PremixReferenceIdeal (hPremixReferenceIdeal := hPremixReferenceIdeal)
    ∧ quiescent_PremixReferenceIdeal_pre_premix_finite (hPremixReferenceIdeal := hPremixReferenceIdeal) (hPre_premix_finite := hPre_premix_finite)
    ∧ quiescent_SmallKernel (hSmallKernel := hSmallKernel)
    ∧ quiescent_SmallKernelIdeal (hSmallKernelIdeal := hSmallKernelIdeal)
    ∧ quiescent_SmallReferenceIdeal (hSmallReferenceIdeal := hSmallReferenceIdeal)
    ∧ quiescent_RowsKernel (hRowsKernel := hRowsKernel)
    ∧ quiescent_RowsKernelIdeal (hRowsKernelIdeal := hRowsKernelIdeal)
    ∧ quiescent_RowsReferenceIdeal (hRowsReferenceIdeal := hRowsReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_FfKernel (hFfKernel := hFfKernel)
    ∧ quiescent_FfKernelIdeal (hFfKernelIdeal := hFfKernelIdeal)
    ∧ quiescent_FfReferenceIdeal (hFfReferenceIdeal := hFfReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_GradsKernel_GradsKernelIdeal
    ∧ algebraic_GradsKernelIdeal_GradsReferenceIdeal (hGradsKernelIdeal := hGradsKernelIdeal) (hGradsReferenceIdeal := hGradsReferenceIdeal)
    ∧ preserves_MlpKernel_MlpKernelIdeal
    ∧ algebraic_MlpKernelIdeal_MlpReferenceIdeal_pre_mlp_finite (hMlpKernelIdeal := hMlpKernelIdeal) (hMlpReferenceIdeal := hMlpReferenceIdeal) (hPre_mlp_finite := hPre_mlp_finite)
    ∧ preserves_PremixKernel_PremixKernelIdeal
    ∧ algebraic_PremixKernelIdeal_PremixReferenceIdeal_pre_premix_finite (hPremixKernelIdeal := hPremixKernelIdeal) (hPremixReferenceIdeal := hPremixReferenceIdeal) (hPre_premix_finite := hPre_premix_finite)
    ∧ preserves_SmallKernel_SmallKernelIdeal
    ∧ algebraic_SmallKernelIdeal_SmallReferenceIdeal (hSmallKernelIdeal := hSmallKernelIdeal) (hSmallReferenceIdeal := hSmallReferenceIdeal)
    ∧ preserves_RowsKernel_RowsKernelIdeal
    ∧ algebraic_RowsKernelIdeal_RowsReferenceIdeal (hRowsKernelIdeal := hRowsKernelIdeal) (hRowsReferenceIdeal := hRowsReferenceIdeal)
    ∧ preserves_MemKernel_MemKernelIdeal
    ∧ algebraic_MemKernelIdeal_MemReferenceIdeal (hMemKernelIdeal := hMemKernelIdeal) (hMemReferenceIdeal := hMemReferenceIdeal)
    ∧ preserves_FfKernel_FfKernelIdeal
    ∧ algebraic_FfKernelIdeal_FfReferenceIdeal (hFfKernelIdeal := hFfKernelIdeal) (hFfReferenceIdeal := hFfReferenceIdeal)
-- ==== Pre_finite.lean ====
abbrev S2048x3200 : Shape := ⟨2, ![2048, 3200]⟩
abbrev S2048x128 : Shape := ⟨2, ![2048, 128]⟩
abbrev S2048x512 : Shape := ⟨2, ![2048, 512]⟩
abbrev S2048x1536 : Shape := ⟨2, ![2048, 1536]⟩
abbrev S_ : Shape := ⟨0, ![]⟩
abbrev S2048x8 : Shape := ⟨2, ![2048, 8]⟩

class Facts : Prop where
  slices_S2048x3200_S2048x1536_0_0 : S2048x3200.Slices ![0, 0] S2048x1536
  bcast_S_S2048x1536 : S_.BroadcastsInDim S2048x1536 (![] : Fin 0 → Fin S2048x1536.rank)
  slices_S2048x128_S2048x8_0_0 : S2048x128.Slices ![0, 0] S2048x8
  bcast_S_S2048x8 : S_.BroadcastsInDim S2048x8 (![] : Fin 0 → Fin S2048x8.rank)
  bcast_S_S2048x512 : S_.BroadcastsInDim S2048x512 (![] : Fin 0 → Fin S2048x512.rank)

variable [Facts]

def fn {F : FTy → Type} [FloatOps F] (main_arg0 : FVec F S2048x3200 .bf16) (main_arg1 : FVec F S2048x128 .f32) (main_arg2 : FVec F S2048x512 .f32) : IVec S2048x1536 1 × IVec S2048x8 1 × IVec S2048x512 1 :=
  let main_v0 : FVec F S2048x1536 .bf16 := (extractStridedSlice S2048x1536 ![0, 0] · slices_S2048x3200_S2048x1536_0_0) main_arg0
  let main_v1 : FVec F S2048x1536 .bf16 := Host.absf main_v0
  let main_cst : FVec F S_ .bf16 := constant S_ .bf16 0x7F80#16
  let main_v2 : FVec F S2048x1536 .bf16 := broadcastInDim S2048x1536 ![] bcast_S_S2048x1536 main_cst
  let main_v3 : IVec S2048x1536 1 := cmpf .olt main_v1 main_v2
  let main_v4 : FVec F S2048x8 .f32 := (extractStridedSlice S2048x8 ![0, 0] · slices_S2048x128_S2048x8_0_0) main_arg1
  let main_v5 : FVec F S2048x8 .f32 := Host.absf main_v4
  let main_cst_0 : FVec F S_ .f32 := constant S_ .f32 0x7F800000#32
  let main_v6 : FVec F S2048x8 .f32 := broadcastInDim S2048x8 ![] bcast_S_S2048x8 main_cst_0
  let main_v7 : IVec S2048x8 1 := cmpf .olt main_v5 main_v6
  let main_v8 : FVec F S2048x512 .f32 := Host.absf main_arg2
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  (main_v3, main_v7, main_v10)
-- ==== Pre_mlp_finite.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S1024x4096 .f32) (main_arg2 : FVec F S4096x1024 .f32) (main_arg3 : FVec F S1x1024 .f32) (main_arg4 : FVec F S1x1024 .f32) (main_arg5 : FVec F S2048x1024 .f32) : IVec S2048x1024 1 × IVec S1024x4096 1 × IVec S4096x1024 1 × IVec S1x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S2048x1024 .f32 := Host.absf main_arg5
  let main_cst_4 : FVec F S_ .f32 := constant S_ .f32 0x7F800000#32
  let main_v16 : FVec F S2048x1024 .f32 := broadcastInDim S2048x1024 ![] bcast_S_S2048x1024 main_cst_4
  let main_v17 : IVec S2048x1024 1 := cmpf .olt main_v15 main_v16
  (main_v2, main_v5, main_v8, main_v11, main_v14, main_v17)
-- ==== Pre_premix_finite.lean ====
abbrev S2048x1024 : Shape := ⟨2, ![2048, 1024]⟩
abbrev S2048x512 : Shape := ⟨2, ![2048, 512]⟩
abbrev S2048x128 : Shape := ⟨2, ![2048, 128]⟩
abbrev S3200x1024 : Shape := ⟨2, ![3200, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bcast_S_S2048x512 : S_.BroadcastsInDim S2048x512 (![] : Fin 0 → Fin S2048x512.rank)
  bcast_S_S2048x128 : S_.BroadcastsInDim S2048x128 (![] : Fin 0 → Fin S2048x128.rank)
  bcast_S_S3200x1024 : S_.BroadcastsInDim S3200x1024 (![] : Fin 0 → Fin S3200x1024.rank)
  bcast_S_S1x1024 : S_.BroadcastsInDim S1x1024 (![] : Fin 0 → Fin S1x1024.rank)

variable [Facts]

def fn_part1 {F : FTy → Type} [FloatOps F] (main_arg7 : FVec F S2048x512 .bf16) (main_arg8 : FVec F S2048x512 .bf16) (main_arg9 : FVec F S3200x1024 .bf16) (main_arg10 : FVec F S1x1024 .f32) (main_v2 : IVec S2048x1024 1) (main_v5 : IVec S2048x512 1) (main_v8 : IVec S2048x512 1) (main_v11 : IVec S2048x512 1) (main_v14 : IVec S2048x128 1) (main_v17 : IVec S2048x512 1) : IVec S2048x1024 1 × IVec S2048x512 1 × IVec S2048x512 1 × IVec S2048x512 1 × IVec S2048x128 1 × IVec S2048x512 1 × IVec S2048x512 1 × IVec S2048x512 1 × IVec S3200x1024 1 × IVec S1x1024 1 :=
  let main_v18 : FVec F S2048x512 .bf16 := Host.absf main_arg7
  let main_cst_5 : FVec F S_ .bf16 := constant S_ .bf16 0x7F80#16
  let main_v19 : FVec F S2048x512 .bf16 := broadcastInDim S2048x512 ![] bcast_S_S2048x512 main_cst_5
  let main_v20 : IVec S2048x512 1 := cmpf .olt main_v18 main_v19
  let main_v21 : FVec F S2048x512 .bf16 := Host.absf main_arg8
  let main_cst_6 : FVec F S_ .bf16 := constant S_ .bf16 0x7F80#16
  let main_v22 : FVec F S2048x512 .bf16 := broadcastInDim S2048x512 ![] bcast_S_S2048x512 main_cst_6
  let main_v23 : IVec S2048x512 1 := cmpf .olt main_v21 main_v22
  let main_v24 : FVec F S3200x1024 .bf16 := Host.absf main_arg9
  let main_cst_7 : FVec F S_ .bf16 := constant S_ .bf16 0x7F80#16
  let main_v25 : FVec F S3200x1024 .bf16 := broadcastInDim S3200x1024 ![] bcast_S_S3200x1024 main_cst_7
  let main_v26 : IVec S3200x1024 1 := cmpf .olt main_v24 main_v25
  let main_v27 : FVec F S1x1024 .f32 := Host.absf main_arg10
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S2048x1024 .f32) (main_arg1 : FVec F S2048x1024 .f32) (main_arg2 : FVec F S2048x512 .bf16) (main_arg3 : FVec F S2048x512 .bf16) (main_arg4 : FVec F S2048x512 .bf16) (main_arg5 : FVec F S2048x128 .bf16) (main_arg6 : FVec F S2048x512 .bf16) (main_arg7 : FVec F S2048x512 .bf16) (main_arg8 : FVec F S2048x512 .bf16) (main_arg9 : FVec F S3200x1024 .bf16) (main_arg10 : FVec F S1x1024 .f32) : IVec S2048x1024 1 × IVec S2048x512 1 × IVec S2048x512 1 × IVec S2048x512 1 × IVec S2048x128 1 × IVec S2048x512 1 × IVec S2048x512 1 × IVec S2048x512 1 × IVec S3200x1024 1 × IVec S1x1024 1 :=
  let main_v0 : FVec F S2048x1024 .f32 := Host.absf main_arg1
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x512 .bf16 := Host.absf main_arg2
  let main_cst_0 : FVec F S_ .bf16 := constant S_ .bf16 0x7F80#16
  let main_v4 : FVec F S2048x512 .bf16 := broadcastInDim S2048x512 ![] bcast_S_S2048x512 main_cst_0
  let main_v5 : IVec S2048x512 1 := cmpf .olt main_v3 main_v4
  let main_v6 : FVec F S2048x512 .bf16 := Host.absf main_arg3
  let main_cst_1 : FVec F S_ .bf16 := constant S_ .bf16 0x7F80#16
  let main_v7 : FVec F S2048x512 .bf16 := broadcastInDim S2048x512 ![] bcast_S_S2048x512 main_cst_1
  let main_v8 : IVec S2048x512 1 := cmpf .olt main_v6 main_v7
  let main_v9 : FVec F S2048x512 .bf16 := Host.absf main_arg4
  let main_cst_2 : FVec F S_ .bf16 := constant S_ .bf16 0x7F80#16
  let main_v10 : FVec F S2048x512 .bf16 := broadcastInDim S2048x512 ![] bcast_S_S2048x512 main_cst_2
  let main_v11 : IVec S2048x512 1 := cmpf .olt main_v9 main_v10
  let main_v12 : FVec F S2048x128 .bf16 := Host.absf main_arg5
  let main_cst_3 : FVec F S_ .bf16 := constant S_ .bf16 0x7F80#16
  let main_v13 : FVec F S2048x128 .bf16 := broadcastInDim S2048x128 ![] bcast_S_S2048x128 main_cst_3
  let main_v14 : IVec S2048x128 1 := cmpf .olt main_v12 main_v13
  let main_v15 : FVec F S2048x512 .bf16 := Host.absf main_arg6
  let main_cst_4 : FVec F S_ .bf16 := constant S_ .bf16 0x7F80#16
  let main_v16 : FVec F S2048x512 .bf16 := broadcastInDim S2048x512 ![] bcast_S_S2048x512 main_cst_4
  let main_v17 : IVec S2048x512 1 := cmpf .olt main_v15 main_v16
  fn_part1 (F := F) main_arg7 main_arg8 main_arg9 main_arg10 main_v2 main_v5 main_v8 main_v11 main_v14 main_v17
-- ==== Kernel.lean ====
abbrev S2048x3200 : Shape := ⟨2, ![2048, 3200]⟩
abbrev S2048x128 : Shape := ⟨2, ![2048, 128]⟩
abbrev S2048x512 : Shape := ⟨2, ![2048, 512]⟩
abbrev S2048x8 : Shape := ⟨2, ![2048, 8]⟩
abbrev S2048 : Shape := ⟨1, ![2048]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S2048x8x128 : Shape := ⟨3, ![2048, 8, 128]⟩
abbrev S2048x1024 : Shape := ⟨2, ![2048, 1024]⟩
abbrev S4x2x2048 : Shape := ⟨3, ![4, 2, 2048]⟩
abbrev S4x2048x128 : Shape := ⟨3, ![4, 2048, 128]⟩
abbrev S512x128 : Shape := ⟨2, ![512, 128]⟩
abbrev S1x2x2048 : Shape := ⟨3, ![1, 2, 2048]⟩
abbrev S512x256 : Shape := ⟨2, ![512, 256]⟩
abbrev S1x512x128 : Shape := ⟨3, ![1, 512, 128]⟩
abbrev S128x2048 : Shape := ⟨2, ![128, 2048]⟩
abbrev S2x2048 : Shape := ⟨2, ![2, 2048]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 76
  | .vmem => 28
  | .smem => 0
  | _ => 0

abbrev bufTy : (tb : Table) → Fin (tcTables nBuf tb) → BufTy
  | .hbm, ⟨0, _⟩ => ⟨S2048x3200, .bf16⟩
  | .hbm, ⟨1, _⟩ => ⟨S2048x128, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x8, .f32⟩
  | .hbm, ⟨7, _⟩ => ⟨S2048, .i32⟩
  | .hbm, ⟨8, _⟩ => ⟨S2048x512, .f32⟩
  | .hbm, ⟨9, _⟩ => ⟨S2048x8x64, .f32⟩
  | .hbm, ⟨10, _⟩ => ⟨S2048x512, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S2048x1, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S2048x512, .f32⟩
  | .hbm, ⟨50, _⟩ => ⟨S2048x8x64, .f32⟩
  | .hbm, ⟨51, _⟩ => ⟨S8x64x2048, .f32⟩
  | .hbm, ⟨52, _⟩ => ⟨S2048x8x64, .f32⟩
  | .hbm, ⟨53, _⟩ => ⟨S2048x512, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048, .f32⟩
  | .hbm, ⟨66, _⟩ => ⟨S2048x8, .f32⟩
  | .hbm, ⟨67, _⟩ => ⟨S2048x8x128, .f32⟩
  | .hbm, ⟨68, _⟩ => ⟨S2048x1024, .f32⟩
  | .hbm, ⟨69, _⟩ => ⟨S8x2048, .f32⟩
  | .hbm, ⟨70, _⟩ => ⟨S4x2x2048, .f32⟩
  | .hbm, ⟨71, _⟩ => ⟨S2048x512, .bf16⟩
  | .hbm, ⟨72, _⟩ => ⟨S2048x512, .bf16⟩
  | .hbm, ⟨73, _⟩ => ⟨S2048x512, .bf16⟩
  | .hbm, ⟨74, _⟩ => ⟨S4x2x2048, .f32⟩
  | .hbm, ⟨75, _⟩ => ⟨S4x2048x128, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x2x2048, .f32⟩
  | .local _ .vmem, ⟨9, _⟩ => ⟨S1x2x2048, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x2x2048, .f32⟩
  | .local _ .vmem, ⟨23, _⟩ => ⟨S1x2x2048, .f32⟩
  | .local _ .vmem, ⟨24, _⟩ => ⟨S1x512x128, .f32⟩
  | .local _ .vmem, ⟨25, _⟩ => ⟨S1x512x128, .f32⟩
  | .local _ .vmem, ⟨26, _⟩ => ⟨S128x2048, .f32⟩
  | .local _ .vmem, ⟨27, _⟩ => ⟨S128x2048, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_35 : BitVec 32 := 1#32
  ⟨c0_i32_33, v73, c1_i32_35⟩
def k0_mult1 (i : grid0.Coords) (k0_t1 : Fin (k0_t1_loop i).trips) : BitVec 32 :=
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  v197
def k0_off1 (i : grid0.Coords) (k0_t1 : Fin (k0_t1_loop i).trips) : Fin 2 → Nat :=
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v199 : Index := Scalar.indexCast v198
  let c0_83 : Index := 0#32
  ![v199.toNat, 0]
def k0_off2 (i : grid0.Coords) (k0_t1 : Fin (k0_t1_loop i).trips) : Fin 3 → Nat :=
  let c0_88 : Index := 0#32
  let c0_89 : Index := 0#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v206 : Index := Scalar.indexCast v198
  ![0, 0, v206.toNat]
def k0_off3 (i : grid0.Coords) (k0_t1 : Fin (k0_t1_loop i).trips) : Fin 3 → Nat :=
  let c0_101 : Index := 0#32
  let c1_102 : Index := 1#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v242 : Index := Scalar.indexCast v198
  ![0, 1, v242.toNat]
def k0_off4 (i : grid0.Coords) (k0_t1 : Fin (k0_t1_loop i).trips) : Fin 2 → Nat :=
  let c0_113 : Index := 0#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v277 : Index := Scalar.indexCast v198
  ![0, v277.toNat]
@[reducible] def k0_t2_loop (i : grid0.Coords) : Scf.Loop 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let v70 : BitVec 32 := Scalar.addi c0_i32_33 v69
  let c1_i32_36 : BitVec 32 := 1#32
  ⟨v73, v70, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  v197
def k0_off5 (i : grid0.Coords) (k0_t2 : Fin (k0_t2_loop i).trips) : Fin 2 → Nat :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v199 : Index := Scalar.indexCast v198
  let c0_83 : Index := 0#32
  ![v199.toNat, 0]
def k0_off6 (i : grid0.Coords) (k0_t2 : Fin (k0_t2_loop i).trips) : Fin 3 → Nat :=
  let c0_88 : Index := 0#32
  let c0_89 : Index := 0#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v206 : Index := Scalar.indexCast v198
  ![0, 0, v206.toNat]
def k0_off7 (i : grid0.Coords) (k0_t2 : Fin (k0_t2_loop i).trips) : Fin 3 → Nat :=
  let c0_101 : Index := 0#32
  let c1_102 : Index := 1#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v242 : Index := Scalar.indexCast v198
  ![0, 1, v242.toNat]
def k0_off8 (i : grid0.Coords) (k0_t2 : Fin (k0_t2_loop i).trips) : Fin 2 → Nat :=
  let c0_113 : Index := 0#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v277 : Index := Scalar.indexCast v198
  ![0, v277.toNat]
def k0_mult3 (i : grid0.Coords) : BitVec 32 :=
  let arg1 : BitVec 32 := BitVec.ofNat 32 (i 1).val
  let c512_i32 : BitVec 32 := 512#32
  let v76 : BitVec 32 := Scalar.muli arg1 c512_i32
  v76
def k0_off9 (i : grid0.Coords) : Fin 2 → Nat :=
  let arg1 : BitVec 32 := BitVec.ofNat 32 (i 1).val
  let c512_i32 : BitVec 32 := 512#32
  let v76 : BitVec 32 := Scalar.muli arg1 c512_i32
  let v77 : BitVec 32 := v76
  let v78 : Index := Scalar.indexCast v77
  let c0_37 : Index := 0#32
  ![v78.toNat, 0]
def k0_off10 (i : grid0.Coords) : Fin 3 → Nat :=
  let c0_42 : Index := 0#32
  let c0_43 : Index := 0#32
  let arg1 : BitVec 32 := BitVec.ofNat 32 (i 1).val
  let c512_i32 : BitVec 32 := 512#32
  let v76 : BitVec 32 := Scalar.muli arg1 c512_i32
  let v77 : BitVec 32 := v76
  let v85 : Index := Scalar.indexCast v77
  ![0, 0, v85.toNat]
def k0_off11 (i : grid0.Coords) : Fin 3 → Nat :=
  let c0_56 : Index := 0#32
  let c1 : Index := 1#32
  let arg1 : BitVec 32 := BitVec.ofNat 32 (i 1).val
  let c512_i32 : BitVec 32 := 512#32
  let v76 : BitVec 32 := Scalar.muli arg1 c512_i32
  let v77 : BitVec 32 := v76
  let v123 : Index := Scalar.indexCast v77
  ![0, 1, v123.toNat]
def k0_off12 (i : grid0.Coords) : Fin 2 → Nat :=
  let c0_68 : Index := 0#32
  let arg1 : BitVec 32 := BitVec.ofNat 32 (i 1).val
  let c512_i32 : BitVec 32 := 512#32
  let v76 : BitVec 32 := Scalar.muli arg1 c512_i32
  let v77 : BitVec 32 := v76
  let v160 : Index := Scalar.indexCast v77
  ![0, v160.toNat]
def k0_cond2 (i : grid0.Coords) : BitVec 1 :=
  let arg1 : BitVec 32 := BitVec.ofNat 32 (i 1).val
  let c3_i32 : BitVec 32 := 3#32
  let v194 : BitVec 1 := Scalar.cmpi .eq arg1 c3_i32
  let v195 : BitVec 32 := Scalar.extui v194
  let c0_i32_81 : BitVec 32 := 0#32
  let v196 : BitVec 1 := Scalar.cmpi .ne v195 c0_i32_81
  v196

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
abbrev S2048x3200 : Shape := ⟨2, ![2048, 3200]⟩
abbrev S2048x128 : Shape := ⟨2, ![2048, 128]⟩
abbrev S2048x512 : Shape := ⟨2, ![2048, 512]⟩
abbrev S2048x8 : Shape := ⟨2, ![2048, 8]⟩
abbrev S2048 : Shape := ⟨1, ![2048]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S2048x8x128 : Shape := ⟨3, ![2048, 8, 128]⟩
abbrev S2048x1024 : Shape := ⟨2, ![2048, 1024]⟩
abbrev S4x2x2048 : Shape := ⟨3, ![4, 2, 2048]⟩
abbrev S4x2048x128 : Shape := ⟨3, ![4, 2048, 128]⟩
abbrev S512x128 : Shape := ⟨2, ![512, 128]⟩
abbrev S1x2x2048 : Shape := ⟨3, ![1, 2, 2048]⟩
abbrev S512x256 : Shape := ⟨2, ![512, 256]⟩
abbrev S1x512x128 : Shape := ⟨3, ![1, 512, 128]⟩
abbrev S128x2048 : Shape := ⟨2, ![128, 2048]⟩
abbrev S2x2048 : Shape := ⟨2, ![2, 2048]⟩
abbrev S512x512 : Shape := ⟨2, ![512, 512]⟩
abbrev S512 : Shape := ⟨1, ![512]⟩
abbrev S512x1 : Shape := ⟨2, ![512, 1]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 76
  | .vmem => 28
  | .smem => 0
  | _ => 0

abbrev bufTy : (tb : Table) → Fin (tcTables nBuf tb) → BufTy
  | .hbm, ⟨0, _⟩ => ⟨S2048x3200, .bf16⟩
  | .hbm, ⟨1, _⟩ => ⟨S2048x128, .f32⟩
  | .hbm, ⟨2, _⟩ => ⟨S2048x512, .f32⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x8, .f32⟩
  | .hbm, ⟨7, _⟩ => ⟨S2048, .i32⟩
  | .hbm, ⟨8, _⟩ => ⟨S2048x512, .f32⟩
  | .hbm, ⟨9, _⟩ => ⟨S2048x8x64, .f32⟩
  | .hbm, ⟨10, _⟩ => ⟨S2048x512, .f32⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S2048x1, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x2048x2048, .i1⟩
  | .hbm, ⟨30, _⟩ => ⟨S_, .f32⟩
  | .hbm, ⟨31, _⟩ => ⟨S_, .f32⟩
  | .hbm, ⟨32, _⟩ => ⟨S8x2048x2048, .i1⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048, .f32⟩
  | .hbm, ⟨46, _⟩ => ⟨S8x2048x1, .f32⟩
  | .hbm, ⟨47, _⟩ => ⟨S8x2048x2048, .f32⟩
  | .hbm, ⟨48, _⟩ => ⟨S8x2048x2048, .f32⟩
  | .hbm, ⟨49, _⟩ => ⟨S2048x512, .f32⟩
  | .hbm, ⟨50, _⟩ => ⟨S2048x8x64, .f32⟩
  | .hbm, ⟨51, _⟩ => ⟨S8x64x2048, .f32⟩
  | .hbm, ⟨52, _⟩ => ⟨S2048x8x64, .f32⟩
  | .hbm, ⟨53, _⟩ => ⟨S2048x512, .f32⟩
  | .hbm, ⟨54, _⟩ => ⟨S_, .f32⟩
  | .hbm, ⟨55, _⟩ => ⟨S8x2048, .f32⟩
  | .hbm, ⟨56, _⟩ => ⟨S8x2048x1, .f32⟩
  | .hbm, ⟨57, _⟩ => ⟨S8x2048x2048, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S8x2048x1, .f32⟩
  | .hbm, ⟨64, _⟩ => ⟨S8x2048x1, .f32⟩
  | .hbm, ⟨65, _⟩ => ⟨S8x2048, .f32⟩
  | .hbm, ⟨66, _⟩ => ⟨S2048x8, .f32⟩
  | .hbm, ⟨67, _⟩ => ⟨S2048x8x128, .f32⟩
  | .hbm, ⟨68, _⟩ => ⟨S2048x1024, .f32⟩
  | .hbm, ⟨69, _⟩ => ⟨S8x2048, .f32⟩
  | .hbm, ⟨70, _⟩ => ⟨S4x2x2048, .f32⟩
  | .hbm, ⟨71, _⟩ => ⟨S2048x512, .bf16⟩
  | .hbm, ⟨72, _⟩ => ⟨S2048x512, .bf16⟩
  | .hbm, ⟨73, _⟩ => ⟨S2048x512, .bf16⟩
  | .hbm, ⟨74, _⟩ => ⟨S4x2x2048, .f32⟩
  | .hbm, ⟨75, _⟩ => ⟨S4x2048x128, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .f32⟩
  | .local _ .vmem, ⟨7, _⟩ => ⟨S512x128, .f32⟩
  | .local _ .vmem, ⟨8, _⟩ => ⟨S1x2x2048, .f32⟩
  | .local _ .vmem, ⟨9, _⟩ => ⟨S1x2x2048, .f32⟩
  | .local _ .vmem, ⟨10, _⟩ => ⟨S512x128, .f32⟩
  | .local _ .vmem, ⟨11, _⟩ => ⟨S512x128, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .vmem, ⟨16, _⟩ => ⟨S512x128, .bf16⟩
  | .local _ .vmem, ⟨17, _⟩ => ⟨S512x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x2x2048, .f32⟩
  | .local _ .vmem, ⟨23, _⟩ => ⟨S1x2x2048, .f32⟩
  | .local _ .vmem, ⟨24, _⟩ => ⟨S1x512x128, .f32⟩
  | .local _ .vmem, ⟨25, _⟩ => ⟨S1x512x128, .f32⟩
  | .local _ .vmem, ⟨26, _⟩ => ⟨S128x2048, .f32⟩
  | .local _ .vmem, ⟨27, _⟩ => ⟨S128x2048, .f32⟩
  | _, _ => ⟨S2048x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_4 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58_0 : Ref sig .tc := ⟨.hbm, 71, rfl⟩
abbrev main_v58_1 : Ref sig .tc := ⟨.hbm, 72, rfl⟩
abbrev main_v58_2 : Ref sig .tc := ⟨.hbm, 73, rfl⟩
abbrev main_v58_3 : Ref sig .tc := ⟨.hbm, 74, rfl⟩
abbrev main_v58_4 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F] [Named F]

def κ : String → Option EReal := fun
  | "mask" => some ⊥
  | _ => none

abbrev grid0 : Pipeline.Grid := ⟨2, ![4, 4], ![false, false]⟩

@[reducible] def k0_t1_loop (i : grid0.Coords) : Scf.Loop 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_35 : BitVec 32 := 1#32
  ⟨c0_i32_33, v73, c1_i32_35⟩
def k0_mult1 (i : grid0.Coords) (k0_t1 : Fin (k0_t1_loop i).trips) : BitVec 32 :=
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  v197
def k0_off1 (i : grid0.Coords) (k0_t1 : Fin (k0_t1_loop i).trips) : Fin 2 → Nat :=
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v199 : Index := Scalar.indexCast v198
  let c0_83 : Index := 0#32
  ![v199.toNat, 0]
def k0_off2 (i : grid0.Coords) (k0_t1 : Fin (k0_t1_loop i).trips) : Fin 3 → Nat :=
  let c0_88 : Index := 0#32
  let c0_89 : Index := 0#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v206 : Index := Scalar.indexCast v198
  ![0, 0, v206.toNat]
def k0_off3 (i : grid0.Coords) (k0_t1 : Fin (k0_t1_loop i).trips) : Fin 3 → Nat :=
  let c0_101 : Index := 0#32
  let c1_102 : Index := 1#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v242 : Index := Scalar.indexCast v198
  ![0, 1, v242.toNat]
def k0_off4 (i : grid0.Coords) (k0_t1 : Fin (k0_t1_loop i).trips) : Fin 2 → Nat :=
  let c0_113 : Index := 0#32
  let c0_i32_33 : BitVec 32 := 0#32
  let c1_i32_35 : BitVec 32 := 1#32
  let arg17 : BitVec 32 := Scf.iv c0_i32_33 c1_i32_35 k0_t1
  let c512_i32_82 : BitVec 32 := 512#32
  let v197 : BitVec 32 := Scalar.muli arg17 c512_i32_82
  let v198 : BitVec 32 := v197
  let v277 : Index := Scalar.indexCast v198
  ![0, v277.toNat]
@[reducible] def k0_t2_loop (i : grid0.Coords) : Scf.Loop 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let v70 : BitVec 32 := Scalar.addi c0_i32_33 v69
  let c1_i32_36 : BitVec 32 := 1#32
  ⟨v73, v70, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  v197
def k0_off5 (i : grid0.Coords) (k0_t2 : Fin (k0_t2_loop i).trips) : Fin 2 → Nat :=
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v199 : Index := Scalar.indexCast v198
  let c0_83 : Index := 0#32
  ![v199.toNat, 0]
def k0_off6 (i : grid0.Coords) (k0_t2 : Fin (k0_t2_loop i).trips) : Fin 3 → Nat :=
  let c0_88 : Index := 0#32
  let c0_89 : Index := 0#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v206 : Index := Scalar.indexCast v198
  ![0, 0, v206.toNat]
def k0_off7 (i : grid0.Coords) (k0_t2 : Fin (k0_t2_loop i).trips) : Fin 3 → Nat :=
  let c0_101 : Index := 0#32
  let c1_102 : Index := 1#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v242 : Index := Scalar.indexCast v198
  ![0, 1, v242.toNat]
def k0_off8 (i : grid0.Coords) (k0_t2 : Fin (k0_t2_loop i).trips) : Fin 2 → Nat :=
  let c0_113 : Index := 0#32
  let c0_i32_33 : BitVec 32 := 0#32
  let arg1 : BitVec 32 := BitVec.ofNat 32 (i 1).val
  let v69 : BitVec 32 := Scalar.subi arg1 c0_i32_33
  let c1_i32_34 : BitVec 32 := 1#32
  let v71 : BitVec 32 := Scalar.divsi v69 c1_i32_34
  let v72 : BitVec 32 := Scalar.muli v71 c1_i32_34
  let v73 : BitVec 32 := Scalar.addi c0_i32_33 v72
  let c1_i32_36 : BitVec 32 := 1#32
  let arg17 : BitVec 32 := Scf.iv v73 c1_i32_36 k0_t2
  let c512_i32_82 : BitVec 32 := 512#32
  let v197 : BitVec 32 := Scalar.muli arg17 c512_i32_82
  let v198 : BitVec 32 := v197
  let v277 : Index := Scalar.indexCast v198
  ![0, v277.toNat]
def k0_mult3 (i : grid0.Coords) : BitVec 32 :=
  let arg1 : BitVec 32 := BitVec.ofNat 32 (i 1).val
  let c512_i32 : BitVec 32 := 512#32
  let v76 : BitVec 32 := Scalar.muli arg1 c512_i32
  v76
def k0_off9 (i : grid0.Coords) : Fin 2 → Nat :=
  let arg1 : BitVec 32 := BitVec.ofNat 32 (i 1).val
  let c512_i32 : BitVec 32 := 512#32
  let v76 : BitVec 32 := Scalar.muli arg1 c512_i32
  let v77 : BitVec 32 := v76
  let v78 : Index := Scalar.indexCast v77
  let c0_37 : Index := 0#32
  ![v78.toNat, 0]
def k0_off10 (i : grid0.Coords) : Fin 3 → Nat :=
  let c0_42 : Index := 0#32
  let c0_43 : Index := 0#32
  let arg1 : BitVec 32 := BitVec.ofNat 32 (i 1).val
  let c512_i32 : BitVec 32 := 512#32
  let v76 : BitVec 32 := Scalar.muli arg1 c512_i32
  let v77 : BitVec 32 := v76
  let v85 : Index := Scalar.indexCast v77
  ![0, 0, v85.toNat]
def k0_off11 (i : grid0.Coords) : Fin 3 → Nat :=
  let c0_56 : Index := 0#32
  let c1 : Index := 1#32
  let arg1 : BitVec 32 := BitVec.ofNat 32 (i 1).val
  let c512_i32 : BitVec 32 := 512#32
  let v76 : BitVec 32 := Scalar.muli arg1 c512_i32
  let v77 : BitVec 32 := v76
  let v123 : Index := Scalar.indexCast v77
  ![0, 1, v123.toNat]
def k0_off12 (i : grid0.Coords) : Fin 2 → Nat :=
  let c0_68 : Index := 0#32
  let arg1 : BitVec 32 := BitVec.ofNat 32 (i 1).val
  let c512_i32 : BitVec 32 := 512#32
  let v76 : BitVec 32 := Scalar.muli arg1 c512_i32
  let v77 : BitVec 32 := v76
  let v160 : Index := Scalar.indexCast v77
  ![0, v160.toNat]
def k0_cond2 (i : grid0.Coords) : BitVec 1 :=
  let arg1 : BitVec 32 := BitVec.ofNat 32 (i 1).val
  let c3_i32 : BitVec 32 := 3#32
  let v194 : BitVec 1 := Scalar.cmpi .eq arg1 c3_i32
  let v195 : BitVec 32 := Scalar.extui v194
  let c0_i32_81 : BitVec 32 := 0#32
  let v196 : BitVec 1 := Scalar.cmpi .ne v195 c0_i32_81
  v196

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2048x3200 : Shape := ⟨2, ![2048, 3200]⟩
abbrev S2048x128 : Shape := ⟨2, ![2048, 128]⟩
abbrev S2048x512 : Shape := ⟨2, ![2048, 512]⟩
abbrev S2048x8 : Shape := ⟨2, ![2048, 8]⟩
abbrev S2048 : Shape := ⟨1, ![2048]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S8x64x2048 : Shape := ⟨3, ![8, 64, 2048]⟩
abbrev S8x2048x64 : Shape := ⟨3, ![8, 2048, 64]⟩
abbrev S4x2x2048 : Shape := ⟨3, ![4, 2, 2048]⟩
abbrev S2048x4x2 : Shape := ⟨3, ![2048, 4, 2]⟩
abbrev S4x2048x2 : Shape := ⟨3, ![4, 2048, 2]⟩
abbrev S4x2048x128 : Shape := ⟨3, ![4, 2048, 128]⟩

abbrev nBuf : Space → Nat
  | .hbm => 135
  | .vmem => 0
  | .smem => 0
  | _ => 0

abbrev hbmTy0_0 (i : Nat) : BufTy := match i % 128 with
  | 0 => ⟨S2048x3200, .bf16⟩
  | 1 => ⟨S2048x128, .f32⟩
  | 2 => ⟨S2048x512, .f32⟩
  | 3 => ⟨S2048x512, .bf16⟩
  | 4 => ⟨S2048x512, .f32⟩
  | 5 => ⟨S2048x512, .bf16⟩
  | 6 => ⟨S2048x512, .f32⟩
  | 7 => ⟨S2048x512, .bf16⟩
  | 8 => ⟨S2048x512, .f32⟩
  | 9 => ⟨S2048x8, .f32⟩
  | 10 => ⟨S2048, .i32⟩
  | 11 => ⟨S2048x8x64, .f32⟩
  | 12 => ⟨S2048x8x64, .f32⟩
  | 13 => ⟨S8x2048x2048, .f32⟩
  | 14 => ⟨S_, .f32⟩
  | 15 => ⟨S8x2048x2048, .f32⟩
  | 16 => ⟨S8x2048x2048, .f32⟩
  | 17 => ⟨S8x2048, .f32⟩
  | 18 => ⟨S8x2048x1, .f32⟩
  | 19 => ⟨S8x2048x2048, .f32⟩
  | 20 => ⟨S8x2048x2048, .f32⟩
  | 21 => ⟨S8x2048, .f32⟩
  | 22 => ⟨S8x1x2048, .f32⟩
  | 23 => ⟨S8x2048x2048, .f32⟩
  | 24 => ⟨S8x2048x2048, .f32⟩
  | 25 => ⟨S2048x1, .i32⟩
  | 26 => ⟨S1x2048, .i32⟩
  | 27 => ⟨S2048x2048, .i32⟩
  | 28 => ⟨S2048x2048, .i32⟩
  | 29 => ⟨S2048x2048, .i1⟩
  | 30 => ⟨S1x2048x2048, .i1⟩
  | 31 => ⟨S_, .f32⟩
  | 32 => ⟨S_, .f32⟩
  | 33 => ⟨S8x2048x2048, .i1⟩
  | 34 => ⟨S8x2048x2048, .f32⟩
  | 35 => ⟨S8x2048x2048, .f32⟩
  | 36 => ⟨S_, .f32⟩
  | 37 => ⟨S8x2048x2048, .f32⟩
  | 38 => ⟨S_, .f32⟩
  | 39 => ⟨S8x2048, .f32⟩
  | 40 => ⟨S8x2048x1, .f32⟩
  | 41 => ⟨S8x2048x2048, .f32⟩
  | 42 => ⟨S8x2048x2048, .i1⟩
  | 43 => ⟨S8x2048x2048, .f32⟩
  | 44 => ⟨S_, .f32⟩
  | 45 => ⟨S8x2048, .f32⟩
  | 46 => ⟨S_, .f32⟩
  | 47 => ⟨S8x2048, .f32⟩
  | 48 => ⟨S8x2048, .f32⟩
  | 49 => ⟨S_, .f32⟩
  | 50 => ⟨S8x2048, .f32⟩
  | 51 => ⟨S8x2048, .i1⟩
  | 52 => ⟨S_, .f32⟩
  | 53 => ⟨S8x2048, .f32⟩
  | 54 => ⟨S8x2048, .i1⟩
  | 55 => ⟨S_, .f32⟩
  | 56 => ⟨S8x2048, .f32⟩
  | 57 => ⟨S_, .f32⟩
  | 58 => ⟨S8x2048, .f32⟩
  | 59 => ⟨S_, .f32⟩
  | 60 => ⟨S8x2048, .f32⟩
  | 61 => ⟨S8x2048, .f32⟩
  | 62 => ⟨S8x2048, .f32⟩
  | 63 => ⟨S8x2048x1, .f32⟩
  | 64 => ⟨S8x2048x2048, .f32⟩
  | 65 => ⟨S8x2048x2048, .f32⟩
  | 66 => ⟨S8x2048x2048, .f32⟩
  | 67 => ⟨S_, .f32⟩
  | 68 => ⟨S8x2048, .f32⟩
  | 69 => ⟨S8x2048x1, .f32⟩
  | 70 => ⟨S8x2048x2048, .f32⟩
  | 71 => ⟨S8x2048x2048, .f32⟩
  | 72 => ⟨S8x2048x1, .f32⟩
  | 73 => ⟨S_, .f32⟩
  | 74 => ⟨S8x2048x1, .f32⟩
  | 75 => ⟨S8x2048x1, .f32⟩
  | 76 => ⟨S2048x8x64, .f32⟩
  | 77 => ⟨S8x64x2048, .f32⟩
  | 78 => ⟨S2048x8x64, .f32⟩
  | 79 => ⟨S2048x512, .f32⟩
  | 80 => ⟨S2048x8x64, .f32⟩
  | 81 => ⟨S8x64x2048, .f32⟩
  | 82 => ⟨S8x2048x2048, .f32⟩
  | 83 => ⟨S8x64x2048, .f32⟩
  | 84 => ⟨S2048x8x64, .f32⟩
  | 85 => ⟨S2048x512, .f32⟩
  | 86 => ⟨S8x2048x2048, .f32⟩
  | 87 => ⟨S8x2048x2048, .f32⟩
  | 88 => ⟨S8x2048x2048, .f32⟩
  | 89 => ⟨S_, .f32⟩
  | 90 => ⟨S8x2048, .f32⟩
  | 91 => ⟨S8x2048x1, .f32⟩
  | 92 => ⟨S8x2048x1, .f32⟩
  | 93 => ⟨S8x2048x2048, .f32⟩
  | 94 => ⟨S8x2048x2048, .f32⟩
  | 95 => ⟨S_, .f32⟩
  | 96 => ⟨S8x2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S_, .f32⟩
  | 105 => ⟨S8x2048, .f32⟩
  | 106 => ⟨S8x1x2048, .f32⟩
  | 107 => ⟨S_, .f32⟩
  | 108 => ⟨S8x2048, .f32⟩
  | 109 => ⟨S2048x8, .f32⟩
  | 110 => ⟨S_, .f32⟩
  | 111 => ⟨S8x2048, .f32⟩
  | 112 => ⟨S8x2048x1, .f32⟩
  | 113 => ⟨S_, .f32⟩
  | 114 => ⟨S8x2048, .f32⟩
  | 115 => ⟨S2048x8, .f32⟩
  | 116 => ⟨S_, .f32⟩
  | 117 => ⟨S8x2048x2048, .f32⟩
  | 118 => ⟨S8x2048x2048, .f32⟩
  | 119 => ⟨S8x2048x64, .f32⟩
  | 120 => ⟨S2048x8x64, .f32⟩
  | 121 => ⟨S8x2048x64, .f32⟩
  | 122 => ⟨S2048x8x64, .f32⟩
  | 123 => ⟨S2048x512, .f32⟩
  | 124 => ⟨S2048x512, .f32⟩
  | 125 => ⟨S2048x512, .bf16⟩
  | 126 => ⟨S2048x512, .bf16⟩
  | 127 => ⟨S2048x512, .bf16⟩
  | _ => ⟨S2048x3200, .bf16⟩

abbrev hbmTy0_1 (i : Nat) : BufTy := match i % 128 with
  | 0 => ⟨S8x2048, .f32⟩
  | 1 => ⟨S4x2x2048, .f32⟩
  | 2 => ⟨S2048x4x2, .f32⟩
  | 3 => ⟨S4x2048x2, .f32⟩
  | 4 => ⟨S_, .i32⟩
  | 5 => ⟨S_, .f32⟩
  | 6 => ⟨S4x2048x128, .f32⟩
  | _ => ⟨S2048x3200, .bf16⟩

abbrev hbmTy (i : Nat) : BufTy := match i / 128 with
  | 0 => hbmTy0_0 i
  | 1 => hbmTy0_1 i
  | _ => ⟨S2048x3200, .bf16⟩

abbrev bufTy : (tb : Table) → Fin (tcTables nBuf tb) → BufTy
  | .hbm, ⟨i, _⟩ => hbmTy i
  | _, _ => ⟨S2048x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call1_cst : Ref sig .tc := ⟨.hbm, 100, rfl⟩
abbrev main_call1_v0 : Ref sig .tc := ⟨.hbm, 101, rfl⟩
abbrev main_v78 : Ref sig .tc := ⟨.hbm, 102, rfl⟩
abbrev main_v79 : Ref sig .tc := ⟨.hbm, 103, rfl⟩
abbrev main_cst_13 : Ref sig .tc := ⟨.hbm, 104, rfl⟩
abbrev main_v80 : Ref sig .tc := ⟨.hbm, 105, rfl⟩
abbrev main_v81 : Ref sig .tc := ⟨.hbm, 106, rfl⟩
abbrev main_cst_14 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_cst_17 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_c : Ref sig .tc := ⟨.hbm, 132, rfl⟩
abbrev main_call2_v0 : Ref sig .tc := ⟨.hbm, 133, rfl⟩
abbrev main_v103 : Ref sig .tc := ⟨.hbm, 134, rfl⟩

abbrev nD : Nat := 1
abbrev τ : Topo := Topo.v7x

variable {F : FTy → Type} [FloatOps F]
-- ==== GradsKernel.lean ====
abbrev S2048x4096 : Shape := ⟨2, ![2048, 4096]⟩
abbrev S2048x1024 : Shape := ⟨2, ![2048, 1024]⟩
abbrev S8x1024x1024 : Shape := ⟨3, ![8, 1024, 1024]⟩
abbrev S2048x512 : Shape := ⟨2, ![2048, 512]⟩
abbrev S1x1024x1024 : Shape := ⟨3, ![1, 1024, 1024]⟩
abbrev S512x1024 : Shape := ⟨2, ![512, 1024]⟩
abbrev S1x512x1024 : Shape := ⟨3, ![1, 512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .bf16⟩
  | .hbm, ⟨3, _⟩ => ⟨S2048x1024, .bf16⟩
  | .hbm, ⟨4, _⟩ => ⟨S8x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GradsReferenceIdeal.lean ====
abbrev S2048x4096 : Shape := ⟨2, ![2048, 4096]⟩
abbrev S2048x1024 : Shape := ⟨2, ![2048, 1024]⟩
abbrev S_ : Shape := ⟨0, ![]⟩
abbrev S1024x4096 : Shape := ⟨2, ![1024, 4096]⟩
abbrev S4096x1024 : Shape := ⟨2, ![4096, 1024]⟩
abbrev S8x512x1024 : Shape := ⟨3, ![8, 512, 1024]⟩
abbrev S8x1024x1024 : Shape := ⟨3, ![8, 1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .bf16⟩
  | .hbm, ⟨3, _⟩ => ⟨S2048x1024, .bf16⟩
  | .hbm, ⟨4, _⟩ => ⟨S_, .f32⟩
  | .hbm, ⟨5, _⟩ => ⟨S1024x4096, .f32⟩
  | .hbm, ⟨6, _⟩ => ⟨S2048x1024, .f32⟩
  | .hbm, ⟨7, _⟩ => ⟨S2048x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S_, .f32⟩
  | .hbm, ⟨12, _⟩ => ⟨S4096x1024, .f32⟩
  | .hbm, ⟨13, _⟩ => ⟨S2048x4096, .f32⟩
  | .hbm, ⟨14, _⟩ => ⟨S2048x1024, .f32⟩
  | .hbm, ⟨15, _⟩ => ⟨S2048x1024, .f32⟩
  | .hbm, ⟨16, _⟩ => ⟨S1024x4096, .f32⟩
  | .hbm, ⟨17, _⟩ => ⟨S4096x1024, .f32⟩
  | .hbm, ⟨18, _⟩ => ⟨S4096x1024, .f32⟩
  | .hbm, ⟨19, _⟩ => ⟨S8x512x1024, .f32⟩
  | .hbm, ⟨20, _⟩ => ⟨S8x512x1024, .f32⟩
  | .hbm, ⟨21, _⟩ => ⟨S8x1024x1024, .f32⟩
  | .hbm, ⟨22, _⟩ => ⟨S8x1024x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== MlpKernel.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S8x512x1024 : Shape := ⟨3, ![8, 512, 1024]⟩
abbrev S8x640x1024 : Shape := ⟨3, ![8, 640, 1024]⟩
abbrev S8x1664x1024 : Shape := ⟨3, ![8, 1664, 1024]⟩
abbrev S2048x4096 : Shape := ⟨2, ![2048, 4096]⟩
abbrev S8x128 : Shape := ⟨2, ![8, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 36
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | .hbm, ⟨22, _⟩ => ⟨S4096x1024, .f32⟩
  | .hbm, ⟨23, _⟩ => ⟨S8x512x1024, .f32⟩
  | .hbm, ⟨24, _⟩ => ⟨S8x512x1024, .f32⟩
  | .hbm, ⟨25, _⟩ => ⟨S_, .f32⟩
  | .hbm, ⟨26, _⟩ => ⟨S8x640x1024, .f32⟩
  | .hbm, ⟨27, _⟩ => ⟨S8x1664x1024, .f32⟩
  | .hbm, ⟨28, _⟩ => ⟨S8x1664x1024, .bf16⟩
  | .hbm, ⟨29, _⟩ => ⟨S2048x1024, .f32⟩
  | .hbm, ⟨30, _⟩ => ⟨S2048x4096, .bf16⟩
  | .hbm, ⟨31, _⟩ => ⟨S2048x1024, .bf16⟩
  | .hbm, ⟨32, _⟩ => ⟨S2048x4096, .bf16⟩
  | .hbm, ⟨33, _⟩ => ⟨S8x128, .f32⟩
  | .hbm, ⟨34, _⟩ => ⟨S1x1024, .f32⟩
  | .hbm, ⟨35, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x512x1024, .bf16⟩
  | .local _ .vmem, ⟨7, _⟩ => ⟨S8x512x1024, .bf16⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x4096, .bf16⟩
  | .local _ .vmem, ⟨17, _⟩ => ⟨S256x4096, .bf16⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev main_v19_5 : Ref sig .tc := ⟨.hbm, 34, rfl⟩
abbrev main_v19_6 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpReferenceIdeal.lean ====
abbrev S2048x1024 : Shape := ⟨2, ![2048, 1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S2048x4096 : Shape := ⟨2, ![2048, 4096]⟩
abbrev S1024 : Shape := ⟨1, ![1024]⟩
abbrev S8x128 : Shape := ⟨2, ![8, 128]⟩

abbrev nBuf : Space → Nat
  | .hbm => 139
  | .vmem => 0
  | .smem => 0
  | _ => 0

abbrev hbmTy0_0 (i : Nat) : BufTy := match i % 128 with
  | 0 => ⟨S2048x1024, .f32⟩
  | 1 => ⟨S1024x4096, .f32⟩
  | 2 => ⟨S4096x1024, .f32⟩
  | 3 => ⟨S1x1024, .f32⟩
  | 4 => ⟨S1x1024, .f32⟩
  | 5 => ⟨S2048x1024, .f32⟩
  | 6 => ⟨S2048x1024, .f32⟩
  | 7 => ⟨S_, .f32⟩
  | 8 => ⟨S2048, .f32⟩
  | 9 => ⟨S2048x1, .f32⟩
  | 10 => ⟨S_, .f32⟩
  | 11 => ⟨S2048x1, .f32⟩
  | 12 => ⟨S2048x1, .f32⟩
  | 13 => ⟨S_, .f32⟩
  | 14 => ⟨S2048x1, .f32⟩
  | 15 => ⟨S2048x1, .f32⟩
  | 16 => ⟨S2048x1, .f32⟩
  | 17 => ⟨S2048x1, .f32⟩
  | 18 => ⟨S_, .f32⟩
  | 19 => ⟨S2048x1, .f32⟩
  | 20 => ⟨S2048x1, .f32⟩
  | 21 => ⟨S2048x1024, .f32⟩
  | 22 => ⟨S2048x1024, .f32⟩
  | 23 => ⟨S2048x1024, .f32⟩
  | 24 => ⟨S2048x1024, .f32⟩
  | 25 => ⟨S2048x4096, .f32⟩
  | 26 => ⟨S_, .f32⟩
  | 27 => ⟨S2048x4096, .f32⟩
  | 28 => ⟨S2048x4096, .f32⟩
  | 29 => ⟨S_, .f32⟩
  | 30 => ⟨S2048x4096, .f32⟩
  | 31 => ⟨S2048x4096, .i1⟩
  | 32 => ⟨S_, .f32⟩
  | 33 => ⟨S2048x4096, .f32⟩
  | 34 => ⟨S2048x4096, .f32⟩
  | 35 => ⟨S_, .f32⟩
  | 36 => ⟨S2048x4096, .f32⟩
  | 37 => ⟨S2048x4096, .f32⟩
  | 38 => ⟨S2048x1024, .f32⟩
  | 39 => ⟨S2048x1024, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S_, .f32⟩
  | 47 => ⟨S2048x1, .f32⟩
  | 48 => ⟨S2048x1, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S_, .f32⟩
  | 62 => ⟨S2048x1024, .f32⟩
  | 63 => ⟨S2048x1024, .f32⟩
  | 64 => ⟨S_, .f32⟩
  | 65 => ⟨S2048, .f32⟩
  | 66 => ⟨S_, .f32⟩
  | 67 => ⟨S2048, .f32⟩
  | 68 => ⟨S2048, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S2048, .f32⟩
  | 77 => ⟨S_, .f32⟩
  | 78 => ⟨S2048, .f32⟩
  | 79 => ⟨S2048, .f32⟩
  | 80 => ⟨S2048x1024, .f32⟩
  | 81 => ⟨S2048x1024, .f32⟩
  | 82 => ⟨S2048x1024, .f32⟩
  | 83 => ⟨S_, .f32⟩
  | 84 => ⟨S1024, .f32⟩
  | 85 => ⟨S1x1024, .f32⟩
  | 86 => ⟨S2048x1024, .f32⟩
  | 87 => ⟨S2048x1024, .f32⟩
  | 88 => ⟨S2048x1024, .f32⟩
  | 89 => ⟨S_, .f32⟩
  | 90 => ⟨S2048, .f32⟩
  | 91 => ⟨S2048x1, .f32⟩
  | 92 => ⟨S2048x1024, .f32⟩
  | 93 => ⟨S2048x1024, .f32⟩
  | 94 => ⟨S2048x1, .f32⟩
  | 95 => ⟨S_, .f32⟩
  | 96 => ⟨S2048x1, .f32⟩
  | 97 => ⟨S2048x1, .f32⟩
  | 98 => ⟨S_, .f32⟩
  | 99 => ⟨S2048, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S2048x4096, .f32⟩
  | 106 => ⟨S2048x4096, .f32⟩
  | 107 => ⟨S_, .f32⟩
  | 108 => ⟨S2048x4096, .f32⟩
  | 109 => ⟨S2048x4096, .f32⟩
  | 110 => ⟨S2048x1024, .f32⟩
  | 111 => ⟨S2048x1024, .f32⟩
  | 112 => ⟨S_, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S_, .f32⟩
  | 119 => ⟨S2048, .f32⟩
  | 120 => ⟨S2048x1, .f32⟩
  | 121 => ⟨S2048x1024, .f32⟩
  | 122 => ⟨S2048x1024, .f32⟩
  | 123 => ⟨S2048x1, .f32⟩
  | 124 => ⟨S_, .f32⟩
  | 125 => ⟨S2048x1, .f32⟩
  | 126 => ⟨S2048x1, .f32⟩
  | 127 => ⟨S_, .f32⟩
  | _ => ⟨S2048x1024, .f32⟩

abbrev hbmTy0_1 (i : Nat) : BufTy := match i % 128 with
  | 0 => ⟨S2048, .f32⟩
  | 1 => ⟨S2048x1024, .f32⟩
  | 2 => ⟨S2048x1024, .f32⟩
  | 3 => ⟨S2048x1024, .f32⟩
  | 4 => ⟨S2048x1024, .f32⟩
  | 5 => ⟨S2048x1024, .f32⟩
  | 6 => ⟨S2048x1024, .f32⟩
  | 7 => ⟨S2048x4096, .bf16⟩
  | 8 => ⟨S2048x1024, .bf16⟩
  | 9 => ⟨S2048x4096, .bf16⟩
  | 10 => ⟨S8x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_cst_15 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_18 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_19 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_20 : Ref sig .tc := ⟨.hbm, 95, rfl⟩
abbrev main_v66 : Ref sig .tc := ⟨.hbm, 96, rfl⟩
abbrev main_v67 : Ref sig .tc := ⟨.hbm, 97, rfl⟩
abbrev main_cst_21 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_22 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_24 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_v91 : Ref sig .tc := ⟨.hbm, 126, rfl⟩
abbrev main_cst_26 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩

abbrev nD : Nat := 1
abbrev τ : Topo := Topo.v7x

variable {F : FTy → Type} [FloatOps F]
-- ==== PremixKernel.lean ====
abbrev S2048x1024 : Shape := ⟨2, ![2048, 1024]⟩
abbrev S2048x512 : Shape := ⟨2, ![2048, 512]⟩
abbrev S2048x128 : Shape := ⟨2, ![2048, 128]⟩
abbrev S3200x1024 : Shape := ⟨2, ![3200, 1024]⟩
abbrev S1x1024 : Shape := ⟨2, ![1, 1024]⟩
abbrev S512x1024 : Shape := ⟨2, ![512, 1024]⟩
abbrev S512x512 : Shape := ⟨2, ![512, 512]⟩
abbrev S512x128 : Shape := ⟨2, ![512, 128]⟩
abbrev S512x3200 : Shape := ⟨2, ![512, 3200]⟩
abbrev S512 : Shape := ⟨1, ![512]⟩
abbrev S512x1 : Shape := ⟨2, ![512, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x128, .bf16⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S3200x1024, .bf16⟩
  | .hbm, ⟨10, _⟩ => ⟨S1x1024, .f32⟩
  | .hbm, ⟨11, _⟩ => ⟨S2048x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S3200x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S512x3200, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3200x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PremixReferenceIdeal.lean ====
abbrev S2048x1024 : Shape := ⟨2, ![2048, 1024]⟩
abbrev S2048x512 : Shape := ⟨2, ![2048, 512]⟩
abbrev S2048x128 : Shape := ⟨2, ![2048, 128]⟩
abbrev S3200x1024 : Shape := ⟨2, ![3200, 1024]⟩
abbrev S1x1024 : Shape := ⟨2, ![1, 1024]⟩
abbrev S2048x3200 : Shape := ⟨2, ![2048, 3200]⟩
abbrev S_ : Shape := ⟨0, ![]⟩
abbrev S2048 : Shape := ⟨1, ![2048]⟩
abbrev S2048x1 : Shape := ⟨2, ![2048, 1]⟩
abbrev S1024x3200 : Shape := ⟨2, ![1024, 3200]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x128, .bf16⟩
  | .hbm, ⟨6, _⟩ => ⟨S2048x512, .bf16⟩
  | .hbm, ⟨7, _⟩ => ⟨S2048x512, .bf16⟩
  | .hbm, ⟨8, _⟩ => ⟨S2048x512, .bf16⟩
  | .hbm, ⟨9, _⟩ => ⟨S3200x1024, .bf16⟩
  | .hbm, ⟨10, _⟩ => ⟨S1x1024, .f32⟩
  | .hbm, ⟨11, _⟩ => ⟨S2048x3200, .bf16⟩
  | .hbm, ⟨12, _⟩ => ⟨S2048x3200, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S3200x1024, .f32⟩
  | .hbm, ⟨33, _⟩ => ⟨S1024x3200, .f32⟩
  | .hbm, ⟨34, _⟩ => ⟨S2048x3200, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== SmallKernel.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x8 : Shape := ⟨2, ![1, 8]⟩
abbrev S8x257 : Shape := ⟨2, ![8, 257]⟩
abbrev S1x512 : Shape := ⟨2, ![1, 512]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x8, .f32⟩
  | .hbm, ⟨6, _⟩ => ⟨S8x257, .f32⟩
  | .hbm, ⟨7, _⟩ => ⟨S1x512, .f32⟩
  | .hbm, ⟨8, _⟩ => ⟨S1x8, .f32⟩
  | .hbm, ⟨9, _⟩ => ⟨S8x257, .f32⟩
  | .hbm, ⟨10, _⟩ => ⟨S1x512, .f32⟩
  | .hbm, ⟨11, _⟩ => ⟨S1x8, .f32⟩
  | .hbm, ⟨12, _⟩ => ⟨S8x257, .f32⟩
  | .hbm, ⟨13, _⟩ => ⟨S1x512, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x8, .f32⟩
  | .hbm, ⟨29, _⟩ => ⟨S1x8, .f32⟩
  | .hbm, ⟨30, _⟩ => ⟨S1x8, .f32⟩
  | .hbm, ⟨31, _⟩ => ⟨S1x8, .f32⟩
  | .hbm, ⟨32, _⟩ => ⟨S8x257, .f32⟩
  | .hbm, ⟨33, _⟩ => ⟨S8x257, .f32⟩
  | .hbm, ⟨34, _⟩ => ⟨S8x257, .f32⟩
  | .hbm, ⟨35, _⟩ => ⟨S8x257, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .local _ .vmem, ⟨0, _⟩ => ⟨S8x24x1024, .f32⟩
  | .local _ .vmem, ⟨1, _⟩ => ⟨S1x8, .f32⟩
  | .local _ .vmem, ⟨2, _⟩ => ⟨S8x257, .f32⟩
  | .local _ .vmem, ⟨3, _⟩ => ⟨S1x512, .f32⟩
  | .local _ .vmem, ⟨4, _⟩ => ⟨S1x8, .f32⟩
  | .local _ .vmem, ⟨5, _⟩ => ⟨S8x257, .f32⟩
  | .local _ .vmem, ⟨6, _⟩ => ⟨S1x512, .f32⟩
  | .local _ .vmem, ⟨7, _⟩ => ⟨S1x8, .f32⟩
  | .local _ .vmem, ⟨8, _⟩ => ⟨S8x257, .f32⟩
  | .local _ .vmem, ⟨9, _⟩ => ⟨S1x512, .f32⟩
  | .local _ .vmem, ⟨10, _⟩ => ⟨S1x128, .f32⟩
  | .local _ .vmem, ⟨11, _⟩ => ⟨S1x8, .f32⟩
  | .local _ .vmem, ⟨12, _⟩ => ⟨S1x8, .f32⟩
  | .local _ .vmem, ⟨13, _⟩ => ⟨S1x8, .f32⟩
  | .local _ .vmem, ⟨14, _⟩ => ⟨S1x8, .f32⟩
  | .local _ .vmem, ⟨15, _⟩ => ⟨S8x257, .f32⟩
  | .local _ .vmem, ⟨16, _⟩ => ⟨S8x257, .f32⟩
  | .local _ .vmem, ⟨17, _⟩ => ⟨S8x257, .f32⟩
  | .local _ .vmem, ⟨18, _⟩ => ⟨S8x257, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x257 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x257 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x257 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x257 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== SmallKernelIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x8 : Shape := ⟨2, ![1, 8]⟩
abbrev S8x257 : Shape := ⟨2, ![8, 257]⟩
abbrev S1x512 : Shape := ⟨2, ![1, 512]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x8, .f32⟩
  | .hbm, ⟨6, _⟩ => ⟨S8x257, .f32⟩
  | .hbm, ⟨7, _⟩ => ⟨S1x512, .f32⟩
  | .hbm, ⟨8, _⟩ => ⟨S1x8, .f32⟩
  | .hbm, ⟨9, _⟩ => ⟨S8x257, .f32⟩
  | .hbm, ⟨10, _⟩ => ⟨S1x512, .f32⟩
  | .hbm, ⟨11, _⟩ => ⟨S1x8, .f32⟩
  | .hbm, ⟨12, _⟩ => ⟨S8x257, .f32⟩
  | .hbm, ⟨13, _⟩ => ⟨S1x512, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x8, .f32⟩
  | .hbm, ⟨29, _⟩ => ⟨S1x8, .f32⟩
  | .hbm, ⟨30, _⟩ => ⟨S1x8, .f32⟩
  | .hbm, ⟨31, _⟩ => ⟨S1x8, .f32⟩
  | .hbm, ⟨32, _⟩ => ⟨S8x257, .f32⟩
  | .hbm, ⟨33, _⟩ => ⟨S8x257, .f32⟩
  | .hbm, ⟨34, _⟩ => ⟨S8x257, .f32⟩
  | .hbm, ⟨35, _⟩ => ⟨S8x257, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S1x512, .f32⟩
  | .local _ .vmem, ⟨0, _⟩ => ⟨S8x24x1024, .f32⟩
  | .local _ .vmem, ⟨1, _⟩ => ⟨S1x8, .f32⟩
  | .local _ .vmem, ⟨2, _⟩ => ⟨S8x257, .f32⟩
  | .local _ .vmem, ⟨3, _⟩ => ⟨S1x512, .f32⟩
  | .local _ .vmem, ⟨4, _⟩ => ⟨S1x8, .f32⟩
  | .local _ .vmem, ⟨5, _⟩ => ⟨S8x257, .f32⟩
  | .local _ .vmem, ⟨6, _⟩ => ⟨S1x512, .f32⟩
  | .local _ .vmem, ⟨7, _⟩ => ⟨S1x8, .f32⟩
  | .local _ .vmem, ⟨8, _⟩ => ⟨S8x257, .f32⟩
  | .local _ .vmem, ⟨9, _⟩ => ⟨S1x512, .f32⟩
  | .local _ .vmem, ⟨10, _⟩ => ⟨S1x128, .f32⟩
  | .local _ .vmem, ⟨11, _⟩ => ⟨S1x8, .f32⟩
  | .local _ .vmem, ⟨12, _⟩ => ⟨S1x8, .f32⟩
  | .local _ .vmem, ⟨13, _⟩ => ⟨S1x8, .f32⟩
  | .local _ .vmem, ⟨14, _⟩ => ⟨S1x8, .f32⟩
  | .local _ .vmem, ⟨15, _⟩ => ⟨S8x257, .f32⟩
  | .local _ .vmem, ⟨16, _⟩ => ⟨S8x257, .f32⟩
  | .local _ .vmem, ⟨17, _⟩ => ⟨S8x257, .f32⟩
  | .local _ .vmem, ⟨18, _⟩ => ⟨S8x257, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x257 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x257 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x257 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x257 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x257 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x257 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== SmallReferenceIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x8 : Shape := ⟨2, ![1, 8]⟩
abbrev S8x257 : Shape := ⟨2, ![8, 257]⟩
abbrev S1x512 : Shape := ⟨2, ![1, 512]⟩
abbrev S8x1x512 : Shape := ⟨3, ![8, 1, 512]⟩
abbrev S8x1x1024 : Shape := ⟨3, ![8, 1, 1024]⟩
abbrev S_ : Shape := ⟨0, ![]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S8x1x128, .f32⟩
  | 1 => ⟨S8x1x8, .f32⟩
  | 2 => ⟨S8x8x257, .f32⟩
  | 3 => ⟨S8x2x512, .f32⟩
  | 4 => ⟨S8x7x1024, .f32⟩
  | 5 => ⟨S1x8, .f32⟩
  | 6 => ⟨S8x257, .f32⟩
  | 7 => ⟨S1x512, .f32⟩
  | 8 => ⟨S1x8, .f32⟩
  | 9 => ⟨S8x257, .f32⟩
  | 10 => ⟨S1x512, .f32⟩
  | 11 => ⟨S1x8, .f32⟩
  | 12 => ⟨S8x257, .f32⟩
  | 13 => ⟨S1x512, .f32⟩
  | 14 => ⟨S8x1x512, .f32⟩
  | 15 => ⟨S8x1x512, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S_, .f32⟩
  | 24 => ⟨S1x128, .f32⟩
  | 25 => ⟨S_, .f32⟩
  | 26 => ⟨S1x8, .f32⟩
  | 27 => ⟨S_, .f32⟩
  | 28 => ⟨S1x8, .f32⟩
  | 29 => ⟨S1x8, .f32⟩
  | 30 => ⟨S_, .f32⟩
  | 31 => ⟨S1x8, .f32⟩
  | 32 => ⟨S1x8, .f32⟩
  | 33 => ⟨S1x8, .f32⟩
  | 34 => ⟨S_, .f32⟩
  | 35 => ⟨S1x8, .f32⟩
  | 36 => ⟨S1x8, .f32⟩
  | 37 => ⟨S1x8, .f32⟩
  | 38 => ⟨S_, .f32⟩
  | 39 => ⟨S1x8, .f32⟩
  | 40 => ⟨S1x8, .f32⟩
  | 41 => ⟨S1x8, .f32⟩
  | 42 => ⟨S_, .f32⟩
  | 43 => ⟨S1x8, .f32⟩
  | 44 => ⟨S1x8, .f32⟩
  | 45 => ⟨S_, .f32⟩
  | 46 => ⟨S1x8, .f32⟩
  | 47 => ⟨S1x8, .f32⟩
  | 48 => ⟨S1x8, .f32⟩
  | 49 => ⟨S_, .f32⟩
  | 50 => ⟨S1x8, .f32⟩
  | 51 => ⟨S1x8, .f32⟩
  | 52 => ⟨S1x8, .f32⟩
  | 53 => ⟨S_, .f32⟩
  | 54 => ⟨S1x8, .f32⟩
  | 55 => ⟨S1x8, .f32⟩
  | 56 => ⟨S1x8, .f32⟩
  | 57 => ⟨S_, .f32⟩
  | 58 => ⟨S1x8, .f32⟩
  | 59 => ⟨S1x8, .f32⟩
  | 60 => ⟨S_, .f32⟩
  | 61 => ⟨S8x257, .f32⟩
  | 62 => ⟨S_, .f32⟩
  | 63 => ⟨S8x257, .f32⟩
  | 64 => ⟨S8x257, .f32⟩
  | 65 => ⟨S_, .f32⟩
  | 66 => ⟨S8x257, .f32⟩
  | 67 => ⟨S8x257, .f32⟩
  | 68 => ⟨S8x257, .f32⟩
  | 69 => ⟨S_, .f32⟩
  | 70 => ⟨S8x257, .f32⟩
  | 71 => ⟨S8x257, .f32⟩
  | 72 => ⟨S8x257, .f32⟩
  | 73 => ⟨S_, .f32⟩
  | 74 => ⟨S8x257, .f32⟩
  | 75 => ⟨S8x257, .f32⟩
  | 76 => ⟨S8x257, .f32⟩
  | 77 => ⟨S_, .f32⟩
  | 78 => ⟨S8x257, .f32⟩
  | 79 => ⟨S8x257, .f32⟩
  | 80 => ⟨S_, .f32⟩
  | 81 => ⟨S8x257, .f32⟩
  | 82 => ⟨S8x257, .f32⟩
  | 83 => ⟨S8x257, .f32⟩
  | 84 => ⟨S_, .f32⟩
  | 85 => ⟨S8x257, .f32⟩
  | 86 => ⟨S8x257, .f32⟩
  | 87 => ⟨S8x257, .f32⟩
  | 88 => ⟨S_, .f32⟩
  | 89 => ⟨S8x257, .f32⟩
  | 90 => ⟨S8x257, .f32⟩
  | 91 => ⟨S8x257, .f32⟩
  | 92 => ⟨S_, .f32⟩
  | 93 => ⟨S8x257, .f32⟩
  | 94 => ⟨S8x257, .f32⟩
  | 95 => ⟨S_, .f32⟩
  | 96 => ⟨S1x512, .f32⟩
  | 97 => ⟨S_, .f32⟩
  | 98 => ⟨S1x512, .f32⟩
  | 99 => ⟨S1x512, .f32⟩
  | 100 => ⟨S_, .f32⟩
  | 101 => ⟨S1x512, .f32⟩
  | 102 => ⟨S1x512, .f32⟩
  | 103 => ⟨S1x512, .f32⟩
  | 104 => ⟨S_, .f32⟩
  | 105 => ⟨S1x512, .f32⟩
  | 106 => ⟨S1x512, .f32⟩
  | 107 => ⟨S1x512, .f32⟩
  | 108 => ⟨S_, .f32⟩
  | 109 => ⟨S1x512, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S_, .f32⟩
  | 116 => ⟨S1x512, .f32⟩
  | 117 => ⟨S1x512, .f32⟩
  | 118 => ⟨S1x512, .f32⟩
  | 119 => ⟨S_, .f32⟩
  | 120 => ⟨S1x512, .f32⟩
  | 121 => ⟨S1x512, .f32⟩
  | 122 => ⟨S1x512, .f32⟩
  | 123 => ⟨S_, .f32⟩
  | 124 => ⟨S1x512, .f32⟩
  | 125 => ⟨S1x512, .f32⟩
  | 126 => ⟨S1x512, .f32⟩
  | 127 => ⟨S_, .f32⟩
  | _ => ⟨S8x1x128, .f32⟩

abbrev hbmTy0_1 (i : Nat) : BufTy := match i % 128 with
  | 0 => ⟨S1x512, .f32⟩
  | 1 => ⟨S1x512, .f32⟩
  | _ => ⟨S8x1x128, .f32⟩

abbrev hbmTy (i : Nat) : BufTy := match i / 128 with
  | 0 => hbmTy0_0 i
  | 1 => hbmTy0_1 i
  | _ => ⟨S8x1x128, .f32⟩

abbrev bufTy : (tb : Table) → Fin (tcTables nBuf tb) → BufTy
  | .hbm, ⟨i, _⟩ => hbmTy i
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_13 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_19 : Ref sig .tc := ⟨.hbm, 92, rfl⟩
abbrev main_v58 : Ref sig .tc := ⟨.hbm, 93, rfl⟩
abbrev main_v59 : Ref sig .tc := ⟨.hbm, 94, rfl⟩
abbrev main_cst_20 : Ref sig .tc := ⟨.hbm, 95, rfl⟩
abbrev main_v60 : Ref sig .tc := ⟨.hbm, 96, rfl⟩
abbrev main_cst_21 : Ref sig .tc := ⟨.hbm, 97, rfl⟩
abbrev main_v61 : Ref sig .tc := ⟨.hbm, 98, rfl⟩
abbrev main_v62 : Ref sig .tc := ⟨.hbm, 99, rfl⟩
abbrev main_cst_22 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_23 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_24 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_25 : Ref sig .tc := ⟨.hbm, 112, rfl⟩
abbrev main_v72 : Ref sig .tc := ⟨.hbm, 113, rfl⟩
abbrev main_v73 : Ref sig .tc := ⟨.hbm, 114, rfl⟩
abbrev main_cst_26 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_27 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_29 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== RowsKernel.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x512 : Shape := ⟨2, ![1, 512]⟩
abbrev S1x1024 : Shape := ⟨2, ![1, 1024]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S1x1024, .f32⟩
  | .hbm, ⟨10, _⟩ => ⟨S1x1024, .f32⟩
  | .hbm, ⟨11, _⟩ => ⟨S1x512, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .local _ .vmem, ⟨0, _⟩ => ⟨S8x24x1024, .f32⟩
  | .local _ .vmem, ⟨1, _⟩ => ⟨S1x512, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S1x1024, .f32⟩
  | .local _ .vmem, ⟨6, _⟩ => ⟨S1x1024, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== RowsKernelIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x512 : Shape := ⟨2, ![1, 512]⟩
abbrev S1x1024 : Shape := ⟨2, ![1, 1024]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x512, .f32⟩
  | .hbm, ⟨6, _⟩ => ⟨S1x1024, .f32⟩
  | .hbm, ⟨7, _⟩ => ⟨S1x1024, .f32⟩
  | .hbm, ⟨8, _⟩ => ⟨S1x512, .f32⟩
  | .hbm, ⟨9, _⟩ => ⟨S1x1024, .f32⟩
  | .hbm, ⟨10, _⟩ => ⟨S1x1024, .f32⟩
  | .hbm, ⟨11, _⟩ => ⟨S1x512, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .local _ .vmem, ⟨0, _⟩ => ⟨S8x24x1024, .f32⟩
  | .local _ .vmem, ⟨1, _⟩ => ⟨S1x512, .f32⟩
  | .local _ .vmem, ⟨2, _⟩ => ⟨S1x1024, .f32⟩
  | .local _ .vmem, ⟨3, _⟩ => ⟨S1x1024, .f32⟩
  | .local _ .vmem, ⟨4, _⟩ => ⟨S1x512, .f32⟩
  | .local _ .vmem, ⟨5, _⟩ => ⟨S1x1024, .f32⟩
  | .local _ .vmem, ⟨6, _⟩ => ⟨S1x1024, .f32⟩
  | .local _ .vmem, ⟨7, _⟩ => ⟨S1x512, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== RowsReferenceIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x512 : Shape := ⟨2, ![1, 512]⟩
abbrev S1x1024 : Shape := ⟨2, ![1, 1024]⟩
abbrev S8x1x512 : Shape := ⟨3, ![8, 1, 512]⟩
abbrev S8x1x1024 : Shape := ⟨3, ![8, 1, 1024]⟩
abbrev S_ : Shape := ⟨0, ![]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S8x1x128, .f32⟩
  | 1 => ⟨S8x1x8, .f32⟩
  | 2 => ⟨S8x8x257, .f32⟩
  | 3 => ⟨S8x2x512, .f32⟩
  | 4 => ⟨S8x7x1024, .f32⟩
  | 5 => ⟨S1x512, .f32⟩
  | 6 => ⟨S1x1024, .f32⟩
  | 7 => ⟨S1x1024, .f32⟩
  | 8 => ⟨S1x512, .f32⟩
  | 9 => ⟨S1x1024, .f32⟩
  | 10 => ⟨S1x1024, .f32⟩
  | 11 => ⟨S1x512, .f32⟩
  | 12 => ⟨S1x1024, .f32⟩
  | 13 => ⟨S1x1024, .f32⟩
  | 14 => ⟨S8x1x512, .f32⟩
  | 15 => ⟨S8x1x512, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S_, .f32⟩
  | 24 => ⟨S1x128, .f32⟩
  | 25 => ⟨S_, .f32⟩
  | 26 => ⟨S1x512, .f32⟩
  | 27 => ⟨S_, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S1x512, .f32⟩
  | 42 => ⟨S_, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S1x512, .f32⟩
  | 57 => ⟨S_, .f32⟩
  | 58 => ⟨S1x512, .f32⟩
  | 59 => ⟨S1x512, .f32⟩
  | 60 => ⟨S_, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1x128, .f32⟩

abbrev hbmTy0_1 (i : Nat) : BufTy := match i % 128 with
  | 0 => ⟨S1x1024, .f32⟩
  | 1 => ⟨S1x1024, .f32⟩
  | _ => ⟨S8x1x128, .f32⟩

abbrev hbmTy (i : Nat) : BufTy := match i / 128 with
  | 0 => hbmTy0_0 i
  | 1 => hbmTy0_1 i
  | _ => ⟨S8x1x128, .f32⟩

abbrev bufTy : (tb : Table) → Fin (tcTables nBuf tb) → BufTy
  | .hbm, ⟨i, _⟩ => hbmTy i
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_13 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_19 : Ref sig .tc := ⟨.hbm, 92, rfl⟩
abbrev main_v58 : Ref sig .tc := ⟨.hbm, 93, rfl⟩
abbrev main_v59 : Ref sig .tc := ⟨.hbm, 94, rfl⟩
abbrev main_cst_20 : Ref sig .tc := ⟨.hbm, 95, rfl⟩
abbrev main_v60 : Ref sig .tc := ⟨.hbm, 96, rfl⟩
abbrev main_cst_21 : Ref sig .tc := ⟨.hbm, 97, rfl⟩
abbrev main_v61 : Ref sig .tc := ⟨.hbm, 98, rfl⟩
abbrev main_v62 : Ref sig .tc := ⟨.hbm, 99, rfl⟩
abbrev main_cst_22 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_23 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_24 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_25 : Ref sig .tc := ⟨.hbm, 112, rfl⟩
abbrev main_v72 : Ref sig .tc := ⟨.hbm, 113, rfl⟩
abbrev main_v73 : Ref sig .tc := ⟨.hbm, 114, rfl⟩
abbrev main_cst_26 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_27 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_29 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== MemKernel.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x1024 : Shape := ⟨2, ![1, 1024]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .local _ .vmem, ⟨0, _⟩ => ⟨S8x24x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MemKernelIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x1024 : Shape := ⟨2, ![1, 1024]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 40
  | .vmem => 24
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S_, .f32⟩
  | .hbm, ⟨15, _⟩ => ⟨S8x8x767, .f32⟩
  | .hbm, ⟨16, _⟩ => ⟨S8x8x1024, .f32⟩
  | .hbm, ⟨17, _⟩ => ⟨S_, .f32⟩
  | .hbm, ⟨18, _⟩ => ⟨S8x1x1016, .f32⟩
  | .hbm, ⟨19, _⟩ => ⟨S8x1x1024, .f32⟩
  | .hbm, ⟨20, _⟩ => ⟨S8x1x1024, .f32⟩
  | .hbm, ⟨21, _⟩ => ⟨S_, .f32⟩
  | .hbm, ⟨22, _⟩ => ⟨S8x1x896, .f32⟩
  | .hbm, ⟨23, _⟩ => ⟨S8x1x1024, .f32⟩
  | .hbm, ⟨24, _⟩ => ⟨S_, .f32⟩
  | .hbm, ⟨25, _⟩ => ⟨S8x6x1024, .f32⟩
  | .hbm, ⟨26, _⟩ => ⟨S8x24x1024, .f32⟩
  | .hbm, ⟨27, _⟩ => ⟨S1x128, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .local _ .vmem, ⟨0, _⟩ => ⟨S8x24x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_cst_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v9_2 : Ref sig .tc := ⟨.hbm, 29, rfl⟩
abbrev main_v9_3 : Ref sig .tc := ⟨.hbm, 30, rfl⟩
abbrev main_v9_4 : Ref sig .tc := ⟨.hbm, 31, rfl⟩
abbrev main_v9_5 : Ref sig .tc := ⟨.hbm, 32, rfl⟩
abbrev main_v9_6 : Ref sig .tc := ⟨.hbm, 33, rfl⟩
abbrev main_v9_7 : Ref sig .tc := ⟨.hbm, 34, rfl⟩
abbrev main_v9_8 : Ref sig .tc := ⟨.hbm, 35, rfl⟩
abbrev main_v9_9 : Ref sig .tc := ⟨.hbm, 36, rfl⟩
abbrev main_v9_10 : Ref sig .tc := ⟨.hbm, 37, rfl⟩
abbrev main_v9_11 : Ref sig .tc := ⟨.hbm, 38, rfl⟩
abbrev main_v9_12 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MemReferenceIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x1024 : Shape := ⟨2, ![1, 1024]⟩
abbrev S8x1x512 : Shape := ⟨3, ![8, 1, 512]⟩
abbrev S8x1x1024 : Shape := ⟨3, ![8, 1, 1024]⟩
abbrev S_ : Shape := ⟨0, ![]⟩
abbrev S1x128 : Shape := ⟨2, ![1, 128]⟩

abbrev nBuf : Space → Nat
  | .hbm => 130
  | .vmem => 0
  | .smem => 0
  | _ => 0

abbrev hbmTy0_0 (i : Nat) : BufTy := match i % 128 with
  | 0 => ⟨S8x1x128, .f32⟩
  | 1 => ⟨S8x1x8, .f32⟩
  | 2 => ⟨S8x8x257, .f32⟩
  | 3 => ⟨S8x2x512, .f32⟩
  | 4 => ⟨S8x7x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S8x1x512, .f32⟩
  | 15 => ⟨S8x1x512, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S_, .f32⟩
  | 24 => ⟨S1x128, .f32⟩
  | 25 => ⟨S_, .f32⟩
  | 26 => ⟨S1x1024, .f32⟩
  | 27 => ⟨S_, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1x128, .f32⟩

abbrev hbmTy0_1 (i : Nat) : BufTy := match i % 128 with
  | 0 => ⟨S1x1024, .f32⟩
  | 1 => ⟨S1x1024, .f32⟩
  | _ => ⟨S8x1x128, .f32⟩

abbrev hbmTy (i : Nat) : BufTy := match i / 128 with
  | 0 => hbmTy0_0 i
  | 1 => hbmTy0_1 i
  | _ => ⟨S8x1x128, .f32⟩

abbrev bufTy : (tb : Table) → Fin (tcTables nBuf tb) → BufTy
  | .hbm, ⟨i, _⟩ => hbmTy i
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_cst_11 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_13 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_15 : Ref sig .tc := ⟨.hbm, 77, rfl⟩
abbrev main_v47 : Ref sig .tc := ⟨.hbm, 78, rfl⟩
abbrev main_v48 : Ref sig .tc := ⟨.hbm, 79, rfl⟩
abbrev main_cst_16 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_17 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_18 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_19 : Ref sig .tc := ⟨.hbm, 92, rfl⟩
abbrev main_v58 : Ref sig .tc := ⟨.hbm, 93, rfl⟩
abbrev main_v59 : Ref sig .tc := ⟨.hbm, 94, rfl⟩
abbrev main_cst_20 : Ref sig .tc := ⟨.hbm, 95, rfl⟩
abbrev main_v60 : Ref sig .tc := ⟨.hbm, 96, rfl⟩
abbrev main_cst_21 : Ref sig .tc := ⟨.hbm, 97, rfl⟩
abbrev main_v61 : Ref sig .tc := ⟨.hbm, 98, rfl⟩
abbrev main_v62 : Ref sig .tc := ⟨.hbm, 99, rfl⟩
abbrev main_cst_22 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_23 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_24 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_25 : Ref sig .tc := ⟨.hbm, 112, rfl⟩
abbrev main_v72 : Ref sig .tc := ⟨.hbm, 113, rfl⟩
abbrev main_v73 : Ref sig .tc := ⟨.hbm, 114, rfl⟩
abbrev main_cst_26 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_27 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_28 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_29 : Ref sig .tc := ⟨.hbm, 127, rfl⟩
abbrev main_v83 : Ref sig .tc := ⟨.hbm, 128, rfl⟩
abbrev main_v84 : Ref sig .tc := ⟨.hbm, 129, rfl⟩

abbrev nD : Nat := 1
abbrev τ : Topo := Topo.v7x

variable {F : FTy → Type} [FloatOps F]
-- ==== FfKernel.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x1024 : Shape := ⟨2, ![1, 1024]⟩
abbrev S_ : Shape := ⟨0, ![]⟩
abbrev S8x8x767 : Shape := ⟨3, ![8, 8, 767]⟩
abbrev S8x8x1024 : Shape := ⟨3, ![8, 8, 1024]⟩
abbrev S8x1x1016 : Shape := ⟨3, ![8, 1, 1016]⟩
abbrev S8x1x1024 : Shape := ⟨3, ![8, 1, 1024]⟩
abbrev S8x1x896 : Shape := ⟨3, ![8, 1, 896]⟩
abbrev S8x6x1024 : Shape := ⟨3, ![8, 6, 1024]⟩
abbrev S8x24x1024 : Shape := ⟨3, ![8, 24, 1024]⟩
abbrev S1x128 : Shape := ⟨2, ![1, 128]⟩
abbrev S24x1024 : Shape := ⟨2, ![24, 1024]⟩
abbrev S1x24x1024 : Shape := ⟨3, ![1, 24, 1024]⟩

abbrev nBuf : Space → Nat
  | .hbm => 33
  | .vmem => 17
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S8x8x767, .f32⟩
  | .hbm, ⟨13, _⟩ => ⟨S8x8x1024, .f32⟩
  | .hbm, ⟨14, _⟩ => ⟨S_, .f32⟩
  | .hbm, ⟨15, _⟩ => ⟨S8x1x1016, .f32⟩
  | .hbm, ⟨16, _⟩ => ⟨S8x1x1024, .f32⟩
  | .hbm, ⟨17, _⟩ => ⟨S8x1x1024, .f32⟩
  | .hbm, ⟨18, _⟩ => ⟨S_, .f32⟩
  | .hbm, ⟨19, _⟩ => ⟨S8x1x896, .f32⟩
  | .hbm, ⟨20, _⟩ => ⟨S8x1x1024, .f32⟩
  | .hbm, ⟨21, _⟩ => ⟨S_, .f32⟩
  | .hbm, ⟨22, _⟩ => ⟨S8x6x1024, .f32⟩
  | .hbm, ⟨23, _⟩ => ⟨S8x24x1024, .f32⟩
  | .hbm, ⟨24, _⟩ => ⟨S1x128, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .local _ .vmem, ⟨0, _⟩ => ⟨S8x24x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S24x1024, .f32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev main_v9_2 : Ref sig .tc := ⟨.hbm, 26, rfl⟩
abbrev main_v9_3 : Ref sig .tc := ⟨.hbm, 27, rfl⟩
abbrev main_v9_4 : Ref sig .tc := ⟨.hbm, 28, rfl⟩
abbrev main_v9_5 : Ref sig .tc := ⟨.hbm, 29, rfl⟩
abbrev main_v9_6 : Ref sig .tc := ⟨.hbm, 30, rfl⟩
abbrev main_v9_7 : Ref sig .tc := ⟨.hbm, 31, rfl⟩
abbrev main_v9_8 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FfReferenceIdeal.lean ====
abbrev S8x1x128 : Shape := ⟨3, ![8, 1, 128]⟩
abbrev S8x1x8 : Shape := ⟨3, ![8, 1, 8]⟩
abbrev S8x8x257 : Shape := ⟨3, ![8, 8, 257]⟩
abbrev S8x2x512 : Shape := ⟨3, ![8, 2, 512]⟩
abbrev S8x7x1024 : Shape := ⟨3, ![8, 7, 1024]⟩
abbrev S1x1024 : Shape := ⟨2, ![1, 1024]⟩
abbrev S8x1x512 : Shape := ⟨3, ![8, 1, 512]⟩
abbrev S8x1x1024 : Shape := ⟨3, ![8, 1, 1024]⟩
abbrev S_ : Shape := ⟨0, ![]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S8x1x128, .f32⟩
  | .hbm, ⟨1, _⟩ => ⟨S8x1x8, .f32⟩
  | .hbm, ⟨2, _⟩ => ⟨S8x8x257, .f32⟩
  | .hbm, ⟨3, _⟩ => ⟨S8x2x512, .f32⟩
  | .hbm, ⟨4, _⟩ => ⟨S8x7x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8x1x512, .f32⟩
  | .hbm, ⟨12, _⟩ => ⟨S8x1x512, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S_, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S_, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S_, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S_, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_8 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_cst_10 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_14 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_15 : Ref sig .tc := ⟨.hbm, 74, rfl⟩
abbrev main_v47 : Ref sig .tc := ⟨.hbm, 75, rfl⟩
abbrev main_v48 : Ref sig .tc := ⟨.hbm, 76, rfl⟩
abbrev main_cst_16 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_18 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_19 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== Proof.Math.lean ====
/-
  The attention's backward pass for ONE HEAD in the real numbers: the causal weights, what they give, and the five
  gradients, each as one plain sum; and the two identities that a softmax's derivative needs. A program's head is read
  as such a `Head`: the entries of its arrays as reals.
-/
module

public import Mathlib.Analysis.SpecialFunctions.Log.Basic
public import Mathlib.Data.EReal.Operations
public import Mathlib.Data.EReal.Inv
public import Mathlib.Algebra.BigOperators.Field

@[expose] public section

noncomputable section

open scoped BigOperators

namespace Fox

/-- A finite sum of reals, read as extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One head's operands: queries, keys, values, the output's cotangent, and the cumulative log-forget sums. -/
structure Head where
  q : Fin 2048 → Fin 64 → ℝ
  k : Fin 2048 → Fin 64 → ℝ
  v : Fin 2048 → Fin 64 → ℝ
  g : Fin 2048 → Fin 64 → ℝ
  c : Fin 2048 → ℝ

namespace Head

variable (H : Head)

/-- The logit of query `t` at key `s`. -/
def l (t s : Fin 2048) : ℝ := (∑ d, H.q t d * H.k s d) * (1 / 8) + H.c t - H.c s

/-- Query `t`'s normaliser. -/
def n (t : Fin 2048) : ℝ := ∑ s, if s ≤ t then Real.exp (H.l t s) else 0

/-- The weight of key `s` for query `t`, nothing ahead of the query. -/
def p (t s : Fin 2048) : ℝ := if s ≤ t then Real.exp (H.l t s) / H.n t else 0

/-- The log of the normaliser. -/
def lse (t : Fin 2048) : ℝ := Real.log (H.n t)

/-- The attention's output. -/
def o (t : Fin 2048) (d : Fin 64) : ℝ := ∑ s, H.p t s * H.v s d

/-- The weights' cotangent. -/
def dp (t s : Fin 2048) : ℝ := ∑ d, H.g t d * H.v s d

/-- The row term of the softmax's derivative. -/
def del (t : Fin 2048) : ℝ := ∑ d, H.g t d * H.o t d

/-- The logits' cotangent. -/
def ds (t s : Fin 2048) : ℝ := H.p t s * (H.dp t s - H.del t)

/-- The queries' gradient. -/
def dq (t : Fin 2048) (d : Fin 64) : ℝ := (∑ s, H.ds t s * H.k s d) * (1 / 8)

/-- The keys' gradient. -/
def dk (s : Fin 2048) (d : Fin 64) : ℝ := ∑ t, H.q t d * (1 / 8) * H.ds t s

/-- The values' gradient. -/
def dv (s : Fin 2048) (d : Fin 64) : ℝ := ∑ t, H.g t d * H.p t s

/-- The gradient of the forget sums on the key side. -/
def dct (s : Fin 2048) : ℝ := -∑ t, H.ds t s

/-- The gradient of the forget sums on the query side. -/
def dcq (t : Fin 2048) : ℝ := ∑ s, H.ds t s

theorem n_pos (t : Fin 2048) : 0 < H.n t := by
  refine Finset.sum_pos' (fun s _ => ?_) ⟨t, Finset.mem_univ t, ?_⟩
  · split_ifs
    · exact (Real.exp_pos _).le
    · exact le_refl 0
  · rw [if_pos (le_refl t)]; exact Real.exp_pos _

/-- Nothing flows to a key ahead of the query. -/
theorem p_ahead {t s : Fin 2048} (h : ¬ s ≤ t) : H.p t s = 0 := if_neg h

theorem ds_ahead {t s : Fin 2048} (h : ¬ s ≤ t) : H.ds t s = 0 := by rw [ds, H.p_ahead h, zero_mul]

/-- The weight as an exponential of the logit less the log of the normaliser. -/
theorem p_eq_exp {t s : Fin 2048} (h : s ≤ t) : Real.exp (H.l t s - H.lse t) = H.p t s := by
  rw [p, if_pos h, Real.exp_sub, lse, Real.exp_log (H.n_pos t)]

/-! ### The softmax about any real `m` (a program takes the row's greatest logit) -/

/-- The exponential of the logit less `m`, nothing ahead of the query. -/
def e (m : ℝ) (t s : Fin 2048) : ℝ := if s ≤ t then Real.exp (H.l t s - m) else 0

/-- The normaliser about `m`. -/
def z (m : ℝ) (t : Fin 2048) : ℝ := ∑ s, H.e m t s

theorem z_eq (m : ℝ) (t : Fin 2048) : H.z m t = H.n t / Real.exp m := by
  rw [z, n, Finset.sum_div]
  refine Finset.sum_congr rfl fun s _ => ?_
  rw [e]
  split_ifs
  · rw [Real.exp_sub]
  · rw [zero_div]

theorem z_pos (m : ℝ) (t : Fin 2048) : 0 < H.z m t := by
  rw [z_eq]; exact div_pos (H.n_pos t) (Real.exp_pos m)

/-- The weights do not depend on `m`. -/
theorem e_div_z (m : ℝ) (t s : Fin 2048) : H.e m t s / H.z m t = H.p t s := by
  rw [z_eq, e, p]
  have h1 := (Real.exp_pos m).ne'
  have h2 := (H.n_pos t).ne'
  split_ifs
  · rw [Real.exp_sub]; field_simp
  · rw [zero_div]

/-- Nor does the log of the normaliser. -/
theorem log_z (m : ℝ) (t : Fin 2048) : m + Real.log (H.z m t) = H.lse t := by
  rw [z_eq, lse, Real.log_div (H.n_pos t).ne' (Real.exp_pos m).ne', Real.log_exp]; ring

/-- The row term is the weights' cotangent averaged by the weights. -/
theorem del_eq (t : Fin 2048) : H.del t = ∑ s, H.p t s * H.dp t s := by
  simp only [del, o, dp, Finset.mul_sum]
  rw [Finset.sum_comm]
  refine Finset.sum_congr rfl fun s _ => Finset.sum_congr rfl fun d _ => ?_
  ring

/-- The logits' cotangent as differentiating the quotient `e / z` gives it. -/
theorem ds_eq (m : ℝ) (t s : Fin 2048) :
    (H.dp t s / H.z m t + -(∑ s', H.dp t s' * (1 / (H.z m t * H.z m t)) * H.e m t s')) * H.e m t s = H.ds t s := by
  have hz := (H.z_pos m t).ne'
  have hs : ∑ s', H.dp t s' * (1 / (H.z m t * H.z m t)) * H.e m t s' = H.del t / H.z m t := by
    rw [del_eq, Finset.sum_div]
    refine Finset.sum_congr rfl fun s' _ => ?_
    rw [← H.e_div_z m t s']; field_simp
  rw [hs, ds, ← H.e_div_z m t s]
  field_simp
  ring

/-! ### The gradients as other groupings of the same sums -/

theorem dq_sum (t : Fin 2048) (d : Fin 64) : ∑ s, H.ds t s * (1 / 8) * H.k s d = H.dq t d := by
  rw [dq, Finset.sum_mul]; exact Finset.sum_congr rfl fun s _ => by ring

theorem dk_sum (s : Fin 2048) (d : Fin 64) : ∑ t, H.ds t s * (1 / 8) * H.q t d = H.dk s d :=
  Finset.sum_congr rfl fun t _ => by ring

theorem dct_sum (s : Fin 2048) : ∑ t, -H.ds t s = H.dct s := Finset.sum_neg_distrib _

end Head

end Fox

end
-- ==== Proof.Ops.lean ====
/-
  THE VECTOR OPERATIONS OF A TILE on matrices of reals: products, row and column sums, a column or a row stretched over the
  tile, the exponential. Each takes matrices of reals to a matrix of reals.
-/
module

public import proofs.«01_k».proof.Proof.Math
public import proofs.«01_k».proof.Proof.Gen.KernelIdeal.Skeleton
public import Idealize.ShloMosaic.Lib.ValueIdx
public import Idealize.ShloMosaic.Lib.Pipeline.Value
public import Idealize.ShloMosaic.PureOps.Ideal.Laws

@[expose] public section

noncomputable section

namespace Cert.KernelIdeal.Fox

open Cert.KernelIdeal Cert.KernelIdeal.Gen Idealize.ShloMosaic Idealize.ShloMosaic.ValueIdx
open _root_.Fox
open scoped BigOperators

/-- A matrix of reals as an array of extended reals. -/
def R2 {m n : Nat} (f : Fin m → Fin n → ℝ) : (⟨2, ![m, n]⟩ : Shape).Idx → EReal := fun j => (f (j 0) (j 1) : EReal)

theorem R2_apply {m n : Nat} (f : Fin m → Fin n → ℝ) (j : (⟨2, ![m, n]⟩ : Shape).Idx) : R2 f j = (f (j 0) (j 1) : EReal) := rfl

/-- Two matrices of reals with the same entries. -/
theorem R2_congr {m n : Nat} {f g : Fin m → Fin n → ℝ} (h : ∀ a b, f a b = g a b) : R2 f = R2 g := by
  funext j; exact congrArg _ (h _ _)

theorem R2_add {m n : Nat} (φ : FTy) (f g : Fin m → Fin n → ℝ) :
    addf (F := Ideal) (s := ⟨2, ![m, n]⟩) (φ := φ) (R2 f) (R2 g) = R2 fun a b => f a b + g a b := by
  funext j; exact (EReal.coe_add _ _).symm

theorem R2_sub {m n : Nat} (φ : FTy) (f g : Fin m → Fin n → ℝ) :
    subf (F := Ideal) (s := ⟨2, ![m, n]⟩) (φ := φ) (R2 f) (R2 g) = R2 fun a b => f a b - g a b := by
  funext j; exact (EReal.coe_sub _ _).symm

theorem R2_mul {m n : Nat} (φ : FTy) (f g : Fin m → Fin n → ℝ) :
    mulf (F := Ideal) (s := ⟨2, ![m, n]⟩) (φ := φ) (R2 f) (R2 g) = R2 fun a b => f a b * g a b := by
  funext j; exact (EReal.coe_mul _ _).symm

theorem R2_exp {m n : Nat} (φ : FTy) (f : Fin m → Fin n → ℝ) :
    exp (F := Ideal) (s := ⟨2, ![m, n]⟩) (φ := φ) (R2 f) = R2 fun a b => Real.exp (f a b) := by
  funext j; exact Ideal.exp_coe _

/-- Zero to start a sum from. -/
theorem R2_zero {m n : Nat} : broadcast (⟨2, ![m, n]⟩ : Shape) (FloatOps.ofBits (F := Ideal) .f32 0x00000000#32)
    = R2 (m := m) (n := n) fun _ _ => 0 := by
  funext j; exact Ideal.ofBits_zero_f32.trans EReal.coe_zero.symm

/-- Neither rounding nor a reshape to the same shape changes an ideal value. -/
theorem truncf_self {s : Shape} {φ ψ : FTy} (x : FVec Ideal s φ) (h : ψ.bits < φ.bits) : truncf ψ x h = x := rfl

/-- Rows against rows. -/
theorem matmul_nt (A B : Fin 512 → Fin 128 → ℝ) :
    matmul (F := Ideal) (φ₁ := .bf16) (φ₂ := .bf16) dot_S512x128_S512x128_S512x512_1_1_0_0_n_n none (R2 A) (R2 B) (constant S512x512 .f32 0x00000000#32)
    = R2 fun r c => ∑ l, A r l * B c l := by
  funext j
  refine (Ideal.matmul_constant_zero_apply (φ₁ := .bf16) (φ₂ := .bf16) _ none _ _ j).trans ?_
  rw [← Equiv.sum_comp (contrEquiv1 dot_S512x128_S512x128_S512x512_1_1_0_0_n_n 128 rfl rfl).symm, R2_apply, coe_sum]
  refine Finset.sum_congr rfl fun k _ => ?_
  have hk := contrEquiv1_symm_val dot_S512x128_S512x128_S512x512_1_1_0_0_n_n 128 rfl rfl k
  rw [EReal.coe_mul]
  refine congrArg₂ (· * ·) (congrArg _ (congrArg₂ A (Fin.ext ?_) (Fin.ext ?_))) (congrArg _ (congrArg₂ B (Fin.ext ?_) (Fin.ext ?_)))
  · rfl
  · exact hk
  · rfl
  · exact hk

/-- Columns against columns. -/
theorem matmul_tn (A : Fin 512 → Fin 128 → ℝ) (B : Fin 512 → Fin 512 → ℝ) :
    matmul (F := Ideal) (φ₁ := .bf16) (φ₂ := .bf16) dot_S512x128_S512x512_S128x512_0_0_1_1_n_n none (R2 A) (R2 B) (constant S128x512 .f32 0x00000000#32)
    = R2 fun l c => ∑ r, A r l * B r c := by
  funext j
  refine (Ideal.matmul_constant_zero_apply (φ₁ := .bf16) (φ₂ := .bf16) _ none _ _ j).trans ?_
  rw [← Equiv.sum_comp (contrEquiv1 dot_S512x128_S512x512_S128x512_0_0_1_1_n_n 512 rfl rfl).symm, R2_apply, coe_sum]
  refine Finset.sum_congr rfl fun k _ => ?_
  have hk := contrEquiv1_symm_val dot_S512x128_S512x512_S128x512_0_0_1_1_n_n 512 rfl rfl k
  rw [EReal.coe_mul]
  refine congrArg₂ (· * ·) (congrArg _ (congrArg₂ A (Fin.ext ?_) (Fin.ext ?_))) (congrArg _ (congrArg₂ B (Fin.ext ?_) (Fin.ext ?_)))
  · exact hk
  · rfl
  · exact hk
  · rfl

/-- Rows against columns. -/
theorem matmul_nn (A : Fin 512 → Fin 512 → ℝ) (B : Fin 512 → Fin 128 → ℝ) :
    matmul (F := Ideal) (φ₁ := .bf16) (φ₂ := .bf16) dot_S512x512_S512x128_S512x128_1_0_0_1_n_n none (R2 A) (R2 B) (constant S512x128 .f32 0x00000000#32)
    = R2 fun r l => ∑ c, A r c * B c l := by
  funext j
  refine (Ideal.matmul_constant_zero_apply (φ₁ := .bf16) (φ₂ := .bf16) _ none _ _ j).trans ?_
  rw [← Equiv.sum_comp (contrEquiv1 dot_S512x512_S512x128_S512x128_1_0_0_1_n_n 512 rfl rfl).symm, R2_apply, coe_sum]
  refine Finset.sum_congr rfl fun k _ => ?_
  have hk := contrEquiv1_symm_val dot_S512x512_S512x128_S512x128_1_0_0_1_n_n 512 rfl rfl k
  rw [EReal.coe_mul]
  refine congrArg₂ (· * ·) (congrArg _ (congrArg₂ A (Fin.ext ?_) (Fin.ext ?_))) (congrArg _ (congrArg₂ B (Fin.ext ?_) (Fin.ext ?_)))
  · rfl
  · exact hk
  · exact hk
  · rfl

/-- A column of reals stretched over a tile. -/
theorem bcast_col (f : Fin 512 → ℝ) :
    broadcastTo S512x512 (R2 (m := 512) (n := 1) fun a _ => f a) broadcasts_S512x1_S512x512 = R2 fun a _ => f a := by
  funext j
  refine (broadcastTo_apply _ _ j (ix2 (j 0) 0) ?_).trans rfl
  intro a; match a with | ⟨0, _⟩ => exact rfl | ⟨1, _⟩ => exact rfl

/-- A column of reals stretched over the 128 lanes. -/
theorem bcast_col128 (f : Fin 512 → ℝ) :
    broadcastTo S512x128 (R2 (m := 512) (n := 1) fun a _ => f a) broadcasts_S512x1_S512x128 = R2 fun a _ => f a := by
  funext j
  refine (broadcastTo_apply _ _ j (ix2 (j 0) 0) ?_).trans rfl
  intro a; match a with | ⟨0, _⟩ => exact rfl | ⟨1, _⟩ => exact rfl

/-- A row of reals stretched over a tile. -/
theorem bcast_row (f : Fin 512 → ℝ) :
    broadcastTo S512x512 (R2 (m := 1) (n := 512) fun _ b => f b) broadcasts_S1x512_S512x512 = R2 fun _ b => f b := by
  funext j
  refine (broadcastTo_apply _ _ j (ix2 0 (j 1)) ?_).trans rfl
  intro a; match a with | ⟨0, _⟩ => exact rfl | ⟨1, _⟩ => exact rfl

/-- Each row's sum, as a column. -/
theorem row_sum (f : Fin 512 → Fin 512 → ℝ) (hφ) (hacc) :
    shapeCast S512x1 (multiReduction (F := Ideal) (φ := .f32) .add [1] S512 (R2 f) 0x00000000#32 reduces_S512x512_S512_2 hφ hacc) shapeCasts_S512_S512x1
    = R2 fun a _ => ∑ b, f a b := by
  funext j
  refine (shapeCast_apply _ _ j (ix1 (j 0)) ?_).trans ?_
  · rw [Shape.rowMajor_val_one, Shape.rowMajor_val_two]
    have h1 : (j 1).val < 1 := (j 1).isLt
    show (j 0).val = (j 0).val * 1 + (j 1).val
    omega
  · refine (Ideal.multiReduction_add_single _ _ _ _ _ _).trans ?_
    rw [R2_apply, coe_sum]
    exact Finset.sum_congr rfl fun k _ => rfl

/-- Each column's sum, as a row. -/
theorem col_sum (f : Fin 512 → Fin 512 → ℝ) (hφ) (hacc) :
    shapeCast S1x512 (multiReduction (F := Ideal) (φ := .f32) .add [0] S512 (R2 f) 0x00000000#32 reduces_S512x512_S512 hφ hacc) shapeCasts_S512_S1x512
    = R2 fun _ b => ∑ a, f a b := by
  funext j
  refine (shapeCast_apply _ _ j (ix1 (j 1)) ?_).trans ?_
  · rw [Shape.rowMajor_val_one, Shape.rowMajor_val_two]
    have h0 : (j 0).val < 1 := (j 0).isLt
    show (j 1).val = (j 0).val * 512 + (j 1).val
    omega
  · refine (Ideal.multiReduction_add_single _ _ _ _ _ _).trans ?_
    rw [R2_apply, coe_sum]
    exact Finset.sum_congr rfl fun k _ => rfl

end Cert.KernelIdeal.Fox

end
-- ==== Proof.Tile.lean ====
/-
  WHAT ONE TILE COMPUTES: 512 queries against 512 keys, on matrices of reals. The weights, their product with the cotangent's
  difference, and the tile's share of each gradient.
-/
module

public import proofs.«01_k».proof.Proof.Ops
public import Idealize.ShloMosaic.PureOps.IdealRules
public import Idealize.ShloMosaic.Lib.WordCmp

@[expose] public section

noncomputable section

namespace Cert.KernelIdeal.Fox

open Cert.KernelIdeal Cert.KernelIdeal.Gen Idealize.ShloMosaic Idealize.ShloMosaic.ValueIdx
open _root_.Fox
open scoped BigOperators

/-- A column of reals. -/
abbrev col (f : Fin 512 → ℝ) : S512x1.Idx → EReal := R2 fun a _ => f a
/-- A row of reals. -/
abbrev row (f : Fin 512 → ℝ) : S1x512.Idx → EReal := R2 fun _ b => f b
/-- A row of reals under two unit axes. -/
def row3 (f : Fin 512 → ℝ) : S1x1x512.Idx → EReal := fun j => (f (j 2) : EReal)

theorem cast_row3 (f : Fin 512 → ℝ) (h) : shapeCast S1x512 (row3 f) h = row f := by
  funext j
  refine (shapeCast_apply _ h j (ix3 0 0 (j 1)) ?_).trans rfl
  rw [Shape.rowMajor_val_three, Shape.rowMajor_val_two]
  have h0 : (j 0).val < 1 := (j 0).isLt
  show (0 * 1 + 0) * 512 + (j 1).val = (j 0).val * 512 + (j 1).val
  omega

theorem cast_row (f : Fin 512 → ℝ) (h) : shapeCast S1x1x512 (row f) h = row3 f := by
  funext j
  refine (shapeCast_apply _ h j (ix2 0 (j 2)) ?_).trans rfl
  rw [Shape.rowMajor_val_three, Shape.rowMajor_val_two]
  have h0 : (j 0).val < 1 := (j 0).isLt
  have h1 : (j 1).val < 1 := (j 1).isLt
  show 0 * 512 + (j 2).val = ((j 0).val * 1 + (j 1).val) * 512 + (j 2).val
  omega

theorem cast_self {s : Shape} {α : Type} (x : s.Idx → α) (h) : shapeCast s x h = x := by
  funext j; exact shapeCast_apply x h j j rfl

/-- The exponential of the logit less the log of the normaliser. -/
def pr (Q K : Fin 512 → Fin 128 → ℝ) (cq ck la : Fin 512 → ℝ) (r c : Fin 512) : ℝ :=
  Real.exp ((∑ l, Q r l * K c l) + (cq r - ck c) - la r)

/-- A weight times what the cotangent's row has over its average. -/
def dsr (P : Fin 512 → Fin 512 → ℝ) (G V : Fin 512 → Fin 128 → ℝ) (de : Fin 512 → ℝ) (r c : Fin 512) : ℝ :=
  P r c * ((∑ l, G r l * V c l) - de r)

variable (Q K G V : Fin 512 → Fin 128 → ℝ) (cq ck la de : Fin 512 → ℝ)

/-- The weights of a tile that lies wholly behind its queries. -/
theorem p_tile : k0_pay3 (F := Ideal) (R2 Q) (col cq) (col la) (R2 K) (row3 ck) = R2 (pr Q K cq ck la) := by
  unfold k0_pay3
  dsimp only
  rw [matmul_nt, cast_row3, bcast_col, bcast_row, R2_sub, R2_add, bcast_col, R2_sub, R2_exp]
  rfl

/-- Queries see keys at or behind them. -/
theorem causal_eq : k0_pay39 = fun j : S512x512.Idx => BitVec.ofBool (decide ((j 1).val ≤ (j 0).val)) := by
  funext j
  have h0 : (j 0).val < 512 := (j 0).isLt
  have h1 : (j 1).val < 512 := (j 1).isLt
  have e0 := iota_single_apply .tc S512x512 32 0 iota_S512x512_d0_w32 j
  have e1 := iota_single_apply .tc S512x512 32 1 iota_S512x512_d1_w32 j
  show IntOp.cmpi .sle (iota .tc S512x512 32 [1] iota_S512x512_d1_w32 j) (iota .tc S512x512 32 [0] iota_S512x512_d0_w32 j) = _
  rw [e0, e1, WordCmp.cmpi_sle_eq]
  congr 1
  have e : ∀ n : Nat, n < 2048 → (BitVec.ofNat 32 n).toInt = n := fun n hn => by
    rw [BitVec.toInt_eq_toNat_cond, BitVec.toNat_ofNat]
    have : n % 2 ^ 32 = n := Nat.mod_eq_of_lt (by omega)
    rw [this, if_pos (by omega)]
  rw [e _ (by omega), e _ (by omega)]
  simp only [Nat.cast_le]

/-- The weights of the tile on the diagonal: nothing ahead of the query. -/
theorem p_diag : k0_pay57 (F := Ideal) k0_pay39 (R2 Q) (col cq) (col la) (R2 K) (row3 ck)
    = R2 fun r c => if c ≤ r then pr Q K cq ck la r c else 0 := by
  unfold k0_pay57
  dsimp only
  rw [matmul_nt, cast_row3, bcast_col, bcast_row, R2_sub, R2_add, bcast_col, causal_eq]
  funext j
  show Ideal.exp (Scalar.select (BitVec.ofBool (decide ((j 1).val ≤ (j 0).val))) (R2 _ j) (Named.named (F := Ideal) (φ := .f32) κ "mask" 0xF149F2CA#32)
    - (la (j 0) : EReal)) = _
  rw [WordCmp.select_ofBool, IdealRules.named_const.ideal_named_scalar (φ := .f32) κ "mask" 0xF149F2CA#32 ⊥ rfl, R2_apply, R2_apply]
  by_cases h : (j 1).val ≤ (j 0).val
  · rw [if_pos (decide_eq_true h), ← EReal.coe_sub, Ideal.exp_coe]
    exact congrArg _ (if_pos (show j 1 ≤ j 0 from h)).symm
  · rw [if_neg (by rw [decide_eq_false h]; exact Bool.false_ne_true), EReal.bot_sub, Ideal.exp_bot]
    exact EReal.coe_zero.symm.trans (congrArg (fun x : ℝ => (x : EReal)) (if_neg (show ¬ (j 1 : Fin 512) ≤ (j 0 : Fin 512) from h)).symm)

/-- The tile's part of the logits' cotangent. -/
theorem ds_tile (P : Fin 512 → Fin 512 → ℝ) :
    mulf (F := Ideal) (φ := .f32) (R2 P) (subf (matmul (F := Ideal) (φ₁ := .bf16) (φ₂ := .bf16) dot_S512x128_S512x128_S512x512_1_1_0_0_n_n none (R2 G) (R2 V)
      (constant S512x512 .f32 0x00000000#32)) (broadcastTo S512x512 (col de) broadcasts_S512x1_S512x512)) = R2 (dsr P G V de) := by
  rw [matmul_nt, bcast_col, R2_sub, R2_mul]
  rfl

end Cert.KernelIdeal.Fox

end
-- ==== Proof.Windows.lean ====
/-
  BLOCKS OF THE BUFFERS: the 512 rows, or the 512 columns, of block `n` of four, as a load reads them and as a store leaves
  them, on arrays of reals.
-/
module

public import proofs.«01_k».proof.Proof.Tile
public import Idealize.ShloMosaic.Lib.WritesUnit
public import Idealize.ShloMosaic.Lib.WholeRead

@[expose] public section

noncomputable section

namespace Cert.KernelIdeal.Fox

open Cert.KernelIdeal Cert.KernelIdeal.Gen Idealize.ShloMosaic Idealize.ShloMosaic.ValueIdx
open _root_.Fox
open scoped BigOperators

/-- Position `r` of block `n`. -/
def pos (n : Fin 4) (r : Fin 512) : Fin 2048 := ⟨512 * n.val + r.val, by omega⟩

theorem pos_val (n : Fin 4) (r : Fin 512) : (pos n r).val = 512 * n.val + r.val := rfl

/-- Every position lies in one block. -/
theorem exists_pos (s : Fin 2048) : ∃ n r, s = pos n r :=
  ⟨⟨s.val / 512, by omega⟩, ⟨s.val % 512, by omega⟩, Fin.ext (by rw [pos_val]; show s.val = 512 * (s.val / 512) + s.val % 512; omega)⟩

/-- Two rows of reals under a unit axis. -/
def R3 (d : Fin 2 → Fin 2048 → ℝ) : S1x2x2048.Idx → EReal := fun j => (d (j 1) (j 2) : EReal)

variable {κ : Kind} {sp : Space}

/-- A load of the rows of block `n`. -/
theorem read_rows (v : View sig κ sp S2048x128 .bf16) (f : v.ty.Contents (Elt Ideal)) {K : Fin 2048 → Fin 128 → ℝ}
    (hf : v.read (Elt Ideal) f = R2 K) {off : Fin 2 → ℕ} (inb) (n : Fin 4) (ho : off = ![512 * n.val, 0]) :
    v.readAt (Elt Ideal) (Rect.unit (s := S2048x128) off S512x128.size inb).toLoadRect f = R2 fun r l => K (pos n r) l := by
  subst ho
  funext j
  refine (congrFun hf _).trans ?_
  refine congrArg _ (congrArg₂ K (Fin.ext ?_) (Fin.ext ?_))
  · show 512 * n.val + 1 * (j 0).val = 512 * n.val + (j 0).val; omega
  · show 0 + 1 * (j 1).val = (j 1).val; omega

/-- A load of the columns of block `n`. -/
theorem read_cols (v : View sig κ sp S128x2048 .f32) (f : v.ty.Contents (Elt Ideal)) {M : Fin 128 → Fin 2048 → ℝ}
    (hf : v.read (Elt Ideal) f = R2 M) {off : Fin 2 → ℕ} (inb) (n : Fin 4) (ho : off = ![0, 512 * n.val]) :
    v.readAt (Elt Ideal) (Rect.unit (s := S128x2048) off S128x512.size inb).toLoadRect f = R2 fun l c => M l (pos n c) := by
  subst ho
  funext j
  refine (congrFun hf _).trans ?_
  refine congrArg _ (congrArg₂ M (Fin.ext ?_) (Fin.ext ?_))
  · show 0 + 1 * (j 0).val = (j 0).val; omega
  · show 512 * n.val + 1 * (j 1).val = 512 * n.val + (j 1).val; omega

/-- A load of head `a`'s entries at block `n`. -/
theorem read_ct (v : View sig κ sp S1x2x2048 .f32) (f : v.ty.Contents (Elt Ideal)) {d : Fin 2 → Fin 2048 → ℝ}
    (hf : v.read (Elt Ideal) f = R3 d) {off : Fin 3 → ℕ} (inb) (a : Fin 2) (n : Fin 4) (ho : off = ![0, a.val, 512 * n.val]) :
    v.readAt (Elt Ideal) (Rect.unit (s := S1x2x2048) off S1x1x512.size inb).toLoadRect f = row3 fun c => d a (pos n c) := by
  subst ho
  funext j
  refine (congrFun hf _).trans ?_
  have h1 : (j 1).val < 1 := (j 1).isLt
  refine congrArg _ (congrArg₂ d (Fin.ext ?_) (Fin.ext ?_))
  · show a.val + 1 * (j 1).val = a.val; omega
  · show 512 * n.val + 1 * (j 2).val = 512 * n.val + (j 2).val; omega

/-- A store of the columns of block `n`: those columns hold what was stored, the others what they held. -/
theorem write_cols (v : View sig κ sp S128x2048 .f32) (f : v.ty.Contents (Elt Ideal)) (L : List (View.Piece (Elt Ideal) S128x2048 .f32))
    {M M' : Fin 128 → Fin 2048 → ℝ} (hf : v.read (Elt Ideal) (v.writes (Elt Ideal) f L) = R2 M) {off : Fin 2 → ℕ} (inb) (n : Fin 4)
    (ho : off = ![0, 512 * n.val]) (w : S128x512.Idx → EReal) (hw : w = R2 fun l c => M' l (pos n c))
    (hM : ∀ l m c, m ≠ n → M' l (pos m c) = M l (pos m c)) :
    v.read (Elt Ideal) (v.writes (Elt Ideal) f (⟨Rect.unit (s := S128x2048) off S128x512.size inb, w⟩ :: L)) = R2 M' := by
  funext j
  obtain ⟨m, c, e⟩ := exists_pos (j 1)
  have e' : (j 1).val = 512 * m.val + c.val := by rw [e]; rfl
  by_cases h : m = n
  · subst h
    refine (View.read_writes_cons_unit_of_mem v f inb w L j (ix2 (j 0) c) ho ?_).trans ?_
    · intro a; match a with
      | ⟨0, _⟩ => exact (Nat.zero_add _).symm
      | ⟨1, _⟩ => exact e'
    · rw [hw]; exact congrArg _ (congrArg (M' (j 0)) e.symm)
  · have hne : m.val ≠ n.val := fun hh => h (Fin.ext hh)
    refine (View.read_writes_cons_unit_of_not_mem v f inb w L j ho (1 : Fin 2) ?_).trans ?_
    · show (j 1).val < 512 * n.val ∨ 512 * n.val + 512 ≤ (j 1).val
      omega
    · refine (congrFun hf j).trans (congrArg (fun x : ℝ => (x : EReal)) ?_)
      show M (j 0) (j 1) = M' (j 0) (j 1)
      have := hM (j 0) m c h
      rw [e]; exact this.symm

/-- A store of head `a`'s entries at block `n`. -/
theorem write_ct (v : View sig κ sp S1x2x2048 .f32) (f : v.ty.Contents (Elt Ideal)) (L : List (View.Piece (Elt Ideal) S1x2x2048 .f32))
    {d d' : Fin 2 → Fin 2048 → ℝ} (hf : v.read (Elt Ideal) (v.writes (Elt Ideal) f L) = R3 d) {off : Fin 3 → ℕ} (inb) (a : Fin 2) (n : Fin 4)
    (ho : off = ![0, a.val, 512 * n.val]) (w : S1x1x512.Idx → EReal) (hw : w = row3 fun c => d' a (pos n c))
    (hd : ∀ b m c, ¬ (b = a ∧ m = n) → d' b (pos m c) = d b (pos m c)) :
    v.read (Elt Ideal) (v.writes (Elt Ideal) f (⟨Rect.unit (s := S1x2x2048) off S1x1x512.size inb, w⟩ :: L)) = R3 d' := by
  funext j
  obtain ⟨m, c, e⟩ := exists_pos (j 2)
  have e' : (j 2).val = 512 * m.val + c.val := by rw [e]; rfl
  have h0 : (j 0).val < 1 := (j 0).isLt
  have h1 : (j 1).val < 2 := (j 1).isLt
  by_cases h : j 1 = a ∧ m = n
  · obtain ⟨ha, hm⟩ := h
    subst hm
    have ha' : (j 1).val = a.val := congrArg Fin.val ha
    refine (View.read_writes_cons_unit_of_mem v f inb w L j (ix3 0 0 c) ho ?_).trans ?_
    · intro b; match b with
      | ⟨0, _⟩ => show (j 0).val = 0 + 0; omega
      | ⟨1, _⟩ => show (j 1).val = a.val + 0; omega
      | ⟨2, _⟩ => exact e'
    · rw [hw]; exact congrArg _ (congrArg₂ d' ha.symm e.symm)
  · have hv : (j 1).val ≠ a.val ∨ m.val ≠ n.val := by
      by_contra hh
      push Not at hh
      exact h ⟨Fin.ext hh.1, Fin.ext hh.2⟩
    have hr := hd (j 1) m c h
    refine (?_ : _ = v.read (Elt Ideal) (v.writes (Elt Ideal) f L) j).trans ?_
    · rcases hv with hv | hv
      · refine View.read_writes_cons_unit_of_not_mem v f inb w L j ho (1 : Fin 3) ?_
        show (j 1).val < a.val ∨ a.val + 1 ≤ (j 1).val
        omega
      · refine View.read_writes_cons_unit_of_not_mem v f inb w L j ho (2 : Fin 3) ?_
        show (j 2).val < 512 * n.val ∨ 512 * n.val + 512 ≤ (j 2).val
        omega
    · refine (congrFun hf j).trans (congrArg (fun x : ℝ => (x : EReal)) ?_)
      show d (j 1) (j 2) = d' (j 1) (j 2)
      rw [e]; exact hr.symm

end Cert.KernelIdeal.Fox

end
-- ==== Proof.Pieces.lean ====
/-
  THE PIECES A TILE ADDS, on matrices of reals: what is added to each accumulator from the tile's weights and from its part of
  the logits' cotangent. And the same in real numbers: what the accumulators hold before and after a tile.
-/
module

public import proofs.«01_k».proof.Proof.Windows

@[expose] public section

noncomputable section

namespace Cert.KernelIdeal.Fox

open Cert.KernelIdeal Cert.KernelIdeal.Gen Idealize.ShloMosaic Idealize.ShloMosaic.ValueIdx
open _root_.Fox
open scoped BigOperators

/-- The first head's product, on top of zero. -/
theorem tn_of_zero (A : Fin 512 → Fin 128 → ℝ) (B : Fin 512 → Fin 512 → ℝ) :
    addf (F := Ideal) (broadcast S128x512 (Scalar.ofBits (F := Ideal) .f32 0x00000000#32))
      (matmul (F := Ideal) (φ₁ := .bf16) (φ₂ := .bf16) dot_S512x128_S512x512_S128x512_0_0_1_1_n_n none (R2 A) (R2 B) (constant S128x512 .f32 0x00000000#32))
    = R2 fun l c => ∑ r, A r l * B r c := by
  rw [matmul_tn]
  refine (congrArg (fun z => addf (F := Ideal) (φ := .f32) z _) (R2_zero (m := 128) (n := 512))).trans ?_
  refine (R2_add .f32 _ _).trans (R2_congr fun l c => ?_)
  exact zero_add _

/-- A product of columns against columns on top of what is there. -/
theorem add_tn (X : Fin 128 → Fin 512 → ℝ) (A : Fin 512 → Fin 128 → ℝ) (B : Fin 512 → Fin 512 → ℝ) :
    addf (F := Ideal) (φ := .f32) (R2 X)
      (matmul (F := Ideal) (φ₁ := .bf16) (φ₂ := .bf16) dot_S512x128_S512x512_S128x512_0_0_1_1_n_n none (R2 A) (R2 B) (constant S128x512 .f32 0x00000000#32))
    = R2 fun l c => X l c + ∑ r, A r l * B r c := by
  rw [matmul_tn]; exact R2_add .f32 _ _

/-- A product of rows against columns on top of what is there. -/
theorem add_nn (X : Fin 512 → Fin 128 → ℝ) (B : Fin 512 → Fin 512 → ℝ) (K : Fin 512 → Fin 128 → ℝ) :
    addf (F := Ideal) (φ := .f32) (R2 X)
      (matmul (F := Ideal) (φ₁ := .bf16) (φ₂ := .bf16) dot_S512x512_S512x128_S512x128_1_0_0_1_n_n none (R2 B) (R2 K) (constant S512x128 .f32 0x00000000#32))
    = R2 fun r l => X r l + ∑ c, B r c * K c l := by
  rw [matmul_nn]; exact R2_add .f32 _ _

/-- Row sums on top of what is there. -/
theorem add_rows (s : Fin 512 → ℝ) (B : Fin 512 → Fin 512 → ℝ) (hφ) (hacc) :
    addf (F := Ideal) (φ := .f32) (col s)
      (shapeCast S512x1 (multiReduction (F := Ideal) (φ := .f32) .add [1] S512 (R2 B) 0x00000000#32 reduces_S512x512_S512_2 hφ hacc) shapeCasts_S512_S512x1)
    = col fun r => s r + ∑ c, B r c := by
  rw [row_sum]; exact R2_add .f32 _ _

/-- Column sums taken from what is there. -/
theorem sub_cols (d : Fin 512 → ℝ) (B : Fin 512 → Fin 512 → ℝ) (h₁) (h₂) (hφ) (hacc) :
    shapeCast S1x1x512 (subf (F := Ideal) (φ := .f32) (shapeCast S1x512 (row3 d) h₁)
      (shapeCast S1x512 (multiReduction (F := Ideal) (φ := .f32) .add [0] S512 (R2 B) 0x00000000#32 reduces_S512x512_S512 hφ hacc) shapeCasts_S512_S1x512)) h₂
    = row3 fun c => d c - ∑ r, B r c := by
  rw [col_sum, cast_row3]
  exact (congrArg (fun z => shapeCast S1x1x512 z h₂) (R2_sub .f32 _ _)).trans (cast_row _ h₂)

/-- What one block of queries is worked out from: its heads' queries and cotangents (one head's lanes, the others zero), the decays,
the logs of the normalisers and the averages, and all keys, values and decays. -/
structure Blk where
  /-- The queries, scaled. -/
  Q : Fin 2 → Fin 512 → Fin 128 → ℝ
  /-- The outputs' cotangents. -/
  G : Fin 2 → Fin 512 → Fin 128 → ℝ
  /-- The queries' decays. -/
  cq : Fin 2 → Fin 512 → ℝ
  /-- The logs of the normalisers. -/
  la : Fin 2 → Fin 512 → ℝ
  /-- The averages of the cotangent. -/
  de : Fin 2 → Fin 512 → ℝ
  /-- The keys. -/
  K : Fin 2048 → Fin 128 → ℝ
  /-- The values. -/
  V : Fin 2048 → Fin 128 → ℝ
  /-- The keys' decays. -/
  ct : Fin 2 → Fin 2048 → ℝ

namespace Blk

/-- The weight of key `s`, whether or not it lies behind. -/
def pt (b : Blk) (a : Fin 2) (r : Fin 512) (s : Fin 2048) : ℝ :=
  Real.exp ((∑ l, b.Q a r l * b.K s l) + (b.cq a r - b.ct a s) - b.la a r)

/-- What the cotangent's row has over its average at key `s`. -/
def gt (b : Blk) (a : Fin 2) (r : Fin 512) (s : Fin 2048) : ℝ := (∑ l, b.G a r l * b.V s l) - b.de a r

/-- The weight of key `s` for query `r` of block `i`: nothing ahead of the query. -/
def P (b : Blk) (i : Fin 4) (a : Fin 2) (r : Fin 512) (s : Fin 2048) : ℝ := if s.val ≤ 512 * i.val + r.val then b.pt a r s else 0

/-- The logits' cotangent. -/
def D (b : Blk) (i : Fin 4) (a : Fin 2) (r : Fin 512) (s : Fin 2048) : ℝ := b.P i a r s * b.gt a r s

end Blk

/-- What the accumulators hold. -/
structure Acc where
  /-- The queries' gradients, before scaling. -/
  A : Fin 2 → Fin 512 → Fin 128 → ℝ
  /-- The queries' decays' gradients. -/
  s : Fin 2 → Fin 512 → ℝ
  /-- The keys' decays' gradients. -/
  d : Fin 2 → Fin 2048 → ℝ
  /-- The keys' gradients. -/
  M : Fin 128 → Fin 2048 → ℝ
  /-- The values' gradients. -/
  N : Fin 128 → Fin 2048 → ℝ

/-- What they hold after the tile of the keys of block `n`, with weights `W` and logits' cotangent `E`. -/
def Acc.step (b : Blk) (W E : Fin 2 → Fin 512 → Fin 2048 → ℝ) (n : Fin 4) (x : Acc) : Acc where
  A a r l := x.A a r l + ∑ c, E a r (pos n c) * b.K (pos n c) l
  s a r := x.s a r + ∑ c, E a r (pos n c)
  d a s := if s.val / 512 = n.val then x.d a s - ∑ r, E a r s else x.d a s
  M l s := if s.val / 512 = n.val then x.M l s + ((∑ r, b.Q 0 r l * E 0 r s) + ∑ r, b.Q 1 r l * E 1 r s) else x.M l s
  N l s := if s.val / 512 = n.val then x.N l s + ((∑ r, b.G 0 r l * W 0 r s) + ∑ r, b.G 1 r l * W 1 r s) else x.N l s

theorem pos_div (n : Fin 4) (c : Fin 512) : (pos n c).val / 512 = n.val := by rw [pos_val]; omega

/-- Only the weights of block `n` matter to its tile. -/
theorem Acc.step_congr (b : Blk) {W W' E E' : Fin 2 → Fin 512 → Fin 2048 → ℝ} (n : Fin 4) (x : Acc)
    (hW : ∀ a r c, W a r (pos n c) = W' a r (pos n c)) (hE : ∀ a r c, E a r (pos n c) = E' a r (pos n c)) :
    x.step b W E n = x.step b W' E' n := by
  have h : ∀ s : Fin 2048, s.val / 512 = n.val → ∃ c, s = pos n c := fun s hs => by
    obtain ⟨m, c, rfl⟩ := exists_pos s
    rw [pos_div] at hs
    exact ⟨c, by rw [Fin.ext hs]⟩
  unfold Acc.step
  congr 1
  · funext a r l; simp only [hE]
  · funext a r; simp only [hE]
  · funext a s
    by_cases hs : s.val / 512 = n.val
    · obtain ⟨c, rfl⟩ := h s hs; simp only [hE]
    · rw [if_neg hs, if_neg hs]
  · funext l s
    by_cases hs : s.val / 512 = n.val
    · obtain ⟨c, rfl⟩ := h s hs; simp only [hE]
    · rw [if_neg hs, if_neg hs]
  · funext l s
    by_cases hs : s.val / 512 = n.val
    · obtain ⟨c, rfl⟩ := h s hs; simp only [hW]
    · rw [if_neg hs, if_neg hs]

end Cert.KernelIdeal.Fox

end
-- ==== Proof.Trip.lean ====
/-
  ONE TRIP OF THE LOOP: a tile of keys that lies wholly behind its queries, added to the accumulators.
-/
module

public import proofs.«01_k».proof.Proof.Pieces
public import proofs.«01_k».proof.Proof.Gen.KernelIdeal.Loops

@[expose] public section

noncomputable section

namespace Cert.KernelIdeal.Fox

open Cert.KernelIdeal Cert.KernelIdeal.Gen Idealize.ShloMosaic Idealize.ShloMosaic.ValueIdx
open _root_.Fox
open scoped BigOperators

section pieces

variable (Q K G V : Fin 512 → Fin 128 → ℝ) (cq ck la de : Fin 512 → ℝ)

/-- The logits' cotangent of a tile behind its queries. -/
theorem tile_ds : k0_pay4 (F := Ideal) (R2 Q) (R2 G) (col de) (col cq) (col la) (R2 K) (R2 V) (row3 ck) = R2 (dsr (pr Q K cq ck la) G V de) := by
  unfold k0_pay4
  rw [p_tile]
  exact ds_tile G V de _

/-- The keys' gradients, the first head. -/
theorem tile_dk : k0_pay6 (F := Ideal) (R2 Q) (R2 G) (col de) (col cq) (col la) (R2 K) (R2 V) (row3 ck)
    = R2 fun l c => ∑ r, Q r l * dsr (pr Q K cq ck la) G V de r c := by
  unfold k0_pay6 k0_pay5
  rw [tile_ds]
  exact tn_of_zero _ _

/-- The values' gradients, the first head. -/
theorem tile_dv : k0_pay7 (F := Ideal) (R2 Q) (R2 G) (col cq) (col la) (R2 K) (row3 ck)
    = R2 fun l c => ∑ r, G r l * pr Q K cq ck la r c := by
  unfold k0_pay7
  rw [p_tile]
  exact tn_of_zero _ _

/-- The keys' decays' gradients. -/
theorem tile_dc (d : Fin 512 → ℝ) : k0_pay8 (F := Ideal) (R2 Q) (R2 G) (col de) (col cq) (col la) (R2 K) (R2 V) (row3 ck) (row3 d)
    = row3 fun c => d c - ∑ r, dsr (pr Q K cq ck la) G V de r c := by
  unfold k0_pay8
  rw [tile_ds]
  exact sub_cols _ _ _ _ _ _

/-- The queries' gradients. -/
theorem tile_dq (A : Fin 512 → Fin 128 → ℝ) : k0_pay9 (F := Ideal) (R2 Q) (R2 G) (col de) (col cq) (col la) (R2 A) (R2 K) (R2 V) (row3 ck)
    = R2 fun r l => A r l + ∑ c, dsr (pr Q K cq ck la) G V de r c * K c l := by
  unfold k0_pay9 k0_pay5
  rw [tile_ds]
  exact add_nn _ _ _

/-- The queries' decays' gradients. -/
theorem tile_dcq (s : Fin 512 → ℝ) : k0_pay17 (F := Ideal) (R2 Q) (R2 G) (col de) (col cq) (col la) (col s) (R2 K) (R2 V) (row3 ck)
    = col fun r => s r + ∑ c, dsr (pr Q K cq ck la) G V de r c := by
  unfold k0_pay17
  refine (congrArg (fun z => addf (F := Ideal) (φ := .f32) (col s) (shapeCast S512x1
    (multiReduction (F := Ideal) (φ := .f32) .add [1] S512 z 0x00000000#32 reduces_S512x512_S512_2 (.inl rfl) rfl) shapeCasts_S512_S512x1))
    (tile_ds Q K G V cq ck la de)).trans ?_
  exact add_rows _ _ _ _

/-- The keys' gradients, the second head on top of the first, on top of what is there. -/
theorem tile_dk_add (X Y : Fin 128 → Fin 512 → ℝ) : k0_pay18 (F := Ideal) (R2 Q) (R2 G) (col de) (col cq) (col la) (R2 K) (R2 V) (R2 Y) (row3 ck) (R2 X)
    = R2 fun l c => X l c + (Y l c + ∑ r, Q r l * dsr (pr Q K cq ck la) G V de r c) := by
  refine (congrArg (fun z => addf (F := Ideal) (φ := .f32) (R2 X) (addf (F := Ideal) (φ := .f32) (R2 Y)
    (matmul (F := Ideal) (φ₁ := .bf16) (φ₂ := .bf16) dot_S512x128_S512x512_S128x512_0_0_1_1_n_n none (R2 Q) z (constant S128x512 .f32 0x00000000#32))))
    (tile_ds Q K G V cq ck la de)).trans ?_
  rw [add_tn]
  exact R2_add .f32 _ _

/-- The values' gradients, the second head on top of the first. -/
theorem tile_dv_add (Y : Fin 128 → Fin 512 → ℝ) : k0_pay14 (F := Ideal) (R2 Q) (R2 G) (col cq) (col la) (R2 K) (R2 Y) (row3 ck)
    = R2 fun l c => Y l c + ∑ r, G r l * pr Q K cq ck la r c := by
  refine (congrArg (fun z => addf (F := Ideal) (φ := .f32) (R2 Y)
    (matmul (F := Ideal) (φ₁ := .bf16) (φ₂ := .bf16) dot_S512x128_S512x512_S128x512_0_0_1_1_n_n none (R2 G) z (constant S128x512 .f32 0x00000000#32)))
    (p_tile Q K cq ck la)).trans ?_
  exact add_tn _ _ _

/-- The sum stored. -/
theorem tile_dv_put (X Y : Fin 128 → Fin 512 → ℝ) : k0_pay54 (F := Ideal) (R2 Y) (R2 X) = R2 fun l c => X l c + Y l c := by
  unfold k0_pay54
  exact (cast_self _ _).trans (R2_add .f32 _ _)

end pieces

/-- The accumulators, as the program holds them, hold the reals `x`. -/
structure Holds (acc : (S512x128.Idx → EReal) × (S512x1.Idx → EReal) × (S512x128.Idx → EReal) × (S512x1.Idx → EReal))
    (d : S1x2x2048.Idx → EReal) (m n : S128x2048.Idx → EReal) (x : Acc) : Prop where
  acc_eq : acc = (R2 (x.A 0), col (x.s 0), R2 (x.A 1), col (x.s 1))
  d_eq : d = R3 x.d
  m_eq : m = R2 x.M
  n_eq : n = R2 x.N

/-- The program's operands of a block of queries are the reals of `b`. -/
structure Opnds (b : Blk) (v19 v26 v29 v33 : S512x128.Idx → EReal) (v37 v42 v52 v62 v64 v66 : S512x1.Idx → EReal) : Prop where
  q0 : v19 = R2 (b.Q 0)
  q1 : v26 = R2 (b.Q 1)
  g0 : v29 = R2 (b.G 0)
  g1 : v33 = R2 (b.G 1)
  de0 : v37 = col (b.de 0)
  de1 : v42 = col (b.de 1)
  cq0 : v52 = col (b.cq 0)
  cq1 : v62 = col (b.cq 1)
  la0 : v64 = col (b.la 0)
  la1 : v66 = col (b.la 1)

variable (𝒱 : Variants) (c : Dev nD) (bd : Option 𝒱.V) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .f32) (harg5 : arg5.IsWhole)
  (arg6 : Memref sig .tc .vmem S1x2x2048 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S512x128 .f32) (harg9 : arg9.IsWhole)
  (arg10 : Memref sig .tc .vmem S512x128 .bf16) (harg10 : arg10.IsWhole) (arg11 : Memref sig .tc .vmem S2048x128 .bf16) (harg11 : arg11.IsWhole)
  (arg12 : Memref sig .tc .vmem S2048x128 .bf16) (harg12 : arg12.IsWhole) (arg13 : Memref sig .tc .vmem S1x2x2048 .f32) (harg13 : arg13.IsWhole)
  (arg14 : Memref sig .tc .vmem S1x512x128 .f32) (harg14 : arg14.IsWhole) (arg15 : Memref sig .tc .vmem S128x2048 .f32) (harg15 : arg15.IsWhole)
  (arg16 : Memref sig .tc .vmem S128x2048 .f32) (harg16 : arg16.IsWhole)
  (arg1 : BitVec 32) (v8 : IVec S512x512 1) (v19 v26 v29 v33 : FVec Ideal S512x128 .bf16) (v37 v42 v52 v62 v64 v66 : FVec Ideal S512x1 .f32)
  (v67 : FVec Ideal S512x128 .f32) (v68 : FVec Ideal S512x1 .f32) (c0_i32_33 v73 c1_i32_35 : BitVec 32)
  (X_arg3 : BufTy.Contents (Elt Ideal) arg3.view.ty) (X_arg4 : BufTy.Contents (Elt Ideal) arg4.view.ty) (X_arg6 : BufTy.Contents (Elt Ideal) arg6.view.ty)

/-- One trip: the tile of the keys of block `n` is added to what the accumulators hold. -/
theorem trip (b : Blk) (k : Fin (k0_t1_loop i).trips) (n : Fin 4) (hn : n.val = k.val)
    (acc : FVec Ideal S512x128 .f32 × FVec Ideal S512x1 .f32 × FVec Ideal S512x128 .f32 × FVec Ideal S512x1 .f32)
    (f13 : BufTy.Contents (Elt Ideal) arg13.view.ty) (f15 : BufTy.Contents (Elt Ideal) arg15.view.ty) (f16 : BufTy.Contents (Elt Ideal) arg16.view.ty)
    (ho : Opnds b v19 v26 v29 v33 v37 v42 v52 v62 v64 v66)
    (h3 : arg3.view.read (Elt Ideal) X_arg3 = R2 b.K) (h4 : arg4.view.read (Elt Ideal) X_arg4 = R2 b.V) (h6 : arg6.view.read (Elt Ideal) X_arg6 = R3 b.ct)
    (x : Acc) (hx : Holds acc (arg13.view.read (Elt Ideal) f13) (arg15.view.read (Elt Ideal) f15) (arg16.view.read (Elt Ideal) f16) x) :
    Holds (tripR_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 k acc f13 f15 f16)
      (arg13.view.read (Elt Ideal) (arg13.view.writes (Elt Ideal) f13 (tripL_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 k acc f13 f15 f16).1))
      (arg15.view.read (Elt Ideal) (arg15.view.writes (Elt Ideal) f15 (tripL_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 k acc f13 f15 f16).2.1))
      (arg16.view.read (Elt Ideal) (arg16.view.writes (Elt Ideal) f16 (tripL_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 k acc f13 f15 f16).2.2))
      (x.step b b.pt (fun a r s => b.pt a r s * b.gt a r s) n) := by
  obtain ⟨rfl, rfl, rfl, rfl, rfl, rfl, rfl, rfl, rfl, rfl⟩ := ho
  obtain ⟨rfl, hd, hm, hnn⟩ := hx
  have o1 : k0_off1 i k = ![512 * n.val, 0] := hn ▸ k0_off1_eq i k
  have o2 : k0_off2 i k = ![0, (0 : Fin 2).val, 512 * n.val] := hn ▸ k0_off2_eq i k
  have o3 : k0_off3 i k = ![0, (1 : Fin 2).val, 512 * n.val] := hn ▸ k0_off3_eq i k
  have o4 : k0_off4 i k = ![0, 512 * n.val] := hn ▸ k0_off4_eq i k
  have K := read_rows arg3.view X_arg3 h3 (k0_off1_inb i k) n o1
  have V := read_rows arg4.view X_arg4 h4 (k0_off1_inb i k) n o1
  have c0 := read_ct arg6.view X_arg6 h6 (k0_off2_inb i k) 0 n o2
  have c1 := read_ct arg6.view X_arg6 h6 (k0_off3_inb i k) 1 n o3
  have d0 := read_ct arg13.view f13 hd (k0_off2_inb i k) 0 n o2
  have d1 := read_ct arg13.view f13 hd (k0_off3_inb i k) 1 n o3
  have m := read_cols arg15.view f15 hm (k0_off4_inb i k) n o4
  have w := read_cols arg16.view f16 hnn (k0_off4_inb i k) n o4
  unfold tripR_k0_t1 tripL_k0_t1 trip_k0_t1
  dsimp only
  refine ⟨?_, ?_, ?_, ?_⟩
  · refine Prod.ext ?_ (Prod.ext ?_ (Prod.ext ?_ ?_))
    · refine (?_ : _ = k0_pay9 _ _ _ _ _ _ _ _ _).trans (tile_dq (b.Q 0) _ (b.G 0) _ (b.cq 0) _ (b.la 0) (b.de 0) (x.A 0))
      rw [← K, ← V, ← c0]; rfl
    · refine (?_ : _ = k0_pay17 _ _ _ _ _ _ _ _ _).trans (tile_dcq (b.Q 0) _ (b.G 0) _ (b.cq 0) _ (b.la 0) (b.de 0) (x.s 0))
      rw [← K, ← V, ← c0]; rfl
    · refine (?_ : _ = k0_pay9 _ _ _ _ _ _ _ _ _).trans (tile_dq (b.Q 1) _ (b.G 1) _ (b.cq 1) _ (b.la 1) (b.de 1) (x.A 1))
      rw [← K, ← V, ← c1]; rfl
    · refine (?_ : _ = k0_pay17 _ _ _ _ _ _ _ _ _).trans (tile_dcq (b.Q 1) _ (b.G 1) _ (b.cq 1) _ (b.la 1) (b.de 1) (x.s 1))
      rw [← K, ← V, ← c1]; rfl
  · refine write_ct arg13.view f13 _ (d := fun a s => if a = 0 ∧ s.val / 512 = n.val then (x.step b b.pt (fun a r s => b.pt a r s * b.gt a r s) n).d a s else x.d a s)
      ?_ (k0_off3_inb i k) 1 n o3 _ ?_ ?_
    · refine write_ct arg13.view f13 [] (d := x.d) hd (k0_off2_inb i k) 0 n o2 _ ?_ ?_
      · refine (?_ : _ = k0_pay8 _ _ _ _ _ _ _ _ _).trans ((tile_dc (b.Q 0) (fun r l => b.K (pos n r) l) (b.G 0) (fun r l => b.V (pos n r) l) (b.cq 0) (fun c => b.ct 0 (pos n c)) (b.la 0) (b.de 0) fun c => x.d 0 (pos n c)).trans ?_)
        · rw [← K, ← V, ← c0, ← d0]; rfl
        · refine congrArg row3 (funext fun c => ?_)
          rw [if_pos ⟨rfl, pos_div n c⟩]
          exact (if_pos (pos_div n c)).symm
      · intro a' m' c' h'
        refine if_neg fun hh => h' ⟨hh.1, Fin.ext ?_⟩
        rw [← pos_div m' c']; exact hh.2
    · refine (?_ : _ = k0_pay8 _ _ _ _ _ _ _ _ _).trans ((tile_dc (b.Q 1) (fun r l => b.K (pos n r) l) (b.G 1) (fun r l => b.V (pos n r) l) (b.cq 1) (fun c => b.ct 1 (pos n c)) (b.la 1) (b.de 1) fun c => x.d 1 (pos n c)).trans ?_)
      · rw [← K, ← V, ← c1, ← d1]; rfl
      · exact congrArg row3 (funext fun c => (if_pos (pos_div n c)).symm)
    · intro a' m' c' h'
      by_cases hm' : (pos m' c').val / 512 = n.val
      · have e : m' = n := Fin.ext (by rw [← pos_div m' c']; exact hm')
        have ea : a' = 0 := by
          have : a' ≠ 1 := fun hh => h' ⟨hh, e⟩
          omega
        exact (if_pos ⟨ea, hm'⟩).symm
      · exact (if_neg hm').trans (if_neg fun hh => hm' hh.2).symm
  · refine write_cols arg15.view f15 [] (M := x.M) hm (k0_off4_inb i k) n o4 _ ?_ ?_
    · refine (?_ : _ = k0_pay18 _ _ _ _ _ _ _ _ _ _).trans ((tile_dk_add (b.Q 1) (fun r l => b.K (pos n r) l) (b.G 1) (fun r l => b.V (pos n r) l) (b.cq 1) (fun c => b.ct 1 (pos n c)) (b.la 1) (b.de 1) (fun l c => x.M l (pos n c))
        (fun l c => ∑ r, b.Q 0 r l * (b.pt 0 r (pos n c) * b.gt 0 r (pos n c)))).trans ?_)
      · have e := tile_dk (b.Q 0) (fun r l => b.K (pos n r) l) (b.G 0) (fun r l => b.V (pos n r) l) (b.cq 0) (fun c => b.ct 0 (pos n c)) (b.la 0) (b.de 0)
        refine Eq.trans ?_ (congrArg (fun z => k0_pay18 (F := Ideal) (R2 (b.Q 1)) (R2 (b.G 1)) (col (b.de 1)) (col (b.cq 1)) (col (b.la 1))
          (R2 fun r l => b.K (pos n r) l) (R2 fun r l => b.V (pos n r) l) z (row3 fun c => b.ct 1 (pos n c)) (R2 fun l c => x.M l (pos n c))) e)
        rw [← K, ← V, ← c1, ← c0, ← m]
        exact cast_self _ _
      · exact R2_congr fun l c => (if_pos (pos_div n c)).symm
    · intro l m' c' h'
      exact if_neg fun hh => h' (Fin.ext (by rw [← pos_div m' c']; exact hh))
  · refine write_cols arg16.view f16 [] (M := x.N) hnn (k0_off4_inb i k) n o4 _ ?_ ?_
    · refine Eq.trans (b := k0_pay54 (F := Ideal) (k0_pay14 (F := Ideal) (R2 (b.Q 1)) (R2 (b.G 1)) (col (b.cq 1)) (col (b.la 1))
        (View.readAt (Elt Ideal) arg3.view (Rect.unit (s := S2048x128) (k0_off1 i k) S512x128.size (k0_off1_inb i k)).toLoadRect X_arg3)
        (k0_pay7 (F := Ideal) (R2 (b.Q 0)) (R2 (b.G 0)) (col (b.cq 0)) (col (b.la 0))
          (View.readAt (Elt Ideal) arg3.view (Rect.unit (s := S2048x128) (k0_off1 i k) S512x128.size (k0_off1_inb i k)).toLoadRect X_arg3)
          (View.readAt (Elt Ideal) arg6.view (Rect.unit (s := S1x2x2048) (k0_off2 i k) S1x1x512.size (k0_off2_inb i k)).toLoadRect X_arg6))
        (View.readAt (Elt Ideal) arg6.view (Rect.unit (s := S1x2x2048) (k0_off3 i k) S1x1x512.size (k0_off3_inb i k)).toLoadRect X_arg6))
        (View.readAt (Elt Ideal) arg16.view (Rect.unit (s := S128x2048) (k0_off4 i k) S128x512.size (k0_off4_inb i k)).toLoadRect f16)) rfl ?_
      rw [K, c0, c1, w, tile_dv, tile_dv_add, tile_dv_put]
      exact R2_congr fun l c => (if_pos (pos_div n c)).symm
    · intro l m' c' h'
      exact if_neg fun hh => h' (Fin.ext (by rw [← pos_div m' c']; exact hh))

end Cert.KernelIdeal.Fox

end
-- ==== Proof.Loop.lean ====
/-
  THE LOOP: after `n` trips the accumulators hold what the tiles of the first `n` blocks of keys add to what they held. The
  remainder loop, which takes the blocks left over from an unrolling by one, makes no trip.
-/
module

public import proofs.«01_k».proof.Proof.Trip
public import Idealize.ShloMosaic.Lib.Writes

@[expose] public section

noncomputable section

namespace Cert.KernelIdeal.Fox

open Cert.KernelIdeal Cert.KernelIdeal.Gen Idealize.ShloMosaic Idealize.ShloMosaic.ValueIdx
open _root_.Fox
open scoped BigOperators

/-- The loop makes one trip for each block behind the queries' own. -/
theorem trips_main : ∀ i : grid0.Coords, (k0_t1_loop i).trips = (i 1).val := by decide +kernel

/-- The remainder loop makes none. -/
theorem trips_rem (i : grid0.Coords) : (k0_t2_loop i).trips = 0 := Nat.le_zero.1 (k0_t2_abs i).2.1

/-- What the accumulators hold after the tiles of the first `n` blocks of keys. -/
def Acc.upto (b : Blk) (i : Fin 4) (x : Acc) : ℕ → Acc
  | 0 => x
  | n + 1 => if h : n < 4 then (Acc.upto b i x n).step b (b.P i) (b.D i) ⟨n, h⟩ else Acc.upto b i x n

/-- A block behind the queries' own has no key ahead of them. -/
theorem Blk.P_behind (b : Blk) {i n : Fin 4} (h : n.val < i.val) (a : Fin 2) (r c : Fin 512) : b.P i a r (pos n c) = b.pt a r (pos n c) := by
  unfold Blk.P
  exact if_pos (by rw [pos_val]; omega)

variable (𝒱 : Variants) (c : Dev nD) (bd : Option 𝒱.V) (i : grid0.Coords)
  (arg2 : Memref sig .tc .vmem S512x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S512x128 .f32) (harg5 : arg5.IsWhole)
  (arg6 : Memref sig .tc .vmem S1x2x2048 .f32) (harg6 : arg6.IsWhole) (arg7 : Memref sig .tc .vmem S512x128 .f32) (harg7 : arg7.IsWhole)
  (arg8 : Memref sig .tc .vmem S512x256 .f32) (harg8 : arg8.IsWhole) (arg9 : Memref sig .tc .vmem S512x128 .f32) (harg9 : arg9.IsWhole)
  (arg10 : Memref sig .tc .vmem S512x128 .bf16) (harg10 : arg10.IsWhole) (arg11 : Memref sig .tc .vmem S2048x128 .bf16) (harg11 : arg11.IsWhole)
  (arg12 : Memref sig .tc .vmem S2048x128 .bf16) (harg12 : arg12.IsWhole) (arg13 : Memref sig .tc .vmem S1x2x2048 .f32) (harg13 : arg13.IsWhole)
  (arg14 : Memref sig .tc .vmem S1x512x128 .f32) (harg14 : arg14.IsWhole) (arg15 : Memref sig .tc .vmem S128x2048 .f32) (harg15 : arg15.IsWhole)
  (arg16 : Memref sig .tc .vmem S128x2048 .f32) (harg16 : arg16.IsWhole)
  (arg1 : BitVec 32) (v8 : IVec S512x512 1) (v19 v26 v29 v33 : FVec Ideal S512x128 .bf16) (v37 v42 v52 v62 v64 v66 : FVec Ideal S512x1 .f32)
  (v67 : FVec Ideal S512x128 .f32) (v68 : FVec Ideal S512x1 .f32) (c0_i32_33 v73 c1_i32_35 : BitVec 32)
  (X_arg3 : BufTy.Contents (Elt Ideal) arg3.view.ty) (X_arg4 : BufTy.Contents (Elt Ideal) arg4.view.ty) (X_arg6 : BufTy.Contents (Elt Ideal) arg6.view.ty)

/-- After `n` trips. -/
theorem loop (b : Blk) (q : Fin 4) (hq : q.val = (i 1).val)
    (init : FVec Ideal S512x128 .f32 × FVec Ideal S512x1 .f32 × FVec Ideal S512x128 .f32 × FVec Ideal S512x1 .f32)
    (f13 : BufTy.Contents (Elt Ideal) arg13.view.ty) (f15 : BufTy.Contents (Elt Ideal) arg15.view.ty) (f16 : BufTy.Contents (Elt Ideal) arg16.view.ty)
    (ho : Opnds b v19 v26 v29 v33 v37 v42 v52 v62 v64 v66)
    (h3 : arg3.view.read (Elt Ideal) X_arg3 = R2 b.K) (h4 : arg4.view.read (Elt Ideal) X_arg4 = R2 b.V) (h6 : arg6.view.read (Elt Ideal) X_arg6 = R3 b.ct)
    (x : Acc) (hx : Holds init (arg13.view.read (Elt Ideal) f13) (arg15.view.read (Elt Ideal) f15) (arg16.view.read (Elt Ideal) f16) x) :
    ∀ n : ℕ, n ≤ (k0_t1_loop i).trips → Holds (st_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 f13 f15 f16 init n).1
      (arg13.view.read (Elt Ideal) (arg13.view.writes (Elt Ideal) f13 (st_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 f13 f15 f16 init n).2.1))
      (arg15.view.read (Elt Ideal) (arg15.view.writes (Elt Ideal) f15 (st_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 f13 f15 f16 init n).2.2.1))
      (arg16.view.read (Elt Ideal) (arg16.view.writes (Elt Ideal) f16 (st_k0_t1 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 f13 f15 f16 init n).2.2.2))
      (x.upto b q n) := by
  intro n
  induction n with
  | zero => exact fun _ => hx
  | succ n ih =>
    intro hn
    have h := ih (Nat.le_of_succ_le hn)
    have hi : (i 1).val < 4 := (i 1).isLt
    have hlt : n < (i 1).val := by have := trips_main i; omega
    have h4' : n < 4 := by omega
    have := trip 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 b ⟨n, hn⟩ ⟨n, h4'⟩ rfl _ _ _ _ ho h3 h4 h6 _ h
    rw [Acc.step_congr b (W' := b.P q) (E' := b.D q) ⟨n, h4'⟩ _ (fun a r c => (b.P_behind (by show n < q.val; omega) a r c).symm)
      (fun a r c => congrArg (· * b.gt a r (pos ⟨n, h4'⟩ c)) (b.P_behind (by show n < q.val; omega) a r c).symm)] at this
    rw [← View.writes_append, ← View.writes_append, ← View.writes_append] at this
    have e := st_k0_t1_succ 𝒱 c bd i arg2 harg2 arg3 harg3 arg4 harg4 arg5 harg5 arg6 harg6 arg7 harg7 arg8 harg8 arg9 harg9 arg10 harg10 arg11 harg11
        arg12 harg12 arg13 harg13 arg14 harg14 arg15 harg15 arg16 harg16 arg1 v8 v19 v26 v29 v33 v37 v42 v52 v62 v64 v66 v67 v68 c0_i32_33 v73 c1_i32_35
        X_arg3 X_arg4 X_arg6 f13 f15 f16 init ⟨n, hn⟩
    rw [show n + 1 = (⟨n, hn⟩ : Fin (k0_t1_loop i).trips).val + 1 from rfl, e]
    refine Eq.mp (congrArg _ ?_) this
    show _ = Acc.upto b q x (n + 1)
    rw [Acc.upto, dif_pos h4']

end Cert.KernelIdeal.Fox

end
-- ==== Proof.Diag.lean ====
/-
  THE TILE ON THE DIAGONAL, after the loop: the queries' own block of keys, where a query sees the keys at or behind it.
-/
module

public import proofs.«01_k».proof.Proof.Loop

@[expose] public section

noncomputable section

namespace Cert.KernelIdeal.Fox

open Cert.KernelIdeal Cert.KernelIdeal.Gen Idealize.ShloMosaic Idealize.ShloMosaic.ValueIdx
open _root_.Fox
open scoped BigOperators

section pieces

variable (Q K G V : Fin 512 → Fin 128 → ℝ) (cq ck la de : Fin 512 → ℝ)

/-- The weights of the tile on the diagonal. -/
def prd (Q K : Fin 512 → Fin 128 → ℝ) (cq ck la : Fin 512 → ℝ) (r c : Fin 512) : ℝ := if c ≤ r then pr Q K cq ck la r c else 0

theorem diag_p : k0_pay57 (F := Ideal) k0_pay39 (R2 Q) (col cq) (col la) (R2 K) (row3 ck) = R2 (prd Q K cq ck la) := p_diag Q K cq ck la

/-- The logits' cotangent of the tile on the diagonal. -/
theorem diag_ds : k0_pay58 (F := Ideal) k0_pay39 (R2 Q) (R2 G) (col de) (col cq) (col la) (R2 K) (R2 V) (row3 ck) = R2 (dsr (prd Q K cq ck la) G V de) := by
  unfold k0_pay58
  rw [diag_p]
  exact ds_tile G V de _

/-- The same, as the products read it. -/
theorem diag_ds_trunc : k0_pay59 (F := Ideal) k0_pay39 (R2 Q) (R2 G) (col de) (col cq) (col la) (R2 K) (R2 V) (row3 ck) = R2 (dsr (prd Q K cq ck la) G V de) :=
  diag_ds Q K G V cq ck la de

theorem diag_dk : k0_pay60 (F := Ideal) k0_pay39 (R2 Q) (R2 G) (col de) (col cq) (col la) (R2 K) (R2 V) (row3 ck)
    = R2 fun l c => ∑ r, Q r l * dsr (prd Q K cq ck la) G V de r c := by
  unfold k0_pay60
  rw [diag_ds_trunc]
  exact tn_of_zero _ _

theorem diag_dv : k0_pay61 (F := Ideal) k0_pay39 (R2 Q) (R2 G) (col cq) (col la) (R2 K) (row3 ck)
    = R2 fun l c => ∑ r, G r l * prd Q K cq ck la r c := by
  unfold k0_pay61
  rw [diag_p]
  exact tn_of_zero _ _

theorem diag_dc (d : Fin 512 → ℝ) :
    k0_pay63 (F := Ideal) (k0_pay62 (F := Ideal) k0_pay39 (R2 Q) (R2 G) (col de) (col cq) (col la) (R2 K) (R2 V) (row3 ck) (row3 d))
    = row3 fun c => d c - ∑ r, dsr (prd Q K cq ck la) G V de r c := by
  unfold k0_pay63 k0_pay62
  rw [diag_ds]
  exact sub_cols _ _ _ _ _ _

theorem diag_dc' (d : Fin 512 → ℝ) :
    k0_pay71 (F := Ideal) k0_pay39 (R2 Q) (R2 G) (col de) (col cq) (col la) (R2 K) (R2 V) (row3 ck) (row3 d)
    = row3 fun c => d c - ∑ r, dsr (prd Q K cq ck la) G V de r c := diag_dc Q K G V cq ck la de d

theorem diag_dq (A : Fin 512 → Fin 128 → ℝ) (B : Fin 512 → Fin 512 → ℝ) : k0_pay64 (F := Ideal) (R2 A) (R2 K) (R2 B)
    = R2 fun r l => A r l + ∑ c, B r c * K c l := add_nn _ _ _

theorem diag_dq' (A : Fin 512 → Fin 128 → ℝ) : k0_pay72 (F := Ideal) k0_pay39 (R2 Q) (R2 G) (col de) (col cq) (col la) (R2 A) (R2 K) (R2 V) (row3 ck)
    = R2 fun r l => A r l + ∑ c, dsr (prd Q K cq ck la) G V de r c * K c l :=
  (congrArg (k0_pay64 (F := Ideal) (R2 A) (R2 K)) (diag_ds Q K G V cq ck la de)).trans (diag_dq K A _)

theorem diag_rs (s : Fin 512 → ℝ) (B : Fin 512 → Fin 512 → ℝ) : k0_pay65 (F := Ideal) (col s) (R2 B) = col fun r => s r + ∑ c, B r c :=
  add_rows _ _ _ _

theorem diag_rs' (s : Fin 512 → ℝ) : addf (F := Ideal) (φ := .f32) (col s) (shapeCast S512x1
      (k0_pay73 (F := Ideal) k0_pay39 (R2 Q) (R2 G) (col de) (col cq) (col la) (R2 K) (R2 V) (row3 ck)) shapeCasts_S512_S512x1)
    = col fun r => s r + ∑ c, dsr (prd Q K cq ck la) G V de r c :=
  (congrArg (k0_pay65 (F := Ideal) (col s)) (diag_ds Q K G V cq ck la de)).trans (diag_rs s _)

theorem diag_dk' (X : Fin 128 → Fin 512 → ℝ) : k0_pay69 (F := Ideal) k0_pay39 (R2 Q) (R2 G) (col de) (col cq) (col la) (R2 K) (R2 V) (R2 X) (row3 ck)
    = R2 fun l c => X l c + ∑ r, Q r l * dsr (prd Q K cq ck la) G V de r c :=
  (congrArg (fun z => addf (F := Ideal) (φ := .f32) (R2 X)
    (matmul (F := Ideal) (φ₁ := .bf16) (φ₂ := .bf16) dot_S512x128_S512x512_S128x512_0_0_1_1_n_n none (R2 Q) z (constant S128x512 .f32 0x00000000#32)))
    (diag_ds Q K G V cq ck la de)).trans (add_tn _ _ _)

theorem diag_dv' (X : Fin 128 → Fin 512 → ℝ) : k0_pay70 (F := Ideal) k0_pay39 (R2 Q) (R2 G) (col cq) (col la) (R2 K) (R2 X) (row3 ck)
    = R2 fun l c => X l c + ∑ r, G r l * prd Q K cq ck la r c :=
  (congrArg (fun z => addf (F := Ideal) (φ := .f32) (R2 X)
    (matmul (F := Ideal) (φ₁ := .bf16) (φ₂ := .bf16) dot_S512x128_S512x512_S128x512_0_0_1_1_n_n none (R2 G) z (constant S128x512 .f32 0x00000000#32)))
    (diag_p Q K cq ck la)).trans (add_tn _ _ _)

theorem diag_put (X Y : Fin 128 → Fin 512 → ℝ) : k0_pay74 (F := Ideal) (R2 Y) (R2 X) = R2 fun l c => X l c + Y l c := by
  unfold k0_pay74
  exact (cast_self _ _).trans (R2_add .f32 _ _)

theorem diag_put' (X Y : Fin 128 → Fin 512 → ℝ) : k0_pay75 (F := Ideal) (R2 Y) (R2 X) = R2 fun l c => X l c + Y l c := diag_put X Y

end pieces

/-- On its own block a query sees the keys at or behind it. -/
theorem Blk.P_own (b : Blk) (q : Fin 4) (a : Fin 2) (r c : Fin 512) :
    prd (b.Q a) (fun c l => b.K (pos q c) l) (b.cq a) (fun c => b.ct a (pos q c)) (b.la a) r c = b.P q a r (pos q c) := by
  unfold prd Blk.P
  have e : (pos q c).val ≤ 512 * q.val + r.val ↔ c ≤ r := by rw [pos_val, Fin.le_def]; omega
  by_cases h : c ≤ r
  · rw [if_pos h, if_pos (e.2 h)]; rfl
  · rw [if_neg h, if_neg fun hh => h (e.1 hh)]

theorem Blk.D_own (b : Blk) (q : Fin 4) (a : Fin 2) (r c : Fin 512) :
    dsr (prd (b.Q a) (fun c l => b.K (pos q c) l) (b.cq a) (fun c => b.ct a (pos q c)) (b.la a)) (b.G a) (fun c l => b.V (pos q c) l) (b.de a) r c
    = b.D q a r (pos q c) := congrArg (· * b.gt a r (pos q c)) (b.P_own q a r c)

variable (i : grid0.Coords)
  (arg3 : Memref sig .tc .vmem S2048x128 .bf16) (arg4 : Memref sig .tc .vmem S2048x128 .bf16) (arg6 : Memref sig .tc .vmem S1x2x2048 .f32)
  (arg13 : Memref sig .tc .vmem S1x2x2048 .f32) (arg15 : Memref sig .tc .vmem S128x2048 .f32) (arg16 : Memref sig .tc .vmem S128x2048 .f32)
  (v19 v26 v29 v33 : FVec Ideal S512x128 .bf16) (v37 v42 v52 v62 v64 v66 : FVec Ideal S512x1 .f32)
  (X3 : BufTy.Contents (Elt Ideal) arg3.view.ty) (X4 : BufTy.Contents (Elt Ideal) arg4.view.ty) (X6 : BufTy.Contents (Elt Ideal) arg6.view.ty)
  (g13 : BufTy.Contents (Elt Ideal) arg13.view.ty) (g15 : BufTy.Contents (Elt Ideal) arg15.view.ty) (g16 : BufTy.Contents (Elt Ideal) arg16.view.ty)
  (L13 : List (View.Piece (Elt Ideal) S1x2x2048 .f32)) (L15 L16 : List (View.Piece (Elt Ideal) S128x2048 .f32))

/-- The first head's store to the keys' decays' gradients. -/
def ct0 : View.Piece (Elt Ideal) S1x2x2048 .f32 :=
  (⟨Rect.unit (s := S1x2x2048) (k0_off10 i) S1x1x512.size (k0_off10_inb i), k0_pay63 (F := Ideal) (k0_pay62 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6) (View.readAt (Elt Ideal) arg13.view (Rect.unit (s := S1x2x2048) (k0_off10 i) S1x1x512.size (k0_off10_inb i)).toLoadRect (arg13.view.writes (Elt Ideal) g13 L13)))⟩ : View.Piece (Elt Ideal) S1x2x2048 .f32)

/-- The second head's. -/
def ct1 : View.Piece (Elt Ideal) S1x2x2048 .f32 :=
  ⟨Rect.unit (s := S1x2x2048) (k0_off11 i) S1x1x512.size (k0_off11_inb i), k0_pay71 (F := Ideal) k0_pay39 v26 v33 v42 v62 v66
    (View.readAt (Elt Ideal) arg3.view (Rect.unit (s := S2048x128) (k0_off9 i) S512x128.size (k0_off9_inb i)).toLoadRect X3)
    (View.readAt (Elt Ideal) arg4.view (Rect.unit (s := S2048x128) (k0_off9 i) S512x128.size (k0_off9_inb i)).toLoadRect X4)
    (View.readAt (Elt Ideal) arg6.view (Rect.unit (s := S1x2x2048) (k0_off11 i) S1x1x512.size (k0_off11_inb i)).toLoadRect X6)
    (View.readAt (Elt Ideal) arg13.view (Rect.unit (s := S1x2x2048) (k0_off11 i) S1x1x512.size (k0_off11_inb i)).toLoadRect (arg13.view.writes (Elt Ideal) g13
      (ct0 i arg3 arg4 arg6 arg13 v19 v29 v37 v52 v64 X3 X4 X6 g13 L13 :: L13)))⟩

/-- The store to the keys' gradients. -/
def dk0 : View.Piece (Elt Ideal) S128x2048 .f32 :=
  ⟨Rect.unit (s := S128x2048) (k0_off12 i) S128x512.size (k0_off12_inb i), k0_pay74 (F := Ideal)
    (k0_pay69 (F := Ideal) k0_pay39 v26 v33 v42 v62 v66
      (View.readAt (Elt Ideal) arg3.view (Rect.unit (s := S2048x128) (k0_off9 i) S512x128.size (k0_off9_inb i)).toLoadRect X3)
      (View.readAt (Elt Ideal) arg4.view (Rect.unit (s := S2048x128) (k0_off9 i) S512x128.size (k0_off9_inb i)).toLoadRect X4)
      (k0_pay60 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6))
      (View.readAt (Elt Ideal) arg6.view (Rect.unit (s := S1x2x2048) (k0_off11 i) S1x1x512.size (k0_off11_inb i)).toLoadRect X6))
    (View.readAt (Elt Ideal) arg15.view (Rect.unit (s := S128x2048) (k0_off12 i) S128x512.size (k0_off12_inb i)).toLoadRect (arg15.view.writes (Elt Ideal) g15 L15))⟩

/-- The store to the values' gradients. -/
def dv0 : View.Piece (Elt Ideal) S128x2048 .f32 :=
  ⟨Rect.unit (s := S128x2048) (k0_off12 i) S128x512.size (k0_off12_inb i), k0_pay75 (F := Ideal)
    (k0_pay70 (F := Ideal) k0_pay39 v26 v33 v62 v66
      (View.readAt (Elt Ideal) arg3.view (Rect.unit (s := S2048x128) (k0_off9 i) S512x128.size (k0_off9_inb i)).toLoadRect X3)
      (k0_pay61 (F := Ideal) k0_pay39 v19 v29 v52 v64 (View.readAt (Elt Ideal) arg3.view (Rect.unit (s := S2048x128) (k0_off9 i) S512x128.size (k0_off9_inb i)).toLoadRect X3) (View.readAt (Elt Ideal) arg6.view (Rect.unit (s := S1x2x2048) (k0_off10 i) S1x1x512.size (k0_off10_inb i)).toLoadRect X6))
      (View.readAt (Elt Ideal) arg6.view (Rect.unit (s := S1x2x2048) (k0_off11 i) S1x1x512.size (k0_off11_inb i)).toLoadRect X6))
    (View.readAt (Elt Ideal) arg16.view (Rect.unit (s := S128x2048) (k0_off12 i) S128x512.size (k0_off12_inb i)).toLoadRect (arg16.view.writes (Elt Ideal) g16 L16))⟩

/-- The tile on the diagonal is added to what the accumulators hold. -/
theorem diag (b : Blk) (q : Fin 4) (hq : q.val = (i 1).val)
    (acc : FVec Ideal S512x128 .f32 × FVec Ideal S512x1 .f32 × FVec Ideal S512x128 .f32 × FVec Ideal S512x1 .f32)
    (ho : Opnds b v19 v26 v29 v33 v37 v42 v52 v62 v64 v66)
    (h3 : arg3.view.read (Elt Ideal) X3 = R2 b.K) (h4 : arg4.view.read (Elt Ideal) X4 = R2 b.V) (h6 : arg6.view.read (Elt Ideal) X6 = R3 b.ct)
    (x : Acc) (hx : Holds acc (arg13.view.read (Elt Ideal) (arg13.view.writes (Elt Ideal) g13 L13))
      (arg15.view.read (Elt Ideal) (arg15.view.writes (Elt Ideal) g15 L15)) (arg16.view.read (Elt Ideal) (arg16.view.writes (Elt Ideal) g16 L16)) x) :
    Holds
      (k0_pay64 (F := Ideal) acc.1
        (View.readAt (Elt Ideal) arg3.view (Rect.unit (s := S2048x128) (k0_off9 i) S512x128.size (k0_off9_inb i)).toLoadRect X3)
        (k0_pay59 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6)),
      k0_pay65 (F := Ideal) acc.2.1 (k0_pay58 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6)),
      k0_pay72 (F := Ideal) k0_pay39 v26 v33 v42 v62 v66 acc.2.2.1
        (View.readAt (Elt Ideal) arg3.view (Rect.unit (s := S2048x128) (k0_off9 i) S512x128.size (k0_off9_inb i)).toLoadRect X3)
        (View.readAt (Elt Ideal) arg4.view (Rect.unit (s := S2048x128) (k0_off9 i) S512x128.size (k0_off9_inb i)).toLoadRect X4)
        (View.readAt (Elt Ideal) arg6.view (Rect.unit (s := S1x2x2048) (k0_off11 i) S1x1x512.size (k0_off11_inb i)).toLoadRect X6),
      addf (F := Ideal) (φ := .f32) acc.2.2.2 (shapeCast S512x1 (k0_pay73 (F := Ideal) k0_pay39 v26 v33 v42 v62 v66
        (View.readAt (Elt Ideal) arg3.view (Rect.unit (s := S2048x128) (k0_off9 i) S512x128.size (k0_off9_inb i)).toLoadRect X3)
        (View.readAt (Elt Ideal) arg4.view (Rect.unit (s := S2048x128) (k0_off9 i) S512x128.size (k0_off9_inb i)).toLoadRect X4)
        (View.readAt (Elt Ideal) arg6.view (Rect.unit (s := S1x2x2048) (k0_off11 i) S1x1x512.size (k0_off11_inb i)).toLoadRect X6)) shapeCasts_S512_S512x1))
      (arg13.view.read (Elt Ideal) (arg13.view.writes (Elt Ideal) g13 ((ct1 i arg3 arg4 arg6 arg13 v19 v26 v29 v33 v37 v42 v52 v62 v64 v66 X3 X4 X6 g13 L13) ::
        (ct0 i arg3 arg4 arg6 arg13 v19 v29 v37 v52 v64 X3 X4 X6 g13 L13) :: L13)))
      (arg15.view.read (Elt Ideal) (arg15.view.writes (Elt Ideal) g15 ((dk0 i arg3 arg4 arg6 arg15 v19 v26 v29 v33 v37 v42 v52 v62 v64 v66 X3 X4 X6 g15 L15) :: L15)))
      (arg16.view.read (Elt Ideal) (arg16.view.writes (Elt Ideal) g16 ((dv0 i arg3 arg6 arg16 v19 v26 v29 v33 v52 v62 v64 v66 X3 X6 g16 L16) :: L16)))
      (x.step b (b.P q) (b.D q) q) := by
  obtain ⟨rfl, rfl, rfl, rfl, rfl, rfl, rfl, rfl, rfl, rfl⟩ := ho
  obtain ⟨rfl, hd, hm, hnn⟩ := hx
  have o9 : k0_off9 i = ![512 * q.val, 0] := hq ▸ k0_off9_eq i
  have o10 : k0_off10 i = ![0, (0 : Fin 2).val, 512 * q.val] := hq ▸ k0_off10_eq i
  have o11 : k0_off11 i = ![0, (1 : Fin 2).val, 512 * q.val] := hq ▸ k0_off11_eq i
  have o12 : k0_off12 i = ![0, 512 * q.val] := hq ▸ k0_off12_eq i
  have K := read_rows arg3.view X3 h3 (k0_off9_inb i) q o9
  have V := read_rows arg4.view X4 h4 (k0_off9_inb i) q o9
  have c0 := read_ct arg6.view X6 h6 (k0_off10_inb i) 0 q o10
  have c1 := read_ct arg6.view X6 h6 (k0_off11_inb i) 1 q o11
  have d0 := read_ct arg13.view _ hd (k0_off10_inb i) 0 q o10
  have m := read_cols arg15.view _ hm (k0_off12_inb i) q o12
  have w := read_cols arg16.view _ hnn (k0_off12_inb i) q o12
  have H1 : arg13.view.read (Elt Ideal) (arg13.view.writes (Elt Ideal) g13
      (ct0 i arg3 arg4 arg6 arg13 (R2 (b.Q 0)) (R2 (b.G 0)) (col (b.de 0)) (col (b.cq 0)) (col (b.la 0)) X3 X4 X6 g13 L13 :: L13))
      = R3 fun a s => if a = 0 ∧ s.val / 512 = q.val then (x.step b (b.P q) (b.D q) q).d a s else x.d a s := by
    unfold ct0
    refine write_ct arg13.view g13 L13 (d := x.d) hd (k0_off10_inb i) 0 q o10 _ ?_ ?_
    · rw [K, V, c0, d0, diag_dc]
      refine congrArg row3 (funext fun c => ?_)
      rw [if_pos ⟨rfl, pos_div q c⟩]
      refine Eq.trans ?_ (if_pos (pos_div q c)).symm
      simp only [Blk.D_own]
    · intro a' m' c' h'
      refine if_neg fun hh => h' ⟨hh.1, Fin.ext ?_⟩
      rw [← pos_div m' c']; exact hh.2
  have d1 := read_ct arg13.view _ H1 (k0_off11_inb i) 1 q o11
  refine ⟨?_, ?_, ?_, ?_⟩
  · refine Prod.ext ?_ (Prod.ext ?_ (Prod.ext ?_ ?_))
    · show k0_pay64 (F := Ideal) (R2 (x.A 0)) _ _ = _
      rw [K, V, c0, diag_ds_trunc, diag_dq]
      simp only [Blk.D_own]; rfl
    · show k0_pay65 (F := Ideal) (col (x.s 0)) _ = _
      rw [K, V, c0, diag_ds, diag_rs]
      simp only [Blk.D_own]; rfl
    · show k0_pay72 (F := Ideal) _ _ _ _ _ _ (R2 (x.A 1)) _ _ _ = _
      rw [K, V, c1, diag_dq']
      simp only [Blk.D_own]; rfl
    · show addf (F := Ideal) (φ := .f32) (col (x.s 1)) _ = _
      rw [K, V, c1, diag_rs']
      simp only [Blk.D_own]; rfl
  · unfold ct1
    refine write_ct arg13.view g13 _ H1 (k0_off11_inb i) 1 q o11 _ ?_ ?_
    · rw [K, V, c1, d1, diag_dc']
      refine congrArg row3 (funext fun c => ?_)
      refine Eq.trans ?_ (if_pos (pos_div q c)).symm
      simp only [Blk.D_own]; rfl
    · intro a' m' c' h'
      by_cases hm' : (pos m' c').val / 512 = q.val
      · have e : m' = q := Fin.ext (by rw [← pos_div m' c']; exact hm')
        have ea : a' = 0 := by
          have : a' ≠ 1 := fun hh => h' ⟨hh, e⟩
          omega
        exact (if_pos ⟨ea, hm'⟩).symm
      · exact (if_neg hm').trans (if_neg fun hh => hm' hh.2).symm
  · unfold dk0
    refine write_cols arg15.view g15 L15 (M := x.M) hm (k0_off12_inb i) q o12 _ ?_ ?_
    · rw [K, V, c0, c1, m, diag_dk, diag_dk', diag_put]
      refine R2_congr fun l c => Eq.trans ?_ (if_pos (pos_div q c)).symm
      simp only [Blk.D_own]
    · intro l m' c' h'
      exact if_neg fun hh => h' (Fin.ext (by rw [← pos_div m' c']; exact hh))
  · unfold dv0
    refine write_cols arg16.view g16 L16 (M := x.N) hnn (k0_off12_inb i) q o12 _ ?_ ?_
    · rw [K, c0, c1, w, diag_dv, diag_dv', diag_put']
      refine R2_congr fun l c => Eq.trans ?_ (if_pos (pos_div q c)).symm
      simp only [Blk.P_own]
    · intro l m' c' h'
      exact if_neg fun hh => h' (Fin.ext (by rw [← pos_div m' c']; exact hh))

end Cert.KernelIdeal.Fox

end
-- ==== Proof.Operands.lean ====
/-
  A head's operands AS THE CALL FINDS THEM: the projection array holds the queries of head `h` at lanes `64 h`, its keys
  512 lanes further and its values 1024 lanes further, the forget sums lie at lane `h` of the second array, and the
  cotangent at lanes `64 h` of the third.
-/
module

public import proofs.«01_k».proof.Proof.Math
public import Idealize.ShloMosaic.Lib.ValueIdx

@[expose] public section

noncomputable section

namespace Fox

open Idealize.ShloMosaic Idealize.ShloMosaic.ValueIdx

variable (x0 : (⟨2, ![2048, 3200]⟩ : Shape).Idx → EReal) (x1 : (⟨2, ![2048, 128]⟩ : Shape).Idx → EReal)
  (x2 : (⟨2, ![2048, 512]⟩ : Shape).Idx → EReal)

/-- Head `h` of the three arrays, its entries as reals. -/
def hd (h : Fin 8) : Head where
  q t d := (x0 (ix2 t ⟨64 * h.val + d.val, by omega⟩)).toReal
  k t d := (x0 (ix2 t ⟨512 + (64 * h.val + d.val), by omega⟩)).toReal
  v t d := (x0 (ix2 t ⟨1024 + (64 * h.val + d.val), by omega⟩)).toReal
  g t d := (x2 (ix2 t ⟨64 * h.val + d.val, by omega⟩)).toReal
  c t := (x1 (ix2 t ⟨h.val, by omega⟩)).toReal

/-- The entries the call reads are reals: the first 1536 lanes of the projection, the first 8 of the forget sums, and the
    whole cotangent. -/
structure Reals : Prop where
  h0 : ∀ (t : Fin 2048) (l : Fin 3200), l.val < 1536 → x0 (ix2 t l) = ((x0 (ix2 t l)).toReal : EReal)
  h1 : ∀ (t : Fin 2048) (l : Fin 128), l.val < 8 → x1 (ix2 t l) = ((x1 (ix2 t l)).toReal : EReal)
  h2 : ∀ (t : Fin 2048) (l : Fin 512), x2 (ix2 t l) = ((x2 (ix2 t l)).toReal : EReal)

variable {x0 x1 x2}

namespace Reals

variable (H : Reals x0 x1 x2)
include H

/-- A query's entry. -/
theorem q (j : (⟨2, ![2048, 3200]⟩ : Shape).Idx) (h : Fin 8) (t : Fin 2048) (d : Fin 64) (e0 : (j 0).val = t.val)
    (e1 : (j 1).val = 64 * h.val + d.val) : x0 j = ((hd x0 x1 x2 h).q t d : EReal) := by
  have e : j = ix2 t ⟨64 * h.val + d.val, by omega⟩ :=
    (eq_ix2 j).trans (by rw [show j 0 = t from Fin.ext e0, show j 1 = ⟨64 * h.val + d.val, by omega⟩ from Fin.ext e1]; rfl)
  rw [e]; exact H.h0 _ _ (by show 64 * h.val + d.val < 1536; omega)

/-- A key's entry. -/
theorem k (j : (⟨2, ![2048, 3200]⟩ : Shape).Idx) (h : Fin 8) (t : Fin 2048) (d : Fin 64) (e0 : (j 0).val = t.val)
    (e1 : (j 1).val = 512 + (64 * h.val + d.val)) : x0 j = ((hd x0 x1 x2 h).k t d : EReal) := by
  have e : j = ix2 t ⟨512 + (64 * h.val + d.val), by omega⟩ :=
    (eq_ix2 j).trans (by rw [show j 0 = t from Fin.ext e0, show j 1 = ⟨512 + (64 * h.val + d.val), by omega⟩ from Fin.ext e1]; rfl)
  rw [e]; exact H.h0 _ _ (by show 512 + (64 * h.val + d.val) < 1536; omega)

/-- A value's entry. -/
theorem v (j : (⟨2, ![2048, 3200]⟩ : Shape).Idx) (h : Fin 8) (t : Fin 2048) (d : Fin 64) (e0 : (j 0).val = t.val)
    (e1 : (j 1).val = 1024 + (64 * h.val + d.val)) : x0 j = ((hd x0 x1 x2 h).v t d : EReal) := by
  have e : j = ix2 t ⟨1024 + (64 * h.val + d.val), by omega⟩ :=
    (eq_ix2 j).trans (by rw [show j 0 = t from Fin.ext e0, show j 1 = ⟨1024 + (64 * h.val + d.val), by omega⟩ from Fin.ext e1]; rfl)
  rw [e]; exact H.h0 _ _ (by show 1024 + (64 * h.val + d.val) < 1536; omega)

/-- A cotangent's entry. -/
theorem g (j : (⟨2, ![2048, 512]⟩ : Shape).Idx) (h : Fin 8) (t : Fin 2048) (d : Fin 64) (e0 : (j 0).val = t.val)
    (e1 : (j 1).val = 64 * h.val + d.val) : x2 j = ((hd x0 x1 x2 h).g t d : EReal) := by
  have e : j = ix2 t ⟨64 * h.val + d.val, by omega⟩ :=
    (eq_ix2 j).trans (by rw [show j 0 = t from Fin.ext e0, show j 1 = ⟨64 * h.val + d.val, by omega⟩ from Fin.ext e1]; rfl)
  rw [e]; exact H.h2 _ _

/-- A forget sum. -/
theorem c (j : (⟨2, ![2048, 128]⟩ : Shape).Idx) (h : Fin 8) (t : Fin 2048) (e0 : (j 0).val = t.val)
    (e1 : (j 1).val = h.val) : x1 j = ((hd x0 x1 x2 h).c t : EReal) := by
  have e : j = ix2 t ⟨h.val, by omega⟩ :=
    (eq_ix2 j).trans (by rw [show j 0 = t from Fin.ext e0, show j 1 = ⟨h.val, by omega⟩ from Fin.ext e1]; rfl)
  rw [e]; exact H.h1 _ _ (by show h.val < 8; omega)

end Reals

end Fox

end
-- ==== Proof.RefValue.lean ====
/-
  THE REFERENCE'S VALUES, stage by stage, at real operands: the logits, the softmax about the row's greatest logit, the
  derivative, and the five results as the plain sums of `Fox.Head`.
-/
module

public import proofs.«01_k».proof.Proof.Operands
public import proofs.«01_k».proof.Proof.Gen.ReferenceIdeal.Read
public import Idealize.ShloMosaic.Lib.IdealHost
public import Idealize.ShloMosaic.Lib.KernelVsHost
public import Idealize.ShloMosaic.Lib.WordCmp
public import Mathlib.Data.Finset.Fold

@[expose] public section

noncomputable section

namespace Cert.ReferenceIdeal.Fox

open Cert.ReferenceIdeal Cert.ReferenceIdeal.Gen Cert.ReferenceIdeal.Read Idealize.ShloMosaic Idealize.ShloMosaic.ValueIdx
open _root_.Fox
open scoped BigOperators

/-- The pattern `0x3E000000` is the real one eighth. -/
theorem eighth : Ideal.ofBits .f32 0x3E000000#32 = ((1 / 8 : ℝ) : EReal) := by
  simp [Ideal.ofBits, Ideal.ieee, -EReal.coe_mul]; norm_num

/-- The pattern `0xFF800000` is minus infinity. -/
theorem neg_inf : Ideal.ofBits .f32 0xFF800000#32 = ⊥ := by simp [Ideal.ofBits, Ideal.ieee]

/-- The derivative's expression in a head's reals is the logits' cotangent. -/
theorem ds_ereal (G : Head) (m : ℝ) (t s : Fin 2048) :
    (Ideal.div (G.dp t s : EReal) (G.z m t : EReal) + (Ideal.ofBits .f32 0x00000000#32
      + ((-(∑ s', G.dp t s' * (1 / (G.z m t * G.z m t)) * G.e m t s') : ℝ) : EReal))) * (G.e m t s : EReal)
    = (G.ds t s : EReal) := by
  rw [Ideal.ofBits_zero_f32, zero_add, Ideal.div_coe (G.z_pos m t).ne', ← EReal.coe_mul, mul_one_div, ← EReal.coe_add,
    ← EReal.coe_mul, Head.ds_eq]

variable {x0 : (⟨S2048x3200, .bf16⟩ : BufTy).Contents (Elt Ideal)} {x1 : (⟨S2048x128, .f32⟩ : BufTy).Contents (Elt Ideal)}
  {x2 : (⟨S2048x512, .f32⟩ : BufTy).Contents (Elt Ideal)}

variable (H : Reals x0 x1 x2)

section Stages
include H

theorem v8 (i : S2048x8x64.Idx) : val_main_v8 (F := Ideal) x0 i = ((hd x0 x1 x2 (i 1)).q (i 0) (i 2) : EReal) := by
  rw [val_main_v8_apply, val_main_v1_apply, val_main_v0_apply]
  have h0 : (i 0).val < 2048 := (i 0).isLt
  have h1 : (i 1).val < 8 := (i 1).isLt
  have h2 : (i 2).val < 64 := (i 2).isLt
  refine H.q _ _ _ _ ?_ ?_
  · show (((i 0).val * 8 + (i 1).val) * 64 + (i 2).val) / 512 = (i 0).val; omega
  · show (((i 0).val * 8 + (i 1).val) * 64 + (i 2).val) % 512 = 64 * (i 1).val + (i 2).val; omega

theorem v9 (i : S2048x8x64.Idx) : val_main_v9 (F := Ideal) x0 i = ((hd x0 x1 x2 (i 1)).k (i 0) (i 2) : EReal) := by
  rw [val_main_v9_apply, val_main_v3_apply, val_main_v2_apply]
  have h0 : (i 0).val < 2048 := (i 0).isLt
  have h1 : (i 1).val < 8 := (i 1).isLt
  have h2 : (i 2).val < 64 := (i 2).isLt
  refine H.k _ _ _ _ ?_ ?_
  · show (((i 0).val * 8 + (i 1).val) * 64 + (i 2).val) / 512 = (i 0).val; omega
  · show 512 + (((i 0).val * 8 + (i 1).val) * 64 + (i 2).val) % 512 = 512 + (64 * (i 1).val + (i 2).val); omega

theorem v56 (i : S2048x8x64.Idx) : val_main_v56 (F := Ideal) x0 i = ((hd x0 x1 x2 (i 1)).v (i 0) (i 2) : EReal) := by
  rw [val_main_v56_apply, val_main_v5_apply, val_main_v4_apply]
  have h0 : (i 0).val < 2048 := (i 0).isLt
  have h1 : (i 1).val < 8 := (i 1).isLt
  have h2 : (i 2).val < 64 := (i 2).isLt
  refine H.v _ _ _ _ ?_ ?_
  · show (((i 0).val * 8 + (i 1).val) * 64 + (i 2).val) / 512 = (i 0).val; omega
  · show 1024 + (((i 0).val * 8 + (i 1).val) * 64 + (i 2).val) % 512 = 1024 + (64 * (i 1).val + (i 2).val); omega

theorem v61 (i : S8x64x2048.Idx) : val_main_v61 (F := Ideal) x2 i = ((hd x0 x1 x2 (i 0)).g (i 2) (i 1) : EReal) := by
  rw [val_main_v61_apply, val_main_v60_apply]
  have h0 : (i 0).val < 8 := (i 0).isLt
  have h1 : (i 1).val < 64 := (i 1).isLt
  have h2 : (i 2).val < 2048 := (i 2).isLt
  refine H.g _ _ _ _ ?_ ?_
  · show (((i 2).val * 8 + (i 0).val) * 64 + (i 1).val) / 512 = (i 2).val; omega
  · show (((i 2).val * 8 + (i 0).val) * 64 + (i 1).val) % 512 = 64 * (i 0).val + (i 1).val; omega

theorem v15 (i : S8x2048x2048.Idx) : val_main_v15 (F := Ideal) x1 i = ((hd x0 x1 x2 (i 0)).c (i 1) : EReal) := by
  rw [val_main_v15_apply, val_main_v14_apply, val_main_v13_apply, val_main_v6_apply]
  exact H.c _ _ _ rfl rfl

theorem v19 (i : S8x2048x2048.Idx) : val_main_v19 (F := Ideal) x1 i = ((hd x0 x1 x2 (i 0)).c (i 2) : EReal) := by
  rw [val_main_v19_apply, val_main_v18_apply, val_main_v17_apply, val_main_v6_apply]
  exact H.c _ _ _ rfl rfl

theorem v20 (i : S8x2048x2048.Idx) : val_main_v20 (F := Ideal) x0 x1 i = ((hd x0 x1 x2 (i 0)).l (i 1) (i 2) : EReal) := by
  rw [val_main_v20_apply, val_main_v16_apply, val_main_v12_apply, v15 H, v19 H, val_main_v10_apply, val_main_v11_apply,
    val_main_cst_apply]
  rw [Finset.sum_congr rfl fun k _ => (congrArg₂ (· * ·) (v8 H _) (v9 H _)).trans (EReal.coe_mul _ _).symm, ← coe_sum]
  show ((_ : EReal) * Ideal.ofBits .f32 0x3E000000#32 + _) - _ = _
  rw [eighth, ← EReal.coe_mul, ← EReal.coe_add, ← EReal.coe_sub]
  rfl

end Stages

/-- The mask lets a query see its own key and those behind it. -/
theorem v27_1 (i : S8x2048x2048.Idx) : val_main_v27_1 (F := Ideal) i = BitVec.ofBool (decide ((i 2).val ≤ (i 1).val)) := by
  rw [val_main_v27_1_apply, val_main_v26_apply, val_main_v25_apply, val_main_v23_apply, val_main_v21_apply,
    val_main_v24_apply, val_main_v22_apply, val_main_v7_apply, val_main_v7_apply]
  have h1 : (i 1).val < 2048 := (i 1).isLt
  have h2 : (i 2).val < 2048 := (i 2).isLt
  show IntOp.cmpi .sge (BitVec.ofNat 32 (i 1).val) (BitVec.ofNat 32 (i 2).val) = _
  rw [WordCmp.cmpi_sge_eq]
  congr 1
  have e : ∀ n : Nat, n < 2048 → (BitVec.ofNat 32 n).toInt = n := fun n hn => by
    rw [BitVec.toInt_eq_toNat_cond, BitVec.toNat_ofNat]
    have : n % 2 ^ 32 = n := Nat.mod_eq_of_lt (by omega)
    rw [this, if_pos (by omega)]
  rw [e _ h1, e _ h2]
  simp only [Nat.cast_le]

section Stages
include H

/-- The masked logits: minus infinity ahead of the query. -/
theorem v27_0 (i : S8x2048x2048.Idx) : val_main_v27_0 (F := Ideal) x0 x1 i
    = if (i 2).val ≤ (i 1).val then ((hd x0 x1 x2 (i 0)).l (i 1) (i 2) : EReal) else ⊥ := by
  rw [val_main_v27_0_apply, v27_1, v20 H, val_main_call0_v2_apply, val_main_call0_v0_apply, val_main_cst_0_apply, WordCmp.select_ofBool]
  by_cases h : (i 2).val ≤ (i 1).val
  · rw [if_pos h, if_pos (decide_eq_true h)]
  · rw [if_neg h, if_neg (by rw [decide_eq_false h]; exact Bool.false_ne_true)]; exact neg_inf

/-- The greatest of a row's masked logits is a real. -/
theorem v28 (j : S8x2048.Idx) : ∃ m : ℝ, val_main_v28 (F := Ideal) x0 x1 j = (m : EReal) := by
  unfold val_main_v28
  have hr : S8x2048x2048.Reduces [2] S8x2048 := by decide
  rw [Host.reduce_eq_fold_single (FloatOps.maximumf (F := Ideal) (φ := .f32)) _ _ _ hr]
  have hv : ∀ k : Fin 2048, (val_main_v27_0 (F := Ideal) x0 x1 ∘ hr.lift j) k
      = if k.val ≤ (j 1).val then ((hd x0 x1 x2 (j 0)).l (j 1) k : EReal) else ⊥ := fun k => v27_0 H (hr.lift j k)
  have e : (Finset.univ : Finset (Fin 2048)).fold max (⊥ : EReal) (val_main_v27_0 (F := Ideal) x0 x1 ∘ hr.lift j)
      = (((Finset.univ : Finset (Fin 2048)).fold max (⊥ : EReal) (val_main_v27_0 (F := Ideal) x0 x1 ∘ hr.lift j)).toReal : EReal) := by
    refine (EReal.coe_toReal ?_ ?_).symm
    · refine ne_of_lt ((Finset.fold_max_lt _).mpr ⟨bot_lt_top, fun k _ => ?_⟩)
      rw [hv k]; split_ifs
      · exact EReal.coe_lt_top _
      · exact bot_lt_top
    · refine ne_of_gt ((Finset.lt_fold_max _).mpr (Or.inr ⟨j 1, Finset.mem_univ _, ?_⟩))
      rw [hv (j 1), if_pos (le_refl _)]; exact EReal.bot_lt_coe _
  refine ⟨_, Eq.trans ?_ e⟩
  show Finset.fold max (Ideal.ofBits .f32 0xFF800000#32) _ _ = _
  rw [neg_inf]
  rfl

/-- So is the softmax's shift, the greater of it and minus infinity. -/
theorem v35 (j : S8x2048.Idx) : ∃ m : ℝ, val_main_v35 (F := Ideal) x0 x1 j = (m : EReal) := by
  obtain ⟨m, hm⟩ := v28 H j
  refine ⟨m, ?_⟩
  rw [val_main_v35_apply, val_main_v34_apply, val_main_cst_3_apply, hm]
  show max (Ideal.ofBits .f32 0xFF800000#32) (m : EReal) = _
  rw [neg_inf, max_eq_right bot_le]

/-- The softmax's shift for query `t` of head `h`. -/
def shift (_ : Reals x0 x1 x2) (h : Fin 8) (t : Fin 2048) : ℝ := (val_main_v35 (F := Ideal) x0 x1 (ix2 h t)).toReal

theorem v46 (i : S8x2048x2048.Idx) : val_main_v46 (F := Ideal) x0 x1 i = (shift H (i 0) (i 1) : EReal) := by
  rw [val_main_v46_apply, val_main_v45_apply]
  have e : idx_main_v45 (idx_main_v46 i) = ix2 (i 0) (i 1) := eq_ix2 _
  obtain ⟨m, hm⟩ := v35 H (ix2 (i 0) (i 1))
  rw [e]
  show _ = ((val_main_v35 (F := Ideal) x0 x1 (ix2 (i 0) (i 1))).toReal : EReal)
  rw [hm, EReal.toReal_coe]
  exact hm

/-- The exponential of the shifted logits. -/
theorem v48 (i : S8x2048x2048.Idx) :
    val_main_v48 (F := Ideal) x0 x1 i = ((hd x0 x1 x2 (i 0)).e (shift H (i 0) (i 1)) (i 1) (i 2) : EReal) := by
  rw [val_main_v48_apply, val_main_v47_apply, v27_0 H, v46 H]
  show Ideal.exp ((if (i 2).val ≤ (i 1).val then _ else ⊥) - _) = ((if (i 2).val ≤ (i 1).val then _ else _ : ℝ) : EReal)
  split_ifs
  · rw [← EReal.coe_sub, Ideal.exp_coe]
  · rw [EReal.bot_sub, Ideal.exp_bot]; rfl

/-- Its sum over a row. -/
theorem v50 (i : S8x2048x1.Idx) :
    val_main_v50 (F := Ideal) x0 x1 i = ((hd x0 x1 x2 (i 0)).z (shift H (i 0) (i 1)) (i 1) : EReal) := by
  rw [val_main_v50_apply, val_main_v49_apply, val_main_cst_9_apply]
  rw [Finset.sum_congr rfl fun k _ => v48 H _]
  show Ideal.ofBits .f32 0x00000000#32 + _ = _
  rw [Ideal.ofBits_zero_f32, zero_add]
  exact (coe_sum _ _).symm

/-- The weights. -/
theorem v52 (i : S8x2048x2048.Idx) : val_main_v52 (F := Ideal) x0 x1 i = ((hd x0 x1 x2 (i 0)).p (i 1) (i 2) : EReal) := by
  rw [val_main_v52_apply, val_main_v51_apply, v48 H, v50 H]
  refine (Ideal.div_coe ((hd x0 x1 x2 (i 0)).z_pos (shift H (i 0) (i 1)) (i 1)).ne' _).trans ?_
  rw [← EReal.coe_mul, mul_one_div]
  exact congrArg _ (Head.e_div_z (hd x0 x1 x2 (i 0)) (shift H (i 0) (i 1)) (i 1) (i 2))

/-- The forward pass' output. -/
theorem v57 (i : S8x64x2048.Idx) : val_main_v57 (F := Ideal) x0 x1 i = ((hd x0 x1 x2 (i 0)).o (i 2) (i 1) : EReal) := by
  rw [val_main_v57_apply]
  rw [Finset.sum_congr rfl fun k _ => (congrArg₂ (· * ·) (v56 H _) (v52 H _)).trans (EReal.coe_mul _ _).symm, ← coe_sum]
  refine congrArg _ (Finset.sum_congr rfl fun k _ => mul_comm _ _)

theorem v59 (i : S2048x512.Idx) (h : Fin 8) (d : Fin 64) (e : (i 1).val = 64 * h.val + d.val) :
    val_main_v59 (F := Ideal) x0 x1 i = ((hd x0 x1 x2 h).o (i 0) d : EReal) := by
  rw [val_main_v59_apply, val_main_v58_apply, v57 H]
  have h0 : (i 0).val < 2048 := (i 0).isLt
  have e0 : idx_main_v58 (idx_main_v59 i) 0 = h := Fin.ext (by
    show ((i 0).val * 512 + (i 1).val) / 64 % 8 = h.val; omega)
  have e1 : idx_main_v58 (idx_main_v59 i) 1 = d := Fin.ext (by
    show ((i 0).val * 512 + (i 1).val) % 64 = d.val; omega)
  have e2 : idx_main_v58 (idx_main_v59 i) 2 = i 0 := Fin.ext (by
    show ((i 0).val * 512 + (i 1).val) / 512 = (i 0).val; omega)
  rw [e0, e1, e2]

/-- The weights' cotangent. -/
theorem v62 (i : S8x2048x2048.Idx) : val_main_v62 (F := Ideal) x0 x2 i = ((hd x0 x1 x2 (i 0)).dp (i 1) (i 2) : EReal) := by
  rw [val_main_v62_apply]
  rw [Finset.sum_congr rfl fun k _ => (congrArg₂ (· * ·) (v61 H _) (v56 H _)).trans (EReal.coe_mul _ _).symm, ← coe_sum]
  rfl

/-- One over the square of the row's sum. -/
theorem v55 (i : S8x2048x1.Idx) : val_main_v55 (F := Ideal) x0 x1 i
    = ((1 / ((hd x0 x1 x2 (i 0)).z (shift H (i 0) (i 1)) (i 1) * (hd x0 x1 x2 (i 0)).z (shift H (i 0) (i 1)) (i 1)) : ℝ) : EReal) := by
  rw [val_main_v55_apply, val_main_v54_apply, val_main_v53_apply, v50 H, val_main_cst_10_apply]
  have hz := (hd x0 x1 x2 (i 0)).z_pos (shift H (i 0) (i 1)) (i 1)
  show Ideal.div (Ideal.ofBits .f32 0x3F800000#32) (_ * _) = _
  rw [Ideal.ofBits_one_f32, ← EReal.coe_mul, Ideal.div_coe (mul_pos hz hz).ne', one_mul]

theorem v68 (i : S8x2048x2048.Idx) : val_main_v68 (F := Ideal) x0 x1 x2 i
    = (((hd x0 x1 x2 (i 0)).dp (i 1) (i 2)
      * (1 / ((hd x0 x1 x2 (i 0)).z (shift H (i 0) (i 1)) (i 1) * (hd x0 x1 x2 (i 0)).z (shift H (i 0) (i 1)) (i 1)))
      * (hd x0 x1 x2 (i 0)).e (shift H (i 0) (i 1)) (i 1) (i 2) : ℝ) : EReal) := by
  rw [val_main_v68_apply, val_main_v67_apply, v62 H, val_main_v66_apply, v55 H, v48 H, EReal.coe_mul, EReal.coe_mul]
  rfl

/-- The row term of the derivative, with its sign. -/
theorem v71 (i : S8x2048x1.Idx) : val_main_v71 (F := Ideal) x0 x1 x2 i
    = ((-(∑ s, (hd x0 x1 x2 (i 0)).dp (i 1) s
      * (1 / ((hd x0 x1 x2 (i 0)).z (shift H (i 0) (i 1)) (i 1) * (hd x0 x1 x2 (i 0)).z (shift H (i 0) (i 1)) (i 1)))
      * (hd x0 x1 x2 (i 0)).e (shift H (i 0) (i 1)) (i 1) s) : ℝ) : EReal) := by
  rw [val_main_v71_apply, val_main_v70_apply, val_main_v69_apply, val_main_cst_11_apply]
  rw [Finset.sum_congr rfl fun k _ => v68 H _, ← coe_sum]
  have h0 : (i 0).val < 8 := (i 0).isLt
  have h1 : (i 1).val < 2048 := (i 1).isLt
  have h2 : (i 2).val < 1 := (i 2).isLt
  have e0 : idx_main_v70 i 0 = i 0 := Fin.ext (by
    show (((i 0).val * 2048 + (i 1).val) * 1 + (i 2).val) / 2048 = (i 0).val; omega)
  have e1 : idx_main_v70 i 1 = i 1 := Fin.ext (by
    show (((i 0).val * 2048 + (i 1).val) * 1 + (i 2).val) % 2048 = (i 1).val; omega)
  show -(Ideal.ofBits .f32 0x00000000#32 + ((∑ s : Fin 2048, (hd x0 x1 x2 (idx_main_v70 i 0)).dp (idx_main_v70 i 1) s
      * (1 / ((hd x0 x1 x2 (idx_main_v70 i 0)).z (shift H (idx_main_v70 i 0) (idx_main_v70 i 1)) (idx_main_v70 i 1)
        * (hd x0 x1 x2 (idx_main_v70 i 0)).z (shift H (idx_main_v70 i 0) (idx_main_v70 i 1)) (idx_main_v70 i 1)))
      * (hd x0 x1 x2 (idx_main_v70 i 0)).e (shift H (idx_main_v70 i 0) (idx_main_v70 i 1)) (idx_main_v70 i 1) s : ℝ) : EReal)) = _
  rw [e0, e1, Ideal.ofBits_zero_f32, zero_add, ← EReal.coe_neg]

/-- The logits' cotangent. -/
theorem v77 (i : S8x2048x2048.Idx) : val_main_v77 (F := Ideal) x0 x1 x2 i = ((hd x0 x1 x2 (i 0)).ds (i 1) (i 2) : EReal) := by
  rw [val_main_v77_apply, val_main_v76_apply, val_main_v73_apply, v62 H, val_main_v72_apply, v50 H, val_main_v75_apply,
    val_main_v74_apply, val_main_cst_12_apply, Fin.sum_univ_one, v71 H, v48 H]
  exact ds_ereal (hd x0 x1 x2 (i 0)) (shift H (i 0) (i 1)) (i 1) (i 2)

theorem v78 (i : S8x2048x2048.Idx) : val_main_v78 (F := Ideal) x0 x1 x2 i = ((hd x0 x1 x2 (i 0)).ds (i 1) (i 2) : EReal) := by
  rw [val_main_v78_apply, v27_1, v77 H, val_main_call1_v0_apply, val_main_call1_cst_apply, WordCmp.select_ofBool]
  by_cases h : (i 2).val ≤ (i 1).val
  · rw [if_pos (decide_eq_true h)]
  · rw [if_neg (by rw [decide_eq_false h]; exact Bool.false_ne_true), Head.ds_ahead _ h]
    exact Ideal.ofBits_zero_f32

theorem v89 (i : S8x2048x2048.Idx) :
    val_main_v89 (F := Ideal) x0 x1 x2 i = (((hd x0 x1 x2 (i 0)).ds (i 1) (i 2) * (1 / 8) : ℝ) : EReal) := by
  rw [val_main_v89_apply, v78 H, val_main_v88_apply, val_main_cst_17_apply]
  show (_ : EReal) * Ideal.ofBits .f32 0x3E000000#32 = _
  rw [eighth, ← EReal.coe_mul]

/-! ### The five results -/

/-- The queries' gradient. -/
theorem dq (i : S2048x512.Idx) (h : Fin 8) (d : Fin 64) (e : (i 1).val = 64 * h.val + d.val) :
    val_main_v96 (F := Ideal) x0 x1 x2 i = ((hd x0 x1 x2 h).dq (i 0) d : EReal) := by
  rw [val_main_v96_apply, val_main_v95_apply, val_main_v93_apply, val_main_v92_apply]
  rw [Finset.sum_congr rfl fun k _ => (congrArg₂ (· * ·) (v89 H _) (v9 H _)).trans (EReal.coe_mul _ _).symm, ← coe_sum]
  have h0 : (i 0).val < 2048 := (i 0).isLt
  have e0 : idx_main_v93 (idx_main_v95 i) 0 = h := Fin.ext (by
    show ((i 0).val * 512 + (i 1).val) / 64 % 8 = h.val; omega)
  have e1 : idx_main_v93 (idx_main_v95 i) 1 = i 0 := Fin.ext (by
    show ((i 0).val * 512 + (i 1).val) / 512 = (i 0).val; omega)
  have e2 : idx_main_v93 (idx_main_v95 i) 2 = d := Fin.ext (by
    show ((i 0).val * 512 + (i 1).val) % 64 = d.val; omega)
  show ((∑ k : Fin 2048, (hd x0 x1 x2 (idx_main_v93 (idx_main_v95 i) 0)).ds (idx_main_v93 (idx_main_v95 i) 1) k * (1 / 8)
    * (hd x0 x1 x2 (idx_main_v93 (idx_main_v95 i) 0)).k k (idx_main_v93 (idx_main_v95 i) 2) : ℝ) : EReal) = _
  rw [e0, e1, e2]
  exact congrArg _ (Head.dq_sum _ _ _)

/-- The keys' gradient. -/
theorem dk (i : S2048x512.Idx) (h : Fin 8) (d : Fin 64) (e : (i 1).val = 64 * h.val + d.val) :
    val_main_v97 (F := Ideal) x0 x1 x2 i = ((hd x0 x1 x2 h).dk (i 0) d : EReal) := by
  rw [val_main_v97_apply, val_main_v94_apply, val_main_v91_apply, val_main_v90_apply]
  rw [Finset.sum_congr rfl fun k _ => (congrArg₂ (· * ·) (v89 H _) (v8 H _)).trans (EReal.coe_mul _ _).symm, ← coe_sum]
  have h0 : (i 0).val < 2048 := (i 0).isLt
  have e0 : idx_main_v91 (idx_main_v94 i) 0 = h := Fin.ext (by
    show ((i 0).val * 512 + (i 1).val) / 64 % 8 = h.val; omega)
  have e1 : idx_main_v91 (idx_main_v94 i) 1 = i 0 := Fin.ext (by
    show ((i 0).val * 512 + (i 1).val) / 512 = (i 0).val; omega)
  have e2 : idx_main_v91 (idx_main_v94 i) 2 = d := Fin.ext (by
    show ((i 0).val * 512 + (i 1).val) % 64 = d.val; omega)
  show ((∑ k : Fin 2048, (hd x0 x1 x2 (idx_main_v91 (idx_main_v94 i) 0)).ds k (idx_main_v91 (idx_main_v94 i) 1) * (1 / 8)
    * (hd x0 x1 x2 (idx_main_v91 (idx_main_v94 i) 0)).q k (idx_main_v91 (idx_main_v94 i) 2) : ℝ) : EReal) = _
  rw [e0, e1, e2]
  exact congrArg _ (Head.dk_sum _ _ _)

/-- The values' gradient. -/
theorem dv (i : S2048x512.Idx) (h : Fin 8) (d : Fin 64) (e : (i 1).val = 64 * h.val + d.val) :
    val_main_v98 (F := Ideal) x0 x1 x2 i = ((hd x0 x1 x2 h).dv (i 0) d : EReal) := by
  rw [val_main_v98_apply, val_main_v65_apply, val_main_v64_apply, val_main_v63_apply]
  rw [Finset.sum_congr rfl fun k _ => (congrArg₂ (· * ·) (v61 H _) (v52 H _)).trans (EReal.coe_mul _ _).symm, ← coe_sum]
  have h0 : (i 0).val < 2048 := (i 0).isLt
  have e0 : idx_main_v64 (idx_main_v65 i) 0 = h := Fin.ext (by
    show ((i 0).val * 512 + (i 1).val) / 64 % 8 = h.val; omega)
  have e1 : idx_main_v64 (idx_main_v65 i) 2 = i 0 := Fin.ext (by
    show ((i 0).val * 512 + (i 1).val) / 512 = (i 0).val; omega)
  have e2 : idx_main_v64 (idx_main_v65 i) 1 = d := Fin.ext (by
    show ((i 0).val * 512 + (i 1).val) % 64 = d.val; omega)
  show ((∑ k : Fin 2048, (hd x0 x1 x2 (idx_main_v64 (idx_main_v65 i) 0)).g k (idx_main_v64 (idx_main_v65 i) 1)
    * (hd x0 x1 x2 (idx_main_v64 (idx_main_v65 i) 0)).p k (idx_main_v64 (idx_main_v65 i) 2) : ℝ) : EReal) = _
  rw [e0, e1, e2]
  rfl

theorem v80 (i : S8x2048.Idx) : val_main_v80 (F := Ideal) x0 x1 x2 i = ((hd x0 x1 x2 (i 0)).dct (i 1) : EReal) := by
  rw [val_main_v80_apply, val_main_cst_13_apply]
  rw [Finset.sum_congr rfl fun k _ => (val_main_v79_apply (F := Ideal) x0 x1 x2 (idx_main_v80 i k)).trans
    ((congrArg Neg.neg (v78 H _)).trans (EReal.coe_neg _).symm), ← coe_sum]
  show Ideal.ofBits .f32 0x00000000#32 + _ = _
  rw [Ideal.ofBits_zero_f32, zero_add]
  show ((∑ t : Fin 2048, -(hd x0 x1 x2 (i 0)).ds t (i 1) : ℝ) : EReal) = _
  exact congrArg _ (Head.dct_sum (hd x0 x1 x2 (i 0)) (i 1))

/-- The gradient of the forget sums on the key side. -/
theorem dct (i : S4x2x2048.Idx) (h : Fin 8) (e : h.val = 2 * (i 0).val + (i 1).val) :
    val_main_v100 (F := Ideal) x0 x1 x2 i = ((hd x0 x1 x2 h).dct (i 2) : EReal) := by
  rw [val_main_v100_apply, val_main_v99_apply, val_main_v83_apply, val_main_v82_apply, val_main_cst_14_apply,
    Fin.sum_univ_one, val_main_v81_apply, v80 H]
  have h0 : (i 0).val < 4 := (i 0).isLt
  have h1 : (i 1).val < 2 := (i 1).isLt
  have h2 : (i 2).val < 2048 := (i 2).isLt
  show Ideal.ofBits .f32 0x00000000#32 + _ = _
  rw [Ideal.ofBits_zero_f32, zero_add]
  have e0 : ∀ j, (j 0).val = (((i 0).val * 2 + (i 1).val) * 2048 + (i 2).val) / 2048 →
      (j 1).val = (((i 0).val * 2 + (i 1).val) * 2048 + (i 2).val) % 2048 →
      idx_main_v81 (idx_main_v82 j 0) = ix2 h (i 2) := fun j a b => by
    refine (eq_ix2 _).trans ?_
    have a0 : idx_main_v81 (idx_main_v82 j 0) 0 = h := Fin.ext (by
      show (((j 0).val * 1 + 0) * 2048 + (j 1).val) / 2048 = h.val; omega)
    have a1 : idx_main_v81 (idx_main_v82 j 0) 1 = i 2 := Fin.ext (by
      show (((j 0).val * 1 + 0) * 2048 + (j 1).val) % 2048 = (i 2).val; omega)
    rw [a0, a1]; rfl
  rw [e0 _ rfl rfl]

theorem v84 (i : S8x2048.Idx) : val_main_v84 (F := Ideal) x0 x1 x2 i = ((hd x0 x1 x2 (i 0)).dcq (i 1) : EReal) := by
  rw [val_main_v84_apply, val_main_cst_15_apply, Finset.sum_congr rfl fun k _ => v78 H _, ← coe_sum]
  show Ideal.ofBits .f32 0x00000000#32 + _ = _
  rw [Ideal.ofBits_zero_f32, zero_add]
  rfl

theorem v102 (i : S4x2048x2.Idx) (h : Fin 8) (e : h.val = 2 * (i 0).val + (i 2).val) :
    val_main_v102 (F := Ideal) x0 x1 x2 i = ((hd x0 x1 x2 h).dcq (i 1) : EReal) := by
  rw [val_main_v102_apply, val_main_v101_apply, val_main_v87_apply, val_main_v86_apply, val_main_cst_16_apply,
    Fin.sum_univ_one, val_main_v85_apply, v84 H]
  have h0 : (i 0).val < 4 := (i 0).isLt
  have h1 : (i 1).val < 2048 := (i 1).isLt
  have h2 : (i 2).val < 2 := (i 2).isLt
  show Ideal.ofBits .f32 0x00000000#32 + _ = _
  rw [Ideal.ofBits_zero_f32, zero_add]
  have e0 : ∀ j, (j 0).val = (((i 1).val * 4 + (i 0).val) * 2 + (i 2).val) % 8 →
      (j 1).val = (((i 1).val * 4 + (i 0).val) * 2 + (i 2).val) / 8 →
      idx_main_v85 (idx_main_v86 j 0) = ix2 h (i 1) := fun j a b => by
    have a' : (j 0).val = h.val := by omega
    have b' : (j 1).val = (i 1).val := by omega
    refine (eq_ix2 _).trans ?_
    have a0 : idx_main_v85 (idx_main_v86 j 0) 0 = h := Fin.ext (by
      show (((j 0).val * 2048 + (j 1).val) * 1 + 0) / 2048 = h.val; omega)
    have a1 : idx_main_v85 (idx_main_v86 j 0) 1 = i 1 := Fin.ext (by
      show (((j 0).val * 2048 + (j 1).val) * 1 + 0) % 2048 = (i 1).val; omega)
    rw [a0, a1]; rfl
  rw [e0 _ rfl rfl]

/-- The gradient of the forget sums on the query side: the pair's two heads at lanes 0 and 1, and zero at the others. -/
theorem dcq (i : S4x2048x128.Idx) (g : Fin 2 → Fin 8) (e : ∀ a, (g a).val = 2 * (i 0).val + a.val) :
    val_main_v103 (F := Ideal) x0 x1 x2 i = if (i 2).val = 0 then ((hd x0 x1 x2 (g 0)).dcq (i 1) : EReal)
      else if (i 2).val = 1 then ((hd x0 x1 x2 (g 1)).dcq (i 1) : EReal) else 0 := by
  have hin : ∀ a : Fin 2, (i 2).val = a.val → val_main_v103 (F := Ideal) x0 x1 x2 i = ((hd x0 x1 x2 (g a)).dcq (i 1) : EReal) :=
    fun a ha => by
      unfold val_main_v103
      refine (pad_apply_of_inside _ _ _ _ _ _ _ _ (ix3 (i 0) (i 1) a) (fun d => match d with
        | ⟨0, _⟩ => by show (i 0).val = 0 + (i 0).val * 1; omega
        | ⟨1, _⟩ => by show (i 1).val = 0 + (i 1).val * 1; omega
        | ⟨2, _⟩ => by show (i 2).val = 0 + a.val * 1; omega)).trans ?_
      exact v102 H _ _ (e a)
  by_cases h0 : (i 2).val = 0
  · rw [if_pos h0, hin 0 h0]
  by_cases h1 : (i 2).val = 1
  · rw [if_neg h0, if_pos h1, hin 1 h1]
  rw [if_neg h0, if_neg h1]
  unfold val_main_v103
  refine (pad_apply_of_not_inside _ _ _ _ _ _ _ _ (2 : Fin 3) (fun hh => by
    have := hh.2.2
    have : ((i 2).val - 0) / (0 + 1) < 2 := this
    omega)).trans ?_
  rw [val_main_call2_v0_apply, val_main_c_apply]
  show ((((0#32 : BitVec 32).toInt : ℤ) : ℝ) : EReal) = 0
  simp

end Stages

end Cert.ReferenceIdeal.Fox

end
-- ==== Proof.Lanes.lean ====
/-
  THE LANES: a block row has 128 lanes, 64 of each head of the pair. What the program selects by the lane, as reals: one
  head's queries and cotangents with zeros for the other's, the averages of the cotangent, the decay of a head, and the two
  stores that put the heads' results together again.
-/
module

public import proofs.«01_k».proof.Proof.Diag
public import proofs.«01_k».proof.Proof.RefValue

@[expose] public section

noncomputable section

namespace Cert.KernelIdeal.Fox

open Cert.KernelIdeal Cert.KernelIdeal.Gen Idealize.ShloMosaic Idealize.ShloMosaic.ValueIdx
open _root_.Fox
open scoped BigOperators

/-- The first head's lanes. -/
theorem lo_eq : k0_pay38 = fun j : S512x128.Idx => BitVec.ofBool (decide ((j 1).val < 64)) := by
  funext j
  have h1 : (j 1).val < 128 := (j 1).isLt
  have e1 := iota_single_apply .tc S512x128 32 1 iota_S512x128_d1_w32 j
  show IntOp.cmpi .slt (iota .tc S512x128 32 [1] iota_S512x128_d1_w32 j) (64#32) = _
  rw [e1, WordCmp.cmpi_slt_eq]
  congr 1
  have e : (BitVec.ofNat 32 (j 1).val).toInt = (j 1).val := by
    rw [BitVec.toInt_eq_toNat_cond, BitVec.toNat_ofNat]
    have : (j 1).val % 2 ^ 32 = (j 1).val := Nat.mod_eq_of_lt (by omega)
    rw [this, if_pos (by omega)]
  rw [e]
  have e64 : (64#32).toInt = 64 := by decide
  rw [e64]
  have : ((j 1).val : ℤ) < 64 ↔ (j 1).val < 64 := by omega
  simp only [this]

/-- The second head's. -/
theorem hi_eq : xori k0_pay38 (constantI S512x128 1 1#1) = fun j : S512x128.Idx => BitVec.ofBool (decide (¬ (j 1).val < 64)) := by
  rw [lo_eq]
  funext j
  show BitVec.ofBool (decide ((j 1).val < 64)) ^^^ 1#1 = _
  by_cases h : (j 1).val < 64
  · rw [decide_eq_true h, decide_eq_false (not_not_intro h)]; rfl
  · rw [decide_eq_false h, decide_eq_true h]; rfl

/-- One head's lanes of a matrix, the other's zero. -/
def half (a : Fin 2) (f : Fin 512 → Fin 128 → ℝ) (r : Fin 512) (l : Fin 128) : ℝ := if l.val / 64 = a.val then f r l else 0

theorem sel_lo (f : Fin 512 → Fin 128 → ℝ) :
    select k0_pay38 (R2 f) (broadcast S512x128 (Scalar.ofBits (F := Ideal) .f32 0x00000000#32)) = R2 (half 0 f) := by
  refine (congrArg (select k0_pay38 (R2 f)) (R2_zero (m := 512) (n := 128))).trans ?_
  rw [lo_eq]
  funext j
  show Scalar.select (BitVec.ofBool (decide ((j 1).val < 64))) (R2 f j) ((0 : ℝ) : EReal) = ((half 0 f (j 0) (j 1) : ℝ) : EReal)
  rw [WordCmp.select_ofBool]
  have hl : (j 1).val < 128 := (j 1).isLt
  unfold half
  by_cases h : (j 1).val < 64
  · rw [if_pos (decide_eq_true h)]
    exact congrArg (fun x : ℝ => (x : EReal)) (if_pos (show (j 1).val / 64 = 0 by omega)).symm
  · rw [if_neg (by rw [decide_eq_false h]; exact Bool.false_ne_true)]
    exact congrArg (fun x : ℝ => (x : EReal)) (if_neg (show ¬ (j 1).val / 64 = 0 by omega)).symm

theorem sel_hi (f : Fin 512 → Fin 128 → ℝ) :
    select (xori k0_pay38 (constantI S512x128 1 1#1)) (R2 f) (broadcast S512x128 (Scalar.ofBits (F := Ideal) .f32 0x00000000#32)) = R2 (half 1 f) := by
  refine (congrArg (select (xori k0_pay38 (constantI S512x128 1 1#1)) (R2 f)) (R2_zero (m := 512) (n := 128))).trans ?_
  rw [hi_eq]
  funext j
  show Scalar.select (BitVec.ofBool (decide (¬ (j 1).val < 64))) (R2 f j) ((0 : ℝ) : EReal) = ((half 1 f (j 0) (j 1) : ℝ) : EReal)
  rw [WordCmp.select_ofBool]
  have hl : (j 1).val < 128 := (j 1).isLt
  unfold half
  by_cases h : (j 1).val < 64
  · rw [if_neg (by rw [decide_eq_false (not_not_intro h)]; exact Bool.false_ne_true)]
    exact congrArg (fun x : ℝ => (x : EReal)) (if_neg (show ¬ (j 1).val / 64 = 1 by omega)).symm
  · rw [if_pos (decide_eq_true h)]
    exact congrArg (fun x : ℝ => (x : EReal)) (if_pos (show (j 1).val / 64 = 1 by omega)).symm

/-- A matrix times an eighth. -/
theorem R2_eighth (f : Fin 512 → Fin 128 → ℝ) :
    mulf (F := Ideal) (φ := .f32) (R2 f) (broadcast S512x128 (Scalar.ofBits (F := Ideal) .f32 0x3E000000#32)) = R2 fun r l => f r l * (1 / 8) := by
  funext j
  show ((f (j 0) (j 1) : ℝ) : EReal) * Ideal.ofBits .f32 0x3E000000#32 = _
  rw [Cert.ReferenceIdeal.Fox.eighth]
  exact (EReal.coe_mul _ _).symm

/-- Each row's sum over the lanes, as a column, of any row. -/
theorem lane_sum (f : S512x128.Idx → EReal) (hφ) (hacc) (j : S512x1.Idx) :
    shapeCast S512x1 (multiReduction (F := Ideal) (φ := .f32) .add [1] S512 f 0x00000000#32 reduces_S512x128_S512 hφ hacc) shapeCasts_S512_S512x1 j
    = ∑ l : Fin 128, f (ix2 (j 0) l) := by
  refine (shapeCast_apply _ _ j (ix1 (j 0)) ?_).trans ?_
  · rw [Shape.rowMajor_val_one, Shape.rowMajor_val_two]
    have h1 : (j 1).val < 1 := (j 1).isLt
    show (j 0).val = (j 0).val * 1 + (j 1).val
    omega
  · refine (Ideal.multiReduction_add_single _ _ reduces_S512x128_S512 hφ hacc _).trans ?_
    refine Finset.sum_congr rfl fun l _ => congrArg f ?_
    funext a; match a with | ⟨0, _⟩ => exact rfl | ⟨1, _⟩ => exact rfl

theorem row_sum128 (f : Fin 512 → Fin 128 → ℝ) (hφ) (hacc) :
    shapeCast S512x1 (multiReduction (F := Ideal) (φ := .f32) .add [1] S512 (R2 f) 0x00000000#32 reduces_S512x128_S512 hφ hacc) shapeCasts_S512_S512x1
    = col fun r => ∑ l, f r l := by
  funext j
  refine (lane_sum _ _ _ j).trans ?_
  exact (coe_sum _ _).symm

/-- The lane of head `2 h + a`, as the program compares it. -/
theorem lane_word (h : Fin 4) (a : Fin 2) : ∀ l : Fin 128,
    IntOp.cmpi .eq (BitVec.ofNat 32 l.val) (2#32 * BitVec.ofNat 32 h.val + BitVec.ofNat 32 a.val) = BitVec.ofBool (decide (l.val = 2 * h.val + a.val)) := by
  revert h a; decide +kernel

/-- The lane of head `2 h + a`. -/
def lane (h : Fin 4) (a : Fin 2) : Fin 128 := ⟨2 * h.val + a.val, by omega⟩

/-- What is in one lane, picked out by a sum over the lanes. -/
theorem pick (h : Fin 4) (a : Fin 2) (x : S512x128.Idx → EReal) (f : Fin 512 → ℝ) (hx : ∀ r, x (ix2 r (lane h a)) = (f r : EReal)) (hφ) (hacc) :
    shapeCast S512x1 (multiReduction (F := Ideal) (φ := .f32) .add [1] S512
      (select (cmpi .eq (iota .tc S512x128 32 [1] iota_S512x128_d1_w32)
        (broadcast S512x128 (2#32 * BitVec.ofNat 32 h.val + BitVec.ofNat 32 a.val))) x (broadcast S512x128 (Scalar.ofBits (F := Ideal) .f32 0x00000000#32)))
      0x00000000#32 reduces_S512x128_S512 hφ hacc) shapeCasts_S512_S512x1 = col f := by
  funext j
  refine (lane_sum _ _ _ j).trans ?_
  refine Eq.trans (Finset.sum_congr rfl (g := fun l : Fin 128 => if l = lane h a then x (ix2 (j 0) l) else 0) fun l _ => ?_) ?_
  · have e1 := iota_single_apply .tc S512x128 32 1 iota_S512x128_d1_w32 (ix2 (j 0) l)
    show Scalar.select (IntOp.cmpi .eq (iota .tc S512x128 32 [1] iota_S512x128_d1_w32 (ix2 (j 0) l)) (2#32 * BitVec.ofNat 32 h.val + BitVec.ofNat 32 a.val))
      (x (ix2 (j 0) l)) (Ideal.ofBits .f32 0x00000000#32) = _
    rw [e1]
    refine (congrArg (fun w => Scalar.select w (x (ix2 (j 0) l)) (Ideal.ofBits .f32 0x00000000#32)) (lane_word h a l)).trans ?_
    rw [WordCmp.select_ofBool, Ideal.ofBits_zero_f32]
    by_cases hl : l = lane h a
    · rw [if_pos hl, if_pos (decide_eq_true (show l.val = 2 * h.val + a.val by rw [hl]; rfl))]
    · rw [if_neg hl, if_neg]
      intro hh
      exact hl (Fin.ext (of_decide_eq_true hh))
  · rw [Finset.sum_ite_eq' Finset.univ (lane h a), if_pos (Finset.mem_univ _)]
    exact hx (j 0)

/-- A block of queries from its rows of the queries, the outputs and their cotangent, all lanes. -/
def Blk.of (q g o : Fin 512 → Fin 128 → ℝ) (K V : Fin 2048 → Fin 128 → ℝ) (ct : Fin 2 → Fin 2048 → ℝ) (cq la : Fin 2 → Fin 512 → ℝ) : Blk where
  Q a := half a fun r l => q r l * (1 / 8)
  G a := half a g
  cq := cq
  la := la
  de a r := ∑ l, half a (fun r l => g r l * o r l) r l
  K := K
  V := V
  ct := ct

/-- The program's operands, from the blocks it reads. -/
theorem operands (h : Fin 4) (q g o : Fin 512 → Fin 128 → ℝ) (K V : Fin 2048 → Fin 128 → ℝ) (ct : Fin 2 → Fin 2048 → ℝ) (cq la : Fin 2 → Fin 512 → ℝ)
    (x3 : S512x128.Idx → EReal) (hc : ∀ a r, x3 (ix2 r (lane h a)) = (cq a r : EReal)) :
    Opnds (Blk.of q g o K V ct cq la) (k0_pay41 (F := Ideal) (R2 q)) (k0_pay42 (F := Ideal) (R2 q)) (k0_pay43 (F := Ideal) (R2 g)) (k0_pay44 (F := Ideal) (R2 g))
      (k0_pay45 (F := Ideal) (R2 g) (R2 o)) (k0_pay46 (F := Ideal) k0_pay38 (k0_pay40 (F := Ideal) (R2 g) (R2 o)))
      (k0_pay47 (F := Ideal) (BitVec.ofNat 32 h.val) x3) (k0_pay48 (F := Ideal) (BitVec.ofNat 32 h.val) x3)
      (k0_pay49 (F := Ideal) (col (la 0))) (k0_pay50 (F := Ideal) (col (la 1))) := by
  have e40 : k0_pay40 (F := Ideal) (R2 g) (R2 o) = R2 fun r l => g r l * o r l := by
    unfold k0_pay40
    dsimp only
    rw [cast_self]
    exact R2_mul .f32 _ _
  refine ⟨?_, ?_, ?_, ?_, ?_, ?_, ?_, ?_, ?_, ?_⟩
  · exact (congrArg (fun z => select k0_pay38 z (broadcast S512x128 (Scalar.ofBits (F := Ideal) .f32 0x00000000#32))) (R2_eighth q)).trans (sel_lo _)
  · exact (congrArg (fun z => select (xori k0_pay38 (constantI S512x128 1 1#1)) z (broadcast S512x128 (Scalar.ofBits (F := Ideal) .f32 0x00000000#32))) (R2_eighth q)).trans (sel_hi _)
  · exact sel_lo g
  · exact sel_hi g
  · unfold k0_pay45
    rw [e40]
    refine (congrArg (fun z => shapeCast S512x1 (multiReduction (F := Ideal) (φ := .f32) .add [1] S512 z 0x00000000#32 reduces_S512x128_S512 (.inl rfl) rfl)
      shapeCasts_S512_S512x1) (sel_lo _)).trans (row_sum128 _ _ _)
  · rw [e40]
    refine (congrArg (fun z => shapeCast S512x1 (multiReduction (F := Ideal) (φ := .f32) .add [1] S512 z 0x00000000#32 reduces_S512x128_S512 (.inl rfl) rfl)
      shapeCasts_S512_S512x1) (sel_hi _)).trans (row_sum128 _ _ _)
  · exact pick h 0 x3 (cq 0) (hc 0) _ _
  · exact pick h 1 x3 (cq 1) (hc 1) _ _
  · exact cast_self _ _
  · exact cast_self _ _

/-- The queries' gradients as stored: each head's in its lanes, scaled. -/
theorem put_dq (A B : Fin 512 → Fin 128 → ℝ) : k0_pay77 (F := Ideal) k0_pay38 (R2 A) (R2 B)
    = R2 fun r l => (if l.val < 64 then A r l else B r l) * (1 / 8) := by
  have e : select k0_pay38 (R2 A) (R2 B) = R2 fun r l => if l.val < 64 then A r l else B r l := by
    rw [lo_eq]
    funext j
    show Scalar.select (BitVec.ofBool (decide ((j 1).val < 64))) (R2 A j) (R2 B j) = _
    rw [WordCmp.select_ofBool]
    by_cases h : (j 1).val < 64
    · rw [if_pos (decide_eq_true h)]
      exact congrArg (fun x : ℝ => (x : EReal)) (if_pos h).symm
    · rw [if_neg (by rw [decide_eq_false h]; exact Bool.false_ne_true)]
      exact congrArg (fun x : ℝ => (x : EReal)) (if_neg h).symm
  exact (congrArg (fun z => mulf (F := Ideal) (φ := .f32) z (broadcast S512x128 (Scalar.ofBits (F := Ideal) .f32 0x3E000000#32))) e).trans (R2_eighth _)

/-- The queries' decays' gradients as stored: the two heads' in the first two lanes. -/
theorem put_dcq (u v : S512x1.Idx → EReal) (w : S512.Idx → EReal) (s t : Fin 512 → ℝ) (hv : v = col s)
    (hu : addf (F := Ideal) (φ := .f32) u (shapeCast S512x1 w shapeCasts_S512_S512x1) = col t) :
    k0_pay76 (F := Ideal) u v w = fun j : S1x512x128.Idx => ((if (j 2).val = 0 then s (j 1) else if (j 2).val = 1 then t (j 1) else 0 : ℝ) : EReal) := by
  subst hv
  unfold k0_pay76
  dsimp only
  rw [hu, cast_self, cast_self, bcast_col128, bcast_col128]
  funext j
  refine (shapeCast_apply _ _ j (ix2 (j 1) (j 2)) ?_).trans ?_
  · rw [Shape.rowMajor_val_three, Shape.rowMajor_val_two]
    have h0 : (j 0).val < 1 := (j 0).isLt
    show (j 1).val * 128 + (j 2).val = ((j 0).val * 512 + (j 1).val) * 128 + (j 2).val
    omega
  · have e1 := iota_single_apply .tc S512x128 32 1 iota_S512x128_d1_w32 (ix2 (j 1) (j 2))
    show Scalar.select (IntOp.cmpi .eq (iota .tc S512x128 32 [1] iota_S512x128_d1_w32 (ix2 (j 1) (j 2))) 0#32) ((s (j 1) : ℝ) : EReal)
      (Scalar.select (IntOp.cmpi .eq (iota .tc S512x128 32 [1] iota_S512x128_d1_w32 (ix2 (j 1) (j 2))) 1#32) ((t (j 1) : ℝ) : EReal)
        (Ideal.ofBits .f32 0x00000000#32)) = _
    rw [e1]
    have w0 : IntOp.cmpi .eq (BitVec.ofNat 32 (j 2).val) 0#32 = BitVec.ofBool (decide ((j 2).val = 0)) := lane_word 0 0 (j 2)
    have w1 : IntOp.cmpi .eq (BitVec.ofNat 32 (j 2).val) 1#32 = BitVec.ofBool (decide ((j 2).val = 1)) := lane_word 0 1 (j 2)
    refine (congrArg₂ (fun w w' => Scalar.select w ((s (j 1) : ℝ) : EReal) (Scalar.select w' ((t (j 1) : ℝ) : EReal) (Ideal.ofBits .f32 0x00000000#32))) w0 w1).trans ?_
    rw [WordCmp.select_ofBool, WordCmp.select_ofBool, Ideal.ofBits_zero_f32]
    by_cases h0 : (j 2).val = 0
    · rw [if_pos (decide_eq_true h0), if_pos h0]
    · rw [if_neg (by rw [decide_eq_false h0]; exact Bool.false_ne_true), if_neg h0]
      by_cases h1 : (j 2).val = 1
      · rw [if_pos (decide_eq_true h1), if_pos h1]
      · rw [if_neg (by rw [decide_eq_false h1]; exact Bool.false_ne_true), if_neg h1]
        exact EReal.coe_zero.symm

end Cert.KernelIdeal.Fox

end
-- ==== Proof.Point.lean ====
/-
  A POINT, in parts: the loads of whole blocks, the stores of whole blocks, and the end of the body, after the loop over the
  blocks of keys behind the queries' own.
-/
module

public import proofs.«01_k».proof.Proof.Lanes
public import proofs.«01_k».proof.Proof.Loop
public import Idealize.ShloMosaic.Lib.WholeRead

@[expose] public section

noncomputable section

namespace Cert.KernelIdeal.Fox

open Cert.KernelIdeal Cert.KernelIdeal.Gen Idealize.ShloMosaic Idealize.ShloMosaic.ValueIdx
open _root_.Fox
open scoped BigOperators

/-- A load of a whole array reads it. -/
theorem load_whole {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) :
    View.readAt (Elt Ideal) v (Rect.unit (s := S) off S.size inb).toLoadRect f = v.read (Elt Ideal) f := by
  funext x
  show v.read (Elt Ideal) f ((Rect.unit (s := S) off S.size inb).toLoadRect.idx x) = v.read (Elt Ideal) f x
  refine congrArg (v.read (Elt Ideal) f) (funext fun a => Fin.ext ?_)
  show off a + 1 * (x a).val = (x a).val
  rw [h0 a]; omega

/-- A store of a whole array leaves it. -/
theorem store_whole {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) (w : S.Idx → Elt Ideal e) (L : List (View.Piece (Elt Ideal) S e)) :
    v.read (Elt Ideal) (v.writes (Elt Ideal) f (⟨Rect.unit (s := S) off S.size inb, w⟩ :: L)) = w := by
  funext x
  exact View.read_writes_cons_unit_of_mem v f inb w L x x rfl fun a => by rw [h0 a, Nat.zero_add]

/-- All offsets of a store at the start are zero. -/
theorem zero_off2 : ∀ a : Fin 2, (![0, 0] : Fin 2 → ℕ) a = 0 := by decide
/-- The same for three axes. -/
theorem zero_off3 : ∀ a : Fin 3, (![0, 0, 0] : Fin 3 → ℕ) a = 0 := by decide

/-- A load of one column of the softmax's normalisers. -/
theorem load_la {κ₀ : Kind} {sp₀ : Space} (v : View sig κ₀ sp₀ S512x256 .f32) (f : v.ty.Contents (Elt Ideal)) (p : Fin 512 → ℝ) (l : Fin 256)
    (h : ∀ r, v.read (Elt Ideal) f (ix2 r l) = (p r : EReal)) {off : Fin 2 → ℕ} (ho : off = ![0, l.val]) (inb) :
    View.readAt (Elt Ideal) v (Rect.unit (s := S512x256) off S512x1.size inb).toLoadRect f = col p := by
  subst ho
  funext x
  refine Eq.trans ?_ (h (x 0))
  refine congrArg (v.read (Elt Ideal) f) (funext fun a => Fin.ext ?_)
  match a with
  | ⟨0, _⟩ => show 0 + 1 * (x 0).val = (x 0).val; omega
  | ⟨1, _⟩ => have h1 : (x 1).val < 1 := (x 1).isLt; show l.val + 1 * (x 1).val = l.val; omega

/-- What a point is given, as reals: a block of 512 queries with their output, cotangent, decays and normalisers, and all keys,
    values and keys' decays of the two heads. -/
structure Rows where
  (q g o : Fin 512 → Fin 128 → ℝ)
  (K V : Fin 2048 → Fin 128 → ℝ)
  ct : Fin 2 → Fin 2048 → ℝ
  (cq la : Fin 2 → Fin 512 → ℝ)

/-- The block of queries a point treats. -/
def Rows.blk (w : Rows) : Blk := Blk.of w.q w.g w.o w.K w.V w.ct w.cq w.la

/-- The blocks a point reads are the reals `w`. -/
structure Ins (h : Fin 4) (w : Rows) (x0 : S512x128.Idx → EReal) (x1 x2 : S2048x128.Idx → EReal) (x3 : S512x128.Idx → EReal) (x4 : S1x2x2048.Idx → EReal)
    (x5 : S512x128.Idx → EReal) (x6 : S512x256.Idx → EReal) (x7 : S512x128.Idx → EReal) : Prop where
  e0 : x0 = R2 w.q
  e1 : x1 = R2 w.K
  e2 : x2 = R2 w.V
  e3 : ∀ a r, x3 (ix2 r (lane h a)) = (w.cq a r : EReal)
  e4 : x4 = R3 w.ct
  e5 : x5 = R2 w.o
  e6 : ∀ (a : Fin 2) r, x6 (ix2 r ⟨128 * a.val, by omega⟩) = (w.la a r : EReal)
  e7 : x7 = R2 w.g

/-- What a point leaves: the queries' gradients, the keys' decays' gradients so far, the queries' decays' gradients, and the keys' and
    values' gradients so far. -/
structure Ends (x : Acc) (o8 : S512x128.Idx → EReal) (o11 : S1x2x2048.Idx → EReal) (o12 : S1x512x128.Idx → EReal) (s0 s1 : S128x2048.Idx → EReal) : Prop where
  dq : o8 = R2 fun r l => (if l.val < 64 then x.A 0 r l else x.A 1 r l) * (1 / 8)
  ct : o11 = R3 x.d
  cq : o12 = fun j : S1x512x128.Idx => ((if (j 2).val = 0 then x.s 0 (j 1) else if (j 2).val = 1 then x.s 1 (j 1) else 0 : ℝ) : EReal)
  dk : s0 = R2 x.M
  dv : s1 = R2 x.N

/-- Nothing accumulated for the queries yet. -/
structure Acc.Fresh (x : Acc) : Prop where
  A : ∀ a, x.A a = fun _ _ => 0
  s : ∀ a, x.s a = fun _ => 0

/-- The queries' accumulators start at zero. -/
theorem start (x : Acc) (hx : x.Fresh) : ((k0_pay51 (F := Ideal), k0_pay52 (F := Ideal), k0_pay51 (F := Ideal), k0_pay52 (F := Ideal)) :
    (S512x128.Idx → EReal) × (S512x1.Idx → EReal) × (S512x128.Idx → EReal) × (S512x1.Idx → EReal)) = (R2 (x.A 0), col (x.s 0), R2 (x.A 1), col (x.s 1)) := by
  have e1 : k0_pay51 (F := Ideal) = R2 fun _ _ => 0 := funext fun j => Ideal.ofBits_zero_f32.trans EReal.coe_zero.symm
  have e2 : k0_pay52 (F := Ideal) = col fun _ => 0 := funext fun j => Ideal.ofBits_zero_f32.trans EReal.coe_zero.symm
  rw [hx.A 0, hx.A 1, hx.s 0, hx.s 1, e1, e2]

/-- Four equations from one. -/
theorem parts {α β : Type} {a a' : α} {b b' : β} {c c' : α} {d d' : β} (h : (a, b, c, d) = (a', b', c', d')) : a = a' ∧ b = b' ∧ c = c' ∧ d = d' :=
  ⟨congrArg (fun p => p.1) h, congrArg (fun p => p.2.1) h, congrArg (fun p => p.2.2.1) h, congrArg (fun p => p.2.2.2) h⟩

/-- The keys' gradients are stored turned. -/
theorem turn_dk (M : Fin 128 → Fin 2048 → ℝ) (x : S128x2048.Idx → EReal) (h : x = R2 M) : k0_pay1 (F := Ideal) x = R2 fun s l => M l s := by
  subst h
  funext j
  exact transpose_apply [1, 0] (R2 M) transposes_S128x2048_p1_0_S2048x128 j (ix2 (j 1) (j 0)) fun b => match b with
    | ⟨0, _⟩ => rfl
    | ⟨1, _⟩ => rfl

/-- The values' too. -/
theorem turn_dv (M : Fin 128 → Fin 2048 → ℝ) (x : S128x2048.Idx → EReal) (h : x = R2 M) : k0_pay2 (F := Ideal) x = R2 fun s l => M l s := turn_dk M x h

/-- The keys' and values' gradients start at zero. -/
theorem zero_dk : k0_pay35 (F := Ideal) = R2 fun _ _ => 0 := by
  unfold k0_pay35
  dsimp only
  rw [cast_self]
  exact funext fun j => Ideal.ofBits_zero_f32.trans EReal.coe_zero.symm

/-- The values' too. -/
theorem zero_dv : k0_pay36 (F := Ideal) = R2 fun _ _ => 0 := zero_dk

/-- The keys' decays' gradients start at zero. -/
theorem zero_ct : k0_pay37 (F := Ideal) = R3 fun _ _ => 0 :=
  funext fun j => Ideal.ofBits_zero_f32.trans EReal.coe_zero.symm

section
variable (𝒱 : Variants) (c : Dev nD) (bd : Option 𝒱.V) (i : grid0.Coords)
  (arg2 : Memref sig .tc .vmem S512x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S512x128 .f32) (harg5 : arg5.IsWhole)
  (arg6 : Memref sig .tc .vmem S1x2x2048 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x2x2048 .f32) (harg13 : arg13.IsWhole)
  (arg14 : Memref sig .tc .vmem S1x512x128 .f32) (harg14 : arg14.IsWhole)
  (arg15 : Memref sig .tc .vmem S128x2048 .f32) (harg15 : arg15.IsWhole)
  (arg16 : Memref sig .tc .vmem S128x2048 .f32) (harg16 : arg16.IsWhole)
  (arg1 : BitVec 32) (v8 : IVec S512x512 1) (v19 v26 v29 v33 : FVec Ideal S512x128 .bf16) (v37 v42 v52 v62 v64 v66 : FVec Ideal S512x1 .f32)
  (v67 : FVec Ideal S512x128 .f32) (v68 : FVec Ideal S512x1 .f32) (c0_i32_33 v73 c1_i32_35 : BitVec 32)
  (X_arg3 : BufTy.Contents (Elt Ideal) arg3.view.ty) (X_arg4 : BufTy.Contents (Elt Ideal) arg4.view.ty) (X_arg6 : BufTy.Contents (Elt Ideal) arg6.view.ty)
  (f13 : BufTy.Contents (Elt Ideal) arg13.view.ty) (f15 : BufTy.Contents (Elt Ideal) arg15.view.ty) (f16 : BufTy.Contents (Elt Ideal) arg16.view.ty)

/-- The remainder loop leaves everything as it was. -/
theorem rest (init : (FVec Ideal S512x128 .f32 × FVec Ideal S512x1 .f32 × FVec Ideal S512x128 .f32 × FVec Ideal S512x1 .f32)) :
    st_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v19 v26 v29 v33 v37 v42 v52 v62 v64 v66 v67 v68 c0_i32_33 v73 c1_i32_35
      X_arg3 X_arg4 X_arg6 f13 f15 f16 init (k0_t2_loop i).trips = (init, [], [], []) := by
  rw [trips_rem]
  rfl
end

section
variable (i : grid0.Coords)
  (arg3 : Memref sig .tc .vmem S2048x128 .bf16) (arg4 : Memref sig .tc .vmem S2048x128 .bf16) (arg6 : Memref sig .tc .vmem S1x2x2048 .f32)
  (arg13 : Memref sig .tc .vmem S1x2x2048 .f32) (arg15 : Memref sig .tc .vmem S128x2048 .f32) (arg16 : Memref sig .tc .vmem S128x2048 .f32)
  (v19 v26 v29 v33 : FVec Ideal S512x128 .bf16) (v37 v42 v52 v62 v64 v66 : FVec Ideal S512x1 .f32)
  (X3 : BufTy.Contents (Elt Ideal) arg3.view.ty) (X4 : BufTy.Contents (Elt Ideal) arg4.view.ty) (X6 : BufTy.Contents (Elt Ideal) arg6.view.ty)
  (g13 : BufTy.Contents (Elt Ideal) arg13.view.ty) (g15 : BufTy.Contents (Elt Ideal) arg15.view.ty) (g16 : BufTy.Contents (Elt Ideal) arg16.view.ty)
  (L13 : List (View.Piece (Elt Ideal) S1x2x2048 .f32)) (L15 L16 : List (View.Piece (Elt Ideal) S128x2048 .f32))

/-- The end of the body, whatever the remainder loop is, as long as it leaves everything as it was. -/
theorem tail (T2 : (FVec Ideal S512x128 .f32 × FVec Ideal S512x1 .f32 × FVec Ideal S512x128 .f32 × FVec Ideal S512x1 .f32) × List (View.Piece (Elt Ideal) S1x2x2048 .f32) × List (View.Piece (Elt Ideal) S128x2048 .f32) × List (View.Piece (Elt Ideal) S128x2048 .f32))
    (acc : (FVec Ideal S512x128 .f32 × FVec Ideal S512x1 .f32 × FVec Ideal S512x128 .f32 × FVec Ideal S512x1 .f32)) (hT : T2 = (acc, [], [], [])) (b : Blk) (q : Fin 4) (hq : q.val = (i 1).val)
    (ho : Opnds b v19 v26 v29 v33 v37 v42 v52 v62 v64 v66)
    (h3 : arg3.view.read (Elt Ideal) X3 = R2 b.K) (h4 : arg4.view.read (Elt Ideal) X4 = R2 b.V) (h6 : arg6.view.read (Elt Ideal) X6 = R3 b.ct)
    (x : Acc) (n : ℕ) (hn : n = q.val) (hx : Holds acc (arg13.view.read (Elt Ideal) (arg13.view.writes (Elt Ideal) g13 L13))
      (arg15.view.read (Elt Ideal) (arg15.view.writes (Elt Ideal) g15 L15)) (arg16.view.read (Elt Ideal) (arg16.view.writes (Elt Ideal) g16 L16)) (x.upto b q n)) :
    Holds
      (k0_pay64 (F := Ideal) T2.1.1 (View.readAt (Elt Ideal) arg3.view (Rect.unit (s := S2048x128) (k0_off9 i) S512x128.size (k0_off9_inb i)).toLoadRect X3) (k0_pay59 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6)),
      k0_pay65 (F := Ideal) T2.1.2.1 (k0_pay58 (F := Ideal) k0_pay39 v19 v29 v37 v52 v64 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off10 i) S1x1x512.size (k0_off10_inb i)).toLoadRect X6)),
      k0_pay72 (F := Ideal) k0_pay39 v26 v33 v42 v62 v66 T2.1.2.2.1 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off11 i) S1x1x512.size (k0_off11_inb i)).toLoadRect X6),
      addf (F := Ideal) (φ := .f32) T2.1.2.2.2 (shapeCast S512x1 (k0_pay73 (F := Ideal) k0_pay39 v26 v33 v42 v62 v66 (View.readAt (Elt Ideal) arg3.view (Rect.unit (s := S2048x128) (k0_off9 i) S512x128.size (k0_off9_inb i)).toLoadRect X3) (View.readAt (Elt Ideal) arg4.view (Rect.unit (s := S2048x128) (k0_off9 i) S512x128.size (k0_off9_inb i)).toLoadRect X4) (View.readAt (Elt Ideal) arg6.view (Rect.unit (s := S1x2x2048) (k0_off11 i) S1x1x512.size (k0_off11_inb i)).toLoadRect X6)) shapeCasts_S512_S512x1))
      (arg13.view.read (Elt Ideal) (arg13.view.writes (Elt Ideal) g13 ((ct1 i arg3 arg4 arg6 arg13 v19 v26 v29 v33 v37 v42 v52 v62 v64 v66 X3 X4 X6 g13 (T2.2.1 ++ L13)) ::
        (ct0 i arg3 arg4 arg6 arg13 v19 v29 v37 v52 v64 X3 X4 X6 g13 (T2.2.1 ++ L13)) :: (T2.2.1 ++ L13))))
      (arg15.view.read (Elt Ideal) (arg15.view.writes (Elt Ideal) g15 ((dk0 i arg3 arg4 arg6 arg15 v19 v26 v29 v33 v37 v42 v52 v62 v64 v66 X3 X4 X6 g15 (T2.2.2.1 ++ L15)) :: (T2.2.2.1 ++ L15))))
      (arg16.view.read (Elt Ideal) (arg16.view.writes (Elt Ideal) g16 ((dv0 i arg3 arg6 arg16 v19 v26 v29 v33 v52 v62 v64 v66 X3 X6 g16 (T2.2.2.2 ++ L16)) :: (T2.2.2.2 ++ L16))))
      (x.upto b q (q.val + 1)) := by
  subst hT hn
  have e : x.upto b q (q.val + 1) = (x.upto b q q.val).step b (b.P q) (b.D q) q := by
    show (if h : q.val < 4 then _ else _) = _
    rw [dif_pos q.isLt]
  rw [e]
  exact diag i arg3 arg4 arg6 arg13 arg15 arg16 v19 v26 v29 v33 v37 v42 v52 v62 v64 v66 X3 X4 X6 g13 g15 g16 L13 L15 L16 b q hq acc ho h3 h4 h6 _ hx
end

section
variable (i : grid0.Coords)
  (arg2 : Memref sig .tc .vmem S512x128 .bf16) (harg2 : arg2.IsWhole) (arg5 : Memref sig .tc .vmem S512x128 .f32) (harg5 : arg5.IsWhole)
  (arg7 : Memref sig .tc .vmem S512x128 .f32) (harg7 : arg7.IsWhole) (arg8 : Memref sig .tc .vmem S512x256 .f32) (harg8 : arg8.IsWhole)
  (arg9 : Memref sig .tc .vmem S512x128 .f32) (harg9 : arg9.IsWhole)

/-- A load of a whole block reads what is in it. -/
theorem load_at {S : Shape} {e : EltTy} (m : Memref sig .tc .vmem S e) (hm : m.IsWhole) (X : S.Idx → Elt Ideal e) {off : Fin S.rank → ℕ} (h0 : ∀ a, off a = 0) (inb) :
    View.readAt (Elt Ideal) m.view (Rect.unit (s := S) off S.size inb).toLoadRect (hm.unread X) = X :=
  (load_whole m.view _ h0 inb).trans (hm.read_unread X)

/-- The program's operands, from the blocks it loads. -/
theorem operands_at (w : Rows) (x0 : S512x128.Idx → EReal) (x1 x2 : S2048x128.Idx → EReal) (x3 : S512x128.Idx → EReal) (x4 : S1x2x2048.Idx → EReal)
    (x5 : S512x128.Idx → EReal) (x6 : S512x256.Idx → EReal) (x7 : S512x128.Idx → EReal) (h : Ins (i 0) w x0 x1 x2 x3 x4 x5 x6 x7) (i2 i5 i7 i8 i8' i9) :
    Opnds w.blk
      (k0_pay41 (F := Ideal) (View.readAt (Elt Ideal) arg2.view (Rect.unit (s := S512x128) ![0, 0] S512x128.size i2).toLoadRect (harg2.unread x0)))
      (k0_pay42 (F := Ideal) (View.readAt (Elt Ideal) arg2.view (Rect.unit (s := S512x128) ![0, 0] S512x128.size i2).toLoadRect (harg2.unread x0)))
      (k0_pay43 (F := Ideal) (View.readAt (Elt Ideal) arg9.view (Rect.unit (s := S512x128) ![0, 0] S512x128.size i9).toLoadRect (harg9.unread x7)))
      (k0_pay44 (F := Ideal) (View.readAt (Elt Ideal) arg9.view (Rect.unit (s := S512x128) ![0, 0] S512x128.size i9).toLoadRect (harg9.unread x7)))
      (k0_pay45 (F := Ideal) (View.readAt (Elt Ideal) arg9.view (Rect.unit (s := S512x128) ![0, 0] S512x128.size i9).toLoadRect (harg9.unread x7))
        (View.readAt (Elt Ideal) arg7.view (Rect.unit (s := S512x128) ![0, 0] S512x128.size i7).toLoadRect (harg7.unread x5)))
      (k0_pay46 (F := Ideal) k0_pay38 (k0_pay40 (F := Ideal) (View.readAt (Elt Ideal) arg9.view (Rect.unit (s := S512x128) ![0, 0] S512x128.size i9).toLoadRect (harg9.unread x7))
        (View.readAt (Elt Ideal) arg7.view (Rect.unit (s := S512x128) ![0, 0] S512x128.size i7).toLoadRect (harg7.unread x5))))
      (k0_pay47 (F := Ideal) (BitVec.ofNat 32 (i 0).val) (View.readAt (Elt Ideal) arg5.view (Rect.unit (s := S512x128) ![0, 0] S512x128.size i5).toLoadRect (harg5.unread x3)))
      (k0_pay48 (F := Ideal) (BitVec.ofNat 32 (i 0).val) (View.readAt (Elt Ideal) arg5.view (Rect.unit (s := S512x128) ![0, 0] S512x128.size i5).toLoadRect (harg5.unread x3)))
      (k0_pay49 (F := Ideal) (View.readAt (Elt Ideal) arg8.view (Rect.unit (s := S512x256) ![0, 0] S512x1.size i8).toLoadRect (harg8.unread x6)))
      (k0_pay50 (F := Ideal) (View.readAt (Elt Ideal) arg8.view (Rect.unit (s := S512x256) ![0, 128] S512x1.size i8').toLoadRect (harg8.unread x6))) := by
  have l0 : View.readAt (Elt Ideal) arg8.view (Rect.unit (s := S512x256) ![0, 0] S512x1.size i8).toLoadRect (harg8.unread x6) = col (w.la 0) :=
    load_la arg8.view _ (w.la 0) 0 (fun r => by refine (congrFun (harg8.read_unread (Val := Elt Ideal) x6) _).trans ?_; exact h.e6 0 r) rfl i8
  have l1 : View.readAt (Elt Ideal) arg8.view (Rect.unit (s := S512x256) ![0, 128] S512x1.size i8').toLoadRect (harg8.unread x6) = col (w.la 1) :=
    load_la arg8.view _ (w.la 1) 128 (fun r => by refine (congrFun (harg8.read_unread (Val := Elt Ideal) x6) _).trans ?_; exact h.e6 1 r) rfl i8'
  rw [load_at arg2 harg2 x0 zero_off2 i2, load_at arg9 harg9 x7 zero_off2 i9, load_at arg7 harg7 x5 zero_off2 i7, load_at arg5 harg5 x3 zero_off2 i5, l0, l1,
    h.e0, h.e5, h.e7]
  exact operands (i 0) w.q w.g w.o w.K w.V w.ct w.cq w.la x3 h.e3
end

end Cert.KernelIdeal.Fox

end
-- ==== Proof.Sums.lean ====
/-
  THE SUMS over the blocks of keys, and over the blocks of queries: what one pair of heads' points leave is the gradients of the
  two heads.
-/
module

public import proofs.«01_k».proof.Proof.Point

@[expose] public section

noncomputable section

namespace Cert.KernelIdeal.Fox

open Cert.KernelIdeal Cert.KernelIdeal.Gen Idealize.ShloMosaic Idealize.ShloMosaic.ValueIdx
open _root_.Fox
open scoped BigOperators

/-- A sum over the positions, block by block. -/
theorem sum_pos (f : Fin 2048 → ℝ) : ∑ s, f s = ∑ n, ∑ r, f (pos n r) := by
  rw [← Equiv.sum_comp (finProdFinEquiv (m := 4) (n := 512)) f, Fintype.sum_prod_type]
  refine Finset.sum_congr rfl fun n _ => Finset.sum_congr rfl fun r _ => congrArg f (Fin.ext ?_)
  show r.val + 512 * n.val = 512 * n.val + r.val
  omega

/-- The positions of block `n` alone. -/
theorem sum_block (f : Fin 2048 → ℝ) (n : Fin 4) : (∑ s : Fin 2048, if s.val / 512 = n.val then f s else 0) = ∑ r, f (pos n r) := by
  rw [sum_pos, Finset.sum_eq_single n]
  · exact Finset.sum_congr rfl fun r _ => if_pos (pos_div n r)
  · intro m _ hm
    exact Finset.sum_eq_zero fun r _ => if_neg fun h => hm (Fin.ext (by rw [pos_div] at h; exact h))
  · exact fun h => absurd (Finset.mem_univ n) h

/-- The positions up to block `n`, and that block. -/
theorem sum_next (f : Fin 2048 → ℝ) (n : Fin 4) : (∑ s : Fin 2048, if s.val < 512 * (n.val + 1) then f s else 0)
    = (∑ s : Fin 2048, if s.val < 512 * n.val then f s else 0) + ∑ r, f (pos n r) := by
  rw [← sum_block f n, ← Finset.sum_add_distrib]
  refine Finset.sum_congr rfl fun s _ => ?_
  by_cases h1 : s.val < 512 * n.val
  · rw [if_pos h1, if_pos (by omega), if_neg (by omega), add_zero]
  · by_cases h2 : s.val / 512 = n.val
    · rw [if_neg h1, if_pos h2, if_pos (by omega), zero_add]
    · rw [if_neg h1, if_neg h2, if_neg (by omega), add_zero]

/-- A value taken once block `n` is reached. -/
theorem ite_next (s : Fin 2048) (n : Fin 4) (x v : ℝ) : (if s.val / 512 = n.val then (x + if s.val < 512 * n.val then v else 0) + v else x + if s.val < 512 * n.val then v else 0)
    = x + if s.val < 512 * (n.val + 1) then v else 0 := by
  by_cases h2 : s.val / 512 = n.val
  · rw [if_pos h2, if_neg (by omega), if_pos (by omega), add_zero]
  · by_cases h1 : s.val < 512 * n.val
    · rw [if_neg h2, if_pos h1, if_pos (by omega)]
    · rw [if_neg h2, if_neg h1, if_neg (by omega)]

/-- What the accumulators hold after the first `n` blocks of keys. -/
theorem upto_eq (b : Blk) (q : Fin 4) (x : Acc) : ∀ n : ℕ, n ≤ 4 →
    (∀ a r l, (x.upto b q n).A a r l = x.A a r l + ∑ s : Fin 2048, if s.val < 512 * n then b.D q a r s * b.K s l else 0)
    ∧ (∀ a r, (x.upto b q n).s a r = x.s a r + ∑ s : Fin 2048, if s.val < 512 * n then b.D q a r s else 0)
    ∧ (∀ a s, (x.upto b q n).d a s = x.d a s + if s.val < 512 * n then -∑ r, b.D q a r s else 0)
    ∧ (∀ l s, (x.upto b q n).M l s = x.M l s + if s.val < 512 * n then (∑ r, b.Q 0 r l * b.D q 0 r s) + ∑ r, b.Q 1 r l * b.D q 1 r s else 0)
    ∧ (∀ l s, (x.upto b q n).N l s = x.N l s + if s.val < 512 * n then (∑ r, b.G 0 r l * b.P q 0 r s) + ∑ r, b.G 1 r l * b.P q 1 r s else 0) := by
  intro n
  induction n with
  | zero =>
    intro _
    refine ⟨fun a r l => ?_, fun a r => ?_, fun a s => ?_, fun l s => ?_, fun l s => ?_⟩
    · exact (add_eq_left.2 (Finset.sum_eq_zero fun s _ => if_neg (by omega))).symm
    · exact (add_eq_left.2 (Finset.sum_eq_zero fun s _ => if_neg (by omega))).symm
    · exact (add_eq_left.2 (if_neg (by omega))).symm
    · exact (add_eq_left.2 (if_neg (by omega))).symm
    · exact (add_eq_left.2 (if_neg (by omega))).symm
  | succ n ih =>
    intro hn
    obtain ⟨hA, hs, hd, hM, hN⟩ := ih (Nat.le_of_succ_le hn)
    have e : x.upto b q (n + 1) = (x.upto b q n).step b (b.P q) (b.D q) ⟨n, hn⟩ := by
      exact dif_pos (show n < 4 from hn)
    rw [e]
    refine ⟨fun a r l => ?_, fun a r => ?_, fun a s => ?_, fun l s => ?_, fun l s => ?_⟩
    · show (x.upto b q n).A a r l + _ = _
      rw [hA, add_assoc]
      exact congrArg (x.A a r l + ·) (sum_next (fun s => b.D q a r s * b.K s l) ⟨n, hn⟩).symm
    · show (x.upto b q n).s a r + _ = _
      rw [hs, add_assoc]
      exact congrArg (x.s a r + ·) (sum_next (fun s => b.D q a r s) ⟨n, hn⟩).symm
    · show (if s.val / 512 = n then (x.upto b q n).d a s - _ else (x.upto b q n).d a s) = _
      rw [hd, sub_eq_add_neg]
      exact ite_next s ⟨n, hn⟩ _ _
    · show (if s.val / 512 = n then (x.upto b q n).M l s + _ else (x.upto b q n).M l s) = _
      rw [hM]
      exact ite_next s ⟨n, hn⟩ _ _
    · show (if s.val / 512 = n then (x.upto b q n).N l s + _ else (x.upto b q n).N l s) = _
      rw [hN]
      exact ite_next s ⟨n, hn⟩ _ _

/-- Nothing flows to the blocks of keys ahead of the queries' own. -/
theorem P_ahead (b : Blk) (q : Fin 4) (a : Fin 2) (r : Fin 512) (s : Fin 2048) (h : ¬ s.val < 512 * (q.val + 1)) : b.P q a r s = 0 :=
  if_neg (by have := r.isLt; omega)

theorem D_ahead (b : Blk) (q : Fin 4) (a : Fin 2) (r : Fin 512) (s : Fin 2048) (h : ¬ s.val < 512 * (q.val + 1)) : b.D q a r s = 0 := by
  rw [Blk.D, P_ahead b q a r s h, zero_mul]

/-- A guard that only leaves out zeros may go. -/
theorem ite_drop {p : Prop} [Decidable p] {v : ℝ} (h : ¬p → v = 0) : (if p then v else 0) = v := by
  by_cases hp : p
  · exact if_pos hp
  · rw [if_neg hp, h hp]

/-- What the accumulators hold once all blocks of keys up to the queries' own are in. -/
theorem upto_all (b : Blk) (q : Fin 4) (x : Acc) :
    (∀ a r l, (x.upto b q (q.val + 1)).A a r l = x.A a r l + ∑ s, b.D q a r s * b.K s l)
    ∧ (∀ a r, (x.upto b q (q.val + 1)).s a r = x.s a r + ∑ s, b.D q a r s)
    ∧ (∀ a s, (x.upto b q (q.val + 1)).d a s = x.d a s + -∑ r, b.D q a r s)
    ∧ (∀ l s, (x.upto b q (q.val + 1)).M l s = x.M l s + ((∑ r, b.Q 0 r l * b.D q 0 r s) + ∑ r, b.Q 1 r l * b.D q 1 r s))
    ∧ (∀ l s, (x.upto b q (q.val + 1)).N l s = x.N l s + ((∑ r, b.G 0 r l * b.P q 0 r s) + ∑ r, b.G 1 r l * b.P q 1 r s)) := by
  obtain ⟨hA, hs, hd, hM, hN⟩ := upto_eq b q x (q.val + 1) q.isLt
  refine ⟨fun a r l => ?_, fun a r => ?_, fun a s => ?_, fun l s => ?_, fun l s => ?_⟩
  · rw [hA]
    exact congrArg (x.A a r l + ·) (Finset.sum_congr rfl fun s _ => ite_drop fun h => by rw [D_ahead b q a r s h, zero_mul])
  · rw [hs]
    exact congrArg (x.s a r + ·) (Finset.sum_congr rfl fun s _ => ite_drop fun h => D_ahead b q a r s h)
  · rw [hd]
    exact congrArg (x.d a s + ·) (ite_drop fun h => by simp only [D_ahead b q _ _ s h, Finset.sum_const_zero, neg_zero])
  · rw [hM]
    exact congrArg (x.M l s + ·) (ite_drop fun h => by simp only [D_ahead b q _ _ s h, mul_zero, Finset.sum_const_zero, add_zero])
  · rw [hN]
    exact congrArg (x.N l s + ·) (ite_drop fun h => by simp only [P_ahead b q _ _ s h, mul_zero, Finset.sum_const_zero, add_zero])

/-! ### The two heads of a pair -/

/-- The head a lane belongs to. -/
def hl (l : Fin 128) : Fin 2 := ⟨l.val / 64, by omega⟩
/-- Its place among the head's lanes. -/
def dl (l : Fin 128) : Fin 64 := ⟨l.val % 64, by omega⟩
/-- Lane `d` of head `a`. -/
def ln (a : Fin 2) (d : Fin 64) : Fin 128 := ⟨64 * a.val + d.val, by omega⟩

theorem hl_ln (a : Fin 2) (d : Fin 64) : hl (ln a d) = a := Fin.ext (by show (64 * a.val + d.val) / 64 = a.val; omega)
theorem dl_ln (a : Fin 2) (d : Fin 64) : dl (ln a d) = d := Fin.ext (by show (64 * a.val + d.val) % 64 = d.val; omega)

/-- A sum over the lanes with all but one head's zero. -/
theorem sum_lanes (a : Fin 2) (f : Fin 128 → ℝ) : (∑ l : Fin 128, if l.val / 64 = a.val then f l else 0) = ∑ d, f (ln a d) := by
  rw [← Equiv.sum_comp (finProdFinEquiv (m := 2) (n := 64)) (fun l : Fin 128 => if l.val / 64 = a.val then f l else 0), Fintype.sum_prod_type, Finset.sum_eq_single a]
  · refine Finset.sum_congr rfl fun d _ => ?_
    have e : finProdFinEquiv (m := 2) (n := 64) (a, d) = ln a d := Fin.ext (by show d.val + 64 * a.val = 64 * a.val + d.val; omega)
    rw [e, if_pos (by show (64 * a.val + d.val) / 64 = a.val; omega)]
  · intro m _ hm
    refine Finset.sum_eq_zero fun d _ => if_neg fun h => hm (Fin.ext ?_)
    have h' : (d.val + 64 * m.val) / 64 = a.val := h
    omega
  · exact fun h => absurd (Finset.mem_univ a) h

/-- What a point reads for the pair of heads `H` at block `i` of queries. -/
def rowsOf (H : Fin 2 → Head) (i : Fin 4) : Rows where
  q r l := (H (hl l)).q (pos i r) (dl l)
  g r l := (H (hl l)).g (pos i r) (dl l)
  o r l := (H (hl l)).o (pos i r) (dl l)
  K s l := (H (hl l)).k s (dl l)
  V s l := (H (hl l)).v s (dl l)
  ct a s := (H a).c s
  cq a r := (H a).c (pos i r)
  la a r := (H a).lse (pos i r)

section
variable (H : Fin 2 → Head) (i : Fin 4)

/-- A masked sum over the lanes is a sum over one head's. -/
theorem half_sum (a : Fin 2) (f : Fin 512 → Fin 128 → ℝ) (r : Fin 512) (g : Fin 128 → ℝ) : ∑ l, half a f r l * g l = ∑ d, f r (ln a d) * g (ln a d) := by
  rw [← sum_lanes a fun l => f r l * g l]
  refine Finset.sum_congr rfl fun l _ => ?_
  rw [half, ite_mul, zero_mul]

/-- The weights of the block are the head's. -/
theorem P_rows (a : Fin 2) (r : Fin 512) (s : Fin 2048) : (rowsOf H i).blk.P i a r s = (H a).p (pos i r) s := by
  unfold Blk.P
  by_cases h : s.val ≤ 512 * i.val + r.val
  · rw [if_pos h, ← (H a).p_eq_exp (t := pos i r) (s := s) h]
    refine congrArg Real.exp ?_
    show (∑ l, half a (fun r l => (rowsOf H i).q r l * (1 / 8)) r l * (rowsOf H i).K s l) + ((H a).c (pos i r) - (H a).c s) - (H a).lse (pos i r) = _
    rw [half_sum, Head.l, Finset.sum_mul]
    have : (∑ d, (rowsOf H i).q r (ln a d) * (1 / 8) * (rowsOf H i).K s (ln a d)) = ∑ d, (H a).q (pos i r) d * (H a).k s d * (1 / 8) := by
      refine Finset.sum_congr rfl fun d _ => ?_
      show (H (hl (ln a d))).q (pos i r) (dl (ln a d)) * (1 / 8) * (H (hl (ln a d))).k s (dl (ln a d)) = _
      rw [hl_ln, dl_ln]; ring
    rw [this]; ring
  · rw [if_neg h]; exact ((H a).p_ahead h).symm

/-- The logits' cotangent of the block is the head's. -/
theorem D_rows (a : Fin 2) (r : Fin 512) (s : Fin 2048) : (rowsOf H i).blk.D i a r s = (H a).ds (pos i r) s := by
  rw [Blk.D, P_rows, Head.ds]
  refine congrArg ((H a).p (pos i r) s * ·) ?_
  show (∑ l, half a (rowsOf H i).g r l * (rowsOf H i).V s l) - (∑ l, half a (fun r l => (rowsOf H i).g r l * (rowsOf H i).o r l) r l) = _
  have e1 : (∑ l, half a (rowsOf H i).g r l * (rowsOf H i).V s l) = (H a).dp (pos i r) s := by
    rw [half_sum]
    refine Finset.sum_congr rfl fun d _ => ?_
    show (H (hl (ln a d))).g (pos i r) (dl (ln a d)) * (H (hl (ln a d))).v s (dl (ln a d)) = _
    rw [hl_ln, dl_ln]
  have e2 : (∑ l, half a (fun r l => (rowsOf H i).g r l * (rowsOf H i).o r l) r l) = (H a).del (pos i r) := by
    refine (sum_lanes a fun l => (rowsOf H i).g r l * (rowsOf H i).o r l).trans ?_
    refine Finset.sum_congr rfl fun d _ => ?_
    show (H (hl (ln a d))).g (pos i r) (dl (ln a d)) * (H (hl (ln a d))).o (pos i r) (dl (ln a d)) = _
    rw [hl_ln, dl_ln]
  rw [e1, e2]

/-- Of two masked sums the one of the lane's head stays. -/
theorem two_halves (f : Fin 512 → Fin 128 → ℝ) (E : Fin 2 → Fin 512 → ℝ) (l : Fin 128) :
    (∑ r, half 0 f r l * E 0 r) + ∑ r, half 1 f r l * E 1 r = ∑ r, f r l * E (hl l) r := by
  by_cases h : l.val / 64 = 0
  · have e : hl l = 0 := Fin.ext h
    rw [e, Finset.sum_eq_zero (s := Finset.univ) (f := fun r => half 1 f r l * E 1 r), add_zero]
    · exact Finset.sum_congr rfl fun r _ => by rw [half, if_pos (show l.val / 64 = (0 : Fin 2).val from h)]
    · exact fun r _ => by rw [half, if_neg (show ¬ l.val / 64 = (1 : Fin 2).val from fun h2 => Nat.zero_ne_one (h.symm.trans h2)), zero_mul]
  · have h1 : l.val / 64 = 1 := by omega
    have e : hl l = 1 := Fin.ext h1
    rw [e, Finset.sum_eq_zero (s := Finset.univ) (f := fun r => half 0 f r l * E 0 r), zero_add]
    · exact Finset.sum_congr rfl fun r _ => by rw [half, if_pos (show l.val / 64 = (1 : Fin 2).val from h1)]
    · exact fun r _ => by rw [half, if_neg (show ¬ l.val / 64 = (0 : Fin 2).val from h), zero_mul]

/-- What the accumulators hold before block `n` of queries. -/
def accOf (n : ℕ) : Acc where
  A _ _ _ := 0
  s _ _ := 0
  d a s := -∑ t : Fin 2048, if t.val < 512 * n then (H a).ds t s else 0
  M l s := ∑ t : Fin 2048, if t.val < 512 * n then (H (hl l)).q t (dl l) * (1 / 8) * (H (hl l)).ds t s else 0
  N l s := ∑ t : Fin 2048, if t.val < 512 * n then (H (hl l)).g t (dl l) * (H (hl l)).p t s else 0

theorem accOf_fresh (n : ℕ) : (accOf H n).Fresh := ⟨fun _ => rfl, fun _ => rfl⟩

/-- Block `i` of queries: their gradients, and one more block in the sums. -/
theorem block_end : (∀ r l, (if l.val < 64 then ((accOf H i).upto (rowsOf H i).blk i (i.val + 1)).A 0 r l else ((accOf H i).upto (rowsOf H i).blk i (i.val + 1)).A 1 r l) * (1 / 8)
      = (H (hl l)).dq (pos i r) (dl l))
    ∧ (∀ a r, ((accOf H i).upto (rowsOf H i).blk i (i.val + 1)).s a r = (H a).dcq (pos i r))
    ∧ ((accOf H i).upto (rowsOf H i).blk i (i.val + 1)).d = (accOf H (i.val + 1)).d
    ∧ ((accOf H i).upto (rowsOf H i).blk i (i.val + 1)).M = (accOf H (i.val + 1)).M
    ∧ ((accOf H i).upto (rowsOf H i).blk i (i.val + 1)).N = (accOf H (i.val + 1)).N := by
  obtain ⟨hA, hs, hd, hM, hN⟩ := upto_all (rowsOf H i).blk i (accOf H i)
  refine ⟨fun r l => ?_, fun a r => ?_, funext fun a => funext fun s => ?_, funext fun l => funext fun s => ?_, funext fun l => funext fun s => ?_⟩
  · have e : (if l.val < 64 then ((accOf H i).upto (rowsOf H i).blk i (i.val + 1)).A 0 r l else ((accOf H i).upto (rowsOf H i).blk i (i.val + 1)).A 1 r l)
        = ((accOf H i).upto (rowsOf H i).blk i (i.val + 1)).A (hl l) r l := by
      by_cases h : l.val < 64
      · rw [if_pos h, show hl l = 0 from Fin.ext (by show l.val / 64 = 0; omega)]
      · rw [if_neg h, show hl l = 1 from Fin.ext (by show l.val / 64 = 1; omega)]
    rw [e, hA, Head.dq]
    refine congrArg (· * (1 / 8 : ℝ)) ((zero_add _).trans (Finset.sum_congr rfl fun s _ => ?_))
    rw [D_rows]; rfl
  · rw [hs]
    exact (zero_add _).trans (Finset.sum_congr rfl fun s _ => D_rows H i a r s)
  · rw [hd]
    show (-∑ t : Fin 2048, if t.val < 512 * i.val then (H a).ds t s else 0) + _ = -∑ t : Fin 2048, if t.val < 512 * (i.val + 1) then (H a).ds t s else 0
    rw [sum_next (fun t => (H a).ds t s) i, neg_add]
    refine congrArg (_ + ·) (congrArg Neg.neg (Finset.sum_congr rfl fun r _ => D_rows H i a r s))
  · rw [hM]
    refine Eq.trans (congrArg (_ + ·) ?_) (sum_next (fun t => (H (hl l)).q t (dl l) * (1 / 8) * (H (hl l)).ds t s) i).symm
    refine (two_halves (fun r l => (rowsOf H i).q r l * (1 / 8)) (fun a r => (rowsOf H i).blk.D i a r s) l).trans (Finset.sum_congr rfl fun r _ => ?_)
    show _ * (rowsOf H i).blk.D i (hl l) r s = _
    rw [D_rows]; rfl
  · rw [hN]
    refine Eq.trans (congrArg (_ + ·) ?_) (sum_next (fun t => (H (hl l)).g t (dl l) * (H (hl l)).p t s) i).symm
    refine (two_halves (rowsOf H i).g (fun a r => (rowsOf H i).blk.P i a r s) l).trans (Finset.sum_congr rfl fun r _ => ?_)
    show _ * (rowsOf H i).blk.P i (hl l) r s = _
    rw [P_rows]; rfl

/-- No position is before the first block. -/
theorem none_yet (f : Fin 2048 → ℝ) : (∑ t : Fin 2048, if t.val < 512 * 0 then f t else 0) = 0 :=
  Finset.sum_eq_zero fun t _ => if_neg (Nat.not_lt_zero t.val)

/-- All are before the end of the last. -/
theorem all_in (f : Fin 2048 → ℝ) : (∑ t : Fin 2048, if t.val < 512 * 4 then f t else 0) = ∑ t, f t :=
  Finset.sum_congr rfl fun t _ => if_pos t.isLt

/-- Before the first block nothing is summed. -/
theorem accOf_zero : (accOf H 0).d = (fun _ _ => 0) ∧ (accOf H 0).M = (fun _ _ => 0) ∧ (accOf H 0).N = fun _ _ => 0 := by
  refine ⟨funext fun a => funext fun s => ?_, funext fun l => funext fun s => ?_, funext fun l => funext fun s => ?_⟩
  · exact neg_eq_zero.2 (none_yet fun t => (H a).ds t s)
  · exact none_yet fun t => (H (hl l)).q t (dl l) * (1 / 8) * (H (hl l)).ds t s
  · exact none_yet fun t => (H (hl l)).g t (dl l) * (H (hl l)).p t s

/-- After the last the sums are the heads' gradients. -/
theorem accOf_four : (∀ a s, (accOf H 4).d a s = (H a).dct s) ∧ (∀ l s, (accOf H 4).M l s = (H (hl l)).dk s (dl l))
    ∧ (∀ l s, (accOf H 4).N l s = (H (hl l)).dv s (dl l)) := by
  refine ⟨fun a s => ?_, fun l s => ?_, fun l s => ?_⟩
  · exact congrArg Neg.neg (Finset.sum_congr rfl fun t _ => if_pos t.isLt)
  · exact all_in fun t => (H (hl l)).q t (dl l) * (1 / 8) * (H (hl l)).ds t s
  · exact all_in fun t => (H (hl l)).g t (dl l) * (H (hl l)).p t s

end

end Cert.KernelIdeal.Fox

end
-- ==== Proof.Blocks.lean ====
/-
  WHAT A POINT READS: from arrays that hold the heads' operands, point `4 h + i` takes block `i` of queries of the pair `h` of
  heads, and all the pair's keys and values.
-/
module

public import proofs.«01_k».proof.Proof.Sums
public import proofs.«01_k».proof.Proof.Gen.KernelIdeal.Frame

@[expose] public section

set_option maxHeartbeats 4000000

noncomputable section

namespace Cert.KernelIdeal.Fox

open Cert.KernelIdeal Cert.KernelIdeal.Gen Idealize.ShloMosaic Idealize.ShloMosaic.ValueIdx
open Idealize.ShloMosaic.TcCoe
open _root_.Fox
open scoped BigOperators

variable (m : (ℓ : Loc nD τ sig) → Buf (Elt Ideal) ℓ) (c : Dev nD)

/-- The arrays the launch finds hold the eight heads' operands, outputs and log-sums. -/
structure Held (H : Fin 8 → Head) : Prop where
  q : ∀ (h : Fin 8) (t : Fin 2048) (d : Fin 64) (j : S2048x3200.Idx), (j 0).val = t.val → (j 1).val = 64 * h.val + d.val → V m c main_arg0 j = ((H h).q t d : EReal)
  k : ∀ (h : Fin 8) (t : Fin 2048) (d : Fin 64) (j : S2048x3200.Idx), (j 0).val = t.val → (j 1).val = 512 + (64 * h.val + d.val) → V m c main_arg0 j = ((H h).k t d : EReal)
  v : ∀ (h : Fin 8) (t : Fin 2048) (d : Fin 64) (j : S2048x3200.Idx), (j 0).val = t.val → (j 1).val = 1024 + (64 * h.val + d.val) → V m c main_arg0 j = ((H h).v t d : EReal)
  cq : ∀ (h : Fin 8) (t : Fin 2048) (j : S2048x128.Idx), (j 0).val = t.val → (j 1).val = h.val → V m c main_arg1 j = ((H h).c t : EReal)
  ct : ∀ (h : Fin 8) (t : Fin 2048) (j : S4x2x2048.Idx), 2 * (j 0).val + (j 1).val = h.val → (j 2).val = t.val → V m c main_v57 j = ((H h).c t : EReal)
  o : ∀ (h : Fin 8) (t : Fin 2048) (d : Fin 64) (j : S2048x512.Idx), (j 0).val = t.val → (j 1).val = 64 * h.val + d.val → V m c main_v42 j = ((H h).o t d : EReal)
  la : ∀ (h : Fin 8) (t : Fin 2048) (j : S2048x1024.Idx), (j 0).val = t.val → (j 1).val = 128 * h.val → V m c main_v55 j = ((H h).lse t : EReal)
  g : ∀ (h : Fin 8) (t : Fin 2048) (d : Fin 64) (j : S2048x512.Idx), (j 0).val = t.val → (j 1).val = 64 * h.val + d.val → V m c main_arg2 j = ((H h).g t d : EReal)

/-- The two heads of pair `h`. -/
def pair (H : Fin 8 → Head) (h : Fin 4) : Fin 2 → Head := fun a => H ⟨2 * h.val + a.val, by omega⟩

/-- Point `4 h + i`'s coordinates, and the blocks it reads. -/
theorem at_point : ∀ t : Fin grid0.N, (grid0.coords t 0).val = t.val / 4 ∧ (grid0.coords t 1).val = t.val % 4
    ∧ win0_0.index t (0 : Fin 2) = t.val % 4 ∧ win0_0.index t (1 : Fin 2) = t.val / 4
    ∧ win0_1.index t (0 : Fin 2) = 0 ∧ win0_1.index t (1 : Fin 2) = 4 + t.val / 4
    ∧ win0_2.index t (0 : Fin 2) = 0 ∧ win0_2.index t (1 : Fin 2) = 8 + t.val / 4
    ∧ win0_3.index t (0 : Fin 2) = t.val % 4 ∧ win0_3.index t (1 : Fin 2) = 0
    ∧ win0_4.index t (0 : Fin 3) = t.val / 4 ∧ win0_4.index t (1 : Fin 3) = 0 ∧ win0_4.index t (2 : Fin 3) = 0
    ∧ win0_5.index t (0 : Fin 2) = t.val % 4 ∧ win0_5.index t (1 : Fin 2) = t.val / 4
    ∧ win0_6.index t (0 : Fin 2) = t.val % 4 ∧ win0_6.index t (1 : Fin 2) = t.val / 4
    ∧ win0_7.index t (0 : Fin 2) = t.val % 4 ∧ win0_7.index t (1 : Fin 2) = t.val / 4 := by decide +kernel

/-- Window 0's block at a point, entry by entry. -/
theorem cut0 (t : Fin cfg0.N) (j : S512x128.Idx) (X : (b : Ref sig .tc) → Buf (Elt Ideal) ((c : Thread nD τ).loc b)) : ∃ k : S2048x3200.Idx, (k 0).val = win0_0.index t (0 : Fin 2) * 512 + (j 0).val ∧ (k 1).val = win0_0.index t (1 : Fin 2) * 128 + (j 1).val
    ∧ ((cfg0.win 0).blk t).view.read (Elt Ideal) (X (Pipeline.arrRef spec0 0)) j = X main_arg0 k :=
  ⟨((cfg0.win 0).blk t).view.emb j, congrArg (win0_0.index t (0 : Fin 2) * 512 + ·) (Nat.one_mul (j 0).val), congrArg (win0_0.index t (1 : Fin 2) * 128 + ·) (Nat.one_mul (j 1).val), rfl⟩

theorem read0 (t : Fin cfg0.N) (j : S512x128.Idx) : ∃ k : S2048x3200.Idx, (k 0).val = win0_0.index t (0 : Fin 2) * 512 + (j 0).val ∧ (k 1).val = win0_0.index t (1 : Fin 2) * 128 + (j 1).val ∧ iblk m c 0 t j = V m c main_arg0 k := by
  unfold iblk
  exact cut0 c t j (fun b => V m c b)

/-- Window 1's block at a point, entry by entry. -/
theorem cut1 (t : Fin cfg0.N) (j : S2048x128.Idx) (X : (b : Ref sig .tc) → Buf (Elt Ideal) ((c : Thread nD τ).loc b)) : ∃ k : S2048x3200.Idx, (k 0).val = win0_1.index t (0 : Fin 2) * 2048 + (j 0).val ∧ (k 1).val = win0_1.index t (1 : Fin 2) * 128 + (j 1).val
    ∧ ((cfg0.win 1).blk t).view.read (Elt Ideal) (X (Pipeline.arrRef spec0 1)) j = X main_arg0 k :=
  ⟨((cfg0.win 1).blk t).view.emb j, congrArg (win0_1.index t (0 : Fin 2) * 2048 + ·) (Nat.one_mul (j 0).val), congrArg (win0_1.index t (1 : Fin 2) * 128 + ·) (Nat.one_mul (j 1).val), rfl⟩

theorem read1 (t : Fin cfg0.N) (j : S2048x128.Idx) : ∃ k : S2048x3200.Idx, (k 0).val = win0_1.index t (0 : Fin 2) * 2048 + (j 0).val ∧ (k 1).val = win0_1.index t (1 : Fin 2) * 128 + (j 1).val ∧ iblk m c 1 t j = V m c main_arg0 k := by
  unfold iblk
  exact cut1 c t j (fun b => V m c b)

/-- Window 2's block at a point, entry by entry. -/
theorem cut2 (t : Fin cfg0.N) (j : S2048x128.Idx) (X : (b : Ref sig .tc) → Buf (Elt Ideal) ((c : Thread nD τ).loc b)) : ∃ k : S2048x3200.Idx, (k 0).val = win0_2.index t (0 : Fin 2) * 2048 + (j 0).val ∧ (k 1).val = win0_2.index t (1 : Fin 2) * 128 + (j 1).val
    ∧ ((cfg0.win 2).blk t).view.read (Elt Ideal) (X (Pipeline.arrRef spec0 2)) j = X main_arg0 k :=
  ⟨((cfg0.win 2).blk t).view.emb j, congrArg (win0_2.index t (0 : Fin 2) * 2048 + ·) (Nat.one_mul (j 0).val), congrArg (win0_2.index t (1 : Fin 2) * 128 + ·) (Nat.one_mul (j 1).val), rfl⟩

theorem read2 (t : Fin cfg0.N) (j : S2048x128.Idx) : ∃ k : S2048x3200.Idx, (k 0).val = win0_2.index t (0 : Fin 2) * 2048 + (j 0).val ∧ (k 1).val = win0_2.index t (1 : Fin 2) * 128 + (j 1).val ∧ iblk m c 2 t j = V m c main_arg0 k := by
  unfold iblk
  exact cut2 c t j (fun b => V m c b)

/-- Window 3's block at a point, entry by entry. -/
theorem cut3 (t : Fin cfg0.N) (j : S512x128.Idx) (X : (b : Ref sig .tc) → Buf (Elt Ideal) ((c : Thread nD τ).loc b)) : ∃ k : S2048x128.Idx, (k 0).val = win0_3.index t (0 : Fin 2) * 512 + (j 0).val ∧ (k 1).val = win0_3.index t (1 : Fin 2) * 128 + (j 1).val
    ∧ ((cfg0.win 3).blk t).view.read (Elt Ideal) (X (Pipeline.arrRef spec0 3)) j = X main_arg1 k :=
  ⟨((cfg0.win 3).blk t).view.emb j, congrArg (win0_3.index t (0 : Fin 2) * 512 + ·) (Nat.one_mul (j 0).val), congrArg (win0_3.index t (1 : Fin 2) * 128 + ·) (Nat.one_mul (j 1).val), rfl⟩

theorem read3 (t : Fin cfg0.N) (j : S512x128.Idx) : ∃ k : S2048x128.Idx, (k 0).val = win0_3.index t (0 : Fin 2) * 512 + (j 0).val ∧ (k 1).val = win0_3.index t (1 : Fin 2) * 128 + (j 1).val ∧ iblk m c 3 t j = V m c main_arg1 k := by
  unfold iblk
  exact cut3 c t j (fun b => V m c b)

/-- Window 4's block at a point, entry by entry. -/
theorem cut4 (t : Fin cfg0.N) (j : S1x2x2048.Idx) (X : (b : Ref sig .tc) → Buf (Elt Ideal) ((c : Thread nD τ).loc b)) : ∃ k : S4x2x2048.Idx, (k 0).val = win0_4.index t (0 : Fin 3) * 1 + (j 0).val ∧ (k 1).val = win0_4.index t (1 : Fin 3) * 2 + (j 1).val ∧ (k 2).val = win0_4.index t (2 : Fin 3) * 2048 + (j 2).val
    ∧ ((cfg0.win 4).blk t).view.read (Elt Ideal) (X (Pipeline.arrRef spec0 4)) j = X main_v57 k :=
  ⟨((cfg0.win 4).blk t).view.emb j, congrArg (win0_4.index t (0 : Fin 3) * 1 + ·) (Nat.one_mul (j 0).val), congrArg (win0_4.index t (1 : Fin 3) * 2 + ·) (Nat.one_mul (j 1).val), congrArg (win0_4.index t (2 : Fin 3) * 2048 + ·) (Nat.one_mul (j 2).val), rfl⟩

theorem read4 (t : Fin cfg0.N) (j : S1x2x2048.Idx) : ∃ k : S4x2x2048.Idx, (k 0).val = win0_4.index t (0 : Fin 3) * 1 + (j 0).val ∧ (k 1).val = win0_4.index t (1 : Fin 3) * 2 + (j 1).val ∧ (k 2).val = win0_4.index t (2 : Fin 3) * 2048 + (j 2).val ∧ iblk m c 4 t j = V m c main_v57 k := by
  unfold iblk
  exact cut4 c t j (fun b => V m c b)

/-- Window 5's block at a point, entry by entry. -/
theorem cut5 (t : Fin cfg0.N) (j : S512x128.Idx) (X : (b : Ref sig .tc) → Buf (Elt Ideal) ((c : Thread nD τ).loc b)) : ∃ k : S2048x512.Idx, (k 0).val = win0_5.index t (0 : Fin 2) * 512 + (j 0).val ∧ (k 1).val = win0_5.index t (1 : Fin 2) * 128 + (j 1).val
    ∧ ((cfg0.win 5).blk t).view.read (Elt Ideal) (X (Pipeline.arrRef spec0 5)) j = X main_v42 k :=
  ⟨((cfg0.win 5).blk t).view.emb j, congrArg (win0_5.index t (0 : Fin 2) * 512 + ·) (Nat.one_mul (j 0).val), congrArg (win0_5.index t (1 : Fin 2) * 128 + ·) (Nat.one_mul (j 1).val), rfl⟩

theorem read5 (t : Fin cfg0.N) (j : S512x128.Idx) : ∃ k : S2048x512.Idx, (k 0).val = win0_5.index t (0 : Fin 2) * 512 + (j 0).val ∧ (k 1).val = win0_5.index t (1 : Fin 2) * 128 + (j 1).val ∧ iblk m c 5 t j = V m c main_v42 k := by
  unfold iblk
  exact cut5 c t j (fun b => V m c b)

/-- Window 6's block at a point, entry by entry. -/
theorem cut6 (t : Fin cfg0.N) (j : S512x256.Idx) (X : (b : Ref sig .tc) → Buf (Elt Ideal) ((c : Thread nD τ).loc b)) : ∃ k : S2048x1024.Idx, (k 0).val = win0_6.index t (0 : Fin 2) * 512 + (j 0).val ∧ (k 1).val = win0_6.index t (1 : Fin 2) * 256 + (j 1).val
    ∧ ((cfg0.win 6).blk t).view.read (Elt Ideal) (X (Pipeline.arrRef spec0 6)) j = X main_v55 k :=
  ⟨((cfg0.win 6).blk t).view.emb j, congrArg (win0_6.index t (0 : Fin 2) * 512 + ·) (Nat.one_mul (j 0).val), congrArg (win0_6.index t (1 : Fin 2) * 256 + ·) (Nat.one_mul (j 1).val), rfl⟩

theorem read6 (t : Fin cfg0.N) (j : S512x256.Idx) : ∃ k : S2048x1024.Idx, (k 0).val = win0_6.index t (0 : Fin 2) * 512 + (j 0).val ∧ (k 1).val = win0_6.index t (1 : Fin 2) * 256 + (j 1).val ∧ iblk m c 6 t j = V m c main_v55 k := by
  unfold iblk
  exact cut6 c t j (fun b => V m c b)

/-- Window 7's block at a point, entry by entry. -/
theorem cut7 (t : Fin cfg0.N) (j : S512x128.Idx) (X : (b : Ref sig .tc) → Buf (Elt Ideal) ((c : Thread nD τ).loc b)) : ∃ k : S2048x512.Idx, (k 0).val = win0_7.index t (0 : Fin 2) * 512 + (j 0).val ∧ (k 1).val = win0_7.index t (1 : Fin 2) * 128 + (j 1).val
    ∧ ((cfg0.win 7).blk t).view.read (Elt Ideal) (X (Pipeline.arrRef spec0 7)) j = X main_arg2 k :=
  ⟨((cfg0.win 7).blk t).view.emb j, congrArg (win0_7.index t (0 : Fin 2) * 512 + ·) (Nat.one_mul (j 0).val), congrArg (win0_7.index t (1 : Fin 2) * 128 + ·) (Nat.one_mul (j 1).val), rfl⟩

theorem read7 (t : Fin cfg0.N) (j : S512x128.Idx) : ∃ k : S2048x512.Idx, (k 0).val = win0_7.index t (0 : Fin 2) * 512 + (j 0).val ∧ (k 1).val = win0_7.index t (1 : Fin 2) * 128 + (j 1).val ∧ iblk m c 7 t j = V m c main_arg2 k := by
  unfold iblk
  exact cut7 c t j (fun b => V m c b)

section
variable {H : Fin 8 → Head} (hH : Held m c H) (t : Fin cfg0.N) (h i : Fin 4) (e : t.val = 4 * h.val + i.val)
include hH e

theorem ins0 : (iblk m c 0 t : S512x128.Idx → EReal) = R2 (rowsOf (pair H h) i).q := by
  obtain ⟨a0, a1, b0, b1, c0, c1, d0, d1, f0, f1, g0, g1, g2, k0, k1, l0, l1, n0, n1⟩ := at_point t
  funext j
  obtain ⟨k, e0, e1, ek⟩ := read0 m c t j
  have j1 : (j 1).val < 128 := (j 1).isLt
  refine ek.trans (hH.q ⟨2 * h.val + (hl (j 1)).val, by omega⟩ (pos i (j 0)) (dl (j 1)) k ?_ ?_)
  · show _ = 512 * i.val + (j 0).val
    omega
  · show _ = 64 * (2 * h.val + (j 1).val / 64) + (j 1).val % 64
    omega

theorem ins1 : (iblk m c 1 t : S2048x128.Idx → EReal) = R2 (rowsOf (pair H h) i).K := by
  obtain ⟨a0, a1, b0, b1, c0, c1, d0, d1, f0, f1, g0, g1, g2, k0, k1, l0, l1, n0, n1⟩ := at_point t
  funext j
  obtain ⟨k, e0, e1, ek⟩ := read1 m c t j
  have j1 : (j 1).val < 128 := (j 1).isLt
  refine ek.trans (hH.k ⟨2 * h.val + (hl (j 1)).val, by omega⟩ (j 0) (dl (j 1)) k ?_ ?_)
  · show _ = (j 0).val
    omega
  · show _ = 512 + (64 * (2 * h.val + (j 1).val / 64) + (j 1).val % 64)
    omega

theorem ins2 : (iblk m c 2 t : S2048x128.Idx → EReal) = R2 (rowsOf (pair H h) i).V := by
  obtain ⟨a0, a1, b0, b1, c0, c1, d0, d1, f0, f1, g0, g1, g2, k0, k1, l0, l1, n0, n1⟩ := at_point t
  funext j
  obtain ⟨k, e0, e1, ek⟩ := read2 m c t j
  have j1 : (j 1).val < 128 := (j 1).isLt
  refine ek.trans (hH.v ⟨2 * h.val + (hl (j 1)).val, by omega⟩ (j 0) (dl (j 1)) k ?_ ?_)
  · show _ = (j 0).val
    omega
  · show _ = 1024 + (64 * (2 * h.val + (j 1).val / 64) + (j 1).val % 64)
    omega

theorem ins5 : (iblk m c 5 t : S512x128.Idx → EReal) = R2 (rowsOf (pair H h) i).o := by
  obtain ⟨a0, a1, b0, b1, c0, c1, d0, d1, f0, f1, g0, g1, g2, k0, k1, l0, l1, n0, n1⟩ := at_point t
  funext j
  obtain ⟨k, e0, e1, ek⟩ := read5 m c t j
  have j1 : (j 1).val < 128 := (j 1).isLt
  refine ek.trans (hH.o ⟨2 * h.val + (hl (j 1)).val, by omega⟩ (pos i (j 0)) (dl (j 1)) k ?_ ?_)
  · show _ = 512 * i.val + (j 0).val
    omega
  · show _ = 64 * (2 * h.val + (j 1).val / 64) + (j 1).val % 64
    omega

theorem ins7 : (iblk m c 7 t : S512x128.Idx → EReal) = R2 (rowsOf (pair H h) i).g := by
  obtain ⟨a0, a1, b0, b1, c0, c1, d0, d1, f0, f1, g0, g1, g2, k0, k1, l0, l1, n0, n1⟩ := at_point t
  funext j
  obtain ⟨k, e0, e1, ek⟩ := read7 m c t j
  have j1 : (j 1).val < 128 := (j 1).isLt
  refine ek.trans (hH.g ⟨2 * h.val + (hl (j 1)).val, by omega⟩ (pos i (j 0)) (dl (j 1)) k ?_ ?_)
  · show _ = 512 * i.val + (j 0).val
    omega
  · show _ = 64 * (2 * h.val + (j 1).val / 64) + (j 1).val % 64
    omega

theorem ins3 (a : Fin 2) (r : Fin 512) : (iblk m c 3 t : S512x128.Idx → EReal) (ix2 r (lane h a)) = ((rowsOf (pair H h) i).cq a r : EReal) := by
  obtain ⟨a0, a1, b0, b1, c0, c1, d0, d1, f0, f1, g0, g1, g2, k0, k1, l0, l1, n0, n1⟩ := at_point t
  obtain ⟨k, e0, e1, ek⟩ := read3 m c t (ix2 r (lane h a))
  have e0' : (k 0).val = win0_3.index t (0 : Fin 2) * 512 + r.val := e0
  have e1' : (k 1).val = win0_3.index t (1 : Fin 2) * 128 + (2 * h.val + a.val) := e1
  refine ek.trans (hH.cq ⟨2 * h.val + a.val, by omega⟩ (pos i r) k ?_ ?_)
  · show _ = 512 * i.val + r.val
    omega
  · show _ = 2 * h.val + a.val
    omega

theorem ins4 : (iblk m c 4 t : S1x2x2048.Idx → EReal) = R3 (rowsOf (pair H h) i).ct := by
  obtain ⟨a0, a1, b0, b1, c0, c1, d0, d1, f0, f1, g0, g1, g2, k0, k1, l0, l1, n0, n1⟩ := at_point t
  funext j
  obtain ⟨k, e0, e1, e2, ek⟩ := read4 m c t j
  have j0 : (j 0).val < 1 := (j 0).isLt
  have j1 : (j 1).val < 2 := (j 1).isLt
  refine ek.trans (hH.ct ⟨2 * h.val + (j 1).val, by omega⟩ (j 2) k ?_ ?_)
  · show _ = 2 * h.val + (j 1).val
    omega
  · omega

theorem ins6 (a : Fin 2) (r : Fin 512) : (iblk m c 6 t : S512x256.Idx → EReal) (ix2 r ⟨128 * a.val, by omega⟩) = ((rowsOf (pair H h) i).la a r : EReal) := by
  obtain ⟨a0, a1, b0, b1, c0, c1, d0, d1, f0, f1, g0, g1, g2, k0, k1, l0, l1, n0, n1⟩ := at_point t
  obtain ⟨k, e0, e1, ek⟩ := read6 m c t (ix2 r ⟨128 * a.val, by omega⟩)
  have e0' : (k 0).val = win0_6.index t (0 : Fin 2) * 512 + r.val := e0
  have e1' : (k 1).val = win0_6.index t (1 : Fin 2) * 256 + 128 * a.val := e1
  refine ek.trans (hH.la ⟨2 * h.val + a.val, by omega⟩ (pos i r) k ?_ ?_)
  · show _ = 512 * i.val + r.val
    omega
  · show _ = 128 * (2 * h.val + a.val)
    omega

/-- The blocks a point reads are the reals of its pair and block. -/
theorem ins : Ins (grid0.coords t 0) (rowsOf (pair H h) i) (iblk m c 0 t) (iblk m c 1 t) (iblk m c 2 t) (iblk m c 3 t) (iblk m c 4 t) (iblk m c 5 t) (iblk m c 6 t) (iblk m c 7 t) := by
  have a0 : (grid0.coords t 0).val = h.val := by
    have := (at_point t).1
    omega
  have eh : (grid0.coords t 0 : Fin 4) = h := Fin.ext a0
  refine ⟨ins0 m c hH t h i e, ins1 m c hH t h i e, ins2 m c hH t h i e, fun a r => ?_, ins4 m c hH t h i e, ins5 m c hH t h i e, fun a r => ins6 m c hH t h i e a r, ins7 m c hH t h i e⟩
  exact (congrArg (fun x : Fin 4 => (iblk m c 3 t : S512x128.Idx → EReal) (ix2 r (lane x a))) eh).trans (ins3 m c hH t h i e a r)

end

end Cert.KernelIdeal.Fox

end
-- ==== Proof.Host.lean ====
/-
  WHAT THE HOST HANDS THE CALL: the attention's output, the log-sum of its weights and the decays by pairs of heads, computed from the
  arguments by the lines before the call.
-/
module

public import proofs.«01_k».proof.Proof.Blocks
public import proofs.«01_k».proof.Proof.RefValue
public import Idealize.ShloMosaic.Lib.StableHlo.Run

@[expose] public section

set_option maxHeartbeats 4000000

noncomputable section

namespace Cert.KernelIdeal.Fox

open Cert.KernelIdeal Cert.KernelIdeal.Gen Idealize.ShloMosaic Idealize.ShloMosaic.ValueIdx Idealize.ShloMosaic.StableHlo
open Idealize.ShloMosaic.TcCoe
open _root_.Fox
open scoped BigOperators

/-- The exponentials of the masked logits about the row's greatest. -/
def about (x0 : S2048x3200.Idx → EReal) (x1 : S2048x128.Idx → EReal) : S8x2048x2048.Idx → EReal :=
  Host.exp (F := Ideal) (φ := .f32) (subf (F := Ideal) (φ := .f32) (Cert.ReferenceIdeal.Read.val_main_v27_0 (F := Ideal) x0 x1)
    (broadcastInDim S8x2048x2048 ![0, 1, 2] bcast_S8x2048x1_S8x2048x2048_0_1_2 (broadcastInDim S8x2048x1 ![0, 1] bcast_S8x2048_S8x2048x1_0_1 (Cert.ReferenceIdeal.Read.val_main_v28 (F := Ideal) x0 x1))))

/-- The log-sum of a row. -/
def logs (x0 : S2048x3200.Idx → EReal) (x1 : S2048x128.Idx → EReal) : S8x2048x1.Idx → EReal :=
  addf (F := Ideal) (φ := .f32) (broadcastInDim S8x2048x1 ![0, 1] bcast_S8x2048_S8x2048x1_0_1 (Cert.ReferenceIdeal.Read.val_main_v28 (F := Ideal) x0 x1))
    (Host.log (F := Ideal) (φ := .f32) (broadcastInDim S8x2048x1 ![0, 1] bcast_S8x2048_S8x2048x1_0_1
      (Host.reduceAdd (F := Ideal) (φ := .f32) (about x0 x1) (constant (F := Ideal) S_ .f32 0x00000000#32) reducesTo_S8x2048x2048_S8x2048_d2 h_S_)))

/-- Each row's, repeated over the lanes of its head. -/
def logs_flat (x0 : S2048x3200.Idx → EReal) (x1 : S2048x128.Idx → EReal) : S2048x1024.Idx → EReal :=
  shapeCast S2048x1024 (broadcastInDim S2048x8x128 ![0, 1] bcast_S2048x8_S2048x8x128_0_1 (transpose S2048x8 [1, 0]
    (shapeCast S8x2048 (logs x0 x1) shapeCasts_S8x2048x1_S8x2048) transposes_S8x2048_S2048x8_1_0)) shapeCasts_S2048x8x128_S2048x1024

/-- The decays by pairs of heads. -/
def decays (x1 : S2048x128.Idx → EReal) : S4x2x2048.Idx → EReal :=
  shapeCast S4x2x2048 (transpose S8x2048 [1, 0] (extractStridedSlice S2048x8 ![0, 0] x1 slices_S2048x128_S2048x8_0_0) transposes_S2048x8_S8x2048_1_0) shapeCasts_S8x2048_S4x2x2048

variable (m : (ℓ : Loc nD τ sig) → Buf (Elt Ideal) ℓ) (c : Dev nD)

theorem V_decays : V m c main_v57 = decays (m ((c : Thread nD τ).loc main_arg1)) := by
  show after (List.flatten [hostOps0, hostOps0_1, hostOps0_2]) (fun b => m (c, b)) main_v57 = _
  simp only [List.flatten_cons, List.flatten_nil, List.append_nil, List.cons_append, List.nil_append]
  after_results_simp
  rfl

theorem V_out : V m c main_v42 = Cert.ReferenceIdeal.Read.val_main_v59 (F := Ideal) (m ((c : Thread nD τ).loc main_arg0)) (m ((c : Thread nD τ).loc main_arg1)) := by
  show after (List.flatten [hostOps0, hostOps0_1, hostOps0_2]) (fun b => m (c, b)) main_v42 = _
  simp only [List.flatten_cons, List.flatten_nil, List.append_nil, List.cons_append, List.nil_append]
  after_results_simp
  rfl

theorem V_logs : V m c main_v55 = logs_flat (m ((c : Thread nD τ).loc main_arg0)) (m ((c : Thread nD τ).loc main_arg1)) := by
  show after (List.flatten [hostOps0, hostOps0_1, hostOps0_2]) (fun b => m (c, b)) main_v55 = _
  simp only [List.flatten_cons, List.flatten_nil, List.append_nil, List.cons_append, List.nil_append]
  after_results_simp
  rfl

end Cert.KernelIdeal.Fox

end
-- ==== Proof.HostValue.lean ====
/-
  The host's arrays at real operands: the call finds every head's operands, output, log-sum and decays.
-/
module

public import proofs.«01_k».proof.Proof.Host

@[expose] public section

set_option maxHeartbeats 1000000

noncomputable section

namespace Cert.KernelIdeal.Fox

open Cert.KernelIdeal Cert.KernelIdeal.Gen Idealize.ShloMosaic Idealize.ShloMosaic.ValueIdx Idealize.ShloMosaic.StableHlo
open Idealize.ShloMosaic.TcCoe
open _root_.Fox Cert.ReferenceIdeal.Read
open scoped BigOperators

section
variable {x0 : S2048x3200.Idx → EReal} {x1 : S2048x128.Idx → EReal} {x2 : S2048x512.Idx → EReal}

/-- The row's greatest logit is the softmax's shift. -/
theorem top_eq (x0 : S2048x3200.Idx → EReal) (x1 : S2048x128.Idx → EReal) : val_main_v28 (F := Ideal) x0 x1 = val_main_v35 (F := Ideal) x0 x1 := by
  funext j
  rw [val_main_v35_apply, val_main_v34_apply, val_main_cst_3_apply]
  show _ = max (Ideal.ofBits .f32 0xFF800000#32) _
  rw [Cert.ReferenceIdeal.Fox.neg_inf, max_eq_right bot_le]

/-- The log-sums are the shift and the logarithm of the sum of the shifted exponentials. -/
theorem logs_eq (x0 : S2048x3200.Idx → EReal) (x1 : S2048x128.Idx → EReal) :
    logs x0 x1 = addf (F := Ideal) (φ := .f32) (val_main_v45 (F := Ideal) x0 x1) (Host.log (F := Ideal) (φ := .f32) (val_main_v50 (F := Ideal) x0 x1)) := by
  unfold logs about
  rw [top_eq]
  unfold val_main_v50 val_main_v49 val_main_v48 val_main_v47 val_main_v46 val_main_v45
  rfl

/-- A sum with a logarithm, at an index. -/
theorem add_log (a b : S8x2048x1.Idx → EReal) (i : S8x2048x1.Idx) :
    addf (F := Ideal) (φ := .f32) a (Host.log (F := Ideal) (φ := .f32) b) i = a i + Ideal.log (b i) := rfl

variable (R : Reals x0 x1 x2)
include R

/-- A row's log-sum is its head's. -/
theorem logs_apply (i : S8x2048x1.Idx) : logs x0 x1 i = ((hd x0 x1 x2 (i 0)).lse (i 1) : EReal) := by
  refine (congrFun (logs_eq x0 x1) i).trans ((add_log _ _ i).trans ?_)
  have e45 : val_main_v45 (F := Ideal) x0 x1 i = (Cert.ReferenceIdeal.Fox.shift R (i 0) (i 1) : EReal) := by
    rw [val_main_v45_apply, show idx_main_v45 i = ix2 (i 0) (i 1) from eq_ix2 _]
    obtain ⟨m, hm⟩ := Cert.ReferenceIdeal.Fox.v35 R (ix2 (i 0) (i 1))
    unfold Cert.ReferenceIdeal.Fox.shift
    rw [hm, EReal.toReal_coe]
    exact hm
  rw [e45, Cert.ReferenceIdeal.Fox.v50 R i, Ideal.log_coe, if_neg (not_le.2 ((hd x0 x1 x2 (i 0)).z_pos _ (i 1))), ← EReal.coe_add]
  exact congrArg (fun x : ℝ => (x : EReal)) ((hd x0 x1 x2 (i 0)).log_z _ _)

/-- The flat array holds it at the first of the head's lanes. -/
theorem logs_flat_apply (h : Fin 8) (t : Fin 2048) (j : S2048x1024.Idx) (e0 : (j 0).val = t.val) (e1 : (j 1).val = 128 * h.val) :
    logs_flat x0 x1 j = ((hd x0 x1 x2 h).lse t : EReal) := by
  unfold logs_flat
  rw [shapeCast_apply _ shapeCasts_S2048x8x128_S2048x1024 j (ix3 t h (⟨0, by decide⟩ : Fin 128)) (by
    rw [Shape.rowMajor_val_three, Shape.rowMajor_val_two]
    show (t.val * 8 + h.val) * 128 + 0 = (j 0).val * 1024 + (j 1).val
    omega)]
  rw [broadcastInDim_apply _ bcast_S2048x8_S2048x8x128_0_1 _ _ (ix2 t h) (fun a => match a with
    | ⟨0, _⟩ => by show t.val = if (2048 : Nat) = 1 then 0 else t.val; rw [if_neg (by decide)]
    | ⟨1, _⟩ => by show h.val = if (8 : Nat) = 1 then 0 else h.val; rw [if_neg (by decide)])]
  rw [transpose_apply [1, 0] _ transposes_S8x2048_S2048x8_1_0 (ix2 t h) (ix2 h t) (fun b => match b with
    | ⟨0, _⟩ => rfl
    | ⟨1, _⟩ => rfl)]
  rw [shapeCast_apply _ shapeCasts_S8x2048x1_S8x2048 (ix2 h t) (ix3 h t (⟨0, by decide⟩ : Fin 1)) (by
    rw [Shape.rowMajor_val_three, Shape.rowMajor_val_two]
    show (h.val * 2048 + t.val) * 1 + 0 = h.val * 2048 + t.val
    omega)]
  exact logs_apply R _

/-- The decays by pairs of heads are the heads'. -/
theorem decays_apply (h : Fin 8) (t : Fin 2048) (j : S4x2x2048.Idx) (e0 : 2 * (j 0).val + (j 1).val = h.val) (e1 : (j 2).val = t.val) :
    decays x1 j = ((hd x0 x1 x2 h).c t : EReal) := by
  unfold decays
  rw [shapeCast_apply _ shapeCasts_S8x2048_S4x2x2048 j (ix2 h t) (by
    rw [Shape.rowMajor_val_three, Shape.rowMajor_val_two]
    show h.val * 2048 + t.val = ((j 0).val * 2 + (j 1).val) * 2048 + (j 2).val
    omega)]
  rw [transpose_apply [1, 0] _ transposes_S2048x8_S8x2048_1_0 (ix2 h t) (ix2 t h) (fun b => match b with
    | ⟨0, _⟩ => rfl
    | ⟨1, _⟩ => rfl)]
  rw [extractStridedSlice_apply ![0, 0] _ slices_S2048x128_S2048x8_0_0 (ix2 t h) (ix2 t ⟨h.val, by omega⟩) (fun a => match a with
    | ⟨0, _⟩ => (Nat.zero_add _).symm
    | ⟨1, _⟩ => (Nat.zero_add _).symm)]
  exact R.c _ h t rfl rfl

end

variable (m : (ℓ : Loc nD τ sig) → Buf (Elt Ideal) ℓ) (c : Dev nD)

/-- At real arguments the call finds the heads' operands. -/
theorem held (R : Reals (m ((c : Thread nD τ).loc main_arg0)) (m ((c : Thread nD τ).loc main_arg1)) (m ((c : Thread nD τ).loc main_arg2))) :
    Held m c (hd (m ((c : Thread nD τ).loc main_arg0)) (m ((c : Thread nD τ).loc main_arg1)) (m ((c : Thread nD τ).loc main_arg2))) where
  q h t d j e0 e1 := (congrFun (V_main_arg0 m c) j).trans (R.q j h t d e0 e1)
  k h t d j e0 e1 := (congrFun (V_main_arg0 m c) j).trans (R.k j h t d e0 e1)
  v h t d j e0 e1 := (congrFun (V_main_arg0 m c) j).trans (R.v j h t d e0 e1)
  cq h t j e0 e1 := (congrFun (V_main_arg1 m c) j).trans (R.c j h t e0 e1)
  ct h t j e0 e1 := (congrFun (V_decays m c) j).trans (decays_apply R h t j e0 e1)
  o h t d j e0 e1 := (congrFun (V_out m c) j).trans ((Cert.ReferenceIdeal.Fox.v59 R j h d e1).trans (by rw [show j 0 = t from Fin.ext e0]))
  la h t j e0 e1 := (congrFun (V_logs m c) j).trans (logs_flat_apply R h t j e0 e1)
  g h t d j e0 e1 := (congrFun (V_main_arg2 m c) j).trans (R.g j h t d e0 e1)

end Cert.KernelIdeal.Fox

end
-- ==== Proof.PointA.lean ====
/-
  The first point of a pair of heads starts the sums.
-/
module

public import proofs.«01_k».proof.Proof.Point
public import proofs.«01_k».proof.Proof.Gen.KernelIdeal.Frame

@[expose] public section

set_option maxHeartbeats 4000000

noncomputable section

namespace Cert.KernelIdeal.Fox

open Cert.KernelIdeal Cert.KernelIdeal.Gen Idealize.ShloMosaic Idealize.ShloMosaic.ValueIdx
open _root_.Fox
open scoped BigOperators

variable (c : Dev nD) (i : grid0.Coords)
  (arg2 : Memref sig .tc .vmem S512x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S512x128 .f32) (harg5 : arg5.IsWhole)
  (arg6 : Memref sig .tc .vmem S1x2x2048 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x2x2048 .f32) (harg13 : arg13.IsWhole)
  (arg14 : Memref sig .tc .vmem S1x512x128 .f32) (harg14 : arg14.IsWhole)
  (arg15 : Memref sig .tc .vmem S128x2048 .f32) (harg15 : arg15.IsWhole)
  (arg16 : Memref sig .tc .vmem S128x2048 .f32) (harg16 : arg16.IsWhole)

/-- What such a point leaves. -/
theorem ends_A (hc0 : cond0_0 i) (hc1 : ¬cond0_1 i) (w : Rows) (x0 : S512x128.Idx → EReal) (x1 x2 : S2048x128.Idx → EReal) (x3 : S512x128.Idx → EReal) (x4 : S1x2x2048.Idx → EReal)
    (x5 : S512x128.Idx → EReal) (x6 : S512x256.Idx → EReal) (x7 : S512x128.Idx → EReal)
    (h : Ins (i 0) w x0 x1 x2 x3 x4 x5 x6 x7) (q : Fin 4) (hq : q.val = (i 1).val) (x : Acc) (hx : x.Fresh)
    (ed : x.d = fun _ _ => 0) (eM : x.M = fun _ _ => 0) (eN : x.N = fun _ _ => 0) :
    Ends (x.upto w.blk q (q.val + 1)) (out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)
      (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7) := by
  have ho := operands_at i arg2 harg2 arg5 harg5 arg7 harg7 arg8 harg8 arg9 harg9 w x0 x1 x2 x3 x4 x5 x6 x7 h
    inb_S512x128_S512x128_0_0 inb_S512x128_S512x128_0_0 inb_S512x128_S512x128_0_0 inb_S512x256_S512x1_0_0 inb_S512x256_S512x1_0_128 inb_S512x128_S512x128_0_0
  have h3 : arg3.view.read (Elt Ideal) (harg3.unread x1) = R2 w.blk.K := (harg3.read_unread (Val := Elt Ideal) x1).trans h.e1
  have h4 : arg4.view.read (Elt Ideal) (harg4.unread x2) = R2 w.blk.V := (harg4.read_unread (Val := Elt Ideal) x2).trans h.e2
  have h6 : arg6.view.read (Elt Ideal) (harg6.unread x4) = R3 w.blk.ct := (harg6.read_unread (Val := Elt Ideal) x4).trans h.e4
  have hs : Holds ((k0_pay51 (F := Ideal), k0_pay52 (F := Ideal), k0_pay51 (F := Ideal), k0_pay52 (F := Ideal))) (arg13.view.read (Elt Ideal) (arg13.view.writes (Elt Ideal) arg13.view.junk [⟨Rect.unit (s := S1x2x2048) ![0, 0, 0] S1x2x2048.size inb_S1x2x2048_S1x2x2048_0_0_0, k0_pay37 (F := Ideal)⟩]))
      (arg15.view.read (Elt Ideal) (arg15.view.writes (Elt Ideal) arg15.view.junk [⟨Rect.unit (s := S128x2048) ![0, 0] S128x2048.size inb_S128x2048_S128x2048_0_0, k0_pay35 (F := Ideal)⟩]))
      (arg16.view.read (Elt Ideal) (arg16.view.writes (Elt Ideal) arg16.view.junk [⟨Rect.unit (s := S128x2048) ![0, 0] S128x2048.size inb_S128x2048_S128x2048_0_0, k0_pay36 (F := Ideal)⟩])) x :=
    ⟨start x hx, (store_whole arg13.view _ zero_off3 _ _ []).trans (ed ▸ zero_ct), (store_whole arg15.view _ zero_off2 _ _ []).trans (eM ▸ zero_dk),
      (store_whole arg16.view _ zero_off2 _ _ []).trans (eN ▸ zero_dv)⟩
  have hl := loop Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) w.blk q hq ((k0_pay51 (F := Ideal), k0_pay52 (F := Ideal), k0_pay51 (F := Ideal), k0_pay52 (F := Ideal))) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ho h3 h4 h6 x hs (k0_t1_loop i).trips le_rfl
  rw [← View.writes_append, ← View.writes_append, ← View.writes_append] at hl
  have key := tail i arg3 arg4 arg6 arg13 arg15 arg16 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) (harg3.unread x1) (harg4.unread x2) (harg6.unread x4) arg13.view.junk arg15.view.junk arg16.view.junk
    ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.1 ++ [⟨Rect.unit (s := S1x2x2048) ![0, 0, 0] S1x2x2048.size inb_S1x2x2048_S1x2x2048_0_0_0, k0_pay37 (F := Ideal)⟩])
    ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.2.1 ++ [⟨Rect.unit (s := S128x2048) ![0, 0] S128x2048.size inb_S128x2048_S128x2048_0_0, k0_pay35 (F := Ideal)⟩])
    ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.2.2 ++ [⟨Rect.unit (s := S128x2048) ![0, 0] S128x2048.size inb_S128x2048_S128x2048_0_0, k0_pay36 (F := Ideal)⟩])
    (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.1 ++ [⟨Rect.unit (s := S1x2x2048) ![0, 0, 0] S1x2x2048.size inb_S1x2x2048_S1x2x2048_0_0_0, k0_pay37 (F := Ideal)⟩])) (arg15.view.writes (Elt Ideal) arg15.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.2.1 ++ [⟨Rect.unit (s := S128x2048) ![0, 0] S128x2048.size inb_S128x2048_S128x2048_0_0, k0_pay35 (F := Ideal)⟩])) (arg16.view.writes (Elt Ideal) arg16.view.junk ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).2.2.2 ++ [⟨Rect.unit (s := S128x2048) ![0, 0] S128x2048.size inb_S128x2048_S128x2048_0_0, k0_pay36 (F := Ideal)⟩])) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) arg13.view.junk [⟨Rect.unit (s := S1x2x2048) ![0, 0, 0] S1x2x2048.size inb_S1x2x2048_S1x2x2048_0_0_0, k0_pay37 (F := Ideal)⟩]) (arg15.view.writes (Elt Ideal) arg15.view.junk [⟨Rect.unit (s := S128x2048) ![0, 0] S128x2048.size inb_S128x2048_S128x2048_0_0, k0_pay35 (F := Ideal)⟩]) (arg16.view.writes (Elt Ideal) arg16.view.junk [⟨Rect.unit (s := S128x2048) ![0, 0] S128x2048.size inb_S128x2048_S128x2048_0_0, k0_pay36 (F := Ideal)⟩]) ((k0_pay51 (F := Ideal), k0_pay52 (F := Ideal), k0_pay51 (F := Ideal), k0_pay52 (F := Ideal))) (k0_t1_loop i).trips).1 (k0_t2_loop i).trips)
    _ (rest Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) _ _ _ _) w.blk q hq ho h3 h4 h6 x (k0_t1_loop i).trips ((trips_main i).trans hq.symm) hl
  obtain ⟨ha, hd, hm, hn⟩ := key
  obtain ⟨a0, a1, a2, a3⟩ := parts ha
  have e12 := put_dcq _ _ _ _ _ a1 a3
  refine ⟨?_, ?_, ?_, ?_, ?_⟩
  · refine (store_whole VO0_8 VO0_8.junk zero_off2 _ _ []).trans ?_
    exact (congrArg₂ (fun A B => k0_pay77 (F := Ideal) k0_pay38 A B) a0 a2).trans (put_dq _ _)
  · exact (View.read_writes_of_cover VO0_11 VO0_11.junk arg13.view arg13.view.junk _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)).trans hd
  · refine (store_whole VO0_12 VO0_12.junk zero_off3 _ _ []).trans ?_
    exact e12
  · exact (View.read_writes_of_cover VS0_0 VS0_0.junk arg15.view arg15.view.junk _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)).trans hm
  · exact (View.read_writes_of_cover VS0_1 VS0_1.junk arg16.view arg16.view.junk _ (scover0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7)).trans hn

end Cert.KernelIdeal.Fox

end
-- ==== Proof.PointB.lean ====
/-
  A point in between adds to the sums.
-/
module

public import proofs.«01_k».proof.Proof.Point
public import proofs.«01_k».proof.Proof.Gen.KernelIdeal.Frame

@[expose] public section

set_option maxHeartbeats 4000000

noncomputable section

namespace Cert.KernelIdeal.Fox

open Cert.KernelIdeal Cert.KernelIdeal.Gen Idealize.ShloMosaic Idealize.ShloMosaic.ValueIdx
open _root_.Fox
open scoped BigOperators

variable (c : Dev nD) (i : grid0.Coords)
  (arg2 : Memref sig .tc .vmem S512x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S512x128 .f32) (harg5 : arg5.IsWhole)
  (arg6 : Memref sig .tc .vmem S1x2x2048 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x2x2048 .f32) (harg13 : arg13.IsWhole)
  (arg14 : Memref sig .tc .vmem S1x512x128 .f32) (harg14 : arg14.IsWhole)
  (arg15 : Memref sig .tc .vmem S128x2048 .f32) (harg15 : arg15.IsWhole)
  (arg16 : Memref sig .tc .vmem S128x2048 .f32) (harg16 : arg16.IsWhole)

/-- What such a point leaves. -/
theorem ends_B (hc0 : ¬cond0_0 i) (hc1 : ¬cond0_1 i) (w : Rows) (x0 : S512x128.Idx → EReal) (x1 x2 : S2048x128.Idx → EReal) (x3 : S512x128.Idx → EReal) (x4 : S1x2x2048.Idx → EReal)
    (x5 : S512x128.Idx → EReal) (x6 : S512x256.Idx → EReal) (x7 : S512x128.Idx → EReal) (xo11 : S1x2x2048.Idx → EReal) (xs0 xs1 : S128x2048.Idx → EReal)
    (h : Ins (i 0) w x0 x1 x2 x3 x4 x5 x6 x7) (q : Fin 4) (hq : q.val = (i 1).val) (x : Acc) (hx : x.Fresh)
    (eo : xo11 = R3 x.d) (es0 : xs0 = R2 x.M) (es1 : xs1 = R2 x.N) :
    Ends (x.upto w.blk q (q.val + 1)) (out0_B_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1)
      (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) := by
  have ho := operands_at i arg2 harg2 arg5 harg5 arg7 harg7 arg8 harg8 arg9 harg9 w x0 x1 x2 x3 x4 x5 x6 x7 h
    inb_S512x128_S512x128_0_0 inb_S512x128_S512x128_0_0 inb_S512x128_S512x128_0_0 inb_S512x256_S512x1_0_0 inb_S512x256_S512x1_0_128 inb_S512x128_S512x128_0_0
  have h3 : arg3.view.read (Elt Ideal) (harg3.unread x1) = R2 w.blk.K := (harg3.read_unread (Val := Elt Ideal) x1).trans h.e1
  have h4 : arg4.view.read (Elt Ideal) (harg4.unread x2) = R2 w.blk.V := (harg4.read_unread (Val := Elt Ideal) x2).trans h.e2
  have h6 : arg6.view.read (Elt Ideal) (harg6.unread x4) = R3 w.blk.ct := (harg6.read_unread (Val := Elt Ideal) x4).trans h.e4
  have hs : Holds ((k0_pay51 (F := Ideal), k0_pay52 (F := Ideal), k0_pay51 (F := Ideal), k0_pay52 (F := Ideal))) (arg13.view.read (Elt Ideal) (harg13.unread xo11)) (arg15.view.read (Elt Ideal) (harg15.unread xs0)) (arg16.view.read (Elt Ideal) (harg16.unread xs1)) x :=
    ⟨start x hx, (harg13.read_unread (Val := Elt Ideal) xo11).trans eo, (harg15.read_unread (Val := Elt Ideal) xs0).trans es0, (harg16.read_unread (Val := Elt Ideal) xs1).trans es1⟩
  have hl := loop Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) w.blk q hq ((k0_pay51 (F := Ideal), k0_pay52 (F := Ideal), k0_pay51 (F := Ideal), k0_pay52 (F := Ideal))) (harg13.unread xo11) (harg15.unread xs0) (harg16.unread xs1) ho h3 h4 h6 x hs (k0_t1_loop i).trips le_rfl
  have key := tail i arg3 arg4 arg6 arg13 arg15 arg16 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) (harg3.unread x1) (harg4.unread x2) (harg6.unread x4) (harg13.unread xo11) (harg15.unread xs0) (harg16.unread xs1)
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.1
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.1
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.2
    (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) (harg13.unread xo11) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.1) (arg15.view.writes (Elt Ideal) (harg15.unread xs0) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.1) (arg16.view.writes (Elt Ideal) (harg16.unread xs1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.2) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).1 (k0_t2_loop i).trips)
    _ (rest Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) _ _ _ _) w.blk q hq ho h3 h4 h6 x (k0_t1_loop i).trips ((trips_main i).trans hq.symm) hl
  obtain ⟨ha, hd, hm, hn⟩ := key
  obtain ⟨a0, a1, a2, a3⟩ := parts ha
  have e12 := put_dcq _ _ _ _ _ a1 a3
  refine ⟨?_, ?_, ?_, ?_, ?_⟩
  · refine (store_whole VO0_8 VO0_8.junk zero_off2 _ _ []).trans ?_
    exact (congrArg₂ (fun A B => k0_pay77 (F := Ideal) k0_pay38 A B) a0 a2).trans (put_dq _ _)
  · exact hd
  · refine (store_whole VO0_12 VO0_12.junk zero_off3 _ _ []).trans ?_
    exact e12
  · exact hm
  · exact hn

end Cert.KernelIdeal.Fox

end
-- ==== Proof.PointC.lean ====
/-
  The last point adds to the sums and stores the keys' and values' gradients.
-/
module

public import proofs.«01_k».proof.Proof.Point
public import proofs.«01_k».proof.Proof.Gen.KernelIdeal.Frame

@[expose] public section

set_option maxHeartbeats 4000000

noncomputable section

namespace Cert.KernelIdeal.Fox

open Cert.KernelIdeal Cert.KernelIdeal.Gen Idealize.ShloMosaic Idealize.ShloMosaic.ValueIdx
open _root_.Fox
open scoped BigOperators

variable (c : Dev nD) (i : grid0.Coords)
  (arg2 : Memref sig .tc .vmem S512x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S512x128 .f32) (harg5 : arg5.IsWhole)
  (arg6 : Memref sig .tc .vmem S1x2x2048 .f32) (harg6 : arg6.IsWhole)
  (arg7 : Memref sig .tc .vmem S512x128 .f32) (harg7 : arg7.IsWhole)
  (arg8 : Memref sig .tc .vmem S512x256 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S2048x128 .bf16) (harg11 : arg11.IsWhole)
  (arg12 : Memref sig .tc .vmem S2048x128 .bf16) (harg12 : arg12.IsWhole)
  (arg13 : Memref sig .tc .vmem S1x2x2048 .f32) (harg13 : arg13.IsWhole)
  (arg14 : Memref sig .tc .vmem S1x512x128 .f32) (harg14 : arg14.IsWhole)
  (arg15 : Memref sig .tc .vmem S128x2048 .f32) (harg15 : arg15.IsWhole)
  (arg16 : Memref sig .tc .vmem S128x2048 .f32) (harg16 : arg16.IsWhole)

/-- What such a point leaves. -/
theorem ends_C (hc0 : ¬cond0_0 i) (hc1 : cond0_1 i) (w : Rows) (x0 : S512x128.Idx → EReal) (x1 x2 : S2048x128.Idx → EReal) (x3 : S512x128.Idx → EReal) (x4 : S1x2x2048.Idx → EReal)
    (x5 : S512x128.Idx → EReal) (x6 : S512x256.Idx → EReal) (x7 : S512x128.Idx → EReal) (xo11 : S1x2x2048.Idx → EReal) (xs0 xs1 : S128x2048.Idx → EReal)
    (h : Ins (i 0) w x0 x1 x2 x3 x4 x5 x6 x7) (q : Fin 4) (hq : q.val = (i 1).val) (x : Acc) (hx : x.Fresh)
    (eo : xo11 = R3 x.d) (es0 : xs0 = R2 x.M) (es1 : xs1 = R2 x.N) :
    Ends (x.upto w.blk q (q.val + 1)) (out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (out0_C_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1)
      (sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) (sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1)
      ∧ (out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) = R2 (fun s l => (x.upto w.blk q (q.val + 1)).M l s)
      ∧ (out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 xo11 xs0 xs1) = R2 (fun s l => (x.upto w.blk q (q.val + 1)).N l s) := by
  have ho := operands_at i arg2 harg2 arg5 harg5 arg7 harg7 arg8 harg8 arg9 harg9 w x0 x1 x2 x3 x4 x5 x6 x7 h
    inb_S512x128_S512x128_0_0 inb_S512x128_S512x128_0_0 inb_S512x128_S512x128_0_0 inb_S512x256_S512x1_0_0 inb_S512x256_S512x1_0_128 inb_S512x128_S512x128_0_0
  have h3 : arg3.view.read (Elt Ideal) (harg3.unread x1) = R2 w.blk.K := (harg3.read_unread (Val := Elt Ideal) x1).trans h.e1
  have h4 : arg4.view.read (Elt Ideal) (harg4.unread x2) = R2 w.blk.V := (harg4.read_unread (Val := Elt Ideal) x2).trans h.e2
  have h6 : arg6.view.read (Elt Ideal) (harg6.unread x4) = R3 w.blk.ct := (harg6.read_unread (Val := Elt Ideal) x4).trans h.e4
  have hs : Holds ((k0_pay51 (F := Ideal), k0_pay52 (F := Ideal), k0_pay51 (F := Ideal), k0_pay52 (F := Ideal))) (arg13.view.read (Elt Ideal) (harg13.unread xo11)) (arg15.view.read (Elt Ideal) (harg15.unread xs0)) (arg16.view.read (Elt Ideal) (harg16.unread xs1)) x :=
    ⟨start x hx, (harg13.read_unread (Val := Elt Ideal) xo11).trans eo, (harg15.read_unread (Val := Elt Ideal) xs0).trans es0, (harg16.read_unread (Val := Elt Ideal) xs1).trans es1⟩
  have hl := loop Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) w.blk q hq ((k0_pay51 (F := Ideal), k0_pay52 (F := Ideal), k0_pay51 (F := Ideal), k0_pay52 (F := Ideal))) (harg13.unread xo11) (harg15.unread xs0) (harg16.unread xs1) ho h3 h4 h6 x hs (k0_t1_loop i).trips le_rfl
  have key := tail i arg3 arg4 arg6 arg13 arg15 arg16 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) (harg3.unread x1) (harg4.unread x2) (harg6.unread x4) (harg13.unread xo11) (harg15.unread xs0) (harg16.unread xs1)
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.1
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.1
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.2
    (st_k0_t2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (arg13.view.writes (Elt Ideal) (harg13.unread xo11) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.1) (arg15.view.writes (Elt Ideal) (harg15.unread xs0) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.1) (arg16.view.writes (Elt Ideal) (harg16.unread xs1) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).2.2.2) (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) (harg13.unread xo11) (harg15.unread xs0) (harg16.unread xs1) ((k0_pay51 (F := Ideal), k0_pay52 (F := Ideal), k0_pay51 (F := Ideal), k0_pay52 (F := Ideal))) (k0_t1_loop i).trips).1 (k0_t2_loop i).trips)
    _ (rest Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) k0_pay39 (k0_pay41 (F := Ideal) (View.readAt (Elt Ideal) arg2.view (Rect.unit (s := S512x128) ![0, 0] S512x128.size inb_S512x128_S512x128_0_0).toLoadRect (harg2.unread x0))) (k0_pay42 (F := Ideal) (View.readAt (Elt Ideal) arg2.view (Rect.unit (s := S512x128) ![0, 0] S512x128.size inb_S512x128_S512x128_0_0).toLoadRect (harg2.unread x0))) (k0_pay43 (F := Ideal) (View.readAt (Elt Ideal) arg9.view (Rect.unit (s := S512x128) ![0, 0] S512x128.size inb_S512x128_S512x128_0_0).toLoadRect (harg9.unread x7))) (k0_pay44 (F := Ideal) (View.readAt (Elt Ideal) arg9.view (Rect.unit (s := S512x128) ![0, 0] S512x128.size inb_S512x128_S512x128_0_0).toLoadRect (harg9.unread x7))) (k0_pay45 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5))) (k0_pay46 (F := Ideal) k0_pay38 (k0_pay40 (F := Ideal) (View.readAt (Elt Ideal) arg9.view (Rect.unit (s := S512x128) ![0, 0] S512x128.size inb_S512x128_S512x128_0_0).toLoadRect (harg9.unread x7)) (View.readAt (Elt Ideal) arg7.view (Rect.unit (s := S512x128) ![0, 0] S512x128.size inb_S512x128_S512x128_0_0).toLoadRect (harg7.unread x5)))) (k0_pay47 (F := Ideal) (BitVec.ofNat 32 (i 0).val) (View.readAt (Elt Ideal) arg5.view (Rect.unit (s := S512x128) ![0, 0] S512x128.size inb_S512x128_S512x128_0_0).toLoadRect (harg5.unread x3))) (k0_pay48 (F := Ideal) (BitVec.ofNat 32 (i 0).val) (View.readAt (Elt Ideal) arg5.view (Rect.unit (s := S512x128) ![0, 0] S512x128.size inb_S512x128_S512x128_0_0).toLoadRect (harg5.unread x3))) (k0_pay49 (F := Ideal) (View.readAt (Elt Ideal) arg8.view (Rect.unit (s := S512x256) ![0, 0] S512x1.size inb_S512x256_S512x1_0_0).toLoadRect (harg8.unread x6))) (k0_pay50 (F := Ideal) (View.readAt (Elt Ideal) arg8.view (Rect.unit (s := S512x256) ![0, 128] S512x1.size inb_S512x256_S512x1_0_128).toLoadRect (harg8.unread x6))) k0_pay51 k0_pay52 0#32 (Scalar.addi 0#32 (Scalar.muli (Scalar.divsi (Scalar.subi (BitVec.ofNat 32 (i 1).val) 0#32) 1#32) 1#32)) 1#32 (harg3.unread x1) (harg4.unread x2) (harg6.unread x4) _ _ _ _) w.blk q hq ho h3 h4 h6 x (k0_t1_loop i).trips ((trips_main i).trans hq.symm) hl
  obtain ⟨ha, hd, hm, hn⟩ := key
  obtain ⟨a0, a1, a2, a3⟩ := parts ha
  refine ⟨?_, ?_, ?_⟩
  rotate_left
  · refine (store_whole VO0_9 VO0_9.junk zero_off2 _ _ []).trans ?_
    refine Eq.trans ?_ (turn_dk _ _ hm)
    exact congrArg (k0_pay1 (F := Ideal)) (load_whole arg15.view _ zero_off2 _)
  · refine (store_whole VO0_10 VO0_10.junk zero_off2 _ _ []).trans ?_
    refine Eq.trans ?_ (turn_dv _ _ hn)
    exact congrArg (k0_pay2 (F := Ideal)) (load_whole arg16.view _ zero_off2 _)
  have e12 := put_dcq _ _ _ _ _ a1 a3
  refine ⟨?_, ?_, ?_, ?_, ?_⟩
  · refine (store_whole VO0_8 VO0_8.junk zero_off2 _ _ []).trans ?_
    exact (congrArg₂ (fun A B => k0_pay77 (F := Ideal) k0_pay38 A B) a0 a2).trans (put_dq _ _)
  · exact hd
  · refine (store_whole VO0_12 VO0_12.junk zero_off3 _ _ []).trans ?_
    exact e12
  · exact hm
  · exact hn

end Cert.KernelIdeal.Fox

end
-- ==== Proof.Fold.lean ====
/-
  THE POINTS IN ORDER: what each leaves, by going through the blocks of queries of a pair of heads.
-/
module

public import proofs.«01_k».proof.Proof.Blocks
public import proofs.«01_k».proof.Proof.PointA
public import proofs.«01_k».proof.Proof.PointB
public import proofs.«01_k».proof.Proof.PointC

@[expose] public section

set_option maxHeartbeats 4000000

noncomputable section

namespace Cert.KernelIdeal.Fox

open Cert.KernelIdeal Cert.KernelIdeal.Gen Idealize.ShloMosaic Idealize.ShloMosaic.ValueIdx
open Idealize.ShloMosaic.TcCoe
open _root_.Fox
open scoped BigOperators

variable (m : (ℓ : Loc nD τ sig) → Buf (Elt Ideal) ℓ) (c : Dev nD) (H : Fin 8 → Head)

/-- A pair's accumulators after block `i` of its queries. -/
def accAfter (h i : Fin 4) : Acc := (accOf (pair H h) i.val).upto (rowsOf (pair H h) i).blk i (i.val + 1)

/-- A point leaves the accumulators' contents. -/
abbrev Left (h i : Fin 4) (n : ℕ) (hn : n < cfg0.N) : Prop :=
  Ends (accAfter H h i) (outsAt0 m c n hn).1 (outsAt0 m c n hn).2.2.2.1 (outsAt0 m c n hn).2.2.2.2.1 (outsAt0 m c n hn).2.2.2.2.2.1 (outsAt0 m c n hn).2.2.2.2.2.2

variable {H} (hH : Held m c H)
include hH

/-- A pair's first point. -/
theorem left_A (h i : Fin 4) (t : Fin cfg0.N) (e : t.val = 4 * h.val + i.val) (h0 : i.val = 0) : Left m c H h i t.val t.isLt := by
  have hi := ins m c hH t h i e
  have hq : i.val = (grid0.coords t 1).val := by
    have := (at_point t).2.1
    omega
  have t0 : t.val % 4 = 0 := by omega
  have t1 : ¬ t.val % 4 = 3 := by omega
  obtain ⟨z1, z2, z3⟩ := accOf_zero (pair H h)
  have e0 : accOf (pair H h) i.val = accOf (pair H h) 0 := congrArg _ h0
  have K := ends_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcond0_0 t).mpr t0) (fun h => t1 ((hcond0_1 t).mp h)) (rowsOf (pair H h) i) (iblk m c 0 t) (iblk m c 1 t) (iblk m c 2 t) (iblk m c 3 t) (iblk m c 4 t) (iblk m c 5 t) (iblk m c 6 t) (iblk m c 7 t) hi i hq (accOf (pair H h) i.val) (accOf_fresh _ _)
    (e0 ▸ z1) (e0 ▸ z2) (e0 ▸ z3)
  have E := outsAt0_A m c t t0 t1
  exact ⟨(congrArg (·.1) E).trans K.dq, (congrArg (·.2.2.2.1) E).trans K.ct, (congrArg (·.2.2.2.2.1) E).trans K.cq, (congrArg (·.2.2.2.2.2.1) E).trans K.dk, (congrArg (·.2.2.2.2.2.2) E).trans K.dv⟩

/-- What the point before left is what the accumulators hold before the next block. -/
theorem carried (h i k : Fin 4) (n : ℕ) (hn : n < cfg0.N) (hk : i.val = k.val + 1) (L : Left m c H h k n hn) :
    (outsAt0 m c n hn).2.2.2.1 = R3 (accOf (pair H h) i.val).d ∧ (outsAt0 m c n hn).2.2.2.2.2.1 = R2 (accOf (pair H h) i.val).M
      ∧ (outsAt0 m c n hn).2.2.2.2.2.2 = R2 (accOf (pair H h) i.val).N := by
  obtain ⟨_, _, b1, b2, b3⟩ := block_end (pair H h) k
  rw [hk]
  exact ⟨L.ct.trans (congrArg R3 b1), L.dk.trans (congrArg R2 b2), L.dv.trans (congrArg R2 b3)⟩

/-- A point in between. -/
theorem left_B (h i k : Fin 4) (t : Fin cfg0.N) (e : t.val = 4 * h.val + i.val) (hk : i.val = k.val + 1) (h3 : ¬ i.val = 3)
    (L : Left m c H h k (t.val - 1) (Nat.lt_of_le_of_lt (Nat.sub_le _ _) t.isLt)) : Left m c H h i t.val t.isLt := by
  have hi := ins m c hH t h i e
  have hq : i.val = (grid0.coords t 1).val := by
    have := (at_point t).2.1
    omega
  have t0 : ¬ t.val % 4 = 0 := by omega
  have t1 : ¬ t.val % 4 = 3 := by omega
  obtain ⟨b1, b2, b3⟩ := carried m c hH h i k _ _ hk L
  have K := ends_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => t0 ((hcond0_0 t).mp h)) (fun h => t1 ((hcond0_1 t).mp h)) (rowsOf (pair H h) i) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 hi i hq (accOf (pair H h) i.val) (accOf_fresh _ _) b1 b2 b3
  have E := outsAt0_B m c t t0 t1
  exact ⟨(congrArg (·.1) E).trans K.dq, (congrArg (·.2.2.2.1) E).trans K.ct, (congrArg (·.2.2.2.2.1) E).trans K.cq, (congrArg (·.2.2.2.2.2.1) E).trans K.dk, (congrArg (·.2.2.2.2.2.2) E).trans K.dv⟩

/-- A pair's last point, which also stores the keys' and values' gradients. -/
theorem left_C (h i k : Fin 4) (t : Fin cfg0.N) (e : t.val = 4 * h.val + i.val) (hk : i.val = k.val + 1) (h3 : i.val = 3)
    (L : Left m c H h k (t.val - 1) (Nat.lt_of_le_of_lt (Nat.sub_le _ _) t.isLt)) : Left m c H h i t.val t.isLt
      ∧ (outsAt0 m c t.val t.isLt).2.1 = (R2 fun s l => (accAfter H h i).M l s) ∧ (outsAt0 m c t.val t.isLt).2.2.1 = (R2 fun s l => (accAfter H h i).N l s) := by
  have hi := ins m c hH t h i e
  have hq : i.val = (grid0.coords t 1).val := by
    have := (at_point t).2.1
    omega
  have t0 : ¬ t.val % 4 = 0 := by omega
  have t1 : t.val % 4 = 3 := by omega
  obtain ⟨b1, b2, b3⟩ := carried m c hH h i k _ _ hk L
  obtain ⟨K, K9, K10⟩ := ends_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => t0 ((hcond0_0 t).mp h)) ((hcond0_1 t).mpr t1) (rowsOf (pair H h) i) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 hi i hq (accOf (pair H h) i.val) (accOf_fresh _ _) b1 b2 b3
  have E := outsAt0_C m c t t0 t1
  exact ⟨⟨(congrArg (·.1) E).trans K.dq, (congrArg (·.2.2.2.1) E).trans K.ct, (congrArg (·.2.2.2.2.1) E).trans K.cq, (congrArg (·.2.2.2.2.2.1) E).trans K.dk, (congrArg (·.2.2.2.2.2.2) E).trans K.dv⟩, (congrArg (·.2.1) E).trans K9, (congrArg (·.2.2.1) E).trans K10⟩

/-- All points but a pair's last. -/
theorem left_first (h : Fin 4) : ∀ (i : ℕ) (hi : i < 3) (hn : 4 * h.val + i < cfg0.N), Left m c H h ⟨i, by omega⟩ (4 * h.val + i) hn := by
  intro i
  induction i with
  | zero => exact fun hi hn => left_A m c hH h ⟨0, by omega⟩ ⟨4 * h.val + 0, hn⟩ rfl rfl
  | succ i ih => exact fun hi hn => left_B m c hH h ⟨i + 1, by omega⟩ ⟨i, by omega⟩ ⟨4 * h.val + (i + 1), hn⟩ rfl rfl (by show ¬ i + 1 = 3; omega) (ih (by omega) (Nat.lt_of_succ_lt hn))

/-- A pair's last point. -/
theorem left_last (h : Fin 4) (hn : 4 * h.val + 3 < cfg0.N) : Left m c H h 3 (4 * h.val + 3) hn
      ∧ (outsAt0 m c (4 * h.val + 3) hn).2.1 = (R2 fun s l => (accAfter H h 3).M l s) ∧ (outsAt0 m c (4 * h.val + 3) hn).2.2.1 = (R2 fun s l => (accAfter H h 3).N l s) :=
  left_C m c hH h 3 ⟨2, by omega⟩ ⟨4 * h.val + 3, hn⟩ rfl rfl rfl (left_first m c hH h 2 (by omega) (Nat.lt_of_succ_lt hn))

/-- Every point. -/
theorem left (h i : Fin 4) (hn : 4 * h.val + i.val < cfg0.N) : Left m c H h i (4 * h.val + i.val) hn := by
  by_cases hi : i.val < 3
  · exact left_first m c hH h i.val hi hn
  · have e : i = 3 := Fin.ext (by show i.val = 3; omega)
    subst e
    exact (left_last m c hH h hn).1

/-- What a point leaves of the queries' gradients. -/
theorem out8 (h i : Fin 4) (hn : 4 * h.val + i.val < cfg0.N) : (outsAt0 m c (4 * h.val + i.val) hn).1 = R2 fun r l => (pair H h (hl l)).dq (pos i r) (dl l) :=
  (left m c hH h i hn).dq.trans (R2_congr (block_end (pair H h) i).1)

/-- What a pair's last point leaves of the keys' gradients. -/
theorem out9 (h : Fin 4) (hn : 4 * h.val + 3 < cfg0.N) : (outsAt0 m c (4 * h.val + 3) hn).2.1 = R2 fun s l => (pair H h (hl l)).dk s (dl l) :=
  (left_last m c hH h hn).2.1.trans (R2_congr fun s l => (congrFun (congrFun (block_end (pair H h) 3).2.2.2.1 l) s).trans ((accOf_four (pair H h)).2.1 l s))

/-- What it leaves of the values' gradients. -/
theorem out10 (h : Fin 4) (hn : 4 * h.val + 3 < cfg0.N) : (outsAt0 m c (4 * h.val + 3) hn).2.2.1 = R2 fun s l => (pair H h (hl l)).dv s (dl l) :=
  (left_last m c hH h hn).2.2.trans (R2_congr fun s l => (congrFun (congrFun (block_end (pair H h) 3).2.2.2.2 l) s).trans ((accOf_four (pair H h)).2.2 l s))

/-- What it leaves of the keys' decays' gradients. -/
theorem out11 (h : Fin 4) (hn : 4 * h.val + 3 < cfg0.N) : (outsAt0 m c (4 * h.val + 3) hn).2.2.2.1 = R3 fun a s => (pair H h a).dct s :=
  (left_last m c hH h hn).1.ct.trans (congrArg R3 (funext fun a => funext fun s => (congrFun (congrFun (block_end (pair H h) 3).2.2.1 a) s).trans ((accOf_four (pair H h)).1 a s)))

/-- What a point leaves of the queries' decays' gradients. -/
theorem out12 (h i : Fin 4) (hn : 4 * h.val + i.val < cfg0.N) : (outsAt0 m c (4 * h.val + i.val) hn).2.2.2.2.1
    = fun j : S1x512x128.Idx => ((if (j 2).val = 0 then (pair H h 0).dcq (pos i (j 1)) else if (j 2).val = 1 then (pair H h 1).dcq (pos i (j 1)) else 0 : ℝ) : EReal) := by
  refine (left m c hH h i hn).cq.trans (funext fun j => ?_)
  have e0 := (block_end (pair H h) i).2.1 0 (j 1)
  have e1 := (block_end (pair H h) i).2.1 1 (j 1)
  unfold accAfter
  rw [e0, e1]

end Cert.KernelIdeal.Fox

end
-- ==== Proof.Arrays.lean ====
/-
  THE ARRAYS the run leaves, entry by entry: each is the gradient of the head the entry's lane belongs to.
-/
module

public import proofs.«01_k».proof.Proof.Fold
public import proofs.«01_k».proof.Proof.Gen.KernelIdeal.Value

@[expose] public section

set_option maxHeartbeats 1000000

noncomputable section

namespace Cert.KernelIdeal.Fox

open Cert.KernelIdeal Cert.KernelIdeal.Gen Cert.KernelIdeal.Value Idealize.ShloMosaic Idealize.ShloMosaic.ValueIdx
open Idealize.ShloMosaic.TcCoe
open _root_.Fox
open scoped BigOperators

variable (m : (ℓ : Loc nD τ sig) → Buf (Elt Ideal) ℓ) (c : Dev nD) {H : Fin 8 → Head} (hH : Held m c H)

/-- A number below 16 is a point. -/
theorem is_point {n : ℕ} (h : n < 16) : n < cfg0.N := lt_of_lt_of_eq h N_0.symm

/-- The pair's head of a lane of the arrays. -/
theorem pair_eq (H : Fin 8 → Head) (p : Fin 4) (a : Fin 2) (h : Fin 8) (e : h.val = 2 * p.val + a.val) : pair H p a = H h :=
  congrArg H (Fin.ext e.symm)

include hH

theorem at8 (n : ℕ) (hn : n < cfg0.N) (p i : Fin 4) (e : n = 4 * p.val + i.val) : (outsAt0 m c n hn).1 = R2 fun r l => (pair H p (hl l)).dq (pos i r) (dl l) := by
  subst e; exact out8 m c hH p i hn

theorem at9 (n : ℕ) (hn : n < cfg0.N) (p : Fin 4) (e : n = 4 * p.val + 3) : (outsAt0 m c n hn).2.1 = R2 fun s l => (pair H p (hl l)).dk s (dl l) := by
  subst e; exact out9 m c hH p hn

theorem at10 (n : ℕ) (hn : n < cfg0.N) (p : Fin 4) (e : n = 4 * p.val + 3) : (outsAt0 m c n hn).2.2.1 = R2 fun s l => (pair H p (hl l)).dv s (dl l) := by
  subst e; exact out10 m c hH p hn

theorem at11 (n : ℕ) (hn : n < cfg0.N) (p : Fin 4) (e : n = 4 * p.val + 3) : (outsAt0 m c n hn).2.2.2.1 = R3 fun a s => (pair H p a).dct s := by
  subst e; exact out11 m c hH p hn

theorem at12 (n : ℕ) (hn : n < cfg0.N) (p i : Fin 4) (e : n = 4 * p.val + i.val) : (outsAt0 m c n hn).2.2.2.2.1
    = fun j : S1x512x128.Idx => ((if (j 2).val = 0 then (pair H p 0).dcq (pos i (j 1)) else if (j 2).val = 1 then (pair H p 1).dcq (pos i (j 1)) else 0 : ℝ) : EReal) := by
  subst e; exact out12 m c hH p i hn

/-- The queries' gradients. -/
theorem arr8 (i : S2048x512.Idx) (h : Fin 8) (d : Fin 64) (e : (i 1).val = 64 * h.val + d.val) : G8 m c i = ((H h).dq (i 0) d : EReal) := by
  have i0 : (i 0).val < 2048 := (i 0).isLt
  have hn : pt8Of i < cfg0.N := is_point (by show 1 * ((i 0).val / 512 - 0) + 4 * ((i 1).val / 128 - 0) < 16; omega)
  have key := at8 m c hH (pt8Of i) hn ⟨h.val / 2, by omega⟩ ⟨(i 0).val / 512, by omega⟩
    (by show 1 * ((i 0).val / 512 - 0) + 4 * ((i 1).val / 128 - 0) = 4 * (h.val / 2) + (i 0).val / 512; omega)
  unfold G8
  rw [dif_pos hn]
  refine (congrArg (fun o => o.1 (loc8Of i)) (outsAt0_sweep m c (pt8Of i) hn).symm).trans ((congrFun key (loc8Of i)).trans ?_)
  refine congrArg (fun x : ℝ => (x : EReal)) ?_
  have el : dl ⟨(i 1).val % 128, Nat.mod_lt _ (by decide)⟩ = d := Fin.ext (by show (i 1).val % 128 % 64 = d.val; omega)
  have ep : pos ⟨(i 0).val / 512, by omega⟩ ⟨(i 0).val % 512, Nat.mod_lt _ (by decide)⟩ = (i 0 : Fin 2048) := Fin.ext (by show 512 * ((i 0).val / 512) + (i 0).val % 512 = (i 0).val; omega)
  have eh : pair H ⟨h.val / 2, by omega⟩ (hl ⟨(i 1).val % 128, Nat.mod_lt _ (by decide)⟩) = H h := pair_eq H _ _ h (by show h.val = 2 * (h.val / 2) + (i 1).val % 128 / 64; omega)
  show (pair H _ (hl ⟨(i 1).val % 128, _⟩)).dq (pos ⟨(i 0).val / 512, _⟩ ⟨(i 0).val % 512, _⟩) (dl ⟨(i 1).val % 128, _⟩) = _
  rw [el, ep, eh]

/-- The keys' gradients. -/
theorem arr9 (i : S2048x512.Idx) (h : Fin 8) (d : Fin 64) (e : (i 1).val = 64 * h.val + d.val) : G9 m c i = ((H h).dk (i 0) d : EReal) := by
  have i0 : (i 0).val < 2048 := (i 0).isLt
  have hn : pt9Of i < cfg0.N := is_point (by show 4 * (4 * ((i 0).val / 2048 - 0) + 1 * ((i 1).val / 128 - 0)) + 3 < 16; omega)
  have key := at9 m c hH (pt9Of i) hn ⟨h.val / 2, by omega⟩
    (by show 4 * (4 * ((i 0).val / 2048 - 0) + 1 * ((i 1).val / 128 - 0)) + 3 = 4 * (h.val / 2) + 3; omega)
  unfold G9
  rw [dif_pos hn]
  refine (congrArg (fun o => o.2.1 (loc9Of i)) (outsAt0_sweep m c (pt9Of i) hn).symm).trans ((congrFun key (loc9Of i)).trans ?_)
  refine congrArg (fun x : ℝ => (x : EReal)) ?_
  have el : dl ⟨(i 1).val % 128, Nat.mod_lt _ (by decide)⟩ = d := Fin.ext (by show (i 1).val % 128 % 64 = d.val; omega)
  have ep : (⟨(i 0).val % 2048, Nat.mod_lt _ (by decide)⟩ : Fin 2048) = (i 0 : Fin 2048) := Fin.ext (by show (i 0).val % 2048 = (i 0).val; omega)
  have eh : pair H ⟨h.val / 2, by omega⟩ (hl ⟨(i 1).val % 128, Nat.mod_lt _ (by decide)⟩) = H h := pair_eq H _ _ h (by show h.val = 2 * (h.val / 2) + (i 1).val % 128 / 64; omega)
  show (pair H _ (hl ⟨(i 1).val % 128, _⟩)).dk ⟨(i 0).val % 2048, _⟩ (dl ⟨(i 1).val % 128, _⟩) = _
  rw [el, ep, eh]

/-- The values' gradients. -/
theorem arr10 (i : S2048x512.Idx) (h : Fin 8) (d : Fin 64) (e : (i 1).val = 64 * h.val + d.val) : G10 m c i = ((H h).dv (i 0) d : EReal) := by
  have i0 : (i 0).val < 2048 := (i 0).isLt
  have hn : pt10Of i < cfg0.N := is_point (by show 4 * (4 * ((i 0).val / 2048 - 0) + 1 * ((i 1).val / 128 - 0)) + 3 < 16; omega)
  have key := at10 m c hH (pt10Of i) hn ⟨h.val / 2, by omega⟩
    (by show 4 * (4 * ((i 0).val / 2048 - 0) + 1 * ((i 1).val / 128 - 0)) + 3 = 4 * (h.val / 2) + 3; omega)
  unfold G10
  rw [dif_pos hn]
  refine (congrArg (fun o => o.2.2.1 (loc10Of i)) (outsAt0_sweep m c (pt10Of i) hn).symm).trans ((congrFun key (loc10Of i)).trans ?_)
  refine congrArg (fun x : ℝ => (x : EReal)) ?_
  have el : dl ⟨(i 1).val % 128, Nat.mod_lt _ (by decide)⟩ = d := Fin.ext (by show (i 1).val % 128 % 64 = d.val; omega)
  have ep : (⟨(i 0).val % 2048, Nat.mod_lt _ (by decide)⟩ : Fin 2048) = (i 0 : Fin 2048) := Fin.ext (by show (i 0).val % 2048 = (i 0).val; omega)
  have eh : pair H ⟨h.val / 2, by omega⟩ (hl ⟨(i 1).val % 128, Nat.mod_lt _ (by decide)⟩) = H h := pair_eq H _ _ h (by show h.val = 2 * (h.val / 2) + (i 1).val % 128 / 64; omega)
  show (pair H _ (hl ⟨(i 1).val % 128, _⟩)).dv ⟨(i 0).val % 2048, _⟩ (dl ⟨(i 1).val % 128, _⟩) = _
  rw [el, ep, eh]

/-- The gradients of the keys' decays. -/
theorem arr11 (i : S4x2x2048.Idx) (h : Fin 8) (e : h.val = 2 * (i 0).val + (i 1).val) : G11 m c i = ((H h).dct (i 2) : EReal) := by
  have i0 : (i 0).val < 4 := (i 0).isLt
  have i1 : (i 1).val < 2 := (i 1).isLt
  have i2 : (i 2).val < 2048 := (i 2).isLt
  have hn : pt11Of i < cfg0.N := is_point (by show 4 * (1 * ((i 0).val / 1 - 0) + 1 * ((i 1).val / 2 - 0) + 1 * ((i 2).val / 2048 - 0)) + 3 < 16; omega)
  have key := at11 m c hH (pt11Of i) hn ⟨(i 0).val, i0⟩
    (by show 4 * (1 * ((i 0).val / 1 - 0) + 1 * ((i 1).val / 2 - 0) + 1 * ((i 2).val / 2048 - 0)) + 3 = 4 * (i 0).val + 3; omega)
  unfold G11
  rw [dif_pos hn]
  refine (congrArg (fun o => o.2.2.2.1 (loc11Of i)) (outsAt0_sweep m c (pt11Of i) hn).symm).trans ((congrFun key (loc11Of i)).trans ?_)
  refine congrArg (fun x : ℝ => (x : EReal)) ?_
  have ep : (⟨(i 2).val % 2048, Nat.mod_lt _ (by decide)⟩ : Fin 2048) = (i 2 : Fin 2048) := Fin.ext (by show (i 2).val % 2048 = (i 2).val; omega)
  have eh : pair H ⟨(i 0).val, i0⟩ ⟨(i 1).val % 2, Nat.mod_lt _ (by decide)⟩ = H h := pair_eq H _ _ h (by show h.val = 2 * (i 0).val + (i 1).val % 2; omega)
  show (pair H ⟨(i 0).val, _⟩ ⟨(i 1).val % 2, _⟩).dct ⟨(i 2).val % 2048, _⟩ = _
  rw [ep, eh]

/-- The gradients of the queries' decays, at the first two lanes. -/
theorem arr12 (i : S4x2048x128.Idx) (g : Fin 2 → Fin 8) (e : ∀ a, (g a).val = 2 * (i 0).val + a.val) :
    G12 m c i = ((if (i 2).val = 0 then (H (g 0)).dcq (i 1) else if (i 2).val = 1 then (H (g 1)).dcq (i 1) else 0 : ℝ) : EReal) := by
  have i0 : (i 0).val < 4 := (i 0).isLt
  have i1 : (i 1).val < 2048 := (i 1).isLt
  have i2 : (i 2).val < 128 := (i 2).isLt
  have hn : pt12Of i < cfg0.N := is_point (by show 4 * ((i 0).val / 1 - 0) + 1 * ((i 1).val / 512 - 0) + 1 * ((i 2).val / 128 - 0) < 16; omega)
  have key := at12 m c hH (pt12Of i) hn ⟨(i 0).val, i0⟩ ⟨(i 1).val / 512, by omega⟩
    (by show 4 * ((i 0).val / 1 - 0) + 1 * ((i 1).val / 512 - 0) + 1 * ((i 2).val / 128 - 0) = 4 * (i 0).val + (i 1).val / 512; omega)
  unfold G12
  rw [dif_pos hn]
  refine (congrArg (fun o => o.2.2.2.2.1 (loc12Of i)) (outsAt0_sweep m c (pt12Of i) hn).symm).trans ((congrFun key (loc12Of i)).trans ?_)
  refine congrArg (fun x : ℝ => (x : EReal)) ?_
  have ep : pos ⟨(i 1).val / 512, by omega⟩ ⟨(i 1).val % 512, Nat.mod_lt _ (by decide)⟩ = (i 1 : Fin 2048) := Fin.ext (by show 512 * ((i 1).val / 512) + (i 1).val % 512 = (i 1).val; omega)
  have e0 : pair H ⟨(i 0).val, i0⟩ 0 = H (g 0) := pair_eq H _ _ _ (e 0)
  have e1 : pair H ⟨(i 0).val, i0⟩ 1 = H (g 1) := pair_eq H _ _ _ (e 1)
  have el : (i 2).val % 128 = (i 2).val := Nat.mod_eq_of_lt i2
  show (if (i 2).val % 128 = 0 then (pair H ⟨(i 0).val, _⟩ 0).dcq (pos ⟨(i 1).val / 512, _⟩ ⟨(i 1).val % 512, _⟩) else if (i 2).val % 128 = 1 then (pair H ⟨(i 0).val, _⟩ 1).dcq (pos ⟨(i 1).val / 512, _⟩ ⟨(i 1).val % 512, _⟩) else 0) = _
  rw [el, ep, e0, e1]

end Cert.KernelIdeal.Fox

end
-- ==== Proof.Equation.lean ====
/-
  The kernel's five arrays are the reference's.
-/
module

public import proofs.«01_k».proof.Proof.HostValue
public import proofs.«01_k».proof.Proof.Arrays

@[expose] public section

set_option maxHeartbeats 1000000

noncomputable section

namespace Cert.KernelIdeal.Fox

open Cert.KernelIdeal Cert.KernelIdeal.Gen Cert.KernelIdeal.Value Idealize.ShloMosaic Idealize.ShloMosaic.ValueIdx
open Idealize.ShloMosaic.TcCoe
open _root_.Fox Cert.ReferenceIdeal.Read

variable (m : (ℓ : Loc nD τ sig) → Buf (Elt Ideal) ℓ) (c : Dev nD)
variable (R : Reals (m ((c : Thread nD τ).loc main_arg0)) (m ((c : Thread nD τ).loc main_arg1)) (m ((c : Thread nD τ).loc main_arg2)))
include R

/-- The queries' gradients are the reference's. -/
theorem eq8 : val_main_v96 (F := Ideal) (m ((c : Thread nD τ).loc main_arg0)) (m ((c : Thread nD τ).loc main_arg1)) (m ((c : Thread nD τ).loc main_arg2)) = G8 m c :=
  funext fun i : S2048x512.Idx => by
    have h1 : (i 1).val < 512 := (i 1).isLt
    exact (Cert.ReferenceIdeal.Fox.dq R i ⟨(i 1).val / 64, by omega⟩ ⟨(i 1).val % 64, by omega⟩ (Nat.div_add_mod _ 64).symm).trans
      (arr8 m c (held m c R) i ⟨(i 1).val / 64, by omega⟩ ⟨(i 1).val % 64, by omega⟩ (Nat.div_add_mod _ 64).symm).symm

/-- The keys' gradients are the reference's. -/
theorem eq9 : val_main_v97 (F := Ideal) (m ((c : Thread nD τ).loc main_arg0)) (m ((c : Thread nD τ).loc main_arg1)) (m ((c : Thread nD τ).loc main_arg2)) = G9 m c :=
  funext fun i : S2048x512.Idx => by
    have h1 : (i 1).val < 512 := (i 1).isLt
    exact (Cert.ReferenceIdeal.Fox.dk R i ⟨(i 1).val / 64, by omega⟩ ⟨(i 1).val % 64, by omega⟩ (Nat.div_add_mod _ 64).symm).trans
      (arr9 m c (held m c R) i ⟨(i 1).val / 64, by omega⟩ ⟨(i 1).val % 64, by omega⟩ (Nat.div_add_mod _ 64).symm).symm

/-- The values' gradients are the reference's. -/
theorem eq10 : val_main_v98 (F := Ideal) (m ((c : Thread nD τ).loc main_arg0)) (m ((c : Thread nD τ).loc main_arg1)) (m ((c : Thread nD τ).loc main_arg2)) = G10 m c :=
  funext fun i : S2048x512.Idx => by
    have h1 : (i 1).val < 512 := (i 1).isLt
    exact (Cert.ReferenceIdeal.Fox.dv R i ⟨(i 1).val / 64, by omega⟩ ⟨(i 1).val % 64, by omega⟩ (Nat.div_add_mod _ 64).symm).trans
      (arr10 m c (held m c R) i ⟨(i 1).val / 64, by omega⟩ ⟨(i 1).val % 64, by omega⟩ (Nat.div_add_mod _ 64).symm).symm

/-- The decays' gradients as keys are the reference's. -/
theorem eq11 : val_main_v100 (F := Ideal) (m ((c : Thread nD τ).loc main_arg0)) (m ((c : Thread nD τ).loc main_arg1)) (m ((c : Thread nD τ).loc main_arg2)) = G11 m c :=
  funext fun i : S4x2x2048.Idx => by
    have h0 : (i 0).val < 4 := (i 0).isLt
    have h1 : (i 1).val < 2 := (i 1).isLt
    exact (Cert.ReferenceIdeal.Fox.dct R i ⟨2 * (i 0).val + (i 1).val, by omega⟩ rfl).trans
      (arr11 m c (held m c R) i ⟨2 * (i 0).val + (i 1).val, by omega⟩ rfl).symm

/-- The decays' gradients as queries are the reference's. -/
theorem eq12 : val_main_v103 (F := Ideal) (m ((c : Thread nD τ).loc main_arg0)) (m ((c : Thread nD τ).loc main_arg1)) (m ((c : Thread nD τ).loc main_arg2)) = G12 m c :=
  funext fun i : S4x2048x128.Idx => by
    have h0 : (i 0).val < 4 := (i 0).isLt
    refine (Cert.ReferenceIdeal.Fox.dcq R i (fun a => ⟨2 * (i 0).val + a.val, by have := a.isLt; omega⟩) (fun _ => rfl)).trans
      (Eq.trans ?_ (arr12 m c (held m c R) i (fun a => ⟨2 * (i 0).val + a.val, by have := a.isLt; omega⟩) (fun _ => rfl)).symm)
    split_ifs
    · rfl
    · rfl
    · rfl

end Cert.KernelIdeal.Fox

end
-- ==== Proof.Grads.lean ====
/-
  THE GRADIENTS OF THE FEED-FORWARD WEIGHTS: each device's block holds 512 rows of the first weights' gradient (transposed) and
  512 rows of the second's; each entry is one sum over the 2048 tokens. The kernel forms the sums block by block, the
  reference as two whole products, cut and set beside each other.
-/
module

public import proofs.«01_k».proof.Proof.Gen.GradsKernelIdeal.Value
public import proofs.«01_k».proof.Proof.Gen.GradsReferenceIdeal.Read
public import Idealize.ShloMosaic.Lib.ValueIdx
public import Idealize.ShloMosaic.PureOps.Ideal.Laws

@[expose] public section

noncomputable section

namespace Cert.GradsKernelIdeal.Fox

open Cert.GradsKernelIdeal Cert.GradsKernelIdeal.Gen Cert.GradsKernelIdeal.Value Idealize.ShloMosaic Idealize.ShloMosaic.ValueIdx
open Idealize.ShloMosaic.TcCoe
open scoped BigOperators

/-- Entry `(a, b)` of the product of the columns of `P` with those of `Q`: a sum over the tokens. -/
def pair (P : S2048x4096.Idx → EReal) (Q : S2048x1024.Idx → EReal) (a : Fin 4096) (b : Fin 1024) : EReal :=
  ∑ k : Fin 2048, P (ix2 k a) * Q (ix2 k b)

/-- The gathered gradients: block `i 0` holds rows `512 (i 0) …` of the first product, then the same rows of the second. -/
def gathered (A : S2048x4096.Idx → EReal) (B : S2048x1024.Idx → EReal) (C : S2048x4096.Idx → EReal) (E : S2048x1024.Idx → EReal)
    (b : Fin 8) (r : Fin 1024) (l : Fin 1024) : EReal :=
  if h : r.val < 512 then pair A B ⟨512 * b.val + r.val, by omega⟩ l else pair C E ⟨512 * b.val + (r.val - 512), by omega⟩ l

theorem gathered_low (A B C E) (b : Fin 8) (r : Fin 1024) (l : Fin 1024) (h : r.val < 512) (a : Fin 4096) (ha : a.val = 512 * b.val + r.val) :
    gathered A B C E b r l = pair A B a l := by
  unfold gathered; rw [dif_pos h]; exact congrArg (fun x => pair A B x l) (Fin.ext ha.symm)

theorem gathered_high (A B C E) (b : Fin 8) (r : Fin 1024) (l : Fin 1024) (h : ¬ r.val < 512) (a : Fin 4096) (ha : a.val = 512 * b.val + (r.val - 512)) :
    gathered A B C E b r l = pair C E a l := by
  unfold gathered; rw [dif_neg h]; exact congrArg (fun x => pair C E x l) (Fin.ext ha.symm)

/-! ## The kernel's blocks -/

/-- One entry of the product a point forms. -/
theorem product_apply (x : Vec Ideal S2048x512 .bf16) (y : Vec Ideal S2048x1024 .bf16) (j : S512x1024.Idx) :
    matmul (F := Ideal) (φ₁ := .bf16) (φ₂ := .bf16) dot_S2048x512_S2048x1024_S512x1024_0_0_1_1_n_n none x y (constant S512x1024 .f32 0x00000000#32) j
      = ∑ k : Fin 2048, x (ix2 k (j 0)) * y (ix2 k (j 1)) := by
  refine (Ideal.matmul_constant_zero_apply (φ₁ := .bf16) (φ₂ := .bf16) _ none _ _ j).trans ?_
  rw [← Equiv.sum_comp (contrEquiv1 dot_S2048x512_S2048x1024_S512x1024_0_0_1_1_n_n 2048 rfl rfl).symm]
  refine Finset.sum_congr rfl fun k _ => ?_
  have hk := contrEquiv1_symm_val dot_S2048x512_S2048x1024_S512x1024_0_0_1_1_n_n 2048 rfl rfl k
  refine congrArg₂ (· * ·) (congrArg x ?_) (congrArg y ?_)
  · funext a
    match a with
    | ⟨0, _⟩ => exact Fin.ext hk
    | ⟨1, _⟩ => exact Fin.ext rfl
  · funext a
    match a with
    | ⟨0, _⟩ => exact Fin.ext hk
    | ⟨1, _⟩ => exact Fin.ext rfl

/-- The first half of a block, entry by entry. -/
theorem pay1_apply (x : Vec Ideal S2048x512 .bf16) (y : Vec Ideal S2048x1024 .bf16) (j : S1x512x1024.Idx) :
    k0_pay1 (F := Ideal) x y j = ∑ k : Fin 2048, x (ix2 k (j 1)) * y (ix2 k (j 2)) := by
  unfold k0_pay1
  refine (shapeCast_apply _ shapeCasts_S512x1024_S1x512x1024 j (ix2 (j 1) (j 2)) ?_).trans ?_
  · rewrite [Shape.rowMajor_val_two, Shape.rowMajor_val_three]
    have h0 : (j 0).val < 1 := (j 0).isLt
    show (j 1).val * 1024 + (j 2).val = ((j 0).val * 512 + (j 1).val) * 1024 + (j 2).val
    omega
  · exact product_apply x y (ix2 (j 1) (j 2))

/-- The second half of a block, entry by entry. -/
theorem pay2_apply (x : Vec Ideal S2048x512 .bf16) (y : Vec Ideal S2048x1024 .bf16) (j : S1x512x1024.Idx) :
    k0_pay2 (F := Ideal) x y j = ∑ k : Fin 2048, x (ix2 k (j 1)) * y (ix2 k (j 2)) := pay1_apply x y j

/-- A load of a whole block of columns. -/
theorem ld_cols (x : Vec Ideal S2048x512 .bf16) : View.ld x r0_0 = x := by
  funext j
  refine congrArg x ?_
  funext a
  match a with
  | ⟨0, _⟩ => exact Fin.ext (by show 0 + 1 * (j 0).val = (j 0).val; omega)
  | ⟨1, _⟩ => exact Fin.ext (by show 0 + 1 * (j 1).val = (j 1).val; omega)

/-- A load of a whole array. -/
theorem ld_whole (x : Vec Ideal S2048x1024 .bf16) : View.ld x r0_1 = x := by
  funext j
  refine congrArg x ?_
  funext a
  match a with
  | ⟨0, _⟩ => exact Fin.ext (by show 0 + 1 * (j 0).val = (j 0).val; omega)
  | ⟨1, _⟩ => exact Fin.ext (by show 0 + 1 * (j 1).val = (j 1).val; omega)

/-- The first 512 rows of the block a point leaves. -/
theorem out_low (x0 : Vec Ideal S2048x512 .bf16) (x1 : Vec Ideal S2048x1024 .bf16) (x2 : Vec Ideal S2048x512 .bf16) (x3 : Vec Ideal S2048x1024 .bf16)
    (r : Fin 512) (l : Fin 1024) (j : S1x1024x1024.Idx) (h1 : (j 1).val = r.val) (h2 : (j 2).val = l.val) :
    out0_4 x0 x1 x2 x3 j = ∑ k : Fin 2048, x0 (ix2 k r) * x1 (ix2 k l) := by
  unfold out0_4
  rw [ld_cols, ld_cols, ld_whole, ld_whole]
  have hr : r.val < 512 := r.isLt
  have h0 : (j 0).val < 1 := (j 0).isLt
  have e : j = r0_2.emb (ix3 (0 : Fin 1) r l : S1x512x1024.Idx) := by
    funext a
    match a with
    | ⟨0, _⟩ => exact Fin.ext (by show (j 0).val = 0 + 1 * 0; omega)
    | ⟨1, _⟩ => exact Fin.ext (by show (j 1).val = 0 + 1 * r.val; omega)
    | ⟨2, _⟩ => exact Fin.ext (by show (j 2).val = 0 + 1 * l.val; omega)
  refine (View.canon_cons_of_not_mem _ _ ?_).trans ?_
  · exact Rect.not_mem_set_of_axis r0_3 j (1 : Fin 3) 512 512 rfl rfl rfl (Or.inl (by omega))
  · subst e
    exact (View.canon_cons_emb r0_2 _ [] (ix3 (0 : Fin 1) r l : S1x512x1024.Idx)).trans (pay1_apply x0 x1 _)

/-- The last 512 rows of the block a point leaves. -/
theorem out_high (x0 : Vec Ideal S2048x512 .bf16) (x1 : Vec Ideal S2048x1024 .bf16) (x2 : Vec Ideal S2048x512 .bf16) (x3 : Vec Ideal S2048x1024 .bf16)
    (r : Fin 512) (l : Fin 1024) (j : S1x1024x1024.Idx) (h1 : (j 1).val = 512 + r.val) (h2 : (j 2).val = l.val) :
    out0_4 x0 x1 x2 x3 j = ∑ k : Fin 2048, x2 (ix2 k r) * x3 (ix2 k l) := by
  unfold out0_4
  rw [ld_cols, ld_cols, ld_whole, ld_whole]
  have h0 : (j 0).val < 1 := (j 0).isLt
  have e : j = r0_3.emb (ix3 (0 : Fin 1) r l : S1x512x1024.Idx) := by
    funext a
    match a with
    | ⟨0, _⟩ => exact Fin.ext (by show (j 0).val = 0 + 1 * 0; omega)
    | ⟨1, _⟩ => exact Fin.ext (by show (j 1).val = 512 + 1 * r.val; omega)
    | ⟨2, _⟩ => exact Fin.ext (by show (j 2).val = 0 + 1 * l.val; omega)
  subst e
  exact (View.canon_cons_emb r0_3 _ _ (ix3 (0 : Fin 1) r l : S1x512x1024.Idx)).trans (pay2_apply x2 x3 _)

/-! ## The blocks the points read and write -/

/-- Point `t` reads block `t` of the columns and the whole of the other arrays, and writes block `t`. -/
theorem at_point : ∀ t : Fin grid0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 := by decide +kernel

variable (m : (ℓ : Loc nD τ sig) → Buf (Elt Ideal) ℓ) (c : Dev nD)

theorem cut0 (t : Fin cfg0.N) (j : S2048x512.Idx) (X : (b : Ref sig .tc) → Buf (Elt Ideal) ((c : Thread nD τ).loc b)) (k : S2048x4096.Idx)
    (h0 : (k 0).val = (j 0).val) (h1 : (k 1).val = 512 * t.val + (j 1).val) :
    ((cfg0.win 0).blk t).view.read (Elt Ideal) (X (Pipeline.arrRef spec0 0)) j = X main_arg0 k := by
  have e : ((cfg0.win 0).blk t).view.emb j = k := by
    have p := at_point t
    funext a
    match a with
    | ⟨0, _⟩ => exact Fin.ext (by show win0_0.index t (0 : Fin 2) * 2048 + 1 * (j 0).val = (k 0).val; omega)
    | ⟨1, _⟩ => exact Fin.ext (by show win0_0.index t (1 : Fin 2) * 512 + 1 * (j 1).val = (k 1).val; omega)
  exact congrArg (X main_arg0) e

theorem cut1 (t : Fin cfg0.N) (j : S2048x1024.Idx) (X : (b : Ref sig .tc) → Buf (Elt Ideal) ((c : Thread nD τ).loc b)) :
    ((cfg0.win 1).blk t).view.read (Elt Ideal) (X (Pipeline.arrRef spec0 1)) j = X main_arg1 j := by
  have e : ((cfg0.win 1).blk t).view.emb j = j := by
    have p := at_point t
    funext a
    match a with
    | ⟨0, _⟩ => exact Fin.ext (by show win0_1.index t (0 : Fin 2) * 2048 + 1 * (j 0).val = (j 0).val; omega)
    | ⟨1, _⟩ => exact Fin.ext (by show win0_1.index t (1 : Fin 2) * 1024 + 1 * (j 1).val = (j 1).val; omega)
  exact congrArg (X main_arg1) e

theorem cut2 (t : Fin cfg0.N) (j : S2048x512.Idx) (X : (b : Ref sig .tc) → Buf (Elt Ideal) ((c : Thread nD τ).loc b)) (k : S2048x4096.Idx)
    (h0 : (k 0).val = (j 0).val) (h1 : (k 1).val = 512 * t.val + (j 1).val) :
    ((cfg0.win 2).blk t).view.read (Elt Ideal) (X (Pipeline.arrRef spec0 2)) j = X main_arg2 k := by
  have e : ((cfg0.win 2).blk t).view.emb j = k := by
    have p := at_point t
    funext a
    match a with
    | ⟨0, _⟩ => exact Fin.ext (by show win0_2.index t (0 : Fin 2) * 2048 + 1 * (j 0).val = (k 0).val; omega)
    | ⟨1, _⟩ => exact Fin.ext (by show win0_2.index t (1 : Fin 2) * 512 + 1 * (j 1).val = (k 1).val; omega)
  exact congrArg (X main_arg2) e

theorem cut3 (t : Fin cfg0.N) (j : S2048x1024.Idx) (X : (b : Ref sig .tc) → Buf (Elt Ideal) ((c : Thread nD τ).loc b)) :
    ((cfg0.win 3).blk t).view.read (Elt Ideal) (X (Pipeline.arrRef spec0 3)) j = X main_arg3 j := by
  have e : ((cfg0.win 3).blk t).view.emb j = j := by
    have p := at_point t
    funext a
    match a with
    | ⟨0, _⟩ => exact Fin.ext (by show win0_3.index t (0 : Fin 2) * 2048 + 1 * (j 0).val = (j 0).val; omega)
    | ⟨1, _⟩ => exact Fin.ext (by show win0_3.index t (1 : Fin 2) * 1024 + 1 * (j 1).val = (j 1).val; omega)
  exact congrArg (X main_arg3) e

/-- Window 0's block: 512 columns of the first array. -/
theorem read0 (t : Fin cfg0.N) (j : S2048x512.Idx) (k : S2048x4096.Idx) (h0 : (k 0).val = (j 0).val) (h1 : (k 1).val = 512 * t.val + (j 1).val) :
    iblk m c 0 t j = m ((c : Thread nD τ).loc main_arg0) k := by
  rw [← V_main_arg0 m c]; unfold iblk; exact cut0 c t j (fun b => V m c b) k h0 h1

/-- Window 1's block: the second array. -/
theorem read1 (t : Fin cfg0.N) (j : S2048x1024.Idx) : iblk m c 1 t j = m ((c : Thread nD τ).loc main_arg1) j := by
  rw [← V_main_arg1 m c]; unfold iblk; exact cut1 c t j (fun b => V m c b)

/-- Window 2's block: 512 columns of the third array. -/
theorem read2 (t : Fin cfg0.N) (j : S2048x512.Idx) (k : S2048x4096.Idx) (h0 : (k 0).val = (j 0).val) (h1 : (k 1).val = 512 * t.val + (j 1).val) :
    iblk m c 2 t j = m ((c : Thread nD τ).loc main_arg2) k := by
  rw [← V_main_arg2 m c]; unfold iblk; exact cut2 c t j (fun b => V m c b) k h0 h1

/-- Window 3's block: the fourth array. -/
theorem read3 (t : Fin cfg0.N) (j : S2048x1024.Idx) : iblk m c 3 t j = m ((c : Thread nD τ).loc main_arg3) j := by
  rw [← V_main_arg3 m c]; unfold iblk; exact cut3 c t j (fun b => V m c b)

/-- Block `t` of the output array, entry by entry. -/
theorem place4 (t : Fin cfg0.N) (X : S8x1024x1024.Idx → EReal) (j : S1x1024x1024.Idx) (i : S8x1024x1024.Idx) (h0 : (i 0).val = t.val) (h1 : (i 1).val = (j 1).val) (h2 : (i 2).val = (j 2).val) :
    ((cfg0.win 4).blk t).view.read (Elt Ideal) X j = X i := by
  have e : ((cfg0.win 4).blk t).view.emb j = i := by
    have p := at_point t
    have hj : (j 0).val < 1 := (j 0).isLt
    funext a
    match a with
    | ⟨0, _⟩ => exact Fin.ext (by show win0_4.index t (0 : Fin 3) * 1 + 1 * (j 0).val = (i 0).val; omega)
    | ⟨1, _⟩ => exact Fin.ext (by show win0_4.index t (1 : Fin 3) * 1024 + 1 * (j 1).val = (i 1).val; omega)
    | ⟨2, _⟩ => exact Fin.ext (by show win0_4.index t (2 : Fin 3) * 1024 + 1 * (j 2).val = (i 2).val; omega)
  exact congrArg X e

/-- What point `t` writes back is the whole block it leaves. -/
theorem whole4 (t : Fin cfg0.N) (o : Vec Ideal S1x1024x1024 .bf16) (j : S1x1024x1024.Idx) : (cfg0.win 4).cut (grid0.coords t) o j = o j := rfl

/-- The array the run leaves holds the gathered gradients. -/
theorem value (i : S8x1024x1024.Idx) :
    (dats m 0 c).arrAt 4 cfg0.N i
      = gathered (m ((c : Thread nD τ).loc main_arg0)) (m ((c : Thread nD τ).loc main_arg1)) (m ((c : Thread nD τ).loc main_arg2)) (m ((c : Thread nD τ).loc main_arg3)) (i 0) (i 1) (i 2) := by
  have i0 : (i 0).val < 8 := (i 0).isLt
  have i1 : (i 1).val < 1024 := (i 1).isLt
  have hN : (i 0).val < cfg0.N := lt_of_lt_of_eq i0 (by decide +kernel : (8 : ℕ) = grid0.N)
  let t : Fin cfg0.N := ⟨(i 0).val, hN⟩
  let j : S1x1024x1024.Idx := ix3 (0 : Fin 1) (i 1) (i 2)
  refine (place4 t ((dats m 0 c).arrAt 4 cfg0.N) j i rfl rfl rfl).symm.trans ?_
  rw [blocks4 m c t (flush0_4 t), flushed4]
  refine (whole4 t _ j).trans ?_
  by_cases h : (i 1).val < 512
  · rw [gathered_low _ _ _ _ (i 0) (i 1) (i 2) h ⟨512 * (i 0).val + (i 1).val, by omega⟩ rfl]
    refine (out_low _ _ _ _ ⟨(i 1).val, h⟩ (i 2) j rfl rfl).trans ?_
    refine Finset.sum_congr rfl fun k _ => congrArg₂ (· * ·) ?_ ?_
    · exact read0 m c t _ _ rfl rfl
    · exact read1 m c t _
  · rw [gathered_high _ _ _ _ (i 0) (i 1) (i 2) h ⟨512 * (i 0).val + ((i 1).val - 512), by omega⟩ rfl]
    refine (out_high _ _ _ _ ⟨(i 1).val - 512, by omega⟩ (i 2) j (by show (i 1).val = 512 + ((i 1).val - 512); omega) rfl).trans ?_
    refine Finset.sum_congr rfl fun k _ => congrArg₂ (· * ·) ?_ ?_
    · exact read2 m c t _ _ rfl rfl
    · exact read3 m c t _

/-! ## The reference -/

/-- The reference's array holds the gathered gradients. -/
theorem reference (A : S2048x4096.Idx → EReal) (B : S2048x1024.Idx → EReal) (C : S2048x4096.Idx → EReal) (E : S2048x1024.Idx → EReal) (i : S8x1024x1024.Idx) :
    Cert.GradsReferenceIdeal.Read.val_main_v16 (F := Ideal) A B C E i = gathered A B C E (i 0) (i 1) (i 2) := by
  have i0 : (i 0).val < 8 := (i 0).isLt
  have i1 : (i 1).val < 1024 := (i 1).isLt
  have i2 : (i 2).val < 1024 := (i 2).isLt
  show Cert.GradsReferenceIdeal.Read.val_main_v15 (F := Ideal) A B C E i = _
  unfold Cert.GradsReferenceIdeal.Read.val_main_v15
  by_cases h : (i 1).val < 512
  · rw [gathered_low _ _ _ _ (i 0) (i 1) (i 2) h ⟨512 * (i 0).val + (i 1).val, by omega⟩ rfl]
    refine (concatenate_pair_apply_left (s₁ := ⟨3, ![8, 512, 1024]⟩) _ _ _ _ i rfl (ix3 (⟨(i 0).val, i0⟩ : Fin 8) (⟨(i 1).val, h⟩ : Fin 512) (⟨(i 2).val, i2⟩ : Fin 1024)) (fun b => match b with | ⟨0, _⟩ => rfl | ⟨1, _⟩ => rfl | ⟨2, _⟩ => rfl)).trans ?_
    rw [Cert.GradsReferenceIdeal.Read.val_main_v13_apply, Cert.GradsReferenceIdeal.Read.val_main_v12_apply, Cert.GradsReferenceIdeal.Read.val_main_v5_apply, Cert.GradsReferenceIdeal.Read.val_main_v4_apply]
    refine Finset.sum_congr rfl fun k _ => congrArg₂ (· * ·) (congrArg A ?_) (congrArg B ?_)
    · funext a
      match a with
      | ⟨0, _⟩ => exact Fin.ext rfl
      | ⟨1, _⟩ => exact Fin.ext (by show (((i 0).val * 512 + (i 1).val) * 1024 + (i 2).val) / 1024 = 512 * (i 0).val + (i 1).val; omega)
    · funext a
      match a with
      | ⟨0, _⟩ => exact Fin.ext rfl
      | ⟨1, _⟩ => exact Fin.ext (by show (((i 0).val * 512 + (i 1).val) * 1024 + (i 2).val) % 1024 = (i 2).val; omega)
  · rw [gathered_high _ _ _ _ (i 0) (i 1) (i 2) h ⟨512 * (i 0).val + ((i 1).val - 512), by omega⟩ rfl]
    refine (concatenate_pair_apply_right (s₁ := ⟨3, ![8, 512, 1024]⟩) (s₂ := ⟨3, ![8, 512, 1024]⟩) _ _ _ _ i rfl rfl (ix3 (⟨(i 0).val, i0⟩ : Fin 8) (⟨(i 1).val - 512, by omega⟩ : Fin 512) (⟨(i 2).val, i2⟩ : Fin 1024)) (fun b => match b with | ⟨0, _⟩ => fun _ => rfl | ⟨1, _⟩ => fun hb => absurd rfl hb | ⟨2, _⟩ => fun _ => rfl) (by show (i 1).val - 512 + 512 = (i 1).val; omega)).trans ?_
    rw [Cert.GradsReferenceIdeal.Read.val_main_v14_apply, Cert.GradsReferenceIdeal.Read.val_main_v11_apply, Cert.GradsReferenceIdeal.Read.val_main_v10_apply]
    refine Finset.sum_congr rfl fun k _ => (mul_comm _ _).trans (congrArg₂ (· * ·) (congrArg C ?_) (congrArg E ?_))
    · funext a
      match a with
      | ⟨0, _⟩ => exact Fin.ext rfl
      | ⟨1, _⟩ => exact Fin.ext (by show (((i 0).val * 512 + ((i 1).val - 512)) * 1024 + (i 2).val) / 1024 = 512 * (i 0).val + ((i 1).val - 512); omega)
    · funext a
      match a with
      | ⟨0, _⟩ => exact Fin.ext rfl
      | ⟨1, _⟩ => exact Fin.ext (by show (((i 0).val * 512 + ((i 1).val - 512)) * 1024 + (i 2).val) % 1024 = (i 2).val; omega)

end Cert.GradsKernelIdeal.Fox

end
-- ==== Proof.MlpPoint.lean ====
/-
  A POINT OF THE FEED-FORWARD CALL: what the body leaves in each output block, as its arithmetic on the blocks it reads. The first
  point starts the three accumulators from zero, each later point from what the point before it left.
-/
module

public import proofs.«01_k».proof.Proof.Gen.MlpKernelIdeal.Value
public import Idealize.ShloMosaic.Lib.WholeRead
public import Idealize.ShloMosaic.Lib.WritesUnit
public import Idealize.ShloMosaic.Lib.VecWindow
public import Idealize.ShloMosaic.Lib.ValueIdx
public import Idealize.ShloMosaic.PureOps.Ideal.Laws

@[expose] public section

noncomputable section

namespace Cert.MlpKernelIdeal.Mlp

open Cert.MlpKernelIdeal Cert.MlpKernelIdeal.Gen Idealize.ShloMosaic

/-- A load of a whole array reads it. -/
theorem load_whole {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) :
    View.readAt (Elt Ideal) v (Rect.unit (s := S) off S.size inb).toLoadRect f = v.read (Elt Ideal) f := by
  funext x
  show v.read (Elt Ideal) f ((Rect.unit (s := S) off S.size inb).toLoadRect.idx x) = v.read (Elt Ideal) f x
  refine congrArg (v.read (Elt Ideal) f) (funext fun a => Fin.ext ?_)
  show off a + 1 * (x a).val = (x a).val
  rw [h0 a]; omega

/-- A store of a whole array leaves it. -/
theorem store_whole {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) (w : S.Idx → Elt Ideal e) (L : List (View.Piece (Elt Ideal) S e)) :
    v.read (Elt Ideal) (v.writes (Elt Ideal) f (⟨Rect.unit (s := S) off S.size inb, w⟩ :: L)) = w := by
  funext x
  exact View.read_writes_cons_unit_of_mem v f inb w L x x rfl fun a => by rw [h0 a, Nat.zero_add]

/-- A load of a whole array that was stored whole reads what was stored. -/
theorem cov_whole {κ : Kind} {sp : Space} {S : Shape} {e : EltTy} (v : View sig κ sp S e) {off : Fin S.rank → ℕ}
    (inb : ∀ a, off a + S.size a ≤ S.size a) (w : S.Idx → Elt Ideal e) :
    v.readCov (Val := Elt Ideal) [⟨Rect.unit (s := S) off S.size inb, w⟩] (Rect.unit (s := S) off S.size inb).toLoadRect = w :=
  View.readCov_full v inb inb w []

/-- All offsets of a store at the start are zero. -/
theorem off2 : ∀ a : Fin 2, (![0, 0] : Fin 2 → ℕ) a = 0 := by decide
/-- The same for three axes. -/
theorem off3 : ∀ a : Fin 3, (![0, 0, 0] : Fin 3 → ℕ) a = 0 := by decide

/-! ## The body's arithmetic -/

section
variable (x0 : Vec Ideal S256x1024 .bf16) (x1 : Vec Ideal S256x1024 .f32) (x2 : Vec Ideal S256x1024 .f32) (x3 : Vec Ideal S8x512x1024 .bf16) (x4 : Vec Ideal S8x512x1024 .bf16) (x5 : Vec Ideal S1x1024 .f32) (x6 : Vec Ideal S1x1024 .f32)

/-- The block's output of the layer: the residual and the scaled, normed product. -/
def hid : FVec Ideal S256x1024 .f32 := k0_pay11 (F := Ideal) x3 x4 x0 x1 x5
/-- The second product. -/
def out : FVec Ideal S256x1024 .f32 := k0_pay10 (F := Ideal) x3 x4 x0
/-- The cotangent at the norm's normed rows. -/
def up : FVec Ideal S256x1024 .f32 := k0_pay18 (F := Ideal) (hid x0 x1 x3 x4 x5) x2 x5
/-- The mean the norm's backward takes off. -/
def off : FVec Ideal S256x1024 .f32 := k0_pay19 (F := Ideal) (out x0 x3 x4) (hid x0 x1 x3 x4 x5) x2 x5
/-- The scale of each row. -/
def sc : FVec Ideal S256x1 .f32 := k0_pay15 (F := Ideal) (out x0 x3 x4)
/-- The block's share of the gradient of the norm's weight behind the products. -/
def gp : FVec Ideal S1x1024 .f32 := k0_pay17 (F := Ideal) (out x0 x3 x4) (hid x0 x1 x3 x4 x5) x2
/-- The block's share of the gradient of the norm's weight before the products. -/
def gq : FVec Ideal S1x1024 .f32 :=
  k0_pay26 (F := Ideal) (k0_pay6 x3) (k0_pay7 x4) (k0_pay8 x3 x0) x1 (sc x0 x3 x4) (up x0 x1 x2 x3 x4 x5) (off x0 x1 x2 x3 x4 x5)
/-- The cotangent of the second product. -/
def dy : FVec Ideal S256x1024 .bf16 := k0_pay21 (F := Ideal) (sc x0 x3 x4) (up x0 x1 x2 x3 x4 x5) (off x0 x1 x2 x3 x4 x5)
/-- The cotangent of the first product. -/
def da : FVec Ideal S256x4096 .bf16 :=
  k0_pay22 (F := Ideal) (k0_pay7 x4) (k0_pay8 x3 x0) (sc x0 x3 x4) (up x0 x1 x2 x3 x4 x5) (off x0 x1 x2 x3 x4 x5)
/-- The cotangent of the layer's input. -/
def dx2 : FVec Ideal S256x1024 .f32 :=
  k0_pay2 (F := Ideal) (k0_pay14 (hid x0 x1 x3 x4 x5) x2) (k0_pay24 x1) (k0_pay25 x1)
    (k0_pay27 (k0_pay6 x3) (k0_pay7 x4) (k0_pay8 x3 x0) (sc x0 x3 x4) (up x0 x1 x2 x3 x4 x5) (off x0 x1 x2 x3 x4 x5) x6)
    (k0_pay28 (k0_pay6 x3) (k0_pay7 x4) (k0_pay8 x3 x0) x1 (sc x0 x3 x4) (up x0 x1 x2 x3 x4 x5) (off x0 x1 x2 x3 x4 x5) x6)

/-- All a point leaves, its accumulators started from `a`, `b` and `d`. -/
def leaves (a : Vec Ideal S8x128 .f32) (b d : Vec Ideal S1x1024 .f32) :
    Vec Ideal S256x1024 .f32 × Vec Ideal S256x4096 .bf16 × Vec Ideal S256x1024 .bf16 × Vec Ideal S256x4096 .bf16 × Vec Ideal S8x128 .f32 × Vec Ideal S1x1024 .f32 × Vec Ideal S1x1024 .f32 :=
  (dx2 x0 x1 x2 x3 x4 x5 x6, da x0 x1 x2 x3 x4 x5, dy x0 x1 x2 x3 x4 x5, k0_pay9 (F := Ideal) x3 x0, k0_pay13 (F := Ideal) (hid x0 x1 x3 x4 x5) x2 a, k0_pay20 (F := Ideal) (gp x0 x1 x2 x3 x4 x5) b, k0_pay1 (F := Ideal) (gq x0 x1 x2 x3 x4 x5) d)
end

/-! ## The two kinds of point -/

section
variable (c : Dev nD) (i : grid0.Coords)
  (arg1 : Memref sig .tc .vmem S256x1024 .bf16) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S8x512x1024 .bf16) (harg4 : arg4.IsWhole)
  (arg5 : Memref sig .tc .vmem S8x512x1024 .bf16) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S256x1024 .f32) (harg8 : arg8.IsWhole)
  (arg9 : Memref sig .tc .vmem S256x4096 .bf16) (harg9 : arg9.IsWhole)
  (arg10 : Memref sig .tc .vmem S256x1024 .bf16) (harg10 : arg10.IsWhole)
  (arg11 : Memref sig .tc .vmem S256x4096 .bf16) (harg11 : arg11.IsWhole)
  (arg12 : Memref sig .tc .vmem S8x128 .f32) (harg12 : arg12.IsWhole)
  (arg13 : Memref sig .tc .vmem S1x1024 .f32) (harg13 : arg13.IsWhole)
  (arg14 : Memref sig .tc .vmem S1x1024 .f32) (harg14 : arg14.IsWhole)
  (x0 : Vec Ideal S256x1024 .bf16) (x1 : Vec Ideal S256x1024 .f32) (x2 : Vec Ideal S256x1024 .f32) (x3 : Vec Ideal S8x512x1024 .bf16) (x4 : Vec Ideal S8x512x1024 .bf16) (x5 : Vec Ideal S1x1024 .f32) (x6 : Vec Ideal S1x1024 .f32)

/-- The first point: the cotangent of the layer's input. -/
theorem point_A_7 (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = dx2 x0 x1 x2 x3 x4 x5 x6 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  have e6 := (load_whole arg7.view (harg7.unread x6) off2 inb_S1x1024_S1x1024_0_0).trans (harg7.read_unread (Val := Elt Ideal) x6)
  refine (store_whole VO0_7 VO0_7.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5, e6]
  try rfl

/-- The first point: the cotangent of the first product. -/
theorem point_A_8 (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = da x0 x1 x2 x3 x4 x5 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_8 VO0_8.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5]
  try rfl

/-- The first point: the cotangent of the second product. -/
theorem point_A_9 (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = dy x0 x1 x2 x3 x4 x5 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_9 VO0_9.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5]
  try rfl

/-- The first point: the squared units. -/
theorem point_A_10 (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay9 (F := Ideal) x3 x0 := by
  have e0 := (load_whole arg1.view (harg1.unread x0) off2 inb_S256x1024_S256x1024_0_0).trans (harg1.read_unread (Val := Elt Ideal) x0)
  have e3 := (load_whole arg4.view (harg4.unread x3) off3 inb_S8x512x1024_S8x512x1024_0_0_0).trans (harg4.read_unread (Val := Elt Ideal) x3)
  refine (store_whole VO0_10 VO0_10.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e3]
  try rfl

/-- The first point: the loss. -/
theorem point_A_11 (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay13 (F := Ideal) (hid x0 x1 x3 x4 x5) x2 (k0_pay3 (F := Ideal)) := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_11 VO0_11.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5]
  exact congrArg (k0_pay13 (F := Ideal) (hid x0 x1 x3 x4 x5) x2) (cov_whole arg12.view inb_S8x128_S8x128_0_0 (k0_pay3 (F := Ideal)))

/-- The first point: the weight's gradient behind the products. -/
theorem point_A_12 (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay20 (F := Ideal) (gp x0 x1 x2 x3 x4 x5) (k0_pay4 (F := Ideal)) := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_12 VO0_12.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5]
  exact congrArg (k0_pay20 (F := Ideal) (gp x0 x1 x2 x3 x4 x5)) (cov_whole arg13.view inb_S1x1024_S1x1024_0_0 (k0_pay4 (F := Ideal)))

/-- The first point: the weight's gradient before the products. -/
theorem point_A_13 (hc0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay1 (F := Ideal) (gq x0 x1 x2 x3 x4 x5) (k0_pay5 (F := Ideal)) := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_13 VO0_13.junk off2 _ _ _).trans ?_
  try simp only [kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r, kernelRun0_A.sl.H11_1, kernelRun0_A.sl.H12_1, kernelRun0_A.sl.H13_1, kernelRun0_A.sl.v117, kernelRun0_A.sl.v35, kernelRun0_A.sl.v78]
  try simp only [e0, e1, e2, e3, e4, e5]
  exact congrArg (k0_pay1 (F := Ideal) (gq x0 x1 x2 x3 x4 x5)) (cov_whole arg14.view inb_S1x1024_S1x1024_0_0 (k0_pay5 (F := Ideal)))

/-- A later point: the cotangent of the layer's input. -/
theorem point_B_7 (hc0 : ¬cond0_0 i) (a : Vec Ideal S8x128 .f32) (b d : Vec Ideal S1x1024 .f32) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = dx2 x0 x1 x2 x3 x4 x5 x6 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  have e6 := (load_whole arg7.view (harg7.unread x6) off2 inb_S1x1024_S1x1024_0_0).trans (harg7.read_unread (Val := Elt Ideal) x6)
  refine (store_whole VO0_7 VO0_7.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5, e6]
  try rfl

/-- A later point: the cotangent of the first product. -/
theorem point_B_8 (hc0 : ¬cond0_0 i) (a : Vec Ideal S8x128 .f32) (b d : Vec Ideal S1x1024 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = da x0 x1 x2 x3 x4 x5 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_8 VO0_8.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5]
  try rfl

/-- A later point: the cotangent of the second product. -/
theorem point_B_9 (hc0 : ¬cond0_0 i) (a : Vec Ideal S8x128 .f32) (b d : Vec Ideal S1x1024 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = dy x0 x1 x2 x3 x4 x5 := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  refine (store_whole VO0_9 VO0_9.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5]
  try rfl

/-- A later point: the squared units. -/
theorem point_B_10 (hc0 : ¬cond0_0 i) (a : Vec Ideal S8x128 .f32) (b d : Vec Ideal S1x1024 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = k0_pay9 (F := Ideal) x3 x0 := by
  have e0 := (load_whole arg1.view (harg1.unread x0) off2 inb_S256x1024_S256x1024_0_0).trans (harg1.read_unread (Val := Elt Ideal) x0)
  have e3 := (load_whole arg4.view (harg4.unread x3) off3 inb_S8x512x1024_S8x512x1024_0_0_0).trans (harg4.read_unread (Val := Elt Ideal) x3)
  refine (store_whole VO0_10 VO0_10.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e3]
  try rfl

/-- A later point: the loss. -/
theorem point_B_11 (hc0 : ¬cond0_0 i) (a : Vec Ideal S8x128 .f32) (b d : Vec Ideal S1x1024 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = k0_pay13 (F := Ideal) (hid x0 x1 x3 x4 x5) x2 a := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  have ea := (load_whole arg12.view (harg12.unread a) off2 inb_S8x128_S8x128_0_0).trans (harg12.read_unread (Val := Elt Ideal) a)
  refine (store_whole VO0_11 VO0_11.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5, ea]
  try rfl

/-- A later point: the weight's gradient behind the products. -/
theorem point_B_12 (hc0 : ¬cond0_0 i) (a : Vec Ideal S8x128 .f32) (b d : Vec Ideal S1x1024 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = k0_pay20 (F := Ideal) (gp x0 x1 x2 x3 x4 x5) b := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  have ea := (load_whole arg13.view (harg13.unread b) off2 inb_S1x1024_S1x1024_0_0).trans (harg13.read_unread (Val := Elt Ideal) b)
  refine (store_whole VO0_12 VO0_12.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5, ea]
  try rfl

/-- A later point: the weight's gradient before the products. -/
theorem point_B_13 (hc0 : ¬cond0_0 i) (a : Vec Ideal S8x128 .f32) (b d : Vec Ideal S1x1024 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 a b d = k0_pay1 (F := Ideal) (gq x0 x1 x2 x3 x4 x5) d := by
  have e0 := (load_whole arg1.view (harg1.unread x0) off2 inb_S256x1024_S256x1024_0_0).trans (harg1.read_unread (Val := Elt Ideal) x0)
  have e1 := (load_whole arg2.view (harg2.unread x1) off2 inb_S256x1024_S256x1024_0_0).trans (harg2.read_unread (Val := Elt Ideal) x1)
  have e2 := (load_whole arg3.view (harg3.unread x2) off2 inb_S256x1024_S256x1024_0_0).trans (harg3.read_unread (Val := Elt Ideal) x2)
  have e3 := (load_whole arg4.view (harg4.unread x3) off3 inb_S8x512x1024_S8x512x1024_0_0_0).trans (harg4.read_unread (Val := Elt Ideal) x3)
  have e4 := (load_whole arg5.view (harg5.unread x4) off3 inb_S8x512x1024_S8x512x1024_0_0_0).trans (harg5.read_unread (Val := Elt Ideal) x4)
  have e5 := (load_whole arg6.view (harg6.unread x5) off2 inb_S1x1024_S1x1024_0_0).trans (harg6.read_unread (Val := Elt Ideal) x5)
  have ea := (load_whole arg14.view (harg14.unread d) off2 inb_S1x1024_S1x1024_0_0).trans (harg14.read_unread (Val := Elt Ideal) d)
  refine (store_whole VO0_13 VO0_13.junk off2 _ _ _).trans ?_
  try simp only [kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r]
  try simp only [e0, e1, e2, e3, e4, e5, ea]
  try rfl

end

end Cert.MlpKernelIdeal.Mlp

end
-- ==== Proof.MlpBlocks.lean ====
/-
  THE BLOCKS OF THE FEED-FORWARD CALL: which rows each point reads and writes, and what a point leaves by the blocks it reads.
-/
module

public import proofs.«01_k».proof.Proof.MlpPoint
public import proofs.«01_k».proof.Proof.Gen.MlpReferenceIdeal.Read
public import Idealize.ShloMosaic.Lib.StableHlo.Run

@[expose] public section

set_option maxHeartbeats 4000000

noncomputable section

namespace Cert.MlpKernelIdeal.Mlp

open Cert.MlpKernelIdeal Cert.MlpKernelIdeal.Gen Cert.MlpKernelIdeal.Value Idealize.ShloMosaic Idealize.ShloMosaic.ValueIdx Idealize.ShloMosaic.StableHlo
open Idealize.ShloMosaic.TcCoe
open scoped BigOperators

theorem at_0 : ∀ t : Fin grid0.N, win0_0.index t (0 : Fin 2) = t.val ∧ win0_0.index t (1 : Fin 2) = 0 := by decide +kernel

theorem at_1 : ∀ t : Fin grid0.N, win0_1.index t (0 : Fin 2) = t.val ∧ win0_1.index t (1 : Fin 2) = 0 := by decide +kernel

theorem at_2 : ∀ t : Fin grid0.N, win0_2.index t (0 : Fin 2) = t.val ∧ win0_2.index t (1 : Fin 2) = 0 := by decide +kernel

theorem at_3 : ∀ t : Fin grid0.N, win0_3.index t (0 : Fin 3) = 0 ∧ win0_3.index t (1 : Fin 3) = 0 ∧ win0_3.index t (2 : Fin 3) = 0 := by decide +kernel

theorem at_4 : ∀ t : Fin grid0.N, win0_4.index t (0 : Fin 3) = 0 ∧ win0_4.index t (1 : Fin 3) = 1 ∧ win0_4.index t (2 : Fin 3) = 0 := by decide +kernel

theorem at_5 : ∀ t : Fin grid0.N, win0_5.index t (0 : Fin 2) = 0 ∧ win0_5.index t (1 : Fin 2) = 0 := by decide +kernel

theorem at_6 : ∀ t : Fin grid0.N, win0_6.index t (0 : Fin 2) = 0 ∧ win0_6.index t (1 : Fin 2) = 0 := by decide +kernel

theorem at_7 : ∀ t : Fin grid0.N, win0_7.index t (0 : Fin 2) = t.val ∧ win0_7.index t (1 : Fin 2) = 0 := by decide +kernel

theorem at_8 : ∀ t : Fin grid0.N, win0_8.index t (0 : Fin 2) = t.val ∧ win0_8.index t (1 : Fin 2) = 0 := by decide +kernel

theorem at_9 : ∀ t : Fin grid0.N, win0_9.index t (0 : Fin 2) = t.val ∧ win0_9.index t (1 : Fin 2) = 0 := by decide +kernel

theorem at_10 : ∀ t : Fin grid0.N, win0_10.index t (0 : Fin 2) = t.val ∧ win0_10.index t (1 : Fin 2) = 0 := by decide +kernel

theorem at_11 : ∀ t : Fin grid0.N, win0_11.index t (0 : Fin 2) = 0 ∧ win0_11.index t (1 : Fin 2) = 0 := by decide +kernel

theorem at_12 : ∀ t : Fin grid0.N, win0_12.index t (0 : Fin 2) = 0 ∧ win0_12.index t (1 : Fin 2) = 0 := by decide +kernel

theorem at_13 : ∀ t : Fin grid0.N, win0_13.index t (0 : Fin 2) = 0 ∧ win0_13.index t (1 : Fin 2) = 0 := by decide +kernel

variable (m : (ℓ : Loc nD τ sig) → Buf (Elt Ideal) ℓ) (c : Dev nD)

theorem cut0 (t : Fin cfg0.N) (j : S256x1024.Idx) (X : (b : Ref sig .tc) → Buf (Elt Ideal) ((c : Thread nD τ).loc b)) (k : S2048x1024.Idx)
    (h0 : (k 0).val = 256 * t.val + (j 0).val) (h1 : (k 1).val = (j 1).val) :
    ((cfg0.win 0).blk t).view.read (Elt Ideal) (X (Pipeline.arrRef spec0 0)) j = X main_v12 k := by
  have e : ((cfg0.win 0).blk t).view.emb j = k := by
    have p := at_0 t
    funext a
    match a with
    | ⟨0, _⟩ => exact Fin.ext (by show win0_0.index t (0 : Fin 2) * 256 + 1 * (j 0).val = (k 0).val; omega)
    | ⟨1, _⟩ => exact Fin.ext (by show win0_0.index t (1 : Fin 2) * 1024 + 1 * (j 1).val = (k 1).val; omega)
  exact congrArg (X main_v12) e

/-- What window 0 reads. -/
theorem read0 (t : Fin cfg0.N) (j : S256x1024.Idx) (k : S2048x1024.Idx) (h0 : (k 0).val = 256 * t.val + (j 0).val) (h1 : (k 1).val = (j 1).val) : iblk m c 0 t j = V m c main_v12 k := by
  unfold iblk; exact cut0 c t j (fun b => V m c b) k h0 h1

theorem cut1 (t : Fin cfg0.N) (j : S256x1024.Idx) (X : (b : Ref sig .tc) → Buf (Elt Ideal) ((c : Thread nD τ).loc b)) (k : S2048x1024.Idx)
    (h0 : (k 0).val = 256 * t.val + (j 0).val) (h1 : (k 1).val = (j 1).val) :
    ((cfg0.win 1).blk t).view.read (Elt Ideal) (X (Pipeline.arrRef spec0 1)) j = X main_arg0 k := by
  have e : ((cfg0.win 1).blk t).view.emb j = k := by
    have p := at_1 t
    funext a
    match a with
    | ⟨0, _⟩ => exact Fin.ext (by show win0_1.index t (0 : Fin 2) * 256 + 1 * (j 0).val = (k 0).val; omega)
    | ⟨1, _⟩ => exact Fin.ext (by show win0_1.index t (1 : Fin 2) * 1024 + 1 * (j 1).val = (k 1).val; omega)
  exact congrArg (X main_arg0) e

/-- What window 1 reads. -/
theorem read1 (t : Fin cfg0.N) (j : S256x1024.Idx) (k : S2048x1024.Idx) (h0 : (k 0).val = 256 * t.val + (j 0).val) (h1 : (k 1).val = (j 1).val) : iblk m c 1 t j = m ((c : Thread nD τ).loc main_arg0) k := by
  rw [← V_main_arg0 m c]; unfold iblk; exact cut1 c t j (fun b => V m c b) k h0 h1

theorem cut2 (t : Fin cfg0.N) (j : S256x1024.Idx) (X : (b : Ref sig .tc) → Buf (Elt Ideal) ((c : Thread nD τ).loc b)) (k : S2048x1024.Idx)
    (h0 : (k 0).val = 256 * t.val + (j 0).val) (h1 : (k 1).val = (j 1).val) :
    ((cfg0.win 2).blk t).view.read (Elt Ideal) (X (Pipeline.arrRef spec0 2)) j = X main_arg5 k := by
  have e : ((cfg0.win 2).blk t).view.emb j = k := by
    have p := at_2 t
    funext a
    match a with
    | ⟨0, _⟩ => exact Fin.ext (by show win0_2.index t (0 : Fin 2) * 256 + 1 * (j 0).val = (k 0).val; omega)
    | ⟨1, _⟩ => exact Fin.ext (by show win0_2.index t (1 : Fin 2) * 1024 + 1 * (j 1).val = (k 1).val; omega)
  exact congrArg (X main_arg5) e

/-- What window 2 reads. -/
theorem read2 (t : Fin cfg0.N) (j : S256x1024.Idx) (k : S2048x1024.Idx) (h0 : (k 0).val = 256 * t.val + (j 0).val) (h1 : (k 1).val = (j 1).val) : iblk m c 2 t j = m ((c : Thread nD τ).loc main_arg5) k := by
  rw [← V_main_arg5 m c]; unfold iblk; exact cut2 c t j (fun b => V m c b) k h0 h1

theorem cut3 (t : Fin cfg0.N) (j : ((cfg0.win 3).xblock (cfg0.grid.coords t)).Idx) (X : (b : Ref sig .tc) → Buf (Elt Ideal) ((c : Thread nD τ).loc b)) (k : S8x1664x1024.Idx)
    (h0 : (k 0).val = (j 0).val) (h1 : (k 1).val = (j 1).val) (h2 : (k 2).val = (j 2).val) :
    ((cfg0.win 3).blk t).view.read (Elt Ideal) (X (Pipeline.arrRef spec0 3)) j = X main_v18 k := by
  have e : ((cfg0.win 3).blk t).view.emb j = k := by
    have p := at_3 t
    funext a
    match a with
    | ⟨0, _⟩ => exact Fin.ext (by show win0_3.index t (0 : Fin 3) * 8 + 1 * (j 0).val = (k 0).val; omega)
    | ⟨1, _⟩ => exact Fin.ext (by show win0_3.index t (1 : Fin 3) * 512 + 1 * (j 1).val = (k 1).val; omega)
    | ⟨2, _⟩ => exact Fin.ext (by show win0_3.index t (2 : Fin 3) * 1024 + 1 * (j 2).val = (k 2).val; omega)
  exact congrArg (X main_v18) e

/-- Window 3's buffer is its block: no part of it is left unfilled. -/
theorem read3 (t : Fin cfg0.N) (j : S8x512x1024.Idx) (k : S8x1664x1024.Idx) (h0 : (k 0).val = (j 0).val) (h1 : (k 1).val = (j 1).val) (h2 : (k 2).val = (j 2).val) : X0_3 m c t j = V m c main_v18 k := by
  unfold X0_3 Pipeline.Window.fill
  rw [dif_pos (moved0_3 t j)]
  unfold iblk
  exact cut3 c t _ (fun b => V m c b) k h0 h1 h2

theorem cut4 (t : Fin cfg0.N) (j : ((cfg0.win 4).xblock (cfg0.grid.coords t)).Idx) (X : (b : Ref sig .tc) → Buf (Elt Ideal) ((c : Thread nD τ).loc b)) (k : S8x1664x1024.Idx)
    (h0 : (k 0).val = (j 0).val) (h1 : (k 1).val = 512 + (j 1).val) (h2 : (k 2).val = (j 2).val) :
    ((cfg0.win 4).blk t).view.read (Elt Ideal) (X (Pipeline.arrRef spec0 4)) j = X main_v18 k := by
  have e : ((cfg0.win 4).blk t).view.emb j = k := by
    have p := at_4 t
    funext a
    match a with
    | ⟨0, _⟩ => exact Fin.ext (by show win0_4.index t (0 : Fin 3) * 8 + 1 * (j 0).val = (k 0).val; omega)
    | ⟨1, _⟩ => exact Fin.ext (by show win0_4.index t (1 : Fin 3) * 512 + 1 * (j 1).val = (k 1).val; omega)
    | ⟨2, _⟩ => exact Fin.ext (by show win0_4.index t (2 : Fin 3) * 1024 + 1 * (j 2).val = (k 2).val; omega)
  exact congrArg (X main_v18) e

/-- Window 4's buffer is its block: no part of it is left unfilled. -/
theorem read4 (t : Fin cfg0.N) (j : S8x512x1024.Idx) (k : S8x1664x1024.Idx) (h0 : (k 0).val = (j 0).val) (h1 : (k 1).val = 512 + (j 1).val) (h2 : (k 2).val = (j 2).val) : X0_4 m c t j = V m c main_v18 k := by
  unfold X0_4 Pipeline.Window.fill
  rw [dif_pos (moved0_4 t j)]
  unfold iblk
  exact cut4 c t _ (fun b => V m c b) k h0 h1 h2

theorem cut5 (t : Fin cfg0.N) (j : S1x1024.Idx) (X : (b : Ref sig .tc) → Buf (Elt Ideal) ((c : Thread nD τ).loc b)) (k : S1x1024.Idx)
    (h0 : (k 0).val = (j 0).val) (h1 : (k 1).val = (j 1).val) :
    ((cfg0.win 5).blk t).view.read (Elt Ideal) (X (Pipeline.arrRef spec0 5)) j = X main_arg3 k := by
  have e : ((cfg0.win 5).blk t).view.emb j = k := by
    have p := at_5 t
    funext a
    match a with
    | ⟨0, _⟩ => exact Fin.ext (by show win0_5.index t (0 : Fin 2) * 1 + 1 * (j 0).val = (k 0).val; omega)
    | ⟨1, _⟩ => exact Fin.ext (by show win0_5.index t (1 : Fin 2) * 1024 + 1 * (j 1).val = (k 1).val; omega)
  exact congrArg (X main_arg3) e

/-- What window 5 reads. -/
theorem read5 (t : Fin cfg0.N) (j : S1x1024.Idx) (k : S1x1024.Idx) (h0 : (k 0).val = (j 0).val) (h1 : (k 1).val = (j 1).val) : iblk m c 5 t j = m ((c : Thread nD τ).loc main_arg3) k := by
  rw [← V_main_arg3 m c]; unfold iblk; exact cut5 c t j (fun b => V m c b) k h0 h1

theorem cut6 (t : Fin cfg0.N) (j : S1x1024.Idx) (X : (b : Ref sig .tc) → Buf (Elt Ideal) ((c : Thread nD τ).loc b)) (k : S1x1024.Idx)
    (h0 : (k 0).val = (j 0).val) (h1 : (k 1).val = (j 1).val) :
    ((cfg0.win 6).blk t).view.read (Elt Ideal) (X (Pipeline.arrRef spec0 6)) j = X main_arg4 k := by
  have e : ((cfg0.win 6).blk t).view.emb j = k := by
    have p := at_6 t
    funext a
    match a with
    | ⟨0, _⟩ => exact Fin.ext (by show win0_6.index t (0 : Fin 2) * 1 + 1 * (j 0).val = (k 0).val; omega)
    | ⟨1, _⟩ => exact Fin.ext (by show win0_6.index t (1 : Fin 2) * 1024 + 1 * (j 1).val = (k 1).val; omega)
  exact congrArg (X main_arg4) e

/-- What window 6 reads. -/
theorem read6 (t : Fin cfg0.N) (j : S1x1024.Idx) (k : S1x1024.Idx) (h0 : (k 0).val = (j 0).val) (h1 : (k 1).val = (j 1).val) : iblk m c 6 t j = m ((c : Thread nD τ).loc main_arg4) k := by
  rw [← V_main_arg4 m c]; unfold iblk; exact cut6 c t j (fun b => V m c b) k h0 h1

theorem place7 (t : Fin cfg0.N) (X : S2048x1024.Idx → EReal) (j : S256x1024.Idx) (k : S2048x1024.Idx) (h0 : (k 0).val = 256 * t.val + (j 0).val) (h1 : (k 1).val = (j 1).val) :
    ((cfg0.win 7).blk t).view.read (Elt Ideal) X j = X k := by
  have e : ((cfg0.win 7).blk t).view.emb j = k := by
    have p := at_7 t
    funext a
    match a with
    | ⟨0, _⟩ => exact Fin.ext (by show win0_7.index t (0 : Fin 2) * 256 + 1 * (j 0).val = (k 0).val; omega)
    | ⟨1, _⟩ => exact Fin.ext (by show win0_7.index t (1 : Fin 2) * 1024 + 1 * (j 1).val = (k 1).val; omega)
  exact congrArg X e

theorem whole7 (t : Fin cfg0.N) (x : Vec Ideal S256x1024 .f32) (j : S256x1024.Idx) : (cfg0.win 7).cut (grid0.coords t) x j = x j := rfl

theorem place8 (t : Fin cfg0.N) (X : S2048x4096.Idx → EReal) (j : S256x4096.Idx) (k : S2048x4096.Idx) (h0 : (k 0).val = 256 * t.val + (j 0).val) (h1 : (k 1).val = (j 1).val) :
    ((cfg0.win 8).blk t).view.read (Elt Ideal) X j = X k := by
  have e : ((cfg0.win 8).blk t).view.emb j = k := by
    have p := at_8 t
    funext a
    match a with
    | ⟨0, _⟩ => exact Fin.ext (by show win0_8.index t (0 : Fin 2) * 256 + 1 * (j 0).val = (k 0).val; omega)
    | ⟨1, _⟩ => exact Fin.ext (by show win0_8.index t (1 : Fin 2) * 4096 + 1 * (j 1).val = (k 1).val; omega)
  exact congrArg X e

theorem whole8 (t : Fin cfg0.N) (x : Vec Ideal S256x4096 .bf16) (j : S256x4096.Idx) : (cfg0.win 8).cut (grid0.coords t) x j = x j := rfl

theorem place9 (t : Fin cfg0.N) (X : S2048x1024.Idx → EReal) (j : S256x1024.Idx) (k : S2048x1024.Idx) (h0 : (k 0).val = 256 * t.val + (j 0).val) (h1 : (k 1).val = (j 1).val) :
    ((cfg0.win 9).blk t).view.read (Elt Ideal) X j = X k := by
  have e : ((cfg0.win 9).blk t).view.emb j = k := by
    have p := at_9 t
    funext a
    match a with
    | ⟨0, _⟩ => exact Fin.ext (by show win0_9.index t (0 : Fin 2) * 256 + 1 * (j 0).val = (k 0).val; omega)
    | ⟨1, _⟩ => exact Fin.ext (by show win0_9.index t (1 : Fin 2) * 1024 + 1 * (j 1).val = (k 1).val; omega)
  exact congrArg X e

theorem whole9 (t : Fin cfg0.N) (x : Vec Ideal S256x1024 .bf16) (j : S256x1024.Idx) : (cfg0.win 9).cut (grid0.coords t) x j = x j := rfl

theorem place10 (t : Fin cfg0.N) (X : S2048x4096.Idx → EReal) (j : S256x4096.Idx) (k : S2048x4096.Idx) (h0 : (k 0).val = 256 * t.val + (j 0).val) (h1 : (k 1).val = (j 1).val) :
    ((cfg0.win 10).blk t).view.read (Elt Ideal) X j = X k := by
  have e : ((cfg0.win 10).blk t).view.emb j = k := by
    have p := at_10 t
    funext a
    match a with
    | ⟨0, _⟩ => exact Fin.ext (by show win0_10.index t (0 : Fin 2) * 256 + 1 * (j 0).val = (k 0).val; omega)
    | ⟨1, _⟩ => exact Fin.ext (by show win0_10.index t (1 : Fin 2) * 4096 + 1 * (j 1).val = (k 1).val; omega)
  exact congrArg X e

theorem whole10 (t : Fin cfg0.N) (x : Vec Ideal S256x4096 .bf16) (j : S256x4096.Idx) : (cfg0.win 10).cut (grid0.coords t) x j = x j := rfl

theorem place11 (t : Fin cfg0.N) (X : S8x128.Idx → EReal) (j : S8x128.Idx) (k : S8x128.Idx) (h0 : (k 0).val = (j 0).val) (h1 : (k 1).val = (j 1).val) :
    ((cfg0.win 11).blk t).view.read (Elt Ideal) X j = X k := by
  have e : ((cfg0.win 11).blk t).view.emb j = k := by
    have p := at_11 t
    funext a
    match a with
    | ⟨0, _⟩ => exact Fin.ext (by show win0_11.index t (0 : Fin 2) * 8 + 1 * (j 0).val = (k 0).val; omega)
    | ⟨1, _⟩ => exact Fin.ext (by show win0_11.index t (1 : Fin 2) * 128 + 1 * (j 1).val = (k 1).val; omega)
  exact congrArg X e

theorem whole11 (t : Fin cfg0.N) (x : Vec Ideal S8x128 .f32) (j : S8x128.Idx) : (cfg0.win 11).cut (grid0.coords t) x j = x j := rfl

theorem place12 (t : Fin cfg0.N) (X : S1x1024.Idx → EReal) (j : S1x1024.Idx) (k : S1x1024.Idx) (h0 : (k 0).val = (j 0).val) (h1 : (k 1).val = (j 1).val) :
    ((cfg0.win 12).blk t).view.read (Elt Ideal) X j = X k := by
  have e : ((cfg0.win 12).blk t).view.emb j = k := by
    have p := at_12 t
    funext a
    match a with
    | ⟨0, _⟩ => exact Fin.ext (by show win0_12.index t (0 : Fin 2) * 1 + 1 * (j 0).val = (k 0).val; omega)
    | ⟨1, _⟩ => exact Fin.ext (by show win0_12.index t (1 : Fin 2) * 1024 + 1 * (j 1).val = (k 1).val; omega)
  exact congrArg X e

theorem whole12 (t : Fin cfg0.N) (x : Vec Ideal S1x1024 .f32) (j : S1x1024.Idx) : (cfg0.win 12).cut (grid0.coords t) x j = x j := rfl

theorem place13 (t : Fin cfg0.N) (X : S1x1024.Idx → EReal) (j : S1x1024.Idx) (k : S1x1024.Idx) (h0 : (k 0).val = (j 0).val) (h1 : (k 1).val = (j 1).val) :
    ((cfg0.win 13).blk t).view.read (Elt Ideal) X j = X k := by
  have e : ((cfg0.win 13).blk t).view.emb j = k := by
    have p := at_13 t
    funext a
    match a with
    | ⟨0, _⟩ => exact Fin.ext (by show win0_13.index t (0 : Fin 2) * 1 + 1 * (j 0).val = (k 0).val; omega)
    | ⟨1, _⟩ => exact Fin.ext (by show win0_13.index t (1 : Fin 2) * 1024 + 1 * (j 1).val = (k 1).val; omega)
  exact congrArg X e

theorem whole13 (t : Fin cfg0.N) (x : Vec Ideal S1x1024 .f32) (j : S1x1024.Idx) : (cfg0.win 13).cut (grid0.coords t) x j = x j := rfl

/-- What the first point leaves. -/
theorem outs_A (t : Fin cfg0.N) (h0 : t.val % 8 = 0) :
    outsAt0 m c t.val t.isLt = leaves (iblk m c 0 t) (iblk m c 1 t) (iblk m c 2 t) (X0_3 m c t) (X0_4 m c t) (iblk m c 5 t) (iblk m c 6 t) (k0_pay3 (F := Ideal)) (k0_pay4 (F := Ideal)) (k0_pay5 (F := Ideal)) := by
  rw [outsAt0_A m c t h0, point_A_7, point_A_8, point_A_9, point_A_10, point_A_11, point_A_12, point_A_13]
  rfl

/-- What a later point leaves. -/
theorem outs_B (t : Fin cfg0.N) (h0 : ¬t.val % 8 = 0) (a : Vec Ideal S8x128 .f32) (b d : Vec Ideal S1x1024 .f32)
    (ha : (outsAt0 m c (t.val - 1) (Nat.lt_of_le_of_lt (Nat.sub_le _ _) t.isLt)).2.2.2.2.1 = a)
    (hb : (outsAt0 m c (t.val - 1) (Nat.lt_of_le_of_lt (Nat.sub_le _ _) t.isLt)).2.2.2.2.2.1 = b)
    (hd : (outsAt0 m c (t.val - 1) (Nat.lt_of_le_of_lt (Nat.sub_le _ _) t.isLt)).2.2.2.2.2.2 = d) :
    outsAt0 m c t.val t.isLt = leaves (iblk m c 0 t) (iblk m c 1 t) (iblk m c 2 t) (X0_3 m c t) (X0_4 m c t) (iblk m c 5 t) (iblk m c 6 t) a b d := by
  rw [outsAt0_B m c t h0, ha, hb, hd, point_B_7, point_B_8, point_B_9, point_B_10, point_B_11, point_B_12, point_B_13]
  rfl

/-- The normed rows the host hands the call are the reference's. -/
theorem V_rows : V m c main_v12 = Cert.MlpReferenceIdeal.Read.val_main_v14 (F := Ideal) (m ((c : Thread nD τ).loc main_arg0)) (m ((c : Thread nD τ).loc main_arg4)) := by
  show after (List.flatten [hostOps0]) (fun b => m (c, b)) main_v12 = _
  simp only [List.flatten_cons, List.flatten_nil, List.append_nil, List.cons_append, List.nil_append]
  after_results_simp
  rfl

/-- The pieces of the array of weights. -/
def pieces (x1 : S1024x4096.Idx → EReal) (x2 : S4096x1024.Idx → EReal) : List ((s : Shape) × (s.Idx → EReal)) :=
  [⟨S8x512x1024, shapeCast S8x512x1024 (transpose S4096x1024 [1, 0] x1 transposes_S1024x4096_S4096x1024_1_0) shapeCasts_S4096x1024_S8x512x1024⟩,
    ⟨S8x512x1024, shapeCast S8x512x1024 x2 shapeCasts_S4096x1024_S8x512x1024⟩,
    ⟨S8x640x1024, broadcastInDim S8x640x1024 ![] bcast_S_S8x640x1024 (constant (F := Ideal) S_ .f32 0x00000000#32)⟩]

theorem pieces_fit (x1 : S1024x4096.Idx → EReal) (x2 : S4096x1024.Idx → EReal) : Shape.Concatenates ((pieces x1 x2).map (·.1)) S8x1664x1024 1 :=
  concatenates_S8x512x1024_S8x512x1024_S8x640x1024_S8x1664x1024_d1

/-- The array of weights by its pieces. -/
def packed (x1 : S1024x4096.Idx → EReal) (x2 : S4096x1024.Idx → EReal) : S8x1664x1024.Idx → EReal :=
  concatenate S8x1664x1024 1 (pieces x1 x2) (pieces_fit x1 x2)

theorem V_packed : V m c main_v18 = packed (m ((c : Thread nD τ).loc main_arg1)) (m ((c : Thread nD τ).loc main_arg2)) := by
  show after (List.flatten [hostOps0]) (fun b => m (c, b)) main_v18 = _
  simp only [List.flatten_cons, List.flatten_nil, List.append_nil, List.cons_append, List.nil_append]
  after_results_simp
  rfl

/-- Its first 512 rows of each block are the first weights', transposed. -/
theorem packed_low (x1 : S1024x4096.Idx → EReal) (x2 : S4096x1024.Idx → EReal) (k : S8x1664x1024.Idx) (f : S1024x4096.Idx)
    (h : (k 1).val < 512) (h0 : (f 0).val = (k 2).val) (h1 : (f 1).val = 512 * (k 0).val + (k 1).val) : packed x1 x2 k = x1 f := by
  have k0 : (k 0).val < 8 := (k 0).isLt
  have k2 : (k 2).val < 1024 := (k 2).isLt
  have f1 : (f 1).val < 4096 := (f 1).isLt
  refine (concatenate_apply_piece 1 (pieces x1 x2) (pieces_fit x1 x2) k 0 (by unfold pieces; exact Nat.succ_pos _) S8x512x1024 _ rfl rfl 0 rfl
    (ix3 (⟨(k 0).val, k0⟩ : Fin 8) (⟨(k 1).val, h⟩ : Fin 512) (⟨(k 2).val, k2⟩ : Fin 1024)) (fun b => match b with | ⟨0, _⟩ => fun _ => rfl | ⟨1, _⟩ => fun hb => absurd rfl hb | ⟨2, _⟩ => fun _ => rfl) (Nat.zero_add _)).trans ?_
  refine (shapeCast_apply _ shapeCasts_S4096x1024_S8x512x1024 _ (ix2 (⟨(f 1).val, f1⟩ : Fin 4096) (⟨(k 2).val, k2⟩ : Fin 1024)) ?_).trans ?_
  · rewrite [Shape.rowMajor_val_two, Shape.rowMajor_val_three]
    show (f 1).val * 1024 + (k 2).val = ((k 0).val * 512 + (k 1).val) * 1024 + (k 2).val
    omega
  · refine congrArg x1 ?_
    funext a
    match a with
    | ⟨0, _⟩ => exact Fin.ext h0.symm
    | ⟨1, _⟩ => exact Fin.ext rfl

/-- Its next 512 rows of each block are the second weights'. -/
theorem packed_high (x1 : S1024x4096.Idx → EReal) (x2 : S4096x1024.Idx → EReal) (k : S8x1664x1024.Idx) (f : S4096x1024.Idx) (r : Fin 512)
    (h : (k 1).val = 512 + r.val) (h0 : (f 0).val = 512 * (k 0).val + r.val) (h1 : (f 1).val = (k 2).val) : packed x1 x2 k = x2 f := by
  have k0 : (k 0).val < 8 := (k 0).isLt
  have k2 : (k 2).val < 1024 := (k 2).isLt
  refine (concatenate_apply_piece 1 (pieces x1 x2) (pieces_fit x1 x2) k 1 (by unfold pieces; exact Nat.succ_lt_succ (Nat.succ_pos _)) S8x512x1024 _ rfl rfl 512 rfl
    (ix3 (⟨(k 0).val, k0⟩ : Fin 8) r (⟨(k 2).val, k2⟩ : Fin 1024)) (fun b => match b with | ⟨0, _⟩ => fun _ => rfl | ⟨1, _⟩ => fun hb => absurd rfl hb | ⟨2, _⟩ => fun _ => rfl) h.symm).trans ?_
  refine shapeCast_apply _ shapeCasts_S4096x1024_S8x512x1024 _ f ?_
  rewrite [Shape.rowMajor_val_two, Shape.rowMajor_val_three]
  show (f 0).val * 1024 + (f 1).val = ((k 0).val * 512 + r.val) * 1024 + (k 2).val
  omega

end Cert.MlpKernelIdeal.Mlp

end
-- ==== Proof.MlpMath.lean ====
/-
  THE FEED-FORWARD LAYER AND ITS BACKWARD PASS FOR ONE TOKEN, in the real numbers: a norm by the root of the mean square, two
  products with the squared positive part between them, a second norm, the residual, the squared error's loss, and the gradients
  of all of these. A token is a row of 1024 reals; the gradients of the two norms' weights and the loss are sums over tokens of
  what is here each token's share.
-/
module

public import Mathlib.Analysis.SpecialFunctions.Pow.Real
public import Mathlib.Algebra.BigOperators.Field

@[expose] public section

noncomputable section

open scoped BigOperators

namespace Mlp

/-- The number the norms add to the mean square. -/
def eps : ℝ := 8796093 / 8796093022208

/-- It is positive. -/
theorem eps_pos : 0 < eps := by unfold eps; norm_num

/-- A row's mean square and `eps`. -/
def ms (z : Fin 1024 → ℝ) : ℝ := (∑ k, z k * z k) * (1 / 1024) + eps

/-- It is positive. -/
theorem ms_pos (z : Fin 1024 → ℝ) : 0 < ms z :=
  add_pos_of_nonneg_of_pos (mul_nonneg (Finset.sum_nonneg fun k _ => mul_self_nonneg (z k)) (by norm_num)) eps_pos

/-- A row's scale. -/
def rs (z : Fin 1024 → ℝ) : ℝ := (√(ms z))⁻¹

/-- A row normed. -/
def nrm (z : Fin 1024 → ℝ) (j : Fin 1024) : ℝ := z j * rs z

/-- The cotangent of a row from that of the row normed. -/
def back (z d : Fin 1024 → ℝ) (j : Fin 1024) : ℝ := rs z * (d j - nrm z j * ((∑ k, d k * nrm z k) * (1 / 1024)))

/-- The same cotangent with the scale's own derivative written out: `-1/2` of the scale over the mean square. -/
theorem back_eq (z d : Fin 1024 → ℝ) (j : Fin 1024) :
    d j * rs z + (z j * ((∑ k, z k * d k) * (-(1 / 2) * (rs z / ms z)) * (1 / 1024)) + (∑ k, z k * d k) * (-(1 / 2) * (rs z / ms z)) * (1 / 1024) * z j)
      = back z d j := by
  have hs : rs z / ms z = rs z * (rs z * rs z) := by
    have h := ms_pos z
    have h2 : √(ms z) * √(ms z) = ms z := Real.mul_self_sqrt h.le
    unfold rs
    rw [div_eq_mul_inv, ← mul_inv (√(ms z)) (√(ms z)), h2]
  have hk : (∑ k, d k * nrm z k) = (∑ k, z k * d k) * rs z := by
    rw [Finset.sum_mul]; exact Finset.sum_congr rfl fun k _ => by unfold nrm; ring
  unfold back
  rw [hs, hk]
  unfold nrm
  ring

/-- The layer's weights: the two products' and the two norms', the one before the products and the one behind them. -/
structure Net where
  w1 : Fin 1024 → Fin 4096 → ℝ
  w2 : Fin 4096 → Fin 1024 → ℝ
  gb : Fin 1024 → ℝ
  ga : Fin 1024 → ℝ

namespace Net

variable (N : Net) (x t : Fin 1024 → ℝ)

/-- The first product's input. -/
def h (j : Fin 1024) : ℝ := nrm x j * N.ga j
/-- The first product. -/
def p (f : Fin 4096) : ℝ := ∑ j, N.h x j * N.w1 j f
/-- Its positive part. -/
def a (f : Fin 4096) : ℝ := max (N.p x f) 0
/-- The squared units. -/
def r (f : Fin 4096) : ℝ := N.a x f * N.a x f
/-- The second product. -/
def y (j : Fin 1024) : ℝ := ∑ f, N.r x f * N.w2 f j
/-- The layer's output. -/
def o (j : Fin 1024) : ℝ := x j + nrm (N.y x) j * N.gb j
/-- The error. -/
def e (j : Fin 1024) : ℝ := N.o x j - t j
/-- The output's cotangent. -/
def u (j : Fin 1024) : ℝ := N.e x t j * (1 / 1024)
/-- Twice the token's loss. -/
def l : ℝ := (∑ j, N.e x t j * N.e x t j) * (1 / 1024)
/-- The share of the gradient of the weight of the norm behind the products. -/
def gbw (j : Fin 1024) : ℝ := N.u x t j * nrm (N.y x) j
/-- The second product's cotangent. -/
def dy (j : Fin 1024) : ℝ := back (N.y x) (fun k => N.u x t k * N.gb k) j
/-- The first product's cotangent. -/
def da (f : Fin 4096) : ℝ := (∑ j, N.dy x t j * N.w2 f j) * (2 * N.a x f)
/-- The cotangent of the first product's input. -/
def dh (j : Fin 1024) : ℝ := ∑ f, N.da x t f * N.w1 j f
/-- The share of the gradient of the weight of the norm before the products. -/
def gaw (j : Fin 1024) : ℝ := N.dh x t j * nrm x j
/-- The input's cotangent. -/
def dx (j : Fin 1024) : ℝ := N.u x t j + back x (fun k => N.dh x t k * N.ga k) j

/-- Where the first product is not positive its cotangent is zero. -/
theorem da_zero (f : Fin 4096) (hp : ¬ 0 < N.p x f) : N.da x t f = 0 := by
  unfold da a; rw [max_eq_right (not_lt.mp hp), mul_zero, mul_zero]

end Net

end Mlp

end
-- ==== Proof.MlpOps.lean ====
/-
  THE FEED-FORWARD CALL'S VECTOR OPERATIONS on matrices of reals: products, sums of rows and columns, a row's scale, the constants.
-/
module

public import proofs.«01_k».proof.Proof.Ops
public import proofs.«01_k».proof.Proof.MlpMath
public import proofs.«01_k».proof.Proof.Gen.MlpKernelIdeal.Skeleton

@[expose] public section

noncomputable section

namespace Cert.MlpKernelIdeal.Mlp

open Cert.MlpKernelIdeal Cert.MlpKernelIdeal.Gen Idealize.ShloMosaic Idealize.ShloMosaic.ValueIdx
open Cert.KernelIdeal.Fox (R2 R2_apply R2_congr R2_add R2_sub R2_mul R2_zero)
open _root_.Mlp _root_.Fox
open scoped BigOperators

/-- The pattern `0x44800000` is 1024. -/
theorem word_1024 : Ideal.ofBits .f32 0x44800000#32 = ((1024 : ℝ) : EReal) := by
  simp [Ideal.ofBits, Ideal.ieee, -EReal.coe_mul]; norm_num
/-- The pattern `0x3A800000` is its inverse. -/
theorem word_inv : Ideal.ofBits .f32 0x3A800000#32 = ((1 / 1024 : ℝ) : EReal) := by
  simp [Ideal.ofBits, Ideal.ieee, -EReal.coe_mul]; norm_num
/-- The pattern `0x358637BD` is `eps`. -/
theorem word_eps : Ideal.ofBits .f32 0x358637BD#32 = ((eps : ℝ) : EReal) := by
  unfold eps; simp [Ideal.ofBits, Ideal.ieee, -EReal.coe_mul]; norm_num
/-- The pattern `0x3F000000` is one half. -/
theorem word_half : Ideal.ofBits .f32 0x3F000000#32 = ((1 / 2 : ℝ) : EReal) := by
  simp [Ideal.ofBits, Ideal.ieee, -EReal.coe_mul]; norm_num
/-- The pattern `0xBF000000` is minus one half. -/
theorem word_neg_half : Ideal.ofBits .f32 0xBF000000#32 = ((-(1 / 2) : ℝ) : EReal) := by
  simp [Ideal.ofBits, Ideal.ieee, -EReal.coe_mul]; norm_num
/-- The pattern `0x40000000` is two. -/
theorem word_two : Ideal.ofBits .f32 0x40000000#32 = ((2 : ℝ) : EReal) := by
  simp [Ideal.ofBits, Ideal.ieee, -EReal.coe_mul]; norm_num

/-- A constant stretched over a matrix. -/
theorem R2_const {m n : Nat} {w : BitVec 32} {k : ℝ} (h : Ideal.ofBits .f32 w = (k : EReal)) :
    broadcast (⟨2, ![m, n]⟩ : Shape) (Scalar.ofBits (F := Ideal) .f32 w) = R2 (m := m) (n := n) fun _ _ => k := by
  funext j; exact h

/-- The quotient by a constant. -/
theorem R2_div {m n : Nat} {k : ℝ} (hk : k ≠ 0) (f : Fin m → Fin n → ℝ) :
    divf (F := Ideal) (s := ⟨2, ![m, n]⟩) (φ := .f32) (R2 f) (R2 fun _ _ => k) = R2 fun a b => f a b * (1 / k) := by
  funext j
  refine (Ideal.div_coe hk (R2 f j)).trans ?_
  exact (EReal.coe_mul _ _).symm

/-- The positive part. -/
theorem R2_pos {m n : Nat} (f : Fin m → Fin n → ℝ) :
    maximumf (F := Ideal) (s := ⟨2, ![m, n]⟩) (φ := .f32) (R2 f) (broadcast (⟨2, ![m, n]⟩ : Shape) (Scalar.ofBits (F := Ideal) .f32 0x00000000#32)) = R2 fun a b => max (f a b) 0 := by
  funext j
  refine (congrArg (max (R2 f j)) (Ideal.ofBits_zero_f32.trans EReal.coe_zero.symm)).trans ?_
  exact (EReal.coe_strictMono.monotone.map_max).symm

/-- The inverse root of a positive number. -/
theorem rsqrt_pos {r : ℝ} (h : 0 < r) : Ideal.rsqrt (r : EReal) = (((√r)⁻¹ : ℝ) : EReal) := by
  rw [Ideal.rsqrt_coe, if_neg (not_lt.mpr h.le), if_neg h.ne']

/-- The inverse root of a positive matrix. -/
theorem R2_rsqrt {m n : Nat} (f : Fin m → Fin n → ℝ) (hf : ∀ a b, 0 < f a b) :
    rsqrt (F := Ideal) (s := ⟨2, ![m, n]⟩) (φ := .f32) (R2 f) = R2 fun a b => (√(f a b))⁻¹ := by
  funext j
  exact rsqrt_pos (hf _ _)

/-- Rows against rows. -/
theorem rows_rows (A : Fin 256 → Fin 1024 → ℝ) (B : Fin 4096 → Fin 1024 → ℝ) :
    matmul (F := Ideal) (φ₁ := .bf16) (φ₂ := .bf16) dot_S256x1024_S4096x1024_S256x4096_1_1_0_0_n_n none (R2 A) (R2 B) (constant S256x4096 .f32 0x00000000#32)
    = R2 fun r c => ∑ l, A r l * B c l := by
  funext j
  refine (Ideal.matmul_constant_zero_apply (φ₁ := .bf16) (φ₂ := .bf16) _ none _ _ j).trans ?_
  rw [← Equiv.sum_comp (contrEquiv1 dot_S256x1024_S4096x1024_S256x4096_1_1_0_0_n_n 1024 rfl rfl).symm, R2_apply, coe_sum]
  refine Finset.sum_congr rfl fun k _ => ?_
  have hk := contrEquiv1_symm_val dot_S256x1024_S4096x1024_S256x4096_1_1_0_0_n_n 1024 rfl rfl k
  rw [EReal.coe_mul]
  refine congrArg₂ (· * ·) (congrArg _ (congrArg₂ A (Fin.ext ?_) (Fin.ext ?_))) (congrArg _ (congrArg₂ B (Fin.ext ?_) (Fin.ext ?_)))
  · rfl
  · exact hk
  · rfl
  · exact hk

/-- Rows against columns. -/
theorem rows_cols (A : Fin 256 → Fin 4096 → ℝ) (B : Fin 4096 → Fin 1024 → ℝ) :
    matmul (F := Ideal) (φ₁ := .bf16) (φ₂ := .bf16) dot_S256x4096_S4096x1024_S256x1024_1_0_0_1_n_n none (R2 A) (R2 B) (constant S256x1024 .f32 0x00000000#32)
    = R2 fun r l => ∑ c, A r c * B c l := by
  funext j
  refine (Ideal.matmul_constant_zero_apply (φ₁ := .bf16) (φ₂ := .bf16) _ none _ _ j).trans ?_
  rw [← Equiv.sum_comp (contrEquiv1 dot_S256x4096_S4096x1024_S256x1024_1_0_0_1_n_n 4096 rfl rfl).symm, R2_apply, coe_sum]
  refine Finset.sum_congr rfl fun k _ => ?_
  have hk := contrEquiv1_symm_val dot_S256x4096_S4096x1024_S256x1024_1_0_0_1_n_n 4096 rfl rfl k
  rw [EReal.coe_mul]
  refine congrArg₂ (· * ·) (congrArg _ (congrArg₂ A (Fin.ext ?_) (Fin.ext ?_))) (congrArg _ (congrArg₂ B (Fin.ext ?_) (Fin.ext ?_)))
  · rfl
  · exact hk
  · exact hk
  · rfl

/-- A column stretched over a block. -/
theorem col_block (f : Fin 256 → ℝ) :
    broadcastTo S256x1024 (R2 (m := 256) (n := 1) fun a _ => f a) broadcasts_S256x1_S256x1024 = R2 fun a _ => f a := by
  funext j
  refine (broadcastTo_apply _ _ j (ix2 (j 0) 0) ?_).trans rfl
  intro a; match a with | ⟨0, _⟩ => exact rfl | ⟨1, _⟩ => exact rfl

/-- A row stretched over a block. -/
theorem row_block (f : Fin 1024 → ℝ) :
    broadcastTo S256x1024 (R2 (m := 1) (n := 1024) fun _ b => f b) broadcasts_S1x1024_S256x1024 = R2 fun _ b => f b := by
  funext j
  refine (broadcastTo_apply _ _ j (ix2 0 (j 1)) ?_).trans rfl
  intro a; match a with | ⟨0, _⟩ => exact rfl | ⟨1, _⟩ => exact rfl

/-- Each row's sum, as a column. -/
theorem row_sum (f : Fin 256 → Fin 1024 → ℝ) (hφ) (hacc) :
    shapeCast S256x1 (multiReduction (F := Ideal) (φ := .f32) .add [1] S256 (R2 f) 0x00000000#32 reduces_S256x1024_S256 hφ hacc) shapeCasts_S256_S256x1
    = R2 fun a _ => ∑ b, f a b := by
  funext j
  refine (shapeCast_apply _ _ j (ix1 (j 0)) ?_).trans ?_
  · rw [Shape.rowMajor_val_one, Shape.rowMajor_val_two]
    have h1 : (j 1).val < 1 := (j 1).isLt
    show (j 0).val = (j 0).val * 1 + (j 1).val
    omega
  · refine (Ideal.multiReduction_add_single _ _ _ _ _ _).trans ?_
    rw [R2_apply, coe_sum]
    exact Finset.sum_congr rfl fun k _ => rfl

/-- Each column's sum, as a row. -/
theorem col_sum (f : Fin 256 → Fin 1024 → ℝ) (hφ) (hacc) :
    shapeCast S1x1024 (multiReduction (F := Ideal) (φ := .f32) .add [0] S1024 (R2 f) 0x00000000#32 reduces_S256x1024_S1024 hφ hacc) shapeCasts_S1024_S1x1024
    = R2 fun _ b => ∑ a, f a b := by
  funext j
  refine (shapeCast_apply _ _ j (ix1 (j 1)) ?_).trans ?_
  · rw [Shape.rowMajor_val_one, Shape.rowMajor_val_two]
    have h0 : (j 0).val < 1 := (j 0).isLt
    show (j 1).val = (j 0).val * 1024 + (j 1).val
    omega
  · refine (Ideal.multiReduction_add_single _ _ _ _ _ _).trans ?_
    rw [R2_apply, coe_sum]
    exact Finset.sum_congr rfl fun k _ => rfl

/-- The sum of a column of 256. -/
theorem total (f : Fin 256 → ℝ) (hφ) (hacc) (j : S1.Idx) :
    multiReduction (F := Ideal) (φ := .f32) .add [1, 2] S1 (shapeCast S1x256x1 (R2 (m := 256) (n := 1) fun a _ => f a) shapeCasts_S256x1_S1x256x1) 0x00000000#32 reduces_S1x256x1_S1 hφ hacc j
    = ((∑ a, f a : ℝ) : EReal) := by
  refine (Ideal.multiReduction_add_total _ _ _ (by decide) _ _ _).trans ?_
  rw [coe_sum]
  refine (Finset.sum_bij (fun (a : Fin 256) _ => (ix3 (n0 := 1) (n1 := 256) (n2 := 1) 0 a 0 : S1x256x1.Idx)) (fun _ _ => Finset.mem_univ _) ?_ ?_ ?_).symm
  · intro a _ b _ h
    exact congrFun h (1 : Fin 3)
  · intro i _
    refine ⟨i 1, Finset.mem_univ _, ?_⟩
    funext q
    match q with
    | ⟨0, _⟩ => exact Subsingleton.elim (α := Fin 1) _ _
    | ⟨1, _⟩ => rfl
    | ⟨2, _⟩ => exact Subsingleton.elim (α := Fin 1) _ _
  · intro a _
    refine Eq.symm ((shapeCast_apply _ _ _ (ix2 a 0) ?_).trans rfl)
    rw [Shape.rowMajor_val_two, Shape.rowMajor_val_three]
    show a.val * 1 + 0 = (0 * 256 + a.val) * 1 + 0
    omega

/-- The eight blocks of 512 rows as one matrix. -/
theorem flat_apply (x : Vec Ideal S8x512x1024 .bf16) (b : Fin 8) (r : Fin 512) (j : S4096x1024.Idx) (hj : (j 0).val = 512 * b.val + r.val) :
    shapeCast S4096x1024 (shapeCast S8x512x1024 x shapeCasts_S8x512x1024_S8x512x1024) shapeCasts_S8x512x1024_S4096x1024 j = x (ix3 b r (j 1)) := by
  refine (shapeCast_apply _ _ j (ix3 b r (j 1)) ?_).trans ((shapeCast_apply _ _ _ (ix3 b r (j 1)) rfl).trans rfl)
  rw [Shape.rowMajor_val_two, Shape.rowMajor_val_three]
  show (b.val * 512 + r.val) * 1024 + (j 1).val = (j 0).val * 1024 + (j 1).val
  rw [hj]; omega

end Cert.MlpKernelIdeal.Mlp

end
-- ==== Proof.MlpBody.lean ====
/-
  THE BODY OF THE FEED-FORWARD CALL ON REALS: at a block of 256 tokens each result of a point is, token by token, the layer's
  real function, and the three accumulators grow by sums over the block's tokens.
-/
module

public import proofs.«01_k».proof.Proof.MlpOps
public import proofs.«01_k».proof.Proof.MlpPoint

@[expose] public section

noncomputable section

namespace Cert.MlpKernelIdeal.Mlp

open Cert.MlpKernelIdeal Cert.MlpKernelIdeal.Gen Idealize.ShloMosaic Idealize.ShloMosaic.ValueIdx
open Cert.KernelIdeal.Fox (R2 R2_apply R2_congr R2_add R2_sub R2_mul R2_zero)
open _root_.Mlp _root_.Fox
open scoped BigOperators

/-! ## The pieces the norms share -/

/-- The scales of a block's rows. -/
theorem scale_eq (z : Fin 256 → Fin 1024 → ℝ) : k0_pay15 (F := Ideal) (R2 z) = R2 (m := 256) (n := 1) fun p _ => rs (z p) := by
  have h : divf (F := Ideal) (φ := .f32) (shapeCast S256x1 (multiReduction .add [1] S256 (mulf (F := Ideal) (s := S256x1024) (φ := .f32) (R2 z) (R2 z)) 0x00000000#32 reduces_S256x1024_S256 (.inl rfl) rfl) shapeCasts_S256_S256x1)
      (broadcast S256x1 (Scalar.ofBits (F := Ideal) .f32 0x44800000#32)) = R2 (m := 256) (n := 1) fun p _ => (∑ k, z p k * z p k) * (1 / 1024) := by
    refine (congrArg (fun q => divf (F := Ideal) (φ := .f32) (shapeCast S256x1 (multiReduction .add [1] S256 q 0x00000000#32 reduces_S256x1024_S256 (.inl rfl) rfl) shapeCasts_S256_S256x1)
      (broadcast S256x1 (Scalar.ofBits (F := Ideal) .f32 0x44800000#32))) (R2_mul .f32 z z)).trans ?_
    refine (congrArg₂ (fun A B => divf (F := Ideal) (s := S256x1) (φ := .f32) A B) (row_sum _ _ _) (R2_const word_1024)).trans ?_
    exact R2_div (by norm_num) _
  refine (congrArg (fun q => rsqrt (F := Ideal) (s := S256x1) (φ := .f32) q) ((congrArg₂ (fun A B => addf (F := Ideal) (s := S256x1) (φ := .f32) A B) h (R2_const word_eps)).trans (R2_add .f32 _ _))).trans ?_
  exact R2_rsqrt _ fun a _ => ms_pos (z a)

/-- The rows normed. -/
theorem norm_eq (z : Fin 256 → Fin 1024 → ℝ) : k0_pay16 (F := Ideal) (R2 z) = R2 fun p => nrm (z p) := by
  refine (congrArg (fun q => mulf (F := Ideal) (s := S256x1024) (φ := .f32) (R2 z) q) ((congrArg (fun q => broadcastTo S256x1024 q broadcasts_S256x1_S256x1024) (scale_eq z)).trans (col_block _))).trans ?_
  exact R2_mul .f32 _ _

/-- A row mean, stretched over the block. -/
theorem mean_eq (d n : Fin 256 → Fin 1024 → ℝ) :
    broadcastTo S256x1024 (divf (F := Ideal) (φ := .f32) (shapeCast S256x1 (multiReduction .add [1] S256 (mulf (F := Ideal) (s := S256x1024) (φ := .f32) (R2 d) (R2 n)) 0x00000000#32 reduces_S256x1024_S256 (.inl rfl) rfl) shapeCasts_S256_S256x1)
      (broadcast S256x1 (Scalar.ofBits (F := Ideal) .f32 0x44800000#32))) broadcasts_S256x1_S256x1024 = R2 fun p _ => (∑ k, d p k * n p k) * (1 / 1024) := by
  refine (congrArg (fun q => broadcastTo S256x1024 (divf (F := Ideal) (φ := .f32) (shapeCast S256x1 (multiReduction .add [1] S256 q 0x00000000#32 reduces_S256x1024_S256 (.inl rfl) rfl) shapeCasts_S256_S256x1)
      (broadcast S256x1 (Scalar.ofBits (F := Ideal) .f32 0x44800000#32))) broadcasts_S256x1_S256x1024) (R2_mul .f32 d n)).trans ?_
  refine (congrArg (fun q => broadcastTo S256x1024 q broadcasts_S256x1_S256x1024) ((congrArg₂ (fun A B => divf (F := Ideal) (s := S256x1) (φ := .f32) A B) (row_sum _ _ _) (R2_const word_1024)).trans (R2_div (by norm_num) _))).trans ?_
  exact col_block _

/-- The norm's backward pass on a block. -/
theorem back_block (z d : Fin 256 → Fin 1024 → ℝ) :
    mulf (F := Ideal) (s := S256x1024) (φ := .f32) (broadcastTo S256x1024 (R2 (m := 256) (n := 1) fun p _ => rs (z p)) broadcasts_S256x1_S256x1024)
      (subf (F := Ideal) (s := S256x1024) (φ := .f32) (R2 d) (mulf (F := Ideal) (s := S256x1024) (φ := .f32) (R2 fun p => nrm (z p)) (R2 fun p _ => (∑ k, d p k * nrm (z p) k) * (1 / 1024)))) = R2 fun p => back (z p) (d p) := by
  refine (congrArg₂ (fun A B => mulf (F := Ideal) (s := S256x1024) (φ := .f32) A B) (col_block _) ((congrArg (fun q => subf (F := Ideal) (s := S256x1024) (φ := .f32) (R2 d) q) (R2_mul .f32 _ _)).trans (R2_sub .f32 _ _))).trans ?_
  exact R2_mul .f32 _ _

/-! ## A block of tokens -/

/-- The blocks a point reads are the tokens `X` with their targets `T` and the layer `N`. -/
structure Reads (N : Net) (X T : Fin 256 → Fin 1024 → ℝ) (x0 : Vec Ideal S256x1024 .bf16) (x1 x2 : Vec Ideal S256x1024 .f32) (x3 x4 : Vec Ideal S8x512x1024 .bf16) (x5 x6 : Vec Ideal S1x1024 .f32) : Prop where
  e0 : x0 = R2 fun p => N.h (X p)
  e1 : x1 = R2 X
  e2 : x2 = R2 T
  e3 : k0_pay6 (F := Ideal) x3 = R2 fun f j => N.w1 j f
  e4 : k0_pay7 (F := Ideal) x4 = R2 N.w2
  e5 : x5 = R2 (m := 1) (n := 1024) fun _ j => N.gb j
  e6 : x6 = R2 (m := 1) (n := 1024) fun _ j => N.ga j

section
variable {N : Net} {X T : Fin 256 → Fin 1024 → ℝ} {x0 : Vec Ideal S256x1024 .bf16} {x1 x2 : Vec Ideal S256x1024 .f32} {x3 x4 : Vec Ideal S8x512x1024 .bf16} {x5 x6 : Vec Ideal S1x1024 .f32}
  (H : Reads N X T x0 x1 x2 x3 x4 x5 x6)

include H

/-- The positive part of the first product. -/
theorem act_eq : k0_pay8 (F := Ideal) x3 x0 = R2 fun p => N.a (X p) := by
  have h : matmul (F := Ideal) (φ₁ := .bf16) (φ₂ := .bf16) dot_S256x1024_S4096x1024_S256x4096_1_1_0_0_n_n none (shapeCast S256x1024 x0 shapeCasts_S256x1024_S256x1024) (k0_pay6 x3) (constant S256x4096 .f32 0x00000000#32) = R2 fun p => N.p (X p) := by
    rw [H.e3]
    refine (congrArg (fun q => matmul (F := Ideal) (φ₁ := .bf16) (φ₂ := .bf16) dot_S256x1024_S4096x1024_S256x4096_1_1_0_0_n_n none q (R2 fun f j => N.w1 j f) (constant S256x4096 .f32 0x00000000#32))
      ((shapeCast_self _ _).trans H.e0)).trans ?_
    exact rows_rows _ _
  exact (congrArg (fun q => maximumf (F := Ideal) (s := S256x4096) (φ := .f32) q (broadcast S256x4096 (Scalar.ofBits (F := Ideal) .f32 0x00000000#32))) h).trans (R2_pos _)

/-- The squared units. -/
theorem sq_eq : k0_pay9 (F := Ideal) x3 x0 = R2 fun p => N.r (X p) := by
  refine (congrArg (fun q => mulf (F := Ideal) (s := S256x4096) (φ := .f32) q q) (act_eq H)).trans ?_
  exact R2_mul .f32 _ _

/-- The second product. -/
theorem out_eq : out x0 x3 x4 = R2 fun p => N.y (X p) := by
  refine (congrArg₂ (fun A B => matmul (F := Ideal) (φ₁ := .bf16) (φ₂ := .bf16) dot_S256x4096_S4096x1024_S256x1024_1_0_0_1_n_n none A B (constant S256x1024 .f32 0x00000000#32)) (sq_eq H) H.e4).trans ?_
  exact rows_cols _ _

/-- The layer's output. -/
theorem hid_eq : hid x0 x1 x3 x4 x5 = R2 fun p => N.o (X p) := by
  have h : k0_pay16 (F := Ideal) (out x0 x3 x4) = R2 fun p => nrm (N.y (X p)) := by rw [out_eq H]; exact norm_eq _
  have hb : broadcastTo S256x1024 x5 broadcasts_S1x1024_S256x1024 = R2 fun _ j => N.gb j := by rw [H.e5]; exact row_block _
  refine (congrArg₂ (fun A B => addf (F := Ideal) (s := S256x1024) (φ := .f32) A B) H.e1 ((congrArg₂ (fun A B => mulf (F := Ideal) (s := S256x1024) (φ := .f32) A B) h hb).trans (R2_mul .f32 _ _))).trans ?_
  exact R2_add .f32 _ _

/-- The error. -/
theorem err_eq : k0_pay12 (F := Ideal) (hid x0 x1 x3 x4 x5) x2 = R2 fun p => N.e (X p) (T p) := by
  refine (congrArg₂ (fun A B => subf (F := Ideal) (s := S256x1024) (φ := .f32) A B) (hid_eq H) H.e2).trans ?_
  exact R2_sub .f32 _ _

/-- The output's cotangent. -/
theorem ct_eq : k0_pay14 (F := Ideal) (hid x0 x1 x3 x4 x5) x2 = R2 fun p => N.u (X p) (T p) := by
  refine (congrArg₂ (fun A B => mulf (F := Ideal) (s := S256x1024) (φ := .f32) A B) (err_eq H) (R2_const word_inv)).trans ?_
  exact R2_mul .f32 _ _

/-- The block's loss, added to what was there. -/
theorem loss_eq (k : ℝ) : k0_pay13 (F := Ideal) (hid x0 x1 x3 x4 x5) x2 (R2 (m := 8) (n := 128) fun _ _ => k) = R2 (m := 8) (n := 128) fun _ _ => k + 1 / 2 * ∑ p, N.l (X p) (T p) := by
  have h : mulf (F := Ideal) (φ := .f32) (shapeCast S256x1 (multiReduction .add [1] S256 (mulf (F := Ideal) (s := S256x1024) (φ := .f32) (k0_pay12 (F := Ideal) (hid x0 x1 x3 x4 x5) x2) (k0_pay12 (F := Ideal) (hid x0 x1 x3 x4 x5) x2)) 0x00000000#32 reduces_S256x1024_S256 (.inl rfl) rfl) shapeCasts_S256_S256x1)
      (broadcast S256x1 (Scalar.ofBits (F := Ideal) .f32 0x3A800000#32)) = R2 (m := 256) (n := 1) fun p _ => N.l (X p) (T p) := by
    rw [err_eq H]
    refine (congrArg (fun q => mulf (F := Ideal) (φ := .f32) (shapeCast S256x1 (multiReduction .add [1] S256 q 0x00000000#32 reduces_S256x1024_S256 (.inl rfl) rfl) shapeCasts_S256_S256x1)
      (broadcast S256x1 (Scalar.ofBits (F := Ideal) .f32 0x3A800000#32))) (R2_mul .f32 _ _)).trans ?_
    refine (congrArg₂ (fun A B => mulf (F := Ideal) (s := S256x1) (φ := .f32) A B) (row_sum _ _ _) (R2_const word_inv)).trans ?_
    exact R2_mul .f32 _ _
  have hs : extractAt ![0, 0, 0] (shapeCast S1x1x1 (multiReduction (F := Ideal) (φ := .f32) .add [1, 2] S1 (shapeCast S1x256x1 (mulf (F := Ideal) (φ := .f32) (shapeCast S256x1 (multiReduction .add [1] S256 (mulf (F := Ideal) (s := S256x1024) (φ := .f32) (k0_pay12 (F := Ideal) (hid x0 x1 x3 x4 x5) x2) (k0_pay12 (F := Ideal) (hid x0 x1 x3 x4 x5) x2)) 0x00000000#32 reduces_S256x1024_S256 (.inl rfl) rfl) shapeCasts_S256_S256x1)
      (broadcast S256x1 (Scalar.ofBits (F := Ideal) .f32 0x3A800000#32))) shapeCasts_S256x1_S1x256x1) 0x00000000#32 reduces_S1x256x1_S1 (.inl rfl) rfl) shapeCasts_S1_S1x1x1) inpos_S1x1x1_p0_0_0 = ((∑ p, N.l (X p) (T p) : ℝ) : EReal) := by
    rw [h]
    refine (shapeCast_apply _ _ _ (ix1 0) ?_).trans (total _ _ _ _)
    rw [Shape.rowMajor_val_one, Shape.rowMajor_val_three]; rfl
  funext j
  refine (congrArg₂ (fun A B : EReal => A + B) (congrFun (shapeCast_self _ _) j) (congrArg₂ (fun A B : EReal => A * B) word_half hs)).trans ?_
  refine (congrArg (fun q : EReal => (k : EReal) + q) (EReal.coe_mul _ _).symm).trans (EReal.coe_add _ _).symm

/-- The share of the gradient of the weight behind the products. -/
theorem gp_eq : gp x0 x1 x2 x3 x4 x5 = R2 (m := 1) (n := 1024) fun _ j => ∑ p, N.gbw (X p) (T p) j := by
  have h : k0_pay16 (F := Ideal) (out x0 x3 x4) = R2 fun p => nrm (N.y (X p)) := by rw [out_eq H]; exact norm_eq _
  refine (congrArg (fun q => shapeCast S1x1024 (multiReduction (F := Ideal) (φ := .f32) .add [0] S1024 q 0x00000000#32 reduces_S256x1024_S1024 (.inl rfl) rfl) shapeCasts_S1024_S1x1024)
    ((congrArg₂ (fun A B => mulf (F := Ideal) (s := S256x1024) (φ := .f32) A B) (ct_eq H) h).trans (R2_mul .f32 _ _))).trans ?_
  exact col_sum _ _ _

/-- The cotangent of the normed rows. -/
theorem up_eq : up x0 x1 x2 x3 x4 x5 = R2 fun p j => N.u (X p) (T p) j * N.gb j := by
  have hb : broadcastTo S256x1024 x5 broadcasts_S1x1024_S256x1024 = R2 fun _ j => N.gb j := by rw [H.e5]; exact row_block _
  refine (congrArg₂ (fun A B => mulf (F := Ideal) (s := S256x1024) (φ := .f32) A B) (ct_eq H) hb).trans ?_
  exact R2_mul .f32 _ _

/-- The second product's cotangent. -/
theorem dy_eq : dy x0 x1 x2 x3 x4 x5 = R2 fun p => N.dy (X p) (T p) := by
  have h : k0_pay16 (F := Ideal) (out x0 x3 x4) = R2 fun p => nrm (N.y (X p)) := by rw [out_eq H]; exact norm_eq _
  have hs : sc x0 x3 x4 = R2 (m := 256) (n := 1) fun p _ => rs (N.y (X p)) := by unfold sc; rw [out_eq H]; exact scale_eq _
  have hm : off x0 x1 x2 x3 x4 x5 = mulf (F := Ideal) (s := S256x1024) (φ := .f32) (R2 fun p => nrm (N.y (X p))) (R2 fun p _ => (∑ k, (N.u (X p) (T p) k * N.gb k) * nrm (N.y (X p)) k) * (1 / 1024)) := by
    refine (congrArg₂ (fun A B => mulf (F := Ideal) (s := S256x1024) (φ := .f32) A (broadcastTo S256x1024 (divf (F := Ideal) (φ := .f32) (shapeCast S256x1 (multiReduction .add [1] S256 (mulf (F := Ideal) (s := S256x1024) (φ := .f32) B A) 0x00000000#32 reduces_S256x1024_S256 (.inl rfl) rfl) shapeCasts_S256_S256x1)
      (broadcast S256x1 (Scalar.ofBits (F := Ideal) .f32 0x44800000#32))) broadcasts_S256x1_S256x1024)) h (up_eq H)).trans ?_
    exact congrArg (fun q => mulf (F := Ideal) (s := S256x1024) (φ := .f32) (R2 fun p => nrm (N.y (X p))) q) (mean_eq _ _)
  unfold dy
  rw [hs, up_eq H, hm]
  exact back_block (fun p => N.y (X p)) (fun p k => N.u (X p) (T p) k * N.gb k)

/-- The first product's cotangent. -/
theorem da_eq : da x0 x1 x2 x3 x4 x5 = R2 fun p => N.da (X p) (T p) := by
  refine (congrArg₂ (fun A B => mulf (F := Ideal) (s := S256x4096) (φ := .f32) A B)
    ((congrArg₂ (fun A B => matmul (F := Ideal) (φ₁ := .bf16) (φ₂ := .bf16) dot_S256x1024_S4096x1024_S256x4096_1_1_0_0_n_n none A B (constant S256x4096 .f32 0x00000000#32)) (dy_eq H) H.e4).trans (rows_rows _ _))
    ((congrArg₂ (fun A B => mulf (F := Ideal) (s := S256x4096) (φ := .f32) A B) (R2_const word_two) (act_eq H)).trans (R2_mul .f32 _ _))).trans ?_
  exact R2_mul .f32 _ _

/-- The cotangent of the first product's input. -/
theorem dh_eq : k0_pay23 (F := Ideal) (k0_pay6 x3) (k0_pay7 x4) (k0_pay8 x3 x0) (sc x0 x3 x4) (up x0 x1 x2 x3 x4 x5) (off x0 x1 x2 x3 x4 x5) = R2 fun p => N.dh (X p) (T p) := by
  refine (congrArg₂ (fun A B => matmul (F := Ideal) (φ₁ := .bf16) (φ₂ := .bf16) dot_S256x4096_S4096x1024_S256x1024_1_0_0_1_n_n none A B (constant S256x1024 .f32 0x00000000#32)) (da_eq H) H.e3).trans ?_
  exact rows_cols _ _

/-- The share of the gradient of the weight before the products. -/
theorem gq_eq : gq x0 x1 x2 x3 x4 x5 = R2 (m := 1) (n := 1024) fun _ j => ∑ p, N.gaw (X p) (T p) j := by
  have h : k0_pay25 (F := Ideal) x1 = R2 fun p => nrm (X p) := by rw [H.e1]; exact norm_eq _
  refine (congrArg (fun q => shapeCast S1x1024 (multiReduction (F := Ideal) (φ := .f32) .add [0] S1024 q 0x00000000#32 reduces_S256x1024_S1024 (.inl rfl) rfl) shapeCasts_S1024_S1x1024)
    ((congrArg₂ (fun A B => mulf (F := Ideal) (s := S256x1024) (φ := .f32) A B) (dh_eq H) h).trans (R2_mul .f32 _ _))).trans ?_
  exact col_sum _ _ _

/-- The input's cotangent. -/
theorem dx_eq : dx2 x0 x1 x2 x3 x4 x5 x6 = R2 fun p => N.dx (X p) (T p) := by
  have h : k0_pay25 (F := Ideal) x1 = R2 fun p => nrm (X p) := by rw [H.e1]; exact norm_eq _
  have hs : k0_pay24 (F := Ideal) x1 = R2 (m := 256) (n := 1) fun p _ => rs (X p) := by rw [H.e1]; exact scale_eq _
  have hb : broadcastTo S256x1024 x6 broadcasts_S1x1024_S256x1024 = R2 fun _ j => N.ga j := by rw [H.e6]; exact row_block _
  have hg : k0_pay27 (F := Ideal) (k0_pay6 x3) (k0_pay7 x4) (k0_pay8 x3 x0) (sc x0 x3 x4) (up x0 x1 x2 x3 x4 x5) (off x0 x1 x2 x3 x4 x5) x6 = R2 fun p j => N.dh (X p) (T p) j * N.ga j := by
    refine (congrArg₂ (fun A B => mulf (F := Ideal) (s := S256x1024) (φ := .f32) A B) (dh_eq H) hb).trans ?_
    exact R2_mul .f32 _ _
  have hm : k0_pay28 (F := Ideal) (k0_pay6 x3) (k0_pay7 x4) (k0_pay8 x3 x0) x1 (sc x0 x3 x4) (up x0 x1 x2 x3 x4 x5) (off x0 x1 x2 x3 x4 x5) x6 = R2 fun p _ => (∑ k, (N.dh (X p) (T p) k * N.ga k) * nrm (X p) k) * (1 / 1024) := by
    refine (congrArg₂ (fun A B => broadcastTo S256x1024 (divf (F := Ideal) (φ := .f32) (shapeCast S256x1 (multiReduction .add [1] S256 (mulf (F := Ideal) (s := S256x1024) (φ := .f32) A B) 0x00000000#32 reduces_S256x1024_S256 (.inl rfl) rfl) shapeCasts_S256_S256x1)
      (broadcast S256x1 (Scalar.ofBits (F := Ideal) .f32 0x44800000#32))) broadcasts_S256x1_S256x1024) hg h).trans ?_
    exact mean_eq _ _
  unfold dx2
  rw [ct_eq H, hs, h, hg, hm]
  refine (congrArg (fun q => addf (F := Ideal) (s := S256x1024) (φ := .f32) (R2 fun p => N.u (X p) (T p)) q) (back_block (fun p => X p) (fun p k => N.dh (X p) (T p) k * N.ga k))).trans ?_
  exact R2_add .f32 _ _

end

end Cert.MlpKernelIdeal.Mlp

end
-- ==== Proof.MlpRef.lean ====
/-
  THE FEED-FORWARD LAYER'S REFERENCE ON REALS: each of its lines as the layer's mathematics.
-/
module

public import proofs.«01_k».proof.Proof.Gen.MlpReferenceIdeal.Read
public import proofs.«01_k».proof.Proof.MlpOps

@[expose] public section

noncomputable section

namespace Cert.MlpReferenceIdeal.Mlp

open Cert.MlpReferenceIdeal Cert.MlpReferenceIdeal.Read Idealize.ShloMosaic Idealize.ShloMosaic.ValueIdx
open Cert.MlpKernelIdeal.Mlp (word_1024 word_eps word_half word_neg_half word_two rsqrt_pos)
open _root_.Mlp
open scoped BigOperators

/-- The call's arguments on reals: the layer's weights, its input's rows and the targets'. -/
structure Reals (N : Net) (X T : Fin 2048 → Fin 1024 → ℝ) (x0 : S2048x1024.Idx → EReal) (x1 : S1024x4096.Idx → EReal) (x2 : S4096x1024.Idx → EReal)
    (x3 x4 : S1x1024.Idx → EReal) (x5 : S2048x1024.Idx → EReal) : Prop where
  r0 : ∀ i, x0 i = (X (i 0) (i 1) : ℝ)
  r1 : ∀ i, x1 i = (N.w1 (i 0) (i 1) : ℝ)
  r2 : ∀ i, x2 i = (N.w2 (i 0) (i 1) : ℝ)
  r3 : ∀ i, x3 i = (N.gb (i 1) : ℝ)
  r4 : ∀ i, x4 i = (N.ga (i 1) : ℝ)
  r5 : ∀ i, x5 i = (T (i 0) (i 1) : ℝ)

section
variable {a b z : EReal} {x y : ℝ}

theorem mul_of (ha : a = (x : ℝ)) (hb : b = (y : ℝ)) : FloatOps.mulf (F := Ideal) (φ := .f32) a b = ((x * y : ℝ) : EReal) := by
  rw [ha, hb]; exact (EReal.coe_mul x y).symm
theorem add_of (ha : a = (x : ℝ)) (hb : b = (y : ℝ)) : FloatOps.addf (F := Ideal) (φ := .f32) a b = ((x + y : ℝ) : EReal) := by
  rw [ha, hb]; exact (EReal.coe_add x y).symm
theorem sub_of (ha : a = (x : ℝ)) (hb : b = (y : ℝ)) : FloatOps.subf (F := Ideal) (φ := .f32) a b = ((x - y : ℝ) : EReal) := by
  rw [ha, hb]; exact (EReal.coe_sub x y).symm
theorem max_of (ha : a = (x : ℝ)) (hb : b = (y : ℝ)) : FloatOps.maximumf (F := Ideal) (φ := .f32) a b = ((max x y : ℝ) : EReal) := by
  rw [ha, hb]; exact (EReal.coe_strictMono.monotone.map_max).symm
theorem div_of (hy : y ≠ 0) (ha : a = (x : ℝ)) (hb : b = (y : ℝ)) : FloatOps.hostDivf (F := Ideal) (φ := .f32) a b = ((x * (1 / y) : ℝ) : EReal) := by
  rw [ha, hb]; refine (Ideal.div_coe hy (x : EReal)).trans ?_; exact (EReal.coe_mul x (1 / y)).symm
theorem rsqrt_of (hx : 0 < x) (ha : a = (x : ℝ)) : FloatOps.hostUnary (F := Ideal) (φ := .f32) .rsqrt a = (((√x)⁻¹ : ℝ) : EReal) := by
  rw [ha]; exact rsqrt_pos hx
theorem sum_of {n : Nat} {f : Fin n → EReal} {g : Fin n → ℝ} (h : ∀ k, f k = (g k : ℝ)) : ∑ k, f k = ((∑ k, g k : ℝ) : EReal) :=
  (Finset.sum_congr rfl fun k _ => h k).trans (_root_.Fox.coe_sum _ _).symm
theorem sum_from {n : Nat} {f : Fin n → EReal} {g : Fin n → ℝ} (hz : z = 0) (h : ∀ k, f k = (g k : ℝ)) : z + ∑ k, f k = ((∑ k, g k : ℝ) : EReal) := by
  rw [hz, zero_add]; exact sum_of h
theorem dot_of {n : Nat} {f f' : Fin n → EReal} {g g' : Fin n → ℝ} (h : ∀ k, f k = (g k : ℝ)) (h' : ∀ k, f' k = (g' k : ℝ)) :
    ∑ k, f k * f' k = ((∑ k, g k * g' k : ℝ) : EReal) :=
  sum_of fun k => by rw [h k, h' k]; exact (EReal.coe_mul _ _).symm
theorem as_real {w w' : ℝ} (h : a = (w : ℝ)) (e : w = w') : a = (w' : ℝ) := h.trans (congrArg _ e)
theorem pick {w v : ℝ} (h : ¬ 0 < w → v = 0) :
    Scalar.select (FloatOps.cmpf (F := Ideal) (φ := .f32) .ogt ((w : ℝ) : EReal) ((0 : ℝ) : EReal)) ((v : ℝ) : EReal) ((0 : ℝ) : EReal) = ((v : ℝ) : EReal) := by
  by_cases hw : 0 < w
  · have e : FloatOps.cmpf (F := Ideal) (φ := .f32) .ogt ((w : ℝ) : EReal) ((0 : ℝ) : EReal) = 1#1 := by
      show BitVec.ofBool (decide (((0 : ℝ) : EReal) < ((w : ℝ) : EReal))) = 1#1
      rw [decide_eq_true (EReal.coe_lt_coe_iff.mpr hw)]; rfl
    rw [e]; rfl
  · rw [h hw]; exact ite_self _
theorem word_zero : Ideal.ofBits .f32 0x00000000#32 = ((0 : ℝ) : EReal) := Ideal.ofBits_zero_f32.trans EReal.coe_zero.symm
theorem word_one : Ideal.ofBits .f32 0x3F800000#32 = ((1 : ℝ) : EReal) := by simp [Ideal.ofBits, Ideal.ieee, -EReal.coe_mul]; norm_num

end

section
variable {N : Net} {X T : Fin 2048 → Fin 1024 → ℝ} {x0 : S2048x1024.Idx → EReal} {x1 : S1024x4096.Idx → EReal} {x2 : S4096x1024.Idx → EReal}
    {x3 x4 : S1x1024.Idx → EReal} {x5 : S2048x1024.Idx → EReal} (R : Reals N X T x0 x1 x2 x3 x4 x5)

theorem v3 (i : S2048x1.Idx) : val_main_v3 (F := Ideal) i = ((1024 : ℝ) : EReal) :=
  (val_main_v3_apply i).trans ((val_main_cst_0_apply _).trans word_1024)

theorem v5 (i : S2048x1.Idx) : val_main_v5 (F := Ideal) i = ((eps : ℝ) : EReal) :=
  (val_main_v5_apply i).trans ((val_main_cst_1_apply _).trans word_eps)

theorem v9 (i : S2048x1.Idx) : val_main_v9 (F := Ideal) i = ((-(1 / 2) : ℝ) : EReal) :=
  (val_main_v9_apply i).trans ((val_main_cst_2_apply _).trans word_neg_half)

theorem call0 (i : S2048x4096.Idx) : val_main_call0_v0 (F := Ideal) i = ((0 : ℝ) : EReal) :=
  (val_main_call0_v0_apply i).trans ((val_main_call0_cst_apply _).trans word_zero)

theorem v17 (i : S2048x4096.Idx) : val_main_v17 (F := Ideal) i = ((0 : ℝ) : EReal) :=
  (val_main_v17_apply i).trans ((val_main_cst_3_apply _).trans word_zero)

theorem v21 (i : S2048x4096.Idx) : val_main_v21 (F := Ideal) i = ((2 : ℝ) : EReal) :=
  (val_main_v21_apply i).trans ((val_main_cst_5_apply _).trans word_two)

theorem v27 (i : S2048x1.Idx) : val_main_v27 (F := Ideal) i = ((1024 : ℝ) : EReal) :=
  (val_main_v27_apply i).trans ((val_main_cst_7_apply _).trans word_1024)

theorem v29 (i : S2048x1.Idx) : val_main_v29 (F := Ideal) i = ((eps : ℝ) : EReal) :=
  (val_main_v29_apply i).trans ((val_main_cst_8_apply _).trans word_eps)

theorem v33 (i : S2048x1.Idx) : val_main_v33 (F := Ideal) i = ((-(1 / 2) : ℝ) : EReal) :=
  (val_main_v33_apply i).trans ((val_main_cst_9_apply _).trans word_neg_half)

theorem v42 (i : S2048x1024.Idx) : val_main_v42 (F := Ideal) i = ((2 : ℝ) : EReal) :=
  (val_main_v42_apply i).trans ((val_main_cst_10_apply _).trans word_two)

theorem v45 (i : S2048.Idx) : val_main_v45 (F := Ideal) i = ((1024 : ℝ) : EReal) :=
  (val_main_v45_apply i).trans ((val_main_cst_12_apply _).trans word_1024)

theorem v51 (i : S2048.Idx) : val_main_v51 (F := Ideal) i = ((1024 : ℝ) : EReal) :=
  (val_main_v51_apply i).trans ((val_main_cst_17_apply _).trans word_1024)

theorem v66 (i : S2048x1.Idx) : val_main_v66 (F := Ideal) i = ((1024 : ℝ) : EReal) :=
  (val_main_v66_apply i).trans ((val_main_cst_20_apply _).trans word_1024)

theorem v76 (i : S2048x4096.Idx) : val_main_v76 (F := Ideal) i = ((0 : ℝ) : EReal) :=
  (val_main_v76_apply i).trans ((val_main_cst_22_apply _).trans word_zero)

theorem v90 (i : S2048x1.Idx) : val_main_v90 (F := Ideal) i = ((1024 : ℝ) : EReal) :=
  (val_main_v90_apply i).trans ((val_main_cst_25_apply _).trans word_1024)

theorem v49 (i : S_.Idx) : val_main_v49 (F := Ideal) i = ((1 / 2 * 1 : ℝ) : EReal) :=
  (val_main_v49_apply i).trans (mul_of ((val_main_cst_15_apply i).trans word_half) ((val_main_cst_16_apply i).trans word_one))

theorem v52 (i : S2048.Idx) : val_main_v52 (F := Ideal) i = ((1 / 2 * 1 * (1 / 1024) : ℝ) : EReal) :=
  (val_main_v52_apply i).trans (div_of (by norm_num) ((val_main_v50_apply i).trans (v49 (idx_main_v50 i))) (v51 i))

theorem flat57 (i : S1x1024.Idx) : idx_main_v57 i = ix1 (⟨(i 1).val, (i 1).isLt⟩ : Fin 1024) := by
  funext a
  have h0 : (i 0).val < 1 := (i 0).isLt
  match a with
  | ⟨0, _⟩ => exact Fin.ext (by show (i 0).val * 1024 + (i 1).val = (i 1).val; omega)

theorem flat81 (i : S1x1024.Idx) : idx_main_v81 i = ix1 (⟨(i 1).val, (i 1).isLt⟩ : Fin 1024) := by
  funext a
  have h0 : (i 0).val < 1 := (i 0).isLt
  match a with
  | ⟨0, _⟩ => exact Fin.ext (by show (i 0).val * 1024 + (i 1).val = (i 1).val; omega)

theorem flat62 (i : S2048x1.Idx) : idx_main_v62 i = ix1 (⟨(i 0).val, (i 0).isLt⟩ : Fin 2048) := by
  funext a
  have h0 : (i 1).val < 1 := (i 1).isLt
  match a with
  | ⟨0, _⟩ => exact Fin.ext (by show (i 0).val * 1 + (i 1).val = (i 0).val; omega)

theorem flat86 (i : S2048x1.Idx) : idx_main_v86 i = ix1 (⟨(i 0).val, (i 0).isLt⟩ : Fin 2048) := by
  funext a
  have h0 : (i 1).val < 1 := (i 1).isLt
  match a with
  | ⟨0, _⟩ => exact Fin.ext (by show (i 0).val * 1 + (i 1).val = (i 0).val; omega)

include R

theorem v0 (i : S2048x1024.Idx) : val_main_v0 (F := Ideal) x0 i = ((X (i 0) (i 1) * X (i 0) (i 1) : ℝ) : EReal) :=
  (val_main_v0_apply (F := Ideal) x0 i).trans (mul_of (R.r0 i) (R.r0 i))

theorem v1 (i : S2048.Idx) : val_main_v1 (F := Ideal) x0 i = ((∑ k, X (i 0) k * X (i 0) k : ℝ) : EReal) :=
  (val_main_v1_apply x0 i).trans (sum_from ((val_main_cst_apply _).trans Ideal.ofBits_zero_f32) fun k => v0 R (idx_main_v1 i k))

theorem v2 (i : S2048x1.Idx) : val_main_v2 (F := Ideal) x0 i = ((∑ k, X (i 0) k * X (i 0) k : ℝ) : EReal) :=
  (val_main_v2_apply (F := Ideal) x0 i).trans (v1 R (idx_main_v2 i))

theorem v4 (i : S2048x1.Idx) : val_main_v4 (F := Ideal) x0 i = (((∑ k, X (i 0) k * X (i 0) k) * (1 / 1024) : ℝ) : EReal) :=
  (val_main_v4_apply (F := Ideal) x0 i).trans (div_of (by norm_num) (v2 R i) (v3 i))

theorem v6 (i : S2048x1.Idx) : val_main_v6 (F := Ideal) x0 i = ((ms (X (i 0)) : ℝ) : EReal) :=
  (val_main_v6_apply (F := Ideal) x0 i).trans (add_of (v4 R i) (v5 i))

theorem v7 (i : S2048x1.Idx) : val_main_v7 (F := Ideal) x0 i = ((rs (X (i 0)) : ℝ) : EReal) :=
  (val_main_v7_apply (F := Ideal) x0 i).trans (rsqrt_of (ms_pos _) (v6 R i))

theorem v8 (i : S2048x1.Idx) : val_main_v8 (F := Ideal) x0 i = ((rs (X (i 0)) / ms (X (i 0)) : ℝ) : EReal) :=
  as_real ((val_main_v8_apply (F := Ideal) x0 i).trans (div_of (ms_pos _).ne' (v7 R i) (v6 R i))) (by rw [one_div, div_eq_mul_inv])

theorem v10 (i : S2048x1.Idx) : val_main_v10 (F := Ideal) x0 i = ((-(1 / 2) * (rs (X (i 0)) / ms (X (i 0))) : ℝ) : EReal) :=
  (val_main_v10_apply (F := Ideal) x0 i).trans (mul_of (v9 i) (v8 R i))

theorem v11 (i : S2048x1024.Idx) : val_main_v11 (F := Ideal) x0 i = ((rs (X (i 0)) : ℝ) : EReal) :=
  (val_main_v11_apply (F := Ideal) x0 i).trans (v7 R (idx_main_v11 i))

theorem v12 (i : S2048x1024.Idx) : val_main_v12 (F := Ideal) x0 i = ((nrm (X (i 0)) (i 1) : ℝ) : EReal) :=
  (val_main_v12_apply (F := Ideal) x0 i).trans (mul_of (R.r0 i) (v11 R i))

theorem v13 (i : S2048x1024.Idx) : val_main_v13 (F := Ideal) x4 i = ((N.ga (i 1) : ℝ) : EReal) :=
  (val_main_v13_apply (F := Ideal) x4 i).trans (R.r4 (idx_main_v13 i))

theorem v14 (i : S2048x1024.Idx) : val_main_v14 (F := Ideal) x0 x4 i = ((N.h (X (i 0)) (i 1) : ℝ) : EReal) :=
  (val_main_v14_apply (F := Ideal) x0 x4 i).trans (mul_of (v12 R i) (v13 R i))

theorem v15 (i : S2048x4096.Idx) : val_main_v15 (F := Ideal) x0 x1 x4 i = ((N.p (X (i 0)) (i 1) : ℝ) : EReal) :=
  (val_main_v15_apply x0 x1 x4 i).trans (dot_of (fun k => v14 R (lidx_main_v15 i k)) fun k => R.r1 (ridx_main_v15 i k))

theorem v16 (i : S2048x4096.Idx) : val_main_v16 (F := Ideal) x0 x1 x4 i = ((N.a (X (i 0)) (i 1) : ℝ) : EReal) :=
  (val_main_v16_apply (F := Ideal) x0 x1 x4 i).trans (max_of (v15 R i) (call0 i))

theorem v20 (i : S2048x4096.Idx) : val_main_v20 (F := Ideal) x0 x1 x4 i = ((N.r (X (i 0)) (i 1) : ℝ) : EReal) :=
  (val_main_v20_apply (F := Ideal) x0 x1 x4 i).trans (mul_of (v16 R i) (v16 R i))

theorem v22 (i : S2048x4096.Idx) : val_main_v22 (F := Ideal) x0 x1 x4 i = ((2 * N.a (X (i 0)) (i 1) : ℝ) : EReal) :=
  (val_main_v22_apply (F := Ideal) x0 x1 x4 i).trans (mul_of (v21 i) (v16 R i))

theorem v23 (i : S2048x1024.Idx) : val_main_v23 (F := Ideal) x0 x1 x2 x4 i = ((N.y (X (i 0)) (i 1) : ℝ) : EReal) :=
  (val_main_v23_apply x0 x1 x2 x4 i).trans (dot_of (fun k => v20 R (lidx_main_v23 i k)) fun k => R.r2 (ridx_main_v23 i k))

theorem v24 (i : S2048x1024.Idx) : val_main_v24 (F := Ideal) x0 x1 x2 x4 i = ((N.y (X (i 0)) (i 1) * N.y (X (i 0)) (i 1) : ℝ) : EReal) :=
  (val_main_v24_apply (F := Ideal) x0 x1 x2 x4 i).trans (mul_of (v23 R i) (v23 R i))

theorem v25 (i : S2048.Idx) : val_main_v25 (F := Ideal) x0 x1 x2 x4 i = ((∑ k, N.y (X (i 0)) k * N.y (X (i 0)) k : ℝ) : EReal) :=
  (val_main_v25_apply x0 x1 x2 x4 i).trans (sum_from ((val_main_cst_6_apply _).trans Ideal.ofBits_zero_f32) fun k => v24 R (idx_main_v25 i k))

theorem v26 (i : S2048x1.Idx) : val_main_v26 (F := Ideal) x0 x1 x2 x4 i = ((∑ k, N.y (X (i 0)) k * N.y (X (i 0)) k : ℝ) : EReal) :=
  (val_main_v26_apply (F := Ideal) x0 x1 x2 x4 i).trans (v25 R (idx_main_v26 i))

theorem v28 (i : S2048x1.Idx) : val_main_v28 (F := Ideal) x0 x1 x2 x4 i = (((∑ k, N.y (X (i 0)) k * N.y (X (i 0)) k) * (1 / 1024) : ℝ) : EReal) :=
  (val_main_v28_apply (F := Ideal) x0 x1 x2 x4 i).trans (div_of (by norm_num) (v26 R i) (v27 i))

theorem v30 (i : S2048x1.Idx) : val_main_v30 (F := Ideal) x0 x1 x2 x4 i = ((ms (N.y (X (i 0))) : ℝ) : EReal) :=
  (val_main_v30_apply (F := Ideal) x0 x1 x2 x4 i).trans (add_of (v28 R i) (v29 i))

theorem v31 (i : S2048x1.Idx) : val_main_v31 (F := Ideal) x0 x1 x2 x4 i = ((rs (N.y (X (i 0))) : ℝ) : EReal) :=
  (val_main_v31_apply (F := Ideal) x0 x1 x2 x4 i).trans (rsqrt_of (ms_pos _) (v30 R i))

theorem v32 (i : S2048x1.Idx) : val_main_v32 (F := Ideal) x0 x1 x2 x4 i = ((rs (N.y (X (i 0))) / ms (N.y (X (i 0))) : ℝ) : EReal) :=
  as_real ((val_main_v32_apply (F := Ideal) x0 x1 x2 x4 i).trans (div_of (ms_pos _).ne' (v31 R i) (v30 R i))) (by rw [one_div, div_eq_mul_inv])

theorem v34 (i : S2048x1.Idx) : val_main_v34 (F := Ideal) x0 x1 x2 x4 i = ((-(1 / 2) * (rs (N.y (X (i 0))) / ms (N.y (X (i 0)))) : ℝ) : EReal) :=
  (val_main_v34_apply (F := Ideal) x0 x1 x2 x4 i).trans (mul_of (v33 i) (v32 R i))

theorem v35 (i : S2048x1024.Idx) : val_main_v35 (F := Ideal) x0 x1 x2 x4 i = ((rs (N.y (X (i 0))) : ℝ) : EReal) :=
  (val_main_v35_apply (F := Ideal) x0 x1 x2 x4 i).trans (v31 R (idx_main_v35 i))

theorem v36 (i : S2048x1024.Idx) : val_main_v36 (F := Ideal) x0 x1 x2 x4 i = ((nrm (N.y (X (i 0))) (i 1) : ℝ) : EReal) :=
  (val_main_v36_apply (F := Ideal) x0 x1 x2 x4 i).trans (mul_of (v23 R i) (v35 R i))

theorem v37 (i : S2048x1024.Idx) : val_main_v37 (F := Ideal) x3 i = ((N.gb (i 1) : ℝ) : EReal) :=
  (val_main_v37_apply (F := Ideal) x3 i).trans (R.r3 (idx_main_v37 i))

theorem v38 (i : S2048x1024.Idx) : val_main_v38 (F := Ideal) x0 x1 x2 x3 x4 i = ((nrm (N.y (X (i 0))) (i 1) * N.gb (i 1) : ℝ) : EReal) :=
  (val_main_v38_apply (F := Ideal) x0 x1 x2 x3 x4 i).trans (mul_of (v36 R i) (v37 R i))

theorem v39 (i : S2048x1024.Idx) : val_main_v39 (F := Ideal) x0 x1 x2 x3 x4 i = ((N.o (X (i 0)) (i 1) : ℝ) : EReal) :=
  (val_main_v39_apply (F := Ideal) x0 x1 x2 x3 x4 i).trans (add_of (R.r0 i) (v38 R i))

theorem v40 (i : S2048x1024.Idx) : val_main_v40 (F := Ideal) x0 x1 x2 x3 x4 x5 i = ((N.e (X (i 0)) (T (i 0)) (i 1) : ℝ) : EReal) :=
  (val_main_v40_apply (F := Ideal) x0 x1 x2 x3 x4 x5 i).trans (sub_of (v39 R i) (R.r5 i))

theorem v41 (i : S2048x1024.Idx) : val_main_v41 (F := Ideal) x0 x1 x2 x3 x4 x5 i = ((N.e (X (i 0)) (T (i 0)) (i 1) * N.e (X (i 0)) (T (i 0)) (i 1) : ℝ) : EReal) :=
  (val_main_v41_apply (F := Ideal) x0 x1 x2 x3 x4 x5 i).trans (mul_of (v40 R i) (v40 R i))

theorem v43 (i : S2048x1024.Idx) : val_main_v43 (F := Ideal) x0 x1 x2 x3 x4 x5 i = ((2 * N.e (X (i 0)) (T (i 0)) (i 1) : ℝ) : EReal) :=
  (val_main_v43_apply (F := Ideal) x0 x1 x2 x3 x4 x5 i).trans (mul_of (v42 i) (v40 R i))

theorem v44 (i : S2048.Idx) : val_main_v44 (F := Ideal) x0 x1 x2 x3 x4 x5 i = ((∑ j, N.e (X (i 0)) (T (i 0)) j * N.e (X (i 0)) (T (i 0)) j : ℝ) : EReal) :=
  (val_main_v44_apply x0 x1 x2 x3 x4 x5 i).trans (sum_from ((val_main_cst_11_apply _).trans Ideal.ofBits_zero_f32) fun k => v41 R (idx_main_v44 i k))

theorem v46 (i : S2048.Idx) : val_main_v46 (F := Ideal) x0 x1 x2 x3 x4 x5 i = ((N.l (X (i 0)) (T (i 0)) : ℝ) : EReal) :=
  (val_main_v46_apply (F := Ideal) x0 x1 x2 x3 x4 x5 i).trans (div_of (by norm_num) (v44 R i) (v45 i))

theorem v47 (i : S_.Idx) : val_main_v47 (F := Ideal) x0 x1 x2 x3 x4 x5 i = ((∑ p, N.l (X p) (T p) : ℝ) : EReal) := by
  refine (val_main_v47_apply x0 x1 x2 x3 x4 x5 i).trans ?_
  have hz : (val_main_cst_13 (F := Ideal)) (Shape.Idx.first Gen.h_S_) = 0 := (val_main_cst_13_apply _).trans Ideal.ofBits_zero_f32
  rw [hz, zero_add, ← Equiv.sum_comp (⟨fun p => ix1 p, fun j => j 0, fun _ => rfl, fun j => (funext fun a => match a with | ⟨0, _⟩ => rfl)⟩ : Fin 2048 ≃ S2048.Idx)]
  exact sum_of fun p => v46 R (ix1 p)

theorem v48 (i : S_.Idx) : val_main_v48 (F := Ideal) x0 x1 x2 x3 x4 x5 i = ((1 / 2 * ∑ p, N.l (X p) (T p) : ℝ) : EReal) :=
  (val_main_v48_apply (F := Ideal) x0 x1 x2 x3 x4 x5 i).trans (mul_of ((val_main_cst_14_apply i).trans word_half) (v47 R i))

theorem v54 (i : S2048x1024.Idx) : val_main_v54 (F := Ideal) x0 x1 x2 x3 x4 x5 i = ((N.u (X (i 0)) (T (i 0)) (i 1) : ℝ) : EReal) :=
  as_real ((val_main_v54_apply (F := Ideal) x0 x1 x2 x3 x4 x5 i).trans (mul_of ((val_main_v53_apply i).trans (v52 (idx_main_v53 i))) (v43 R i))) (by unfold Net.u; ring)

theorem v55 (i : S2048x1024.Idx) : val_main_v55 (F := Ideal) x0 x1 x2 x3 x4 x5 i = ((N.gbw (X (i 0)) (T (i 0)) (i 1) : ℝ) : EReal) :=
  as_real ((val_main_v55_apply (F := Ideal) x0 x1 x2 x3 x4 x5 i).trans (mul_of (v36 R i) (v54 R i))) (mul_comm _ _)

theorem v56 (i : S1024.Idx) : val_main_v56 (F := Ideal) x0 x1 x2 x3 x4 x5 i = ((∑ p, N.gbw (X p) (T p) (i 0) : ℝ) : EReal) :=
  (val_main_v56_apply x0 x1 x2 x3 x4 x5 i).trans (sum_from ((val_main_cst_18_apply _).trans Ideal.ofBits_zero_f32) fun k => v55 R (idx_main_v56 i k))

theorem v57 (i : S1x1024.Idx) : val_main_v57 (F := Ideal) x0 x1 x2 x3 x4 x5 i = ((∑ p, N.gbw (X p) (T p) (i 1) : ℝ) : EReal) :=
  (val_main_v57_apply (F := Ideal) x0 x1 x2 x3 x4 x5 i).trans ((congrArg (val_main_v56 (F := Ideal) x0 x1 x2 x3 x4 x5) (flat57 i)).trans (v56 R (ix1 (⟨(i 1).val, (i 1).isLt⟩ : Fin 1024))))

theorem v58 (i : S2048x1024.Idx) : val_main_v58 (F := Ideal) x3 i = ((N.gb (i 1) : ℝ) : EReal) :=
  (val_main_v58_apply (F := Ideal) x3 i).trans (R.r3 (idx_main_v58 i))

theorem v59 (i : S2048x1024.Idx) : val_main_v59 (F := Ideal) x0 x1 x2 x3 x4 x5 i = ((N.u (X (i 0)) (T (i 0)) (i 1) * N.gb (i 1) : ℝ) : EReal) :=
  (val_main_v59_apply (F := Ideal) x0 x1 x2 x3 x4 x5 i).trans (mul_of (v54 R i) (v58 R i))

theorem v60 (i : S2048x1024.Idx) : val_main_v60 (F := Ideal) x0 x1 x2 x3 x4 x5 i = ((N.y (X (i 0)) (i 1) * (N.u (X (i 0)) (T (i 0)) (i 1) * N.gb (i 1)) : ℝ) : EReal) :=
  (val_main_v60_apply (F := Ideal) x0 x1 x2 x3 x4 x5 i).trans (mul_of (v23 R i) (v59 R i))

theorem v61 (i : S2048.Idx) : val_main_v61 (F := Ideal) x0 x1 x2 x3 x4 x5 i = (((∑ k, N.y (X (i 0)) k * (N.u (X (i 0)) (T (i 0)) k * N.gb k)) : ℝ) : EReal) :=
  (val_main_v61_apply x0 x1 x2 x3 x4 x5 i).trans (sum_from ((val_main_cst_19_apply _).trans Ideal.ofBits_zero_f32) fun k => v60 R (idx_main_v61 i k))

theorem v62 (i : S2048x1.Idx) : val_main_v62 (F := Ideal) x0 x1 x2 x3 x4 x5 i = (((∑ k, N.y (X (i 0)) k * (N.u (X (i 0)) (T (i 0)) k * N.gb k)) : ℝ) : EReal) :=
  (val_main_v62_apply (F := Ideal) x0 x1 x2 x3 x4 x5 i).trans ((congrArg (val_main_v61 (F := Ideal) x0 x1 x2 x3 x4 x5) (flat62 i)).trans (v61 R (ix1 (⟨(i 0).val, (i 0).isLt⟩ : Fin 2048))))

theorem v63 (i : S2048x1024.Idx) : val_main_v63 (F := Ideal) x0 x1 x2 x4 i = ((rs (N.y (X (i 0))) : ℝ) : EReal) :=
  (val_main_v63_apply (F := Ideal) x0 x1 x2 x4 i).trans (v31 R (idx_main_v63 i))

theorem v64 (i : S2048x1024.Idx) : val_main_v64 (F := Ideal) x0 x1 x2 x3 x4 x5 i = (((N.u (X (i 0)) (T (i 0)) (i 1) * N.gb (i 1)) * rs (N.y (X (i 0))) : ℝ) : EReal) :=
  (val_main_v64_apply (F := Ideal) x0 x1 x2 x3 x4 x5 i).trans (mul_of (v59 R i) (v63 R i))

theorem v65 (i : S2048x1.Idx) : val_main_v65 (F := Ideal) x0 x1 x2 x3 x4 x5 i = (((∑ k, N.y (X (i 0)) k * (N.u (X (i 0)) (T (i 0)) k * N.gb k)) * (-(1 / 2) * (rs (N.y (X (i 0))) / ms (N.y (X (i 0))))) : ℝ) : EReal) :=
  (val_main_v65_apply (F := Ideal) x0 x1 x2 x3 x4 x5 i).trans (mul_of (v62 R i) (v34 R i))

theorem v67 (i : S2048x1.Idx) : val_main_v67 (F := Ideal) x0 x1 x2 x3 x4 x5 i = (((∑ k, N.y (X (i 0)) k * (N.u (X (i 0)) (T (i 0)) k * N.gb k)) * (-(1 / 2) * (rs (N.y (X (i 0))) / ms (N.y (X (i 0))))) * (1 / 1024) : ℝ) : EReal) :=
  (val_main_v67_apply (F := Ideal) x0 x1 x2 x3 x4 x5 i).trans (div_of (by norm_num) (v65 R i) (v66 i))

theorem v68 (i : S2048.Idx) : val_main_v68 (F := Ideal) x0 x1 x2 x3 x4 x5 i = (((∑ k, N.y (X (i 0)) k * (N.u (X (i 0)) (T (i 0)) k * N.gb k)) * (-(1 / 2) * (rs (N.y (X (i 0))) / ms (N.y (X (i 0))))) * (1 / 1024) : ℝ) : EReal) :=
  as_real ((val_main_v68_apply x0 x1 x2 x3 x4 x5 i).trans (sum_from ((val_main_cst_21_apply _).trans Ideal.ofBits_zero_f32) fun k => v67 R (idx_main_v68 i k))) (Fin.sum_univ_one _)

theorem v69 (i : S2048x1024.Idx) : val_main_v69 (F := Ideal) x0 x1 x2 x3 x4 x5 i = (((∑ k, N.y (X (i 0)) k * (N.u (X (i 0)) (T (i 0)) k * N.gb k)) * (-(1 / 2) * (rs (N.y (X (i 0))) / ms (N.y (X (i 0))))) * (1 / 1024) : ℝ) : EReal) :=
  (val_main_v69_apply (F := Ideal) x0 x1 x2 x3 x4 x5 i).trans (v68 R (idx_main_v69 i))

theorem v70 (i : S2048x1024.Idx) : val_main_v70 (F := Ideal) x0 x1 x2 x3 x4 x5 i = ((N.y (X (i 0)) (i 1) * ((∑ k, N.y (X (i 0)) k * (N.u (X (i 0)) (T (i 0)) k * N.gb k)) * (-(1 / 2) * (rs (N.y (X (i 0))) / ms (N.y (X (i 0))))) * (1 / 1024)) : ℝ) : EReal) :=
  (val_main_v70_apply (F := Ideal) x0 x1 x2 x3 x4 x5 i).trans (mul_of (v23 R i) (v69 R i))

theorem v71 (i : S2048x1024.Idx) : val_main_v71 (F := Ideal) x0 x1 x2 x3 x4 x5 i = (((N.u (X (i 0)) (T (i 0)) (i 1) * N.gb (i 1)) * rs (N.y (X (i 0))) + N.y (X (i 0)) (i 1) * ((∑ k, N.y (X (i 0)) k * (N.u (X (i 0)) (T (i 0)) k * N.gb k)) * (-(1 / 2) * (rs (N.y (X (i 0))) / ms (N.y (X (i 0))))) * (1 / 1024)) : ℝ) : EReal) :=
  (val_main_v71_apply (F := Ideal) x0 x1 x2 x3 x4 x5 i).trans (add_of (v64 R i) (v70 R i))

theorem v72 (i : S2048x1024.Idx) : val_main_v72 (F := Ideal) x0 x1 x2 x3 x4 x5 i = (((∑ k, N.y (X (i 0)) k * (N.u (X (i 0)) (T (i 0)) k * N.gb k)) * (-(1 / 2) * (rs (N.y (X (i 0))) / ms (N.y (X (i 0))))) * (1 / 1024) * N.y (X (i 0)) (i 1) : ℝ) : EReal) :=
  (val_main_v72_apply (F := Ideal) x0 x1 x2 x3 x4 x5 i).trans (mul_of (v69 R i) (v23 R i))

theorem v73 (i : S2048x1024.Idx) : val_main_v73 (F := Ideal) x0 x1 x2 x3 x4 x5 i = ((N.dy (X (i 0)) (T (i 0)) (i 1) : ℝ) : EReal) :=
  as_real ((val_main_v73_apply (F := Ideal) x0 x1 x2 x3 x4 x5 i).trans (add_of (v71 R i) (v72 R i))) ((add_assoc _ _ _).trans (back_eq (N.y (X (i 0))) (fun k => N.u (X (i 0)) (T (i 0)) k * N.gb k) (i 1)))

theorem v74 (i : S2048x4096.Idx) : val_main_v74 (F := Ideal) x0 x1 x2 x3 x4 x5 i = ((∑ j, N.dy (X (i 0)) (T (i 0)) j * N.w2 (i 1) j : ℝ) : EReal) :=
  (val_main_v74_apply x0 x1 x2 x3 x4 x5 i).trans (dot_of (fun k => v73 R (lidx_main_v74 i k)) fun k => R.r2 (ridx_main_v74 i k))

theorem v75 (i : S2048x4096.Idx) : val_main_v75 (F := Ideal) x0 x1 x2 x3 x4 x5 i = ((N.da (X (i 0)) (T (i 0)) (i 1) : ℝ) : EReal) :=
  (val_main_v75_apply (F := Ideal) x0 x1 x2 x3 x4 x5 i).trans (mul_of (v74 R i) (v22 R i))

theorem v77 (i : S2048x4096.Idx) : val_main_v77 (F := Ideal) x0 x1 x2 x3 x4 x5 i = ((N.da (X (i 0)) (T (i 0)) (i 1) : ℝ) : EReal) := by
  refine (val_main_v77_apply (F := Ideal) x0 x1 x2 x3 x4 x5 i).trans ?_
  rw [v75 R i, v76 i, val_main_v18_apply, v15 R i, v17 i]
  exact pick (fun hp => N.da_zero (X (i 0)) (T (i 0)) (i 1) hp)

theorem v78 (i : S2048x1024.Idx) : val_main_v78 (F := Ideal) x0 x1 x2 x3 x4 x5 i = ((N.dh (X (i 0)) (T (i 0)) (i 1) : ℝ) : EReal) :=
  (val_main_v78_apply x0 x1 x2 x3 x4 x5 i).trans (dot_of (fun k => v77 R (lidx_main_v78 i k)) fun k => R.r1 (ridx_main_v78 i k))

theorem v79 (i : S2048x1024.Idx) : val_main_v79 (F := Ideal) x0 x1 x2 x3 x4 x5 i = ((N.gaw (X (i 0)) (T (i 0)) (i 1) : ℝ) : EReal) :=
  as_real ((val_main_v79_apply (F := Ideal) x0 x1 x2 x3 x4 x5 i).trans (mul_of (v12 R i) (v78 R i))) (mul_comm _ _)

theorem v80 (i : S1024.Idx) : val_main_v80 (F := Ideal) x0 x1 x2 x3 x4 x5 i = ((∑ p, N.gaw (X p) (T p) (i 0) : ℝ) : EReal) :=
  (val_main_v80_apply x0 x1 x2 x3 x4 x5 i).trans (sum_from ((val_main_cst_23_apply _).trans Ideal.ofBits_zero_f32) fun k => v79 R (idx_main_v80 i k))

theorem v81 (i : S1x1024.Idx) : val_main_v81 (F := Ideal) x0 x1 x2 x3 x4 x5 i = ((∑ p, N.gaw (X p) (T p) (i 1) : ℝ) : EReal) :=
  (val_main_v81_apply (F := Ideal) x0 x1 x2 x3 x4 x5 i).trans ((congrArg (val_main_v80 (F := Ideal) x0 x1 x2 x3 x4 x5) (flat81 i)).trans (v80 R (ix1 (⟨(i 1).val, (i 1).isLt⟩ : Fin 1024))))

theorem v82 (i : S2048x1024.Idx) : val_main_v82 (F := Ideal) x4 i = ((N.ga (i 1) : ℝ) : EReal) :=
  (val_main_v82_apply (F := Ideal) x4 i).trans (R.r4 (idx_main_v82 i))

theorem v83 (i : S2048x1024.Idx) : val_main_v83 (F := Ideal) x0 x1 x2 x3 x4 x5 i = ((N.dh (X (i 0)) (T (i 0)) (i 1) * N.ga (i 1) : ℝ) : EReal) :=
  (val_main_v83_apply (F := Ideal) x0 x1 x2 x3 x4 x5 i).trans (mul_of (v78 R i) (v82 R i))

theorem v84 (i : S2048x1024.Idx) : val_main_v84 (F := Ideal) x0 x1 x2 x3 x4 x5 i = ((X (i 0) (i 1) * (N.dh (X (i 0)) (T (i 0)) (i 1) * N.ga (i 1)) : ℝ) : EReal) :=
  (val_main_v84_apply (F := Ideal) x0 x1 x2 x3 x4 x5 i).trans (mul_of (R.r0 i) (v83 R i))

theorem v85 (i : S2048.Idx) : val_main_v85 (F := Ideal) x0 x1 x2 x3 x4 x5 i = (((∑ k, X (i 0) k * (N.dh (X (i 0)) (T (i 0)) k * N.ga k)) : ℝ) : EReal) :=
  (val_main_v85_apply x0 x1 x2 x3 x4 x5 i).trans (sum_from ((val_main_cst_24_apply _).trans Ideal.ofBits_zero_f32) fun k => v84 R (idx_main_v85 i k))

theorem v86 (i : S2048x1.Idx) : val_main_v86 (F := Ideal) x0 x1 x2 x3 x4 x5 i = (((∑ k, X (i 0) k * (N.dh (X (i 0)) (T (i 0)) k * N.ga k)) : ℝ) : EReal) :=
  (val_main_v86_apply (F := Ideal) x0 x1 x2 x3 x4 x5 i).trans ((congrArg (val_main_v85 (F := Ideal) x0 x1 x2 x3 x4 x5) (flat86 i)).trans (v85 R (ix1 (⟨(i 0).val, (i 0).isLt⟩ : Fin 2048))))

theorem v87 (i : S2048x1024.Idx) : val_main_v87 (F := Ideal) x0 i = ((rs (X (i 0)) : ℝ) : EReal) :=
  (val_main_v87_apply (F := Ideal) x0 i).trans (v7 R (idx_main_v87 i))

theorem v88 (i : S2048x1024.Idx) : val_main_v88 (F := Ideal) x0 x1 x2 x3 x4 x5 i = (((N.dh (X (i 0)) (T (i 0)) (i 1) * N.ga (i 1)) * rs (X (i 0)) : ℝ) : EReal) :=
  (val_main_v88_apply (F := Ideal) x0 x1 x2 x3 x4 x5 i).trans (mul_of (v83 R i) (v87 R i))

theorem v89 (i : S2048x1.Idx) : val_main_v89 (F := Ideal) x0 x1 x2 x3 x4 x5 i = (((∑ k, X (i 0) k * (N.dh (X (i 0)) (T (i 0)) k * N.ga k)) * (-(1 / 2) * (rs (X (i 0)) / ms (X (i 0)))) : ℝ) : EReal) :=
  (val_main_v89_apply (F := Ideal) x0 x1 x2 x3 x4 x5 i).trans (mul_of (v86 R i) (v10 R i))

theorem v91 (i : S2048x1.Idx) : val_main_v91 (F := Ideal) x0 x1 x2 x3 x4 x5 i = (((∑ k, X (i 0) k * (N.dh (X (i 0)) (T (i 0)) k * N.ga k)) * (-(1 / 2) * (rs (X (i 0)) / ms (X (i 0)))) * (1 / 1024) : ℝ) : EReal) :=
  (val_main_v91_apply (F := Ideal) x0 x1 x2 x3 x4 x5 i).trans (div_of (by norm_num) (v89 R i) (v90 i))

theorem v92 (i : S2048.Idx) : val_main_v92 (F := Ideal) x0 x1 x2 x3 x4 x5 i = (((∑ k, X (i 0) k * (N.dh (X (i 0)) (T (i 0)) k * N.ga k)) * (-(1 / 2) * (rs (X (i 0)) / ms (X (i 0)))) * (1 / 1024) : ℝ) : EReal) :=
  as_real ((val_main_v92_apply x0 x1 x2 x3 x4 x5 i).trans (sum_from ((val_main_cst_26_apply _).trans Ideal.ofBits_zero_f32) fun k => v91 R (idx_main_v92 i k))) (Fin.sum_univ_one _)

theorem v93 (i : S2048x1024.Idx) : val_main_v93 (F := Ideal) x0 x1 x2 x3 x4 x5 i = (((∑ k, X (i 0) k * (N.dh (X (i 0)) (T (i 0)) k * N.ga k)) * (-(1 / 2) * (rs (X (i 0)) / ms (X (i 0)))) * (1 / 1024) : ℝ) : EReal) :=
  (val_main_v93_apply (F := Ideal) x0 x1 x2 x3 x4 x5 i).trans (v92 R (idx_main_v93 i))

theorem v94 (i : S2048x1024.Idx) : val_main_v94 (F := Ideal) x0 x1 x2 x3 x4 x5 i = ((X (i 0) (i 1) * ((∑ k, X (i 0) k * (N.dh (X (i 0)) (T (i 0)) k * N.ga k)) * (-(1 / 2) * (rs (X (i 0)) / ms (X (i 0)))) * (1 / 1024)) : ℝ) : EReal) :=
  (val_main_v94_apply (F := Ideal) x0 x1 x2 x3 x4 x5 i).trans (mul_of (R.r0 i) (v93 R i))

theorem v95 (i : S2048x1024.Idx) : val_main_v95 (F := Ideal) x0 x1 x2 x3 x4 x5 i = (((N.dh (X (i 0)) (T (i 0)) (i 1) * N.ga (i 1)) * rs (X (i 0)) + X (i 0) (i 1) * ((∑ k, X (i 0) k * (N.dh (X (i 0)) (T (i 0)) k * N.ga k)) * (-(1 / 2) * (rs (X (i 0)) / ms (X (i 0)))) * (1 / 1024)) : ℝ) : EReal) :=
  (val_main_v95_apply (F := Ideal) x0 x1 x2 x3 x4 x5 i).trans (add_of (v88 R i) (v94 R i))

theorem v96 (i : S2048x1024.Idx) : val_main_v96 (F := Ideal) x0 x1 x2 x3 x4 x5 i = (((∑ k, X (i 0) k * (N.dh (X (i 0)) (T (i 0)) k * N.ga k)) * (-(1 / 2) * (rs (X (i 0)) / ms (X (i 0)))) * (1 / 1024) * X (i 0) (i 1) : ℝ) : EReal) :=
  (val_main_v96_apply (F := Ideal) x0 x1 x2 x3 x4 x5 i).trans (mul_of (v93 R i) (R.r0 i))

theorem v97 (i : S2048x1024.Idx) : val_main_v97 (F := Ideal) x0 x1 x2 x3 x4 x5 i = ((back (X (i 0)) (fun k => N.dh (X (i 0)) (T (i 0)) k * N.ga k) (i 1) : ℝ) : EReal) :=
  as_real ((val_main_v97_apply (F := Ideal) x0 x1 x2 x3 x4 x5 i).trans (add_of (v95 R i) (v96 R i))) ((add_assoc _ _ _).trans (back_eq (X (i 0)) (fun k => N.dh (X (i 0)) (T (i 0)) k * N.ga k) (i 1)))

theorem v98 (i : S2048x1024.Idx) : val_main_v98 (F := Ideal) x0 x1 x2 x3 x4 x5 i = ((N.dx (X (i 0)) (T (i 0)) (i 1) : ℝ) : EReal) :=
  (val_main_v98_apply (F := Ideal) x0 x1 x2 x3 x4 x5 i).trans (add_of (v54 R i) (v97 R i))

theorem v99 (i : S2048x4096.Idx) : val_main_v99 (F := Ideal) x0 x1 x2 x3 x4 x5 i = ((N.da (X (i 0)) (T (i 0)) (i 1) : ℝ) : EReal) :=
  (val_main_v99_apply (F := Ideal) x0 x1 x2 x3 x4 x5 i).trans (v77 R i)

theorem v100 (i : S2048x1024.Idx) : val_main_v100 (F := Ideal) x0 x1 x2 x3 x4 x5 i = ((N.dy (X (i 0)) (T (i 0)) (i 1) : ℝ) : EReal) :=
  (val_main_v100_apply (F := Ideal) x0 x1 x2 x3 x4 x5 i).trans (v73 R i)

theorem v101 (i : S2048x4096.Idx) : val_main_v101 (F := Ideal) x0 x1 x4 i = ((N.r (X (i 0)) (i 1) : ℝ) : EReal) :=
  (val_main_v101_apply (F := Ideal) x0 x1 x4 i).trans (v20 R i)

theorem v102 (i : S8x128.Idx) : val_main_v102 (F := Ideal) x0 x1 x2 x3 x4 x5 i = ((1 / 2 * ∑ p, N.l (X p) (T p) : ℝ) : EReal) :=
  (val_main_v102_apply (F := Ideal) x0 x1 x2 x3 x4 x5 i).trans (v48 R (idx_main_v102 i))

end

end Cert.MlpReferenceIdeal.Mlp

end
-- ==== Proof.MlpFold.lean ====
/-
  THE ARRAYS THE FEED-FORWARD CALL LEAVES, ON REALS: the rows of each block of tokens from the point that writes the block, the three
  sums over the tokens from the last point, which holds what all the points before it added.
-/
module

public import proofs.«01_k».proof.Proof.MlpBlocks
public import proofs.«01_k».proof.Proof.MlpBody
public import proofs.«01_k».proof.Proof.MlpRef

@[expose] public section

set_option maxHeartbeats 1000000

noncomputable section

namespace Cert.MlpKernelIdeal.Mlp

open Cert.MlpKernelIdeal Cert.MlpKernelIdeal.Gen Cert.MlpKernelIdeal.Value Idealize.ShloMosaic Idealize.ShloMosaic.ValueIdx
open Idealize.ShloMosaic.TcCoe
open Cert.KernelIdeal.Fox (R2 R2_add)
open _root_.Mlp
open Cert.MlpReferenceIdeal.Mlp (Reals)
open scoped BigOperators

/-- Token `p` of block `t`. -/
def tok (t : Fin 8) (p : Fin 256) : Fin 2048 := ⟨256 * t.val + p.val, by omega⟩

/-- A point's block. -/
def blk (t : Fin cfg0.N) : Fin 8 := ⟨t.val, lt_of_lt_of_eq t.isLt (by decide +kernel : grid0.N = 8)⟩

/-- What the first `n` blocks contribute to a sum over the tokens. -/
def part (f : Fin 2048 → ℝ) (n : ℕ) : ℝ := ∑ s ∈ Finset.range n, if h : s < 8 then ∑ p, f (tok ⟨s, h⟩ p) else 0

theorem part_zero (f : Fin 2048 → ℝ) : part f 0 = 0 := Finset.sum_range_zero _

theorem part_succ (f : Fin 2048 → ℝ) (t : Fin 8) : part f (t.val + 1) = part f t.val + ∑ p, f (tok t p) := by
  unfold part
  rw [Finset.sum_range_succ, dif_pos t.isLt]

/-- All eight blocks contribute the whole sum. -/
theorem part_all (f : Fin 2048 → ℝ) : part f 8 = ∑ p, f p := by
  unfold part
  rw [Finset.sum_range, ← Equiv.sum_comp (finProdFinEquiv : Fin 8 × Fin 256 ≃ Fin 2048), Fintype.sum_prod_type]
  refine Finset.sum_congr rfl fun t _ => ?_
  rw [dif_pos t.isLt]
  refine Finset.sum_congr rfl fun p _ => congrArg f (Fin.ext ?_)
  show 256 * t.val + p.val = p.val + 256 * t.val
  omega

/-- What a point leaves on reals. -/
theorem leaves_eq {N : Net} {X T : Fin 256 → Fin 1024 → ℝ} {x0 : Vec Ideal S256x1024 .bf16} {x1 x2 : Vec Ideal S256x1024 .f32} {x3 x4 : Vec Ideal S8x512x1024 .bf16} {x5 x6 : Vec Ideal S1x1024 .f32}
    (H : Reads N X T x0 x1 x2 x3 x4 x5 x6) (k : ℝ) (b d : Fin 1024 → ℝ) :
    leaves x0 x1 x2 x3 x4 x5 x6 (R2 (m := 8) (n := 128) fun _ _ => k) (R2 (m := 1) (n := 1024) fun _ j => b j) (R2 (m := 1) (n := 1024) fun _ j => d j)
      = (R2 fun p => N.dx (X p) (T p), R2 fun p => N.da (X p) (T p), R2 fun p => N.dy (X p) (T p), R2 fun p => N.r (X p),
        R2 (m := 8) (n := 128) fun _ _ => k + 1 / 2 * ∑ p, N.l (X p) (T p), R2 (m := 1) (n := 1024) fun _ j => b j + ∑ p, N.gbw (X p) (T p) j,
        R2 (m := 1) (n := 1024) fun _ j => d j + ∑ p, N.gaw (X p) (T p) j) := by
  have hb : k0_pay20 (F := Ideal) (gp x0 x1 x2 x3 x4 x5) (R2 (m := 1) (n := 1024) fun _ j => b j) = R2 (m := 1) (n := 1024) fun _ j => b j + ∑ p, N.gbw (X p) (T p) j := by
    unfold k0_pay20
    rw [shapeCast_self _ _, gp_eq H]
    exact R2_add _ _ _
  have hd : k0_pay1 (F := Ideal) (gq x0 x1 x2 x3 x4 x5) (R2 (m := 1) (n := 1024) fun _ j => d j) = R2 (m := 1) (n := 1024) fun _ j => d j + ∑ p, N.gaw (X p) (T p) j := by
    unfold k0_pay1
    rw [shapeCast_self _ _, gq_eq H]
    exact R2_add _ _ _
  unfold leaves
  rw [dx_eq H, da_eq H, dy_eq H, sq_eq H, loss_eq H, hb, hd]

/-- The accumulators start at zero. -/
theorem start_loss : k0_pay3 (F := Ideal) = R2 (m := 8) (n := 128) fun _ _ => 0 := by funext j; exact Cert.MlpReferenceIdeal.Mlp.word_zero
theorem start_gb : k0_pay4 (F := Ideal) = R2 (m := 1) (n := 1024) fun _ _ => 0 := by funext j; exact Cert.MlpReferenceIdeal.Mlp.word_zero
theorem start_ga : k0_pay5 (F := Ideal) = R2 (m := 1) (n := 1024) fun _ _ => 0 := by funext j; exact Cert.MlpReferenceIdeal.Mlp.word_zero

variable (m : (ℓ : Loc nD τ sig) → Buf (Elt Ideal) ℓ) (c : Dev nD)
variable {N : Net} {X T : Fin 2048 → Fin 1024 → ℝ}
  (R : Reals N X T (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))

include R in
/-- The normed rows of a block. -/
theorem rows_h (t : Fin cfg0.N) (j : S256x1024.Idx) : iblk m c 0 t j = ((N.h (X (tok (blk t) (j 0))) (j 1) : ℝ) : EReal) := by
  let k : S2048x1024.Idx := ix2 (tok (blk t) (j 0)) (j 1)
  exact (read0 m c t j k rfl rfl).trans ((congrFun (V_rows m c) k).trans (Cert.MlpReferenceIdeal.Mlp.v14 R k))

include R in
/-- The rows of a block. -/
theorem rows_x (t : Fin cfg0.N) (j : S256x1024.Idx) : iblk m c 1 t j = ((X (tok (blk t) (j 0)) (j 1) : ℝ) : EReal) := by
  let k : S2048x1024.Idx := ix2 (tok (blk t) (j 0)) (j 1)
  exact (read1 m c t j k rfl rfl).trans (R.r0 k)

include R in
/-- The targets of a block. -/
theorem rows_t (t : Fin cfg0.N) (j : S256x1024.Idx) : iblk m c 2 t j = ((T (tok (blk t) (j 0)) (j 1) : ℝ) : EReal) := by
  let k : S2048x1024.Idx := ix2 (tok (blk t) (j 0)) (j 1)
  exact (read2 m c t j k rfl rfl).trans (R.r5 k)

include R in
/-- The first weights a point reads. -/
theorem rows_w1 (t : Fin cfg0.N) (j : S4096x1024.Idx) : k0_pay6 (F := Ideal) (X0_3 m c t) j = ((N.w1 (j 1) (j 0) : ℝ) : EReal) := by
  have j0 : (j 0).val < 4096 := (j 0).isLt
  have hb : (j 0).val / 512 < 8 := by omega
  have hr : (j 0).val % 512 < 512 := Nat.mod_lt _ (by omega)
  have hj : (j 0).val = 512 * ((j 0).val / 512) + (j 0).val % 512 := by omega
  let k : S8x1664x1024.Idx := ix3 (⟨(j 0).val / 512, hb⟩ : Fin 8) (⟨(j 0).val % 512, by omega⟩ : Fin 1664) (j 1)
  let f : S1024x4096.Idx := ix2 (j 1) (j 0)
  have e := flat_apply (X0_3 m c t) ⟨(j 0).val / 512, hb⟩ ⟨(j 0).val % 512, hr⟩ j hj
  have e' := read3 m c t (ix3 ⟨(j 0).val / 512, hb⟩ ⟨(j 0).val % 512, hr⟩ (j 1)) k rfl rfl rfl
  have e'' := packed_low (m ((c : Thread nD τ).loc main_arg1)) (m ((c : Thread nD τ).loc main_arg2)) k f hr rfl hj
  unfold k0_pay6
  exact e.trans (e'.trans ((congrFun (V_packed m c) k).trans (e''.trans (R.r1 f))))

include R in
/-- The second weights a point reads. -/
theorem rows_w2 (t : Fin cfg0.N) (j : S4096x1024.Idx) : k0_pay7 (F := Ideal) (X0_4 m c t) j = ((N.w2 (j 0) (j 1) : ℝ) : EReal) := by
  have j0 : (j 0).val < 4096 := (j 0).isLt
  have hb : (j 0).val / 512 < 8 := by omega
  have hr : (j 0).val % 512 < 512 := Nat.mod_lt _ (by omega)
  have hj : (j 0).val = 512 * ((j 0).val / 512) + (j 0).val % 512 := by omega
  let k : S8x1664x1024.Idx := ix3 (⟨(j 0).val / 512, hb⟩ : Fin 8) (⟨512 + (j 0).val % 512, by omega⟩ : Fin 1664) (j 1)
  have e := flat_apply (X0_4 m c t) ⟨(j 0).val / 512, hb⟩ ⟨(j 0).val % 512, hr⟩ j hj
  have e' := read4 m c t (ix3 ⟨(j 0).val / 512, hb⟩ ⟨(j 0).val % 512, hr⟩ (j 1)) k rfl rfl rfl
  have e'' := packed_high (m ((c : Thread nD τ).loc main_arg1)) (m ((c : Thread nD τ).loc main_arg2)) k j ⟨(j 0).val % 512, hr⟩ rfl hj rfl
  unfold k0_pay7
  exact e.trans (e'.trans ((congrFun (V_packed m c) k).trans (e''.trans (R.r2 j))))

include R in
/-- The later norm's weights a point reads. -/
theorem rows_gb (t : Fin cfg0.N) (j : S1x1024.Idx) : iblk m c 5 t j = ((N.gb (j 1) : ℝ) : EReal) := (read5 m c t j j rfl rfl).trans (R.r3 j)

include R in
/-- The earlier norm's weights a point reads. -/
theorem rows_ga (t : Fin cfg0.N) (j : S1x1024.Idx) : iblk m c 6 t j = ((N.ga (j 1) : ℝ) : EReal) := (read6 m c t j j rfl rfl).trans (R.r4 j)

include R in
/-- A point reads its block of tokens and all the weights. -/
theorem reads (t : Fin cfg0.N) : Reads N (fun p => X (tok (blk t) p)) (fun p => T (tok (blk t) p)) (iblk m c 0 t) (iblk m c 1 t) (iblk m c 2 t) (X0_3 m c t) (X0_4 m c t) (iblk m c 5 t) (iblk m c 6 t) where
  e0 := funext (rows_h m c R t)
  e1 := funext (rows_x m c R t)
  e2 := funext (rows_t m c R t)
  e3 := funext (rows_w1 m c R t)
  e4 := funext (rows_w2 m c R t)
  e5 := funext (rows_gb m c R t)
  e6 := funext (rows_ga m c R t)

/-- What a point leaves when the blocks up to `n` are done. -/
def after (N : Net) (X T : Fin 2048 → Fin 1024 → ℝ) (b : Fin 8) :
    Vec Ideal S256x1024 .f32 × Vec Ideal S256x4096 .bf16 × Vec Ideal S256x1024 .bf16 × Vec Ideal S256x4096 .bf16 × Vec Ideal S8x128 .f32 × Vec Ideal S1x1024 .f32 × Vec Ideal S1x1024 .f32 :=
  (R2 (m := 256) (n := 1024) fun p => N.dx (X (tok b p)) (T (tok b p)), R2 (m := 256) (n := 4096) fun p => N.da (X (tok b p)) (T (tok b p)),
    R2 (m := 256) (n := 1024) fun p => N.dy (X (tok b p)) (T (tok b p)), R2 (m := 256) (n := 4096) fun p => N.r (X (tok b p)),
    R2 (m := 8) (n := 128) fun _ _ => 1 / 2 * part (fun p => N.l (X p) (T p)) (b.val + 1),
    R2 (m := 1) (n := 1024) fun _ j => part (fun p => N.gbw (X p) (T p) j) (b.val + 1),
    R2 (m := 1) (n := 1024) fun _ j => part (fun p => N.gaw (X p) (T p) j) (b.val + 1))

/-- A block's shares added to the sums of the blocks before it. -/
theorem after_step (b : Fin 8) (k : ℝ) (u v : Fin 1024 → ℝ) (hk : k = 1 / 2 * part (fun p => N.l (X p) (T p)) b.val)
    (hu : ∀ j, u j = part (fun p => N.gbw (X p) (T p) j) b.val) (hv : ∀ j, v j = part (fun p => N.gaw (X p) (T p) j) b.val) :
    (((R2 fun p => N.dx (X (tok b p)) (T (tok b p))), (R2 fun p => N.da (X (tok b p)) (T (tok b p))), (R2 fun p => N.dy (X (tok b p)) (T (tok b p))), (R2 fun p => N.r (X (tok b p))),
        (R2 (m := 8) (n := 128) fun _ _ => k + 1 / 2 * ∑ p, N.l (X (tok b p)) (T (tok b p))), (R2 (m := 1) (n := 1024) fun _ j => u j + ∑ p, N.gbw (X (tok b p)) (T (tok b p)) j),
        (R2 (m := 1) (n := 1024) fun _ j => v j + ∑ p, N.gaw (X (tok b p)) (T (tok b p)) j)) :
      Vec Ideal S256x1024 .f32 × Vec Ideal S256x4096 .bf16 × Vec Ideal S256x1024 .bf16 × Vec Ideal S256x4096 .bf16 × Vec Ideal S8x128 .f32 × Vec Ideal S1x1024 .f32 × Vec Ideal S1x1024 .f32)
      = after N X T b := by
  unfold after
  simp only [part_succ, hk, hu, hv, mul_add]

include R in
/-- What each point leaves. -/
theorem outs (n : ℕ) : ∀ hn : n < cfg0.N, outsAt0 m c n hn = after N X T (blk ⟨n, hn⟩) := by
  induction n with
  | zero =>
    intro hn
    refine (outs_A m c ⟨0, hn⟩ rfl).trans ?_
    rw [start_loss, start_gb, start_ga]
    refine (leaves_eq (reads m c R ⟨0, hn⟩) 0 (fun _ => 0) (fun _ => 0)).trans ?_
    exact after_step (blk ⟨0, hn⟩) 0 (fun _ => 0) (fun _ => 0) ((mul_eq_zero_of_right _ (part_zero _)).symm) (fun _ => (part_zero _).symm) (fun _ => (part_zero _).symm)
  | succ n ih =>
    intro hn
    have h8 : n + 1 < 8 := (blk ⟨n + 1, hn⟩).isLt
    have hp := ih (Nat.lt_of_succ_lt hn)
    have s := outs_B m c ⟨n + 1, hn⟩ (by show ¬(n + 1) % 8 = 0; omega) (R2 (m := 8) (n := 128) fun _ _ => 1 / 2 * part (fun p => N.l (X p) (T p)) (n + 1))
      (R2 (m := 1) (n := 1024) fun _ j => part (fun p => N.gbw (X p) (T p) j) (n + 1)) (R2 (m := 1) (n := 1024) fun _ j => part (fun p => N.gaw (X p) (T p) j) (n + 1))
      (congrArg (fun o => o.2.2.2.2.1) hp) (congrArg (fun o => o.2.2.2.2.2.1) hp) (congrArg (fun o => o.2.2.2.2.2.2) hp)
    refine s.trans ?_
    refine (leaves_eq (reads m c R ⟨n + 1, hn⟩) _ (fun j => part (fun p => N.gbw (X p) (T p) j) (n + 1)) (fun j => part (fun p => N.gaw (X p) (T p) j) (n + 1))).trans ?_
    exact after_step (blk ⟨n + 1, hn⟩) _ _ _ rfl (fun _ => rfl) (fun _ => rfl)

include R in
/-- The array of window 7. -/
theorem array7 (i : S2048x1024.Idx) : (dats m 0 c).arrAt 7 cfg0.N i = ((N.dx (X (i 0)) (T (i 0)) (i 1) : ℝ) : EReal) := by
  have i0 : (i 0).val < 2048 := (i 0).isLt
  have hN : (i 0).val / 256 < cfg0.N := lt_of_lt_of_eq (by omega) (by decide +kernel : (8 : ℕ) = grid0.N)
  let t : Fin cfg0.N := ⟨(i 0).val / 256, hN⟩
  let q : Fin 256 := ⟨(i 0).val % 256, by omega⟩
  let j : S256x1024.Idx := ix2 q (i 1)
  have hq : (i 0).val = 256 * t.val + q.val := by show _ = 256 * ((i 0).val / 256) + (i 0).val % 256; omega
  refine (place7 t ((dats m 0 c).arrAt 7 cfg0.N) j i hq rfl).symm.trans ?_
  rw [blocks7 m c t (flush0_7 t), flushed7]
  refine (whole7 t _ j).trans ?_
  rw [outs m c R t.val t.isLt]
  have e : tok (blk t) q = i 0 := Fin.ext hq.symm
  exact congrArg (fun p : Fin 2048 => ((N.dx (X p) (T p) (i 1) : ℝ) : EReal)) e

include R in
/-- The array of window 8. -/
theorem array8 (i : S2048x4096.Idx) : (dats m 0 c).arrAt 8 cfg0.N i = ((N.da (X (i 0)) (T (i 0)) (i 1) : ℝ) : EReal) := by
  have i0 : (i 0).val < 2048 := (i 0).isLt
  have hN : (i 0).val / 256 < cfg0.N := lt_of_lt_of_eq (by omega) (by decide +kernel : (8 : ℕ) = grid0.N)
  let t : Fin cfg0.N := ⟨(i 0).val / 256, hN⟩
  let q : Fin 256 := ⟨(i 0).val % 256, by omega⟩
  let j : S256x4096.Idx := ix2 q (i 1)
  have hq : (i 0).val = 256 * t.val + q.val := by show _ = 256 * ((i 0).val / 256) + (i 0).val % 256; omega
  refine (place8 t ((dats m 0 c).arrAt 8 cfg0.N) j i hq rfl).symm.trans ?_
  rw [blocks8 m c t (flush0_8 t), flushed8]
  refine (whole8 t _ j).trans ?_
  rw [outs m c R t.val t.isLt]
  have e : tok (blk t) q = i 0 := Fin.ext hq.symm
  exact congrArg (fun p : Fin 2048 => ((N.da (X p) (T p) (i 1) : ℝ) : EReal)) e

include R in
/-- The array of window 9. -/
theorem array9 (i : S2048x1024.Idx) : (dats m 0 c).arrAt 9 cfg0.N i = ((N.dy (X (i 0)) (T (i 0)) (i 1) : ℝ) : EReal) := by
  have i0 : (i 0).val < 2048 := (i 0).isLt
  have hN : (i 0).val / 256 < cfg0.N := lt_of_lt_of_eq (by omega) (by decide +kernel : (8 : ℕ) = grid0.N)
  let t : Fin cfg0.N := ⟨(i 0).val / 256, hN⟩
  let q : Fin 256 := ⟨(i 0).val % 256, by omega⟩
  let j : S256x1024.Idx := ix2 q (i 1)
  have hq : (i 0).val = 256 * t.val + q.val := by show _ = 256 * ((i 0).val / 256) + (i 0).val % 256; omega
  refine (place9 t ((dats m 0 c).arrAt 9 cfg0.N) j i hq rfl).symm.trans ?_
  rw [blocks9 m c t (flush0_9 t), flushed9]
  refine (whole9 t _ j).trans ?_
  rw [outs m c R t.val t.isLt]
  have e : tok (blk t) q = i 0 := Fin.ext hq.symm
  exact congrArg (fun p : Fin 2048 => ((N.dy (X p) (T p) (i 1) : ℝ) : EReal)) e

include R in
/-- The array of window 10. -/
theorem array10 (i : S2048x4096.Idx) : (dats m 0 c).arrAt 10 cfg0.N i = ((N.r (X (i 0)) (i 1) : ℝ) : EReal) := by
  have i0 : (i 0).val < 2048 := (i 0).isLt
  have hN : (i 0).val / 256 < cfg0.N := lt_of_lt_of_eq (by omega) (by decide +kernel : (8 : ℕ) = grid0.N)
  let t : Fin cfg0.N := ⟨(i 0).val / 256, hN⟩
  let q : Fin 256 := ⟨(i 0).val % 256, by omega⟩
  let j : S256x4096.Idx := ix2 q (i 1)
  have hq : (i 0).val = 256 * t.val + q.val := by show _ = 256 * ((i 0).val / 256) + (i 0).val % 256; omega
  refine (place10 t ((dats m 0 c).arrAt 10 cfg0.N) j i hq rfl).symm.trans ?_
  rw [blocks10 m c t (flush0_10 t), flushed10]
  refine (whole10 t _ j).trans ?_
  rw [outs m c R t.val t.isLt]
  have e : tok (blk t) q = i 0 := Fin.ext hq.symm
  exact congrArg (fun p : Fin 2048 => ((N.r (X p) (i 1) : ℝ) : EReal)) e

/-- Window 11 is written back once. -/
theorem once11 : ∀ t t' : Fin cfg0.N, (cfg0.win 11).flush t = true → (cfg0.win 11).flush t' = true → t ≠ t' →
    Disjoint ((cfg0.win 11).blk t).view.set ((cfg0.win 11).blk t').view.set := by
  intro t t' h h' hne
  have a := (flush0_11 t).mp h
  have a' := (flush0_11 t').mp h'
  have b : t.val < 8 := (blk t).isLt
  have b' : t'.val < 8 := (blk t').isLt
  exact absurd (Fin.ext (by omega)) hne

include R in
/-- The array of window 11. -/
theorem array11 (i : S8x128.Idx) : (dats m 0 c).arrAt 11 cfg0.N i = ((1 / 2 * ∑ p, N.l (X p) (T p) : ℝ) : EReal) := by
  have hN : 7 < cfg0.N := lt_of_lt_of_eq (by omega) (by decide +kernel : (8 : ℕ) = grid0.N)
  let t : Fin cfg0.N := ⟨7, hN⟩
  refine (place11 t ((dats m 0 c).arrAt 11 cfg0.N) i i rfl rfl).symm.trans ?_
  rw [(dats m 0 c).read_blk_arrAt_eq_flushed 11 once11 cfg0.N t t.isLt ((flush0_11 t).mpr rfl), flushed11]
  refine (whole11 t _ i).trans ?_
  rw [outs m c R t.val t.isLt]
  exact congrArg (fun v : ℝ => ((1 / 2 * v : ℝ) : EReal)) (part_all _)

/-- Window 12 is written back once. -/
theorem once12 : ∀ t t' : Fin cfg0.N, (cfg0.win 12).flush t = true → (cfg0.win 12).flush t' = true → t ≠ t' →
    Disjoint ((cfg0.win 12).blk t).view.set ((cfg0.win 12).blk t').view.set := by
  intro t t' h h' hne
  have a := (flush0_12 t).mp h
  have a' := (flush0_12 t').mp h'
  have b : t.val < 8 := (blk t).isLt
  have b' : t'.val < 8 := (blk t').isLt
  exact absurd (Fin.ext (by omega)) hne

include R in
/-- The array of window 12. -/
theorem array12 (i : S1x1024.Idx) : (dats m 0 c).arrAt 12 cfg0.N i = ((∑ p, N.gbw (X p) (T p) (i 1) : ℝ) : EReal) := by
  have hN : 7 < cfg0.N := lt_of_lt_of_eq (by omega) (by decide +kernel : (8 : ℕ) = grid0.N)
  let t : Fin cfg0.N := ⟨7, hN⟩
  refine (place12 t ((dats m 0 c).arrAt 12 cfg0.N) i i rfl rfl).symm.trans ?_
  rw [(dats m 0 c).read_blk_arrAt_eq_flushed 12 once12 cfg0.N t t.isLt ((flush0_12 t).mpr rfl), flushed12]
  refine (whole12 t _ i).trans ?_
  rw [outs m c R t.val t.isLt]
  exact congrArg (fun v : ℝ => (v : EReal)) (part_all _)

/-- Window 13 is written back once. -/
theorem once13 : ∀ t t' : Fin cfg0.N, (cfg0.win 13).flush t = true → (cfg0.win 13).flush t' = true → t ≠ t' →
    Disjoint ((cfg0.win 13).blk t).view.set ((cfg0.win 13).blk t').view.set := by
  intro t t' h h' hne
  have a := (flush0_13 t).mp h
  have a' := (flush0_13 t').mp h'
  have b : t.val < 8 := (blk t).isLt
  have b' : t'.val < 8 := (blk t').isLt
  exact absurd (Fin.ext (by omega)) hne

include R in
/-- The array of window 13. -/
theorem array13 (i : S1x1024.Idx) : (dats m 0 c).arrAt 13 cfg0.N i = ((∑ p, N.gaw (X p) (T p) (i 1) : ℝ) : EReal) := by
  have hN : 7 < cfg0.N := lt_of_lt_of_eq (by omega) (by decide +kernel : (8 : ℕ) = grid0.N)
  let t : Fin cfg0.N := ⟨7, hN⟩
  refine (place13 t ((dats m 0 c).arrAt 13 cfg0.N) i i rfl rfl).symm.trans ?_
  rw [(dats m 0 c).read_blk_arrAt_eq_flushed 13 once13 cfg0.N t t.isLt ((flush0_13 t).mpr rfl), flushed13]
  refine (whole13 t _ i).trans ?_
  rw [outs m c R t.val t.isLt]
  exact congrArg (fun v : ℝ => (v : EReal)) (part_all _)

/-- Arguments that are real everywhere are some tokens', some targets' and some layer's. -/
theorem exists_reals {x0 : S2048x1024.Idx → EReal} {x1 : S1024x4096.Idx → EReal} {x2 : S4096x1024.Idx → EReal} {x3 x4 : S1x1024.Idx → EReal} {x5 : S2048x1024.Idx → EReal}
    (h : (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal))) :
    ∃ (N : Net) (X T : Fin 2048 → Fin 1024 → ℝ), Reals N X T x0 x1 x2 x3 x4 x5 := by
  obtain ⟨h0, h1, h2, h3, h4, h5⟩ := h
  have one : ∀ i : S1x1024.Idx, i = ix2 (0 : Fin 1) (i 1) := fun i => by
    have e : ∀ z : Fin 1, z = 0 := fun z => Subsingleton.elim _ _
    exact (eq_ix2 i).trans (congrArg (fun z : Fin 1 => (ix2 z (i 1) : S1x1024.Idx)) (e (i 0)))
  refine ⟨⟨fun a b => (x1 (ix2 a b)).toReal, fun a b => (x2 (ix2 a b)).toReal, fun b => (x3 (ix2 (0 : Fin 1) b)).toReal, fun b => (x4 (ix2 (0 : Fin 1) b)).toReal⟩,
    fun a b => (x0 (ix2 a b)).toReal, fun a b => (x5 (ix2 a b)).toReal, ?_, ?_, ?_, ?_, ?_, ?_⟩
  · exact fun i => (h0 i).trans (congrArg (fun k : S2048x1024.Idx => ((x0 k).toReal : EReal)) (eq_ix2 i))
  · exact fun i => (h1 i).trans (congrArg (fun k : S1024x4096.Idx => ((x1 k).toReal : EReal)) (eq_ix2 i))
  · exact fun i => (h2 i).trans (congrArg (fun k : S4096x1024.Idx => ((x2 k).toReal : EReal)) (eq_ix2 i))
  · exact fun i => (h3 i).trans (congrArg (fun k : S1x1024.Idx => ((x3 k).toReal : EReal)) (one i))
  · exact fun i => (h4 i).trans (congrArg (fun k : S1x1024.Idx => ((x4 k).toReal : EReal)) (one i))
  · exact fun i => (h5 i).trans (congrArg (fun k : S2048x1024.Idx => ((x5 k).toReal : EReal)) (eq_ix2 i))

include R in
/-- The array of window 7 is the reference's. -/
theorem eq7 : Cert.MlpReferenceIdeal.Read.val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 7 cfg0.N :=
  funext fun i => (Cert.MlpReferenceIdeal.Mlp.v98 R i).trans (array7 m c R i).symm

include R in
/-- The array of window 8 is the reference's. -/
theorem eq8 : Cert.MlpReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 8 cfg0.N :=
  funext fun i => (Cert.MlpReferenceIdeal.Mlp.v99 R i).trans (array8 m c R i).symm

include R in
/-- The array of window 9 is the reference's. -/
theorem eq9 : Cert.MlpReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 9 cfg0.N :=
  funext fun i => (Cert.MlpReferenceIdeal.Mlp.v100 R i).trans (array9 m c R i).symm

include R in
/-- The array of window 10 is the reference's. -/
theorem eq10 : Cert.MlpReferenceIdeal.Read.val_main_v101 (F := Ideal) (m ((c : Thread nD τ).loc main_arg0)) (m ((c : Thread nD τ).loc main_arg1)) (m ((c : Thread nD τ).loc main_arg4)) = (dats m 0 c).arrAt 10 cfg0.N :=
  funext fun i => (Cert.MlpReferenceIdeal.Mlp.v101 R i).trans (array10 m c R i).symm

include R in
/-- The array of window 11 is the reference's. -/
theorem eq11 : Cert.MlpReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 11 cfg0.N :=
  funext fun i => (Cert.MlpReferenceIdeal.Mlp.v102 R i).trans (array11 m c R i).symm

include R in
/-- The array of window 12 is the reference's. -/
theorem eq12 : Cert.MlpReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 12 cfg0.N :=
  funext fun i => (Cert.MlpReferenceIdeal.Mlp.v57 R i).trans (array12 m c R i).symm

include R in
/-- The array of window 13 is the reference's. -/
theorem eq13 : Cert.MlpReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (dats m 0 c).arrAt 13 cfg0.N :=
  funext fun i => (Cert.MlpReferenceIdeal.Mlp.v81 R i).trans (array13 m c R i).symm

end Cert.MlpKernelIdeal.Mlp

end
-- ==== Proof.Pre.lean ====
/-
  The precondition read: its operations' side conditions, and that arguments satisfying it are reals where the call reads them.
-/
module

public import proofs.«01_k».proof.Pre_finite
public import proofs.«01_k».proof.Proof.Operands
public import Idealize.ShloMosaic.Lib.Pipeline.Value

@[expose] public section

noncomputable section

namespace Cert.Pre_finite.Fox

open Cert.Pre_finite Idealize.ShloMosaic Idealize.ShloMosaic.ValueIdx

/-- The precondition's slices and broadcasts are as their shapes allow. -/
theorem facts : Cert.Pre_finite.Facts where
  slices_S2048x3200_S2048x1536_0_0 := ⟨by decide, by decide⟩
  bcast_S_S2048x1536 := ⟨by decide, by decide⟩
  slices_S2048x128_S2048x8_0_0 := ⟨by decide, by decide⟩
  bcast_S_S2048x8 := ⟨by decide, by decide⟩
  bcast_S_S2048x512 := ⟨by decide, by decide⟩

/-- An extended real below infinity in absolute value is a real. -/
theorem real_of_abs {x : EReal} (h : max x (-x) < ⊤) : x = ((x.toReal : ℝ) : EReal) := by
  rw [max_lt_iff] at h
  refine (EReal.coe_toReal h.1.ne fun e => ?_).symm
  rw [e, EReal.neg_bot] at h
  exact h.2.ne rfl

theorem inf_bf16 : Ideal.ofBits .bf16 0x7F80#16 = ⊤ := by simp [Ideal.ofBits, Ideal.ieee]

theorem inf_f32 : Ideal.ofBits .f32 0x7F800000#32 = ⊤ := by simp [Ideal.ofBits, Ideal.ieee]

/-- The comparison's word is one only where it holds. -/
theorem lt_of_word {x y : EReal} (h : BitVec.ofBool (decide (x < y)) = 1#1) : x < y := by
  by_cases k : x < y
  · exact k
  · rw [decide_eq_false k] at h
    exact absurd h (by decide)

/-- One element of the precondition's first result. -/
theorem elem_bf16 {s : Shape} (x : s.Idx → EReal) (hb : S_.BroadcastsInDim s (![] : Fin 0 → Fin s.rank)) (i : s.Idx)
    (h : cmpf (F := Ideal) (φ := .bf16) .olt (Host.absf (F := Ideal) (φ := .bf16) x) (broadcastInDim s ![] hb (constant (F := Ideal) S_ .bf16 0x7F80#16)) i = 1#1) :
    x i = ((x i).toReal : EReal) := by
  have k : max (x i) (-x i) < Ideal.ofBits .bf16 0x7F80#16 := lt_of_word h
  rw [inf_bf16] at k
  exact real_of_abs k

/-- One element of the precondition's other results. -/
theorem elem_f32 {s : Shape} (x : s.Idx → EReal) (hb : S_.BroadcastsInDim s (![] : Fin 0 → Fin s.rank)) (i : s.Idx)
    (h : cmpf (F := Ideal) (φ := .f32) .olt (Host.absf (F := Ideal) (φ := .f32) x) (broadcastInDim s ![] hb (constant (F := Ideal) S_ .f32 0x7F800000#32)) i = 1#1) :
    x i = ((x i).toReal : EReal) := by
  have k : max (x i) (-x i) < Ideal.ofBits .f32 0x7F800000#32 := lt_of_word h
  rw [inf_f32] at k
  exact real_of_abs k

/-- Arguments that satisfy the precondition are reals where the call reads them. -/
theorem reals [Cert.Pre_finite.Facts] (x0 : S2048x3200.Idx → EReal) (x1 : S2048x128.Idx → EReal) (x2 : S2048x512.Idx → EReal)
    (p0 : (fn (F := Ideal) x0 x1 x2).1 = fun _ => 1#1) (p1 : (fn (F := Ideal) x0 x1 x2).2.1 = fun _ => 1#1)
    (p2 : (fn (F := Ideal) x0 x1 x2).2.2 = fun _ => 1#1) : _root_.Fox.Reals x0 x1 x2 where
  h0 t l hl := by
    have k := elem_bf16 _ _ _ (congrFun p0 (ix2 t ⟨l.val, hl⟩))
    beta_reduce at k
    rw [extractStridedSlice_apply ![0, 0] x0 Facts.slices_S2048x3200_S2048x1536_0_0 (ix2 t ⟨l.val, hl⟩) (ix2 t l) (fun a => match a with
      | ⟨0, _⟩ => (Nat.zero_add _).symm
      | ⟨1, _⟩ => (Nat.zero_add _).symm)] at k
    exact k
  h1 t l hl := by
    have k := elem_f32 _ _ _ (congrFun p1 (ix2 t ⟨l.val, hl⟩))
    beta_reduce at k
    rw [extractStridedSlice_apply ![0, 0] x1 Facts.slices_S2048x128_S2048x8_0_0 (ix2 t ⟨l.val, hl⟩) (ix2 t l) (fun a => match a with
      | ⟨0, _⟩ => (Nat.zero_add _).symm
      | ⟨1, _⟩ => (Nat.zero_add _).symm)] at k
    exact k
  h2 t l := elem_f32 _ _ _ (congrFun p2 (ix2 t l))

end Cert.Pre_finite.Fox

end
-- ==== Proof.MlpPre.lean ====
/-
  THE PRECONDITION OF THE FEED-FORWARD CALL, READ: every element of its arguments is a real.
-/
module

public import proofs.«01_k».proof.Pre_mlp_finite
public import proofs.«01_k».proof.Proof.Pre

@[expose] public section

noncomputable section

namespace Cert.Pre_mlp_finite.Mlp

open Cert.Pre_mlp_finite Idealize.ShloMosaic

/-- The side conditions of the precondition's operations. -/
theorem facts : Cert.Pre_mlp_finite.Facts := ⟨by decide, by decide, by decide, by decide⟩

/-- Arguments that satisfy the precondition are reals. -/
theorem reals [Cert.Pre_mlp_finite.Facts] (x0 : S2048x1024.Idx → EReal) (x1 : S1024x4096.Idx → EReal) (x2 : S4096x1024.Idx → EReal)
    (x3 x4 : S1x1024.Idx → EReal) (x5 : S2048x1024.Idx → EReal)
    (p0 : (fn (F := Ideal) x0 x1 x2 x3 x4 x5).1 = fun _ => 1#1) (p1 : (fn (F := Ideal) x0 x1 x2 x3 x4 x5).2.1 = fun _ => 1#1)
    (p2 : (fn (F := Ideal) x0 x1 x2 x3 x4 x5).2.2.1 = fun _ => 1#1) (p3 : (fn (F := Ideal) x0 x1 x2 x3 x4 x5).2.2.2.1 = fun _ => 1#1)
    (p4 : (fn (F := Ideal) x0 x1 x2 x3 x4 x5).2.2.2.2.1 = fun _ => 1#1) (p5 : (fn (F := Ideal) x0 x1 x2 x3 x4 x5).2.2.2.2.2 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) ∧ (∀ i, x5 i = ((x5 i).toReal : EReal)) :=
  ⟨fun i => Cert.Pre_finite.Fox.elem_f32 _ _ _ (congrFun p0 i), fun i => Cert.Pre_finite.Fox.elem_f32 _ _ _ (congrFun p1 i),
    fun i => Cert.Pre_finite.Fox.elem_f32 _ _ _ (congrFun p2 i), fun i => Cert.Pre_finite.Fox.elem_f32 _ _ _ (congrFun p3 i),
    fun i => Cert.Pre_finite.Fox.elem_f32 _ _ _ (congrFun p4 i), fun i => Cert.Pre_finite.Fox.elem_f32 _ _ _ (congrFun p5 i)⟩

end Cert.Pre_mlp_finite.Mlp

end
-- ==== Proof.PremixPoint.lean ====
/-
  A POINT OF THE BACKWARD OF THE NORM AND THE PROJECTION: what the body leaves in its two output blocks. It lays the seven pieces of the
  cotangent side by side in a scratch array, reads that array as one, and computes; the weight's gradient starts from zero at the first
  point and from what the point before left at a later one.
-/
module

public import proofs.«01_k».proof.Proof.Gen.PremixKernelIdeal.Value
public import Idealize.ShloMosaic.Lib.WholeRead
public import Idealize.ShloMosaic.Lib.WritesUnit
public import Idealize.ShloMosaic.Lib.VecWindow
public import Idealize.ShloMosaic.Lib.ValueIdx
public import Idealize.ShloMosaic.PureOps.Ideal.Laws

@[expose] public section

noncomputable section

namespace Cert.PremixKernelIdeal.Premix

open Cert.PremixKernelIdeal Cert.PremixKernelIdeal.Gen Idealize.ShloMosaic Idealize.ShloMosaic.ValueIdx

/-- A load of a whole block is the block. -/
theorem load_all {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) :
    View.readAt (Elt Ideal) v (Rect.unit (s := S) off S.size inb).toLoadRect f = v.read (Elt Ideal) f := by
  funext x
  show v.read (Elt Ideal) f ((Rect.unit (s := S) off S.size inb).toLoadRect.idx x) = v.read (Elt Ideal) f x
  refine congrArg (v.read (Elt Ideal) f) (funext fun a => Fin.ext ?_)
  show off a + 1 * (x a).val = (x a).val
  rw [h0 a]; omega

/-- After a store of a whole block the block is what was stored. -/
theorem store_all {κ : Kind} {sp : Space} {S : Shape} {e : EltTy} (v : View sig κ sp S e) (f : v.ty.Contents (Elt Ideal)) {off : Fin S.rank → ℕ}
    (h0 : ∀ a, off a = 0) (inb : ∀ a, off a + S.size a ≤ S.size a) (w : S.Idx → Elt Ideal e) (L : List (View.Piece (Elt Ideal) S e)) :
    v.read (Elt Ideal) (v.writes (Elt Ideal) f (⟨Rect.unit (s := S) off S.size inb, w⟩ :: L)) = w := by
  funext x
  exact View.read_writes_cons_unit_of_mem v f inb w L x x rfl fun a => by rw [h0 a, Nat.zero_add]

/-- A store at the start has offset zero on each axis. -/
theorem at_start : ∀ a : Fin 2, (![0, 0] : Fin 2 → ℕ) a = 0 := by decide

/-- The seven pieces side by side. -/
def beside (a : Vec Ideal S512x512 .bf16) (b : Vec Ideal S512x512 .bf16) (c : Vec Ideal S512x512 .bf16) (d : Vec Ideal S512x128 .bf16) (e : Vec Ideal S512x512 .bf16) (f : Vec Ideal S512x512 .bf16) (g : Vec Ideal S512x512 .bf16) : Vec Ideal S512x3200 .bf16 := fun j =>
  if h : 2688 ≤ (j 1).val then g (ix2 (j 0) ⟨(j 1).val - 2688, by have := (show (j 1).val < 3200 from (j 1).isLt); omega⟩)
  else if h : 2176 ≤ (j 1).val then f (ix2 (j 0) ⟨(j 1).val - 2176, by have := (show (j 1).val < 3200 from (j 1).isLt); omega⟩)
  else if h : 1664 ≤ (j 1).val then e (ix2 (j 0) ⟨(j 1).val - 1664, by have := (show (j 1).val < 3200 from (j 1).isLt); omega⟩)
  else if h : 1536 ≤ (j 1).val then d (ix2 (j 0) ⟨(j 1).val - 1536, by have := (show (j 1).val < 3200 from (j 1).isLt); omega⟩)
  else if h : 1024 ≤ (j 1).val then c (ix2 (j 0) ⟨(j 1).val - 1024, by have := (show (j 1).val < 3200 from (j 1).isLt); omega⟩)
  else if h : 512 ≤ (j 1).val then b (ix2 (j 0) ⟨(j 1).val - 512, by have := (show (j 1).val < 3200 from (j 1).isLt); omega⟩)
  else a (ix2 (j 0) ⟨(j 1).val, by omega⟩)

/-- The scratch array, read as one after the seven pieces were stored, holds them side by side. -/
theorem scratch {κ : Kind} {sp : Space} (v : View sig κ sp S512x3200 .bf16) (a : Vec Ideal S512x512 .bf16) (b : Vec Ideal S512x512 .bf16) (c : Vec Ideal S512x512 .bf16) (d : Vec Ideal S512x128 .bf16) (e : Vec Ideal S512x512 .bf16) (f : Vec Ideal S512x512 .bf16) (g : Vec Ideal S512x512 .bf16) :
    v.readCov (Val := Elt Ideal) [⟨Rect.unit (s := S512x3200) ![0, 2688] S512x512.size inb_S512x3200_S512x512_0_2688, g⟩, ⟨Rect.unit (s := S512x3200) ![0, 2176] S512x512.size inb_S512x3200_S512x512_0_2176, f⟩, ⟨Rect.unit (s := S512x3200) ![0, 1664] S512x512.size inb_S512x3200_S512x512_0_1664, e⟩, ⟨Rect.unit (s := S512x3200) ![0, 1536] S512x128.size inb_S512x3200_S512x128_0_1536, d⟩, ⟨Rect.unit (s := S512x3200) ![0, 1024] S512x512.size inb_S512x3200_S512x512_0_1024, c⟩, ⟨Rect.unit (s := S512x3200) ![0, 512] S512x512.size inb_S512x3200_S512x512_0_512, b⟩, ⟨Rect.unit (s := S512x3200) ![0, 0] S512x512.size inb_S512x3200_S512x512_0_0, a⟩]
      (Rect.unit (s := S512x3200) ![0, 0] S512x3200.size inb_S512x3200_S512x3200_0_0).toLoadRect = beside a b c d e f g := by
  refine (load_all v _ at_start _).trans ?_
  funext j
  have hj : (j 1).val < 3200 := (j 1).isLt
  show v.read (Elt Ideal) (v.writes (Elt Ideal) v.junk _) j = _
  unfold beside
  by_cases h6 : 2688 ≤ (j 1).val
  · rw [dif_pos h6]
    exact View.read_writes_cons_unit_of_mem v _ _ _ _ j (ix2 (j 0) ⟨(j 1).val - 2688, by omega⟩) rfl
      (by intro z; fin_cases z; exact (Nat.zero_add _).symm; show (j 1).val = 2688 + ((j 1).val - 2688); omega)
  rw [dif_neg h6]
  refine (View.read_writes_cons_unit_of_not_mem v _ _ _ _ j rfl 1 (Or.inl (by show (j 1).val < 2688; omega))).trans ?_
  by_cases h5 : 2176 ≤ (j 1).val
  · rw [dif_pos h5]
    exact View.read_writes_cons_unit_of_mem v _ _ _ _ j (ix2 (j 0) ⟨(j 1).val - 2176, by omega⟩) rfl
      (by intro z; fin_cases z; exact (Nat.zero_add _).symm; show (j 1).val = 2176 + ((j 1).val - 2176); omega)
  rw [dif_neg h5]
  refine (View.read_writes_cons_unit_of_not_mem v _ _ _ _ j rfl 1 (Or.inl (by show (j 1).val < 2176; omega))).trans ?_
  by_cases h4 : 1664 ≤ (j 1).val
  · rw [dif_pos h4]
    exact View.read_writes_cons_unit_of_mem v _ _ _ _ j (ix2 (j 0) ⟨(j 1).val - 1664, by omega⟩) rfl
      (by intro z; fin_cases z; exact (Nat.zero_add _).symm; show (j 1).val = 1664 + ((j 1).val - 1664); omega)
  rw [dif_neg h4]
  refine (View.read_writes_cons_unit_of_not_mem v _ _ _ _ j rfl 1 (Or.inl (by show (j 1).val < 1664; omega))).trans ?_
  by_cases h3 : 1536 ≤ (j 1).val
  · rw [dif_pos h3]
    exact View.read_writes_cons_unit_of_mem v _ _ _ _ j (ix2 (j 0) ⟨(j 1).val - 1536, by omega⟩) rfl
      (by intro z; fin_cases z; exact (Nat.zero_add _).symm; show (j 1).val = 1536 + ((j 1).val - 1536); omega)
  rw [dif_neg h3]
  refine (View.read_writes_cons_unit_of_not_mem v _ _ _ _ j rfl 1 (Or.inl (by show (j 1).val < 1536; omega))).trans ?_
  by_cases h2 : 1024 ≤ (j 1).val
  · rw [dif_pos h2]
    exact View.read_writes_cons_unit_of_mem v _ _ _ _ j (ix2 (j 0) ⟨(j 1).val - 1024, by omega⟩) rfl
      (by intro z; fin_cases z; exact (Nat.zero_add _).symm; show (j 1).val = 1024 + ((j 1).val - 1024); omega)
  rw [dif_neg h2]
  refine (View.read_writes_cons_unit_of_not_mem v _ _ _ _ j rfl 1 (Or.inl (by show (j 1).val < 1024; omega))).trans ?_
  by_cases h1 : 512 ≤ (j 1).val
  · rw [dif_pos h1]
    exact View.read_writes_cons_unit_of_mem v _ _ _ _ j (ix2 (j 0) ⟨(j 1).val - 512, by omega⟩) rfl
      (by intro z; fin_cases z; exact (Nat.zero_add _).symm; show (j 1).val = 512 + ((j 1).val - 512); omega)
  rw [dif_neg h1]
  refine (View.read_writes_cons_unit_of_not_mem v _ _ _ _ j rfl 1 (Or.inl (by show (j 1).val < 512; omega))).trans ?_
  exact View.read_writes_cons_unit_of_mem v _ _ _ _ j (ix2 (j 0) ⟨(j 1).val, by omega⟩) rfl
      (by intro z; fin_cases z; exact (Nat.zero_add _).symm; show (j 1).val = 0 + (j 1).val; omega)

section
variable (x0 : Vec Ideal S512x1024 .f32) (x1 : Vec Ideal S512x1024 .f32) (x2 : Vec Ideal S512x512 .bf16) (x3 : Vec Ideal S512x512 .bf16) (x4 : Vec Ideal S512x512 .bf16) (x5 : Vec Ideal S512x128 .bf16) (x6 : Vec Ideal S512x512 .bf16) (x7 : Vec Ideal S512x512 .bf16) (x8 : Vec Ideal S512x512 .bf16) (x9 : Vec Ideal S3200x1024 .bf16) (x10 : Vec Ideal S1x1024 .f32)

/-- A block's cotangent at the layer's input. -/
def dxb : FVec Ideal S512x1024 .f32 := k0_pay1 (F := Ideal) (k0_pay13 x1 x10 (beside x2 x3 x4 x5 x6 x7 x8) x9) x0
/-- The gradient of the norm's weight after a block, from what it was before. -/
def dgb (acc : Vec Ideal S1x1024 .f32) : FVec Ideal S1x1024 .f32 := k0_pay14 (F := Ideal) x1 (beside x2 x3 x4 x5 x6 x7 x8) x9 acc
end

section
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x128 .bf16) (harg6 : arg6.IsWhole)
  (arg7 : Memref sig .tc .vmem S512x512 .bf16) (harg7 : arg7.IsWhole)
  (arg8 : Memref sig .tc .vmem S512x512 .bf16) (harg8 : arg8.IsWhole)
  (arg9 : Memref sig .tc .vmem S512x512 .bf16) (harg9 : arg9.IsWhole)
  (arg10 : Memref sig .tc .vmem S3200x1024 .bf16) (harg10 : arg10.IsWhole)
  (arg11 : Memref sig .tc .vmem S1x1024 .f32) (harg11 : arg11.IsWhole)
  (arg12 : Memref sig .tc .vmem S512x1024 .f32) (harg12 : arg12.IsWhole)
  (arg13 : Memref sig .tc .vmem S1x1024 .f32) (harg13 : arg13.IsWhole)
  (arg14 : Memref sig .tc .vmem S512x3200 .bf16) (harg14 : arg14.IsWhole)
  (x0 : Vec Ideal S512x1024 .f32) (x1 : Vec Ideal S512x1024 .f32) (x2 : Vec Ideal S512x512 .bf16) (x3 : Vec Ideal S512x512 .bf16) (x4 : Vec Ideal S512x512 .bf16) (x5 : Vec Ideal S512x128 .bf16) (x6 : Vec Ideal S512x512 .bf16) (x7 : Vec Ideal S512x512 .bf16) (x8 : Vec Ideal S512x512 .bf16) (x9 : Vec Ideal S3200x1024 .bf16) (x10 : Vec Ideal S1x1024 .f32)

/-- The first point: the cotangent at the layer's input. -/
theorem point_A_11 (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = dxb x0 x1 x2 x3 x4 x5 x6 x7 x8 x9 x10 := by
  have e0 := (load_all arg1.view (harg1.unread x0) at_start inb_S512x1024_S512x1024_0_0).trans (harg1.read_unread (Val := Elt Ideal) x0)
  have e1 := (load_all arg2.view (harg2.unread x1) at_start inb_S512x1024_S512x1024_0_0).trans (harg2.read_unread (Val := Elt Ideal) x1)
  have e2 := (load_all arg3.view (harg3.unread x2) at_start inb_S512x512_S512x512_0_0).trans (harg3.read_unread (Val := Elt Ideal) x2)
  have e3 := (load_all arg4.view (harg4.unread x3) at_start inb_S512x512_S512x512_0_0).trans (harg4.read_unread (Val := Elt Ideal) x3)
  have e4 := (load_all arg5.view (harg5.unread x4) at_start inb_S512x512_S512x512_0_0).trans (harg5.read_unread (Val := Elt Ideal) x4)
  have e5 := (load_all arg6.view (harg6.unread x5) at_start inb_S512x128_S512x128_0_0).trans (harg6.read_unread (Val := Elt Ideal) x5)
  have e6 := (load_all arg7.view (harg7.unread x6) at_start inb_S512x512_S512x512_0_0).trans (harg7.read_unread (Val := Elt Ideal) x6)
  have e7 := (load_all arg8.view (harg8.unread x7) at_start inb_S512x512_S512x512_0_0).trans (harg8.read_unread (Val := Elt Ideal) x7)
  have e8 := (load_all arg9.view (harg9.unread x8) at_start inb_S512x512_S512x512_0_0).trans (harg9.read_unread (Val := Elt Ideal) x8)
  have e9 := (load_all arg10.view (harg10.unread x9) at_start inb_S3200x1024_S3200x1024_0_0).trans (harg10.read_unread (Val := Elt Ideal) x9)
  have e10 := (load_all arg11.view (harg11.unread x10) at_start inb_S1x1024_S1x1024_0_0).trans (harg11.read_unread (Val := Elt Ideal) x10)
  have es := scratch arg14.view x2 x3 x4 x5 x6 x7 x8
  have p2 : k0_pay3 (F := Ideal) x2 = x2 := shapeCast_self _ _
  have p3 : k0_pay4 (F := Ideal) x3 = x3 := shapeCast_self _ _
  have p4 : k0_pay5 (F := Ideal) x4 = x4 := shapeCast_self _ _
  have p5 : k0_pay6 (F := Ideal) x5 = x5 := shapeCast_self _ _
  have p6 : k0_pay7 (F := Ideal) x6 = x6 := shapeCast_self _ _
  have p7 : k0_pay8 (F := Ideal) x7 = x7 := shapeCast_self _ _
  have p8 : k0_pay9 (F := Ideal) x8 = x8 := shapeCast_self _ _
  refine (store_all VO0_11 VO0_11.junk at_start _ _ _).trans ?_
  try simp only [kernelRun0_A.sl.r, kernelRun0_A.sl.r_1, kernelRun0_A.sl.r_2, kernelRun0_A.sl.v33, kernelRun0_A.sl.HS0_7, kernelRun0_A.sl.v61, kernelRun0_A.sl.H12_1]
  try simp only [e0, e1, e2, e3, e4, e5, e6, e7, e8, e9, e10, p2, p3, p4, p5, p6, p7, p8]
  exact congrArg (fun q => k0_pay1 (F := Ideal) (k0_pay13 x1 x10 q x9) x0) es

/-- The first point: the gradient of the norm's weight. -/
theorem point_A_12 (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = dgb x1 x2 x3 x4 x5 x6 x7 x8 x9 (k0_pay2 (F := Ideal)) := by
  have e1 := (load_all arg2.view (harg2.unread x1) at_start inb_S512x1024_S512x1024_0_0).trans (harg2.read_unread (Val := Elt Ideal) x1)
  have e2 := (load_all arg3.view (harg3.unread x2) at_start inb_S512x512_S512x512_0_0).trans (harg3.read_unread (Val := Elt Ideal) x2)
  have e3 := (load_all arg4.view (harg4.unread x3) at_start inb_S512x512_S512x512_0_0).trans (harg4.read_unread (Val := Elt Ideal) x3)
  have e4 := (load_all arg5.view (harg5.unread x4) at_start inb_S512x512_S512x512_0_0).trans (harg5.read_unread (Val := Elt Ideal) x4)
  have e5 := (load_all arg6.view (harg6.unread x5) at_start inb_S512x128_S512x128_0_0).trans (harg6.read_unread (Val := Elt Ideal) x5)
  have e6 := (load_all arg7.view (harg7.unread x6) at_start inb_S512x512_S512x512_0_0).trans (harg7.read_unread (Val := Elt Ideal) x6)
  have e7 := (load_all arg8.view (harg8.unread x7) at_start inb_S512x512_S512x512_0_0).trans (harg8.read_unread (Val := Elt Ideal) x7)
  have e8 := (load_all arg9.view (harg9.unread x8) at_start inb_S512x512_S512x512_0_0).trans (harg9.read_unread (Val := Elt Ideal) x8)
  have e9 := (load_all arg10.view (harg10.unread x9) at_start inb_S3200x1024_S3200x1024_0_0).trans (harg10.read_unread (Val := Elt Ideal) x9)
  have ea := View.readCov_full (Val := Elt Ideal) arg13.view inb_S1x1024_S1x1024_0_0 inb_S1x1024_S1x1024_0_0 (k0_pay2 (F := Ideal)) []
  have es := scratch arg14.view x2 x3 x4 x5 x6 x7 x8
  have p2 : k0_pay3 (F := Ideal) x2 = x2 := shapeCast_self _ _
  have p3 : k0_pay4 (F := Ideal) x3 = x3 := shapeCast_self _ _
  have p4 : k0_pay5 (F := Ideal) x4 = x4 := shapeCast_self _ _
  have p5 : k0_pay6 (F := Ideal) x5 = x5 := shapeCast_self _ _
  have p6 : k0_pay7 (F := Ideal) x6 = x6 := shapeCast_self _ _
  have p7 : k0_pay8 (F := Ideal) x7 = x7 := shapeCast_self _ _
  have p8 : k0_pay9 (F := Ideal) x8 = x8 := shapeCast_self _ _
  refine (store_all VO0_12 VO0_12.junk at_start _ _ _).trans ?_
  try simp only [kernelRun0_A.sl.r, kernelRun0_A.sl.r_1, kernelRun0_A.sl.r_2, kernelRun0_A.sl.v33, kernelRun0_A.sl.HS0_7, kernelRun0_A.sl.v61, kernelRun0_A.sl.H12_1]
  try simp only [e1, e2, e3, e4, e5, e6, e7, e8, e9, p2, p3, p4, p5, p6, p7, p8]
  exact congrArg₂ (fun q r => k0_pay14 (F := Ideal) x1 q x9 r) es ea

/-- A later point: the cotangent at the layer's input. -/
theorem point_B_11 (hc0 : ¬cond0_0 i) (acc : Vec Ideal S1x1024 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 acc = dxb x0 x1 x2 x3 x4 x5 x6 x7 x8 x9 x10 := by
  have e0 := (load_all arg1.view (harg1.unread x0) at_start inb_S512x1024_S512x1024_0_0).trans (harg1.read_unread (Val := Elt Ideal) x0)
  have e1 := (load_all arg2.view (harg2.unread x1) at_start inb_S512x1024_S512x1024_0_0).trans (harg2.read_unread (Val := Elt Ideal) x1)
  have e2 := (load_all arg3.view (harg3.unread x2) at_start inb_S512x512_S512x512_0_0).trans (harg3.read_unread (Val := Elt Ideal) x2)
  have e3 := (load_all arg4.view (harg4.unread x3) at_start inb_S512x512_S512x512_0_0).trans (harg4.read_unread (Val := Elt Ideal) x3)
  have e4 := (load_all arg5.view (harg5.unread x4) at_start inb_S512x512_S512x512_0_0).trans (harg5.read_unread (Val := Elt Ideal) x4)
  have e5 := (load_all arg6.view (harg6.unread x5) at_start inb_S512x128_S512x128_0_0).trans (harg6.read_unread (Val := Elt Ideal) x5)
  have e6 := (load_all arg7.view (harg7.unread x6) at_start inb_S512x512_S512x512_0_0).trans (harg7.read_unread (Val := Elt Ideal) x6)
  have e7 := (load_all arg8.view (harg8.unread x7) at_start inb_S512x512_S512x512_0_0).trans (harg8.read_unread (Val := Elt Ideal) x7)
  have e8 := (load_all arg9.view (harg9.unread x8) at_start inb_S512x512_S512x512_0_0).trans (harg9.read_unread (Val := Elt Ideal) x8)
  have e9 := (load_all arg10.view (harg10.unread x9) at_start inb_S3200x1024_S3200x1024_0_0).trans (harg10.read_unread (Val := Elt Ideal) x9)
  have e10 := (load_all arg11.view (harg11.unread x10) at_start inb_S1x1024_S1x1024_0_0).trans (harg11.read_unread (Val := Elt Ideal) x10)
  have es := scratch arg14.view x2 x3 x4 x5 x6 x7 x8
  have p2 : k0_pay3 (F := Ideal) x2 = x2 := shapeCast_self _ _
  have p3 : k0_pay4 (F := Ideal) x3 = x3 := shapeCast_self _ _
  have p4 : k0_pay5 (F := Ideal) x4 = x4 := shapeCast_self _ _
  have p5 : k0_pay6 (F := Ideal) x5 = x5 := shapeCast_self _ _
  have p6 : k0_pay7 (F := Ideal) x6 = x6 := shapeCast_self _ _
  have p7 : k0_pay8 (F := Ideal) x7 = x7 := shapeCast_self _ _
  have p8 : k0_pay9 (F := Ideal) x8 = x8 := shapeCast_self _ _
  refine (store_all VO0_11 VO0_11.junk at_start _ _ _).trans ?_
  try simp only [kernelRun0_B.sl.r, kernelRun0_B.sl.r_1, kernelRun0_B.sl.r_2, kernelRun0_B.sl.v33, kernelRun0_B.sl.HS0_7]
  try simp only [e0, e1, e2, e3, e4, e5, e6, e7, e8, e9, e10, p2, p3, p4, p5, p6, p7, p8]
  exact congrArg (fun q => k0_pay1 (F := Ideal) (k0_pay13 x1 x10 q x9) x0) es

/-- A later point: the gradient of the norm's weight. -/
theorem point_B_12 (hc0 : ¬cond0_0 i) (acc : Vec Ideal S1x1024 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 acc = dgb x1 x2 x3 x4 x5 x6 x7 x8 x9 acc := by
  have e1 := (load_all arg2.view (harg2.unread x1) at_start inb_S512x1024_S512x1024_0_0).trans (harg2.read_unread (Val := Elt Ideal) x1)
  have e2 := (load_all arg3.view (harg3.unread x2) at_start inb_S512x512_S512x512_0_0).trans (harg3.read_unread (Val := Elt Ideal) x2)
  have e3 := (load_all arg4.view (harg4.unread x3) at_start inb_S512x512_S512x512_0_0).trans (harg4.read_unread (Val := Elt Ideal) x3)
  have e4 := (load_all arg5.view (harg5.unread x4) at_start inb_S512x512_S512x512_0_0).trans (harg5.read_unread (Val := Elt Ideal) x4)
  have e5 := (load_all arg6.view (harg6.unread x5) at_start inb_S512x128_S512x128_0_0).trans (harg6.read_unread (Val := Elt Ideal) x5)
  have e6 := (load_all arg7.view (harg7.unread x6) at_start inb_S512x512_S512x512_0_0).trans (harg7.read_unread (Val := Elt Ideal) x6)
  have e7 := (load_all arg8.view (harg8.unread x7) at_start inb_S512x512_S512x512_0_0).trans (harg8.read_unread (Val := Elt Ideal) x7)
  have e8 := (load_all arg9.view (harg9.unread x8) at_start inb_S512x512_S512x512_0_0).trans (harg9.read_unread (Val := Elt Ideal) x8)
  have e9 := (load_all arg10.view (harg10.unread x9) at_start inb_S3200x1024_S3200x1024_0_0).trans (harg10.read_unread (Val := Elt Ideal) x9)
  have ea := (load_all arg13.view (harg13.unread acc) at_start inb_S1x1024_S1x1024_0_0).trans (harg13.read_unread (Val := Elt Ideal) acc)
  have es := scratch arg14.view x2 x3 x4 x5 x6 x7 x8
  have p2 : k0_pay3 (F := Ideal) x2 = x2 := shapeCast_self _ _
  have p3 : k0_pay4 (F := Ideal) x3 = x3 := shapeCast_self _ _
  have p4 : k0_pay5 (F := Ideal) x4 = x4 := shapeCast_self _ _
  have p5 : k0_pay6 (F := Ideal) x5 = x5 := shapeCast_self _ _
  have p6 : k0_pay7 (F := Ideal) x6 = x6 := shapeCast_self _ _
  have p7 : k0_pay8 (F := Ideal) x7 = x7 := shapeCast_self _ _
  have p8 : k0_pay9 (F := Ideal) x8 = x8 := shapeCast_self _ _
  refine (store_all VO0_12 VO0_12.junk at_start _ _ _).trans ?_
  try simp only [kernelRun0_B.sl.r, kernelRun0_B.sl.r_1, kernelRun0_B.sl.r_2, kernelRun0_B.sl.v33, kernelRun0_B.sl.HS0_7]
  try simp only [e1, e2, e3, e4, e5, e6, e7, e8, e9, ea, p2, p3, p4, p5, p6, p7, p8]
  exact congrArg (fun q => k0_pay14 (F := Ideal) x1 q x9 acc) es

end

end Cert.PremixKernelIdeal.Premix

end
-- ==== Proof.PremixBlocks.lean ====
/-
  THE BLOCKS OF THE BACKWARD OF THE NORM AND THE PROJECTION: which rows each point reads and writes, and what a point leaves by the
  blocks it reads.
-/
module

public import proofs.«01_k».proof.Proof.PremixPoint

@[expose] public section

set_option maxHeartbeats 4000000

noncomputable section

namespace Cert.PremixKernelIdeal.Premix

open Cert.PremixKernelIdeal Cert.PremixKernelIdeal.Gen Cert.PremixKernelIdeal.Value Idealize.ShloMosaic Idealize.ShloMosaic.ValueIdx
open Idealize.ShloMosaic.TcCoe

theorem at_0 : ∀ t : Fin grid0.N, win0_0.index t (0 : Fin 2) = t.val ∧ win0_0.index t (1 : Fin 2) = 0 := by decide +kernel

theorem at_1 : ∀ t : Fin grid0.N, win0_1.index t (0 : Fin 2) = t.val ∧ win0_1.index t (1 : Fin 2) = 0 := by decide +kernel

theorem at_2 : ∀ t : Fin grid0.N, win0_2.index t (0 : Fin 2) = t.val ∧ win0_2.index t (1 : Fin 2) = 0 := by decide +kernel

theorem at_3 : ∀ t : Fin grid0.N, win0_3.index t (0 : Fin 2) = t.val ∧ win0_3.index t (1 : Fin 2) = 0 := by decide +kernel

theorem at_4 : ∀ t : Fin grid0.N, win0_4.index t (0 : Fin 2) = t.val ∧ win0_4.index t (1 : Fin 2) = 0 := by decide +kernel

theorem at_5 : ∀ t : Fin grid0.N, win0_5.index t (0 : Fin 2) = t.val ∧ win0_5.index t (1 : Fin 2) = 0 := by decide +kernel

theorem at_6 : ∀ t : Fin grid0.N, win0_6.index t (0 : Fin 2) = t.val ∧ win0_6.index t (1 : Fin 2) = 0 := by decide +kernel

theorem at_7 : ∀ t : Fin grid0.N, win0_7.index t (0 : Fin 2) = t.val ∧ win0_7.index t (1 : Fin 2) = 0 := by decide +kernel

theorem at_8 : ∀ t : Fin grid0.N, win0_8.index t (0 : Fin 2) = t.val ∧ win0_8.index t (1 : Fin 2) = 0 := by decide +kernel

theorem at_9 : ∀ t : Fin grid0.N, win0_9.index t (0 : Fin 2) = 0 ∧ win0_9.index t (1 : Fin 2) = 0 := by decide +kernel

theorem at_10 : ∀ t : Fin grid0.N, win0_10.index t (0 : Fin 2) = 0 ∧ win0_10.index t (1 : Fin 2) = 0 := by decide +kernel

theorem at_11 : ∀ t : Fin grid0.N, win0_11.index t (0 : Fin 2) = t.val ∧ win0_11.index t (1 : Fin 2) = 0 := by decide +kernel

theorem at_12 : ∀ t : Fin grid0.N, win0_12.index t (0 : Fin 2) = 0 ∧ win0_12.index t (1 : Fin 2) = 0 := by decide +kernel

variable (m : (ℓ : Loc nD τ sig) → Buf (Elt Ideal) ℓ) (c : Dev nD)

theorem cut0 (t : Fin cfg0.N) (j : S512x1024.Idx) (X : (b : Ref sig .tc) → Buf (Elt Ideal) ((c : Thread nD τ).loc b)) (k : S2048x1024.Idx)
    (h0 : (k 0).val = 512 * t.val + (j 0).val) (h1 : (k 1).val = (j 1).val) :
    ((cfg0.win 0).blk t).view.read (Elt Ideal) (X (Pipeline.arrRef spec0 0)) j = X main_arg0 k := by
  have e : ((cfg0.win 0).blk t).view.emb j = k := by
    have p := at_0 t
    funext a
    match a with
    | ⟨0, _⟩ => exact Fin.ext (by show win0_0.index t (0 : Fin 2) * 512 + 1 * (j 0).val = (k 0).val; omega)
    | ⟨1, _⟩ => exact Fin.ext (by show win0_0.index t (1 : Fin 2) * 1024 + 1 * (j 1).val = (k 1).val; omega)
  exact congrArg (X main_arg0) e

/-- What window 0 reads. -/
theorem read0 (t : Fin cfg0.N) (j : S512x1024.Idx) (k : S2048x1024.Idx) (h0 : (k 0).val = 512 * t.val + (j 0).val) (h1 : (k 1).val = (j 1).val) : iblk m c 0 t j = m ((c : Thread nD τ).loc main_arg0) k := by
  unfold iblk; exact cut0 c t j (fun b => V m c b) k h0 h1

theorem cut1 (t : Fin cfg0.N) (j : S512x1024.Idx) (X : (b : Ref sig .tc) → Buf (Elt Ideal) ((c : Thread nD τ).loc b)) (k : S2048x1024.Idx)
    (h0 : (k 0).val = 512 * t.val + (j 0).val) (h1 : (k 1).val = (j 1).val) :
    ((cfg0.win 1).blk t).view.read (Elt Ideal) (X (Pipeline.arrRef spec0 1)) j = X main_arg1 k := by
  have e : ((cfg0.win 1).blk t).view.emb j = k := by
    have p := at_1 t
    funext a
    match a with
    | ⟨0, _⟩ => exact Fin.ext (by show win0_1.index t (0 : Fin 2) * 512 + 1 * (j 0).val = (k 0).val; omega)
    | ⟨1, _⟩ => exact Fin.ext (by show win0_1.index t (1 : Fin 2) * 1024 + 1 * (j 1).val = (k 1).val; omega)
  exact congrArg (X main_arg1) e

/-- What window 1 reads. -/
theorem read1 (t : Fin cfg0.N) (j : S512x1024.Idx) (k : S2048x1024.Idx) (h0 : (k 0).val = 512 * t.val + (j 0).val) (h1 : (k 1).val = (j 1).val) : iblk m c 1 t j = m ((c : Thread nD τ).loc main_arg1) k := by
  unfold iblk; exact cut1 c t j (fun b => V m c b) k h0 h1

theorem cut2 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 2).blk t).view.read (Elt Ideal) (X (Pipeline.arrRef spec0 2)) j = X main_arg2 k := by
  have e : ((cfg0.win 2).blk t).view.emb j = k := by
    have p := at_2 t
    funext a
    match a with
    | ⟨0, _⟩ => exact Fin.ext (by show win0_2.index t (0 : Fin 2) * 512 + 1 * (j 0).val = (k 0).val; omega)
    | ⟨1, _⟩ => exact Fin.ext (by show win0_2.index t (1 : Fin 2) * 512 + 1 * (j 1).val = (k 1).val; omega)
  exact congrArg (X main_arg2) e

/-- What window 2 reads. -/
theorem read2 (t : Fin cfg0.N) (j : S512x512.Idx) (k : S2048x512.Idx) (h0 : (k 0).val = 512 * t.val + (j 0).val) (h1 : (k 1).val = (j 1).val) : iblk m c 2 t j = m ((c : Thread nD τ).loc main_arg2) k := by
  unfold iblk; exact cut2 c t j (fun b => V m c b) k h0 h1

theorem cut3 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 3).blk t).view.read (Elt Ideal) (X (Pipeline.arrRef spec0 3)) j = X main_arg3 k := by
  have e : ((cfg0.win 3).blk t).view.emb j = k := by
    have p := at_3 t
    funext a
    match a with
    | ⟨0, _⟩ => exact Fin.ext (by show win0_3.index t (0 : Fin 2) * 512 + 1 * (j 0).val = (k 0).val; omega)
    | ⟨1, _⟩ => exact Fin.ext (by show win0_3.index t (1 : Fin 2) * 512 + 1 * (j 1).val = (k 1).val; omega)
  exact congrArg (X main_arg3) e

/-- What window 3 reads. -/
theorem read3 (t : Fin cfg0.N) (j : S512x512.Idx) (k : S2048x512.Idx) (h0 : (k 0).val = 512 * t.val + (j 0).val) (h1 : (k 1).val = (j 1).val) : iblk m c 3 t j = m ((c : Thread nD τ).loc main_arg3) k := by
  unfold iblk; exact cut3 c t j (fun b => V m c b) k h0 h1

theorem cut4 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 4).blk t).view.read (Elt Ideal) (X (Pipeline.arrRef spec0 4)) j = X main_arg4 k := by
  have e : ((cfg0.win 4).blk t).view.emb j = k := by
    have p := at_4 t
    funext a
    match a with
    | ⟨0, _⟩ => exact Fin.ext (by show win0_4.index t (0 : Fin 2) * 512 + 1 * (j 0).val = (k 0).val; omega)
    | ⟨1, _⟩ => exact Fin.ext (by show win0_4.index t (1 : Fin 2) * 512 + 1 * (j 1).val = (k 1).val; omega)
  exact congrArg (X main_arg4) e

/-- What window 4 reads. -/
theorem read4 (t : Fin cfg0.N) (j : S512x512.Idx) (k : S2048x512.Idx) (h0 : (k 0).val = 512 * t.val + (j 0).val) (h1 : (k 1).val = (j 1).val) : iblk m c 4 t j = m ((c : Thread nD τ).loc main_arg4) k := by
  unfold iblk; exact cut4 c t j (fun b => V m c b) k h0 h1

theorem cut5 (t : Fin cfg0.N) (j : S512x128.Idx) (X : (b : Ref sig .tc) → Buf (Elt Ideal) ((c : Thread nD τ).loc b)) (k : S2048x128.Idx)
    (h0 : (k 0).val = 512 * t.val + (j 0).val) (h1 : (k 1).val = (j 1).val) :
    ((cfg0.win 5).blk t).view.read (Elt Ideal) (X (Pipeline.arrRef spec0 5)) j = X main_arg5 k := by
  have e : ((cfg0.win 5).blk t).view.emb j = k := by
    have p := at_5 t
    funext a
    match a with
    | ⟨0, _⟩ => exact Fin.ext (by show win0_5.index t (0 : Fin 2) * 512 + 1 * (j 0).val = (k 0).val; omega)
    | ⟨1, _⟩ => exact Fin.ext (by show win0_5.index t (1 : Fin 2) * 128 + 1 * (j 1).val = (k 1).val; omega)
  exact congrArg (X main_arg5) e

/-- What window 5 reads. -/
theorem read5 (t : Fin cfg0.N) (j : S512x128.Idx) (k : S2048x128.Idx) (h0 : (k 0).val = 512 * t.val + (j 0).val) (h1 : (k 1).val = (j 1).val) : iblk m c 5 t j = m ((c : Thread nD τ).loc main_arg5) k := by
  unfold iblk; exact cut5 c t j (fun b => V m c b) k h0 h1

theorem cut6 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 6).blk t).view.read (Elt Ideal) (X (Pipeline.arrRef spec0 6)) j = X main_arg6 k := by
  have e : ((cfg0.win 6).blk t).view.emb j = k := by
    have p := at_6 t
    funext a
    match a with
    | ⟨0, _⟩ => exact Fin.ext (by show win0_6.index t (0 : Fin 2) * 512 + 1 * (j 0).val = (k 0).val; omega)
    | ⟨1, _⟩ => exact Fin.ext (by show win0_6.index t (1 : Fin 2) * 512 + 1 * (j 1).val = (k 1).val; omega)
  exact congrArg (X main_arg6) e

/-- What window 6 reads. -/
theorem read6 (t : Fin cfg0.N) (j : S512x512.Idx) (k : S2048x512.Idx) (h0 : (k 0).val = 512 * t.val + (j 0).val) (h1 : (k 1).val = (j 1).val) : iblk m c 6 t j = m ((c : Thread nD τ).loc main_arg6) k := by
  unfold iblk; exact cut6 c t j (fun b => V m c b) k h0 h1

theorem cut7 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 7).blk t).view.read (Elt Ideal) (X (Pipeline.arrRef spec0 7)) j = X main_arg7 k := by
  have e : ((cfg0.win 7).blk t).view.emb j = k := by
    have p := at_7 t
    funext a
    match a with
    | ⟨0, _⟩ => exact Fin.ext (by show win0_7.index t (0 : Fin 2) * 512 + 1 * (j 0).val = (k 0).val; omega)
    | ⟨1, _⟩ => exact Fin.ext (by show win0_7.index t (1 : Fin 2) * 512 + 1 * (j 1).val = (k 1).val; omega)
  exact congrArg (X main_arg7) e

/-- What window 7 reads. -/
theorem read7 (t : Fin cfg0.N) (j : S512x512.Idx) (k : S2048x512.Idx) (h0 : (k 0).val = 512 * t.val + (j 0).val) (h1 : (k 1).val = (j 1).val) : iblk m c 7 t j = m ((c : Thread nD τ).loc main_arg7) k := by
  unfold iblk; exact cut7 c t j (fun b => V m c b) k h0 h1

theorem cut8 (t : Fin cfg0.N) (j : S512x512.Idx) (X : (b : Ref sig .tc) → Buf (Elt Ideal) ((c : Thread nD τ).loc b)) (k : S2048x512.Idx)
    (h0 : (k 0).val = 512 * t.val + (j 0).val) (h1 : (k 1).val = (j 1).val) :
    ((cfg0.win 8).blk t).view.read (Elt Ideal) (X (Pipeline.arrRef spec0 8)) j = X main_arg8 k := by
  have e : ((cfg0.win 8).blk t).view.emb j = k := by
    have p := at_8 t
    funext a
    match a with
    | ⟨0, _⟩ => exact Fin.ext (by show win0_8.index t (0 : Fin 2) * 512 + 1 * (j 0).val = (k 0).val; omega)
    | ⟨1, _⟩ => exact Fin.ext (by show win0_8.index t (1 : Fin 2) * 512 + 1 * (j 1).val = (k 1).val; omega)
  exact congrArg (X main_arg8) e

/-- What window 8 reads. -/
theorem read8 (t : Fin cfg0.N) (j : S512x512.Idx) (k : S2048x512.Idx) (h0 : (k 0).val = 512 * t.val + (j 0).val) (h1 : (k 1).val = (j 1).val) : iblk m c 8 t j = m ((c : Thread nD τ).loc main_arg8) k := by
  unfold iblk; exact cut8 c t j (fun b => V m c b) k h0 h1

theorem cut9 (t : Fin cfg0.N) (j : S3200x1024.Idx) (X : (b : Ref sig .tc) → Buf (Elt Ideal) ((c : Thread nD τ).loc b)) (k : S3200x1024.Idx)
    (h0 : (k 0).val = (j 0).val) (h1 : (k 1).val = (j 1).val) :
    ((cfg0.win 9).blk t).view.read (Elt Ideal) (X (Pipeline.arrRef spec0 9)) j = X main_arg9 k := by
  have e : ((cfg0.win 9).blk t).view.emb j = k := by
    have p := at_9 t
    funext a
    match a with
    | ⟨0, _⟩ => exact Fin.ext (by show win0_9.index t (0 : Fin 2) * 3200 + 1 * (j 0).val = (k 0).val; omega)
    | ⟨1, _⟩ => exact Fin.ext (by show win0_9.index t (1 : Fin 2) * 1024 + 1 * (j 1).val = (k 1).val; omega)
  exact congrArg (X main_arg9) e

/-- What window 9 reads. -/
theorem read9 (t : Fin cfg0.N) (j : S3200x1024.Idx) (k : S3200x1024.Idx) (h0 : (k 0).val = (j 0).val) (h1 : (k 1).val = (j 1).val) : iblk m c 9 t j = m ((c : Thread nD τ).loc main_arg9) k := by
  unfold iblk; exact cut9 c t j (fun b => V m c b) k h0 h1

theorem cut10 (t : Fin cfg0.N) (j : S1x1024.Idx) (X : (b : Ref sig .tc) → Buf (Elt Ideal) ((c : Thread nD τ).loc b)) (k : S1x1024.Idx)
    (h0 : (k 0).val = (j 0).val) (h1 : (k 1).val = (j 1).val) :
    ((cfg0.win 10).blk t).view.read (Elt Ideal) (X (Pipeline.arrRef spec0 10)) j = X main_arg10 k := by
  have e : ((cfg0.win 10).blk t).view.emb j = k := by
    have p := at_10 t
    funext a
    match a with
    | ⟨0, _⟩ => exact Fin.ext (by show win0_10.index t (0 : Fin 2) * 1 + 1 * (j 0).val = (k 0).val; omega)
    | ⟨1, _⟩ => exact Fin.ext (by show win0_10.index t (1 : Fin 2) * 1024 + 1 * (j 1).val = (k 1).val; omega)
  exact congrArg (X main_arg10) e

/-- What window 10 reads. -/
theorem read10 (t : Fin cfg0.N) (j : S1x1024.Idx) (k : S1x1024.Idx) (h0 : (k 0).val = (j 0).val) (h1 : (k 1).val = (j 1).val) : iblk m c 10 t j = m ((c : Thread nD τ).loc main_arg10) k := by
  unfold iblk; exact cut10 c t j (fun b => V m c b) k h0 h1

/-- Where window 11's block lies in its array. -/
theorem place11 (t : Fin cfg0.N) (X : S2048x1024.Idx → EReal) (j : S512x1024.Idx) (k : S2048x1024.Idx) (h0 : (k 0).val = 512 * t.val + (j 0).val) (h1 : (k 1).val = (j 1).val) :
    ((cfg0.win 11).blk t).view.read (Elt Ideal) X j = X k := by
  have e : ((cfg0.win 11).blk t).view.emb j = k := by
    have p := at_11 t
    funext a
    match a with
    | ⟨0, _⟩ => exact Fin.ext (by show win0_11.index t (0 : Fin 2) * 512 + 1 * (j 0).val = (k 0).val; omega)
    | ⟨1, _⟩ => exact Fin.ext (by show win0_11.index t (1 : Fin 2) * 1024 + 1 * (j 1).val = (k 1).val; omega)
  exact congrArg X e

theorem whole11 (t : Fin cfg0.N) (x : Vec Ideal S512x1024 .f32) (j : S512x1024.Idx) : (cfg0.win 11).cut (grid0.coords t) x j = x j := rfl

/-- Where window 12's block lies in its array. -/
theorem place12 (t : Fin cfg0.N) (X : S1x1024.Idx → EReal) (j : S1x1024.Idx) (k : S1x1024.Idx) (h0 : (k 0).val = (j 0).val) (h1 : (k 1).val = (j 1).val) :
    ((cfg0.win 12).blk t).view.read (Elt Ideal) X j = X k := by
  have e : ((cfg0.win 12).blk t).view.emb j = k := by
    have p := at_12 t
    funext a
    match a with
    | ⟨0, _⟩ => exact Fin.ext (by show win0_12.index t (0 : Fin 2) * 1 + 1 * (j 0).val = (k 0).val; omega)
    | ⟨1, _⟩ => exact Fin.ext (by show win0_12.index t (1 : Fin 2) * 1024 + 1 * (j 1).val = (k 1).val; omega)
  exact congrArg X e

theorem whole12 (t : Fin cfg0.N) (x : Vec Ideal S1x1024 .f32) (j : S1x1024.Idx) : (cfg0.win 12).cut (grid0.coords t) x j = x j := rfl

/-- What the first point leaves. -/
theorem outs_A (t : Fin cfg0.N) (h0 : t.val % 4 = 0) :
    outsAt0 m c t.val t.isLt = (dxb (iblk m c 0 t) (iblk m c 1 t) (iblk m c 2 t) (iblk m c 3 t) (iblk m c 4 t) (iblk m c 5 t) (iblk m c 6 t) (iblk m c 7 t) (iblk m c 8 t) (iblk m c 9 t) (iblk m c 10 t), dgb (iblk m c 1 t) (iblk m c 2 t) (iblk m c 3 t) (iblk m c 4 t) (iblk m c 5 t) (iblk m c 6 t) (iblk m c 7 t) (iblk m c 8 t) (iblk m c 9 t) (k0_pay2 (F := Ideal))) := by
  rw [outsAt0_A m c t h0, point_A_11, point_A_12]

/-- What a later point leaves. -/
theorem outs_B (t : Fin cfg0.N) (h0 : ¬t.val % 4 = 0) (a : Vec Ideal S1x1024 .f32)
    (ha : (outsAt0 m c (t.val - 1) (Nat.lt_of_le_of_lt (Nat.sub_le _ _) t.isLt)).2 = a) :
    outsAt0 m c t.val t.isLt = (dxb (iblk m c 0 t) (iblk m c 1 t) (iblk m c 2 t) (iblk m c 3 t) (iblk m c 4 t) (iblk m c 5 t) (iblk m c 6 t) (iblk m c 7 t) (iblk m c 8 t) (iblk m c 9 t) (iblk m c 10 t), dgb (iblk m c 1 t) (iblk m c 2 t) (iblk m c 3 t) (iblk m c 4 t) (iblk m c 5 t) (iblk m c 6 t) (iblk m c 7 t) (iblk m c 8 t) (iblk m c 9 t) a) := by
  rw [outsAt0_B m c t h0, ha, point_B_11, point_B_12]

end Cert.PremixKernelIdeal.Premix

end
-- ==== Proof.PremixBody.lean ====
/-
  THE BODY OF THE BACKWARD OF THE NORM AND THE PROJECTION, ON REALS: at a block of 512 tokens each row of its first result is the row
  handed in plus the norm's backward of the projection's cotangent; its second result grows by a sum over the block's tokens.
-/
module

public import proofs.«01_k».proof.Proof.MlpOps
public import proofs.«01_k».proof.Proof.PremixPoint

@[expose] public section

noncomputable section

/-- A projection behind a norm: the projection's weights and the norm's. -/
structure Mix where
  w : Fin 3200 → Fin 1024 → ℝ
  g : Fin 1024 → ℝ

namespace Mix
open scoped BigOperators
variable (N : Mix)

/-- The cotangent of the projection's input, from the one of its output. -/
def dh (d : Fin 3200 → ℝ) (j : Fin 1024) : ℝ := ∑ k, d k * N.w k j
/-- The cotangent of the norm's input. -/
def dx (x : Fin 1024 → ℝ) (d : Fin 3200 → ℝ) (j : Fin 1024) : ℝ := _root_.Mlp.back x (fun k => N.dh d k * N.g k) j
/-- A token's share of the gradient of the norm's weight. -/
def dg (x : Fin 1024 → ℝ) (d : Fin 3200 → ℝ) (j : Fin 1024) : ℝ := N.dh d j * _root_.Mlp.nrm x j

end Mix

namespace Cert.PremixKernelIdeal.Premix

open Cert.PremixKernelIdeal Cert.PremixKernelIdeal.Gen Idealize.ShloMosaic Idealize.ShloMosaic.ValueIdx
open Cert.KernelIdeal.Fox (R2 R2_apply R2_congr R2_add R2_sub R2_mul R2_zero)
open Cert.MlpKernelIdeal.Mlp (word_1024 word_eps R2_const R2_div R2_rsqrt)
open _root_.Mlp _root_.Fox
open scoped BigOperators

/-! ## Arrays of reals under the block's operations -/

/-- The product with the projection's weights. -/
theorem rows_cols (A : Fin 512 → Fin 3200 → ℝ) (B : Fin 3200 → Fin 1024 → ℝ) :
    matmul (F := Ideal) (φ₁ := .bf16) (φ₂ := .bf16) dot_S512x3200_S3200x1024_S512x1024_1_0_0_1_n_n none (R2 A) (R2 B) (constant S512x1024 .f32 0x00000000#32)
    = R2 fun r l => ∑ c, A r c * B c l := by
  funext j
  refine (Ideal.matmul_constant_zero_apply (φ₁ := .bf16) (φ₂ := .bf16) _ none _ _ j).trans ?_
  rw [← Equiv.sum_comp (contrEquiv1 dot_S512x3200_S3200x1024_S512x1024_1_0_0_1_n_n 3200 rfl rfl).symm, R2_apply, coe_sum]
  refine Finset.sum_congr rfl fun k _ => ?_
  have hk := contrEquiv1_symm_val dot_S512x3200_S3200x1024_S512x1024_1_0_0_1_n_n 3200 rfl rfl k
  rw [EReal.coe_mul]
  refine congrArg₂ (· * ·) (congrArg _ (congrArg₂ A (Fin.ext ?_) (Fin.ext ?_))) (congrArg _ (congrArg₂ B (Fin.ext ?_) (Fin.ext ?_)))
  · rfl
  · exact hk
  · exact hk
  · rfl

/-- A column stretched over the block. -/
theorem stretch_col (f : Fin 512 → ℝ) :
    broadcastTo S512x1024 (R2 (m := 512) (n := 1) fun a _ => f a) broadcasts_S512x1_S512x1024 = R2 fun a _ => f a := by
  funext j
  refine (broadcastTo_apply _ _ j (ix2 (j 0) 0) ?_).trans rfl
  intro a; match a with | ⟨0, _⟩ => exact rfl | ⟨1, _⟩ => exact rfl

/-- A row stretched over the block. -/
theorem stretch_row (f : Fin 1024 → ℝ) :
    broadcastTo S512x1024 (R2 (m := 1) (n := 1024) fun _ b => f b) broadcasts_S1x1024_S512x1024 = R2 fun _ b => f b := by
  funext j
  refine (broadcastTo_apply _ _ j (ix2 0 (j 1)) ?_).trans rfl
  intro a; match a with | ⟨0, _⟩ => exact rfl | ⟨1, _⟩ => exact rfl

/-- The sums of the rows. -/
theorem sum_rows (f : Fin 512 → Fin 1024 → ℝ) (hφ) (hacc) :
    shapeCast S512x1 (multiReduction (F := Ideal) (φ := .f32) .add [1] S512 (R2 f) 0x00000000#32 reduces_S512x1024_S512 hφ hacc) shapeCasts_S512_S512x1
    = R2 fun a _ => ∑ b, f a b := by
  funext j
  refine (shapeCast_apply _ _ j (ix1 (j 0)) ?_).trans ?_
  · rw [Shape.rowMajor_val_one, Shape.rowMajor_val_two]
    have h1 : (j 1).val < 1 := (j 1).isLt
    show (j 0).val = (j 0).val * 1 + (j 1).val
    omega
  · refine (Ideal.multiReduction_add_single _ _ _ _ _ _).trans ?_
    rw [R2_apply, coe_sum]
    exact Finset.sum_congr rfl fun k _ => rfl

/-- The sums of the columns. -/
theorem sum_cols (f : Fin 512 → Fin 1024 → ℝ) (hφ) (hacc) :
    shapeCast S1x1024 (multiReduction (F := Ideal) (φ := .f32) .add [0] S1024 (R2 f) 0x00000000#32 reduces_S512x1024_S1024 hφ hacc) shapeCasts_S1024_S1x1024
    = R2 fun _ b => ∑ a, f a b := by
  funext j
  refine (shapeCast_apply _ _ j (ix1 (j 1)) ?_).trans ?_
  · rw [Shape.rowMajor_val_one, Shape.rowMajor_val_two]
    have h0 : (j 0).val < 1 := (j 0).isLt
    show (j 1).val = (j 0).val * 1024 + (j 1).val
    omega
  · refine (Ideal.multiReduction_add_single _ _ _ _ _ _).trans ?_
    rw [R2_apply, coe_sum]
    exact Finset.sum_congr rfl fun k _ => rfl

/-- The means of the rows. -/
theorem mean_rows (f : Fin 512 → Fin 1024 → ℝ) :
    divf (F := Ideal) (φ := .f32) (shapeCast S512x1 (multiReduction .add [1] S512 (R2 f) 0x00000000#32 reduces_S512x1024_S512 (.inl rfl) rfl) shapeCasts_S512_S512x1)
      (broadcast S512x1 (Scalar.ofBits (F := Ideal) .f32 0x44800000#32)) = R2 (m := 512) (n := 1) fun p _ => (∑ k, f p k) * (1 / 1024) :=
  (congrArg₂ (fun A B => divf (F := Ideal) (s := S512x1) (φ := .f32) A B) (sum_rows _ _ _) (R2_const word_1024)).trans (R2_div (by norm_num) _)

/-- The scales of the rows. -/
theorem scale_rows (z : Fin 512 → Fin 1024 → ℝ) : k0_pay11 (F := Ideal) (R2 z) = R2 (m := 512) (n := 1) fun p _ => rs (z p) := by
  have h : divf (F := Ideal) (φ := .f32) (shapeCast S512x1 (multiReduction .add [1] S512 (mulf (F := Ideal) (s := S512x1024) (φ := .f32) (R2 z) (R2 z)) 0x00000000#32 reduces_S512x1024_S512 (.inl rfl) rfl) shapeCasts_S512_S512x1)
      (broadcast S512x1 (Scalar.ofBits (F := Ideal) .f32 0x44800000#32)) = R2 (m := 512) (n := 1) fun p _ => (∑ k, z p k * z p k) * (1 / 1024) := by
    refine (congrArg (fun q => divf (F := Ideal) (φ := .f32) (shapeCast S512x1 (multiReduction .add [1] S512 q 0x00000000#32 reduces_S512x1024_S512 (.inl rfl) rfl) shapeCasts_S512_S512x1)
      (broadcast S512x1 (Scalar.ofBits (F := Ideal) .f32 0x44800000#32))) (R2_mul .f32 z z)).trans ?_
    exact mean_rows _
  refine (congrArg (fun q => rsqrt (F := Ideal) (s := S512x1) (φ := .f32) q) ((congrArg₂ (fun A B => addf (F := Ideal) (s := S512x1) (φ := .f32) A B) h (R2_const word_eps)).trans (R2_add .f32 _ _))).trans ?_
  exact R2_rsqrt _ fun a _ => ms_pos (z a)

/-- The rows normed. -/
theorem norm_rows (z : Fin 512 → Fin 1024 → ℝ) : k0_pay12 (F := Ideal) (R2 z) = R2 fun p => nrm (z p) := by
  refine (congrArg (fun q => mulf (F := Ideal) (s := S512x1024) (φ := .f32) (R2 z) q) ((congrArg (fun q => broadcastTo S512x1024 q broadcasts_S512x1_S512x1024) (scale_rows z)).trans (stretch_col _))).trans ?_
  exact R2_mul .f32 _ _

/-! ## A block of tokens -/

/-- The blocks a point reads are the tokens `X` with the projection's cotangent `D`. -/
structure Reads (N : Mix) (X : Fin 512 → Fin 1024 → ℝ) (D : Fin 512 → Fin 3200 → ℝ) (x1 : Vec Ideal S512x1024 .f32) (d : Vec Ideal S512x3200 .bf16)
    (x9 : Vec Ideal S3200x1024 .bf16) (x10 : Vec Ideal S1x1024 .f32) : Prop where
  e1 : x1 = R2 X
  ed : d = R2 D
  e9 : x9 = R2 N.w
  e10 : x10 = R2 (m := 1) (n := 1024) fun _ j => N.g j

section
variable {N : Mix} {X : Fin 512 → Fin 1024 → ℝ} {D : Fin 512 → Fin 3200 → ℝ} {x1 : Vec Ideal S512x1024 .f32} {d : Vec Ideal S512x3200 .bf16}
    {x9 : Vec Ideal S3200x1024 .bf16} {x10 : Vec Ideal S1x1024 .f32} (H : Reads N X D x1 d x9 x10)

include H

/-- The cotangent of the projection's input. -/
theorem dh_eq : k0_pay10 (F := Ideal) d x9 = R2 fun p => N.dh (D p) := by
  rw [H.ed, H.e9]
  exact rows_cols _ _

/-- The normed rows. -/
theorem nrm_eq : k0_pay12 (F := Ideal) x1 = R2 fun p => nrm (X p) := by
  rw [H.e1]
  exact norm_rows _

/-- The cotangent of the norm's input. -/
theorem dx_eq : k0_pay13 (F := Ideal) x1 x10 d x9 = R2 fun p => N.dx (X p) (D p) := by
  have hg : mulf (F := Ideal) (s := S512x1024) (φ := .f32) (k0_pay10 (F := Ideal) d x9) (broadcastTo S512x1024 x10 broadcasts_S1x1024_S512x1024) = R2 fun p k => N.dh (D p) k * N.g k := by
    rw [dh_eq H, H.e10]
    exact (congrArg (fun q => mulf (F := Ideal) (s := S512x1024) (φ := .f32) (R2 fun p => N.dh (D p)) q) (stretch_row _)).trans (R2_mul .f32 _ _)
  have hs : broadcastTo S512x1024 (k0_pay11 (F := Ideal) x1) broadcasts_S512x1_S512x1024 = R2 fun p _ => rs (X p) := by
    rw [H.e1, scale_rows]
    exact stretch_col _
  have hm : divf (F := Ideal) (φ := .f32) (shapeCast S512x1 (multiReduction .add [1] S512 (mulf (F := Ideal) (s := S512x1024) (φ := .f32) (R2 fun p k => N.dh (D p) k * N.g k) (R2 fun p => nrm (X p))) 0x00000000#32 reduces_S512x1024_S512 (.inl rfl) rfl) shapeCasts_S512_S512x1)
      (broadcast S512x1 (Scalar.ofBits (F := Ideal) .f32 0x44800000#32)) = R2 (m := 512) (n := 1) fun p _ => (∑ k, N.dh (D p) k * N.g k * nrm (X p) k) * (1 / 1024) := by
    refine (congrArg (fun q => divf (F := Ideal) (φ := .f32) (shapeCast S512x1 (multiReduction .add [1] S512 q 0x00000000#32 reduces_S512x1024_S512 (.inl rfl) rfl) shapeCasts_S512_S512x1)
      (broadcast S512x1 (Scalar.ofBits (F := Ideal) .f32 0x44800000#32))) (R2_mul .f32 _ _)).trans ?_
    exact mean_rows _
  unfold k0_pay13
  dsimp only
  rw [hs, nrm_eq H]
  refine (congrArg (fun q => mulf (F := Ideal) (s := S512x1024) (φ := .f32) (R2 fun p _ => rs (X p)) (subf (F := Ideal) (s := S512x1024) (φ := .f32) q (mulf (F := Ideal) (s := S512x1024) (φ := .f32) (R2 fun p => nrm (X p)) (broadcastTo S512x1024 (divf (F := Ideal) (φ := .f32) (shapeCast S512x1 (multiReduction .add [1] S512 (mulf (F := Ideal) (s := S512x1024) (φ := .f32) q (R2 fun p => nrm (X p))) 0x00000000#32 reduces_S512x1024_S512 (.inl rfl) rfl) shapeCasts_S512_S512x1)
      (broadcast S512x1 (Scalar.ofBits (F := Ideal) .f32 0x44800000#32))) broadcasts_S512x1_S512x1024)))) hg).trans ?_
  refine (congrArg (fun q => mulf (F := Ideal) (s := S512x1024) (φ := .f32) (R2 fun p _ => rs (X p)) (subf (F := Ideal) (s := S512x1024) (φ := .f32) (R2 fun p k => N.dh (D p) k * N.g k) (mulf (F := Ideal) (s := S512x1024) (φ := .f32) (R2 fun p => nrm (X p)) q))) ((congrArg (fun q => broadcastTo S512x1024 q broadcasts_S512x1_S512x1024) hm).trans (stretch_col _))).trans ?_
  refine (congrArg (fun q => mulf (F := Ideal) (s := S512x1024) (φ := .f32) (R2 fun p _ => rs (X p)) q) ((congrArg (fun q => subf (F := Ideal) (s := S512x1024) (φ := .f32) (R2 fun p k => N.dh (D p) k * N.g k) q) (R2_mul .f32 _ _)).trans (R2_sub .f32 _ _))).trans ?_
  exact R2_mul .f32 _ _

/-- The gradient of the norm's weight after the block. -/
theorem dg_eq (u : Fin 1024 → ℝ) :
    k0_pay14 (F := Ideal) x1 d x9 (R2 (m := 1) (n := 1024) fun _ j => u j) = R2 (m := 1) (n := 1024) fun _ j => u j + ∑ p, N.dg (X p) (D p) j := by
  have h : mulf (F := Ideal) (s := S512x1024) (φ := .f32) (k0_pay10 (F := Ideal) d x9) (k0_pay12 (F := Ideal) x1) = R2 fun p => N.dg (X p) (D p) := by
    rw [dh_eq H, nrm_eq H]
    exact R2_mul .f32 _ _
  refine (congrArg₂ (fun A B => addf (F := Ideal) (s := S1x1024) (φ := .f32) A B) (shapeCast_self _ _)
    ((congrArg (fun q => shapeCast S1x1024 (multiReduction (F := Ideal) (φ := .f32) .add [0] S1024 q 0x00000000#32 reduces_S512x1024_S1024 (.inl rfl) rfl) shapeCasts_S1024_S1x1024) h).trans (sum_cols _ _ _))).trans ?_
  exact R2_add .f32 _ _

end

/-- The gradient of the norm's weight starts at zero. -/
theorem start : k0_pay2 (F := Ideal) = R2 (m := 1) (n := 1024) fun _ _ => 0 := by
  funext j
  exact Ideal.ofBits_zero_f32.trans EReal.coe_zero.symm

end Cert.PremixKernelIdeal.Premix

end
-- ==== Proof.PremixRef.lean ====
/-
  THE REFERENCE OF THE BACKWARD OF THE NORM AND THE PROJECTION, ON REALS: each of its lines as mathematics.
-/
module

public import proofs.«01_k».proof.Proof.Gen.PremixReferenceIdeal.Read
public import proofs.«01_k».proof.Proof.MlpRef
public import proofs.«01_k».proof.Proof.PremixBody

@[expose] public section

noncomputable section

namespace Cert.PremixReferenceIdeal.Premix

open Cert.PremixReferenceIdeal Cert.PremixReferenceIdeal.Gen Cert.PremixReferenceIdeal.Read Idealize.ShloMosaic Idealize.ShloMosaic.ValueIdx
open Cert.MlpKernelIdeal.Mlp (word_1024 word_eps word_neg_half)
open Cert.MlpReferenceIdeal.Mlp (mul_of add_of div_of rsqrt_of sum_from dot_of as_real)
open _root_.Mlp
open scoped BigOperators

/-- The seven pieces of the projection's cotangent. -/
def pieces (x2 x3 x4 : S2048x512.Idx → EReal) (x5 : S2048x128.Idx → EReal) (x6 x7 x8 : S2048x512.Idx → EReal) : List ((s : Shape) × (s.Idx → EReal)) :=
  [⟨S2048x512, x2⟩, ⟨S2048x512, x3⟩, ⟨S2048x512, x4⟩, ⟨S2048x128, x5⟩, ⟨S2048x512, x6⟩, ⟨S2048x512, x7⟩, ⟨S2048x512, x8⟩]

theorem pieces_fit (x2 x3 x4 : S2048x512.Idx → EReal) (x5 : S2048x128.Idx → EReal) (x6 x7 x8 : S2048x512.Idx → EReal) :
    Shape.Concatenates ((pieces x2 x3 x4 x5 x6 x7 x8).map (·.1)) S2048x3200 1 :=
  concatenates_S2048x512_S2048x512_S2048x512_S2048x128_S2048x512_S2048x512_S2048x512_S2048x3200_d1

/-- Piece 1's columns of the seven side by side. -/
theorem cat0 {x2 x3 x4 : S2048x512.Idx → EReal} {x5 : S2048x128.Idx → EReal} {x6 x7 x8 : S2048x512.Idx → EReal} (i : S2048x3200.Idx) (r : Fin 512) (h : 0 + r.val = (i 1).val) :
    val_main_v0 (F := Ideal) x2 x3 x4 x5 x6 x7 x8 i = x2 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 0 (by unfold pieces; simp) S2048x512 _ rfl rfl 0 rfl
    (ix2 (i 0) r) (fun b => match b with | ⟨0, _⟩ => fun _ => rfl | ⟨1, _⟩ => fun hb => absurd rfl hb) h

/-- Piece 2's columns of the seven side by side. -/
theorem cat1 {x2 x3 x4 : S2048x512.Idx → EReal} {x5 : S2048x128.Idx → EReal} {x6 x7 x8 : S2048x512.Idx → EReal} (i : S2048x3200.Idx) (r : Fin 512) (h : 512 + r.val = (i 1).val) :
    val_main_v0 (F := Ideal) x2 x3 x4 x5 x6 x7 x8 i = x3 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 1 (by unfold pieces; simp) S2048x512 _ rfl rfl 512 rfl
    (ix2 (i 0) r) (fun b => match b with | ⟨0, _⟩ => fun _ => rfl | ⟨1, _⟩ => fun hb => absurd rfl hb) h

/-- Piece 3's columns of the seven side by side. -/
theorem cat2 {x2 x3 x4 : S2048x512.Idx → EReal} {x5 : S2048x128.Idx → EReal} {x6 x7 x8 : S2048x512.Idx → EReal} (i : S2048x3200.Idx) (r : Fin 512) (h : 1024 + r.val = (i 1).val) :
    val_main_v0 (F := Ideal) x2 x3 x4 x5 x6 x7 x8 i = x4 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 2 (by unfold pieces; simp) S2048x512 _ rfl rfl 1024 rfl
    (ix2 (i 0) r) (fun b => match b with | ⟨0, _⟩ => fun _ => rfl | ⟨1, _⟩ => fun hb => absurd rfl hb) h

/-- Piece 4's columns of the seven side by side. -/
theorem cat3 {x2 x3 x4 : S2048x512.Idx → EReal} {x5 : S2048x128.Idx → EReal} {x6 x7 x8 : S2048x512.Idx → EReal} (i : S2048x3200.Idx) (r : Fin 128) (h : 1536 + r.val = (i 1).val) :
    val_main_v0 (F := Ideal) x2 x3 x4 x5 x6 x7 x8 i = x5 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 3 (by unfold pieces; simp) S2048x128 _ rfl rfl 1536 rfl
    (ix2 (i 0) r) (fun b => match b with | ⟨0, _⟩ => fun _ => rfl | ⟨1, _⟩ => fun hb => absurd rfl hb) h

/-- Piece 5's columns of the seven side by side. -/
theorem cat4 {x2 x3 x4 : S2048x512.Idx → EReal} {x5 : S2048x128.Idx → EReal} {x6 x7 x8 : S2048x512.Idx → EReal} (i : S2048x3200.Idx) (r : Fin 512) (h : 1664 + r.val = (i 1).val) :
    val_main_v0 (F := Ideal) x2 x3 x4 x5 x6 x7 x8 i = x6 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 4 (by unfold pieces; simp) S2048x512 _ rfl rfl 1664 rfl
    (ix2 (i 0) r) (fun b => match b with | ⟨0, _⟩ => fun _ => rfl | ⟨1, _⟩ => fun hb => absurd rfl hb) h

/-- Piece 6's columns of the seven side by side. -/
theorem cat5 {x2 x3 x4 : S2048x512.Idx → EReal} {x5 : S2048x128.Idx → EReal} {x6 x7 x8 : S2048x512.Idx → EReal} (i : S2048x3200.Idx) (r : Fin 512) (h : 2176 + r.val = (i 1).val) :
    val_main_v0 (F := Ideal) x2 x3 x4 x5 x6 x7 x8 i = x7 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 5 (by unfold pieces; simp) S2048x512 _ rfl rfl 2176 rfl
    (ix2 (i 0) r) (fun b => match b with | ⟨0, _⟩ => fun _ => rfl | ⟨1, _⟩ => fun hb => absurd rfl hb) h

/-- Piece 7's columns of the seven side by side. -/
theorem cat6 {x2 x3 x4 : S2048x512.Idx → EReal} {x5 : S2048x128.Idx → EReal} {x6 x7 x8 : S2048x512.Idx → EReal} (i : S2048x3200.Idx) (r : Fin 512) (h : 2688 + r.val = (i 1).val) :
    val_main_v0 (F := Ideal) x2 x3 x4 x5 x6 x7 x8 i = x8 (ix2 (i 0) r) := by
  show concatenate S2048x3200 1 (pieces x2 x3 x4 x5 x6 x7 x8) (pieces_fit x2 x3 x4 x5 x6 x7 x8) i = _
  exact concatenate_apply_piece 1 (pieces x2 x3 x4 x5 x6 x7 x8) (pieces_fit x2 x3 x4 x5 x6 x7 x8) i 6 (by unfold pieces; simp) S2048x512 _ rfl rfl 2688 rfl
    (ix2 (i 0) r) (fun b => match b with | ⟨0, _⟩ => fun _ => rfl | ⟨1, _⟩ => fun hb => absurd rfl hb) h

/-- All arguments but the first are real everywhere. -/
structure AllReal (x1 : S2048x1024.Idx → EReal) (x2 x3 x4 : S2048x512.Idx → EReal) (x5 : S2048x128.Idx → EReal) (x6 x7 x8 : S2048x512.Idx → EReal)
    (x9 : S3200x1024.Idx → EReal) (x10 : S1x1024.Idx → EReal) : Prop where
  p1 : ∀ i, x1 i = ((x1 i).toReal : EReal)
  p2 : ∀ i, x2 i = ((x2 i).toReal : EReal)
  p3 : ∀ i, x3 i = ((x3 i).toReal : EReal)
  p4 : ∀ i, x4 i = ((x4 i).toReal : EReal)
  p5 : ∀ i, x5 i = ((x5 i).toReal : EReal)
  p6 : ∀ i, x6 i = ((x6 i).toReal : EReal)
  p7 : ∀ i, x7 i = ((x7 i).toReal : EReal)
  p8 : ∀ i, x8 i = ((x8 i).toReal : EReal)
  p9 : ∀ i, x9 i = ((x9 i).toReal : EReal)
  p10 : ∀ i, x10 i = ((x10 i).toReal : EReal)

/-- The arguments on reals: the rows, the projection's cotangent, the weights. -/
structure Reals (N : Mix) (X : Fin 2048 → Fin 1024 → ℝ) (D : Fin 2048 → Fin 3200 → ℝ) (x1 : S2048x1024.Idx → EReal) (x2 x3 x4 : S2048x512.Idx → EReal)
    (x5 : S2048x128.Idx → EReal) (x6 x7 x8 : S2048x512.Idx → EReal) (x9 : S3200x1024.Idx → EReal) (x10 : S1x1024.Idx → EReal) : Prop where
  r1 : ∀ i, x1 i = (X (i 0) (i 1) : ℝ)
  rd : ∀ i, val_main_v0 (F := Ideal) x2 x3 x4 x5 x6 x7 x8 i = (D (i 0) (i 1) : ℝ)
  r9 : ∀ i, x9 i = (N.w (i 0) (i 1) : ℝ)
  r10 : ∀ i, x10 i = (N.g (i 1) : ℝ)

section
variable {x1 : S2048x1024.Idx → EReal} {x2 x3 x4 : S2048x512.Idx → EReal} {x5 : S2048x128.Idx → EReal} {x6 x7 x8 : S2048x512.Idx → EReal}
    {x9 : S3200x1024.Idx → EReal} {x10 : S1x1024.Idx → EReal}

/-- The seven pieces side by side are real where each is. -/
theorem cat_real (h : AllReal x1 x2 x3 x4 x5 x6 x7 x8 x9 x10) (i : S2048x3200.Idx) :
    val_main_v0 (F := Ideal) x2 x3 x4 x5 x6 x7 x8 i = ((val_main_v0 (F := Ideal) x2 x3 x4 x5 x6 x7 x8 i).toReal : EReal) := by
  have hi : (i 1).val < 3200 := (i 1).isLt
  by_cases h6 : 2688 ≤ (i 1).val
  · rw [cat6 i ⟨(i 1).val - 2688, by omega⟩ (by show 2688 + ((i 1).val - 2688) = _; omega)]
    exact h.p8 _
  by_cases h5 : 2176 ≤ (i 1).val
  · rw [cat5 i ⟨(i 1).val - 2176, by omega⟩ (by show 2176 + ((i 1).val - 2176) = _; omega)]
    exact h.p7 _
  by_cases h4 : 1664 ≤ (i 1).val
  · rw [cat4 i ⟨(i 1).val - 1664, by omega⟩ (by show 1664 + ((i 1).val - 1664) = _; omega)]
    exact h.p6 _
  by_cases h3 : 1536 ≤ (i 1).val
  · rw [cat3 i ⟨(i 1).val - 1536, by omega⟩ (by show 1536 + ((i 1).val - 1536) = _; omega)]
    exact h.p5 _
  by_cases h2 : 1024 ≤ (i 1).val
  · rw [cat2 i ⟨(i 1).val - 1024, by omega⟩ (by show 1024 + ((i 1).val - 1024) = _; omega)]
    exact h.p4 _
  by_cases h1 : 512 ≤ (i 1).val
  · rw [cat1 i ⟨(i 1).val - 512, by omega⟩ (by show 512 + ((i 1).val - 512) = _; omega)]
    exact h.p3 _
  rw [cat0 i ⟨(i 1).val, by omega⟩ (by show 0 + (i 1).val = _; omega)]
  exact h.p2 _

/-- Arguments that are real everywhere are some rows, some cotangent and some weights. -/
theorem exists_reals (h : AllReal x1 x2 x3 x4 x5 x6 x7 x8 x9 x10) :
    ∃ (N : Mix) (X : Fin 2048 → Fin 1024 → ℝ) (D : Fin 2048 → Fin 3200 → ℝ), Reals N X D x1 x2 x3 x4 x5 x6 x7 x8 x9 x10 := by
  have one : ∀ i : S1x1024.Idx, i = ix2 (0 : Fin 1) (i 1) := fun i => by
    have e : ∀ z : Fin 1, z = 0 := fun z => Subsingleton.elim _ _
    exact (eq_ix2 i).trans (congrArg (fun z : Fin 1 => (ix2 z (i 1) : S1x1024.Idx)) (e (i 0)))
  refine ⟨⟨fun a b => (x9 (ix2 a b)).toReal, fun b => (x10 (ix2 (0 : Fin 1) b)).toReal⟩, fun a b => (x1 (ix2 a b)).toReal,
    fun a b => (val_main_v0 (F := Ideal) x2 x3 x4 x5 x6 x7 x8 (ix2 a b)).toReal, ?_, ?_, ?_, ?_⟩
  · exact fun i => (h.p1 i).trans (congrArg (fun k : S2048x1024.Idx => ((x1 k).toReal : EReal)) (eq_ix2 i))
  · exact fun i => (cat_real h i).trans (congrArg (fun k : S2048x3200.Idx => ((val_main_v0 (F := Ideal) x2 x3 x4 x5 x6 x7 x8 k).toReal : EReal)) (eq_ix2 i))
  · exact fun i => (h.p9 i).trans (congrArg (fun k : S3200x1024.Idx => ((x9 k).toReal : EReal)) (eq_ix2 i))
  · exact fun i => (h.p10 i).trans (congrArg (fun k : S1x1024.Idx => ((x10 k).toReal : EReal)) (one i))

end

theorem flat23 (i : S1x1024.Idx) : idx_main_v23 i = ix1 (⟨(i 1).val, (i 1).isLt⟩ : Fin 1024) := by
  have h0 : (i 0).val < 1 := (i 0).isLt
  funext a
  match a with
  | ⟨0, _⟩ => exact Fin.ext (by show (i 0).val * 1024 + (i 1).val = (i 1).val; omega)

theorem flat28 (i : S2048x1.Idx) : idx_main_v28 i = ix1 (⟨(i 0).val, (i 0).isLt⟩ : Fin 2048) := by
  have h1 : (i 1).val < 1 := (i 1).isLt
  funext a
  match a with
  | ⟨0, _⟩ => exact Fin.ext (by show (i 0).val * 1 + (i 1).val = (i 0).val; omega)

section
variable {N : Mix} {X : Fin 2048 → Fin 1024 → ℝ} {D : Fin 2048 → Fin 3200 → ℝ} {x0 x1 : S2048x1024.Idx → EReal} {x2 x3 x4 : S2048x512.Idx → EReal} {x5 : S2048x128.Idx → EReal} {x6 x7 x8 : S2048x512.Idx → EReal}
    {x9 : S3200x1024.Idx → EReal} {x10 : S1x1024.Idx → EReal} (R : Reals N X D x1 x2 x3 x4 x5 x6 x7 x8 x9 x10)

theorem v5 (i : S2048x1.Idx) : val_main_v5 (F := Ideal) i = ((1024 : ℝ) : EReal) :=
  (val_main_v5_apply i).trans ((val_main_cst_0_apply _).trans word_1024)

theorem v7 (i : S2048x1.Idx) : val_main_v7 (F := Ideal) i = ((eps : ℝ) : EReal) :=
  (val_main_v7_apply i).trans ((val_main_cst_1_apply _).trans word_eps)

theorem v11 (i : S2048x1.Idx) : val_main_v11 (F := Ideal) i = ((-(1 / 2) : ℝ) : EReal) :=
  (val_main_v11_apply i).trans ((val_main_cst_2_apply _).trans word_neg_half)

theorem v32 (i : S2048x1.Idx) : val_main_v32 (F := Ideal) i = ((1024 : ℝ) : EReal) :=
  (val_main_v32_apply i).trans ((val_main_cst_5_apply _).trans word_1024)

include R

theorem v1 (i : S2048x3200.Idx) : val_main_v1 (F := Ideal) x2 x3 x4 x5 x6 x7 x8 i = ((D (i 0) (i 1) : ℝ) : EReal) :=
  (val_main_v1_apply (F := Ideal) x2 x3 x4 x5 x6 x7 x8 i).trans (R.rd i)

theorem v2 (i : S2048x1024.Idx) : val_main_v2 (F := Ideal) x1 i = ((X (i 0) (i 1) * X (i 0) (i 1) : ℝ) : EReal) :=
  (val_main_v2_apply (F := Ideal) x1 i).trans (mul_of (R.r1 i) (R.r1 i))

theorem v3 (i : S2048.Idx) : val_main_v3 (F := Ideal) x1 i = ((∑ k, X (i 0) k * X (i 0) k : ℝ) : EReal) :=
  (val_main_v3_apply x1 i).trans (sum_from ((val_main_cst_apply _).trans Ideal.ofBits_zero_f32) fun k => v2 R (idx_main_v3 i k))

theorem v4 (i : S2048x1.Idx) : val_main_v4 (F := Ideal) x1 i = ((∑ k, X (i 0) k * X (i 0) k : ℝ) : EReal) :=
  (val_main_v4_apply (F := Ideal) x1 i).trans (v3 R (idx_main_v4 i))

theorem v6 (i : S2048x1.Idx) : val_main_v6 (F := Ideal) x1 i = (((∑ k, X (i 0) k * X (i 0) k) * (1 / 1024) : ℝ) : EReal) :=
  (val_main_v6_apply (F := Ideal) x1 i).trans (div_of (by norm_num) (v4 R i) (v5 i))

/-- The mean square of a row and the constant that keeps it off zero. -/
theorem v8 (i : S2048x1.Idx) : val_main_v8 (F := Ideal) x1 i = ((ms (X (i 0)) : ℝ) : EReal) :=
  (val_main_v8_apply (F := Ideal) x1 i).trans (add_of (v6 R i) (v7 i))

/-- The scale of a row. -/
theorem v9 (i : S2048x1.Idx) : val_main_v9 (F := Ideal) x1 i = ((rs (X (i 0)) : ℝ) : EReal) :=
  (val_main_v9_apply (F := Ideal) x1 i).trans (rsqrt_of (ms_pos _) (v8 R i))

theorem v10 (i : S2048x1.Idx) : val_main_v10 (F := Ideal) x1 i = ((rs (X (i 0)) / ms (X (i 0)) : ℝ) : EReal) :=
  as_real ((val_main_v10_apply (F := Ideal) x1 i).trans (div_of (ms_pos _).ne' (v9 R i) (v8 R i))) (by rw [one_div, div_eq_mul_inv])

theorem v12 (i : S2048x1.Idx) : val_main_v12 (F := Ideal) x1 i = ((-(1 / 2) * (rs (X (i 0)) / ms (X (i 0))) : ℝ) : EReal) :=
  (val_main_v12_apply (F := Ideal) x1 i).trans (mul_of (v11 i) (v10 R i))

theorem v13 (i : S2048x1024.Idx) : val_main_v13 (F := Ideal) x1 i = ((rs (X (i 0)) : ℝ) : EReal) :=
  (val_main_v13_apply (F := Ideal) x1 i).trans (v9 R (idx_main_v13 i))

/-- The row normed. -/
theorem v14 (i : S2048x1024.Idx) : val_main_v14 (F := Ideal) x1 i = ((nrm (X (i 0)) (i 1) : ℝ) : EReal) :=
  (val_main_v14_apply (F := Ideal) x1 i).trans (mul_of (R.r1 i) (v13 R i))

theorem v17 (i : S3200x1024.Idx) : val_main_v17 (F := Ideal) x9 i = ((N.w (i 0) (i 1) : ℝ) : EReal) :=
  (val_main_v17_apply (F := Ideal) x9 i).trans (R.r9 i)

theorem v18 (i : S1024x3200.Idx) : val_main_v18 (F := Ideal) x9 i = ((N.w (i 1) (i 0) : ℝ) : EReal) :=
  (val_main_v18_apply (F := Ideal) x9 i).trans (v17 R (idx_main_v18 i))

/-- The cotangent of the projection's input. -/
theorem v20 (i : S2048x1024.Idx) : val_main_v20 (F := Ideal) x2 x3 x4 x5 x6 x7 x8 x9 i = ((N.dh (D (i 0)) (i 1) : ℝ) : EReal) :=
  (val_main_v20_apply x2 x3 x4 x5 x6 x7 x8 x9 i).trans (dot_of (fun k => v1 R (lidx_main_v20 i k)) fun k => v18 R (ridx_main_v20 i k))

theorem v21 (i : S2048x1024.Idx) : val_main_v21 (F := Ideal) x1 x2 x3 x4 x5 x6 x7 x8 x9 i = ((N.dg (X (i 0)) (D (i 0)) (i 1) : ℝ) : EReal) :=
  as_real ((val_main_v21_apply (F := Ideal) x1 x2 x3 x4 x5 x6 x7 x8 x9 i).trans (mul_of (v14 R i) (v20 R i))) (mul_comm _ _)

theorem v22 (i : S1024.Idx) : val_main_v22 (F := Ideal) x1 x2 x3 x4 x5 x6 x7 x8 x9 i = ((∑ p, N.dg (X p) (D p) (i 0) : ℝ) : EReal) :=
  (val_main_v22_apply x1 x2 x3 x4 x5 x6 x7 x8 x9 i).trans (sum_from ((val_main_cst_3_apply _).trans Ideal.ofBits_zero_f32) fun k => v21 R (idx_main_v22 i k))

/-- The gradient of the norm's weight. -/
theorem v23 (i : S1x1024.Idx) : val_main_v23 (F := Ideal) x1 x2 x3 x4 x5 x6 x7 x8 x9 i = ((∑ p, N.dg (X p) (D p) (i 1) : ℝ) : EReal) :=
  (val_main_v23_apply (F := Ideal) x1 x2 x3 x4 x5 x6 x7 x8 x9 i).trans ((congrArg (val_main_v22 (F := Ideal) x1 x2 x3 x4 x5 x6 x7 x8 x9) (flat23 i)).trans (v22 R (ix1 (⟨(i 1).val, (i 1).isLt⟩ : Fin 1024))))

theorem v24 (i : S2048x1024.Idx) : val_main_v24 (F := Ideal) x10 i = ((N.g (i 1) : ℝ) : EReal) :=
  (val_main_v24_apply (F := Ideal) x10 i).trans (R.r10 (idx_main_v24 i))

theorem v25 (i : S2048x1024.Idx) : val_main_v25 (F := Ideal) x2 x3 x4 x5 x6 x7 x8 x9 x10 i = ((N.dh (D (i 0)) (i 1) * N.g (i 1) : ℝ) : EReal) :=
  (val_main_v25_apply (F := Ideal) x2 x3 x4 x5 x6 x7 x8 x9 x10 i).trans (mul_of (v20 R i) (v24 R i))

theorem v26 (i : S2048x1024.Idx) : val_main_v26 (F := Ideal) x1 x2 x3 x4 x5 x6 x7 x8 x9 x10 i = ((X (i 0) (i 1) * (N.dh (D (i 0)) (i 1) * N.g (i 1)) : ℝ) : EReal) :=
  (val_main_v26_apply (F := Ideal) x1 x2 x3 x4 x5 x6 x7 x8 x9 x10 i).trans (mul_of (R.r1 i) (v25 R i))

theorem v27 (i : S2048.Idx) : val_main_v27 (F := Ideal) x1 x2 x3 x4 x5 x6 x7 x8 x9 x10 i = (((∑ k, X (i 0) k * (N.dh (D (i 0)) k * N.g k)) : ℝ) : EReal) :=
  (val_main_v27_apply x1 x2 x3 x4 x5 x6 x7 x8 x9 x10 i).trans (sum_from ((val_main_cst_4_apply _).trans Ideal.ofBits_zero_f32) fun k => v26 R (idx_main_v27 i k))

theorem v28 (i : S2048x1.Idx) : val_main_v28 (F := Ideal) x1 x2 x3 x4 x5 x6 x7 x8 x9 x10 i = (((∑ k, X (i 0) k * (N.dh (D (i 0)) k * N.g k)) : ℝ) : EReal) :=
  (val_main_v28_apply (F := Ideal) x1 x2 x3 x4 x5 x6 x7 x8 x9 x10 i).trans ((congrArg (val_main_v27 (F := Ideal) x1 x2 x3 x4 x5 x6 x7 x8 x9 x10) (flat28 i)).trans (v27 R (ix1 (⟨(i 0).val, (i 0).isLt⟩ : Fin 2048))))

theorem v29 (i : S2048x1024.Idx) : val_main_v29 (F := Ideal) x1 i = ((rs (X (i 0)) : ℝ) : EReal) :=
  (val_main_v29_apply (F := Ideal) x1 i).trans (v9 R (idx_main_v29 i))

theorem v30 (i : S2048x1024.Idx) : val_main_v30 (F := Ideal) x1 x2 x3 x4 x5 x6 x7 x8 x9 x10 i = (((N.dh (D (i 0)) (i 1) * N.g (i 1)) * rs (X (i 0)) : ℝ) : EReal) :=
  (val_main_v30_apply (F := Ideal) x1 x2 x3 x4 x5 x6 x7 x8 x9 x10 i).trans (mul_of (v25 R i) (v29 R i))

theorem v31 (i : S2048x1.Idx) : val_main_v31 (F := Ideal) x1 x2 x3 x4 x5 x6 x7 x8 x9 x10 i = (((∑ k, X (i 0) k * (N.dh (D (i 0)) k * N.g k)) * (-(1 / 2) * (rs (X (i 0)) / ms (X (i 0)))) : ℝ) : EReal) :=
  (val_main_v31_apply (F := Ideal) x1 x2 x3 x4 x5 x6 x7 x8 x9 x10 i).trans (mul_of (v28 R i) (v12 R i))

theorem v33 (i : S2048x1.Idx) : val_main_v33 (F := Ideal) x1 x2 x3 x4 x5 x6 x7 x8 x9 x10 i = ((((∑ k, X (i 0) k * (N.dh (D (i 0)) k * N.g k)) * (-(1 / 2) * (rs (X (i 0)) / ms (X (i 0)))) * (1 / 1024)) : ℝ) : EReal) :=
  (val_main_v33_apply (F := Ideal) x1 x2 x3 x4 x5 x6 x7 x8 x9 x10 i).trans (div_of (by norm_num) (v31 R i) (v32 i))

theorem v34 (i : S2048.Idx) : val_main_v34 (F := Ideal) x1 x2 x3 x4 x5 x6 x7 x8 x9 x10 i = ((((∑ k, X (i 0) k * (N.dh (D (i 0)) k * N.g k)) * (-(1 / 2) * (rs (X (i 0)) / ms (X (i 0)))) * (1 / 1024)) : ℝ) : EReal) :=
  as_real ((val_main_v34_apply x1 x2 x3 x4 x5 x6 x7 x8 x9 x10 i).trans (sum_from ((val_main_cst_6_apply _).trans Ideal.ofBits_zero_f32) fun k => v33 R (idx_main_v34 i k))) (Fin.sum_univ_one _)

theorem v35 (i : S2048x1024.Idx) : val_main_v35 (F := Ideal) x1 x2 x3 x4 x5 x6 x7 x8 x9 x10 i = ((((∑ k, X (i 0) k * (N.dh (D (i 0)) k * N.g k)) * (-(1 / 2) * (rs (X (i 0)) / ms (X (i 0)))) * (1 / 1024)) : ℝ) : EReal) :=
  (val_main_v35_apply (F := Ideal) x1 x2 x3 x4 x5 x6 x7 x8 x9 x10 i).trans (v34 R (idx_main_v35 i))

theorem v36 (i : S2048x1024.Idx) : val_main_v36 (F := Ideal) x1 x2 x3 x4 x5 x6 x7 x8 x9 x10 i = ((X (i 0) (i 1) * ((∑ k, X (i 0) k * (N.dh (D (i 0)) k * N.g k)) * (-(1 / 2) * (rs (X (i 0)) / ms (X (i 0)))) * (1 / 1024)) : ℝ) : EReal) :=
  (val_main_v36_apply (F := Ideal) x1 x2 x3 x4 x5 x6 x7 x8 x9 x10 i).trans (mul_of (R.r1 i) (v35 R i))

theorem v37 (i : S2048x1024.Idx) : val_main_v37 (F := Ideal) x1 x2 x3 x4 x5 x6 x7 x8 x9 x10 i = (((N.dh (D (i 0)) (i 1) * N.g (i 1)) * rs (X (i 0)) + X (i 0) (i 1) * ((∑ k, X (i 0) k * (N.dh (D (i 0)) k * N.g k)) * (-(1 / 2) * (rs (X (i 0)) / ms (X (i 0)))) * (1 / 1024)) : ℝ) : EReal) :=
  (val_main_v37_apply (F := Ideal) x1 x2 x3 x4 x5 x6 x7 x8 x9 x10 i).trans (add_of (v30 R i) (v36 R i))

theorem v38 (i : S2048x1024.Idx) : val_main_v38 (F := Ideal) x1 x2 x3 x4 x5 x6 x7 x8 x9 x10 i = ((((∑ k, X (i 0) k * (N.dh (D (i 0)) k * N.g k)) * (-(1 / 2) * (rs (X (i 0)) / ms (X (i 0)))) * (1 / 1024)) * X (i 0) (i 1) : ℝ) : EReal) :=
  (val_main_v38_apply (F := Ideal) x1 x2 x3 x4 x5 x6 x7 x8 x9 x10 i).trans (mul_of (v35 R i) (R.r1 i))

/-- The cotangent of the norm's input. -/
theorem v39 (i : S2048x1024.Idx) : val_main_v39 (F := Ideal) x1 x2 x3 x4 x5 x6 x7 x8 x9 x10 i = ((N.dx (X (i 0)) (D (i 0)) (i 1) : ℝ) : EReal) :=
  as_real ((val_main_v39_apply (F := Ideal) x1 x2 x3 x4 x5 x6 x7 x8 x9 x10 i).trans (add_of (v37 R i) (v38 R i))) ((add_assoc _ _ _).trans (back_eq (X (i 0)) (fun k => N.dh (D (i 0)) k * N.g k) (i 1)))

/-- The first result: the row handed in plus that cotangent. -/
theorem v40 (i : S2048x1024.Idx) : val_main_v40 (F := Ideal) x0 x1 x2 x3 x4 x5 x6 x7 x8 x9 x10 i = x0 i + ((N.dx (X (i 0)) (D (i 0)) (i 1) : ℝ) : EReal) :=
  (val_main_v40_apply (F := Ideal) x0 x1 x2 x3 x4 x5 x6 x7 x8 x9 x10 i).trans (congrArg (fun q : EReal => x0 i + q) (v39 R i))

end

end Cert.PremixReferenceIdeal.Premix

end
-- ==== Proof.PremixFold.lean ====
/-
  THE ARRAYS THE BACKWARD OF THE NORM AND THE PROJECTION LEAVES, ON REALS: the rows of each block of tokens from the point that writes
  the block, the gradient of the norm's weight from the last point, which holds what all the points before it added.
-/
module

public import proofs.«01_k».proof.Proof.PremixBlocks
public import proofs.«01_k».proof.Proof.PremixBody
public import proofs.«01_k».proof.Proof.PremixRef

@[expose] public section

set_option maxHeartbeats 1000000

noncomputable section

namespace Cert.PremixKernelIdeal.Premix

open Cert.PremixKernelIdeal Cert.PremixKernelIdeal.Gen Cert.PremixKernelIdeal.Value Idealize.ShloMosaic Idealize.ShloMosaic.ValueIdx
open Idealize.ShloMosaic.TcCoe
open Cert.KernelIdeal.Fox (R2 R2_add)
open Cert.PremixReferenceIdeal.Premix (Reals)
open scoped BigOperators

/-- Token `p` of block `t`. -/
def tok (t : Fin 4) (p : Fin 512) : Fin 2048 := ⟨512 * t.val + p.val, by omega⟩

/-- A point's block. -/
def blk (t : Fin cfg0.N) : Fin 4 := ⟨t.val, lt_of_lt_of_eq t.isLt (by decide +kernel : grid0.N = 4)⟩

/-- What the first `n` blocks contribute to a sum over the tokens. -/
def upto (f : Fin 2048 → ℝ) (n : ℕ) : ℝ := ∑ s ∈ Finset.range n, if h : s < 4 then ∑ p, f (tok ⟨s, h⟩ p) else 0

theorem upto_zero (f : Fin 2048 → ℝ) : upto f 0 = 0 := Finset.sum_range_zero _

theorem upto_succ (f : Fin 2048 → ℝ) (t : Fin 4) : upto f (t.val + 1) = upto f t.val + ∑ p, f (tok t p) := by
  unfold upto
  rw [Finset.sum_range_succ, dif_pos t.isLt]

/-- All four blocks contribute the whole sum. -/
theorem upto_all (f : Fin 2048 → ℝ) : upto f 4 = ∑ p, f p := by
  unfold upto
  rw [Finset.sum_range, ← Equiv.sum_comp (finProdFinEquiv : Fin 4 × Fin 512 ≃ Fin 2048), Fintype.sum_prod_type]
  refine Finset.sum_congr rfl fun t _ => ?_
  rw [dif_pos t.isLt]
  refine Finset.sum_congr rfl fun p _ => congrArg f (Fin.ext ?_)
  show 512 * t.val + p.val = p.val + 512 * t.val
  omega

variable (m : (ℓ : Loc nD τ sig) → Buf (Elt Ideal) ℓ) (c : Dev nD)

/-- The seven pieces a point lays side by side are its rows of the reference's. -/
theorem beside_eq (t : Fin cfg0.N) (j : S512x3200.Idx) (i : Cert.PremixReferenceIdeal.S2048x3200.Idx) (h0 : i 0 = tok (blk t) (j 0)) (h1 : i 1 = j 1) :
    beside (iblk m c 2 t) (iblk m c 3 t) (iblk m c 4 t) (iblk m c 5 t) (iblk m c 6 t) (iblk m c 7 t) (iblk m c 8 t) j = Cert.PremixReferenceIdeal.Read.val_main_v0 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  have hj : (j 1).val < 3200 := (j 1).isLt
  obtain rfl : i = ix2 (tok (blk t) (j 0)) (j 1) := (eq_ix2 i).trans (congrArg₂ (fun a b => ix2 a b) h0 h1)
  let i : Cert.PremixReferenceIdeal.S2048x3200.Idx := ix2 (tok (blk t) (j 0)) (j 1)
  unfold beside
  by_cases h6 : 2688 ≤ (j 1).val
  · rw [dif_pos h6]
    let r : Fin 512 := ⟨(j 1).val - 2688, by omega⟩
    have hr : 2688 + r.val = (j 1).val := by show 2688 + ((j 1).val - 2688) = (j 1).val; omega
    exact (read8 m c t (ix2 (j 0) r) (ix2 (tok (blk t) (j 0)) r) rfl rfl).trans (Cert.PremixReferenceIdeal.Premix.cat6 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h6]
  by_cases h5 : 2176 ≤ (j 1).val
  · rw [dif_pos h5]
    let r : Fin 512 := ⟨(j 1).val - 2176, by omega⟩
    have hr : 2176 + r.val = (j 1).val := by show 2176 + ((j 1).val - 2176) = (j 1).val; omega
    exact (read7 m c t (ix2 (j 0) r) (ix2 (tok (blk t) (j 0)) r) rfl rfl).trans (Cert.PremixReferenceIdeal.Premix.cat5 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h5]
  by_cases h4 : 1664 ≤ (j 1).val
  · rw [dif_pos h4]
    let r : Fin 512 := ⟨(j 1).val - 1664, by omega⟩
    have hr : 1664 + r.val = (j 1).val := by show 1664 + ((j 1).val - 1664) = (j 1).val; omega
    exact (read6 m c t (ix2 (j 0) r) (ix2 (tok (blk t) (j 0)) r) rfl rfl).trans (Cert.PremixReferenceIdeal.Premix.cat4 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h4]
  by_cases h3 : 1536 ≤ (j 1).val
  · rw [dif_pos h3]
    let r : Fin 128 := ⟨(j 1).val - 1536, by omega⟩
    have hr : 1536 + r.val = (j 1).val := by show 1536 + ((j 1).val - 1536) = (j 1).val; omega
    exact (read5 m c t (ix2 (j 0) r) (ix2 (tok (blk t) (j 0)) r) rfl rfl).trans (Cert.PremixReferenceIdeal.Premix.cat3 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h3]
  by_cases h2 : 1024 ≤ (j 1).val
  · rw [dif_pos h2]
    let r : Fin 512 := ⟨(j 1).val - 1024, by omega⟩
    have hr : 1024 + r.val = (j 1).val := by show 1024 + ((j 1).val - 1024) = (j 1).val; omega
    exact (read4 m c t (ix2 (j 0) r) (ix2 (tok (blk t) (j 0)) r) rfl rfl).trans (Cert.PremixReferenceIdeal.Premix.cat2 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h2]
  by_cases h1 : 512 ≤ (j 1).val
  · rw [dif_pos h1]
    let r : Fin 512 := ⟨(j 1).val - 512, by omega⟩
    have hr : 512 + r.val = (j 1).val := by show 512 + ((j 1).val - 512) = (j 1).val; omega
    exact (read3 m c t (ix2 (j 0) r) (ix2 (tok (blk t) (j 0)) r) rfl rfl).trans (Cert.PremixReferenceIdeal.Premix.cat1 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm
  rw [dif_neg h1]
  let r : Fin 512 := ⟨(j 1).val, by omega⟩
  have hr : 0 + r.val = (j 1).val := Nat.zero_add _
  exact (read2 m c t (ix2 (j 0) r) (ix2 (tok (blk t) (j 0)) r) rfl rfl).trans (Cert.PremixReferenceIdeal.Premix.cat0 (x2 := (m ((c : Thread nD τ).loc main_arg2))) (x3 := (m ((c : Thread nD τ).loc main_arg3))) (x4 := (m ((c : Thread nD τ).loc main_arg4))) (x5 := (m ((c : Thread nD τ).loc main_arg5))) (x6 := (m ((c : Thread nD τ).loc main_arg6))) (x7 := (m ((c : Thread nD τ).loc main_arg7))) (x8 := (m ((c : Thread nD τ).loc main_arg8))) i r hr).symm

variable {N : Mix} {X : Fin 2048 → Fin 1024 → ℝ} {D : Fin 2048 → Fin 3200 → ℝ}
  (R : Reals N X D (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

include R in
/-- The rows of a block. -/
theorem rows_x (t : Fin cfg0.N) (j : S512x1024.Idx) : iblk m c 1 t j = ((X (tok (blk t) (j 0)) (j 1) : ℝ) : EReal) := by
  let k : S2048x1024.Idx := ix2 (tok (blk t) (j 0)) (j 1)
  exact (read1 m c t j k rfl rfl).trans (R.r1 k)

include R in
/-- The rows of the projection's cotangent. -/
theorem rows_d (t : Fin cfg0.N) (j : S512x3200.Idx) : beside (iblk m c 2 t) (iblk m c 3 t) (iblk m c 4 t) (iblk m c 5 t) (iblk m c 6 t) (iblk m c 7 t) (iblk m c 8 t) j = ((D (tok (blk t) (j 0)) (j 1) : ℝ) : EReal) := by
  let k : Cert.PremixReferenceIdeal.S2048x3200.Idx := ix2 (tok (blk t) (j 0)) (j 1)
  exact (beside_eq m c t j k rfl rfl).trans (R.rd k)

include R in
/-- The projection's weights. -/
theorem rows_w (t : Fin cfg0.N) (j : S3200x1024.Idx) : iblk m c 9 t j = ((N.w (j 0) (j 1) : ℝ) : EReal) := (read9 m c t j j rfl rfl).trans (R.r9 j)

include R in
/-- The norm's weights. -/
theorem rows_g (t : Fin cfg0.N) (j : S1x1024.Idx) : iblk m c 10 t j = ((N.g (j 1) : ℝ) : EReal) := (read10 m c t j j rfl rfl).trans (R.r10 j)

include R in
/-- A point reads its block of tokens and all the weights. -/
theorem reads (t : Fin cfg0.N) : Reads N (fun p => X (tok (blk t) p)) (fun p => D (tok (blk t) p)) (iblk m c 1 t) (beside (iblk m c 2 t) (iblk m c 3 t) (iblk m c 4 t) (iblk m c 5 t) (iblk m c 6 t) (iblk m c 7 t) (iblk m c 8 t)) (iblk m c 9 t) (iblk m c 10 t) where
  e1 := funext (rows_x m c R t)
  ed := funext (rows_d m c R t)
  e9 := funext (rows_w m c R t)
  e10 := funext (rows_g m c R t)

/-- A block's rows of the first result. -/
def rowsOut (V : S2048x1024.Idx → EReal) (N : Mix) (X : Fin 2048 → Fin 1024 → ℝ) (D : Fin 2048 → Fin 3200 → ℝ) (b : Fin 4) : Vec Ideal S512x1024 .f32 := fun j =>
  V (ix2 (tok b (j 0)) (j 1)) + ((N.dx (X (tok b (j 0))) (D (tok b (j 0))) (j 1) : ℝ) : EReal)

/-- The gradient of the norm's weight when the blocks up to `b` are done. -/
def sumOut (N : Mix) (X : Fin 2048 → Fin 1024 → ℝ) (D : Fin 2048 → Fin 3200 → ℝ) (n : ℕ) : Vec Ideal S1x1024 .f32 :=
  R2 (m := 1) (n := 1024) fun _ j => upto (fun p => N.dg (X p) (D p) j) n

include R in
/-- The block's rows a point leaves. -/
theorem dxb_eq (t : Fin cfg0.N) : dxb (iblk m c 0 t) (iblk m c 1 t) (iblk m c 2 t) (iblk m c 3 t) (iblk m c 4 t) (iblk m c 5 t) (iblk m c 6 t) (iblk m c 7 t) (iblk m c 8 t) (iblk m c 9 t) (iblk m c 10 t) = rowsOut (m ((c : Thread nD τ).loc main_arg0)) N X D (blk t) := by
  funext j
  have h := dx_eq (reads m c R t)
  have e0 := read0 m c t j (ix2 (tok (blk t) (j 0)) (j 1)) rfl rfl
  exact congrArg₂ (fun a b : EReal => a + b) e0 (congrFun h j)

include R in
/-- The gradient of the norm's weight a point leaves. -/
theorem dgb_eq (t : Fin cfg0.N) : dgb (iblk m c 1 t) (iblk m c 2 t) (iblk m c 3 t) (iblk m c 4 t) (iblk m c 5 t) (iblk m c 6 t) (iblk m c 7 t) (iblk m c 8 t) (iblk m c 9 t) (sumOut N X D t.val) = sumOut N X D (t.val + 1) := by
  refine (dg_eq (reads m c R t) (fun j => upto (fun p => N.dg (X p) (D p) j) t.val)).trans ?_
  exact congrArg (fun f : Fin 1 → Fin 1024 → ℝ => R2 f) (funext fun _ => funext fun j => (upto_succ (fun p => N.dg (X p) (D p) j) (blk t)).symm)

theorem start_eq : k0_pay2 (F := Ideal) = sumOut N X D 0 :=
  start.trans (congrArg (fun f : Fin 1 → Fin 1024 → ℝ => R2 f) (funext fun _ => funext fun _ => (upto_zero _).symm))

include R in
/-- What each point leaves. -/
theorem outs (n : ℕ) : ∀ hn : n < cfg0.N, outsAt0 m c n hn = (rowsOut (m ((c : Thread nD τ).loc main_arg0)) N X D (blk ⟨n, hn⟩), sumOut N X D (n + 1)) := by
  induction n with
  | zero =>
    intro hn
    refine (outs_A m c ⟨0, hn⟩ rfl).trans ?_
    rw [start_eq (N := N) (X := X) (D := D), dxb_eq m c R ⟨0, hn⟩]
    exact congrArg (fun q => (rowsOut (m ((c : Thread nD τ).loc main_arg0)) N X D (blk ⟨0, hn⟩), q)) (dgb_eq m c R ⟨0, hn⟩)
  | succ n ih =>
    intro hn
    have h4 : n + 1 < 4 := (blk ⟨n + 1, hn⟩).isLt
    have hp := ih (Nat.lt_of_succ_lt hn)
    refine (outs_B m c ⟨n + 1, hn⟩ (by show ¬(n + 1) % 4 = 0; omega) (sumOut N X D (n + 1)) (congrArg (fun o => o.2) hp)).trans ?_
    rw [dxb_eq m c R ⟨n + 1, hn⟩]
    exact congrArg (fun q => (rowsOut (m ((c : Thread nD τ).loc main_arg0)) N X D (blk ⟨n + 1, hn⟩), q)) (dgb_eq m c R ⟨n + 1, hn⟩)

include R in
/-- The first result's array. -/
theorem array11 (i : S2048x1024.Idx) : (dats m 0 c).arrAt 11 cfg0.N i
    = (show S2048x1024.Idx → EReal from m ((c : Thread nD τ).loc main_arg0)) i + ((N.dx (X (i 0)) (D (i 0)) (i 1) : ℝ) : EReal) := by
  have i0 : (i 0).val < 2048 := (i 0).isLt
  have hN : (i 0).val / 512 < cfg0.N := lt_of_lt_of_eq (by omega) (by decide +kernel : (4 : ℕ) = grid0.N)
  let t : Fin cfg0.N := ⟨(i 0).val / 512, hN⟩
  let q : Fin 512 := ⟨(i 0).val % 512, by omega⟩
  let j : S512x1024.Idx := ix2 q (i 1)
  have hq : (i 0).val = 512 * t.val + q.val := by show _ = 512 * ((i 0).val / 512) + (i 0).val % 512; omega
  refine (place11 t ((dats m 0 c).arrAt 11 cfg0.N) j i hq rfl).symm.trans ?_
  rw [blocks11 m c t (flush0_11 t), flushed11]
  refine (whole11 t _ j).trans ?_
  rw [outs m c R t.val t.isLt]
  have e : tok (blk t) q = i 0 := Fin.ext hq.symm
  refine (congrArg (fun p : Fin 2048 => (show S2048x1024.Idx → EReal from m ((c : Thread nD τ).loc main_arg0)) (ix2 p (i 1)) + ((N.dx (X p) (D p) (i 1) : ℝ) : EReal)) e).trans ?_
  exact congrArg (fun k : S2048x1024.Idx => (show S2048x1024.Idx → EReal from m ((c : Thread nD τ).loc main_arg0)) k + ((N.dx (X (i 0)) (D (i 0)) (i 1) : ℝ) : EReal)) (eq_ix2 i).symm

/-- The second result is written back once. -/
theorem once12 : ∀ t t' : Fin cfg0.N, (cfg0.win 12).flush t = true → (cfg0.win 12).flush t' = true → t ≠ t' →
    Disjoint ((cfg0.win 12).blk t).view.set ((cfg0.win 12).blk t').view.set := by
  intro t t' h h' hne
  have a := (flush0_12 t).mp h
  have a' := (flush0_12 t').mp h'
  have b : t.val < 4 := (blk t).isLt
  have b' : t'.val < 4 := (blk t').isLt
  exact absurd (Fin.ext (by omega)) hne

include R in
/-- The second result's array. -/
theorem array12 (i : S1x1024.Idx) : (dats m 0 c).arrAt 12 cfg0.N i = ((∑ p, N.dg (X p) (D p) (i 1) : ℝ) : EReal) := by
  have hN : 3 < cfg0.N := lt_of_lt_of_eq (by omega) (by decide +kernel : (4 : ℕ) = grid0.N)
  let t : Fin cfg0.N := ⟨3, hN⟩
  refine (place12 t ((dats m 0 c).arrAt 12 cfg0.N) i i rfl rfl).symm.trans ?_
  rw [(dats m 0 c).read_blk_arrAt_eq_flushed 12 once12 cfg0.N t t.isLt ((flush0_12 t).mpr rfl), flushed12]
  refine (whole12 t _ i).trans ?_
  rw [outs m c R t.val t.isLt]
  exact congrArg (fun v : ℝ => (v : EReal)) (upto_all _)

include R in
/-- The first result is the reference's. -/
theorem eq11 : Cert.PremixReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = (dats m 0 c).arrAt 11 cfg0.N :=
  funext fun i => (Cert.PremixReferenceIdeal.Premix.v40 R i).trans (array11 m c R i).symm

include R in
/-- The second result is the reference's. -/
theorem eq12 : Cert.PremixReferenceIdeal.Read.val_main_v23 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = (dats m 0 c).arrAt 12 cfg0.N :=
  funext fun i => (Cert.PremixReferenceIdeal.Premix.v23 R i).trans (array12 m c R i).symm

end Cert.PremixKernelIdeal.Premix

end
-- ==== Proof.PremixPre.lean ====
/-
  THE PRECONDITION OF THE BACKWARD OF THE NORM AND THE PROJECTION, READ: every element of the arguments it names is a real.
-/
module

public import proofs.«01_k».proof.Pre_premix_finite
public import proofs.«01_k».proof.Proof.Pre
public import proofs.«01_k».proof.Proof.PremixRef

@[expose] public section

noncomputable section

namespace Cert.Pre_premix_finite.Premix

open Cert.Pre_premix_finite Idealize.ShloMosaic

/-- The side conditions of the precondition's operations. -/
theorem facts : Cert.Pre_premix_finite.Facts := ⟨by decide, by decide, by decide, by decide, by decide⟩

/-- Arguments that satisfy the precondition are reals, the rows handed in apart. -/
theorem reals [Cert.Pre_premix_finite.Facts] (x0 x1 : S2048x1024.Idx → EReal) (x2 x3 x4 : S2048x512.Idx → EReal) (x5 : S2048x128.Idx → EReal)
    (x6 x7 x8 : S2048x512.Idx → EReal) (x9 : S3200x1024.Idx → EReal) (x10 : S1x1024.Idx → EReal)
    (q1 : (fn (F := Ideal) x0 x1 x2 x3 x4 x5 x6 x7 x8 x9 x10).1 = fun _ => 1#1)
    (q2 : (fn (F := Ideal) x0 x1 x2 x3 x4 x5 x6 x7 x8 x9 x10).2.1 = fun _ => 1#1)
    (q3 : (fn (F := Ideal) x0 x1 x2 x3 x4 x5 x6 x7 x8 x9 x10).2.2.1 = fun _ => 1#1)
    (q4 : (fn (F := Ideal) x0 x1 x2 x3 x4 x5 x6 x7 x8 x9 x10).2.2.2.1 = fun _ => 1#1)
    (q5 : (fn (F := Ideal) x0 x1 x2 x3 x4 x5 x6 x7 x8 x9 x10).2.2.2.2.1 = fun _ => 1#1)
    (q6 : (fn (F := Ideal) x0 x1 x2 x3 x4 x5 x6 x7 x8 x9 x10).2.2.2.2.2.1 = fun _ => 1#1)
    (q7 : (fn (F := Ideal) x0 x1 x2 x3 x4 x5 x6 x7 x8 x9 x10).2.2.2.2.2.2.1 = fun _ => 1#1)
    (q8 : (fn (F := Ideal) x0 x1 x2 x3 x4 x5 x6 x7 x8 x9 x10).2.2.2.2.2.2.2.1 = fun _ => 1#1)
    (q9 : (fn (F := Ideal) x0 x1 x2 x3 x4 x5 x6 x7 x8 x9 x10).2.2.2.2.2.2.2.2.1 = fun _ => 1#1)
    (q10 : (fn (F := Ideal) x0 x1 x2 x3 x4 x5 x6 x7 x8 x9 x10).2.2.2.2.2.2.2.2.2 = fun _ => 1#1) :
    Cert.PremixReferenceIdeal.Premix.AllReal x1 x2 x3 x4 x5 x6 x7 x8 x9 x10 where
  p1 i := Cert.Pre_finite.Fox.elem_f32 x1 _ i (congrFun q1 i)
  p2 i := Cert.Pre_finite.Fox.elem_bf16 x2 _ i (congrFun q2 i)
  p3 i := Cert.Pre_finite.Fox.elem_bf16 x3 _ i (congrFun q3 i)
  p4 i := Cert.Pre_finite.Fox.elem_bf16 x4 _ i (congrFun q4 i)
  p5 i := Cert.Pre_finite.Fox.elem_bf16 x5 _ i (congrFun q5 i)
  p6 i := Cert.Pre_finite.Fox.elem_bf16 x6 _ i (congrFun q6 i)
  p7 i := Cert.Pre_finite.Fox.elem_bf16 x7 _ i (congrFun q7 i)
  p8 i := Cert.Pre_finite.Fox.elem_bf16 x8 _ i (congrFun q8 i)
  p9 i := Cert.Pre_finite.Fox.elem_bf16 x9 _ i (congrFun q9 i)
  p10 i := Cert.Pre_finite.Fox.elem_f32 x10 _ i (congrFun q10 i)

end Cert.Pre_premix_finite.Premix

end
-- ==== Proof.SmallLaws.lean ====
/-
  THE UPDATE OF THE SMALL WEIGHTS, IN GENERAL: the formulas of the update; the array of 24 rows that holds every device's gradients and
  losses; what a load of a block, or of a part of the summed array, reads.
-/
module

public import proofs.«01_k».proof.Proof.Gen.SmallKernelIdeal
public import proofs.«01_k».proof.Proof.Gen.SmallKernelIdeal.Skeleton
public import Idealize.ShloMosaic.Lib.WholeRead
public import Idealize.ShloMosaic.Lib.WritesUnit
public import Idealize.ShloMosaic.Lib.VecWindow
public import Idealize.ShloMosaic.Lib.ValueIdx
public import Idealize.ShloMosaic.Lib.Pipeline.Value
public import Idealize.ShloMosaic.PureOps.Ideal.Laws

@[expose] public section

noncomputable section

namespace Adam

open Cert.SmallKernelIdeal Cert.SmallKernelIdeal.Gen Idealize.ShloMosaic Idealize.ShloMosaic.ValueIdx
open scoped BigOperators

/-- The first moment after a step. -/
def mom (g m : EReal) : EReal := Ideal.ofBits .f32 0x3F666666#32 * m + Ideal.ofBits .f32 0x3DCCCCCD#32 * g

/-- The second moment after a step. -/
def var (g v : EReal) : EReal := Ideal.ofBits .f32 0x3F7FBE77#32 * v + Ideal.ofBits .f32 0x3A83126F#32 * (g * g)

/-- The change of the weight. -/
def step (g w m v : EReal) : EReal :=
  Ideal.ofBits .f32 0xBA83126F#32 * (FloatOps.hostDivf (F := Ideal) (φ := .f32) (FloatOps.hostDivf (F := Ideal) (φ := .f32) (mom g m) (Ideal.ofBits .f32 0x3F26BD02#32))
    (FloatOps.hostUnary (F := Ideal) (φ := .f32) .sqrt (FloatOps.hostDivf (F := Ideal) (φ := .f32) (var g v) (Ideal.ofBits .f32 0x3C231ACC#32)) + Ideal.ofBits .f32 0x322BCC77#32)
    + Ideal.ofBits .f32 0x3C23D70A#32 * w)

/-- The sum over the devices. -/
def total (x : S8x24x1024.Idx → EReal) (k : S24x1024.Idx) : EReal := ∑ p : Fin 8, x (ix3 p (k 0) (k 1))

section loads

variable {sig : RefSig} {κ : Kind} {sp : Space}

/-- A load of a whole block is the block. -/
theorem load_block {S : Shape} {e : EltTy} (a : Memref sig κ sp S e) (h : a.IsWhole) (x : S.Idx → Elt Ideal e) (off : Fin S.rank → ℕ)
    (h0 : ∀ b, off b = 0) (inb : ∀ b, off b + S.size b ≤ S.size b) :
    View.readAt (Elt Ideal) a.view (Rect.unit (s := S) off S.size inb).toLoadRect (h.unread x) = x := by
  funext j
  refine (congrFun (h.read_unread (Val := Elt Ideal) x) _).trans (congrArg x (funext fun b => Fin.ext ?_))
  show off b + 1 * (j b).val = (j b).val
  rw [h0 b]; omega

/-- After a store of a whole block the block is what was stored. -/
theorem store_block {S : Shape} {e : EltTy} (v : View sig κ sp S e) (f : v.ty.Contents (Elt Ideal)) {off : Fin S.rank → ℕ}
    (h0 : ∀ b, off b = 0) (inb : ∀ b, off b + S.size b ≤ S.size b) (w : S.Idx → Elt Ideal e) (L : List (View.Piece (Elt Ideal) S e)) :
    v.read (Elt Ideal) (v.writes (Elt Ideal) f (⟨Rect.unit (s := S) off S.size inb, w⟩ :: L)) = w := by
  funext x
  exact View.read_writes_cons_unit_of_mem v f inb w L x x rfl fun b => by rw [h0 b, Nat.zero_add]

/-- A store at the start has offset zero on each axis. -/
theorem start : ∀ b : Fin 2, (![0, 0] : Fin 2 → ℕ) b = 0 := by decide

/-- A load of a part of the summed array, after the whole was stored, reads the part. -/
theorem load_part (v : View sig κ sp S24x1024 .f32) (inb : ∀ b, (![0, 0] : Fin 2 → ℕ) b + (![24, 1024] : Fin 2 → ℕ) b ≤ (![24, 1024] : Fin 2 → ℕ) b) (w : S24x1024.Idx → Elt Ideal .f32) (R : LoadRect S24x1024) :
    v.readCov (Val := Elt Ideal) [⟨Rect.unit (s := S24x1024) ![0, 0] ![24, 1024] inb, w⟩] R = fun i => w (R.idx i) :=
  funext fun i => congrFun (store_block v v.junk start inb w []) (R.idx i)

/-- One device's slab of the array. -/
def slab (a : Memref sig κ sp S8x24x1024 .f32) (h : a.IsWhole) (x : Vec Ideal S8x24x1024 .f32) (p : ℕ)
    (inb : ∀ b, (![p, 0, 0] : Fin 3 → ℕ) b + S1x24x1024.size b ≤ S8x24x1024.size b) (k : S24x1024.Idx) : EReal :=
  shapeCast S24x1024 (View.readAt (Elt Ideal) a.view (Rect.unit (s := S8x24x1024) ![p, 0, 0] S1x24x1024.size inb).toLoadRect (h.unread x)) shapeCasts_S1x24x1024_S24x1024 k

theorem slab_eq (a : Memref sig κ sp S8x24x1024 .f32) (h : a.IsWhole) (x : Vec Ideal S8x24x1024 .f32) (p : Fin 8)
    (inb : ∀ b, (![p.val, 0, 0] : Fin 3 → ℕ) b + S1x24x1024.size b ≤ S8x24x1024.size b) (k : S24x1024.Idx) : slab a h x p.val inb k = x (ix3 p (k 0) (k 1)) := by
  unfold slab
  refine (shapeCast_apply _ shapeCasts_S1x24x1024_S24x1024 k (ix3 (0 : Fin 1) (k 0) (k 1)) ?_).trans ?_
  · rewrite [Shape.rowMajor_val_two, Shape.rowMajor_val_three]
    show (0 * 24 + (k 0).val) * 1024 + (k 1).val = (k 0).val * 1024 + (k 1).val
    omega
  · refine (congrFun (h.read_unread (Val := Elt Ideal) x) _).trans (congrArg x (funext fun b => ?_))
    match b with
    | ⟨0, _⟩ => exact Fin.ext (by show p.val + 1 * 0 = p.val; omega)
    | ⟨1, _⟩ => exact Fin.ext (by show 0 + 1 * (k 0).val = (k 0).val; omega)
    | ⟨2, _⟩ => exact Fin.ext (by show 0 + 1 * (k 1).val = (k 1).val; omega)

theorem slab_in (p : Fin 8) : ∀ b : Fin 3, (![p.val, 0, 0] : Fin 3 → ℕ) b + S1x24x1024.size b ≤ S8x24x1024.size b := by revert p; decide

/-- The slabs added one after the other are the sum over the devices. -/
theorem slabs (a : Memref sig κ sp S8x24x1024 .f32) (h : a.IsWhole) (x : Vec Ideal S8x24x1024 .f32) (k : S24x1024.Idx) :
    slab a h x 0 (slab_in 0) k + slab a h x 1 (slab_in 1) k + slab a h x 2 (slab_in 2) k + slab a h x 3 (slab_in 3) k + slab a h x 4 (slab_in 4) k
      + slab a h x 5 (slab_in 5) k + slab a h x 6 (slab_in 6) k + slab a h x 7 (slab_in 7) k = total x k := by
  unfold total
  rw [Fin.sum_univ_eight]
  exact congrArg₂ (· + ·) (congrArg₂ (· + ·) (congrArg₂ (· + ·) (congrArg₂ (· + ·) (congrArg₂ (· + ·) (congrArg₂ (· + ·) (congrArg₂ (· + ·) (slab_eq a h x 0 _ k) (slab_eq a h x 1 _ k))
    (slab_eq a h x 2 _ k)) (slab_eq a h x 3 _ k)) (slab_eq a h x 4 _ k)) (slab_eq a h x 5 _ k)) (slab_eq a h x 6 _ k)) (slab_eq a h x 7 _ k)

/-- A load of a whole block of two axes is the block. -/
theorem load_two {d0 d1 : ℕ} {e : EltTy} (a : Memref sig κ sp ⟨2, ![d0, d1]⟩ e) (h : a.IsWhole) (x : Shape.Idx ⟨2, ![d0, d1]⟩ → Elt Ideal e)
    (inb : ∀ b, (![0, 0] : Fin 2 → ℕ) b + (![d0, d1] : Fin 2 → ℕ) b ≤ (![d0, d1] : Fin 2 → ℕ) b) :
    View.readAt (Elt Ideal) a.view (Rect.unit (s := ⟨2, ![d0, d1]⟩) ![0, 0] ![d0, d1] inb).toLoadRect (h.unread x) = x := load_block a h x ![0, 0] start inb

/-- The sum that the body keeps. -/
theorem summed (b : Memref sig κ sp S8x24x1024 .f32) (h : b.IsWhole) (x : Vec Ideal S8x24x1024 .f32) :
    k0_pay1 (F := Ideal) (View.readAt (Elt Ideal) b.view (Rect.unit (s := S8x24x1024) ![0, 0, 0] ![1, 24, 1024] inb_S8x24x1024_S1x24x1024_0_0_0).toLoadRect (h.unread x))
      (View.readAt (Elt Ideal) b.view (Rect.unit (s := S8x24x1024) ![1, 0, 0] ![1, 24, 1024] inb_S8x24x1024_S1x24x1024_1_0_0).toLoadRect (h.unread x))
      (View.readAt (Elt Ideal) b.view (Rect.unit (s := S8x24x1024) ![2, 0, 0] ![1, 24, 1024] inb_S8x24x1024_S1x24x1024_2_0_0).toLoadRect (h.unread x))
      (View.readAt (Elt Ideal) b.view (Rect.unit (s := S8x24x1024) ![3, 0, 0] ![1, 24, 1024] inb_S8x24x1024_S1x24x1024_3_0_0).toLoadRect (h.unread x))
      (View.readAt (Elt Ideal) b.view (Rect.unit (s := S8x24x1024) ![4, 0, 0] ![1, 24, 1024] inb_S8x24x1024_S1x24x1024_4_0_0).toLoadRect (h.unread x))
      (View.readAt (Elt Ideal) b.view (Rect.unit (s := S8x24x1024) ![5, 0, 0] ![1, 24, 1024] inb_S8x24x1024_S1x24x1024_5_0_0).toLoadRect (h.unread x))
      (View.readAt (Elt Ideal) b.view (Rect.unit (s := S8x24x1024) ![6, 0, 0] ![1, 24, 1024] inb_S8x24x1024_S1x24x1024_6_0_0).toLoadRect (h.unread x))
      (View.readAt (Elt Ideal) b.view (Rect.unit (s := S8x24x1024) ![7, 0, 0] ![1, 24, 1024] inb_S8x24x1024_S1x24x1024_7_0_0).toLoadRect (h.unread x))
      = total x := by
  funext k
  unfold k0_pay1
  rw [shapeCast_self]
  exact slabs b h x k

/-- A sum over the devices that starts from zero. -/
theorem total_eq {x : S8x24x1024.Idx → EReal} {k : S24x1024.Idx} {y : Fin 8 → EReal} (h : ∀ p, x (ix3 p (k 0) (k 1)) = y p) :
    total x k = Ideal.ofBits .f32 0x00000000#32 + ∑ p, y p := by
  rw [Ideal.ofBits_zero_f32, zero_add]
  exact Finset.sum_congr rfl fun p _ => h p

end loads

/-- A block at the start of its array. -/
theorem lone (a n j : ℕ) (h : a = 0) : a * n + 1 * j = j := by rw [h, Nat.zero_mul, Nat.zero_add, Nat.one_mul]

/-- From a block at the start of its array to the array: what was written to the block is what the array holds. -/
theorem through {S : Shape} {α : Type} {A y w z : S.Idx → α} {f : S.Idx → S.Idx} (hf : ∀ i b, (f i b).val = (i b).val)
    (h : (fun i => A (f i)) = y) (hw : y = w) (hz : ∀ i, w i = z i) : A = z :=
  funext fun i => ((congrArg A (funext fun b => Fin.ext (hf i b))).symm.trans (congrFun (h.trans hw) i)).trans (hz i)

/-- The zero that pads. -/
abbrev nil : S_.Idx → EReal := constant (F := Ideal) S_ .f32 0x00000000#32

/-- Two pieces side by side: gradients and the zeros behind them. -/
def two1 (x : S8x1x8.Idx → EReal) : List ((s : Shape) × (s.Idx → EReal)) := [⟨S8x1x8, x⟩, ⟨S8x1x1016, broadcastInDim S8x1x1016 ![] bcast_S_S8x1x1016 nil⟩]
def two2 (x : S8x8x257.Idx → EReal) : List ((s : Shape) × (s.Idx → EReal)) := [⟨S8x8x257, x⟩, ⟨S8x8x767, broadcastInDim S8x8x767 ![] bcast_S_S8x8x767 nil⟩]
def two0 (x : S8x1x128.Idx → EReal) : List ((s : Shape) × (s.Idx → EReal)) := [⟨S8x1x128, x⟩, ⟨S8x1x896, broadcastInDim S8x1x896 ![] bcast_S_S8x1x896 nil⟩]

def wide1 (x : S8x1x8.Idx → EReal) : S8x1x1024.Idx → EReal := concatenate S8x1x1024 2 (two1 x) concatenates_S8x1x8_S8x1x1016_S8x1x1024_d2
def wide2 (x : S8x8x257.Idx → EReal) : S8x8x1024.Idx → EReal := concatenate S8x8x1024 2 (two2 x) concatenates_S8x8x257_S8x8x767_S8x8x1024_d2
def wide0 (x : S8x1x128.Idx → EReal) : S8x1x1024.Idx → EReal := concatenate S8x1x1024 2 (two0 x) concatenates_S8x1x128_S8x1x896_S8x1x1024_d2

/-- The pieces of the array of gradients. -/
def pieces (x0 : S8x1x128.Idx → EReal) (x1 : S8x1x8.Idx → EReal) (x2 : S8x8x257.Idx → EReal) (x3 : S8x2x512.Idx → EReal) (x4 : S8x7x1024.Idx → EReal) :
    List ((s : Shape) × (s.Idx → EReal)) :=
  [⟨S8x8x1024, wide2 x2⟩, ⟨S8x1x1024, wide1 x1⟩, ⟨S8x1x1024, shapeCast S8x1x1024 x3 shapeCasts_S8x2x512_S8x1x1024⟩, ⟨S8x7x1024, x4⟩, ⟨S8x1x1024, wide0 x0⟩,
    ⟨S8x6x1024, broadcastInDim S8x6x1024 ![] bcast_S_S8x6x1024 nil⟩]

variable (x0 : S8x1x128.Idx → EReal) (x1 : S8x1x8.Idx → EReal) (x2 : S8x8x257.Idx → EReal) (x3 : S8x2x512.Idx → EReal) (x4 : S8x7x1024.Idx → EReal)

theorem pieces_fit : Shape.Concatenates ((pieces x0 x1 x2 x3 x4).map (·.1)) S8x24x1024 1 :=
  concatenates_S8x8x1024_S8x1x1024_S8x1x1024_S8x7x1024_S8x1x1024_S8x6x1024_S8x24x1024_d1

/-- The array of gradients. -/
def packed : S8x24x1024.Idx → EReal := concatenate S8x24x1024 1 (pieces x0 x1 x2 x3 x4) (pieces_fit x0 x1 x2 x3 x4)

variable (k : S8x24x1024.Idx)

/-- Rows 0 to 7: argument 2. -/
theorem packed_rel (f : S8x8x257.Idx) (h0 : (f 0).val = (k 0).val) (h1 : 0 + (f 1).val = (k 1).val) (h2 : (f 2).val = (k 2).val) : packed x0 x1 x2 x3 x4 k = x2 f := by
  have k2 : (k 2).val < 1024 := (k 2).isLt
  refine (concatenate_apply_piece 1 (pieces x0 x1 x2 x3 x4) (pieces_fit x0 x1 x2 x3 x4) k 0 (show 0 < 6 by decide) S8x8x1024 _ rfl rfl 0 rfl
    (ix3 (f 0) (f 1) (⟨(k 2).val, k2⟩ : Fin 1024)) (fun b => match b with | ⟨0, _⟩ => fun _ => h0 | ⟨1, _⟩ => fun hb => absurd rfl hb | ⟨2, _⟩ => fun _ => rfl) h1).trans ?_
  exact concatenate_apply_piece 2 (two2 x2) _ (ix3 (f 0) (f 1) (⟨(k 2).val, k2⟩ : Fin 1024)) 0 (show 0 < 2 by decide) S8x8x257 _ rfl rfl 0 rfl f
    (fun b => match b with | ⟨0, _⟩ => fun _ => rfl | ⟨1, _⟩ => fun _ => rfl | ⟨2, _⟩ => fun hb => absurd rfl hb) ((Nat.zero_add _).trans h2)

/-- Row 8: argument 1. -/
theorem packed_fgt (f : S8x1x8.Idx) (h0 : (f 0).val = (k 0).val) (h1 : 8 + (f 1).val = (k 1).val) (h2 : (f 2).val = (k 2).val) : packed x0 x1 x2 x3 x4 k = x1 f := by
  have k2 : (k 2).val < 1024 := (k 2).isLt
  refine (concatenate_apply_piece 1 (pieces x0 x1 x2 x3 x4) (pieces_fit x0 x1 x2 x3 x4) k 1 (show 1 < 6 by decide) S8x1x1024 _ rfl rfl 8 rfl
    (ix3 (f 0) (f 1) (⟨(k 2).val, k2⟩ : Fin 1024)) (fun b => match b with | ⟨0, _⟩ => fun _ => h0 | ⟨1, _⟩ => fun hb => absurd rfl hb | ⟨2, _⟩ => fun _ => rfl) h1).trans ?_
  exact concatenate_apply_piece 2 (two1 x1) _ (ix3 (f 0) (f 1) (⟨(k 2).val, k2⟩ : Fin 1024)) 0 (show 0 < 2 by decide) S8x1x8 _ rfl rfl 0 rfl f
    (fun b => match b with | ⟨0, _⟩ => fun _ => rfl | ⟨1, _⟩ => fun _ => rfl | ⟨2, _⟩ => fun hb => absurd rfl hb) ((Nat.zero_add _).trans h2)

/-- Row 9: the two rows of argument 3, one behind the other. -/
theorem packed_outs (f : S8x2x512.Idx) (h0 : (f 0).val = (k 0).val) (h1 : (k 1).val = 9) (h2 : (k 2).val = 512 * (f 1).val + (f 2).val) : packed x0 x1 x2 x3 x4 k = x3 f := by
  have k2 : (k 2).val < 1024 := (k 2).isLt
  refine (concatenate_apply_piece 1 (pieces x0 x1 x2 x3 x4) (pieces_fit x0 x1 x2 x3 x4) k 2 (show 2 < 6 by decide) S8x1x1024 _ rfl rfl 9 rfl
    (ix3 (f 0) (0 : Fin 1) (⟨(k 2).val, k2⟩ : Fin 1024)) (fun b => match b with | ⟨0, _⟩ => fun _ => h0 | ⟨1, _⟩ => fun hb => absurd rfl hb | ⟨2, _⟩ => fun _ => rfl) h1.symm).trans ?_
  refine shapeCast_apply _ shapeCasts_S8x2x512_S8x1x1024 _ f ?_
  rewrite [Shape.rowMajor_val_three, Shape.rowMajor_val_three]
  show ((f 0).val * 2 + (f 1).val) * 512 + (f 2).val = ((f 0).val * 1 + 0) * 1024 + (k 2).val
  omega

/-- Rows 10 to 16: argument 4. -/
theorem packed_rows (f : S8x7x1024.Idx) (h0 : (f 0).val = (k 0).val) (h1 : 10 + (f 1).val = (k 1).val) (h2 : (f 2).val = (k 2).val) : packed x0 x1 x2 x3 x4 k = x4 f := by
  have k2 : (k 2).val < 1024 := (k 2).isLt
  refine (concatenate_apply_piece 1 (pieces x0 x1 x2 x3 x4) (pieces_fit x0 x1 x2 x3 x4) k 3 (show 3 < 6 by decide) S8x7x1024 _ rfl rfl 10 rfl
    f (fun b => match b with | ⟨0, _⟩ => fun _ => h0 | ⟨1, _⟩ => fun hb => absurd rfl hb | ⟨2, _⟩ => fun _ => h2) h1).trans ?_
  rfl

/-- Row 17: the losses. -/
theorem packed_loss (f : S8x1x128.Idx) (h0 : (f 0).val = (k 0).val) (h1 : 17 + (f 1).val = (k 1).val) (h2 : (f 2).val = (k 2).val) : packed x0 x1 x2 x3 x4 k = x0 f := by
  have k2 : (k 2).val < 1024 := (k 2).isLt
  refine (concatenate_apply_piece 1 (pieces x0 x1 x2 x3 x4) (pieces_fit x0 x1 x2 x3 x4) k 4 (show 4 < 6 by decide) S8x1x1024 _ rfl rfl 17 rfl
    (ix3 (f 0) (f 1) (⟨(k 2).val, k2⟩ : Fin 1024)) (fun b => match b with | ⟨0, _⟩ => fun _ => h0 | ⟨1, _⟩ => fun hb => absurd rfl hb | ⟨2, _⟩ => fun _ => rfl) h1).trans ?_
  exact concatenate_apply_piece 2 (two0 x0) _ (ix3 (f 0) (f 1) (⟨(k 2).val, k2⟩ : Fin 1024)) 0 (show 0 < 2 by decide) S8x1x128 _ rfl rfl 0 rfl f
    (fun b => match b with | ⟨0, _⟩ => fun _ => rfl | ⟨1, _⟩ => fun _ => rfl | ⟨2, _⟩ => fun hb => absurd rfl hb) ((Nat.zero_add _).trans h2)

end Adam

end
-- ==== Proof.UpdSmall.lean ====
/-
  THE UPDATE OF b_fgt, rel_bias, g_fox_out: what the call leaves in each of its results is what the reference computes.
-/
module

public import proofs.«01_k».proof.Proof.SmallLaws
public import proofs.«01_k».proof.Proof.Gen.SmallKernelIdeal.Value
public import proofs.«01_k».proof.Proof.Gen.SmallReferenceIdeal.Read

@[expose] public section

noncomputable section

namespace Cert.SmallKernelIdeal.Upd

open Cert.SmallKernelIdeal Cert.SmallKernelIdeal.Gen Cert.SmallKernelIdeal.Gen.kernelRun0_A Cert.SmallKernelIdeal.Value Idealize.ShloMosaic Idealize.ShloMosaic.ValueIdx Idealize.ShloMosaic.TcCoe Idealize.ShloMosaic.StableHlo
open Cert.SmallReferenceIdeal.Read Adam

variable (m : (ℓ : Loc nD τ sig) → Buf (Elt Ideal) ℓ) (c : Dev nD)

/-- An argument. -/
abbrev a (b : Ref sig .tc) : Buf (Elt Ideal) ((c : Thread nD τ).loc b) := m ((c : Thread nD τ).loc b)

/-- The packed gradients. -/
abbrev P : S8x24x1024.Idx → EReal := packed (a m c main_arg0) (a m c main_arg1) (a m c main_arg2) (a m c main_arg3) (a m c main_arg4)

/-- The host packs the gradients. -/
theorem V_packed : V m c main_v8 = P m c := by
  show after (List.flatten [hostOps0]) (fun b => m (c, b)) main_v8 = _
  simp only [List.flatten_cons, List.flatten_nil, List.append_nil, List.cons_append, List.nil_append]
  after_results_simp
  rfl

/-- The one point of the grid. -/
abbrev t0 : Fin cfg0.N := ⟨0, by decide⟩

/-- Every block is its array. -/
theorem at_zero : ∀ (w : Fin 23) (b : Fin _), (cfg0.win w).index t0 b = 0 := by decide +kernel

theorem block0 : iblk m c 0 t0 = P m c := (funext fun j => congrArg (V m c main_v8) (funext fun b => Fin.ext (lone _ _ _ (at_zero 0 b)))).trans (V_packed m c)
theorem block1 : iblk m c 1 t0 = a m c main_arg5 := (funext fun j => congrArg (V m c main_arg5) (funext fun b => Fin.ext (lone _ _ _ (at_zero 1 b)))).trans (V_main_arg5 m c)
theorem block2 : iblk m c 2 t0 = a m c main_arg6 := (funext fun j => congrArg (V m c main_arg6) (funext fun b => Fin.ext (lone _ _ _ (at_zero 2 b)))).trans (V_main_arg6 m c)
theorem block3 : iblk m c 3 t0 = a m c main_arg7 := (funext fun j => congrArg (V m c main_arg7) (funext fun b => Fin.ext (lone _ _ _ (at_zero 3 b)))).trans (V_main_arg7 m c)
theorem block4 : iblk m c 4 t0 = a m c main_arg8 := (funext fun j => congrArg (V m c main_arg8) (funext fun b => Fin.ext (lone _ _ _ (at_zero 4 b)))).trans (V_main_arg8 m c)
theorem block5 : iblk m c 5 t0 = a m c main_arg9 := (funext fun j => congrArg (V m c main_arg9) (funext fun b => Fin.ext (lone _ _ _ (at_zero 5 b)))).trans (V_main_arg9 m c)
theorem block6 : iblk m c 6 t0 = a m c main_arg10 := (funext fun j => congrArg (V m c main_arg10) (funext fun b => Fin.ext (lone _ _ _ (at_zero 6 b)))).trans (V_main_arg10 m c)
theorem block7 : iblk m c 7 t0 = a m c main_arg11 := (funext fun j => congrArg (V m c main_arg11) (funext fun b => Fin.ext (lone _ _ _ (at_zero 7 b)))).trans (V_main_arg11 m c)
theorem block8 : iblk m c 8 t0 = a m c main_arg12 := (funext fun j => congrArg (V m c main_arg12) (funext fun b => Fin.ext (lone _ _ _ (at_zero 8 b)))).trans (V_main_arg12 m c)
theorem block9 : iblk m c 9 t0 = a m c main_arg13 := (funext fun j => congrArg (V m c main_arg13) (funext fun b => Fin.ext (lone _ _ _ (at_zero 9 b)))).trans (V_main_arg13 m c)

/-- The loss: the sum over the devices. -/
theorem loss (i : S1x128.Idx) : total (P m c) ((Rect.unit (s := S24x1024) ![17, 0] S1x128.size inb_S24x1024_S1x128_17_0).toLoadRect.idx i) = val_main_v9 (F := Ideal) (a m c main_arg0) i := by
  have z : (i 0).val < 1 := (i 0).isLt; refine (total_eq fun p => ?_).trans (val_main_v9_apply (a m c main_arg0) i).symm
  exact (packed_loss _ _ _ _ _ _ (idx_main_v9 i p) rfl (by show 17 + (i 0).val = 17 + 1 * (i 0).val; omega) (by show (i 1).val = 0 + 1 * (i 1).val; omega))

/-- b_fgt: the sum over the devices. -/
theorem grad0 (i : S1x8.Idx) : total (P m c) ((Rect.unit (s := S24x1024) ![8, 0] S1x8.size inb_S24x1024_S1x8_8_0).toLoadRect.idx i) = val_main_v10 (F := Ideal) (a m c main_arg1) i := by
  have z : (i 0).val < 1 := (i 0).isLt; refine (total_eq fun p => ?_).trans (val_main_v10_apply (a m c main_arg1) i).symm
  exact (packed_fgt _ _ _ _ _ _ (idx_main_v10 i p) rfl (by show 8 + (i 0).val = 8 + 1 * (i 0).val; omega) (by show (i 1).val = 0 + 1 * (i 1).val; omega))

/-- rel_bias: the sum over the devices. -/
theorem grad1 (i : S8x257.Idx) : total (P m c) ((Rect.unit (s := S24x1024) ![0, 0] S8x257.size inb_S24x1024_S8x257_0_0).toLoadRect.idx i) = val_main_v35 (F := Ideal) (a m c main_arg2) i := by
  have z : (i 0).val < 8 := (i 0).isLt; refine (total_eq fun p => ?_).trans (val_main_v35_apply (a m c main_arg2) i).symm
  exact (packed_rel _ _ _ _ _ _ (idx_main_v35 i p) rfl (by show 0 + (i 0).val = 0 + 1 * (i 0).val; omega) (by show (i 1).val = 0 + 1 * (i 1).val; omega))

/-- g_fox_out: the sum over the devices. -/
theorem grad2 (i : S1x512.Idx) : total (P m c) ((Rect.unit (s := S24x1024) ![9, 0] S1x512.size inb_S24x1024_S1x512_9_0).toLoadRect.idx i) = val_main_v60 (F := Ideal) (a m c main_arg3) i := by
  have z : (i 0).val < 1 := (i 0).isLt; refine (total_eq fun p => ?_).trans (val_main_v60_apply (a m c main_arg3) i).symm
  exact (packed_outs _ _ _ _ _ _ (idx_main_v0 (idx_main_v60 i p)) rfl (by show 9 + 1 * (i 0).val = 9; omega) (by show 0 + 1 * (i 1).val = 512 * (i 0).val + (i 1).val; omega)).trans (val_main_v0_apply (F := Ideal) (a m c main_arg3) _).symm

/-- What the call leaves in the loss's result. -/
theorem loss_result : (dats m 0 c).arrAt 10 cfg0.N = val_main_v9 (F := Ideal) (a m c main_arg0) := by
  refine through (fun i b => lone _ _ _ (at_zero 10 b)) ((blocks10 m c t0 (flush0_10 t0)).trans (flushed10_A m c t0)) (store_block VO0_10 VO0_10.junk start _ _ _) fun i => ?_
  simp only [sl.r, sl.r_1, sl.r_2, sl.v26, sl.v28, sl.v60, sl.v92, sl.HS0_1, load_part, load_two, summed, block0]
  exact loss m c i

/-- b_fgt: what the call leaves in the results for the gradient, the change, and the two moments. -/
theorem weight0 : (dats m 0 c).arrAt 11 cfg0.N = val_main_v10 (F := Ideal) (a m c main_arg1)
      ∧ (dats m 0 c).arrAt 12 cfg0.N = val_main_v34 (F := Ideal) (a m c main_arg1) (a m c main_arg5) (a m c main_arg8) (a m c main_arg11)
      ∧ (dats m 0 c).arrAt 13 cfg0.N = val_main_v15 (F := Ideal) (a m c main_arg1) (a m c main_arg8)
      ∧ (dats m 0 c).arrAt 14 cfg0.N = val_main_v21 (F := Ideal) (a m c main_arg1) (a m c main_arg11) := by
  refine ⟨through (fun i b => lone _ _ _ (at_zero 11 b)) ((blocks11 m c t0 (flush0_11 t0)).trans (flushed11_A m c t0)) (store_block VO0_11 VO0_11.junk start _ _ _) fun i => ?_,
    through (fun i b => lone _ _ _ (at_zero 12 b)) ((blocks12 m c t0 (flush0_12 t0)).trans (flushed12_A m c t0)) (store_block VO0_12 VO0_12.junk start _ _ _) fun i => ?_,
    through (fun i b => lone _ _ _ (at_zero 13 b)) ((blocks13 m c t0 (flush0_13 t0)).trans (flushed13_A m c t0)) (store_block VO0_13 VO0_13.junk start _ _ _) fun i => ?_,
    through (fun i b => lone _ _ _ (at_zero 14 b)) ((blocks14 m c t0 (flush0_14 t0)).trans (flushed14_A m c t0)) (store_block VO0_14 VO0_14.junk start _ _ _) fun i => ?_⟩ <;>
    simp only [sl.r, sl.r_1, sl.r_2, sl.v26, sl.v28, sl.v60, sl.v92, sl.HS0_1, load_part, load_two, summed, block0, block1, block4, block7]
  · exact grad0 m c i
  · exact congrArg (step · (a m c main_arg5 i) (a m c main_arg8 i) (a m c main_arg11 i)) (grad0 m c i)
  · exact congrArg (mom · (a m c main_arg8 i)) (grad0 m c i)
  · exact congrArg (var · (a m c main_arg11 i)) (grad0 m c i)

/-- rel_bias: what the call leaves in the results for the gradient, the change, and the two moments. -/
theorem weight1 : (dats m 0 c).arrAt 15 cfg0.N = val_main_v35 (F := Ideal) (a m c main_arg2)
      ∧ (dats m 0 c).arrAt 16 cfg0.N = val_main_v59 (F := Ideal) (a m c main_arg2) (a m c main_arg6) (a m c main_arg9) (a m c main_arg12)
      ∧ (dats m 0 c).arrAt 17 cfg0.N = val_main_v40 (F := Ideal) (a m c main_arg2) (a m c main_arg9)
      ∧ (dats m 0 c).arrAt 18 cfg0.N = val_main_v46 (F := Ideal) (a m c main_arg2) (a m c main_arg12) := by
  refine ⟨through (fun i b => lone _ _ _ (at_zero 15 b)) ((blocks15 m c t0 (flush0_15 t0)).trans (flushed15_A m c t0)) (store_block VO0_15 VO0_15.junk start _ _ _) fun i => ?_,
    through (fun i b => lone _ _ _ (at_zero 16 b)) ((blocks16 m c t0 (flush0_16 t0)).trans (flushed16_A m c t0)) (store_block VO0_16 VO0_16.junk start _ _ _) fun i => ?_,
    through (fun i b => lone _ _ _ (at_zero 17 b)) ((blocks17 m c t0 (flush0_17 t0)).trans (flushed17_A m c t0)) (store_block VO0_17 VO0_17.junk start _ _ _) fun i => ?_,
    through (fun i b => lone _ _ _ (at_zero 18 b)) ((blocks18 m c t0 (flush0_18 t0)).trans (flushed18_A m c t0)) (store_block VO0_18 VO0_18.junk start _ _ _) fun i => ?_⟩ <;>
    simp only [sl.r, sl.r_1, sl.r_2, sl.v26, sl.v28, sl.v60, sl.v92, sl.HS0_1, load_part, load_two, summed, block0, block2, block5, block8]
  · exact grad1 m c i
  · exact congrArg (step · (a m c main_arg6 i) (a m c main_arg9 i) (a m c main_arg12 i)) (grad1 m c i)
  · exact congrArg (mom · (a m c main_arg9 i)) (grad1 m c i)
  · exact congrArg (var · (a m c main_arg12 i)) (grad1 m c i)

/-- g_fox_out: what the call leaves in the results for the gradient, the change, and the two moments. -/
theorem weight2 : (dats m 0 c).arrAt 19 cfg0.N = val_main_v60 (F := Ideal) (a m c main_arg3)
      ∧ (dats m 0 c).arrAt 20 cfg0.N = val_main_v84 (F := Ideal) (a m c main_arg3) (a m c main_arg7) (a m c main_arg10) (a m c main_arg13)
      ∧ (dats m 0 c).arrAt 21 cfg0.N = val_main_v65 (F := Ideal) (a m c main_arg3) (a m c main_arg10)
      ∧ (dats m 0 c).arrAt 22 cfg0.N = val_main_v71 (F := Ideal) (a m c main_arg3) (a m c main_arg13) := by
  refine ⟨through (fun i b => lone _ _ _ (at_zero 19 b)) ((blocks19 m c t0 (flush0_19 t0)).trans (flushed19_A m c t0)) (store_block VO0_19 VO0_19.junk start _ _ _) fun i => ?_,
    through (fun i b => lone _ _ _ (at_zero 20 b)) ((blocks20 m c t0 (flush0_20 t0)).trans (flushed20_A m c t0)) (store_block VO0_20 VO0_20.junk start _ _ _) fun i => ?_,
    through (fun i b => lone _ _ _ (at_zero 21 b)) ((blocks21 m c t0 (flush0_21 t0)).trans (flushed21_A m c t0)) (store_block VO0_21 VO0_21.junk start _ _ _) fun i => ?_,
    through (fun i b => lone _ _ _ (at_zero 22 b)) ((blocks22 m c t0 (flush0_22 t0)).trans (flushed22_A m c t0)) (store_block VO0_22 VO0_22.junk start _ _ _) fun i => ?_⟩ <;>
    simp only [sl.r, sl.r_1, sl.r_2, sl.v26, sl.v28, sl.v60, sl.v92, sl.HS0_1, load_part, load_two, summed, block0, block3, block6, block9]
  · exact grad2 m c i
  · exact congrArg (step · (a m c main_arg7 i) (a m c main_arg10 i) (a m c main_arg13 i)) (grad2 m c i)
  · exact congrArg (mom · (a m c main_arg10 i)) (grad2 m c i)
  · exact congrArg (var · (a m c main_arg13 i)) (grad2 m c i)

end Cert.SmallKernelIdeal.Upd

end
-- ==== Proof.UpdRows.lean ====
/-
  THE UPDATE OF g_chk_out, g_mix_pre, g_mix_post: what the call leaves in each of its results is what the reference computes.
-/
module

public import proofs.«01_k».proof.Proof.SmallLaws
public import proofs.«01_k».proof.Proof.Gen.RowsKernelIdeal.Value
public import proofs.«01_k».proof.Proof.Gen.RowsReferenceIdeal.Read

@[expose] public section

noncomputable section

namespace Cert.RowsKernelIdeal.Upd

open Cert.RowsKernelIdeal Cert.RowsKernelIdeal.Gen Cert.RowsKernelIdeal.Gen.kernelRun0_A Cert.RowsKernelIdeal.Value Idealize.ShloMosaic Idealize.ShloMosaic.ValueIdx Idealize.ShloMosaic.TcCoe Idealize.ShloMosaic.StableHlo
open Cert.RowsReferenceIdeal.Read Adam

variable (m : (ℓ : Loc nD τ sig) → Buf (Elt Ideal) ℓ) (c : Dev nD)

/-- An argument. -/
abbrev a (b : Ref sig .tc) : Buf (Elt Ideal) ((c : Thread nD τ).loc b) := m ((c : Thread nD τ).loc b)

/-- The packed gradients. -/
abbrev P : S8x24x1024.Idx → EReal := packed (a m c main_arg0) (a m c main_arg1) (a m c main_arg2) (a m c main_arg3) (a m c main_arg4)

/-- The host packs the gradients. -/
theorem V_packed : V m c main_v8 = P m c := by
  show after (List.flatten [hostOps0]) (fun b => m (c, b)) main_v8 = _
  simp only [List.flatten_cons, List.flatten_nil, List.append_nil, List.cons_append, List.nil_append]
  after_results_simp
  rfl

/-- The one point of the grid. -/
abbrev t0 : Fin cfg0.N := ⟨0, by decide⟩

/-- Every block is its array. -/
theorem at_zero : ∀ (w : Fin 23) (b : Fin _), (cfg0.win w).index t0 b = 0 := by decide +kernel

theorem block0 : iblk m c 0 t0 = P m c := (funext fun j => congrArg (V m c main_v8) (funext fun b => Fin.ext (lone _ _ _ (at_zero 0 b)))).trans (V_packed m c)
theorem block1 : iblk m c 1 t0 = a m c main_arg5 := (funext fun j => congrArg (V m c main_arg5) (funext fun b => Fin.ext (lone _ _ _ (at_zero 1 b)))).trans (V_main_arg5 m c)
theorem block2 : iblk m c 2 t0 = a m c main_arg6 := (funext fun j => congrArg (V m c main_arg6) (funext fun b => Fin.ext (lone _ _ _ (at_zero 2 b)))).trans (V_main_arg6 m c)
theorem block3 : iblk m c 3 t0 = a m c main_arg7 := (funext fun j => congrArg (V m c main_arg7) (funext fun b => Fin.ext (lone _ _ _ (at_zero 3 b)))).trans (V_main_arg7 m c)
theorem block4 : iblk m c 4 t0 = a m c main_arg8 := (funext fun j => congrArg (V m c main_arg8) (funext fun b => Fin.ext (lone _ _ _ (at_zero 4 b)))).trans (V_main_arg8 m c)
theorem block5 : iblk m c 5 t0 = a m c main_arg9 := (funext fun j => congrArg (V m c main_arg9) (funext fun b => Fin.ext (lone _ _ _ (at_zero 5 b)))).trans (V_main_arg9 m c)
theorem block6 : iblk m c 6 t0 = a m c main_arg10 := (funext fun j => congrArg (V m c main_arg10) (funext fun b => Fin.ext (lone _ _ _ (at_zero 6 b)))).trans (V_main_arg10 m c)
theorem block7 : iblk m c 7 t0 = a m c main_arg11 := (funext fun j => congrArg (V m c main_arg11) (funext fun b => Fin.ext (lone _ _ _ (at_zero 7 b)))).trans (V_main_arg11 m c)
theorem block8 : iblk m c 8 t0 = a m c main_arg12 := (funext fun j => congrArg (V m c main_arg12) (funext fun b => Fin.ext (lone _ _ _ (at_zero 8 b)))).trans (V_main_arg12 m c)
theorem block9 : iblk m c 9 t0 = a m c main_arg13 := (funext fun j => congrArg (V m c main_arg13) (funext fun b => Fin.ext (lone _ _ _ (at_zero 9 b)))).trans (V_main_arg13 m c)

/-- The sum of the eight slabs is written as in the first program. -/
theorem pay : @k0_pay1 Ideal _ = @Cert.SmallKernelIdeal.Gen.k0_pay1 Ideal _ := rfl

/-- The loss: the sum over the devices. -/
theorem loss (i : S1x128.Idx) : total (P m c) ((Rect.unit (s := S24x1024) ![17, 0] S1x128.size inb_S24x1024_S1x128_17_0).toLoadRect.idx i) = val_main_v9 (F := Ideal) (a m c main_arg0) i := by
  have z : (i 0).val < 1 := (i 0).isLt; refine (total_eq fun p => ?_).trans (val_main_v9_apply (a m c main_arg0) i).symm
  exact (packed_loss _ _ _ _ _ _ (idx_main_v9 i p) rfl (by show 17 + (i 0).val = 17 + 1 * (i 0).val; omega) (by show (i 1).val = 0 + 1 * (i 1).val; omega))

/-- g_chk_out: the sum over the devices. -/
theorem grad0 (i : S1x512.Idx) : total (P m c) ((Rect.unit (s := S24x1024) ![9, 512] S1x512.size inb_S24x1024_S1x512_9_512).toLoadRect.idx i) = val_main_v10 (F := Ideal) (a m c main_arg3) i := by
  have z : (i 0).val < 1 := (i 0).isLt; refine (total_eq fun p => ?_).trans (val_main_v10_apply (a m c main_arg3) i).symm
  exact (packed_outs _ _ _ _ _ _ (idx_main_v1 (idx_main_v10 i p)) rfl (by show 9 + 1 * (i 0).val = 9; omega) (by show 512 + 1 * (i 1).val = 512 * (1 + (i 0).val) + (i 1).val; omega)).trans (val_main_v1_apply (F := Ideal) (a m c main_arg3) _).symm

/-- g_mix_pre: the sum over the devices. -/
theorem grad1 (i : S1x1024.Idx) : total (P m c) ((Rect.unit (s := S24x1024) ![10, 0] S1x1024.size inb_S24x1024_S1x1024_10_0).toLoadRect.idx i) = val_main_v35 (F := Ideal) (a m c main_arg4) i := by
  have z : (i 0).val < 1 := (i 0).isLt; refine (total_eq fun p => ?_).trans (val_main_v35_apply (a m c main_arg4) i).symm
  exact (packed_rows _ _ _ _ _ _ (idx_main_v2 (idx_main_v35 i p)) rfl (by show 10 + (i 0).val = 10 + 1 * (i 0).val; omega) (by show (i 1).val = 0 + 1 * (i 1).val; omega)).trans (val_main_v2_apply (F := Ideal) (a m c main_arg4) _).symm

/-- g_mix_post: the sum over the devices. -/
theorem grad2 (i : S1x1024.Idx) : total (P m c) ((Rect.unit (s := S24x1024) ![11, 0] S1x1024.size inb_S24x1024_S1x1024_11_0).toLoadRect.idx i) = val_main_v60 (F := Ideal) (a m c main_arg4) i := by
  have z : (i 0).val < 1 := (i 0).isLt; refine (total_eq fun p => ?_).trans (val_main_v60_apply (a m c main_arg4) i).symm
  exact (packed_rows _ _ _ _ _ _ (idx_main_v3 (idx_main_v60 i p)) rfl (by show 10 + (1 + (i 0).val) = 11 + 1 * (i 0).val; omega) (by show (i 1).val = 0 + 1 * (i 1).val; omega)).trans (val_main_v3_apply (F := Ideal) (a m c main_arg4) _).symm

/-- What the call leaves in the loss's result. -/
theorem loss_result : (dats m 0 c).arrAt 10 cfg0.N = val_main_v9 (F := Ideal) (a m c main_arg0) := by
  refine through (fun i b => lone _ _ _ (at_zero 10 b)) ((blocks10 m c t0 (flush0_10 t0)).trans (flushed10_A m c t0)) (store_block VO0_10 VO0_10.junk start _ _ _) fun i => ?_
  simp only [sl.r, sl.r_1, sl.r_2, sl.v26, sl.v28, sl.v60, sl.v92, sl.HS0_1, load_part, load_two, pay, summed, block0]
  exact loss m c i

/-- g_chk_out: what the call leaves in the results for the gradient, the change, and the two moments. -/
theorem weight0 : (dats m 0 c).arrAt 11 cfg0.N = val_main_v10 (F := Ideal) (a m c main_arg3)
      ∧ (dats m 0 c).arrAt 12 cfg0.N = val_main_v34 (F := Ideal) (a m c main_arg3) (a m c main_arg5) (a m c main_arg8) (a m c main_arg11)
      ∧ (dats m 0 c).arrAt 13 cfg0.N = val_main_v15 (F := Ideal) (a m c main_arg3) (a m c main_arg8)
      ∧ (dats m 0 c).arrAt 14 cfg0.N = val_main_v21 (F := Ideal) (a m c main_arg3) (a m c main_arg11) := by
  refine ⟨through (fun i b => lone _ _ _ (at_zero 11 b)) ((blocks11 m c t0 (flush0_11 t0)).trans (flushed11_A m c t0)) (store_block VO0_11 VO0_11.junk start _ _ _) fun i => ?_,
    through (fun i b => lone _ _ _ (at_zero 12 b)) ((blocks12 m c t0 (flush0_12 t0)).trans (flushed12_A m c t0)) (store_block VO0_12 VO0_12.junk start _ _ _) fun i => ?_,
    through (fun i b => lone _ _ _ (at_zero 13 b)) ((blocks13 m c t0 (flush0_13 t0)).trans (flushed13_A m c t0)) (store_block VO0_13 VO0_13.junk start _ _ _) fun i => ?_,
    through (fun i b => lone _ _ _ (at_zero 14 b)) ((blocks14 m c t0 (flush0_14 t0)).trans (flushed14_A m c t0)) (store_block VO0_14 VO0_14.junk start _ _ _) fun i => ?_⟩ <;>
    simp only [sl.r, sl.r_1, sl.r_2, sl.v26, sl.v28, sl.v60, sl.v92, sl.HS0_1, load_part, load_two, pay, summed, block0, block1, block4, block7]
  · exact grad0 m c i
  · exact congrArg (step · (a m c main_arg5 i) (a m c main_arg8 i) (a m c main_arg11 i)) (grad0 m c i)
  · exact congrArg (mom · (a m c main_arg8 i)) (grad0 m c i)
  · exact congrArg (var · (a m c main_arg11 i)) (grad0 m c i)

/-- g_mix_pre: what the call leaves in the results for the gradient, the change, and the two moments. -/
theorem weight1 : (dats m 0 c).arrAt 15 cfg0.N = val_main_v35 (F := Ideal) (a m c main_arg4)
      ∧ (dats m 0 c).arrAt 16 cfg0.N = val_main_v59 (F := Ideal) (a m c main_arg4) (a m c main_arg6) (a m c main_arg9) (a m c main_arg12)
      ∧ (dats m 0 c).arrAt 17 cfg0.N = val_main_v40 (F := Ideal) (a m c main_arg4) (a m c main_arg9)
      ∧ (dats m 0 c).arrAt 18 cfg0.N = val_main_v46 (F := Ideal) (a m c main_arg4) (a m c main_arg12) := by
  refine ⟨through (fun i b => lone _ _ _ (at_zero 15 b)) ((blocks15 m c t0 (flush0_15 t0)).trans (flushed15_A m c t0)) (store_block VO0_15 VO0_15.junk start _ _ _) fun i => ?_,
    through (fun i b => lone _ _ _ (at_zero 16 b)) ((blocks16 m c t0 (flush0_16 t0)).trans (flushed16_A m c t0)) (store_block VO0_16 VO0_16.junk start _ _ _) fun i => ?_,
    through (fun i b => lone _ _ _ (at_zero 17 b)) ((blocks17 m c t0 (flush0_17 t0)).trans (flushed17_A m c t0)) (store_block VO0_17 VO0_17.junk start _ _ _) fun i => ?_,
    through (fun i b => lone _ _ _ (at_zero 18 b)) ((blocks18 m c t0 (flush0_18 t0)).trans (flushed18_A m c t0)) (store_block VO0_18 VO0_18.junk start _ _ _) fun i => ?_⟩ <;>
    simp only [sl.r, sl.r_1, sl.r_2, sl.v26, sl.v28, sl.v60, sl.v92, sl.HS0_1, load_part, load_two, pay, summed, block0, block2, block5, block8]
  · exact grad1 m c i
  · exact congrArg (step · (a m c main_arg6 i) (a m c main_arg9 i) (a m c main_arg12 i)) (grad1 m c i)
  · exact congrArg (mom · (a m c main_arg9 i)) (grad1 m c i)
  · exact congrArg (var · (a m c main_arg12 i)) (grad1 m c i)

/-- g_mix_post: what the call leaves in the results for the gradient, the change, and the two moments. -/
theorem weight2 : (dats m 0 c).arrAt 19 cfg0.N = val_main_v60 (F := Ideal) (a m c main_arg4)
      ∧ (dats m 0 c).arrAt 20 cfg0.N = val_main_v84 (F := Ideal) (a m c main_arg4) (a m c main_arg7) (a m c main_arg10) (a m c main_arg13)
      ∧ (dats m 0 c).arrAt 21 cfg0.N = val_main_v65 (F := Ideal) (a m c main_arg4) (a m c main_arg10)
      ∧ (dats m 0 c).arrAt 22 cfg0.N = val_main_v71 (F := Ideal) (a m c main_arg4) (a m c main_arg13) := by
  refine ⟨through (fun i b => lone _ _ _ (at_zero 19 b)) ((blocks19 m c t0 (flush0_19 t0)).trans (flushed19_A m c t0)) (store_block VO0_19 VO0_19.junk start _ _ _) fun i => ?_,
    through (fun i b => lone _ _ _ (at_zero 20 b)) ((blocks20 m c t0 (flush0_20 t0)).trans (flushed20_A m c t0)) (store_block VO0_20 VO0_20.junk start _ _ _) fun i => ?_,
    through (fun i b => lone _ _ _ (at_zero 21 b)) ((blocks21 m c t0 (flush0_21 t0)).trans (flushed21_A m c t0)) (store_block VO0_21 VO0_21.junk start _ _ _) fun i => ?_,
    through (fun i b => lone _ _ _ (at_zero 22 b)) ((blocks22 m c t0 (flush0_22 t0)).trans (flushed22_A m c t0)) (store_block VO0_22 VO0_22.junk start _ _ _) fun i => ?_⟩ <;>
    simp only [sl.r, sl.r_1, sl.r_2, sl.v26, sl.v28, sl.v60, sl.v92, sl.HS0_1, load_part, load_two, pay, summed, block0, block3, block6, block9]
  · exact grad2 m c i
  · exact congrArg (step · (a m c main_arg7 i) (a m c main_arg10 i) (a m c main_arg13 i)) (grad2 m c i)
  · exact congrArg (mom · (a m c main_arg10 i)) (grad2 m c i)
  · exact congrArg (var · (a m c main_arg13 i)) (grad2 m c i)

end Cert.RowsKernelIdeal.Upd

end
-- ==== Proof.UpdMem.lean ====
/-
  THE UPDATE OF g_mem_kv, g_mem_pre, g_mem_post: what the call leaves in each of its results is what the reference computes.
-/
module

public import proofs.«01_k».proof.Proof.SmallLaws
public import proofs.«01_k».proof.Proof.Gen.MemKernelIdeal.Value
public import proofs.«01_k».proof.Proof.Gen.MemReferenceIdeal.Read

@[expose] public section

noncomputable section

namespace Cert.MemKernelIdeal.Upd

open Cert.MemKernelIdeal Cert.MemKernelIdeal.Gen Cert.MemKernelIdeal.Gen.kernelRun0_A Cert.MemKernelIdeal.Value Idealize.ShloMosaic Idealize.ShloMosaic.ValueIdx Idealize.ShloMosaic.TcCoe Idealize.ShloMosaic.StableHlo
open Cert.MemReferenceIdeal.Read Adam

variable (m : (ℓ : Loc nD τ sig) → Buf (Elt Ideal) ℓ) (c : Dev nD)

/-- An argument. -/
abbrev a (b : Ref sig .tc) : Buf (Elt Ideal) ((c : Thread nD τ).loc b) := m ((c : Thread nD τ).loc b)

/-- The packed gradients. -/
abbrev P : S8x24x1024.Idx → EReal := packed (a m c main_arg0) (a m c main_arg1) (a m c main_arg2) (a m c main_arg3) (a m c main_arg4)

/-- The host packs the gradients. -/
theorem V_packed : V m c main_v8 = P m c := by
  show after (List.flatten [hostOps0]) (fun b => m (c, b)) main_v8 = _
  simp only [List.flatten_cons, List.flatten_nil, List.append_nil, List.cons_append, List.nil_append]
  after_results_simp
  rfl

/-- The one point of the grid. -/
abbrev t0 : Fin cfg0.N := ⟨0, by decide⟩

/-- Every block is its array. -/
theorem at_zero : ∀ (w : Fin 23) (b : Fin _), (cfg0.win w).index t0 b = 0 := by decide +kernel

theorem block0 : iblk m c 0 t0 = P m c := (funext fun j => congrArg (V m c main_v8) (funext fun b => Fin.ext (lone _ _ _ (at_zero 0 b)))).trans (V_packed m c)
theorem block1 : iblk m c 1 t0 = a m c main_arg5 := (funext fun j => congrArg (V m c main_arg5) (funext fun b => Fin.ext (lone _ _ _ (at_zero 1 b)))).trans (V_main_arg5 m c)
theorem block2 : iblk m c 2 t0 = a m c main_arg6 := (funext fun j => congrArg (V m c main_arg6) (funext fun b => Fin.ext (lone _ _ _ (at_zero 2 b)))).trans (V_main_arg6 m c)
theorem block3 : iblk m c 3 t0 = a m c main_arg7 := (funext fun j => congrArg (V m c main_arg7) (funext fun b => Fin.ext (lone _ _ _ (at_zero 3 b)))).trans (V_main_arg7 m c)
theorem block4 : iblk m c 4 t0 = a m c main_arg8 := (funext fun j => congrArg (V m c main_arg8) (funext fun b => Fin.ext (lone _ _ _ (at_zero 4 b)))).trans (V_main_arg8 m c)
theorem block5 : iblk m c 5 t0 = a m c main_arg9 := (funext fun j => congrArg (V m c main_arg9) (funext fun b => Fin.ext (lone _ _ _ (at_zero 5 b)))).trans (V_main_arg9 m c)
theorem block6 : iblk m c 6 t0 = a m c main_arg10 := (funext fun j => congrArg (V m c main_arg10) (funext fun b => Fin.ext (lone _ _ _ (at_zero 6 b)))).trans (V_main_arg10 m c)
theorem block7 : iblk m c 7 t0 = a m c main_arg11 := (funext fun j => congrArg (V m c main_arg11) (funext fun b => Fin.ext (lone _ _ _ (at_zero 7 b)))).trans (V_main_arg11 m c)
theorem block8 : iblk m c 8 t0 = a m c main_arg12 := (funext fun j => congrArg (V m c main_arg12) (funext fun b => Fin.ext (lone _ _ _ (at_zero 8 b)))).trans (V_main_arg12 m c)
theorem block9 : iblk m c 9 t0 = a m c main_arg13 := (funext fun j => congrArg (V m c main_arg13) (funext fun b => Fin.ext (lone _ _ _ (at_zero 9 b)))).trans (V_main_arg13 m c)

/-- The sum of the eight slabs is written as in the first program. -/
theorem pay : @k0_pay1 Ideal _ = @Cert.SmallKernelIdeal.Gen.k0_pay1 Ideal _ := rfl

/-- The loss: the sum over the devices. -/
theorem loss (i : S1x128.Idx) : total (P m c) ((Rect.unit (s := S24x1024) ![17, 0] S1x128.size inb_S24x1024_S1x128_17_0).toLoadRect.idx i) = val_main_v9 (F := Ideal) (a m c main_arg0) i := by
  have z : (i 0).val < 1 := (i 0).isLt; refine (total_eq fun p => ?_).trans (val_main_v9_apply (a m c main_arg0) i).symm
  exact (packed_loss _ _ _ _ _ _ (idx_main_v9 i p) rfl (by show 17 + (i 0).val = 17 + 1 * (i 0).val; omega) (by show (i 1).val = 0 + 1 * (i 1).val; omega))

/-- g_mem_kv: the sum over the devices. -/
theorem grad0 (i : S1x1024.Idx) : total (P m c) ((Rect.unit (s := S24x1024) ![12, 0] S1x1024.size inb_S24x1024_S1x1024_12_0).toLoadRect.idx i) = val_main_v10 (F := Ideal) (a m c main_arg4) i := by
  have z : (i 0).val < 1 := (i 0).isLt; refine (total_eq fun p => ?_).trans (val_main_v10_apply (a m c main_arg4) i).symm
  exact (packed_rows _ _ _ _ _ _ (idx_main_v4 (idx_main_v10 i p)) rfl (by show 10 + (2 + (i 0).val) = 12 + 1 * (i 0).val; omega) (by show (i 1).val = 0 + 1 * (i 1).val; omega)).trans (val_main_v4_apply (F := Ideal) (a m c main_arg4) _).symm

/-- g_mem_pre: the sum over the devices. -/
theorem grad1 (i : S1x1024.Idx) : total (P m c) ((Rect.unit (s := S24x1024) ![13, 0] S1x1024.size inb_S24x1024_S1x1024_13_0).toLoadRect.idx i) = val_main_v35 (F := Ideal) (a m c main_arg4) i := by
  have z : (i 0).val < 1 := (i 0).isLt; refine (total_eq fun p => ?_).trans (val_main_v35_apply (a m c main_arg4) i).symm
  exact (packed_rows _ _ _ _ _ _ (idx_main_v5 (idx_main_v35 i p)) rfl (by show 10 + (3 + (i 0).val) = 13 + 1 * (i 0).val; omega) (by show (i 1).val = 0 + 1 * (i 1).val; omega)).trans (val_main_v5_apply (F := Ideal) (a m c main_arg4) _).symm

/-- g_mem_post: the sum over the devices. -/
theorem grad2 (i : S1x1024.Idx) : total (P m c) ((Rect.unit (s := S24x1024) ![14, 0] S1x1024.size inb_S24x1024_S1x1024_14_0).toLoadRect.idx i) = val_main_v60 (F := Ideal) (a m c main_arg4) i := by
  have z : (i 0).val < 1 := (i 0).isLt; refine (total_eq fun p => ?_).trans (val_main_v60_apply (a m c main_arg4) i).symm
  exact (packed_rows _ _ _ _ _ _ (idx_main_v6 (idx_main_v60 i p)) rfl (by show 10 + (4 + (i 0).val) = 14 + 1 * (i 0).val; omega) (by show (i 1).val = 0 + 1 * (i 1).val; omega)).trans (val_main_v6_apply (F := Ideal) (a m c main_arg4) _).symm

/-- What the call leaves in the loss's result. -/
theorem loss_result : (dats m 0 c).arrAt 10 cfg0.N = val_main_v9 (F := Ideal) (a m c main_arg0) := by
  refine through (fun i b => lone _ _ _ (at_zero 10 b)) ((blocks10 m c t0 (flush0_10 t0)).trans (flushed10_A m c t0)) (store_block VO0_10 VO0_10.junk start _ _ _) fun i => ?_
  simp only [sl.r, sl.r_1, sl.r_2, sl.v26, sl.v28, sl.v60, sl.v92, sl.HS0_1, load_part, load_two, pay, summed, block0]
  exact loss m c i

/-- g_mem_kv: what the call leaves in the results for the gradient, the change, and the two moments. -/
theorem weight0 : (dats m 0 c).arrAt 11 cfg0.N = val_main_v10 (F := Ideal) (a m c main_arg4)
      ∧ (dats m 0 c).arrAt 12 cfg0.N = val_main_v34 (F := Ideal) (a m c main_arg4) (a m c main_arg5) (a m c main_arg8) (a m c main_arg11)
      ∧ (dats m 0 c).arrAt 13 cfg0.N = val_main_v15 (F := Ideal) (a m c main_arg4) (a m c main_arg8)
      ∧ (dats m 0 c).arrAt 14 cfg0.N = val_main_v21 (F := Ideal) (a m c main_arg4) (a m c main_arg11) := by
  refine ⟨through (fun i b => lone _ _ _ (at_zero 11 b)) ((blocks11 m c t0 (flush0_11 t0)).trans (flushed11_A m c t0)) (store_block VO0_11 VO0_11.junk start _ _ _) fun i => ?_,
    through (fun i b => lone _ _ _ (at_zero 12 b)) ((blocks12 m c t0 (flush0_12 t0)).trans (flushed12_A m c t0)) (store_block VO0_12 VO0_12.junk start _ _ _) fun i => ?_,
    through (fun i b => lone _ _ _ (at_zero 13 b)) ((blocks13 m c t0 (flush0_13 t0)).trans (flushed13_A m c t0)) (store_block VO0_13 VO0_13.junk start _ _ _) fun i => ?_,
    through (fun i b => lone _ _ _ (at_zero 14 b)) ((blocks14 m c t0 (flush0_14 t0)).trans (flushed14_A m c t0)) (store_block VO0_14 VO0_14.junk start _ _ _) fun i => ?_⟩ <;>
    simp only [sl.r, sl.r_1, sl.r_2, sl.v26, sl.v28, sl.v60, sl.v92, sl.HS0_1, load_part, load_two, pay, summed, block0, block1, block4, block7]
  · exact grad0 m c i
  · exact congrArg (step · (a m c main_arg5 i) (a m c main_arg8 i) (a m c main_arg11 i)) (grad0 m c i)
  · exact congrArg (mom · (a m c main_arg8 i)) (grad0 m c i)
  · exact congrArg (var · (a m c main_arg11 i)) (grad0 m c i)

/-- g_mem_pre: what the call leaves in the results for the gradient, the change, and the two moments. -/
theorem weight1 : (dats m 0 c).arrAt 15 cfg0.N = val_main_v35 (F := Ideal) (a m c main_arg4)
      ∧ (dats m 0 c).arrAt 16 cfg0.N = val_main_v59 (F := Ideal) (a m c main_arg4) (a m c main_arg6) (a m c main_arg9) (a m c main_arg12)
      ∧ (dats m 0 c).arrAt 17 cfg0.N = val_main_v40 (F := Ideal) (a m c main_arg4) (a m c main_arg9)
      ∧ (dats m 0 c).arrAt 18 cfg0.N = val_main_v46 (F := Ideal) (a m c main_arg4) (a m c main_arg12) := by
  refine ⟨through (fun i b => lone _ _ _ (at_zero 15 b)) ((blocks15 m c t0 (flush0_15 t0)).trans (flushed15_A m c t0)) (store_block VO0_15 VO0_15.junk start _ _ _) fun i => ?_,
    through (fun i b => lone _ _ _ (at_zero 16 b)) ((blocks16 m c t0 (flush0_16 t0)).trans (flushed16_A m c t0)) (store_block VO0_16 VO0_16.junk start _ _ _) fun i => ?_,
    through (fun i b => lone _ _ _ (at_zero 17 b)) ((blocks17 m c t0 (flush0_17 t0)).trans (flushed17_A m c t0)) (store_block VO0_17 VO0_17.junk start _ _ _) fun i => ?_,
    through (fun i b => lone _ _ _ (at_zero 18 b)) ((blocks18 m c t0 (flush0_18 t0)).trans (flushed18_A m c t0)) (store_block VO0_18 VO0_18.junk start _ _ _) fun i => ?_⟩ <;>
    simp only [sl.r, sl.r_1, sl.r_2, sl.v26, sl.v28, sl.v60, sl.v92, sl.HS0_1, load_part, load_two, pay, summed, block0, block2, block5, block8]
  · exact grad1 m c i
  · exact congrArg (step · (a m c main_arg6 i) (a m c main_arg9 i) (a m c main_arg12 i)) (grad1 m c i)
  · exact congrArg (mom · (a m c main_arg9 i)) (grad1 m c i)
  · exact congrArg (var · (a m c main_arg12 i)) (grad1 m c i)

/-- g_mem_post: what the call leaves in the results for the gradient, the change, and the two moments. -/
theorem weight2 : (dats m 0 c).arrAt 19 cfg0.N = val_main_v60 (F := Ideal) (a m c main_arg4)
      ∧ (dats m 0 c).arrAt 20 cfg0.N = val_main_v84 (F := Ideal) (a m c main_arg4) (a m c main_arg7) (a m c main_arg10) (a m c main_arg13)
      ∧ (dats m 0 c).arrAt 21 cfg0.N = val_main_v65 (F := Ideal) (a m c main_arg4) (a m c main_arg10)
      ∧ (dats m 0 c).arrAt 22 cfg0.N = val_main_v71 (F := Ideal) (a m c main_arg4) (a m c main_arg13) := by
  refine ⟨through (fun i b => lone _ _ _ (at_zero 19 b)) ((blocks19 m c t0 (flush0_19 t0)).trans (flushed19_A m c t0)) (store_block VO0_19 VO0_19.junk start _ _ _) fun i => ?_,
    through (fun i b => lone _ _ _ (at_zero 20 b)) ((blocks20 m c t0 (flush0_20 t0)).trans (flushed20_A m c t0)) (store_block VO0_20 VO0_20.junk start _ _ _) fun i => ?_,
    through (fun i b => lone _ _ _ (at_zero 21 b)) ((blocks21 m c t0 (flush0_21 t0)).trans (flushed21_A m c t0)) (store_block VO0_21 VO0_21.junk start _ _ _) fun i => ?_,
    through (fun i b => lone _ _ _ (at_zero 22 b)) ((blocks22 m c t0 (flush0_22 t0)).trans (flushed22_A m c t0)) (store_block VO0_22 VO0_22.junk start _ _ _) fun i => ?_⟩ <;>
    simp only [sl.r, sl.r_1, sl.r_2, sl.v26, sl.v28, sl.v60, sl.v92, sl.HS0_1, load_part, load_two, pay, summed, block0, block3, block6, block9]
  · exact grad2 m c i
  · exact congrArg (step · (a m c main_arg7 i) (a m c main_arg10 i) (a m c main_arg13 i)) (grad2 m c i)
  · exact congrArg (mom · (a m c main_arg10 i)) (grad2 m c i)
  · exact congrArg (var · (a m c main_arg13 i)) (grad2 m c i)

end Cert.MemKernelIdeal.Upd

end
-- ==== Proof.UpdFf.lean ====
/-
  THE UPDATE OF g_ff_pre, g_ff_post: what the call leaves in each of its results is what the reference computes.
-/
module

public import proofs.«01_k».proof.Proof.SmallLaws
public import proofs.«01_k».proof.Proof.Gen.FfKernelIdeal.Value
public import proofs.«01_k».proof.Proof.Gen.FfReferenceIdeal.Read

@[expose] public section

noncomputable section

namespace Cert.FfKernelIdeal.Upd

open Cert.FfKernelIdeal Cert.FfKernelIdeal.Gen Cert.FfKernelIdeal.Gen.kernelRun0_A Cert.FfKernelIdeal.Value Idealize.ShloMosaic Idealize.ShloMosaic.ValueIdx Idealize.ShloMosaic.TcCoe Idealize.ShloMosaic.StableHlo
open Cert.FfReferenceIdeal.Read Adam

variable (m : (ℓ : Loc nD τ sig) → Buf (Elt Ideal) ℓ) (c : Dev nD)

/-- An argument. -/
abbrev a (b : Ref sig .tc) : Buf (Elt Ideal) ((c : Thread nD τ).loc b) := m ((c : Thread nD τ).loc b)

/-- The packed gradients. -/
abbrev P : S8x24x1024.Idx → EReal := packed (a m c main_arg0) (a m c main_arg1) (a m c main_arg2) (a m c main_arg3) (a m c main_arg4)

/-- The host packs the gradients. -/
theorem V_packed : V m c main_v8 = P m c := by
  show after (List.flatten [hostOps0]) (fun b => m (c, b)) main_v8 = _
  simp only [List.flatten_cons, List.flatten_nil, List.append_nil, List.cons_append, List.nil_append]
  after_results_simp
  rfl

/-- The one point of the grid. -/
abbrev t0 : Fin cfg0.N := ⟨0, by decide⟩

/-- Every block is its array. -/
theorem at_zero : ∀ (w : Fin 16) (b : Fin _), (cfg0.win w).index t0 b = 0 := by decide +kernel

theorem block0 : iblk m c 0 t0 = P m c := (funext fun j => congrArg (V m c main_v8) (funext fun b => Fin.ext (lone _ _ _ (at_zero 0 b)))).trans (V_packed m c)
theorem block1 : iblk m c 1 t0 = a m c main_arg5 := (funext fun j => congrArg (V m c main_arg5) (funext fun b => Fin.ext (lone _ _ _ (at_zero 1 b)))).trans (V_main_arg5 m c)
theorem block2 : iblk m c 2 t0 = a m c main_arg6 := (funext fun j => congrArg (V m c main_arg6) (funext fun b => Fin.ext (lone _ _ _ (at_zero 2 b)))).trans (V_main_arg6 m c)
theorem block3 : iblk m c 3 t0 = a m c main_arg7 := (funext fun j => congrArg (V m c main_arg7) (funext fun b => Fin.ext (lone _ _ _ (at_zero 3 b)))).trans (V_main_arg7 m c)
theorem block4 : iblk m c 4 t0 = a m c main_arg8 := (funext fun j => congrArg (V m c main_arg8) (funext fun b => Fin.ext (lone _ _ _ (at_zero 4 b)))).trans (V_main_arg8 m c)
theorem block5 : iblk m c 5 t0 = a m c main_arg9 := (funext fun j => congrArg (V m c main_arg9) (funext fun b => Fin.ext (lone _ _ _ (at_zero 5 b)))).trans (V_main_arg9 m c)
theorem block6 : iblk m c 6 t0 = a m c main_arg10 := (funext fun j => congrArg (V m c main_arg10) (funext fun b => Fin.ext (lone _ _ _ (at_zero 6 b)))).trans (V_main_arg10 m c)

/-- The sum of the eight slabs is written as in the first program. -/
theorem pay : @k0_pay1 Ideal _ = @Cert.SmallKernelIdeal.Gen.k0_pay1 Ideal _ := rfl

/-- The loss: the sum over the devices. -/
theorem loss (i : S1x128.Idx) : total (P m c) ((Rect.unit (s := S24x1024) ![17, 0] S1x128.size inb_S24x1024_S1x128_17_0).toLoadRect.idx i) = val_main_v9 (F := Ideal) (a m c main_arg0) i := by
  have z : (i 0).val < 1 := (i 0).isLt; refine (total_eq fun p => ?_).trans (val_main_v9_apply (a m c main_arg0) i).symm
  exact (packed_loss _ _ _ _ _ _ (idx_main_v9 i p) rfl (by show 17 + (i 0).val = 17 + 1 * (i 0).val; omega) (by show (i 1).val = 0 + 1 * (i 1).val; omega))

/-- g_ff_pre: the sum over the devices. -/
theorem grad0 (i : S1x1024.Idx) : total (P m c) ((Rect.unit (s := S24x1024) ![15, 0] S1x1024.size inb_S24x1024_S1x1024_15_0).toLoadRect.idx i) = val_main_v10 (F := Ideal) (a m c main_arg4) i := by
  have z : (i 0).val < 1 := (i 0).isLt; refine (total_eq fun p => ?_).trans (val_main_v10_apply (a m c main_arg4) i).symm
  exact (packed_rows _ _ _ _ _ _ (idx_main_v7 (idx_main_v10 i p)) rfl (by show 10 + (5 + (i 0).val) = 15 + 1 * (i 0).val; omega) (by show (i 1).val = 0 + 1 * (i 1).val; omega)).trans (val_main_v7_apply (F := Ideal) (a m c main_arg4) _).symm

/-- g_ff_post: the sum over the devices. -/
theorem grad1 (i : S1x1024.Idx) : total (P m c) ((Rect.unit (s := S24x1024) ![16, 0] S1x1024.size inb_S24x1024_S1x1024_16_0).toLoadRect.idx i) = val_main_v35 (F := Ideal) (a m c main_arg4) i := by
  have z : (i 0).val < 1 := (i 0).isLt; refine (total_eq fun p => ?_).trans (val_main_v35_apply (a m c main_arg4) i).symm
  exact (packed_rows _ _ _ _ _ _ (idx_main_v8 (idx_main_v35 i p)) rfl (by show 10 + (6 + (i 0).val) = 16 + 1 * (i 0).val; omega) (by show (i 1).val = 0 + 1 * (i 1).val; omega)).trans (val_main_v8_apply (F := Ideal) (a m c main_arg4) _).symm

/-- What the call leaves in the loss's result. -/
theorem loss_result : (dats m 0 c).arrAt 7 cfg0.N = val_main_v9 (F := Ideal) (a m c main_arg0) := by
  refine through (fun i b => lone _ _ _ (at_zero 7 b)) ((blocks7 m c t0 (flush0_7 t0)).trans (flushed7_A m c t0)) (store_block VO0_7 VO0_7.junk start _ _ _) fun i => ?_
  simp only [sl.r, sl.r_1, sl.v26, sl.v28, sl.v60, sl.HS0_1, load_part, load_two, pay, summed, block0]
  exact loss m c i

/-- g_ff_pre: what the call leaves in the results for the gradient, the change, and the two moments. -/
theorem weight0 : (dats m 0 c).arrAt 8 cfg0.N = val_main_v10 (F := Ideal) (a m c main_arg4)
      ∧ (dats m 0 c).arrAt 9 cfg0.N = val_main_v34 (F := Ideal) (a m c main_arg4) (a m c main_arg5) (a m c main_arg7) (a m c main_arg9)
      ∧ (dats m 0 c).arrAt 10 cfg0.N = val_main_v15 (F := Ideal) (a m c main_arg4) (a m c main_arg7)
      ∧ (dats m 0 c).arrAt 11 cfg0.N = val_main_v21 (F := Ideal) (a m c main_arg4) (a m c main_arg9) := by
  refine ⟨through (fun i b => lone _ _ _ (at_zero 8 b)) ((blocks8 m c t0 (flush0_8 t0)).trans (flushed8_A m c t0)) (store_block VO0_8 VO0_8.junk start _ _ _) fun i => ?_,
    through (fun i b => lone _ _ _ (at_zero 9 b)) ((blocks9 m c t0 (flush0_9 t0)).trans (flushed9_A m c t0)) (store_block VO0_9 VO0_9.junk start _ _ _) fun i => ?_,
    through (fun i b => lone _ _ _ (at_zero 10 b)) ((blocks10 m c t0 (flush0_10 t0)).trans (flushed10_A m c t0)) (store_block VO0_10 VO0_10.junk start _ _ _) fun i => ?_,
    through (fun i b => lone _ _ _ (at_zero 11 b)) ((blocks11 m c t0 (flush0_11 t0)).trans (flushed11_A m c t0)) (store_block VO0_11 VO0_11.junk start _ _ _) fun i => ?_⟩ <;>
    simp only [sl.r, sl.r_1, sl.v26, sl.v28, sl.v60, sl.HS0_1, load_part, load_two, pay, summed, block0, block1, block3, block5]
  · exact grad0 m c i
  · exact congrArg (step · (a m c main_arg5 i) (a m c main_arg7 i) (a m c main_arg9 i)) (grad0 m c i)
  · exact congrArg (mom · (a m c main_arg7 i)) (grad0 m c i)
  · exact congrArg (var · (a m c main_arg9 i)) (grad0 m c i)

/-- g_ff_post: what the call leaves in the results for the gradient, the change, and the two moments. -/
theorem weight1 : (dats m 0 c).arrAt 12 cfg0.N = val_main_v35 (F := Ideal) (a m c main_arg4)
      ∧ (dats m 0 c).arrAt 13 cfg0.N = val_main_v59 (F := Ideal) (a m c main_arg4) (a m c main_arg6) (a m c main_arg8) (a m c main_arg10)
      ∧ (dats m 0 c).arrAt 14 cfg0.N = val_main_v40 (F := Ideal) (a m c main_arg4) (a m c main_arg8)
      ∧ (dats m 0 c).arrAt 15 cfg0.N = val_main_v46 (F := Ideal) (a m c main_arg4) (a m c main_arg10) := by
  refine ⟨through (fun i b => lone _ _ _ (at_zero 12 b)) ((blocks12 m c t0 (flush0_12 t0)).trans (flushed12_A m c t0)) (store_block VO0_12 VO0_12.junk start _ _ _) fun i => ?_,
    through (fun i b => lone _ _ _ (at_zero 13 b)) ((blocks13 m c t0 (flush0_13 t0)).trans (flushed13_A m c t0)) (store_block VO0_13 VO0_13.junk start _ _ _) fun i => ?_,
    through (fun i b => lone _ _ _ (at_zero 14 b)) ((blocks14 m c t0 (flush0_14 t0)).trans (flushed14_A m c t0)) (store_block VO0_14 VO0_14.junk start _ _ _) fun i => ?_,
    through (fun i b => lone _ _ _ (at_zero 15 b)) ((blocks15 m c t0 (flush0_15 t0)).trans (flushed15_A m c t0)) (store_block VO0_15 VO0_15.junk start _ _ _) fun i => ?_⟩ <;>
    simp only [sl.r, sl.r_1, sl.v26, sl.v28, sl.v60, sl.HS0_1, load_part, load_two, pay, summed, block0, block2, block4, block6]
  · exact grad1 m c i
  · exact congrArg (step · (a m c main_arg6 i) (a m c main_arg8 i) (a m c main_arg10 i)) (grad1 m c i)
  · exact congrArg (mom · (a m c main_arg8 i)) (grad1 m c i)
  · exact congrArg (var · (a m c main_arg10 i)) (grad1 m c i)

end Cert.FfKernelIdeal.Upd

end
-- ==== Proof.lean ====
/-
  The proof of `Cert.Claim`: the programs' frames, the idealisation's named constant, and the equality over the extended reals of each
  kernel with its reference: the blocked backward pass of the attention, the weights' gradients, the feed-forward step, and
  the backward pass of the first norm and projection.
-/
module

public import proofs.«01_k».proof.Defs
public import proofs.«01_k».proof.Proof.Gen.Kernel
public import proofs.«01_k».proof.Proof.Gen.Kernel.Frame
public import proofs.«01_k».proof.Proof.Gen.Kernel.Value
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.GradsKernel
public import proofs.«01_k».proof.Proof.Gen.GradsKernel.Skeleton
public import proofs.«01_k».proof.Proof.Gen.GradsKernel.Launch
public import proofs.«01_k».proof.Proof.Gen.GradsKernel.Points
public import proofs.«01_k».proof.Proof.Gen.GradsKernel.Frame
public import proofs.«01_k».proof.Proof.Gen.GradsKernel.Value
public import proofs.«01_k».proof.Proof.Gen.GradsKernelIdeal
public import proofs.«01_k».proof.Proof.Gen.GradsKernelIdeal.Skeleton
public import proofs.«01_k».proof.Proof.Gen.GradsKernelIdeal.Launch
public import proofs.«01_k».proof.Proof.Gen.GradsKernelIdeal.Points
public import proofs.«01_k».proof.Proof.Gen.GradsKernelIdeal.Frame
public import proofs.«01_k».proof.Proof.Gen.GradsKernelIdeal.Value
public import proofs.«01_k».proof.Proof.Gen.GradsReferenceIdeal
public import proofs.«01_k».proof.Proof.Gen.GradsReferenceIdeal.Run
public import proofs.«01_k».proof.Proof.Gen.GradsReferenceIdeal.Read
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernel.Value
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpKernelIdeal.Value
public import proofs.«01_k».proof.Proof.Gen.MlpReferenceIdeal
public import proofs.«01_k».proof.Proof.Gen.MlpReferenceIdeal.Run
public import proofs.«01_k».proof.Proof.Gen.MlpReferenceIdeal.Read
public import proofs.«01_k».proof.Proof.Gen.PremixKernel
public import proofs.«01_k».proof.Proof.Gen.PremixKernel.Skeleton
public import proofs.«01_k».proof.Proof.Gen.PremixKernel.Launch
public import proofs.«01_k».proof.Proof.Gen.PremixKernel.Points
public import proofs.«01_k».proof.Proof.Gen.PremixKernel.Frame
public import proofs.«01_k».proof.Proof.Gen.PremixKernel.Value
public import proofs.«01_k».proof.Proof.Gen.PremixKernelIdeal
public import proofs.«01_k».proof.Proof.Gen.PremixKernelIdeal.Skeleton
public import proofs.«01_k».proof.Proof.Gen.PremixKernelIdeal.Launch
public import proofs.«01_k».proof.Proof.Gen.PremixKernelIdeal.Points
public import proofs.«01_k».proof.Proof.Gen.PremixKernelIdeal.Frame
public import proofs.«01_k».proof.Proof.Gen.PremixKernelIdeal.Value
public import proofs.«01_k».proof.Proof.Gen.PremixReferenceIdeal
public import proofs.«01_k».proof.Proof.Gen.PremixReferenceIdeal.Run
public import proofs.«01_k».proof.Proof.Gen.PremixReferenceIdeal.Read
public import proofs.«01_k».proof.Proof.Gen.SmallKernel
public import proofs.«01_k».proof.Proof.Gen.SmallKernel.Skeleton
public import proofs.«01_k».proof.Proof.Gen.SmallKernel.Launch
public import proofs.«01_k».proof.Proof.Gen.SmallKernel.Points
public import proofs.«01_k».proof.Proof.Gen.SmallKernel.Frame
public import proofs.«01_k».proof.Proof.Gen.SmallKernel.Value
public import proofs.«01_k».proof.Proof.Gen.SmallKernelIdeal
public import proofs.«01_k».proof.Proof.Gen.SmallKernelIdeal.Skeleton
public import proofs.«01_k».proof.Proof.Gen.SmallKernelIdeal.Launch
public import proofs.«01_k».proof.Proof.Gen.SmallKernelIdeal.Points
public import proofs.«01_k».proof.Proof.Gen.SmallKernelIdeal.Frame
public import proofs.«01_k».proof.Proof.Gen.SmallKernelIdeal.Value
public import proofs.«01_k».proof.Proof.Gen.SmallReferenceIdeal
public import proofs.«01_k».proof.Proof.Gen.SmallReferenceIdeal.Run
public import proofs.«01_k».proof.Proof.Gen.SmallReferenceIdeal.Read
public import proofs.«01_k».proof.Proof.Gen.RowsKernel
public import proofs.«01_k».proof.Proof.Gen.RowsKernel.Skeleton
public import proofs.«01_k».proof.Proof.Gen.RowsKernel.Launch
public import proofs.«01_k».proof.Proof.Gen.RowsKernel.Points
public import proofs.«01_k».proof.Proof.Gen.RowsKernel.Frame
public import proofs.«01_k».proof.Proof.Gen.RowsKernel.Value
public import proofs.«01_k».proof.Proof.Gen.RowsKernelIdeal
public import proofs.«01_k».proof.Proof.Gen.RowsKernelIdeal.Skeleton
public import proofs.«01_k».proof.Proof.Gen.RowsKernelIdeal.Launch
public import proofs.«01_k».proof.Proof.Gen.RowsKernelIdeal.Points
public import proofs.«01_k».proof.Proof.Gen.RowsKernelIdeal.Frame
public import proofs.«01_k».proof.Proof.Gen.RowsKernelIdeal.Value
public import proofs.«01_k».proof.Proof.Gen.RowsReferenceIdeal
public import proofs.«01_k».proof.Proof.Gen.RowsReferenceIdeal.Run
public import proofs.«01_k».proof.Proof.Gen.RowsReferenceIdeal.Read
public import proofs.«01_k».proof.Proof.Gen.MemKernel
public import proofs.«01_k».proof.Proof.Gen.MemKernel.Skeleton
public import proofs.«01_k».proof.Proof.Gen.MemKernel.Launch
public import proofs.«01_k».proof.Proof.Gen.MemKernel.Points
public import proofs.«01_k».proof.Proof.Gen.MemKernel.Frame
public import proofs.«01_k».proof.Proof.Gen.MemKernel.Value
public import proofs.«01_k».proof.Proof.Gen.MemKernelIdeal
public import proofs.«01_k».proof.Proof.Gen.MemKernelIdeal.Skeleton
public import proofs.«01_k».proof.Proof.Gen.MemKernelIdeal.Launch
public import proofs.«01_k».proof.Proof.Gen.MemKernelIdeal.Points
public import proofs.«01_k».proof.Proof.Gen.MemKernelIdeal.Frame
public import proofs.«01_k».proof.Proof.Gen.MemKernelIdeal.Value
public import proofs.«01_k».proof.Proof.Gen.MemReferenceIdeal
public import proofs.«01_k».proof.Proof.Gen.MemReferenceIdeal.Run
public import proofs.«01_k».proof.Proof.Gen.MemReferenceIdeal.Read
public import proofs.«01_k».proof.Proof.Gen.FfKernel
public import proofs.«01_k».proof.Proof.Gen.FfKernel.Skeleton
public import proofs.«01_k».proof.Proof.Gen.FfKernel.Launch
public import proofs.«01_k».proof.Proof.Gen.FfKernel.Points
public import proofs.«01_k».proof.Proof.Gen.FfKernel.Frame
public import proofs.«01_k».proof.Proof.Gen.FfKernel.Value
public import proofs.«01_k».proof.Proof.Gen.FfKernelIdeal
public import proofs.«01_k».proof.Proof.Gen.FfKernelIdeal.Skeleton
public import proofs.«01_k».proof.Proof.Gen.FfKernelIdeal.Launch
public import proofs.«01_k».proof.Proof.Gen.FfKernelIdeal.Points
public import proofs.«01_k».proof.Proof.Gen.FfKernelIdeal.Frame
public import proofs.«01_k».proof.Proof.Gen.FfKernelIdeal.Value
public import proofs.«01_k».proof.Proof.Gen.FfReferenceIdeal
public import proofs.«01_k».proof.Proof.Gen.FfReferenceIdeal.Run
public import proofs.«01_k».proof.Proof.Gen.FfReferenceIdeal.Read
public import proofs.«01_k».proof.Proof.Equation
public import proofs.«01_k».proof.Proof.Grads
public import proofs.«01_k».proof.Proof.MlpFold
public import proofs.«01_k».proof.Proof.MlpPre
public import proofs.«01_k».proof.Proof.Pre
public import proofs.«01_k».proof.Proof.PremixFold
public import proofs.«01_k».proof.Proof.PremixPre
public import proofs.«01_k».proof.Proof.UpdSmall
public import proofs.«01_k».proof.Proof.UpdRows
public import proofs.«01_k».proof.Proof.UpdMem
public import proofs.«01_k».proof.Proof.UpdFf
public import Idealize.ShloMosaic.Adequacy
public import Idealize.ShloMosaic.Init

@[expose] public section

noncomputable section

namespace Cert.Proof

open Idealize.ShloMosaic Idealize.SL.Sem

/-- The reference runs, keeps its arguments and leaves every counter at zero. -/
theorem frame_reference : quiescent_ReferenceIdeal (hReferenceIdeal := Cert.ReferenceIdeal.Gen.facts) := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The reference of the weights' gradients runs, keeps its arguments and leaves every counter at zero. -/
theorem frame_grads_reference : quiescent_GradsReferenceIdeal (hGradsReferenceIdeal := Cert.GradsReferenceIdeal.Gen.facts) := fun m ρ _ =>
  (θ_run Cert.GradsReferenceIdeal.defs _ _).mono (fun r h => ⟨fun c => (h c).2, sem_eq_zero_of_no_sems (by decide) r.2⟩)
    (Cert.GradsReferenceIdeal.Value.run (F := Ideal) m ρ)

/-- The reference's gathered gradients are the kernel's. -/
theorem algebraic_grads : algebraic_GradsKernelIdeal_GradsReferenceIdeal (hGradsKernelIdeal := Cert.GradsKernelIdeal.Gen.facts)
    (hGradsReferenceIdeal := Cert.GradsReferenceIdeal.Gen.facts) := by
  intro m g m' g' _ hag
  refine ⟨fun c => (Cert.GradsKernelIdeal.Gen.dats m 0 c).arrAt 4 Cert.GradsKernelIdeal.cfg0.N, Cert.GradsKernelIdeal.Value.run_blocks m g, ?_⟩
  refine (θ_run Cert.GradsReferenceIdeal.defs _ _).mono (fun r h c => ?_) (Cert.GradsReferenceIdeal.Value.run (F := Ideal) m' g')
  obtain ⟨h16, k⟩ := h c
  obtain ⟨a0, a1, a2, a3⟩ := hag c
  refine ⟨h16.trans ?_, k⟩
  rw [Cert.GradsReferenceIdeal.Read.val_main_v16_eq (F := Ideal), a0, a1, a2, a3]
  funext i
  exact (Cert.GradsKernelIdeal.Fox.reference _ _ _ _ i).trans (Cert.GradsKernelIdeal.Fox.value m c i).symm

/-- The reference's five results are the kernel's. -/
theorem algebraic : algebraic_KernelIdeal_ReferenceIdeal_pre_finite (hKernelIdeal := Cert.KernelIdeal.Gen.facts)
    (hReferenceIdeal := Cert.ReferenceIdeal.Gen.facts) (hPre_finite := Cert.Pre_finite.Fox.facts) := by
  intro m g m' g' hpre hag
  have R := fun c => @Cert.Pre_finite.Fox.reals Cert.Pre_finite.Fox.facts _ _ _ (hpre c).1 (hpre c).2.1 (hpre c).2.2
  refine ⟨Cert.KernelIdeal.Value.G8 m, Cert.KernelIdeal.Value.G9 m, Cert.KernelIdeal.Value.G10 m, Cert.KernelIdeal.Value.G11 m,
    Cert.KernelIdeal.Value.G12 m, Cert.KernelIdeal.Value.run m g, ?_⟩
  refine (θ_run Cert.ReferenceIdeal.defs _ _).mono (fun r h c => ?_) (Cert.ReferenceIdeal.Value.run (F := Ideal) m' g')
  obtain ⟨h96, h97, h98, h100, h103, k0, k1, k2⟩ := h c
  obtain ⟨a0, a1, a2⟩ := hag c
  have e96 := Cert.ReferenceIdeal.Read.val_main_v96_eq (F := Ideal) m' c
  have e97 := Cert.ReferenceIdeal.Read.val_main_v97_eq (F := Ideal) m' c
  have e98 := Cert.ReferenceIdeal.Read.val_main_v98_eq (F := Ideal) m' c
  have e100 := Cert.ReferenceIdeal.Read.val_main_v100_eq (F := Ideal) m' c
  have e103 := Cert.ReferenceIdeal.Read.val_main_v103_eq (F := Ideal) m' c
  rw [a0, a1, a2] at e96 e97 e98 e100 e103
  exact ⟨h96.trans (e96.trans (Cert.KernelIdeal.Fox.eq8 m c (R c))), h97.trans (e97.trans (Cert.KernelIdeal.Fox.eq9 m c (R c))),
    h98.trans (e98.trans (Cert.KernelIdeal.Fox.eq10 m c (R c))), h100.trans (e100.trans (Cert.KernelIdeal.Fox.eq11 m c (R c))),
    h103.trans (e103.trans (Cert.KernelIdeal.Fox.eq12 m c (R c))), k0, k1, k2⟩

/-- The reference of the feed-forward step runs, keeps its arguments and leaves every counter at zero. -/
theorem frame_mlp_reference : quiescent_MlpReferenceIdeal (hMlpReferenceIdeal := Cert.MlpReferenceIdeal.Gen.facts) := fun m ρ _ =>
  (θ_run Cert.MlpReferenceIdeal.defs _ _).mono (fun r h => ⟨fun c => (h c).2.2.2.2.2.2.2, sem_eq_zero_of_no_sems (by decide) r.2⟩)
    (Cert.MlpReferenceIdeal.Value.run (F := Ideal) m ρ)

/-- The reference's seven results of the feed-forward step are the kernel's. -/
theorem algebraic_mlp : algebraic_MlpKernelIdeal_MlpReferenceIdeal_pre_mlp_finite (hMlpKernelIdeal := Cert.MlpKernelIdeal.Gen.facts)
    (hMlpReferenceIdeal := Cert.MlpReferenceIdeal.Gen.facts) (hPre_mlp_finite := Cert.Pre_mlp_finite.Mlp.facts) := by
  intro m g m' g' hpre hag
  refine ⟨fun c => (Cert.MlpKernelIdeal.Gen.dats m 0 c).arrAt 7 Cert.MlpKernelIdeal.cfg0.N,
    fun c => (Cert.MlpKernelIdeal.Gen.dats m 0 c).arrAt 8 Cert.MlpKernelIdeal.cfg0.N,
    fun c => (Cert.MlpKernelIdeal.Gen.dats m 0 c).arrAt 9 Cert.MlpKernelIdeal.cfg0.N,
    fun c => (Cert.MlpKernelIdeal.Gen.dats m 0 c).arrAt 10 Cert.MlpKernelIdeal.cfg0.N,
    fun c => (Cert.MlpKernelIdeal.Gen.dats m 0 c).arrAt 11 Cert.MlpKernelIdeal.cfg0.N,
    fun c => (Cert.MlpKernelIdeal.Gen.dats m 0 c).arrAt 12 Cert.MlpKernelIdeal.cfg0.N,
    fun c => (Cert.MlpKernelIdeal.Gen.dats m 0 c).arrAt 13 Cert.MlpKernelIdeal.cfg0.N, Cert.MlpKernelIdeal.Value.run_blocks m g, ?_⟩
  refine (θ_run Cert.MlpReferenceIdeal.defs _ _).mono (fun r h c => ?_) (Cert.MlpReferenceIdeal.Value.run (F := Ideal) m' g')
  obtain ⟨h98, h99, h100, h101, h102, h57, h81, k⟩ := h c
  obtain ⟨a0, a1, a2, a3, a4, a5⟩ := hag c
  obtain ⟨N, X, T, R⟩ := Cert.MlpKernelIdeal.Mlp.exists_reals (@Cert.Pre_mlp_finite.Mlp.reals Cert.Pre_mlp_finite.Mlp.facts _ _ _ _ _ _ (hpre c).1 (hpre c).2.1
    (hpre c).2.2.1 (hpre c).2.2.2.1 (hpre c).2.2.2.2.1 (hpre c).2.2.2.2.2)
  have l0 : StableHlo.launchContents m' c (Proc.devRef .tc Cert.MlpReferenceIdeal.main_arg0) = m ((c.tc : Thread Cert.MlpKernelIdeal.nD Cert.MlpKernelIdeal.τ).loc Cert.MlpKernelIdeal.main_arg0) := a0
  have l1 : StableHlo.launchContents m' c (Proc.devRef .tc Cert.MlpReferenceIdeal.main_arg1) = m ((c.tc : Thread Cert.MlpKernelIdeal.nD Cert.MlpKernelIdeal.τ).loc Cert.MlpKernelIdeal.main_arg1) := a1
  have l2 : StableHlo.launchContents m' c (Proc.devRef .tc Cert.MlpReferenceIdeal.main_arg2) = m ((c.tc : Thread Cert.MlpKernelIdeal.nD Cert.MlpKernelIdeal.τ).loc Cert.MlpKernelIdeal.main_arg2) := a2
  have l3 : StableHlo.launchContents m' c (Proc.devRef .tc Cert.MlpReferenceIdeal.main_arg3) = m ((c.tc : Thread Cert.MlpKernelIdeal.nD Cert.MlpKernelIdeal.τ).loc Cert.MlpKernelIdeal.main_arg3) := a3
  have l4 : StableHlo.launchContents m' c (Proc.devRef .tc Cert.MlpReferenceIdeal.main_arg4) = m ((c.tc : Thread Cert.MlpKernelIdeal.nD Cert.MlpKernelIdeal.τ).loc Cert.MlpKernelIdeal.main_arg4) := a4
  have l5 : StableHlo.launchContents m' c (Proc.devRef .tc Cert.MlpReferenceIdeal.main_arg5) = m ((c.tc : Thread Cert.MlpKernelIdeal.nD Cert.MlpKernelIdeal.τ).loc Cert.MlpKernelIdeal.main_arg5) := a5
  have e98 := Cert.MlpReferenceIdeal.Read.val_main_v98_eq (F := Ideal) (StableHlo.launchContents m' c)
  have e99 := Cert.MlpReferenceIdeal.Read.val_main_v99_eq (F := Ideal) (StableHlo.launchContents m' c)
  have e100 := Cert.MlpReferenceIdeal.Read.val_main_v100_eq (F := Ideal) (StableHlo.launchContents m' c)
  have e101 := Cert.MlpReferenceIdeal.Read.val_main_v101_eq (F := Ideal) (StableHlo.launchContents m' c)
  have e102 := Cert.MlpReferenceIdeal.Read.val_main_v102_eq (F := Ideal) (StableHlo.launchContents m' c)
  have e57 := Cert.MlpReferenceIdeal.Read.val_main_v57_eq (F := Ideal) (StableHlo.launchContents m' c)
  have e81 := Cert.MlpReferenceIdeal.Read.val_main_v81_eq (F := Ideal) (StableHlo.launchContents m' c)
  refine ⟨h98.trans (e98.trans ?_), h99.trans (e99.trans ?_), h100.trans (e100.trans ?_), h101.trans (e101.trans ?_), h102.trans (e102.trans ?_), h57.trans (e57.trans ?_), h81.trans (e81.trans ?_), k⟩
  · rw [l0, l1, l2, l3, l4, l5]
    exact Cert.MlpKernelIdeal.Mlp.eq7 m c R
  · rw [l0, l1, l2, l3, l4, l5]
    exact Cert.MlpKernelIdeal.Mlp.eq8 m c R
  · rw [l0, l1, l2, l3, l4, l5]
    exact Cert.MlpKernelIdeal.Mlp.eq9 m c R
  · rw [l0, l1, l4]
    exact Cert.MlpKernelIdeal.Mlp.eq10 m c R
  · rw [l0, l1, l2, l3, l4, l5]
    exact Cert.MlpKernelIdeal.Mlp.eq11 m c R
  · rw [l0, l1, l2, l3, l4, l5]
    exact Cert.MlpKernelIdeal.Mlp.eq12 m c R
  · rw [l0, l1, l2, l3, l4, l5]
    exact Cert.MlpKernelIdeal.Mlp.eq13 m c R

theorem frame_premix_reference : quiescent_PremixReferenceIdeal (hPremixReferenceIdeal := Cert.PremixReferenceIdeal.Gen.facts) := fun m ρ _ =>
  (θ_run Cert.PremixReferenceIdeal.defs _ _).mono (fun r h => ⟨fun c => (h c).2.2, sem_eq_zero_of_no_sems (by decide) r.2⟩)
    (Cert.PremixReferenceIdeal.Value.run (F := Ideal) m ρ)

/-- The reference's two results of the backward of the norm and the projection are the kernel's. -/
theorem algebraic_premix : algebraic_PremixKernelIdeal_PremixReferenceIdeal_pre_premix_finite (hPremixKernelIdeal := Cert.PremixKernelIdeal.Gen.facts)
    (hPremixReferenceIdeal := Cert.PremixReferenceIdeal.Gen.facts) (hPre_premix_finite := Cert.Pre_premix_finite.Premix.facts) := by
  intro m g m' g' hpre hag
  refine ⟨fun c => (Cert.PremixKernelIdeal.Gen.dats m 0 c).arrAt 11 Cert.PremixKernelIdeal.cfg0.N,
    fun c => (Cert.PremixKernelIdeal.Gen.dats m 0 c).arrAt 12 Cert.PremixKernelIdeal.cfg0.N, Cert.PremixKernelIdeal.Value.run_blocks m g, ?_⟩
  refine (θ_run Cert.PremixReferenceIdeal.defs _ _).mono (fun r h c => ?_) (Cert.PremixReferenceIdeal.Value.run (F := Ideal) m' g')
  obtain ⟨h40, h23, k⟩ := h c
  obtain ⟨a0, a1, a2, a3, a4, a5, a6, a7, a8, a9, a10⟩ := hag c
  obtain ⟨N, X, D, R⟩ := Cert.PremixReferenceIdeal.Premix.exists_reals (@Cert.Pre_premix_finite.Premix.reals Cert.Pre_premix_finite.Premix.facts
    _ _ _ _ _ _ _ _ _ _ _
    (hpre c).1 (hpre c).2.1 (hpre c).2.2.1 (hpre c).2.2.2.1 (hpre c).2.2.2.2.1 (hpre c).2.2.2.2.2.1 (hpre c).2.2.2.2.2.2.1 (hpre c).2.2.2.2.2.2.2.1 (hpre c).2.2.2.2.2.2.2.2.1 (hpre c).2.2.2.2.2.2.2.2.2)
  have l0 : m' ((c.tc : Thread Cert.PremixReferenceIdeal.nD Cert.PremixReferenceIdeal.τ).loc Cert.PremixReferenceIdeal.main_arg0) = m ((c.tc : Thread Cert.PremixKernelIdeal.nD Cert.PremixKernelIdeal.τ).loc Cert.PremixKernelIdeal.main_arg0) := a0
  have l1 : m' ((c.tc : Thread Cert.PremixReferenceIdeal.nD Cert.PremixReferenceIdeal.τ).loc Cert.PremixReferenceIdeal.main_arg1) = m ((c.tc : Thread Cert.PremixKernelIdeal.nD Cert.PremixKernelIdeal.τ).loc Cert.PremixKernelIdeal.main_arg1) := a1
  have l2 : m' ((c.tc : Thread Cert.PremixReferenceIdeal.nD Cert.PremixReferenceIdeal.τ).loc Cert.PremixReferenceIdeal.main_arg2) = m ((c.tc : Thread Cert.PremixKernelIdeal.nD Cert.PremixKernelIdeal.τ).loc Cert.PremixKernelIdeal.main_arg2) := a2
  have l3 : m' ((c.tc : Thread Cert.PremixReferenceIdeal.nD Cert.PremixReferenceIdeal.τ).loc Cert.PremixReferenceIdeal.main_arg3) = m ((c.tc : Thread Cert.PremixKernelIdeal.nD Cert.PremixKernelIdeal.τ).loc Cert.PremixKernelIdeal.main_arg3) := a3
  have l4 : m' ((c.tc : Thread Cert.PremixReferenceIdeal.nD Cert.PremixReferenceIdeal.τ).loc Cert.PremixReferenceIdeal.main_arg4) = m ((c.tc : Thread Cert.PremixKernelIdeal.nD Cert.PremixKernelIdeal.τ).loc Cert.PremixKernelIdeal.main_arg4) := a4
  have l5 : m' ((c.tc : Thread Cert.PremixReferenceIdeal.nD Cert.PremixReferenceIdeal.τ).loc Cert.PremixReferenceIdeal.main_arg5) = m ((c.tc : Thread Cert.PremixKernelIdeal.nD Cert.PremixKernelIdeal.τ).loc Cert.PremixKernelIdeal.main_arg5) := a5
  have l6 : m' ((c.tc : Thread Cert.PremixReferenceIdeal.nD Cert.PremixReferenceIdeal.τ).loc Cert.PremixReferenceIdeal.main_arg6) = m ((c.tc : Thread Cert.PremixKernelIdeal.nD Cert.PremixKernelIdeal.τ).loc Cert.PremixKernelIdeal.main_arg6) := a6
  have l7 : m' ((c.tc : Thread Cert.PremixReferenceIdeal.nD Cert.PremixReferenceIdeal.τ).loc Cert.PremixReferenceIdeal.main_arg7) = m ((c.tc : Thread Cert.PremixKernelIdeal.nD Cert.PremixKernelIdeal.τ).loc Cert.PremixKernelIdeal.main_arg7) := a7
  have l8 : m' ((c.tc : Thread Cert.PremixReferenceIdeal.nD Cert.PremixReferenceIdeal.τ).loc Cert.PremixReferenceIdeal.main_arg8) = m ((c.tc : Thread Cert.PremixKernelIdeal.nD Cert.PremixKernelIdeal.τ).loc Cert.PremixKernelIdeal.main_arg8) := a8
  have l9 : m' ((c.tc : Thread Cert.PremixReferenceIdeal.nD Cert.PremixReferenceIdeal.τ).loc Cert.PremixReferenceIdeal.main_arg9) = m ((c.tc : Thread Cert.PremixKernelIdeal.nD Cert.PremixKernelIdeal.τ).loc Cert.PremixKernelIdeal.main_arg9) := a9
  have l10 : m' ((c.tc : Thread Cert.PremixReferenceIdeal.nD Cert.PremixReferenceIdeal.τ).loc Cert.PremixReferenceIdeal.main_arg10) = m ((c.tc : Thread Cert.PremixKernelIdeal.nD Cert.PremixKernelIdeal.τ).loc Cert.PremixKernelIdeal.main_arg10) := a10
  have e40 := Cert.PremixReferenceIdeal.Read.val_main_v40_eq (F := Ideal) m' c
  have e23 := Cert.PremixReferenceIdeal.Read.val_main_v23_eq (F := Ideal) (m' ((c.tc : Thread Cert.PremixReferenceIdeal.nD Cert.PremixReferenceIdeal.τ).loc Cert.PremixReferenceIdeal.main_arg1)) (m' ((c.tc : Thread Cert.PremixReferenceIdeal.nD Cert.PremixReferenceIdeal.τ).loc Cert.PremixReferenceIdeal.main_arg2)) (m' ((c.tc : Thread Cert.PremixReferenceIdeal.nD Cert.PremixReferenceIdeal.τ).loc Cert.PremixReferenceIdeal.main_arg3)) (m' ((c.tc : Thread Cert.PremixReferenceIdeal.nD Cert.PremixReferenceIdeal.τ).loc Cert.PremixReferenceIdeal.main_arg4)) (m' ((c.tc : Thread Cert.PremixReferenceIdeal.nD Cert.PremixReferenceIdeal.τ).loc Cert.PremixReferenceIdeal.main_arg5)) (m' ((c.tc : Thread Cert.PremixReferenceIdeal.nD Cert.PremixReferenceIdeal.τ).loc Cert.PremixReferenceIdeal.main_arg6)) (m' ((c.tc : Thread Cert.PremixReferenceIdeal.nD Cert.PremixReferenceIdeal.τ).loc Cert.PremixReferenceIdeal.main_arg7)) (m' ((c.tc : Thread Cert.PremixReferenceIdeal.nD Cert.PremixReferenceIdeal.τ).loc Cert.PremixReferenceIdeal.main_arg8)) (m' ((c.tc : Thread Cert.PremixReferenceIdeal.nD Cert.PremixReferenceIdeal.τ).loc Cert.PremixReferenceIdeal.main_arg9))
  refine ⟨h40.trans (e40.trans ?_), h23.trans (e23.trans ?_), k⟩
  · rw [l0, l1, l2, l3, l4, l5, l6, l7, l8, l9, l10]
    exact Cert.PremixKernelIdeal.Premix.eq11 m c R
  · rw [l1, l2, l3, l4, l5, l6, l7, l8, l9]
    exact Cert.PremixKernelIdeal.Premix.eq12 m c R

/-- The reference of the update of the bias of the forget gate, the relative bias and the output gain runs, keeps its arguments and leaves every counter at zero. -/
theorem frame_small_reference : quiescent_SmallReferenceIdeal (hSmallReferenceIdeal := Cert.SmallReferenceIdeal.Gen.facts) := fun m ρ _ =>
  (θ_run Cert.SmallReferenceIdeal.defs _ _).mono (fun r h => ⟨fun c => (h c).2.2.2.2.2.2.2.2.2.2.2.2.2, sem_eq_zero_of_no_sems (by decide) r.2⟩)
    (Cert.SmallReferenceIdeal.Value.run (F := Ideal) m ρ)

open Cert.SmallReferenceIdeal.Read Cert.SmallKernelIdeal.Gen Cert.SmallKernelIdeal.Upd Cert.SmallKernelIdeal in
set_option maxHeartbeats 1000000 in
/-- The reference's results of that update are the kernel's. -/
theorem algebraic_small : algebraic_SmallKernelIdeal_SmallReferenceIdeal (hSmallKernelIdeal := Cert.SmallKernelIdeal.Gen.facts)
    (hSmallReferenceIdeal := Cert.SmallReferenceIdeal.Gen.facts) := by
  intro m g m' g' _ hag
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N,
    Cert.SmallKernelIdeal.Value.run_blocks m g, ?_⟩
  refine (θ_run Cert.SmallReferenceIdeal.defs _ _).mono (fun r h c => ?_) (Cert.SmallReferenceIdeal.Value.run (F := Ideal) m' g')
  obtain ⟨h0, h1, h2, h3, h4, h5, h6, h7, h8, h9, h10, h11, h12, k⟩ := h c
  obtain ⟨a0, a1, a2, a3, a4, a5, a6, a7, a8, a9, a10, a11, a12, a13⟩ := hag c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, k⟩
  · rw [val_main_v9_eq (F := Ideal), a0]; exact (loss_result m c).symm
  · rw [val_main_v10_eq (F := Ideal), a1]; exact (weight0 m c).1.symm
  · rw [val_main_v34_eq (F := Ideal), a1, a5, a8, a11]; exact (weight0 m c).2.1.symm
  · rw [val_main_v15_eq (F := Ideal), a1, a8]; exact (weight0 m c).2.2.1.symm
  · rw [val_main_v21_eq (F := Ideal), a1, a11]; exact (weight0 m c).2.2.2.symm
  · rw [val_main_v35_eq (F := Ideal), a2]; exact (weight1 m c).1.symm
  · rw [val_main_v59_eq (F := Ideal), a2, a6, a9, a12]; exact (weight1 m c).2.1.symm
  · rw [val_main_v40_eq (F := Ideal), a2, a9]; exact (weight1 m c).2.2.1.symm
  · rw [val_main_v46_eq (F := Ideal), a2, a12]; exact (weight1 m c).2.2.2.symm
  · rw [val_main_v60_eq (F := Ideal), a3]; exact (weight2 m c).1.symm
  · rw [val_main_v84_eq (F := Ideal), a3, a7, a10, a13]; exact (weight2 m c).2.1.symm
  · rw [val_main_v65_eq (F := Ideal), a3, a10]; exact (weight2 m c).2.2.1.symm
  · rw [val_main_v71_eq (F := Ideal), a3, a13]; exact (weight2 m c).2.2.2.symm

/-- The reference of the update of the gain of the cross-attention and the two gains of the mixer runs, keeps its arguments and leaves every counter at zero. -/
theorem frame_rows_reference : quiescent_RowsReferenceIdeal (hRowsReferenceIdeal := Cert.RowsReferenceIdeal.Gen.facts) := fun m ρ _ =>
  (θ_run Cert.RowsReferenceIdeal.defs _ _).mono (fun r h => ⟨fun c => (h c).2.2.2.2.2.2.2.2.2.2.2.2.2, sem_eq_zero_of_no_sems (by decide) r.2⟩)
    (Cert.RowsReferenceIdeal.Value.run (F := Ideal) m ρ)

open Cert.RowsReferenceIdeal.Read Cert.RowsKernelIdeal.Gen Cert.RowsKernelIdeal.Upd Cert.RowsKernelIdeal in
set_option maxHeartbeats 1000000 in
/-- The reference's results of that update are the kernel's. -/
theorem algebraic_rows : algebraic_RowsKernelIdeal_RowsReferenceIdeal (hRowsKernelIdeal := Cert.RowsKernelIdeal.Gen.facts)
    (hRowsReferenceIdeal := Cert.RowsReferenceIdeal.Gen.facts) := by
  intro m g m' g' _ hag
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N,
    Cert.RowsKernelIdeal.Value.run_blocks m g, ?_⟩
  refine (θ_run Cert.RowsReferenceIdeal.defs _ _).mono (fun r h c => ?_) (Cert.RowsReferenceIdeal.Value.run (F := Ideal) m' g')
  obtain ⟨h0, h1, h2, h3, h4, h5, h6, h7, h8, h9, h10, h11, h12, k⟩ := h c
  obtain ⟨a0, a1, a2, a3, a4, a5, a6, a7, a8, a9, a10, a11, a12, a13⟩ := hag c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, k⟩
  · rw [val_main_v9_eq (F := Ideal), a0]; exact (loss_result m c).symm
  · rw [val_main_v10_eq (F := Ideal), a3]; exact (weight0 m c).1.symm
  · rw [val_main_v34_eq (F := Ideal), a3, a5, a8, a11]; exact (weight0 m c).2.1.symm
  · rw [val_main_v15_eq (F := Ideal), a3, a8]; exact (weight0 m c).2.2.1.symm
  · rw [val_main_v21_eq (F := Ideal), a3, a11]; exact (weight0 m c).2.2.2.symm
  · rw [val_main_v35_eq (F := Ideal), a4]; exact (weight1 m c).1.symm
  · rw [val_main_v59_eq (F := Ideal), a4, a6, a9, a12]; exact (weight1 m c).2.1.symm
  · rw [val_main_v40_eq (F := Ideal), a4, a9]; exact (weight1 m c).2.2.1.symm
  · rw [val_main_v46_eq (F := Ideal), a4, a12]; exact (weight1 m c).2.2.2.symm
  · rw [val_main_v60_eq (F := Ideal), a4]; exact (weight2 m c).1.symm
  · rw [val_main_v84_eq (F := Ideal), a4, a7, a10, a13]; exact (weight2 m c).2.1.symm
  · rw [val_main_v65_eq (F := Ideal), a4, a10]; exact (weight2 m c).2.2.1.symm
  · rw [val_main_v71_eq (F := Ideal), a4, a13]; exact (weight2 m c).2.2.2.symm

/-- The reference of the update of the three gains of the memory runs, keeps its arguments and leaves every counter at zero. -/
theorem frame_mem_reference : quiescent_MemReferenceIdeal (hMemReferenceIdeal := Cert.MemReferenceIdeal.Gen.facts) := fun m ρ _ =>
  (θ_run Cert.MemReferenceIdeal.defs _ _).mono (fun r h => ⟨fun c => (h c).2.2.2.2.2.2.2.2.2.2.2.2.2, sem_eq_zero_of_no_sems (by decide) r.2⟩)
    (Cert.MemReferenceIdeal.Value.run (F := Ideal) m ρ)

open Cert.MemReferenceIdeal.Read Cert.MemKernelIdeal.Gen Cert.MemKernelIdeal.Upd Cert.MemKernelIdeal in
set_option maxHeartbeats 1000000 in
/-- The reference's results of that update are the kernel's. -/
theorem algebraic_mem : algebraic_MemKernelIdeal_MemReferenceIdeal (hMemKernelIdeal := Cert.MemKernelIdeal.Gen.facts)
    (hMemReferenceIdeal := Cert.MemReferenceIdeal.Gen.facts) := by
  intro m g m' g' _ hag
  refine ⟨fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N,
    Cert.MemKernelIdeal.Value.run_blocks m g, ?_⟩
  refine (θ_run Cert.MemReferenceIdeal.defs _ _).mono (fun r h c => ?_) (Cert.MemReferenceIdeal.Value.run (F := Ideal) m' g')
  obtain ⟨h0, h1, h2, h3, h4, h5, h6, h7, h8, h9, h10, h11, h12, k⟩ := h c
  obtain ⟨a0, a1, a2, a3, a4, a5, a6, a7, a8, a9, a10, a11, a12, a13⟩ := hag c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, k⟩
  · rw [val_main_v9_eq (F := Ideal), a0]; exact (loss_result m c).symm
  · rw [val_main_v10_eq (F := Ideal), a4]; exact (weight0 m c).1.symm
  · rw [val_main_v34_eq (F := Ideal), a4, a5, a8, a11]; exact (weight0 m c).2.1.symm
  · rw [val_main_v15_eq (F := Ideal), a4, a8]; exact (weight0 m c).2.2.1.symm
  · rw [val_main_v21_eq (F := Ideal), a4, a11]; exact (weight0 m c).2.2.2.symm
  · rw [val_main_v35_eq (F := Ideal), a4]; exact (weight1 m c).1.symm
  · rw [val_main_v59_eq (F := Ideal), a4, a6, a9, a12]; exact (weight1 m c).2.1.symm
  · rw [val_main_v40_eq (F := Ideal), a4, a9]; exact (weight1 m c).2.2.1.symm
  · rw [val_main_v46_eq (F := Ideal), a4, a12]; exact (weight1 m c).2.2.2.symm
  · rw [val_main_v60_eq (F := Ideal), a4]; exact (weight2 m c).1.symm
  · rw [val_main_v84_eq (F := Ideal), a4, a7, a10, a13]; exact (weight2 m c).2.1.symm
  · rw [val_main_v65_eq (F := Ideal), a4, a10]; exact (weight2 m c).2.2.1.symm
  · rw [val_main_v71_eq (F := Ideal), a4, a13]; exact (weight2 m c).2.2.2.symm

/-- The reference of the update of the two gains of the feed-forward layer runs, keeps its arguments and leaves every counter at zero. -/
theorem frame_ff_reference : quiescent_FfReferenceIdeal (hFfReferenceIdeal := Cert.FfReferenceIdeal.Gen.facts) := fun m ρ _ =>
  (θ_run Cert.FfReferenceIdeal.defs _ _).mono (fun r h => ⟨fun c => (h c).2.2.2.2.2.2.2.2.2, sem_eq_zero_of_no_sems (by decide) r.2⟩)
    (Cert.FfReferenceIdeal.Value.run (F := Ideal) m ρ)

open Cert.FfReferenceIdeal.Read Cert.FfKernelIdeal.Gen Cert.FfKernelIdeal.Upd Cert.FfKernelIdeal in
set_option maxHeartbeats 1000000 in
/-- The reference's results of that update are the kernel's. -/
theorem algebraic_ff : algebraic_FfKernelIdeal_FfReferenceIdeal (hFfKernelIdeal := Cert.FfKernelIdeal.Gen.facts)
    (hFfReferenceIdeal := Cert.FfReferenceIdeal.Gen.facts) := by
  intro m g m' g' _ hag
  refine ⟨fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, fun c => (dats m 0 c).arrAt 14 cfg0.N, fun c => (dats m 0 c).arrAt 15 cfg0.N,
    Cert.FfKernelIdeal.Value.run_blocks m g, ?_⟩
  refine (θ_run Cert.FfReferenceIdeal.defs _ _).mono (fun r h c => ?_) (Cert.FfReferenceIdeal.Value.run (F := Ideal) m' g')
  obtain ⟨h0, h1, h2, h3, h4, h5, h6, h7, h8, k⟩ := h c
  obtain ⟨a0, a1, a2, a3, a4, a5, a6, a7, a8, a9, a10⟩ := hag c
  refine ⟨h0.trans ?_, h1.trans ?_, h2.trans ?_, h3.trans ?_, h4.trans ?_, h5.trans ?_, h6.trans ?_, h7.trans ?_, h8.trans ?_, k⟩
  · rw [val_main_v9_eq (F := Ideal), a0]; exact (loss_result m c).symm
  · rw [val_main_v10_eq (F := Ideal), a4]; exact (weight0 m c).1.symm
  · rw [val_main_v34_eq (F := Ideal), a4, a5, a7, a9]; exact (weight0 m c).2.1.symm
  · rw [val_main_v15_eq (F := Ideal), a4, a7]; exact (weight0 m c).2.2.1.symm
  · rw [val_main_v21_eq (F := Ideal), a4, a9]; exact (weight0 m c).2.2.2.symm
  · rw [val_main_v35_eq (F := Ideal), a4]; exact (weight1 m c).1.symm
  · rw [val_main_v59_eq (F := Ideal), a4, a6, a8, a10]; exact (weight1 m c).2.1.symm
  · rw [val_main_v40_eq (F := Ideal), a4, a8]; exact (weight1 m c).2.2.1.symm
  · rw [val_main_v46_eq (F := Ideal), a4, a10]; exact (weight1 m c).2.2.2.symm

theorem claim : Cert.Claim :=
  ⟨Cert.Kernel.Gen.facts, Cert.KernelIdeal.Gen.facts, Cert.ReferenceIdeal.Gen.facts, Cert.GradsKernel.Gen.facts, Cert.GradsKernelIdeal.Gen.facts,
    Cert.GradsReferenceIdeal.Gen.facts, Cert.MlpKernel.Gen.facts, Cert.MlpKernelIdeal.Gen.facts, Cert.MlpReferenceIdeal.Gen.facts,
    Cert.PremixKernel.Gen.facts, Cert.PremixKernelIdeal.Gen.facts, Cert.PremixReferenceIdeal.Gen.facts,
    Cert.SmallKernel.Gen.facts, Cert.SmallKernelIdeal.Gen.facts, Cert.SmallReferenceIdeal.Gen.facts,
    Cert.RowsKernel.Gen.facts, Cert.RowsKernelIdeal.Gen.facts, Cert.RowsReferenceIdeal.Gen.facts,
    Cert.MemKernel.Gen.facts, Cert.MemKernelIdeal.Gen.facts, Cert.MemReferenceIdeal.Gen.facts,
    Cert.FfKernel.Gen.facts, Cert.FfKernelIdeal.Gen.facts, Cert.FfReferenceIdeal.Gen.facts,
    Cert.Pre_finite.Fox.facts, Cert.Pre_mlp_finite.Mlp.facts, Cert.Pre_premix_finite.Premix.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.GradsKernel.Gen.frame m ρ, fun m ρ _ => Cert.GradsKernelIdeal.Gen.frame m ρ, frame_grads_reference,
    fun m ρ _ => Cert.MlpKernel.Gen.frame m ρ, fun m ρ _ => Cert.MlpKernelIdeal.Gen.frame m ρ, fun m ρ _ => Cert.MlpKernelIdeal.Gen.frame m ρ,
    frame_mlp_reference, fun m ρ _ => frame_mlp_reference m ρ trivial,
    fun m ρ _ => Cert.PremixKernel.Gen.frame m ρ, fun m ρ _ => Cert.PremixKernelIdeal.Gen.frame m ρ, fun m ρ _ => Cert.PremixKernelIdeal.Gen.frame m ρ,
    frame_premix_reference, fun m ρ _ => frame_premix_reference m ρ trivial,
    fun m ρ _ => Cert.SmallKernel.Gen.frame m ρ, fun m ρ _ => Cert.SmallKernelIdeal.Gen.frame m ρ, frame_small_reference,
    fun m ρ _ => Cert.RowsKernel.Gen.frame m ρ, fun m ρ _ => Cert.RowsKernelIdeal.Gen.frame m ρ, frame_rows_reference,
    fun m ρ _ => Cert.MemKernel.Gen.frame m ρ, fun m ρ _ => Cert.MemKernelIdeal.Gen.frame m ρ, frame_mem_reference,
    fun m ρ _ => Cert.FfKernel.Gen.frame m ρ, fun m ρ _ => Cert.FfKernelIdeal.Gen.frame m ρ, frame_ff_reference,
    IdealRules.named_const.statement Cert.KernelIdeal.κ "mask" .f32 0xF149F2CA#32 ⊥ rfl, algebraic, trivial, algebraic_grads, trivial, algebraic_mlp,
    trivial, algebraic_premix, trivial, algebraic_small, trivial, algebraic_rows, trivial, algebraic_mem, trivial, algebraic_ff⟩

end Cert.Proof

end
